-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30_0) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16x3x60x104 : Shape := ⟨5, ![4, 16, 3, 60, 104]⟩
abbrev S_ : Shape := ⟨0, ![]⟩
abbrev S64x5120 : Shape := ⟨2, ![64, 5120]⟩
abbrev S5120 : Shape := ⟨1, ![5120]⟩
abbrev S4x2x4680x5120 : Shape := ⟨4, ![4, 2, 4680, 5120]⟩
abbrev S4x2x4680x40 : Shape := ⟨4, ![4, 2, 4680, 40]⟩
abbrev S4 : Shape := ⟨1, ![4]⟩
abbrev S4x5120 : Shape := ⟨2, ![4, 5120]⟩
abbrev S5120x64 : Shape := ⟨2, ![5120, 64]⟩
abbrev S64 : Shape := ⟨1, ![64]⟩

class Facts : Prop where
  bcast_S_S64x5120 : S_.BroadcastsInDim S64x5120 (![] : Fin 0 → Fin S64x5120.rank)
  reducesTo_S64x5120_S_d0_1 : S64x5120.ReducesTo [0, 1] S_
  h_S_ : 0 < S_.numel
  bcast_S_S5120 : S_.BroadcastsInDim S5120 (![] : Fin 0 → Fin S5120.rank)
  reducesTo_S5120_S_d0 : S5120.ReducesTo [0] S_
  bcast_S_S4x2x4680x40 : S_.BroadcastsInDim S4x2x4680x40 (![] : Fin 0 → Fin S4x2x4680x40.rank)
  reducesTo_S4x2x4680x40_S_d0_1_2_3 : S4x2x4680x40.ReducesTo [0, 1, 2, 3] S_
  bcast_S_S4 : S_.BroadcastsInDim S4 (![] : Fin 0 → Fin S4.rank)
  reducesTo_S4_S_d0 : S4.ReducesTo [0] S_
  bcast_S_S4x5120 : S_.BroadcastsInDim S4x5120 (![] : Fin 0 → Fin S4x5120.rank)
  reducesTo_S4x5120_S_d0_1 : S4x5120.ReducesTo [0, 1] S_

variable [Facts]

def fn_part2 {F : FTy → Type} [FloatOps F] (main_arg11 : FVec F S4x5120 .f32) (main_v31 : IVec S_ 1) (main_v32 : FVec F S4x5120 .f32) (main_v33 : FVec F S4x5120 .f32) : IVec S_ 1 :=
  let main_v34 : IVec S4x5120 1 := cmpf .olt main_v32 main_v33
  let main_c_12 : IVec S_ 1 := constantI S_ 1 1#1
  let main_v35 : IVec S_ 1 := (fun x v => Host.reduce IntOp.andi x v reducesTo_S4x5120_S_d0_1 h_S_) main_v34 main_c_12
  let main_v36 : IVec S_ 1 := andi main_v31 main_v35
  let main_v37 : FVec F S4x5120 .f32 := Host.absf main_arg11
  let main_cst_13 : FVec F S_ .f32 := constant S_ .f32 0x7F800000#32
  let main_v38 : FVec F S4x5120 .f32 := broadcastInDim S4x5120 ![] bcast_S_S4x5120 main_cst_13
  let main_v39 : IVec S4x5120 1 := cmpf .olt main_v37 main_v38
  let main_c_14 : IVec S_ 1 := constantI S_ 1 1#1
  let main_v40 : IVec S_ 1 := (fun x v => Host.reduce IntOp.andi x v reducesTo_S4x5120_S_d0_1 h_S_) main_v39 main_c_14
  let main_v41 : IVec S_ 1 := andi main_v36 main_v40
  main_v41

def fn_part1 {F : FTy → Type} [FloatOps F] (main_arg6 : FVec F S4x2x4680x40 .f32) (main_arg8 : FVec F S4x2x4680x40 .f32) (main_arg9 : FVec F S4 .f32) (main_arg10 : FVec F S4x5120 .f32) (main_arg11 : FVec F S4x5120 .f32) (main_v16 : IVec S_ 1) : IVec S_ 1 :=
  let main_v17 : FVec F S4x2x4680x40 .f32 := Host.absf main_arg6
  let main_cst_5 : FVec F S_ .f32 := constant S_ .f32 0x7F800000#32
  let main_v18 : FVec F S4x2x4680x40 .f32 := broadcastInDim S4x2x4680x40 ![] bcast_S_S4x2x4680x40 main_cst_5
  let main_v19 : IVec S4x2x4680x40 1 := cmpf .olt main_v17 main_v18
  let main_c_6 : IVec S_ 1 := constantI S_ 1 1#1
  let main_v20 : IVec S_ 1 := (fun x v => Host.reduce IntOp.andi x v reducesTo_S4x2x4680x40_S_d0_1_2_3 h_S_) main_v19 main_c_6
  let main_v21 : IVec S_ 1 := andi main_v16 main_v20
  let main_v22 : FVec F S4x2x4680x40 .f32 := Host.absf main_arg8
  let main_cst_7 : FVec F S_ .f32 := constant S_ .f32 0x7F800000#32
  let main_v23 : FVec F S4x2x4680x40 .f32 := broadcastInDim S4x2x4680x40 ![] bcast_S_S4x2x4680x40 main_cst_7
  let main_v24 : IVec S4x2x4680x40 1 := cmpf .olt main_v22 main_v23
  let main_c_8 : IVec S_ 1 := constantI S_ 1 1#1
  let main_v25 : IVec S_ 1 := (fun x v => Host.reduce IntOp.andi x v reducesTo_S4x2x4680x40_S_d0_1_2_3 h_S_) main_v24 main_c_8
  let main_v26 : IVec S_ 1 := andi main_v21 main_v25
  let main_v27 : FVec F S4 .f32 := Host.absf main_arg9
  let main_cst_9 : FVec F S_ .f32 := constant S_ .f32 0x7F800000#32
  let main_v28 : FVec F S4 .f32 := broadcastInDim S4 ![] bcast_S_S4 main_cst_9
  let main_v29 : IVec S4 1 := cmpf .olt main_v27 main_v28
  let main_c_10 : IVec S_ 1 := constantI S_ 1 1#1
  let main_v30 : IVec S_ 1 := (fun x v => Host.reduce IntOp.andi x v reducesTo_S4_S_d0 h_S_) main_v29 main_c_10
  let main_v31 : IVec S_ 1 := andi main_v26 main_v30
  let main_v32 : FVec F S4x5120 .f32 := Host.absf main_arg10
  let main_cst_11 : FVec F S_ .f32 := constant S_ .f32 0x7F800000#32
  let main_v33 : FVec F S4x5120 .f32 := broadcastInDim S4x5120 ![] bcast_S_S4x5120 main_cst_11
  fn_part2 (F := F) main_arg11 main_v31 main_v32 main_v33

def fn {F : FTy → Type} [FloatOps F] (main_arg0 : FVec F S4x16x3x60x104 .f32) (main_arg1 : FVec F S_ .f32) (main_arg2 : FVec F S64x5120 .f32) (main_arg3 : FVec F S5120 .f32) (main_arg4 : FVec F S5120 .f32) (main_arg5 : IVec S4x2x4680x5120 8) (main_arg6 : FVec F S4x2x4680x40 .f32) (main_arg7 : IVec S4x2x4680x5120 8) (main_arg8 : FVec F S4x2x4680x40 .f32) (main_arg9 : FVec F S4 .f32) (main_arg10 : FVec F S4x5120 .f32) (main_arg11 : FVec F S4x5120 .f32) (main_arg12 : FVec F S5120x64 .fp8e4m3) (main_arg13 : FVec F S64 .f32) (main_arg14 : FVec F S64 .f32) : IVec S_ 1 :=
  let main_v0 : FVec F S_ .f32 := Host.absf main_arg1
  let main_cst : FVec F S_ .f32 := constant S_ .f32 0x7F800000#32
  let main_v1 : IVec S_ 1 := cmpf .olt main_v0 main_cst
  let main_v2 : FVec F S64x5120 .f32 := Host.absf main_arg2
  let main_cst_0 : FVec F S_ .f32 := constant S_ .f32 0x7F800000#32
  let main_v3 : FVec F S64x5120 .f32 := broadcastInDim S64x5120 ![] bcast_S_S64x5120 main_cst_0
  let main_v4 : IVec S64x5120 1 := cmpf .olt main_v2 main_v3
  let main_c : IVec S_ 1 := constantI S_ 1 1#1
  let main_v5 : IVec S_ 1 := (fun x v => Host.reduce IntOp.andi x v reducesTo_S64x5120_S_d0_1 h_S_) main_v4 main_c
  let main_v6 : IVec S_ 1 := andi main_v1 main_v5
  let main_v7 : FVec F S5120 .f32 := Host.absf main_arg3
  let main_cst_1 : FVec F S_ .f32 := constant S_ .f32 0x7F800000#32
  let main_v8 : FVec F S5120 .f32 := broadcastInDim S5120 ![] bcast_S_S5120 main_cst_1
  let main_v9 : IVec S5120 1 := cmpf .olt main_v7 main_v8
  let main_c_2 : IVec S_ 1 := constantI S_ 1 1#1
  let main_v10 : IVec S_ 1 := (fun x v => Host.reduce IntOp.andi x v reducesTo_S5120_S_d0 h_S_) main_v9 main_c_2
  let main_v11 : IVec S_ 1 := andi main_v6 main_v10
  let main_v12 : FVec F S5120 .f32 := Host.absf main_arg4
  let main_cst_3 : FVec F S_ .f32 := constant S_ .f32 0x7F800000#32
  let main_v13 : FVec F S5120 .f32 := broadcastInDim S5120 ![] bcast_S_S5120 main_cst_3
  let main_v14 : IVec S5120 1 := cmpf .olt main_v12 main_v13
  let main_c_4 : IVec S_ 1 := constantI S_ 1 1#1
  let main_v15 : IVec S_ 1 := (fun x v => Host.reduce IntOp.andi x v reducesTo_S5120_S_d0 h_S_) main_v14 main_c_4
  let main_v16 : IVec S_ 1 := andi main_v11 main_v15
  fn_part1 (F := F) main_arg6 main_arg8 main_arg9 main_arg10 main_arg11 main_v16
-- ==== Kernel.lean ====
abbrev S4x16x3x60x104 : Shape := ⟨5, ![4, 16, 3, 60, 104]⟩
abbrev S_ : Shape := ⟨0, ![]⟩
abbrev S64x5120 : Shape := ⟨2, ![64, 5120]⟩
abbrev S5120 : Shape := ⟨1, ![5120]⟩
abbrev S4x2x4680x5120 : Shape := ⟨4, ![4, 2, 4680, 5120]⟩
abbrev S4x2x4680x40 : Shape := ⟨4, ![4, 2, 4680, 40]⟩
abbrev S4 : Shape := ⟨1, ![4]⟩
abbrev S4x5120 : Shape := ⟨2, ![4, 5120]⟩
abbrev S5120x64 : Shape := ⟨2, ![5120, 64]⟩
abbrev S64 : Shape := ⟨1, ![64]⟩
abbrev S1 : Shape := ⟨1, ![1]⟩
abbrev S1x5120 : Shape := ⟨2, ![1, 5120]⟩
abbrev S4x16x3x30x2x52x2 : Shape := ⟨7, ![4, 16, 3, 30, 2, 52, 2]⟩
abbrev S4x16x2x2x3x30x52 : Shape := ⟨7, ![4, 16, 2, 2, 3, 30, 52]⟩
abbrev S4x64x4680 : Shape := ⟨3, ![4, 64, 4680]⟩
abbrev S4x2x40x4680 : Shape := ⟨4, ![4, 2, 40, 4680]⟩
abbrev S4x1x5120 : Shape := ⟨3, ![4, 1, 5120]⟩
abbrev S64x1 : Shape := ⟨2, ![64, 1]⟩
abbrev S4x2x1x4680 : Shape := ⟨4, ![4, 2, 1, 4680]⟩
abbrev S4x2x64x4680 : Shape := ⟨4, ![4, 2, 64, 4680]⟩
abbrev S4x1x4680 : Shape := ⟨3, ![4, 1, 4680]⟩
abbrev S1x64x128 : Shape := ⟨3, ![1, 64, 128]⟩
abbrev S1x2x128x5120 : Shape := ⟨4, ![1, 2, 128, 5120]⟩
abbrev S1x2x40x128 : Shape := ⟨4, ![1, 2, 40, 128]⟩
abbrev S1x1x5120 : Shape := ⟨3, ![1, 1, 5120]⟩
abbrev S1x2x1x128 : Shape := ⟨4, ![1, 2, 1, 128]⟩
abbrev S1x2x64x128 : Shape := ⟨4, ![1, 2, 64, 128]⟩
abbrev S1x1x128 : Shape := ⟨3, ![1, 1, 128]⟩
abbrev S2x128x5120 : Shape := ⟨3, ![2, 128, 5120]⟩
abbrev S128x5120 : Shape := ⟨2, ![128, 5120]⟩
abbrev S2x128x128 : Shape := ⟨3, ![2, 128, 128]⟩
abbrev S3x8x5120 : Shape := ⟨3, ![3, 8, 5120]⟩
abbrev S16x5120 : Shape := ⟨2, ![16, 5120]⟩
abbrev S2x2x128x128 : Shape := ⟨4, ![2, 2, 128, 128]⟩
abbrev S1x1 : Shape := ⟨2, ![1, 1]⟩
abbrev S8x5120 : Shape := ⟨2, ![8, 5120]⟩
abbrev S1x8x5120 : Shape := ⟨3, ![1, 8, 5120]⟩
abbrev S64x128 : Shape := ⟨2, ![64, 128]⟩
abbrev S128x64 : Shape := ⟨2, ![128, 64]⟩
abbrev S1x1x40x128 : Shape := ⟨4, ![1, 1, 40, 128]⟩
abbrev S40x128 : Shape := ⟨2, ![40, 128]⟩
abbrev S48x128 : Shape := ⟨2, ![48, 128]⟩
abbrev S128x128 : Shape := ⟨2, ![128, 128]⟩
abbrev S1x128x128 : Shape := ⟨3, ![1, 128, 128]⟩
abbrev S1x32x128 : Shape := ⟨3, ![1, 32, 128]⟩
abbrev S32x128 : Shape := ⟨2, ![32, 128]⟩
abbrev S4x8x128 : Shape := ⟨3, ![4, 8, 128]⟩
abbrev S1x8x128 : Shape := ⟨3, ![1, 8, 128]⟩
abbrev S8x128 : Shape := ⟨2, ![8, 128]⟩
abbrev S1x1x32x128 : Shape := ⟨4, ![1, 1, 32, 128]⟩
abbrev S32x1 : Shape := ⟨2, ![32, 1]⟩
abbrev S1x1x128x128 : Shape := ⟨4, ![1, 1, 128, 128]⟩
abbrev S128 : Shape := ⟨1, ![128]⟩
abbrev S1x128 : Shape := ⟨2, ![1, 128]⟩
abbrev S1x256 : Shape := ⟨2, ![1, 256]⟩
abbrev S4x256 : Shape := ⟨2, ![4, 256]⟩
abbrev S16x256 : Shape := ⟨2, ![16, 256]⟩
abbrev S256x16 : Shape := ⟨2, ![256, 16]⟩
abbrev S256x128 : Shape := ⟨2, ![256, 128]⟩
abbrev S256x256 : Shape := ⟨2, ![256, 256]⟩
abbrev S32x8x128 : Shape := ⟨3, ![32, 8, 128]⟩
abbrev S128x256 : Shape := ⟨2, ![128, 256]⟩
abbrev S256 : Shape := ⟨1, ![256]⟩
abbrev S1x1x1x128 : Shape := ⟨4, ![1, 1, 1, 128]⟩
abbrev S256x64 : Shape := ⟨2, ![256, 64]⟩
abbrev S1x2x128x128 : Shape := ⟨4, ![1, 2, 128, 128]⟩
abbrev S1x2x128x640 : Shape := ⟨4, ![1, 2, 128, 640]⟩
abbrev S2x128x640 : Shape := ⟨3, ![2, 128, 640]⟩
abbrev S256x640 : Shape := ⟨2, ![256, 640]⟩
abbrev S64x640 : Shape := ⟨2, ![64, 640]⟩
abbrev S64x256 : Shape := ⟨2, ![64, 256]⟩
abbrev S1x1x64x128 : Shape := ⟨4, ![1, 1, 64, 128]⟩

abbrev nBuf : Space → Nat
  | .hbm => 45
  | .vmem => 36
  | .smem => 2
  | _ => 0

abbrev bufTy : (tb : Table) → Fin (tcTables nBuf tb) → BufTy
  | .hbm, ⟨0, _⟩ => ⟨S4x16x3x60x104, .f32⟩
  | .hbm, ⟨1, _⟩ => ⟨S_, .f32⟩
  | .hbm, ⟨2, _⟩ => ⟨S64x5120, .f32⟩
  | .hbm, ⟨3, _⟩ => ⟨S5120, .f32⟩
  | .hbm, ⟨4, _⟩ => ⟨S5120, .f32⟩
  | .hbm, ⟨5, _⟩ => ⟨S4x2x4680x5120, .i8⟩
  | .hbm, ⟨6, _⟩ => ⟨S4x2x4680x40, .f32⟩
  | .hbm, ⟨7, _⟩ => ⟨S4x2x4680x5120, .i8⟩
  | .hbm, ⟨8, _⟩ => ⟨S4x2x4680x40, .f32⟩
  | .hbm, ⟨9, _⟩ => ⟨S4, .f32⟩
  | .hbm, ⟨10, _⟩ => ⟨S4x5120, .f32⟩
  | .hbm, ⟨11, _⟩ => ⟨S4x5120, .f32⟩
  | .hbm, ⟨12, _⟩ => ⟨S5120x64, .fp8e4m3⟩
  | .hbm, ⟨13, _⟩ => ⟨S64, .f32⟩
  | .hbm, ⟨14, _⟩ => ⟨S64, .f32⟩
  | .hbm, ⟨15, _⟩ => ⟨S1, .f32⟩
  | .hbm, ⟨16, _⟩ => ⟨S1x5120, .f32⟩
  | .hbm, ⟨17, _⟩ => ⟨S1x5120, .f32⟩
  | .hbm, ⟨18, _⟩ => ⟨S4x16x3x60x104, .f32⟩
  | .hbm, ⟨19, _⟩ => ⟨S4x16x3x60x104, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x16x3x60x104, .f32⟩
  | .hbm, ⟨24, _⟩ => ⟨S4x16x3x60x104, .f32⟩
  | .hbm, ⟨25, _⟩ => ⟨S_, .f32⟩
  | .hbm, ⟨26, _⟩ => ⟨S4x16x3x60x104, .f32⟩
  | .hbm, ⟨27, _⟩ => ⟨S4x16x3x60x104, .f32⟩
  | .hbm, ⟨28, _⟩ => ⟨S4x16x3x60x104, .fp8e4m3⟩
  | .hbm, ⟨29, _⟩ => ⟨S4x16x3x30x2x52x2, .fp8e4m3⟩
  | .hbm, ⟨30, _⟩ => ⟨S4x16x2x2x3x30x52, .fp8e4m3⟩
  | .hbm, ⟨31, _⟩ => ⟨S4x64x4680, .fp8e4m3⟩
  | .hbm, ⟨32, _⟩ => ⟨S64x5120, .fp8e4m3⟩
  | .hbm, ⟨33, _⟩ => ⟨S4x2x40x4680, .f32⟩
  | .hbm, ⟨34, _⟩ => ⟨S4x2x40x4680, .f32⟩
  | .hbm, ⟨35, _⟩ => ⟨S4x1x5120, .f32⟩
  | .hbm, ⟨36, _⟩ => ⟨S4x1x5120, .f32⟩
  | .hbm, ⟨37, _⟩ => ⟨S64x5120, .fp8e4m3⟩
  | .hbm, ⟨38, _⟩ => ⟨S64x1, .f32⟩
  | .hbm, ⟨39, _⟩ => ⟨S64x1, .f32⟩
  | .hbm, ⟨40, _⟩ => ⟨S4x2x4680x5120, .fp8e4m3⟩
  | .hbm, ⟨41, _⟩ => ⟨S4x2x1x4680, .f32⟩
  | .hbm, ⟨42, _⟩ => ⟨S4x2x64x4680, .f32⟩
  | .hbm, ⟨43, _⟩ => ⟨S4x1x4680, .f32⟩
  | .hbm, ⟨44, _⟩ => ⟨S4x1x4680, .f32⟩
  | .local _ .vmem, ⟨0, _⟩ => ⟨S1x64x128, .fp8e4m3⟩
  | .local _ .vmem, ⟨1, _⟩ => ⟨S1x64x128, .fp8e4m3⟩
  | .local _ .vmem, ⟨2, _⟩ => ⟨S64x5120, .fp8e4m3⟩
  | .local _ .vmem, ⟨3, _⟩ => ⟨S1x5120, .f32⟩
  | .local _ .vmem, ⟨4, _⟩ => ⟨S1x5120, .f32⟩
  | .local _ .vmem, ⟨5, _⟩ => ⟨S1x2x128x5120, .i8⟩
  | .local _ .vmem, ⟨6, _⟩ => ⟨S1x2x128x5120, .i8⟩
  | .local _ .vmem, ⟨7, _⟩ => ⟨S1x2x40x128, .f32⟩
  | .local _ .vmem, ⟨8, _⟩ => ⟨S1x2x40x128, .f32⟩
  | .local _ .vmem, ⟨9, _⟩ => ⟨S1x2x128x5120, .i8⟩
  | .local _ .vmem, ⟨10, _⟩ => ⟨S1x2x128x5120, .i8⟩
  | .local _ .vmem, ⟨11, _⟩ => ⟨S1x2x40x128, .f32⟩
  | .local _ .vmem, ⟨12, _⟩ => ⟨S1x2x40x128, .f32⟩
  | .local _ .vmem, ⟨13, _⟩ => ⟨S1x1x5120, .f32⟩
  | .local _ .vmem, ⟨14, _⟩ => ⟨S1x1x5120, .f32⟩
  | .local _ .vmem, ⟨15, _⟩ => ⟨S1x1x5120, .f32⟩
  | .local _ .vmem, ⟨16, _⟩ => ⟨S1x1x5120, .f32⟩
  | .local _ .vmem, ⟨17, _⟩ => ⟨S64x5120, .fp8e4m3⟩
  | .local _ .vmem, ⟨18, _⟩ => ⟨S64x1, .f32⟩
  | .local _ .vmem, ⟨19, _⟩ => ⟨S64x1, .f32⟩
  | .local _ .vmem, ⟨20, _⟩ => ⟨S1x2x128x5120, .fp8e4m3⟩
  | .local _ .vmem, ⟨21, _⟩ => ⟨S1x2x128x5120, .fp8e4m3⟩
  | .local _ .vmem, ⟨22, _⟩ => ⟨S1x2x1x128, .f32⟩
  | .local _ .vmem, ⟨23, _⟩ => ⟨S1x2x1x128, .f32⟩
  | .local _ .vmem, ⟨24, _⟩ => ⟨S1x2x64x128, .f32⟩
  | .local _ .vmem, ⟨25, _⟩ => ⟨S1x2x64x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S2x128x5120, .f32⟩
  | .local _ .vmem, ⟨31, _⟩ => ⟨S128x5120, .f32⟩
  | .local _ .vmem, ⟨32, _⟩ => ⟨S2x128x128, .f32⟩
  | .local _ .vmem, ⟨33, _⟩ => ⟨S3x8x5120, .f32⟩
  | .local _ .vmem, ⟨34, _⟩ => ⟨S16x5120, .bf16⟩
  | .local _ .vmem, ⟨35, _⟩ => ⟨S2x2x128x128, .f32⟩
  | .local _ .smem, ⟨0, _⟩ => ⟨S4, .f32⟩
  | .local _ .smem, ⟨1, _⟩ => ⟨S1, .f32⟩
  | _, _ => ⟨S4x16x3x60x104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev main_v18_4 : Ref sig .tc := ⟨.hbm, 44, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![4, 37], ![false, false]⟩

def k0_off1 (i : grid0.Coords) : Fin 1 → Nat :=
  let arg0 : BitVec 32 := BitVec.ofNat 32 (i 0).val
  let v12 : Index := Scalar.indexCast arg0
  ![v12.toNat]
@[reducible] def k0_t1_loop : Scf.Loop 32 :=
  let c0_i32_30 : BitVec 32 := 0#32
  let c4_i32 : BitVec 32 := 4#32
  let v42 : BitVec 32 := Scalar.addi c0_i32_30 c4_i32
  let c1_i32 : BitVec 32 := 1#32
  ⟨c0_i32_30, v42, c1_i32⟩
def k0_mult1 (k0_t1 : Fin k0_t1_loop.trips) : BitVec 32 :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  v1387
def k0_off2 (k0_t1 : Fin k0_t1_loop.trips) : Fin 3 → Nat :=
  let c0_893 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1389 : Index := Scalar.indexCast v1388
  let c0_894 : Index := 0#32
  ![0, v1389.toNat, 0]
def k0_off3 (k0_t1 : Fin k0_t1_loop.trips) : Fin 3 → Nat :=
  let c1_895 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1392 : Index := Scalar.indexCast v1388
  let c0_896 : Index := 0#32
  ![1, v1392.toNat, 0]
def k0_off4 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1399 : Index := Scalar.indexCast v1388
  let c0_901 : Index := 0#32
  ![v1399.toNat, 0]
def k0_off5 (k0_t1 : Fin k0_t1_loop.trips) : Fin 4 → Nat :=
  let c0_908 : Index := 0#32
  let c0_909 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1413 : Index := Scalar.indexCast v1388
  let c0_910 : Index := 0#32
  ![0, 0, v1413.toNat, 0]
def k0_off6 (k0_t1 : Fin k0_t1_loop.trips) : Fin 3 → Nat :=
  let c0_914 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1429 : Index := Scalar.indexCast v1388
  let c0_915 : Index := 0#32
  ![0, v1429.toNat, 0]
def k0_off7 (k0_t1 : Fin k0_t1_loop.trips) : Fin 4 → Nat :=
  let c0_916 : Index := 0#32
  let c1_917 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1436 : Index := Scalar.indexCast v1388
  let c0_918 : Index := 0#32
  ![0, 1, v1436.toNat, 0]
def k0_off8 (k0_t1 : Fin k0_t1_loop.trips) : Fin 3 → Nat :=
  let c1_922 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1452 : Index := Scalar.indexCast v1388
  let c0_923 : Index := 0#32
  ![1, v1452.toNat, 0]
def k0_off9 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1459 : Index := Scalar.indexCast v1388
  let c128_924 : Index := 128#32
  ![v1459.toNat, 128]
def k0_off10 (k0_t1 : Fin k0_t1_loop.trips) : Fin 4 → Nat :=
  let c0_931 : Index := 0#32
  let c0_932 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1473 : Index := Scalar.indexCast v1388
  let c128_933 : Index := 128#32
  ![0, 0, v1473.toNat, 128]
def k0_off11 (k0_t1 : Fin k0_t1_loop.trips) : Fin 3 → Nat :=
  let c0_937 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1489 : Index := Scalar.indexCast v1388
  let c128_938 : Index := 128#32
  ![0, v1489.toNat, 128]
def k0_off12 (k0_t1 : Fin k0_t1_loop.trips) : Fin 4 → Nat :=
  let c0_939 : Index := 0#32
  let c1_940 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1496 : Index := Scalar.indexCast v1388
  let c128_941 : Index := 128#32
  ![0, 1, v1496.toNat, 128]
def k0_off13 (k0_t1 : Fin k0_t1_loop.trips) : Fin 3 → Nat :=
  let c1_945 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1512 : Index := Scalar.indexCast v1388
  let c128_946 : Index := 128#32
  ![1, v1512.toNat, 128]
def k0_off14 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1519 : Index := Scalar.indexCast v1388
  let c256_947 : Index := 256#32
  ![v1519.toNat, 256]
def k0_off15 (k0_t1 : Fin k0_t1_loop.trips) : Fin 4 → Nat :=
  let c0_954 : Index := 0#32
  let c0_955 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1533 : Index := Scalar.indexCast v1388
  let c256_956 : Index := 256#32
  ![0, 0, v1533.toNat, 256]
def k0_off16 (k0_t1 : Fin k0_t1_loop.trips) : Fin 3 → Nat :=
  let c0_960 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1549 : Index := Scalar.indexCast v1388
  let c256_961 : Index := 256#32
  ![0, v1549.toNat, 256]
def k0_off17 (k0_t1 : Fin k0_t1_loop.trips) : Fin 4 → Nat :=
  let c0_962 : Index := 0#32
  let c1_963 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1556 : Index := Scalar.indexCast v1388
  let c256_964 : Index := 256#32
  ![0, 1, v1556.toNat, 256]
def k0_off18 (k0_t1 : Fin k0_t1_loop.trips) : Fin 3 → Nat :=
  let c1_968 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1572 : Index := Scalar.indexCast v1388
  let c256_969 : Index := 256#32
  ![1, v1572.toNat, 256]
def k0_off19 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1579 : Index := Scalar.indexCast v1388
  let c384_970 : Index := 384#32
  ![v1579.toNat, 384]
def k0_off20 (k0_t1 : Fin k0_t1_loop.trips) : Fin 4 → Nat :=
  let c0_977 : Index := 0#32
  let c0_978 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1593 : Index := Scalar.indexCast v1388
  let c384_979 : Index := 384#32
  ![0, 0, v1593.toNat, 384]
def k0_off21 (k0_t1 : Fin k0_t1_loop.trips) : Fin 3 → Nat :=
  let c0_983 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1609 : Index := Scalar.indexCast v1388
  let c384_984 : Index := 384#32
  ![0, v1609.toNat, 384]
def k0_off22 (k0_t1 : Fin k0_t1_loop.trips) : Fin 4 → Nat :=
  let c0_985 : Index := 0#32
  let c1_986 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1616 : Index := Scalar.indexCast v1388
  let c384_987 : Index := 384#32
  ![0, 1, v1616.toNat, 384]
def k0_off23 (k0_t1 : Fin k0_t1_loop.trips) : Fin 3 → Nat :=
  let c1_991 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1632 : Index := Scalar.indexCast v1388
  let c384_992 : Index := 384#32
  ![1, v1632.toNat, 384]
def k0_off24 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1639 : Index := Scalar.indexCast v1388
  let c512_993 : Index := 512#32
  ![v1639.toNat, 512]
def k0_off25 (k0_t1 : Fin k0_t1_loop.trips) : Fin 4 → Nat :=
  let c0_1000 : Index := 0#32
  let c0_1001 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1653 : Index := Scalar.indexCast v1388
  let c512_1002 : Index := 512#32
  ![0, 0, v1653.toNat, 512]
def k0_off26 (k0_t1 : Fin k0_t1_loop.trips) : Fin 3 → Nat :=
  let c0_1006 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1669 : Index := Scalar.indexCast v1388
  let c512_1007 : Index := 512#32
  ![0, v1669.toNat, 512]
def k0_off27 (k0_t1 : Fin k0_t1_loop.trips) : Fin 4 → Nat :=
  let c0_1008 : Index := 0#32
  let c1_1009 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1676 : Index := Scalar.indexCast v1388
  let c512_1010 : Index := 512#32
  ![0, 1, v1676.toNat, 512]
def k0_off28 (k0_t1 : Fin k0_t1_loop.trips) : Fin 3 → Nat :=
  let c1_1014 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1692 : Index := Scalar.indexCast v1388
  let c512_1015 : Index := 512#32
  ![1, v1692.toNat, 512]
def k0_off29 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1699 : Index := Scalar.indexCast v1388
  let c640_1016 : Index := 640#32
  ![v1699.toNat, 640]
def k0_off30 (k0_t1 : Fin k0_t1_loop.trips) : Fin 4 → Nat :=
  let c0_1023 : Index := 0#32
  let c0_1024 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1713 : Index := Scalar.indexCast v1388
  let c640_1025 : Index := 640#32
  ![0, 0, v1713.toNat, 640]
def k0_off31 (k0_t1 : Fin k0_t1_loop.trips) : Fin 3 → Nat :=
  let c0_1029 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1729 : Index := Scalar.indexCast v1388
  let c640_1030 : Index := 640#32
  ![0, v1729.toNat, 640]
def k0_off32 (k0_t1 : Fin k0_t1_loop.trips) : Fin 4 → Nat :=
  let c0_1031 : Index := 0#32
  let c1_1032 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1736 : Index := Scalar.indexCast v1388
  let c640_1033 : Index := 640#32
  ![0, 1, v1736.toNat, 640]
def k0_off33 (k0_t1 : Fin k0_t1_loop.trips) : Fin 3 → Nat :=
  let c1_1037 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1752 : Index := Scalar.indexCast v1388
  let c640_1038 : Index := 640#32
  ![1, v1752.toNat, 640]
def k0_off34 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1759 : Index := Scalar.indexCast v1388
  let c768_1039 : Index := 768#32
  ![v1759.toNat, 768]
def k0_off35 (k0_t1 : Fin k0_t1_loop.trips) : Fin 4 → Nat :=
  let c0_1046 : Index := 0#32
  let c0_1047 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1773 : Index := Scalar.indexCast v1388
  let c768_1048 : Index := 768#32
  ![0, 0, v1773.toNat, 768]
def k0_off36 (k0_t1 : Fin k0_t1_loop.trips) : Fin 3 → Nat :=
  let c0_1052 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1789 : Index := Scalar.indexCast v1388
  let c768_1053 : Index := 768#32
  ![0, v1789.toNat, 768]
def k0_off37 (k0_t1 : Fin k0_t1_loop.trips) : Fin 4 → Nat :=
  let c0_1054 : Index := 0#32
  let c1_1055 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1796 : Index := Scalar.indexCast v1388
  let c768_1056 : Index := 768#32
  ![0, 1, v1796.toNat, 768]
def k0_off38 (k0_t1 : Fin k0_t1_loop.trips) : Fin 3 → Nat :=
  let c1_1060 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1812 : Index := Scalar.indexCast v1388
  let c768_1061 : Index := 768#32
  ![1, v1812.toNat, 768]
def k0_off39 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1819 : Index := Scalar.indexCast v1388
  let c896_1062 : Index := 896#32
  ![v1819.toNat, 896]
def k0_off40 (k0_t1 : Fin k0_t1_loop.trips) : Fin 4 → Nat :=
  let c0_1069 : Index := 0#32
  let c0_1070 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1833 : Index := Scalar.indexCast v1388
  let c896_1071 : Index := 896#32
  ![0, 0, v1833.toNat, 896]
def k0_off41 (k0_t1 : Fin k0_t1_loop.trips) : Fin 3 → Nat :=
  let c0_1075 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1849 : Index := Scalar.indexCast v1388
  let c896_1076 : Index := 896#32
  ![0, v1849.toNat, 896]
def k0_off42 (k0_t1 : Fin k0_t1_loop.trips) : Fin 4 → Nat :=
  let c0_1077 : Index := 0#32
  let c1_1078 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1856 : Index := Scalar.indexCast v1388
  let c896_1079 : Index := 896#32
  ![0, 1, v1856.toNat, 896]
def k0_off43 (k0_t1 : Fin k0_t1_loop.trips) : Fin 3 → Nat :=
  let c1_1083 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1872 : Index := Scalar.indexCast v1388
  let c896_1084 : Index := 896#32
  ![1, v1872.toNat, 896]
def k0_off44 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1879 : Index := Scalar.indexCast v1388
  let c1024_1085 : Index := 1024#32
  ![v1879.toNat, 1024]
def k0_off45 (k0_t1 : Fin k0_t1_loop.trips) : Fin 4 → Nat :=
  let c0_1092 : Index := 0#32
  let c0_1093 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1893 : Index := Scalar.indexCast v1388
  let c1024_1094 : Index := 1024#32
  ![0, 0, v1893.toNat, 1024]
def k0_off46 (k0_t1 : Fin k0_t1_loop.trips) : Fin 3 → Nat :=
  let c0_1098 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1909 : Index := Scalar.indexCast v1388
  let c1024_1099 : Index := 1024#32
  ![0, v1909.toNat, 1024]
def k0_off47 (k0_t1 : Fin k0_t1_loop.trips) : Fin 4 → Nat :=
  let c0_1100 : Index := 0#32
  let c1_1101 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1916 : Index := Scalar.indexCast v1388
  let c1024_1102 : Index := 1024#32
  ![0, 1, v1916.toNat, 1024]
def k0_off48 (k0_t1 : Fin k0_t1_loop.trips) : Fin 3 → Nat :=
  let c1_1106 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1932 : Index := Scalar.indexCast v1388
  let c1024_1107 : Index := 1024#32
  ![1, v1932.toNat, 1024]
def k0_off49 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1939 : Index := Scalar.indexCast v1388
  let c1152_1108 : Index := 1152#32
  ![v1939.toNat, 1152]
def k0_off50 (k0_t1 : Fin k0_t1_loop.trips) : Fin 4 → Nat :=
  let c0_1115 : Index := 0#32
  let c0_1116 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1953 : Index := Scalar.indexCast v1388
  let c1152_1117 : Index := 1152#32
  ![0, 0, v1953.toNat, 1152]
def k0_off51 (k0_t1 : Fin k0_t1_loop.trips) : Fin 3 → Nat :=
  let c0_1121 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1969 : Index := Scalar.indexCast v1388
  let c1152_1122 : Index := 1152#32
  ![0, v1969.toNat, 1152]
def k0_off52 (k0_t1 : Fin k0_t1_loop.trips) : Fin 4 → Nat :=
  let c0_1123 : Index := 0#32
  let c1_1124 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1976 : Index := Scalar.indexCast v1388
  let c1152_1125 : Index := 1152#32
  ![0, 1, v1976.toNat, 1152]
def k0_off53 (k0_t1 : Fin k0_t1_loop.trips) : Fin 3 → Nat :=
  let c1_1129 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1992 : Index := Scalar.indexCast v1388
  let c1152_1130 : Index := 1152#32
  ![1, v1992.toNat, 1152]
def k0_off54 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v1999 : Index := Scalar.indexCast v1388
  let c1280_1131 : Index := 1280#32
  ![v1999.toNat, 1280]
def k0_off55 (k0_t1 : Fin k0_t1_loop.trips) : Fin 4 → Nat :=
  let c0_1138 : Index := 0#32
  let c0_1139 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2013 : Index := Scalar.indexCast v1388
  let c1280_1140 : Index := 1280#32
  ![0, 0, v2013.toNat, 1280]
def k0_off56 (k0_t1 : Fin k0_t1_loop.trips) : Fin 3 → Nat :=
  let c0_1144 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2029 : Index := Scalar.indexCast v1388
  let c1280_1145 : Index := 1280#32
  ![0, v2029.toNat, 1280]
def k0_off57 (k0_t1 : Fin k0_t1_loop.trips) : Fin 4 → Nat :=
  let c0_1146 : Index := 0#32
  let c1_1147 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2036 : Index := Scalar.indexCast v1388
  let c1280_1148 : Index := 1280#32
  ![0, 1, v2036.toNat, 1280]
def k0_off58 (k0_t1 : Fin k0_t1_loop.trips) : Fin 3 → Nat :=
  let c1_1152 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2052 : Index := Scalar.indexCast v1388
  let c1280_1153 : Index := 1280#32
  ![1, v2052.toNat, 1280]
def k0_off59 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2059 : Index := Scalar.indexCast v1388
  let c1408_1154 : Index := 1408#32
  ![v2059.toNat, 1408]
def k0_off60 (k0_t1 : Fin k0_t1_loop.trips) : Fin 4 → Nat :=
  let c0_1161 : Index := 0#32
  let c0_1162 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2073 : Index := Scalar.indexCast v1388
  let c1408_1163 : Index := 1408#32
  ![0, 0, v2073.toNat, 1408]
def k0_off61 (k0_t1 : Fin k0_t1_loop.trips) : Fin 3 → Nat :=
  let c0_1167 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2089 : Index := Scalar.indexCast v1388
  let c1408_1168 : Index := 1408#32
  ![0, v2089.toNat, 1408]
def k0_off62 (k0_t1 : Fin k0_t1_loop.trips) : Fin 4 → Nat :=
  let c0_1169 : Index := 0#32
  let c1_1170 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2096 : Index := Scalar.indexCast v1388
  let c1408_1171 : Index := 1408#32
  ![0, 1, v2096.toNat, 1408]
def k0_off63 (k0_t1 : Fin k0_t1_loop.trips) : Fin 3 → Nat :=
  let c1_1175 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2112 : Index := Scalar.indexCast v1388
  let c1408_1176 : Index := 1408#32
  ![1, v2112.toNat, 1408]
def k0_off64 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2119 : Index := Scalar.indexCast v1388
  let c1536_1177 : Index := 1536#32
  ![v2119.toNat, 1536]
def k0_off65 (k0_t1 : Fin k0_t1_loop.trips) : Fin 4 → Nat :=
  let c0_1184 : Index := 0#32
  let c0_1185 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2133 : Index := Scalar.indexCast v1388
  let c1536_1186 : Index := 1536#32
  ![0, 0, v2133.toNat, 1536]
def k0_off66 (k0_t1 : Fin k0_t1_loop.trips) : Fin 3 → Nat :=
  let c0_1190 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2149 : Index := Scalar.indexCast v1388
  let c1536_1191 : Index := 1536#32
  ![0, v2149.toNat, 1536]
def k0_off67 (k0_t1 : Fin k0_t1_loop.trips) : Fin 4 → Nat :=
  let c0_1192 : Index := 0#32
  let c1_1193 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2156 : Index := Scalar.indexCast v1388
  let c1536_1194 : Index := 1536#32
  ![0, 1, v2156.toNat, 1536]
def k0_off68 (k0_t1 : Fin k0_t1_loop.trips) : Fin 3 → Nat :=
  let c1_1198 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2172 : Index := Scalar.indexCast v1388
  let c1536_1199 : Index := 1536#32
  ![1, v2172.toNat, 1536]
def k0_off69 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2179 : Index := Scalar.indexCast v1388
  let c1664_1200 : Index := 1664#32
  ![v2179.toNat, 1664]
def k0_off70 (k0_t1 : Fin k0_t1_loop.trips) : Fin 4 → Nat :=
  let c0_1207 : Index := 0#32
  let c0_1208 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2193 : Index := Scalar.indexCast v1388
  let c1664_1209 : Index := 1664#32
  ![0, 0, v2193.toNat, 1664]
def k0_off71 (k0_t1 : Fin k0_t1_loop.trips) : Fin 3 → Nat :=
  let c0_1213 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2209 : Index := Scalar.indexCast v1388
  let c1664_1214 : Index := 1664#32
  ![0, v2209.toNat, 1664]
def k0_off72 (k0_t1 : Fin k0_t1_loop.trips) : Fin 4 → Nat :=
  let c0_1215 : Index := 0#32
  let c1_1216 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2216 : Index := Scalar.indexCast v1388
  let c1664_1217 : Index := 1664#32
  ![0, 1, v2216.toNat, 1664]
def k0_off73 (k0_t1 : Fin k0_t1_loop.trips) : Fin 3 → Nat :=
  let c1_1221 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2232 : Index := Scalar.indexCast v1388
  let c1664_1222 : Index := 1664#32
  ![1, v2232.toNat, 1664]
def k0_off74 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2239 : Index := Scalar.indexCast v1388
  let c1792_1223 : Index := 1792#32
  ![v2239.toNat, 1792]
def k0_off75 (k0_t1 : Fin k0_t1_loop.trips) : Fin 4 → Nat :=
  let c0_1230 : Index := 0#32
  let c0_1231 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2253 : Index := Scalar.indexCast v1388
  let c1792_1232 : Index := 1792#32
  ![0, 0, v2253.toNat, 1792]
def k0_off76 (k0_t1 : Fin k0_t1_loop.trips) : Fin 3 → Nat :=
  let c0_1236 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2269 : Index := Scalar.indexCast v1388
  let c1792_1237 : Index := 1792#32
  ![0, v2269.toNat, 1792]
def k0_off77 (k0_t1 : Fin k0_t1_loop.trips) : Fin 4 → Nat :=
  let c0_1238 : Index := 0#32
  let c1_1239 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2276 : Index := Scalar.indexCast v1388
  let c1792_1240 : Index := 1792#32
  ![0, 1, v2276.toNat, 1792]
def k0_off78 (k0_t1 : Fin k0_t1_loop.trips) : Fin 3 → Nat :=
  let c1_1244 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2292 : Index := Scalar.indexCast v1388
  let c1792_1245 : Index := 1792#32
  ![1, v2292.toNat, 1792]
def k0_off79 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2299 : Index := Scalar.indexCast v1388
  let c1920_1246 : Index := 1920#32
  ![v2299.toNat, 1920]
def k0_off80 (k0_t1 : Fin k0_t1_loop.trips) : Fin 4 → Nat :=
  let c0_1253 : Index := 0#32
  let c0_1254 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2313 : Index := Scalar.indexCast v1388
  let c1920_1255 : Index := 1920#32
  ![0, 0, v2313.toNat, 1920]
def k0_off81 (k0_t1 : Fin k0_t1_loop.trips) : Fin 3 → Nat :=
  let c0_1259 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2329 : Index := Scalar.indexCast v1388
  let c1920_1260 : Index := 1920#32
  ![0, v2329.toNat, 1920]
def k0_off82 (k0_t1 : Fin k0_t1_loop.trips) : Fin 4 → Nat :=
  let c0_1261 : Index := 0#32
  let c1_1262 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2336 : Index := Scalar.indexCast v1388
  let c1920_1263 : Index := 1920#32
  ![0, 1, v2336.toNat, 1920]
def k0_off83 (k0_t1 : Fin k0_t1_loop.trips) : Fin 3 → Nat :=
  let c1_1267 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2352 : Index := Scalar.indexCast v1388
  let c1920_1268 : Index := 1920#32
  ![1, v2352.toNat, 1920]
def k0_off84 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2359 : Index := Scalar.indexCast v1388
  let c2048_1269 : Index := 2048#32
  ![v2359.toNat, 2048]
def k0_off85 (k0_t1 : Fin k0_t1_loop.trips) : Fin 4 → Nat :=
  let c0_1276 : Index := 0#32
  let c0_1277 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2373 : Index := Scalar.indexCast v1388
  let c2048_1278 : Index := 2048#32
  ![0, 0, v2373.toNat, 2048]
def k0_off86 (k0_t1 : Fin k0_t1_loop.trips) : Fin 3 → Nat :=
  let c0_1282 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2389 : Index := Scalar.indexCast v1388
  let c2048_1283 : Index := 2048#32
  ![0, v2389.toNat, 2048]
def k0_off87 (k0_t1 : Fin k0_t1_loop.trips) : Fin 4 → Nat :=
  let c0_1284 : Index := 0#32
  let c1_1285 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2396 : Index := Scalar.indexCast v1388
  let c2048_1286 : Index := 2048#32
  ![0, 1, v2396.toNat, 2048]
def k0_off88 (k0_t1 : Fin k0_t1_loop.trips) : Fin 3 → Nat :=
  let c1_1290 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2412 : Index := Scalar.indexCast v1388
  let c2048_1291 : Index := 2048#32
  ![1, v2412.toNat, 2048]
def k0_off89 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2419 : Index := Scalar.indexCast v1388
  let c2176_1292 : Index := 2176#32
  ![v2419.toNat, 2176]
def k0_off90 (k0_t1 : Fin k0_t1_loop.trips) : Fin 4 → Nat :=
  let c0_1299 : Index := 0#32
  let c0_1300 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2433 : Index := Scalar.indexCast v1388
  let c2176_1301 : Index := 2176#32
  ![0, 0, v2433.toNat, 2176]
def k0_off91 (k0_t1 : Fin k0_t1_loop.trips) : Fin 3 → Nat :=
  let c0_1305 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2449 : Index := Scalar.indexCast v1388
  let c2176_1306 : Index := 2176#32
  ![0, v2449.toNat, 2176]
def k0_off92 (k0_t1 : Fin k0_t1_loop.trips) : Fin 4 → Nat :=
  let c0_1307 : Index := 0#32
  let c1_1308 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2456 : Index := Scalar.indexCast v1388
  let c2176_1309 : Index := 2176#32
  ![0, 1, v2456.toNat, 2176]
def k0_off93 (k0_t1 : Fin k0_t1_loop.trips) : Fin 3 → Nat :=
  let c1_1313 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2472 : Index := Scalar.indexCast v1388
  let c2176_1314 : Index := 2176#32
  ![1, v2472.toNat, 2176]
def k0_off94 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2479 : Index := Scalar.indexCast v1388
  let c2304_1315 : Index := 2304#32
  ![v2479.toNat, 2304]
def k0_off95 (k0_t1 : Fin k0_t1_loop.trips) : Fin 4 → Nat :=
  let c0_1322 : Index := 0#32
  let c0_1323 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2493 : Index := Scalar.indexCast v1388
  let c2304_1324 : Index := 2304#32
  ![0, 0, v2493.toNat, 2304]
def k0_off96 (k0_t1 : Fin k0_t1_loop.trips) : Fin 3 → Nat :=
  let c0_1328 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2509 : Index := Scalar.indexCast v1388
  let c2304_1329 : Index := 2304#32
  ![0, v2509.toNat, 2304]
def k0_off97 (k0_t1 : Fin k0_t1_loop.trips) : Fin 4 → Nat :=
  let c0_1330 : Index := 0#32
  let c1_1331 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2516 : Index := Scalar.indexCast v1388
  let c2304_1332 : Index := 2304#32
  ![0, 1, v2516.toNat, 2304]
def k0_off98 (k0_t1 : Fin k0_t1_loop.trips) : Fin 3 → Nat :=
  let c1_1336 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2532 : Index := Scalar.indexCast v1388
  let c2304_1337 : Index := 2304#32
  ![1, v2532.toNat, 2304]
def k0_off99 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2539 : Index := Scalar.indexCast v1388
  let c2432_1338 : Index := 2432#32
  ![v2539.toNat, 2432]
def k0_off100 (k0_t1 : Fin k0_t1_loop.trips) : Fin 4 → Nat :=
  let c0_1345 : Index := 0#32
  let c0_1346 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2553 : Index := Scalar.indexCast v1388
  let c2432_1347 : Index := 2432#32
  ![0, 0, v2553.toNat, 2432]
def k0_off101 (k0_t1 : Fin k0_t1_loop.trips) : Fin 3 → Nat :=
  let c0_1351 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2569 : Index := Scalar.indexCast v1388
  let c2432_1352 : Index := 2432#32
  ![0, v2569.toNat, 2432]
def k0_off102 (k0_t1 : Fin k0_t1_loop.trips) : Fin 4 → Nat :=
  let c0_1353 : Index := 0#32
  let c1_1354 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2576 : Index := Scalar.indexCast v1388
  let c2432_1355 : Index := 2432#32
  ![0, 1, v2576.toNat, 2432]
def k0_off103 (k0_t1 : Fin k0_t1_loop.trips) : Fin 3 → Nat :=
  let c1_1359 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2592 : Index := Scalar.indexCast v1388
  let c2432_1360 : Index := 2432#32
  ![1, v2592.toNat, 2432]
def k0_off104 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2599 : Index := Scalar.indexCast v1388
  let c2560_1361 : Index := 2560#32
  ![v2599.toNat, 2560]
def k0_off105 (k0_t1 : Fin k0_t1_loop.trips) : Fin 4 → Nat :=
  let c0_1368 : Index := 0#32
  let c0_1369 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2613 : Index := Scalar.indexCast v1388
  let c2560_1370 : Index := 2560#32
  ![0, 0, v2613.toNat, 2560]
def k0_off106 (k0_t1 : Fin k0_t1_loop.trips) : Fin 3 → Nat :=
  let c0_1374 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2629 : Index := Scalar.indexCast v1388
  let c2560_1375 : Index := 2560#32
  ![0, v2629.toNat, 2560]
def k0_off107 (k0_t1 : Fin k0_t1_loop.trips) : Fin 4 → Nat :=
  let c0_1376 : Index := 0#32
  let c1_1377 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2636 : Index := Scalar.indexCast v1388
  let c2560_1378 : Index := 2560#32
  ![0, 1, v2636.toNat, 2560]
def k0_off108 (k0_t1 : Fin k0_t1_loop.trips) : Fin 3 → Nat :=
  let c1_1382 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2652 : Index := Scalar.indexCast v1388
  let c2560_1383 : Index := 2560#32
  ![1, v2652.toNat, 2560]
def k0_off109 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2659 : Index := Scalar.indexCast v1388
  let c2688_1384 : Index := 2688#32
  ![v2659.toNat, 2688]
def k0_off110 (k0_t1 : Fin k0_t1_loop.trips) : Fin 4 → Nat :=
  let c0_1391 : Index := 0#32
  let c0_1392 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2673 : Index := Scalar.indexCast v1388
  let c2688_1393 : Index := 2688#32
  ![0, 0, v2673.toNat, 2688]
def k0_off111 (k0_t1 : Fin k0_t1_loop.trips) : Fin 3 → Nat :=
  let c0_1397 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2689 : Index := Scalar.indexCast v1388
  let c2688_1398 : Index := 2688#32
  ![0, v2689.toNat, 2688]
def k0_off112 (k0_t1 : Fin k0_t1_loop.trips) : Fin 4 → Nat :=
  let c0_1399 : Index := 0#32
  let c1_1400 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2696 : Index := Scalar.indexCast v1388
  let c2688_1401 : Index := 2688#32
  ![0, 1, v2696.toNat, 2688]
def k0_off113 (k0_t1 : Fin k0_t1_loop.trips) : Fin 3 → Nat :=
  let c1_1405 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2712 : Index := Scalar.indexCast v1388
  let c2688_1406 : Index := 2688#32
  ![1, v2712.toNat, 2688]
def k0_off114 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2719 : Index := Scalar.indexCast v1388
  let c2816_1407 : Index := 2816#32
  ![v2719.toNat, 2816]
def k0_off115 (k0_t1 : Fin k0_t1_loop.trips) : Fin 4 → Nat :=
  let c0_1414 : Index := 0#32
  let c0_1415 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2733 : Index := Scalar.indexCast v1388
  let c2816_1416 : Index := 2816#32
  ![0, 0, v2733.toNat, 2816]
def k0_off116 (k0_t1 : Fin k0_t1_loop.trips) : Fin 3 → Nat :=
  let c0_1420 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2749 : Index := Scalar.indexCast v1388
  let c2816_1421 : Index := 2816#32
  ![0, v2749.toNat, 2816]
def k0_off117 (k0_t1 : Fin k0_t1_loop.trips) : Fin 4 → Nat :=
  let c0_1422 : Index := 0#32
  let c1_1423 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2756 : Index := Scalar.indexCast v1388
  let c2816_1424 : Index := 2816#32
  ![0, 1, v2756.toNat, 2816]
def k0_off118 (k0_t1 : Fin k0_t1_loop.trips) : Fin 3 → Nat :=
  let c1_1428 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2772 : Index := Scalar.indexCast v1388
  let c2816_1429 : Index := 2816#32
  ![1, v2772.toNat, 2816]
def k0_off119 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2779 : Index := Scalar.indexCast v1388
  let c2944_1430 : Index := 2944#32
  ![v2779.toNat, 2944]
def k0_off120 (k0_t1 : Fin k0_t1_loop.trips) : Fin 4 → Nat :=
  let c0_1437 : Index := 0#32
  let c0_1438 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2793 : Index := Scalar.indexCast v1388
  let c2944_1439 : Index := 2944#32
  ![0, 0, v2793.toNat, 2944]
def k0_off121 (k0_t1 : Fin k0_t1_loop.trips) : Fin 3 → Nat :=
  let c0_1443 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2809 : Index := Scalar.indexCast v1388
  let c2944_1444 : Index := 2944#32
  ![0, v2809.toNat, 2944]
def k0_off122 (k0_t1 : Fin k0_t1_loop.trips) : Fin 4 → Nat :=
  let c0_1445 : Index := 0#32
  let c1_1446 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2816 : Index := Scalar.indexCast v1388
  let c2944_1447 : Index := 2944#32
  ![0, 1, v2816.toNat, 2944]
def k0_off123 (k0_t1 : Fin k0_t1_loop.trips) : Fin 3 → Nat :=
  let c1_1451 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2832 : Index := Scalar.indexCast v1388
  let c2944_1452 : Index := 2944#32
  ![1, v2832.toNat, 2944]
def k0_off124 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2839 : Index := Scalar.indexCast v1388
  let c3072_1453 : Index := 3072#32
  ![v2839.toNat, 3072]
def k0_off125 (k0_t1 : Fin k0_t1_loop.trips) : Fin 4 → Nat :=
  let c0_1460 : Index := 0#32
  let c0_1461 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2853 : Index := Scalar.indexCast v1388
  let c3072_1462 : Index := 3072#32
  ![0, 0, v2853.toNat, 3072]
def k0_off126 (k0_t1 : Fin k0_t1_loop.trips) : Fin 3 → Nat :=
  let c0_1466 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2869 : Index := Scalar.indexCast v1388
  let c3072_1467 : Index := 3072#32
  ![0, v2869.toNat, 3072]
def k0_off127 (k0_t1 : Fin k0_t1_loop.trips) : Fin 4 → Nat :=
  let c0_1468 : Index := 0#32
  let c1_1469 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2876 : Index := Scalar.indexCast v1388
  let c3072_1470 : Index := 3072#32
  ![0, 1, v2876.toNat, 3072]
def k0_off128 (k0_t1 : Fin k0_t1_loop.trips) : Fin 3 → Nat :=
  let c1_1474 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2892 : Index := Scalar.indexCast v1388
  let c3072_1475 : Index := 3072#32
  ![1, v2892.toNat, 3072]
def k0_off129 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2899 : Index := Scalar.indexCast v1388
  let c3200_1476 : Index := 3200#32
  ![v2899.toNat, 3200]
def k0_off130 (k0_t1 : Fin k0_t1_loop.trips) : Fin 4 → Nat :=
  let c0_1483 : Index := 0#32
  let c0_1484 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2913 : Index := Scalar.indexCast v1388
  let c3200_1485 : Index := 3200#32
  ![0, 0, v2913.toNat, 3200]
def k0_off131 (k0_t1 : Fin k0_t1_loop.trips) : Fin 3 → Nat :=
  let c0_1489 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2929 : Index := Scalar.indexCast v1388
  let c3200_1490 : Index := 3200#32
  ![0, v2929.toNat, 3200]
def k0_off132 (k0_t1 : Fin k0_t1_loop.trips) : Fin 4 → Nat :=
  let c0_1491 : Index := 0#32
  let c1_1492 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2936 : Index := Scalar.indexCast v1388
  let c3200_1493 : Index := 3200#32
  ![0, 1, v2936.toNat, 3200]
def k0_off133 (k0_t1 : Fin k0_t1_loop.trips) : Fin 3 → Nat :=
  let c1_1497 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2952 : Index := Scalar.indexCast v1388
  let c3200_1498 : Index := 3200#32
  ![1, v2952.toNat, 3200]
def k0_off134 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2959 : Index := Scalar.indexCast v1388
  let c3328_1499 : Index := 3328#32
  ![v2959.toNat, 3328]
def k0_off135 (k0_t1 : Fin k0_t1_loop.trips) : Fin 4 → Nat :=
  let c0_1506 : Index := 0#32
  let c0_1507 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2973 : Index := Scalar.indexCast v1388
  let c3328_1508 : Index := 3328#32
  ![0, 0, v2973.toNat, 3328]
def k0_off136 (k0_t1 : Fin k0_t1_loop.trips) : Fin 3 → Nat :=
  let c0_1512 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2989 : Index := Scalar.indexCast v1388
  let c3328_1513 : Index := 3328#32
  ![0, v2989.toNat, 3328]
def k0_off137 (k0_t1 : Fin k0_t1_loop.trips) : Fin 4 → Nat :=
  let c0_1514 : Index := 0#32
  let c1_1515 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v2996 : Index := Scalar.indexCast v1388
  let c3328_1516 : Index := 3328#32
  ![0, 1, v2996.toNat, 3328]
def k0_off138 (k0_t1 : Fin k0_t1_loop.trips) : Fin 3 → Nat :=
  let c1_1520 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3012 : Index := Scalar.indexCast v1388
  let c3328_1521 : Index := 3328#32
  ![1, v3012.toNat, 3328]
def k0_off139 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3019 : Index := Scalar.indexCast v1388
  let c3456_1522 : Index := 3456#32
  ![v3019.toNat, 3456]
def k0_off140 (k0_t1 : Fin k0_t1_loop.trips) : Fin 4 → Nat :=
  let c0_1529 : Index := 0#32
  let c0_1530 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3033 : Index := Scalar.indexCast v1388
  let c3456_1531 : Index := 3456#32
  ![0, 0, v3033.toNat, 3456]
def k0_off141 (k0_t1 : Fin k0_t1_loop.trips) : Fin 3 → Nat :=
  let c0_1535 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3049 : Index := Scalar.indexCast v1388
  let c3456_1536 : Index := 3456#32
  ![0, v3049.toNat, 3456]
def k0_off142 (k0_t1 : Fin k0_t1_loop.trips) : Fin 4 → Nat :=
  let c0_1537 : Index := 0#32
  let c1_1538 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3056 : Index := Scalar.indexCast v1388
  let c3456_1539 : Index := 3456#32
  ![0, 1, v3056.toNat, 3456]
def k0_off143 (k0_t1 : Fin k0_t1_loop.trips) : Fin 3 → Nat :=
  let c1_1543 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3072 : Index := Scalar.indexCast v1388
  let c3456_1544 : Index := 3456#32
  ![1, v3072.toNat, 3456]
def k0_off144 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3079 : Index := Scalar.indexCast v1388
  let c3584_1545 : Index := 3584#32
  ![v3079.toNat, 3584]
def k0_off145 (k0_t1 : Fin k0_t1_loop.trips) : Fin 4 → Nat :=
  let c0_1552 : Index := 0#32
  let c0_1553 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3093 : Index := Scalar.indexCast v1388
  let c3584_1554 : Index := 3584#32
  ![0, 0, v3093.toNat, 3584]
def k0_off146 (k0_t1 : Fin k0_t1_loop.trips) : Fin 3 → Nat :=
  let c0_1558 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3109 : Index := Scalar.indexCast v1388
  let c3584_1559 : Index := 3584#32
  ![0, v3109.toNat, 3584]
def k0_off147 (k0_t1 : Fin k0_t1_loop.trips) : Fin 4 → Nat :=
  let c0_1560 : Index := 0#32
  let c1_1561 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3116 : Index := Scalar.indexCast v1388
  let c3584_1562 : Index := 3584#32
  ![0, 1, v3116.toNat, 3584]
def k0_off148 (k0_t1 : Fin k0_t1_loop.trips) : Fin 3 → Nat :=
  let c1_1566 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3132 : Index := Scalar.indexCast v1388
  let c3584_1567 : Index := 3584#32
  ![1, v3132.toNat, 3584]
def k0_off149 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3139 : Index := Scalar.indexCast v1388
  let c3712_1568 : Index := 3712#32
  ![v3139.toNat, 3712]
def k0_off150 (k0_t1 : Fin k0_t1_loop.trips) : Fin 4 → Nat :=
  let c0_1575 : Index := 0#32
  let c0_1576 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3153 : Index := Scalar.indexCast v1388
  let c3712_1577 : Index := 3712#32
  ![0, 0, v3153.toNat, 3712]
def k0_off151 (k0_t1 : Fin k0_t1_loop.trips) : Fin 3 → Nat :=
  let c0_1581 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3169 : Index := Scalar.indexCast v1388
  let c3712_1582 : Index := 3712#32
  ![0, v3169.toNat, 3712]
def k0_off152 (k0_t1 : Fin k0_t1_loop.trips) : Fin 4 → Nat :=
  let c0_1583 : Index := 0#32
  let c1_1584 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3176 : Index := Scalar.indexCast v1388
  let c3712_1585 : Index := 3712#32
  ![0, 1, v3176.toNat, 3712]
def k0_off153 (k0_t1 : Fin k0_t1_loop.trips) : Fin 3 → Nat :=
  let c1_1589 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3192 : Index := Scalar.indexCast v1388
  let c3712_1590 : Index := 3712#32
  ![1, v3192.toNat, 3712]
def k0_off154 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3199 : Index := Scalar.indexCast v1388
  let c3840_1591 : Index := 3840#32
  ![v3199.toNat, 3840]
def k0_off155 (k0_t1 : Fin k0_t1_loop.trips) : Fin 4 → Nat :=
  let c0_1598 : Index := 0#32
  let c0_1599 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3213 : Index := Scalar.indexCast v1388
  let c3840_1600 : Index := 3840#32
  ![0, 0, v3213.toNat, 3840]
def k0_off156 (k0_t1 : Fin k0_t1_loop.trips) : Fin 3 → Nat :=
  let c0_1604 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3229 : Index := Scalar.indexCast v1388
  let c3840_1605 : Index := 3840#32
  ![0, v3229.toNat, 3840]
def k0_off157 (k0_t1 : Fin k0_t1_loop.trips) : Fin 4 → Nat :=
  let c0_1606 : Index := 0#32
  let c1_1607 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3236 : Index := Scalar.indexCast v1388
  let c3840_1608 : Index := 3840#32
  ![0, 1, v3236.toNat, 3840]
def k0_off158 (k0_t1 : Fin k0_t1_loop.trips) : Fin 3 → Nat :=
  let c1_1612 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3252 : Index := Scalar.indexCast v1388
  let c3840_1613 : Index := 3840#32
  ![1, v3252.toNat, 3840]
def k0_off159 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3259 : Index := Scalar.indexCast v1388
  let c3968_1614 : Index := 3968#32
  ![v3259.toNat, 3968]
def k0_off160 (k0_t1 : Fin k0_t1_loop.trips) : Fin 4 → Nat :=
  let c0_1621 : Index := 0#32
  let c0_1622 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3273 : Index := Scalar.indexCast v1388
  let c3968_1623 : Index := 3968#32
  ![0, 0, v3273.toNat, 3968]
def k0_off161 (k0_t1 : Fin k0_t1_loop.trips) : Fin 3 → Nat :=
  let c0_1627 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3289 : Index := Scalar.indexCast v1388
  let c3968_1628 : Index := 3968#32
  ![0, v3289.toNat, 3968]
def k0_off162 (k0_t1 : Fin k0_t1_loop.trips) : Fin 4 → Nat :=
  let c0_1629 : Index := 0#32
  let c1_1630 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3296 : Index := Scalar.indexCast v1388
  let c3968_1631 : Index := 3968#32
  ![0, 1, v3296.toNat, 3968]
def k0_off163 (k0_t1 : Fin k0_t1_loop.trips) : Fin 3 → Nat :=
  let c1_1635 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3312 : Index := Scalar.indexCast v1388
  let c3968_1636 : Index := 3968#32
  ![1, v3312.toNat, 3968]
def k0_off164 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3319 : Index := Scalar.indexCast v1388
  let c4096_1637 : Index := 4096#32
  ![v3319.toNat, 4096]
def k0_off165 (k0_t1 : Fin k0_t1_loop.trips) : Fin 4 → Nat :=
  let c0_1644 : Index := 0#32
  let c0_1645 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3333 : Index := Scalar.indexCast v1388
  let c4096_1646 : Index := 4096#32
  ![0, 0, v3333.toNat, 4096]
def k0_off166 (k0_t1 : Fin k0_t1_loop.trips) : Fin 3 → Nat :=
  let c0_1650 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3349 : Index := Scalar.indexCast v1388
  let c4096_1651 : Index := 4096#32
  ![0, v3349.toNat, 4096]
def k0_off167 (k0_t1 : Fin k0_t1_loop.trips) : Fin 4 → Nat :=
  let c0_1652 : Index := 0#32
  let c1_1653 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3356 : Index := Scalar.indexCast v1388
  let c4096_1654 : Index := 4096#32
  ![0, 1, v3356.toNat, 4096]
def k0_off168 (k0_t1 : Fin k0_t1_loop.trips) : Fin 3 → Nat :=
  let c1_1658 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3372 : Index := Scalar.indexCast v1388
  let c4096_1659 : Index := 4096#32
  ![1, v3372.toNat, 4096]
def k0_off169 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3379 : Index := Scalar.indexCast v1388
  let c4224_1660 : Index := 4224#32
  ![v3379.toNat, 4224]
def k0_off170 (k0_t1 : Fin k0_t1_loop.trips) : Fin 4 → Nat :=
  let c0_1667 : Index := 0#32
  let c0_1668 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3393 : Index := Scalar.indexCast v1388
  let c4224_1669 : Index := 4224#32
  ![0, 0, v3393.toNat, 4224]
def k0_off171 (k0_t1 : Fin k0_t1_loop.trips) : Fin 3 → Nat :=
  let c0_1673 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3409 : Index := Scalar.indexCast v1388
  let c4224_1674 : Index := 4224#32
  ![0, v3409.toNat, 4224]
def k0_off172 (k0_t1 : Fin k0_t1_loop.trips) : Fin 4 → Nat :=
  let c0_1675 : Index := 0#32
  let c1_1676 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3416 : Index := Scalar.indexCast v1388
  let c4224_1677 : Index := 4224#32
  ![0, 1, v3416.toNat, 4224]
def k0_off173 (k0_t1 : Fin k0_t1_loop.trips) : Fin 3 → Nat :=
  let c1_1681 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3432 : Index := Scalar.indexCast v1388
  let c4224_1682 : Index := 4224#32
  ![1, v3432.toNat, 4224]
def k0_off174 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3439 : Index := Scalar.indexCast v1388
  let c4352_1683 : Index := 4352#32
  ![v3439.toNat, 4352]
def k0_off175 (k0_t1 : Fin k0_t1_loop.trips) : Fin 4 → Nat :=
  let c0_1690 : Index := 0#32
  let c0_1691 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3453 : Index := Scalar.indexCast v1388
  let c4352_1692 : Index := 4352#32
  ![0, 0, v3453.toNat, 4352]
def k0_off176 (k0_t1 : Fin k0_t1_loop.trips) : Fin 3 → Nat :=
  let c0_1696 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3469 : Index := Scalar.indexCast v1388
  let c4352_1697 : Index := 4352#32
  ![0, v3469.toNat, 4352]
def k0_off177 (k0_t1 : Fin k0_t1_loop.trips) : Fin 4 → Nat :=
  let c0_1698 : Index := 0#32
  let c1_1699 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3476 : Index := Scalar.indexCast v1388
  let c4352_1700 : Index := 4352#32
  ![0, 1, v3476.toNat, 4352]
def k0_off178 (k0_t1 : Fin k0_t1_loop.trips) : Fin 3 → Nat :=
  let c1_1704 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3492 : Index := Scalar.indexCast v1388
  let c4352_1705 : Index := 4352#32
  ![1, v3492.toNat, 4352]
def k0_off179 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3499 : Index := Scalar.indexCast v1388
  let c4480_1706 : Index := 4480#32
  ![v3499.toNat, 4480]
def k0_off180 (k0_t1 : Fin k0_t1_loop.trips) : Fin 4 → Nat :=
  let c0_1713 : Index := 0#32
  let c0_1714 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3513 : Index := Scalar.indexCast v1388
  let c4480_1715 : Index := 4480#32
  ![0, 0, v3513.toNat, 4480]
def k0_off181 (k0_t1 : Fin k0_t1_loop.trips) : Fin 3 → Nat :=
  let c0_1719 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3529 : Index := Scalar.indexCast v1388
  let c4480_1720 : Index := 4480#32
  ![0, v3529.toNat, 4480]
def k0_off182 (k0_t1 : Fin k0_t1_loop.trips) : Fin 4 → Nat :=
  let c0_1721 : Index := 0#32
  let c1_1722 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3536 : Index := Scalar.indexCast v1388
  let c4480_1723 : Index := 4480#32
  ![0, 1, v3536.toNat, 4480]
def k0_off183 (k0_t1 : Fin k0_t1_loop.trips) : Fin 3 → Nat :=
  let c1_1727 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3552 : Index := Scalar.indexCast v1388
  let c4480_1728 : Index := 4480#32
  ![1, v3552.toNat, 4480]
def k0_off184 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3559 : Index := Scalar.indexCast v1388
  let c4608_1729 : Index := 4608#32
  ![v3559.toNat, 4608]
def k0_off185 (k0_t1 : Fin k0_t1_loop.trips) : Fin 4 → Nat :=
  let c0_1736 : Index := 0#32
  let c0_1737 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3573 : Index := Scalar.indexCast v1388
  let c4608_1738 : Index := 4608#32
  ![0, 0, v3573.toNat, 4608]
def k0_off186 (k0_t1 : Fin k0_t1_loop.trips) : Fin 3 → Nat :=
  let c0_1742 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3589 : Index := Scalar.indexCast v1388
  let c4608_1743 : Index := 4608#32
  ![0, v3589.toNat, 4608]
def k0_off187 (k0_t1 : Fin k0_t1_loop.trips) : Fin 4 → Nat :=
  let c0_1744 : Index := 0#32
  let c1_1745 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3596 : Index := Scalar.indexCast v1388
  let c4608_1746 : Index := 4608#32
  ![0, 1, v3596.toNat, 4608]
def k0_off188 (k0_t1 : Fin k0_t1_loop.trips) : Fin 3 → Nat :=
  let c1_1750 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3612 : Index := Scalar.indexCast v1388
  let c4608_1751 : Index := 4608#32
  ![1, v3612.toNat, 4608]
def k0_off189 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3619 : Index := Scalar.indexCast v1388
  let c4736_1752 : Index := 4736#32
  ![v3619.toNat, 4736]
def k0_off190 (k0_t1 : Fin k0_t1_loop.trips) : Fin 4 → Nat :=
  let c0_1759 : Index := 0#32
  let c0_1760 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3633 : Index := Scalar.indexCast v1388
  let c4736_1761 : Index := 4736#32
  ![0, 0, v3633.toNat, 4736]
def k0_off191 (k0_t1 : Fin k0_t1_loop.trips) : Fin 3 → Nat :=
  let c0_1765 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3649 : Index := Scalar.indexCast v1388
  let c4736_1766 : Index := 4736#32
  ![0, v3649.toNat, 4736]
def k0_off192 (k0_t1 : Fin k0_t1_loop.trips) : Fin 4 → Nat :=
  let c0_1767 : Index := 0#32
  let c1_1768 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3656 : Index := Scalar.indexCast v1388
  let c4736_1769 : Index := 4736#32
  ![0, 1, v3656.toNat, 4736]
def k0_off193 (k0_t1 : Fin k0_t1_loop.trips) : Fin 3 → Nat :=
  let c1_1773 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3672 : Index := Scalar.indexCast v1388
  let c4736_1774 : Index := 4736#32
  ![1, v3672.toNat, 4736]
def k0_off194 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3679 : Index := Scalar.indexCast v1388
  let c4864_1775 : Index := 4864#32
  ![v3679.toNat, 4864]
def k0_off195 (k0_t1 : Fin k0_t1_loop.trips) : Fin 4 → Nat :=
  let c0_1782 : Index := 0#32
  let c0_1783 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3693 : Index := Scalar.indexCast v1388
  let c4864_1784 : Index := 4864#32
  ![0, 0, v3693.toNat, 4864]
def k0_off196 (k0_t1 : Fin k0_t1_loop.trips) : Fin 3 → Nat :=
  let c0_1788 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3709 : Index := Scalar.indexCast v1388
  let c4864_1789 : Index := 4864#32
  ![0, v3709.toNat, 4864]
def k0_off197 (k0_t1 : Fin k0_t1_loop.trips) : Fin 4 → Nat :=
  let c0_1790 : Index := 0#32
  let c1_1791 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3716 : Index := Scalar.indexCast v1388
  let c4864_1792 : Index := 4864#32
  ![0, 1, v3716.toNat, 4864]
def k0_off198 (k0_t1 : Fin k0_t1_loop.trips) : Fin 3 → Nat :=
  let c1_1796 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3732 : Index := Scalar.indexCast v1388
  let c4864_1797 : Index := 4864#32
  ![1, v3732.toNat, 4864]
def k0_off199 (k0_t1 : Fin k0_t1_loop.trips) : Fin 2 → Nat :=
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3739 : Index := Scalar.indexCast v1388
  let c4992_1798 : Index := 4992#32
  ![v3739.toNat, 4992]
def k0_off200 (k0_t1 : Fin k0_t1_loop.trips) : Fin 4 → Nat :=
  let c0_1805 : Index := 0#32
  let c0_1806 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3753 : Index := Scalar.indexCast v1388
  let c4992_1807 : Index := 4992#32
  ![0, 0, v3753.toNat, 4992]
def k0_off201 (k0_t1 : Fin k0_t1_loop.trips) : Fin 3 → Nat :=
  let c0_1811 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3769 : Index := Scalar.indexCast v1388
  let c4992_1812 : Index := 4992#32
  ![0, v3769.toNat, 4992]
def k0_off202 (k0_t1 : Fin k0_t1_loop.trips) : Fin 4 → Nat :=
  let c0_1813 : Index := 0#32
  let c1_1814 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3776 : Index := Scalar.indexCast v1388
  let c4992_1815 : Index := 4992#32
  ![0, 1, v3776.toNat, 4992]
def k0_off203 (k0_t1 : Fin k0_t1_loop.trips) : Fin 3 → Nat :=
  let c1_1819 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3792 : Index := Scalar.indexCast v1388
  let c4992_1820 : Index := 4992#32
  ![1, v3792.toNat, 4992]
def k0_off204 (k0_t1 : Fin k0_t1_loop.trips) : Fin 4 → Nat :=
  let c0_1821 : Index := 0#32
  let c0_1822 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3799 : Index := Scalar.indexCast v1388
  let c0_1823 : Index := 0#32
  ![0, 0, v3799.toNat, 0]
def k0_off205 (k0_t1 : Fin k0_t1_loop.trips) : Fin 4 → Nat :=
  let c1_1824 : Index := 1#32
  let c0_1825 : Index := 0#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3803 : Index := Scalar.indexCast v1388
  let c0_1826 : Index := 0#32
  ![1, 0, v3803.toNat, 0]
def k0_off206 (k0_t1 : Fin k0_t1_loop.trips) : Fin 4 → Nat :=
  let c0_1827 : Index := 0#32
  let c1_1828 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3807 : Index := Scalar.indexCast v1388
  let c0_1829 : Index := 0#32
  ![0, 1, v3807.toNat, 0]
def k0_off207 (k0_t1 : Fin k0_t1_loop.trips) : Fin 4 → Nat :=
  let c1_1830 : Index := 1#32
  let c1_1831 : Index := 1#32
  let c0_i32_30 : BitVec 32 := 0#32
  let c1_i32 : BitVec 32 := 1#32
  let arg28 : BitVec 32 := Scf.iv c0_i32_30 c1_i32 k0_t1
  let c32_i32 : BitVec 32 := 32#32
  let v1387 : BitVec 32 := Scalar.muli arg28 c32_i32
  let v1388 : BitVec 32 := v1387
  let v3811 : Index := Scalar.indexCast v1388
  let c0_1832 : Index := 0#32
  ![1, 1, v3811.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x128x5120 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x40x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x5120 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x40x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x5120 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S64x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x2x128x5120 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S4x16x3x60x104 : Shape := ⟨5, ![4, 16, 3, 60, 104]⟩
abbrev S_ : Shape := ⟨0, ![]⟩
abbrev S64x5120 : Shape := ⟨2, ![64, 5120]⟩
abbrev S5120 : Shape := ⟨1, ![5120]⟩
abbrev S4x2x4680x5120 : Shape := ⟨4, ![4, 2, 4680, 5120]⟩
abbrev S4x2x4680x40 : Shape := ⟨4, ![4, 2, 4680, 40]⟩
abbrev S4 : Shape := ⟨1, ![4]⟩
abbrev S4x5120 : Shape := ⟨2, ![4, 5120]⟩
abbrev S5120x64 : Shape := ⟨2, ![5120, 64]⟩
abbrev S64 : Shape := ⟨1, ![64]⟩
abbrev S4x16x3x30x2x52x2 : Shape := ⟨7, ![4, 16, 3, 30, 2, 52, 2]⟩
abbrev S4x3x30x52x16x2x2 : Shape := ⟨7, ![4, 3, 30, 52, 16, 2, 2]⟩
abbrev S4x4680x64 : Shape := ⟨3, ![4, 4680, 64]⟩
abbrev S1x1 : Shape := ⟨2, ![1, 1]⟩
abbrev S1x5120 : Shape := ⟨2, ![1, 5120]⟩
abbrev S4x2x4680x40x128 : Shape := ⟨5, ![4, 2, 4680, 40, 128]⟩
abbrev S4x2x4680x40x1 : Shape := ⟨5, ![4, 2, 4680, 40, 1]⟩
abbrev S4x1x1x1 : Shape := ⟨4, ![4, 1, 1, 1]⟩
abbrev S4x1x1x5120 : Shape := ⟨4, ![4, 1, 1, 5120]⟩
abbrev S1x64 : Shape := ⟨2, ![1, 64]⟩
abbrev S4x2x4680x1 : Shape := ⟨4, ![4, 2, 4680, 1]⟩
abbrev S4x2x4680x64 : Shape := ⟨4, ![4, 2, 4680, 64]⟩
abbrev S4x4680x1 : Shape := ⟨3, ![4, 4680, 1]⟩
abbrev S18720x64 : Shape := ⟨2, ![18720, 64]⟩
abbrev S18720x5120 : Shape := ⟨2, ![18720, 5120]⟩
abbrev S4x1x4680x5120 : Shape := ⟨4, ![4, 1, 4680, 5120]⟩
abbrev S4x2x4680 : Shape := ⟨3, ![4, 2, 4680]⟩
abbrev S37440x5120 : Shape := ⟨2, ![37440, 5120]⟩
abbrev S37440x64 : Shape := ⟨2, ![37440, 64]⟩
abbrev S1x1x1x64 : Shape := ⟨4, ![1, 1, 1, 64]⟩
abbrev S4x1x4680x64 : Shape := ⟨4, ![4, 1, 4680, 64]⟩
abbrev S4x4680 : Shape := ⟨2, ![4, 4680]⟩
abbrev S4x2x1x4680 : Shape := ⟨4, ![4, 2, 1, 4680]⟩
abbrev S4x2x64x4680 : Shape := ⟨4, ![4, 2, 64, 4680]⟩
abbrev S4x1x4680 : Shape := ⟨3, ![4, 1, 4680]⟩
abbrev S4x64x4680 : Shape := ⟨3, ![4, 64, 4680]⟩

abbrev nBuf : Space → Nat
  | .hbm => 62
  | .vmem => 18
  | .smem => 0
  | _ => 0

abbrev bufTy : (tb : Table) → Fin (tcTables nBuf tb) → BufTy
  | .hbm, ⟨0, _⟩ => ⟨S4x16x3x60x104, .f32⟩
  | .hbm, ⟨1, _⟩ => ⟨S_, .f32⟩
  | .hbm, ⟨2, _⟩ => ⟨S64x5120, .f32⟩
  | .hbm, ⟨3, _⟩ => ⟨S5120, .f32⟩
  | .hbm, ⟨4, _⟩ => ⟨S5120, .f32⟩
  | .hbm, ⟨5, _⟩ => ⟨S4x2x4680x5120, .i8⟩
  | .hbm, ⟨6, _⟩ => ⟨S4x2x4680x40, .f32⟩
  | .hbm, ⟨7, _⟩ => ⟨S4x2x4680x5120, .i8⟩
  | .hbm, ⟨8, _⟩ => ⟨S4x2x4680x40, .f32⟩
  | .hbm, ⟨9, _⟩ => ⟨S4, .f32⟩
  | .hbm, ⟨10, _⟩ => ⟨S4x5120, .f32⟩
  | .hbm, ⟨11, _⟩ => ⟨S4x5120, .f32⟩
  | .hbm, ⟨12, _⟩ => ⟨S5120x64, .fp8e4m3⟩
  | .hbm, ⟨13, _⟩ => ⟨S64, .f32⟩
  | .hbm, ⟨14, _⟩ => ⟨S64, .f32⟩
  | .hbm, ⟨15, _⟩ => ⟨S4x16x3x30x2x52x2, .f32⟩
  | .hbm, ⟨16, _⟩ => ⟨S4x3x30x52x16x2x2, .f32⟩
  | .hbm, ⟨17, _⟩ => ⟨S4x4680x64, .f32⟩
  | .hbm, ⟨18, _⟩ => ⟨S4x4680x64, .f32⟩
  | .hbm, ⟨19, _⟩ => ⟨S4x4680x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4680x64, .f32⟩
  | .hbm, ⟨24, _⟩ => ⟨S4x4680x64, .f32⟩
  | .hbm, ⟨25, _⟩ => ⟨S_, .f32⟩
  | .hbm, ⟨26, _⟩ => ⟨S4x4680x64, .f32⟩
  | .hbm, ⟨27, _⟩ => ⟨S4x4680x64, .f32⟩
  | .hbm, ⟨28, _⟩ => ⟨S4x4680x64, .fp8e4m3⟩
  | .hbm, ⟨29, _⟩ => ⟨S1x1, .f32⟩
  | .hbm, ⟨30, _⟩ => ⟨S64x5120, .fp8e4m3⟩
  | .hbm, ⟨31, _⟩ => ⟨S1x5120, .f32⟩
  | .hbm, ⟨32, _⟩ => ⟨S1x5120, .f32⟩
  | .hbm, ⟨33, _⟩ => ⟨S4x2x4680x5120, .i32⟩
  | .hbm, ⟨34, _⟩ => ⟨S4x2x4680x5120, .f32⟩
  | .hbm, ⟨35, _⟩ => ⟨S4x2x4680x40x128, .f32⟩
  | .hbm, ⟨36, _⟩ => ⟨S4x2x4680x40x1, .f32⟩
  | .hbm, ⟨37, _⟩ => ⟨S4x2x4680x40x128, .f32⟩
  | .hbm, ⟨38, _⟩ => ⟨S4x2x4680x40x128, .f32⟩
  | .hbm, ⟨39, _⟩ => ⟨S4x2x4680x5120, .f32⟩
  | .hbm, ⟨40, _⟩ => ⟨S4x2x4680x5120, .i32⟩
  | .hbm, ⟨41, _⟩ => ⟨S4x2x4680x5120, .f32⟩
  | .hbm, ⟨42, _⟩ => ⟨S4x2x4680x40x128, .f32⟩
  | .hbm, ⟨43, _⟩ => ⟨S4x2x4680x40x1, .f32⟩
  | .hbm, ⟨44, _⟩ => ⟨S4x2x4680x40x128, .f32⟩
  | .hbm, ⟨45, _⟩ => ⟨S4x2x4680x40x128, .f32⟩
  | .hbm, ⟨46, _⟩ => ⟨S4x2x4680x5120, .f32⟩
  | .hbm, ⟨47, _⟩ => ⟨S4x1x1x1, .f32⟩
  | .hbm, ⟨48, _⟩ => ⟨S4x1x1x5120, .f32⟩
  | .hbm, ⟨49, _⟩ => ⟨S4x1x1x5120, .f32⟩
  | .hbm, ⟨50, _⟩ => ⟨S1x64, .f32⟩
  | .hbm, ⟨51, _⟩ => ⟨S1x64, .f32⟩
  | .hbm, ⟨52, _⟩ => ⟨S4x2x4680x5120, .fp8e4m3⟩
  | .hbm, ⟨53, _⟩ => ⟨S4x2x4680x1, .f32⟩
  | .hbm, ⟨54, _⟩ => ⟨S4x2x4680x64, .f32⟩
  | .hbm, ⟨55, _⟩ => ⟨S4x4680x1, .f32⟩
  | .hbm, ⟨56, _⟩ => ⟨S4x4680x1, .f32⟩
  | .hbm, ⟨57, _⟩ => ⟨S4x2x1x4680, .f32⟩
  | .hbm, ⟨58, _⟩ => ⟨S4x2x64x4680, .f32⟩
  | .hbm, ⟨59, _⟩ => ⟨S4x1x4680, .f32⟩
  | .hbm, ⟨60, _⟩ => ⟨S4x1x4680, .f32⟩
  | .hbm, ⟨61, _⟩ => ⟨S4x64x4680, .fp8e4m3⟩
  | .local _ .vmem, ⟨0, _⟩ => ⟨S4x4680x64, .fp8e4m3⟩
  | .local _ .vmem, ⟨1, _⟩ => ⟨S1x1, .f32⟩
  | .local _ .vmem, ⟨2, _⟩ => ⟨S64x5120, .fp8e4m3⟩
  | .local _ .vmem, ⟨3, _⟩ => ⟨S1x5120, .f32⟩
  | .local _ .vmem, ⟨4, _⟩ => ⟨S1x5120, .f32⟩
  | .local _ .vmem, ⟨5, _⟩ => ⟨S4x2x4680x5120, .f32⟩
  | .local _ .vmem, ⟨6, _⟩ => ⟨S4x2x4680x5120, .f32⟩
  | .local _ .vmem, ⟨7, _⟩ => ⟨S4x1x1x1, .f32⟩
  | .local _ .vmem, ⟨8, _⟩ => ⟨S4x1x1x5120, .f32⟩
  | .local _ .vmem, ⟨9, _⟩ => ⟨S4x1x1x5120, .f32⟩
  | .local _ .vmem, ⟨10, _⟩ => ⟨S5120x64, .fp8e4m3⟩
  | .local _ .vmem, ⟨11, _⟩ => ⟨S1x64, .f32⟩
  | .local _ .vmem, ⟨12, _⟩ => ⟨S1x64, .f32⟩
  | .local _ .vmem, ⟨13, _⟩ => ⟨S4x2x4680x5120, .fp8e4m3⟩
  | .local _ .vmem, ⟨14, _⟩ => ⟨S4x2x4680x1, .f32⟩
  | .local _ .vmem, ⟨15, _⟩ => ⟨S4x2x4680x64, .f32⟩
  | .local _ .vmem, ⟨16, _⟩ => ⟨S4x4680x1, .f32⟩
  | .local _ .vmem, ⟨17, _⟩ => ⟨S4x4680x1, .f32⟩
  | _, _ => ⟨S4x16x3x60x104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v30_3 : Ref sig .tc := ⟨.hbm, 55, rfl⟩
abbrev main_v30_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S4x4680x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2x4680x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2x4680x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x1x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x2x4680x5120 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x2x4680x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x2x4680x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x4680x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x4680x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.KernelRunA.lean ====
/- The kernel body run once, at a first point of a batch, from any buffer contents. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The body's one branch: taken at the first point of each batch. -/
abbrev first (i : grid0.Coords) : Prop := (Scalar.cmpi .ne (Scalar.extui (Scalar.cmpi .eq (BitVec.ofNat 32 (i 1).val) 0#32)) 0#32) = 1#1

set_option maxHeartbeats 4000000 in
/-- The body runs to its end from any contents of its buffers, the branch taken. -/
theorem body_any_A (c : Dev nD) (i : grid0.Coords) (arg2 : Memref sig .tc .smem S4 .f32) (harg2 : arg2.IsWhole) (arg3 : Memref sig .tc .smem S1 .f32) (harg3 : arg3.IsWhole) (arg4 : Memref sig .tc .vmem S1x64x128 .fp8e4m3) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x2x128x5120 .i8) (harg8 : arg8.IsWhole) (arg9 : Memref sig .tc .vmem S1x2x40x128 .f32) (harg9 : arg9.IsWhole) (arg10 : Memref sig .tc .vmem S1x2x128x5120 .i8) (harg10 : arg10.IsWhole) (arg11 : Memref sig .tc .vmem S1x2x40x128 .f32) (harg11 : arg11.IsWhole) (arg12 : Memref sig .tc .vmem S1x1x5120 .f32) (harg12 : arg12.IsWhole) (arg13 : Memref sig .tc .vmem S1x1x5120 .f32) (harg13 : arg13.IsWhole) (arg14 : Memref sig .tc .vmem S64x5120 .fp8e4m3) (harg14 : arg14.IsWhole) (arg15 : Memref sig .tc .vmem S64x1 .f32) (harg15 : arg15.IsWhole) (arg16 : Memref sig .tc .vmem S64x1 .f32) (harg16 : arg16.IsWhole) (arg17 : Memref sig .tc .vmem S1x2x128x5120 .fp8e4m3) (harg17 : arg17.IsWhole) (arg18 : Memref sig .tc .vmem S1x2x1x128 .f32) (harg18 : arg18.IsWhole) (arg19 : Memref sig .tc .vmem S1x2x64x128 .f32) (harg19 : arg19.IsWhole) (arg20 : Memref sig .tc .vmem S1x1x128 .f32) (harg20 : arg20.IsWhole) (arg21 : Memref sig .tc .vmem S1x1x128 .f32) (harg21 : arg21.IsWhole) (arg22 : Memref sig .tc .vmem S2x128x5120 .f32) (harg22 : arg22.IsWhole) (arg23 : Memref sig .tc .vmem S128x5120 .f32) (harg23 : arg23.IsWhole) (arg24 : Memref sig .tc .vmem S2x128x128 .f32) (harg24 : arg24.IsWhole) (arg25 : Memref sig .tc .vmem S3x8x5120 .f32) (harg25 : arg25.IsWhole) (arg26 : Memref sig .tc .vmem S16x5120 .bf16) (harg26 : arg26.IsWhole) (arg27 : Memref sig .tc .vmem S2x2x128x128 .f32) (harg27 : arg27.IsWhole)
    (hc0 : first i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_head_eq_skeleton]; unfold cc0_head_skel
  simp only [k0_part60_eq_skeleton, k0_part1_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  sl_exec (disch := first | sl_exact hc0)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  iexists _, _; isplitr; swap; · iexact H27
  ipureintro; rfl

end Cert.Kernel.Hand

end
-- ==== Proof.KernelRunB.lean ====
/- The kernel body run once, at a later point of a batch, from any buffer contents. -/
module

public import proofs.«01_k».proof.Proof.Gen.Kernel.Frame
public import proofs.«01_k».proof.Proof.Gen.Kernel.Skeleton
public import proofs.«01_k».proof.Proof.Gen.Kernel.Loops
public import proofs.«01_k».proof.Proof.KernelRunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body runs to its end from any contents of its buffers, the branch not taken. -/
theorem body_any_B (c : Dev nD) (i : grid0.Coords) (arg2 : Memref sig .tc .smem S4 .f32) (harg2 : arg2.IsWhole) (arg3 : Memref sig .tc .smem S1 .f32) (harg3 : arg3.IsWhole) (arg4 : Memref sig .tc .vmem S1x64x128 .fp8e4m3) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x2x128x5120 .i8) (harg8 : arg8.IsWhole) (arg9 : Memref sig .tc .vmem S1x2x40x128 .f32) (harg9 : arg9.IsWhole) (arg10 : Memref sig .tc .vmem S1x2x128x5120 .i8) (harg10 : arg10.IsWhole) (arg11 : Memref sig .tc .vmem S1x2x40x128 .f32) (harg11 : arg11.IsWhole) (arg12 : Memref sig .tc .vmem S1x1x5120 .f32) (harg12 : arg12.IsWhole) (arg13 : Memref sig .tc .vmem S1x1x5120 .f32) (harg13 : arg13.IsWhole) (arg14 : Memref sig .tc .vmem S64x5120 .fp8e4m3) (harg14 : arg14.IsWhole) (arg15 : Memref sig .tc .vmem S64x1 .f32) (harg15 : arg15.IsWhole) (arg16 : Memref sig .tc .vmem S64x1 .f32) (harg16 : arg16.IsWhole) (arg17 : Memref sig .tc .vmem S1x2x128x5120 .fp8e4m3) (harg17 : arg17.IsWhole) (arg18 : Memref sig .tc .vmem S1x2x1x128 .f32) (harg18 : arg18.IsWhole) (arg19 : Memref sig .tc .vmem S1x2x64x128 .f32) (harg19 : arg19.IsWhole) (arg20 : Memref sig .tc .vmem S1x1x128 .f32) (harg20 : arg20.IsWhole) (arg21 : Memref sig .tc .vmem S1x1x128 .f32) (harg21 : arg21.IsWhole) (arg22 : Memref sig .tc .vmem S2x128x5120 .f32) (harg22 : arg22.IsWhole) (arg23 : Memref sig .tc .vmem S128x5120 .f32) (harg23 : arg23.IsWhole) (arg24 : Memref sig .tc .vmem S2x128x128 .f32) (harg24 : arg24.IsWhole) (arg25 : Memref sig .tc .vmem S3x8x5120 .f32) (harg25 : arg25.IsWhole) (arg26 : Memref sig .tc .vmem S16x5120 .bf16) (harg26 : arg26.IsWhole) (arg27 : Memref sig .tc .vmem S2x2x128x128 .f32) (harg27 : arg27.IsWhole)
    (hc0 : ¬first i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_head_eq_skeleton]; unfold cc0_head_skel
  simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  sl_exec (disch := first | sl_exact hc0)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  iexists _, _; isplitr; swap; · iexact H27
  ipureintro; rfl

end Cert.Kernel.Hand

end
-- ==== Proof.KernelFrame.lean ====
/- The frame: the argument arrays end as launched, every counter at zero. -/
module

public import proofs.«01_k».proof.Proof.Gen.Kernel.Frame
public import proofs.«01_k».proof.Proof.Gen.Kernel.Skeleton
public import proofs.«01_k».proof.Proof.Gen.Kernel.Loops
public import proofs.«01_k».proof.Proof.KernelRunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is decided at every point. -/
theorem first_or (i : grid0.Coords) : first i ∨ ¬ first i := Classical.em _

/-- The launch's invariant with the scratch operands as memrefs. -/
theorem rest_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Proof data for the frame: the arrays as the region finds them; nothing is said of any staging buffer. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by
  dsimp only [fdats]

/-- Every window's contents are left unnamed. -/
def forgets : Fin cfg0.W → Bool := fun _ => true

set_option maxHeartbeats 4000000 in
/-- The body at any point, from any contents. -/
theorem sound_any (c : Dev nD) (t : Fin cfg0.N) :
    iprop((Pipeline.ΦA spec0 c : sProp 𝕄) ∗ (fdats m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))
      ⊢ wp frame (wpE (defs₀ (F := F)) Variants.none c none) Set.univ (bodyAt0 t)
          (fun _ => iprop((Pipeline.ΦA spec0 c : sProp 𝕄) ∗ (fdats m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))) := by
  unfold bodyAt0
  rw [show (fdats m 0 c).owesAt () t.succ = (fdats m 0 c).owesAt () t.castSucc from rfl, rest_eq]
  rcases first_or (grid0.coords t) with h | h
  · iintro ⟨⟨⟨S0, S1, S2, S3, S4, S5⟩, Hg⟩, Ho, H0, H1, H2, H3, H4, H5, H6, H7, H8, H9, H10, H11, H12, H13, H14, H15, H16, H17, H18, H19⟩
    iapply (body_any_A c (grid0.coords t) _ _ _ _ _ _ _ _ _ _ _ _ _ _ _ _ _ _ _ _ _ _ _ _ _ _ _ _ _ _ _ _ _ _ _ _ _ _ _ _ _ _ _ _ _ _ _ _ _ _ _ _ h Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, H14, H15, H16, H17, H18, H19, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨S0, S1, S2, S3, S4, S5⟩, Hg⟩, Ho, H0, H1, H2, H3, H4, H5, H6, H7, H8, H9, H10, H11, H12, H13, H14, H15, H16, H17, H18, H19⟩
    iapply (body_any_B c (grid0.coords t) _ _ _ _ _ _ _ _ _ _ _ _ _ _ _ _ _ _ _ _ _ _ _ _ _ _ _ _ _ _ _ _ _ _ _ _ _ _ _ _ _ _ _ _ _ _ _ _ _ _ _ _ h Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, H14, H15, H16, H17, H18, H19, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (fdats (F := F) m 0 c) (defs₀ (F := F)) Variants.none () Set.univ forgets := fun t => by
  rw [bigSep_W0, bigSep_W0, body_row]
  exact triple_restated (sound_any m c t) rfl .rfl fun _ => .rfl

set_option backward.isDefEq.respectTransparency.types false in
/-- The launch: every argument array of the pipeline unchanged, and every semaphore counter at zero. -/
theorem run_frame : θ_run defs (onTc (τ := τ) (main (F := F))) (s₀ m ρ) (fun r => (Pipeline.RDat.FramePost (cfgs 0) (fun c => (fdats m 0 c).toRForget forgets) (V m)) r ∧ r.2.sem = fun _ => 0) :=
  Pipeline.θ_run_frame_forget (Q' := _) cfgs (fdats m) (0 : Fin 1) launch0 defs₀ Variants.none forgets m ρ main
    (hbody := fun c => (body_obligation m c).loose) (hshare := fun c => (fdats m 0 c).share_full fun _ => rfl)
    (howed := fun _ _ => rfl) (V := V m) (hmain := hmain m Variants.none) (hA := fA_eq m) (hΦ := fun _ _ => rfl)

/-- The argument arrays end as they were launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ hh => ⟨fun c => ⟨((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      ((hh.1 c).2 main_arg4 (Pipeline.mem_restRefs_of main_arg4 (by decide) (by decide))).trans (V_main_arg4 m c),
      (Pipeline.RDat.FramePost.arr_in hh.1 c 6 rfl).trans ((fA_eq m c 6).trans (V_main_arg5 m c)),
      ((hh.1 c).2 main_arg6 (Pipeline.mem_restRefs_of main_arg6 (by decide) (by decide))).trans (V_main_arg6 m c),
      (Pipeline.RDat.FramePost.arr_in hh.1 c 8 rfl).trans ((fA_eq m c 8).trans (V_main_arg7 m c)),
      ((hh.1 c).2 main_arg8 (Pipeline.mem_restRefs_of main_arg8 (by decide) (by decide))).trans (V_main_arg8 m c),
      (Pipeline.RDat.FramePost.arr_in hh.1 c 0 rfl).trans ((fA_eq m c 0).trans (V_main_arg9 m c)),
      ((hh.1 c).2 main_arg10 (Pipeline.mem_restRefs_of main_arg10 (by decide) (by decide))).trans (V_main_arg10 m c),
      ((hh.1 c).2 main_arg11 (Pipeline.mem_restRefs_of main_arg11 (by decide) (by decide))).trans (V_main_arg11 m c),
      ((hh.1 c).2 main_arg12 (Pipeline.mem_restRefs_of main_arg12 (by decide) (by decide))).trans (V_main_arg12 m c),
      ((hh.1 c).2 main_arg13 (Pipeline.mem_restRefs_of main_arg13 (by decide) (by decide))).trans (V_main_arg13 m c),
      ((hh.1 c).2 main_arg14 (Pipeline.mem_restRefs_of main_arg14 (by decide) (by decide))).trans (V_main_arg14 m c)⟩, hh.2⟩) (run_frame m ρ)

end Cert.Kernel.Hand

end
-- ==== Proof.KernelIdealRunA.lean ====
/- The kernel body run once, at a first point of a batch, from any buffer contents. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's one branch: taken at the first point of each batch. -/
abbrev first (i : grid0.Coords) : Prop := (Scalar.cmpi .ne (Scalar.extui (Scalar.cmpi .eq (BitVec.ofNat 32 (i 1).val) 0#32)) 0#32) = 1#1

set_option maxHeartbeats 4000000 in
/-- The body runs to its end from any contents of its buffers, the branch taken. -/
theorem body_any_A (c : Dev nD) (i : grid0.Coords) (arg2 : Memref sig .tc .smem S4 .f32) (harg2 : arg2.IsWhole) (arg3 : Memref sig .tc .smem S1 .f32) (harg3 : arg3.IsWhole) (arg4 : Memref sig .tc .vmem S1x64x128 .fp8e4m3) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x2x128x5120 .i8) (harg8 : arg8.IsWhole) (arg9 : Memref sig .tc .vmem S1x2x40x128 .f32) (harg9 : arg9.IsWhole) (arg10 : Memref sig .tc .vmem S1x2x128x5120 .i8) (harg10 : arg10.IsWhole) (arg11 : Memref sig .tc .vmem S1x2x40x128 .f32) (harg11 : arg11.IsWhole) (arg12 : Memref sig .tc .vmem S1x1x5120 .f32) (harg12 : arg12.IsWhole) (arg13 : Memref sig .tc .vmem S1x1x5120 .f32) (harg13 : arg13.IsWhole) (arg14 : Memref sig .tc .vmem S64x5120 .fp8e4m3) (harg14 : arg14.IsWhole) (arg15 : Memref sig .tc .vmem S64x1 .f32) (harg15 : arg15.IsWhole) (arg16 : Memref sig .tc .vmem S64x1 .f32) (harg16 : arg16.IsWhole) (arg17 : Memref sig .tc .vmem S1x2x128x5120 .fp8e4m3) (harg17 : arg17.IsWhole) (arg18 : Memref sig .tc .vmem S1x2x1x128 .f32) (harg18 : arg18.IsWhole) (arg19 : Memref sig .tc .vmem S1x2x64x128 .f32) (harg19 : arg19.IsWhole) (arg20 : Memref sig .tc .vmem S1x1x128 .f32) (harg20 : arg20.IsWhole) (arg21 : Memref sig .tc .vmem S1x1x128 .f32) (harg21 : arg21.IsWhole) (arg22 : Memref sig .tc .vmem S2x128x5120 .f32) (harg22 : arg22.IsWhole) (arg23 : Memref sig .tc .vmem S128x5120 .f32) (harg23 : arg23.IsWhole) (arg24 : Memref sig .tc .vmem S2x128x128 .f32) (harg24 : arg24.IsWhole) (arg25 : Memref sig .tc .vmem S3x8x5120 .f32) (harg25 : arg25.IsWhole) (arg26 : Memref sig .tc .vmem S16x5120 .bf16) (harg26 : arg26.IsWhole) (arg27 : Memref sig .tc .vmem S2x2x128x128 .f32) (harg27 : arg27.IsWhole)
    (hc0 : first i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_head_eq_skeleton]; unfold cc0_head_skel
  simp only [k0_part60_eq_skeleton, k0_part1_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  sl_exec (disch := first | sl_exact hc0)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  iexists _, _; isplitr; swap; · iexact H27
  ipureintro; rfl

end Cert.KernelIdeal.Hand

end
-- ==== Proof.KernelIdealRunB.lean ====
/- The kernel body run once, at a later point of a batch, from any buffer contents. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealRunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body runs to its end from any contents of its buffers, the branch not taken. -/
theorem body_any_B (c : Dev nD) (i : grid0.Coords) (arg2 : Memref sig .tc .smem S4 .f32) (harg2 : arg2.IsWhole) (arg3 : Memref sig .tc .smem S1 .f32) (harg3 : arg3.IsWhole) (arg4 : Memref sig .tc .vmem S1x64x128 .fp8e4m3) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x2x128x5120 .i8) (harg8 : arg8.IsWhole) (arg9 : Memref sig .tc .vmem S1x2x40x128 .f32) (harg9 : arg9.IsWhole) (arg10 : Memref sig .tc .vmem S1x2x128x5120 .i8) (harg10 : arg10.IsWhole) (arg11 : Memref sig .tc .vmem S1x2x40x128 .f32) (harg11 : arg11.IsWhole) (arg12 : Memref sig .tc .vmem S1x1x5120 .f32) (harg12 : arg12.IsWhole) (arg13 : Memref sig .tc .vmem S1x1x5120 .f32) (harg13 : arg13.IsWhole) (arg14 : Memref sig .tc .vmem S64x5120 .fp8e4m3) (harg14 : arg14.IsWhole) (arg15 : Memref sig .tc .vmem S64x1 .f32) (harg15 : arg15.IsWhole) (arg16 : Memref sig .tc .vmem S64x1 .f32) (harg16 : arg16.IsWhole) (arg17 : Memref sig .tc .vmem S1x2x128x5120 .fp8e4m3) (harg17 : arg17.IsWhole) (arg18 : Memref sig .tc .vmem S1x2x1x128 .f32) (harg18 : arg18.IsWhole) (arg19 : Memref sig .tc .vmem S1x2x64x128 .f32) (harg19 : arg19.IsWhole) (arg20 : Memref sig .tc .vmem S1x1x128 .f32) (harg20 : arg20.IsWhole) (arg21 : Memref sig .tc .vmem S1x1x128 .f32) (harg21 : arg21.IsWhole) (arg22 : Memref sig .tc .vmem S2x128x5120 .f32) (harg22 : arg22.IsWhole) (arg23 : Memref sig .tc .vmem S128x5120 .f32) (harg23 : arg23.IsWhole) (arg24 : Memref sig .tc .vmem S2x128x128 .f32) (harg24 : arg24.IsWhole) (arg25 : Memref sig .tc .vmem S3x8x5120 .f32) (harg25 : arg25.IsWhole) (arg26 : Memref sig .tc .vmem S16x5120 .bf16) (harg26 : arg26.IsWhole) (arg27 : Memref sig .tc .vmem S2x2x128x128 .f32) (harg27 : arg27.IsWhole)
    (hc0 : ¬first i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc0_head i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_head_eq_skeleton]; unfold cc0_head_skel
  simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  sl_exec (disch := first | sl_exact hc0)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _, _; isplitr; swap; · iexact H26
    ipureintro; rfl
  iexists _, _; isplitr; swap; · iexact H27
  ipureintro; rfl

end Cert.KernelIdeal.Hand

end
-- ==== Proof.KernelIdealFrame.lean ====
/- The frame: the argument arrays end as launched, every counter at zero. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealRunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The branch is decided at every point. -/
theorem first_or (i : grid0.Coords) : first i ∨ ¬ first i := Classical.em _

/-- The launch's invariant with the scratch operands as memrefs. -/
theorem rest_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- Proof data for the frame: the arrays as the region finds them; nothing is said of any staging buffer. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by
  dsimp only [fdats]

/-- Every window's contents are left unnamed. -/
def forgets : Fin cfg0.W → Bool := fun _ => true

set_option maxHeartbeats 4000000 in
/-- The body at any point, from any contents. -/
theorem sound_any (c : Dev nD) (t : Fin cfg0.N) :
    iprop((Pipeline.ΦA spec0 c : sProp 𝕄) ∗ (fdats m 0 c).owesAt () t.castSucc ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))
      ⊢ wp frame (wpE (defs₀ (F := F)) Variants.none c none) Set.univ (bodyAt0 t)
          (fun _ => iprop((Pipeline.ΦA spec0 c : sProp 𝕄) ∗ (fdats m 0 c).owesAt () t.succ ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d) ∗ (∃ d, owns (c : Thread nD τ) (win0_9.stage (cfg0.slots t 9)) fullShare d) ∗ (∃ d, owns (c : Thread nD τ) (win0_10.stage (cfg0.slots t 10)) fullShare d) ∗ (∃ d, owns (c : Thread nD τ) (win0_11.stage (cfg0.slots t 11)) fullShare d) ∗ (∃ d, owns (c : Thread nD τ) (win0_12.stage (cfg0.slots t 12)) fullShare d) ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))) := by
  unfold bodyAt0
  rw [show (fdats m 0 c).owesAt () t.succ = (fdats m 0 c).owesAt () t.castSucc from rfl, rest_eq]
  rcases first_or (grid0.coords t) with h | h
  · iintro ⟨⟨⟨S0, S1, S2, S3, S4, S5⟩, Hg⟩, Ho, H0, H1, H2, H3, H4, H5, H6, H7, H8, H9, H10, H11, H12, H13, H14, H15, H16, H17, H18, H19⟩
    iapply (body_any_A c (grid0.coords t) _ _ _ _ _ _ _ _ _ _ _ _ _ _ _ _ _ _ _ _ _ _ _ _ _ _ _ _ _ _ _ _ _ _ _ _ _ _ _ _ _ _ _ _ _ _ _ _ _ _ _ _ h Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, H14, H15, H16, H17, H18, H19, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨S0, S1, S2, S3, S4, S5⟩, Hg⟩, Ho, H0, H1, H2, H3, H4, H5, H6, H7, H8, H9, H10, H11, H12, H13, H14, H15, H16, H17, H18, H19⟩
    iapply (body_any_B c (grid0.coords t) _ _ _ _ _ _ _ _ _ _ _ _ _ _ _ _ _ _ _ _ _ _ _ _ _ _ _ _ _ _ _ _ _ _ _ _ _ _ _ _ _ _ _ _ _ _ _ _ _ _ _ _ h Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, H14, H15, H16, H17, H18, H19, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (fdats (F := F) m 0 c) (defs₀ (F := F)) Variants.none () Set.univ forgets := fun t => by
  rw [bigSep_W0, bigSep_W0, body_row]
  exact triple_restated (sound_any m c t) rfl .rfl fun _ => .rfl

set_option backward.isDefEq.respectTransparency.types false in
/-- The launch: every argument array of the pipeline unchanged, and every semaphore counter at zero. -/
theorem run_frame : θ_run defs (onTc (τ := τ) (main (F := F))) (s₀ m ρ) (fun r => (Pipeline.RDat.FramePost (cfgs 0) (fun c => (fdats m 0 c).toRForget forgets) (V m)) r ∧ r.2.sem = fun _ => 0) :=
  Pipeline.θ_run_frame_forget (Q' := _) cfgs (fdats m) (0 : Fin 1) launch0 defs₀ Variants.none forgets m ρ main
    (hbody := fun c => (body_obligation m c).loose) (hshare := fun c => (fdats m 0 c).share_full fun _ => rfl)
    (howed := fun _ _ => rfl) (V := V m) (hmain := hmain m Variants.none) (hA := fA_eq m) (hΦ := fun _ _ => rfl)

/-- The argument arrays end as they were launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ hh => ⟨fun c => ⟨((hh.1 c).2 main_arg0 (Pipeline.mem_restRefs_of main_arg0 (by decide) (by decide))).trans (V_main_arg0 m c),
      ((hh.1 c).2 main_arg1 (Pipeline.mem_restRefs_of main_arg1 (by decide) (by decide))).trans (V_main_arg1 m c),
      ((hh.1 c).2 main_arg2 (Pipeline.mem_restRefs_of main_arg2 (by decide) (by decide))).trans (V_main_arg2 m c),
      ((hh.1 c).2 main_arg3 (Pipeline.mem_restRefs_of main_arg3 (by decide) (by decide))).trans (V_main_arg3 m c),
      ((hh.1 c).2 main_arg4 (Pipeline.mem_restRefs_of main_arg4 (by decide) (by decide))).trans (V_main_arg4 m c),
      (Pipeline.RDat.FramePost.arr_in hh.1 c 6 rfl).trans ((fA_eq m c 6).trans (V_main_arg5 m c)),
      ((hh.1 c).2 main_arg6 (Pipeline.mem_restRefs_of main_arg6 (by decide) (by decide))).trans (V_main_arg6 m c),
      (Pipeline.RDat.FramePost.arr_in hh.1 c 8 rfl).trans ((fA_eq m c 8).trans (V_main_arg7 m c)),
      ((hh.1 c).2 main_arg8 (Pipeline.mem_restRefs_of main_arg8 (by decide) (by decide))).trans (V_main_arg8 m c),
      (Pipeline.RDat.FramePost.arr_in hh.1 c 0 rfl).trans ((fA_eq m c 0).trans (V_main_arg9 m c)),
      ((hh.1 c).2 main_arg10 (Pipeline.mem_restRefs_of main_arg10 (by decide) (by decide))).trans (V_main_arg10 m c),
      ((hh.1 c).2 main_arg11 (Pipeline.mem_restRefs_of main_arg11 (by decide) (by decide))).trans (V_main_arg11 m c),
      ((hh.1 c).2 main_arg12 (Pipeline.mem_restRefs_of main_arg12 (by decide) (by decide))).trans (V_main_arg12 m c),
      ((hh.1 c).2 main_arg13 (Pipeline.mem_restRefs_of main_arg13 (by decide) (by decide))).trans (V_main_arg13 m c),
      ((hh.1 c).2 main_arg14 (Pipeline.mem_restRefs_of main_arg14 (by decide) (by decide))).trans (V_main_arg14 m c)⟩, hh.2⟩) (run_frame m ρ)

end Cert.KernelIdeal.Hand

end
-- ==== Proof.ValDefs.lean ====
/- What one entry of the hidden rows is, and its sums over the column groups. -/
module

public import proofs.«01_k».proof.Proof.Gen.KernelIdeal.Loops
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Column `l` of group `g`. -/
def col (g : Fin 40) (l : Fin 128) : Fin 5120 := ⟨128 * g.val + l.val, by omega⟩
/-- The group of a column. -/
def grp (d : Fin 5120) : Fin 40 := ⟨d.val / 128, by omega⟩
/-- The lane of a column. -/
def lane (d : Fin 5120) : Fin 128 := ⟨d.val % 128, by omega⟩

theorem grp_col (g : Fin 40) (l : Fin 128) : grp (col g l) = g := Fin.ext (by simp only [grp, col]; omega)
theorem lane_col (g : Fin 40) (l : Fin 128) : lane (col g l) = l := Fin.ext (by simp only [lane, col]; omega)
theorem col_eta (d : Fin 5120) : col (grp d) (lane d) = d := Fin.ext (by simp only [grp, lane, col]; omega)

theorem col0 (l : Fin 128) : col 0 l = ⟨l.val, by omega⟩ := Fin.ext (Nat.zero_add _)

theorem emb_val {s : Shape} {off size : Fin s.rank → ℕ} (inb : ∀ a, off a + size a ≤ s.size a) (x : (Rect.unit off size inb).shape.Idx) (a : Fin s.rank) :
    ((Rect.unit off size inb).emb x a).val = off a + (x a).val := by
  show off a + 1 * (x a).val = _
  rw [Nat.one_mul]

theorem emb_coord {s : Shape} {off off' size : Fin s.rank → ℕ} (inb : ∀ a, off a + size a ≤ s.size a) (h : off = off') (x : (Rect.unit off size inb).shape.Idx)
    (a : Fin s.rank) (v : ℕ) (hv : v = off' a + (x a).val) : v = ((Rect.unit off size inb).emb x a).val := by
  subst h; rw [emb_val]; exact hv

theorem trips_eq : k0_t1_loop.trips = 4 := by decide +kernel

/-- Row `r` of trip `k`. -/
def trow (k : Fin k0_t1_loop.trips) (r : Fin 32) : Fin 128 :=
  ⟨32 * k.val + r.val, by have := k.isLt; have := trips_eq; omega⟩

/-- One entry of the embedded row. -/
def eT (x23 : S128x5120.Idx → EReal) (TT : Fin 3 → Fin 5120 → EReal) (ρ : Fin 128) (d : Fin 5120) : EReal :=
  x23 (ix2 ρ d) * TT 0 d + TT 1 d

/-- One entry of the hidden row: the two dequantised residuals and the embedded row. -/
def hT (x8 x10 : S1x2x128x5120.Idx → Elt Ideal .i8) (x23 : S128x5120.Idx → EReal) (x24 : S2x128x128.Idx → EReal) (TT : Fin 3 → Fin 5120 → EReal)
    (br : Fin 2) (ρ : Fin 128) (d : Fin 5120) : EReal :=
  FloatOps.sitofp (F := Ideal) .f32 (x8 (ix4 0 br ρ d)) * x24 (ix3 br ρ ⟨(grp d).val, by omega⟩)
    + FloatOps.sitofp (F := Ideal) .f32 (x10 (ix4 0 br ρ d)) * x24 (ix3 br ρ ⟨40 + (grp d).val, by omega⟩)
    + eT x23 TT ρ d

theorem hT_col (x8 x10 : S1x2x128x5120.Idx → Elt Ideal .i8) (x23 : S128x5120.Idx → EReal) (x24 : S2x128x128.Idx → EReal) (TT : Fin 3 → Fin 5120 → EReal)
    (br : Fin 2) (ρ : Fin 128) (g : Fin 40) (l : Fin 128) :
    hT x8 x10 x23 x24 TT br ρ (col g l) = FloatOps.sitofp (F := Ideal) .f32 (x8 (ix4 0 br ρ (col g l))) * x24 (ix3 br ρ ⟨g.val, by omega⟩)
    + FloatOps.sitofp (F := Ideal) .f32 (x10 (ix4 0 br ρ (col g l))) * x24 (ix3 br ρ ⟨40 + g.val, by omega⟩)
    + eT x23 TT ρ (col g l) := by
  unfold hT; simp only [grp_col]

/-- The lane sums of the hidden rows (0) and of their squares (1). -/
def sT (x8 x10 : S1x2x128x5120.Idx → Elt Ideal .i8) (x23 : S128x5120.Idx → EReal) (x24 : S2x128x128.Idx → EReal) (TT : Fin 3 → Fin 5120 → EReal)
    (a : Fin 2) (br : Fin 2) (ρ : Fin 128) (l : Fin 128) : EReal :=
  if a = 0 then ∑ g, hT x8 x10 x23 x24 TT br ρ (col g l) else ∑ g, hT x8 x10 x23 x24 TT br ρ (col g l) * hT x8 x10 x23 x24 TT br ρ (col g l)

variable (arg8 : Memref sig .tc .vmem S1x2x128x5120 .i8) (arg10 : Memref sig .tc .vmem S1x2x128x5120 .i8) (arg23 : Memref sig .tc .vmem S128x5120 .f32) (arg24 : Memref sig .tc .vmem S2x128x128 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (TT : Fin 3 → Fin 5120 → EReal)
/-- `hT` of what the buffers hold. -/
abbrev HH := hT (View.read (Elt Ideal) arg8.view X_arg8) (View.read (Elt Ideal) arg10.view X_arg10) (View.read (Elt Ideal) arg23.view X_arg23) (View.read (Elt Ideal) arg24.view X_arg24) TT
/-- `sT` of what the buffers hold. -/
abbrev SS := sT (View.read (Elt Ideal) arg8.view X_arg8) (View.read (Elt Ideal) arg10.view X_arg10) (View.read (Elt Ideal) arg23.view X_arg23) (View.read (Elt Ideal) arg24.view X_arg24) TT

/-- The first `n` terms of a sum over the forty groups. -/
def part (f : Fin 40 → EReal) (n : ℕ) : EReal := ∑ i ∈ Finset.range n, if h : i < 40 then f ⟨i, h⟩ else 0

theorem part_zero (f : Fin 40 → EReal) : part f 0 = 0 := by simp [part]
theorem part_succ (f : Fin 40 → EReal) (n : ℕ) (h : n < 40) : part f (n + 1) = part f n + f ⟨n, h⟩ := by
  unfold part; rw [Finset.sum_range_succ, dif_pos h]
theorem part_all (f : Fin 40 → EReal) : part f 40 = ∑ i, f i := by
  unfold part; rw [Finset.sum_range]; exact Finset.sum_congr rfl fun i _ => dif_pos i.isLt

end Cert.KernelIdeal.Hand
-- ==== Proof.ValPay.lean ====
/- The vector operations of the middle of the kernel, read at one index. -/
module

public import proofs.«01_k».proof.Proof.ValDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Row `ρ` of branch `b` among the 256 rows of a block. -/
def row (b : Fin 2) (ρ : Fin 128) : Fin 256 := ⟨b.val * 128 + ρ.val, by omega⟩
/-- The first and the second half of a chunk of 256 columns. -/
def lo (l : Fin 128) : Fin 256 := ⟨l.val, by omega⟩
def hi (l : Fin 128) : Fin 256 := ⟨128 + l.val, by omega⟩
/-- The row of an eight-row table that serves row `ρ`. -/
def sub8 (b : Fin 2) (ρ : Fin 128) : Fin 8 := ⟨(b.val * 128 + ρ.val) % 8, by omega⟩

/-- The named constant one over the width of a row. -/
def invd : EReal := (Named.named κ "inv_d" 0x394CCCCD#32 : Ideal .f32)

/-- The left and right factors whose products add up to an outer product of rank one, each factor cut in three limbs. -/
def outerL (m s : EReal) : Fin 16 → EReal :=
  ![m, m, m - m, m, m - m, m - m - (m - m), s, s, s - s, s, s - s, s - s - (s - s), 0, 0, 0, 0]
def outerR (t s : EReal) : Fin 16 → EReal :=
  ![t, t - t, t, t - t - (t - t), t - t, t, s, s - s, s, s - s - (s - s), s - s, s, 0, 0, 0, 0]

/-- One entry of the modulated row from the operands of the vector operations that form it. -/
def hmv (h : Vec Ideal S2x128x128 .f32) (tb : Vec Ideal S1x8x128 .f32) (lh : FVec Ideal S256x16 .bf16) (rh : Vec Ideal S16x256 .bf16)
    (b : Fin 2) (ρ l : Fin 128) (c : Fin 256) : EReal :=
  h (ix3 b ρ l) * tb (ix3 0 (sub8 b ρ) l) + ∑ x : Fin 16, lh (ix2 (row b ρ) x) * rh (ix2 x c)

/-- The largest and the smallest code. -/
def qmax : EReal := Ideal.ofBits .f32 0x43E00000#32
def qmin : EReal := Ideal.ofBits .f32 0xC3E00000#32
def clipq (v : EReal) : EReal := min qmax (max qmin v)

/-- The largest of 128 lanes. -/
def mx (f : Fin 128 → EReal) : EReal := Finset.fold max (Ideal.ofBits .f32 0xFF800000#32) f Finset.univ
/-- The scale of a row whose largest magnitude is `a`. -/
def sclF (a : EReal) : EReal := if 0 < a then Ideal.div a qmax else 1

/-- Mean, standard deviation and its reciprocal, from the sum of a row and the sum of its squares. -/
def muF (s : EReal) : EReal := s * invd
def sdF (s q : EReal) : EReal := Ideal.sqrt (max (q * invd - muF s * muF s) 0 + Ideal.ofBits .f32 0x358637BD#32)

theorem P_h0 (lh : FVec Ideal S256x16 .bf16) (rh0 : Vec Ideal S16x256 .bf16) (tb0 : Vec Ideal S1x8x128 .f32) (h0 : Vec Ideal S2x128x128 .f32) (b : Fin 2) (ρ l : Fin 128) : ((k0_pay442 lh rh0 tb0 h0) (ix3 b ρ l) : EReal) = hmv h0 tb0 lh rh0 b ρ l (lo l) := by
  pointwise [k0_pay440, k0_pay441, k0_pay442]
  rfl

theorem P_h1 (lh : FVec Ideal S256x16 .bf16) (rh0 : Vec Ideal S16x256 .bf16) (tb1 : Vec Ideal S1x8x128 .f32) (h1 : Vec Ideal S2x128x128 .f32) (b : Fin 2) (ρ l : Fin 128) : ((k0_pay444 lh rh0 tb1 h1) (ix3 b ρ l) : EReal) = hmv h1 tb1 lh rh0 b ρ l (hi l) := by
  pointwise [k0_pay440, k0_pay443, k0_pay444]
  rfl

theorem P_h2 (lh : FVec Ideal S256x16 .bf16) (rh1 : Vec Ideal S16x256 .bf16) (tb2 : Vec Ideal S1x8x128 .f32) (h2 : Vec Ideal S2x128x128 .f32) (b : Fin 2) (ρ l : Fin 128) : ((k0_pay448 (k0_pay446 lh rh1) tb2 h2) (ix3 b ρ l) : EReal) = hmv h2 tb2 lh rh1 b ρ l (lo l) := by
  pointwise [k0_pay446, k0_pay447, k0_pay448]
  rfl

theorem P_h3 (lh : FVec Ideal S256x16 .bf16) (rh1 : Vec Ideal S16x256 .bf16) (tb3 : Vec Ideal S1x8x128 .f32) (h3 : Vec Ideal S2x128x128 .f32) (b : Fin 2) (ρ l : Fin 128) : ((k0_pay450 (k0_pay446 lh rh1) tb3 h3) (ix3 b ρ l) : EReal) = hmv h3 tb3 lh rh1 b ρ l (hi l) := by
  pointwise [k0_pay446, k0_pay449, k0_pay450]
  rfl

theorem P_h4 (lh : FVec Ideal S256x16 .bf16) (rh2 : Vec Ideal S16x256 .bf16) (tb4 : Vec Ideal S1x8x128 .f32) (h4 : Vec Ideal S2x128x128 .f32) (b : Fin 2) (ρ l : Fin 128) : ((k0_pay454 (k0_pay452 lh rh2) tb4 h4) (ix3 b ρ l) : EReal) = hmv h4 tb4 lh rh2 b ρ l (lo l) := by
  pointwise [k0_pay452, k0_pay453, k0_pay454]
  rfl

theorem P_h5 (lh : FVec Ideal S256x16 .bf16) (rh2 : Vec Ideal S16x256 .bf16) (tb5 : Vec Ideal S1x8x128 .f32) (h5 : Vec Ideal S2x128x128 .f32) (b : Fin 2) (ρ l : Fin 128) : ((k0_pay456 (k0_pay452 lh rh2) tb5 h5) (ix3 b ρ l) : EReal) = hmv h5 tb5 lh rh2 b ρ l (hi l) := by
  pointwise [k0_pay452, k0_pay455, k0_pay456]
  rfl

theorem P_h6 (lh : FVec Ideal S256x16 .bf16) (rh3 : Vec Ideal S16x256 .bf16) (tb6 : Vec Ideal S1x8x128 .f32) (h6 : Vec Ideal S2x128x128 .f32) (b : Fin 2) (ρ l : Fin 128) : ((k0_pay461 (k0_pay458 lh rh3) (k0_pay459 tb6) h6) (ix3 b ρ l) : EReal) = hmv h6 tb6 lh rh3 b ρ l (lo l) := by
  pointwise [k0_pay458, k0_pay459, k0_pay460, k0_pay461]
  rfl

theorem P_h7 (lh : FVec Ideal S256x16 .bf16) (rh3 : Vec Ideal S16x256 .bf16) (tb7 : Vec Ideal S1x8x128 .f32) (h7 : Vec Ideal S2x128x128 .f32) (b : Fin 2) (ρ l : Fin 128) : ((k0_pay463 (k0_pay458 lh rh3) tb7 h7) (ix3 b ρ l) : EReal) = hmv h7 tb7 lh rh3 b ρ l (hi l) := by
  pointwise [k0_pay458, k0_pay462, k0_pay463]
  rfl

theorem P_h8 (lh : FVec Ideal S256x16 .bf16) (rh4 : Vec Ideal S16x256 .bf16) (tb8 : Vec Ideal S1x8x128 .f32) (h8 : Vec Ideal S2x128x128 .f32) (b : Fin 2) (ρ l : Fin 128) : ((k0_pay468 (k0_pay465 lh rh4) (k0_pay466 tb8) h8) (ix3 b ρ l) : EReal) = hmv h8 tb8 lh rh4 b ρ l (lo l) := by
  pointwise [k0_pay465, k0_pay466, k0_pay467, k0_pay468]
  rfl

theorem P_h9 (lh : FVec Ideal S256x16 .bf16) (rh4 : Vec Ideal S16x256 .bf16) (tb9 : Vec Ideal S1x8x128 .f32) (h9 : Vec Ideal S2x128x128 .f32) (b : Fin 2) (ρ l : Fin 128) : ((k0_pay470 (k0_pay465 lh rh4) tb9 h9) (ix3 b ρ l) : EReal) = hmv h9 tb9 lh rh4 b ρ l (hi l) := by
  pointwise [k0_pay465, k0_pay469, k0_pay470]
  rfl

theorem P_h10 (lh : FVec Ideal S256x16 .bf16) (rh5 : Vec Ideal S16x256 .bf16) (h10 : Vec Ideal S2x128x128 .f32) (tb10 : Vec Ideal S1x8x128 .f32) (b : Fin 2) (ρ l : Fin 128) : ((k0_pay476 (k0_pay472 lh rh5) (k0_pay473 h10) (k0_pay474 tb10)) (ix3 b ρ l) : EReal) = hmv h10 tb10 lh rh5 b ρ l (lo l) := by
  pointwise [k0_pay472, k0_pay473, k0_pay474, k0_pay475, k0_pay476]
  rfl

theorem P_h11 (lh : FVec Ideal S256x16 .bf16) (rh5 : Vec Ideal S16x256 .bf16) (tb11 : Vec Ideal S1x8x128 .f32) (h11 : Vec Ideal S2x128x128 .f32) (b : Fin 2) (ρ l : Fin 128) : ((k0_pay478 (k0_pay472 lh rh5) tb11 h11) (ix3 b ρ l) : EReal) = hmv h11 tb11 lh rh5 b ρ l (hi l) := by
  pointwise [k0_pay472, k0_pay477, k0_pay478]
  rfl

theorem P_h12 (tb12 : Vec Ideal S1x8x128 .f32) (h12 : Vec Ideal S2x128x128 .f32) (lh : FVec Ideal S256x16 .bf16) (rh6 : Vec Ideal S16x256 .bf16) (b : Fin 2) (ρ l : Fin 128) : ((k0_pay484 (k0_pay481 tb12 h12) (k0_pay482 lh rh6)) (ix3 b ρ l) : EReal) = hmv h12 tb12 lh rh6 b ρ l (lo l) := by
  pointwise [k0_pay480, k0_pay481, k0_pay482, k0_pay483, k0_pay484]
  rfl

theorem P_h13 (lh : FVec Ideal S256x16 .bf16) (rh6 : Vec Ideal S16x256 .bf16) (tb13 : Vec Ideal S1x8x128 .f32) (h13 : Vec Ideal S2x128x128 .f32) (b : Fin 2) (ρ l : Fin 128) : ((k0_pay486 (k0_pay480 lh rh6) tb13 h13) (ix3 b ρ l) : EReal) = hmv h13 tb13 lh rh6 b ρ l (hi l) := by
  pointwise [k0_pay480, k0_pay485, k0_pay486]
  rfl

theorem P_h14 (lh : FVec Ideal S256x16 .bf16) (rh7 : Vec Ideal S16x256 .bf16) (tb14 : Vec Ideal S1x8x128 .f32) (h14 : Vec Ideal S2x128x128 .f32) (b : Fin 2) (ρ l : Fin 128) : ((k0_pay491 (k0_pay490 lh rh7 tb14 h14)) (ix3 b ρ l) : EReal) = hmv h14 tb14 lh rh7 b ρ l (lo l) := by
  pointwise [k0_pay488, k0_pay489, k0_pay490, k0_pay491]
  rfl

theorem P_h15 (lh : FVec Ideal S256x16 .bf16) (rh7 : Vec Ideal S16x256 .bf16) (tb15 : Vec Ideal S1x8x128 .f32) (h15 : Vec Ideal S2x128x128 .f32) (b : Fin 2) (ρ l : Fin 128) : ((k0_pay493 (k0_pay488 lh rh7) tb15 h15) (ix3 b ρ l) : EReal) = hmv h15 tb15 lh rh7 b ρ l (hi l) := by
  pointwise [k0_pay488, k0_pay492, k0_pay493]
  rfl

theorem P_h16 (lh : FVec Ideal S256x16 .bf16) (rh8 : Vec Ideal S16x256 .bf16) (tb16 : Vec Ideal S1x8x128 .f32) (h16 : Vec Ideal S2x128x128 .f32) (b : Fin 2) (ρ l : Fin 128) : ((k0_pay498 (k0_pay497 lh rh8 tb16 h16)) (ix3 b ρ l) : EReal) = hmv h16 tb16 lh rh8 b ρ l (lo l) := by
  pointwise [k0_pay495, k0_pay496, k0_pay497, k0_pay498]
  rfl

theorem P_h17 (lh : FVec Ideal S256x16 .bf16) (rh8 : Vec Ideal S16x256 .bf16) (tb17 : Vec Ideal S1x8x128 .f32) (h17 : Vec Ideal S2x128x128 .f32) (b : Fin 2) (ρ l : Fin 128) : ((k0_pay500 (k0_pay495 lh rh8) tb17 h17) (ix3 b ρ l) : EReal) = hmv h17 tb17 lh rh8 b ρ l (hi l) := by
  pointwise [k0_pay495, k0_pay499, k0_pay500]
  rfl

theorem P_h18 (lh : FVec Ideal S256x16 .bf16) (rh9 : Vec Ideal S16x256 .bf16) (tb18 : Vec Ideal S1x8x128 .f32) (h18 : Vec Ideal S2x128x128 .f32) (b : Fin 2) (ρ l : Fin 128) : ((k0_pay504 lh rh9 tb18 h18) (ix3 b ρ l) : EReal) = hmv h18 tb18 lh rh9 b ρ l (lo l) := by
  pointwise [k0_pay502, k0_pay503, k0_pay504]
  rfl

theorem P_h19 (lh : FVec Ideal S256x16 .bf16) (rh9 : Vec Ideal S16x256 .bf16) (tb19 : Vec Ideal S1x8x128 .f32) (h19 : Vec Ideal S2x128x128 .f32) (b : Fin 2) (ρ l : Fin 128) : ((k0_pay506 (k0_pay502 lh rh9) tb19 h19) (ix3 b ρ l) : EReal) = hmv h19 tb19 lh rh9 b ρ l (hi l) := by
  pointwise [k0_pay502, k0_pay505, k0_pay506]
  rfl

theorem P_h20 (lh : FVec Ideal S256x16 .bf16) (rh10 : Vec Ideal S16x256 .bf16) (tb20 : Vec Ideal S1x8x128 .f32) (h20 : Vec Ideal S2x128x128 .f32) (b : Fin 2) (ρ l : Fin 128) : ((k0_pay509 lh rh10 tb20 h20) (ix3 b ρ l) : EReal) = hmv h20 tb20 lh rh10 b ρ l (lo l) := by
  pointwise [k0_pay507, k0_pay508, k0_pay509]
  rfl

theorem P_h21 (lh : FVec Ideal S256x16 .bf16) (rh10 : Vec Ideal S16x256 .bf16) (tb21 : Vec Ideal S1x8x128 .f32) (h21 : Vec Ideal S2x128x128 .f32) (b : Fin 2) (ρ l : Fin 128) : ((k0_pay512 (k0_pay507 lh rh10) tb21 h21) (ix3 b ρ l) : EReal) = hmv h21 tb21 lh rh10 b ρ l (hi l) := by
  pointwise [k0_pay507, k0_pay511, k0_pay512]
  rfl

theorem P_h22 (lh : FVec Ideal S256x16 .bf16) (rh11 : Vec Ideal S16x256 .bf16) (tb22 : Vec Ideal S1x8x128 .f32) (h22 : Vec Ideal S2x128x128 .f32) (b : Fin 2) (ρ l : Fin 128) : ((k0_pay515 lh rh11 tb22 h22) (ix3 b ρ l) : EReal) = hmv h22 tb22 lh rh11 b ρ l (lo l) := by
  pointwise [k0_pay513, k0_pay514, k0_pay515]
  rfl

theorem P_h23 (lh : FVec Ideal S256x16 .bf16) (rh11 : Vec Ideal S16x256 .bf16) (tb23 : Vec Ideal S1x8x128 .f32) (h23 : Vec Ideal S2x128x128 .f32) (b : Fin 2) (ρ l : Fin 128) : ((k0_pay518 (k0_pay513 lh rh11) tb23 h23) (ix3 b ρ l) : EReal) = hmv h23 tb23 lh rh11 b ρ l (hi l) := by
  pointwise [k0_pay513, k0_pay517, k0_pay518]
  rfl

theorem P_h24 (lh : FVec Ideal S256x16 .bf16) (rh12 : Vec Ideal S16x256 .bf16) (tb24 : Vec Ideal S1x8x128 .f32) (h24 : Vec Ideal S2x128x128 .f32) (b : Fin 2) (ρ l : Fin 128) : ((k0_pay521 lh rh12 tb24 h24) (ix3 b ρ l) : EReal) = hmv h24 tb24 lh rh12 b ρ l (lo l) := by
  pointwise [k0_pay519, k0_pay520, k0_pay521]
  rfl

theorem P_h25 (lh : FVec Ideal S256x16 .bf16) (rh12 : Vec Ideal S16x256 .bf16) (tb25 : Vec Ideal S1x8x128 .f32) (h25 : Vec Ideal S2x128x128 .f32) (b : Fin 2) (ρ l : Fin 128) : ((k0_pay525 (k0_pay519 lh rh12) (k0_pay523 tb25) h25) (ix3 b ρ l) : EReal) = hmv h25 tb25 lh rh12 b ρ l (hi l) := by
  pointwise [k0_pay519, k0_pay523, k0_pay524, k0_pay525]
  rfl

theorem P_h26 (lh : FVec Ideal S256x16 .bf16) (rh13 : Vec Ideal S16x256 .bf16) (tb26 : Vec Ideal S1x8x128 .f32) (h26 : Vec Ideal S2x128x128 .f32) (b : Fin 2) (ρ l : Fin 128) : ((k0_pay528 lh rh13 tb26 h26) (ix3 b ρ l) : EReal) = hmv h26 tb26 lh rh13 b ρ l (lo l) := by
  pointwise [k0_pay526, k0_pay527, k0_pay528]
  rfl

theorem P_h27 (lh : FVec Ideal S256x16 .bf16) (rh13 : Vec Ideal S16x256 .bf16) (tb27 : Vec Ideal S1x8x128 .f32) (h27 : Vec Ideal S2x128x128 .f32) (b : Fin 2) (ρ l : Fin 128) : ((k0_pay532 (k0_pay526 lh rh13) (k0_pay530 tb27) h27) (ix3 b ρ l) : EReal) = hmv h27 tb27 lh rh13 b ρ l (hi l) := by
  pointwise [k0_pay526, k0_pay530, k0_pay531, k0_pay532]
  rfl

theorem P_h28 (lh : FVec Ideal S256x16 .bf16) (rh14 : Vec Ideal S16x256 .bf16) (tb28 : Vec Ideal S1x8x128 .f32) (h28 : Vec Ideal S2x128x128 .f32) (b : Fin 2) (ρ l : Fin 128) : ((k0_pay535 lh rh14 tb28 h28) (ix3 b ρ l) : EReal) = hmv h28 tb28 lh rh14 b ρ l (lo l) := by
  pointwise [k0_pay533, k0_pay534, k0_pay535]
  rfl

theorem P_h29 (lh : FVec Ideal S256x16 .bf16) (rh14 : Vec Ideal S16x256 .bf16) (tb29 : Vec Ideal S1x8x128 .f32) (h29 : Vec Ideal S2x128x128 .f32) (b : Fin 2) (ρ l : Fin 128) : ((k0_pay539 (k0_pay533 lh rh14) (k0_pay537 tb29 h29)) (ix3 b ρ l) : EReal) = hmv h29 tb29 lh rh14 b ρ l (hi l) := by
  pointwise [k0_pay533, k0_pay537, k0_pay538, k0_pay539]
  rfl

theorem P_h30 (lh : FVec Ideal S256x16 .bf16) (rh15 : Vec Ideal S16x256 .bf16) (tb30 : Vec Ideal S1x8x128 .f32) (h30 : Vec Ideal S2x128x128 .f32) (b : Fin 2) (ρ l : Fin 128) : ((k0_pay542 lh rh15 tb30 h30) (ix3 b ρ l) : EReal) = hmv h30 tb30 lh rh15 b ρ l (lo l) := by
  pointwise [k0_pay540, k0_pay541, k0_pay542]
  rfl

theorem P_h31 (lh : FVec Ideal S256x16 .bf16) (rh15 : Vec Ideal S16x256 .bf16) (tb31 : Vec Ideal S1x8x128 .f32) (h31 : Vec Ideal S2x128x128 .f32) (b : Fin 2) (ρ l : Fin 128) : ((k0_pay545 (k0_pay544 lh rh15 tb31 h31)) (ix3 b ρ l) : EReal) = hmv h31 tb31 lh rh15 b ρ l (hi l) := by
  pointwise [k0_pay540, k0_pay544, k0_pay545]
  rfl

theorem P_h32 (lh : FVec Ideal S256x16 .bf16) (rh16 : Vec Ideal S16x256 .bf16) (tb32 : Vec Ideal S1x8x128 .f32) (h32 : Vec Ideal S2x128x128 .f32) (b : Fin 2) (ρ l : Fin 128) : ((k0_pay548 lh rh16 tb32 h32) (ix3 b ρ l) : EReal) = hmv h32 tb32 lh rh16 b ρ l (lo l) := by
  pointwise [k0_pay546, k0_pay547, k0_pay548]
  rfl

theorem P_h33 (lh : FVec Ideal S256x16 .bf16) (rh16 : Vec Ideal S16x256 .bf16) (tb33 : Vec Ideal S1x8x128 .f32) (h33 : Vec Ideal S2x128x128 .f32) (b : Fin 2) (ρ l : Fin 128) : ((k0_pay552 (k0_pay551 lh rh16 tb33 h33)) (ix3 b ρ l) : EReal) = hmv h33 tb33 lh rh16 b ρ l (hi l) := by
  pointwise [k0_pay546, k0_pay550, k0_pay551, k0_pay552]
  rfl

theorem P_h34 (lh : FVec Ideal S256x16 .bf16) (rh17 : Vec Ideal S16x256 .bf16) (tb34 : Vec Ideal S1x8x128 .f32) (h34 : Vec Ideal S2x128x128 .f32) (b : Fin 2) (ρ l : Fin 128) : ((k0_pay555 lh rh17 tb34 h34) (ix3 b ρ l) : EReal) = hmv h34 tb34 lh rh17 b ρ l (lo l) := by
  pointwise [k0_pay553, k0_pay554, k0_pay555]
  rfl

theorem P_h35 (lh : FVec Ideal S256x16 .bf16) (rh17 : Vec Ideal S16x256 .bf16) (tb35 : Vec Ideal S1x8x128 .f32) (h35 : Vec Ideal S2x128x128 .f32) (b : Fin 2) (ρ l : Fin 128) : ((k0_pay559 (k0_pay558 lh rh17 tb35 h35)) (ix3 b ρ l) : EReal) = hmv h35 tb35 lh rh17 b ρ l (hi l) := by
  pointwise [k0_pay553, k0_pay557, k0_pay558, k0_pay559]
  rfl

theorem P_h36 (lh : FVec Ideal S256x16 .bf16) (rh18 : Vec Ideal S16x256 .bf16) (tb36 : Vec Ideal S1x8x128 .f32) (h36 : Vec Ideal S2x128x128 .f32) (b : Fin 2) (ρ l : Fin 128) : ((k0_pay562 lh rh18 tb36 h36) (ix3 b ρ l) : EReal) = hmv h36 tb36 lh rh18 b ρ l (lo l) := by
  pointwise [k0_pay560, k0_pay561, k0_pay562]
  rfl

theorem P_h37 (lh : FVec Ideal S256x16 .bf16) (rh18 : Vec Ideal S16x256 .bf16) (tb37 : Vec Ideal S1x8x128 .f32) (h37 : Vec Ideal S2x128x128 .f32) (b : Fin 2) (ρ l : Fin 128) : ((k0_pay565 lh rh18 tb37 h37) (ix3 b ρ l) : EReal) = hmv h37 tb37 lh rh18 b ρ l (hi l) := by
  pointwise [k0_pay560, k0_pay564, k0_pay565]
  rfl

theorem P_h38 (lh : FVec Ideal S256x16 .bf16) (rh19 : Vec Ideal S16x256 .bf16) (tb38 : Vec Ideal S1x8x128 .f32) (h38 : Vec Ideal S2x128x128 .f32) (b : Fin 2) (ρ l : Fin 128) : ((k0_pay569 lh rh19 tb38 h38) (ix3 b ρ l) : EReal) = hmv h38 tb38 lh rh19 b ρ l (lo l) := by
  pointwise [k0_pay567, k0_pay568, k0_pay569]
  rfl

theorem P_h39 (lh : FVec Ideal S256x16 .bf16) (rh19 : Vec Ideal S16x256 .bf16) (tb39 : Vec Ideal S1x8x128 .f32) (h39 : Vec Ideal S2x128x128 .f32) (b : Fin 2) (ρ l : Fin 128) : ((k0_pay571 lh rh19 tb39 h39) (ix3 b ρ l) : EReal) = hmv h39 tb39 lh rh19 b ρ l (hi l) := by
  pointwise [k0_pay567, k0_pay570, k0_pay571]
  rfl

theorem P_am0 (lh : FVec Ideal S256x16 .bf16) (rh0 : Vec Ideal S16x256 .bf16) (tb0 : Vec Ideal S1x8x128 .f32) (h0 : Vec Ideal S2x128x128 .f32) (tb1 : Vec Ideal S1x8x128 .f32) (h1 : Vec Ideal S2x128x128 .f32) (b : Fin 2) (ρ l : Fin 128) : ((k0_pay445 lh k0_pay439 rh0 tb0 h0 tb1 h1) (ix2 (row b ρ) l) : EReal) = max (max ((0 : EReal)) (FloatOps.absf (F := Ideal) (φ := .f32) (hmv h0 tb0 lh rh0 b ρ l (lo l)))) (FloatOps.absf (F := Ideal) (φ := .f32) (hmv h1 tb1 lh rh0 b ρ l (hi l))) := by
  unfold row
  pointwise [k0_pay439, k0_pay440, k0_pay441, k0_pay443, k0_pay445]
  rfl

theorem P_am1 (am : FVec Ideal S256x128 .f32) (lh : FVec Ideal S256x16 .bf16) (rh1 : Vec Ideal S16x256 .bf16) (tb2 : Vec Ideal S1x8x128 .f32) (h2 : Vec Ideal S2x128x128 .f32) (tb3 : Vec Ideal S1x8x128 .f32) (h3 : Vec Ideal S2x128x128 .f32) (b : Fin 2) (ρ l : Fin 128) : ((k0_pay451 am (k0_pay446 lh rh1) tb2 h2 tb3 h3) (ix2 (row b ρ) l) : EReal) = max (max (am (ix2 (row b ρ) l)) (FloatOps.absf (F := Ideal) (φ := .f32) (hmv h2 tb2 lh rh1 b ρ l (lo l)))) (FloatOps.absf (F := Ideal) (φ := .f32) (hmv h3 tb3 lh rh1 b ρ l (hi l))) := by
  unfold row
  pointwise [k0_pay446, k0_pay447, k0_pay449, k0_pay451]
  rfl

theorem P_am2 (am : FVec Ideal S256x128 .f32) (lh : FVec Ideal S256x16 .bf16) (rh2 : Vec Ideal S16x256 .bf16) (tb4 : Vec Ideal S1x8x128 .f32) (h4 : Vec Ideal S2x128x128 .f32) (tb5 : Vec Ideal S1x8x128 .f32) (h5 : Vec Ideal S2x128x128 .f32) (b : Fin 2) (ρ l : Fin 128) : ((k0_pay457 am (k0_pay452 lh rh2) tb4 h4 tb5 h5) (ix2 (row b ρ) l) : EReal) = max (max (am (ix2 (row b ρ) l)) (FloatOps.absf (F := Ideal) (φ := .f32) (hmv h4 tb4 lh rh2 b ρ l (lo l)))) (FloatOps.absf (F := Ideal) (φ := .f32) (hmv h5 tb5 lh rh2 b ρ l (hi l))) := by
  unfold row
  pointwise [k0_pay452, k0_pay453, k0_pay455, k0_pay457]
  rfl

theorem P_am3 (am : FVec Ideal S256x128 .f32) (lh : FVec Ideal S256x16 .bf16) (rh3 : Vec Ideal S16x256 .bf16) (tb6 : Vec Ideal S1x8x128 .f32) (h6 : Vec Ideal S2x128x128 .f32) (tb7 : Vec Ideal S1x8x128 .f32) (h7 : Vec Ideal S2x128x128 .f32) (b : Fin 2) (ρ l : Fin 128) : ((k0_pay464 am (k0_pay458 lh rh3) (k0_pay459 tb6) h6 tb7 h7) (ix2 (row b ρ) l) : EReal) = max (max (am (ix2 (row b ρ) l)) (FloatOps.absf (F := Ideal) (φ := .f32) (hmv h6 tb6 lh rh3 b ρ l (lo l)))) (FloatOps.absf (F := Ideal) (φ := .f32) (hmv h7 tb7 lh rh3 b ρ l (hi l))) := by
  unfold row
  pointwise [k0_pay458, k0_pay459, k0_pay460, k0_pay462, k0_pay464]
  rfl

theorem P_am4 (am : FVec Ideal S256x128 .f32) (lh : FVec Ideal S256x16 .bf16) (rh4 : Vec Ideal S16x256 .bf16) (tb8 : Vec Ideal S1x8x128 .f32) (h8 : Vec Ideal S2x128x128 .f32) (tb9 : Vec Ideal S1x8x128 .f32) (h9 : Vec Ideal S2x128x128 .f32) (b : Fin 2) (ρ l : Fin 128) : ((k0_pay471 am (k0_pay465 lh rh4) (k0_pay466 tb8) h8 tb9 h9) (ix2 (row b ρ) l) : EReal) = max (max (am (ix2 (row b ρ) l)) (FloatOps.absf (F := Ideal) (φ := .f32) (hmv h8 tb8 lh rh4 b ρ l (lo l)))) (FloatOps.absf (F := Ideal) (φ := .f32) (hmv h9 tb9 lh rh4 b ρ l (hi l))) := by
  unfold row
  pointwise [k0_pay465, k0_pay466, k0_pay467, k0_pay469, k0_pay471]
  rfl

theorem P_am5 (am : FVec Ideal S256x128 .f32) (lh : FVec Ideal S256x16 .bf16) (rh5 : Vec Ideal S16x256 .bf16) (h10 : Vec Ideal S2x128x128 .f32) (tb10 : Vec Ideal S1x8x128 .f32) (tb11 : Vec Ideal S1x8x128 .f32) (h11 : Vec Ideal S2x128x128 .f32) (b : Fin 2) (ρ l : Fin 128) : ((k0_pay479 am (k0_pay472 lh rh5) (k0_pay473 h10) (k0_pay474 tb10) tb11 h11) (ix2 (row b ρ) l) : EReal) = max (max (am (ix2 (row b ρ) l)) (FloatOps.absf (F := Ideal) (φ := .f32) (hmv h10 tb10 lh rh5 b ρ l (lo l)))) (FloatOps.absf (F := Ideal) (φ := .f32) (hmv h11 tb11 lh rh5 b ρ l (hi l))) := by
  unfold row
  pointwise [k0_pay472, k0_pay473, k0_pay474, k0_pay475, k0_pay477, k0_pay479]
  rfl

theorem P_am6 (am : FVec Ideal S256x128 .f32) (lh : FVec Ideal S256x16 .bf16) (rh6 : Vec Ideal S16x256 .bf16) (tb12 : Vec Ideal S1x8x128 .f32) (h12 : Vec Ideal S2x128x128 .f32) (tb13 : Vec Ideal S1x8x128 .f32) (h13 : Vec Ideal S2x128x128 .f32) (b : Fin 2) (ρ l : Fin 128) : ((k0_pay487 am (k0_pay480 lh rh6) (k0_pay481 tb12 h12) (k0_pay482 lh rh6) tb13 h13) (ix2 (row b ρ) l) : EReal) = max (max (am (ix2 (row b ρ) l)) (FloatOps.absf (F := Ideal) (φ := .f32) (hmv h12 tb12 lh rh6 b ρ l (lo l)))) (FloatOps.absf (F := Ideal) (φ := .f32) (hmv h13 tb13 lh rh6 b ρ l (hi l))) := by
  unfold row
  pointwise [k0_pay480, k0_pay481, k0_pay482, k0_pay483, k0_pay485, k0_pay487]
  rfl

theorem P_am7 (am : FVec Ideal S256x128 .f32) (lh : FVec Ideal S256x16 .bf16) (rh7 : Vec Ideal S16x256 .bf16) (tb14 : Vec Ideal S1x8x128 .f32) (h14 : Vec Ideal S2x128x128 .f32) (tb15 : Vec Ideal S1x8x128 .f32) (h15 : Vec Ideal S2x128x128 .f32) (b : Fin 2) (ρ l : Fin 128) : ((k0_pay494 am (k0_pay488 lh rh7) (k0_pay489 lh rh7 tb14 h14) tb15 h15) (ix2 (row b ρ) l) : EReal) = max (max (am (ix2 (row b ρ) l)) (FloatOps.absf (F := Ideal) (φ := .f32) (hmv h14 tb14 lh rh7 b ρ l (lo l)))) (FloatOps.absf (F := Ideal) (φ := .f32) (hmv h15 tb15 lh rh7 b ρ l (hi l))) := by
  unfold row
  pointwise [k0_pay488, k0_pay489, k0_pay492, k0_pay494]
  rfl

theorem P_am8 (am : FVec Ideal S256x128 .f32) (lh : FVec Ideal S256x16 .bf16) (rh8 : Vec Ideal S16x256 .bf16) (tb16 : Vec Ideal S1x8x128 .f32) (h16 : Vec Ideal S2x128x128 .f32) (tb17 : Vec Ideal S1x8x128 .f32) (h17 : Vec Ideal S2x128x128 .f32) (b : Fin 2) (ρ l : Fin 128) : ((k0_pay501 am (k0_pay495 lh rh8) (k0_pay496 lh rh8 tb16 h16) tb17 h17) (ix2 (row b ρ) l) : EReal) = max (max (am (ix2 (row b ρ) l)) (FloatOps.absf (F := Ideal) (φ := .f32) (hmv h16 tb16 lh rh8 b ρ l (lo l)))) (FloatOps.absf (F := Ideal) (φ := .f32) (hmv h17 tb17 lh rh8 b ρ l (hi l))) := by
  unfold row
  pointwise [k0_pay495, k0_pay496, k0_pay499, k0_pay501]
  rfl

theorem P_am9 (lh : FVec Ideal S256x16 .bf16) (am : FVec Ideal S256x128 .f32) (rh9 : Vec Ideal S16x256 .bf16) (tb18 : Vec Ideal S1x8x128 .f32) (h18 : Vec Ideal S2x128x128 .f32) (tb19 : Vec Ideal S1x8x128 .f32) (h19 : Vec Ideal S2x128x128 .f32) (rh10 : Vec Ideal S16x256 .bf16) (tb20 : Vec Ideal S1x8x128 .f32) (h20 : Vec Ideal S2x128x128 .f32) (b : Fin 2) (ρ l : Fin 128) : ((k0_pay510 lh am (k0_pay502 lh rh9) (k0_pay503 lh rh9 tb18 h18) tb19 h19 rh10 tb20 h20) (ix2 (row b ρ) l) : EReal) = max (max (max (am (ix2 (row b ρ) l)) (FloatOps.absf (F := Ideal) (φ := .f32) (hmv h18 tb18 lh rh9 b ρ l (lo l)))) (FloatOps.absf (F := Ideal) (φ := .f32) (hmv h19 tb19 lh rh9 b ρ l (hi l)))) (FloatOps.absf (F := Ideal) (φ := .f32) (hmv h20 tb20 lh rh10 b ρ l (lo l))) := by
  unfold row
  pointwise [k0_pay502, k0_pay503, k0_pay505, k0_pay507, k0_pay508, k0_pay510]
  rfl

theorem P_am10 (lh : FVec Ideal S256x16 .bf16) (rh10 : Vec Ideal S16x256 .bf16) (am : FVec Ideal S256x128 .f32) (tb21 : Vec Ideal S1x8x128 .f32) (h21 : Vec Ideal S2x128x128 .f32) (rh11 : Vec Ideal S16x256 .bf16) (tb22 : Vec Ideal S1x8x128 .f32) (h22 : Vec Ideal S2x128x128 .f32) (b : Fin 2) (ρ l : Fin 128) : ((k0_pay516 lh (k0_pay507 lh rh10) am tb21 h21 rh11 tb22 h22) (ix2 (row b ρ) l) : EReal) = max (max (am (ix2 (row b ρ) l)) (FloatOps.absf (F := Ideal) (φ := .f32) (hmv h21 tb21 lh rh10 b ρ l (hi l)))) (FloatOps.absf (F := Ideal) (φ := .f32) (hmv h22 tb22 lh rh11 b ρ l (lo l))) := by
  unfold row
  pointwise [k0_pay507, k0_pay511, k0_pay513, k0_pay514, k0_pay516]
  rfl

theorem P_am11 (lh : FVec Ideal S256x16 .bf16) (rh11 : Vec Ideal S16x256 .bf16) (am : FVec Ideal S256x128 .f32) (tb23 : Vec Ideal S1x8x128 .f32) (h23 : Vec Ideal S2x128x128 .f32) (rh12 : Vec Ideal S16x256 .bf16) (tb24 : Vec Ideal S1x8x128 .f32) (h24 : Vec Ideal S2x128x128 .f32) (b : Fin 2) (ρ l : Fin 128) : ((k0_pay522 lh (k0_pay513 lh rh11) am tb23 h23 rh12 tb24 h24) (ix2 (row b ρ) l) : EReal) = max (max (am (ix2 (row b ρ) l)) (FloatOps.absf (F := Ideal) (φ := .f32) (hmv h23 tb23 lh rh11 b ρ l (hi l)))) (FloatOps.absf (F := Ideal) (φ := .f32) (hmv h24 tb24 lh rh12 b ρ l (lo l))) := by
  unfold row
  pointwise [k0_pay513, k0_pay517, k0_pay519, k0_pay520, k0_pay522]
  rfl

theorem P_am12 (lh : FVec Ideal S256x16 .bf16) (rh12 : Vec Ideal S16x256 .bf16) (am : FVec Ideal S256x128 .f32) (tb25 : Vec Ideal S1x8x128 .f32) (h25 : Vec Ideal S2x128x128 .f32) (rh13 : Vec Ideal S16x256 .bf16) (tb26 : Vec Ideal S1x8x128 .f32) (h26 : Vec Ideal S2x128x128 .f32) (b : Fin 2) (ρ l : Fin 128) : ((k0_pay529 lh (k0_pay519 lh rh12) am (k0_pay523 tb25) h25 rh13 tb26 h26) (ix2 (row b ρ) l) : EReal) = max (max (am (ix2 (row b ρ) l)) (FloatOps.absf (F := Ideal) (φ := .f32) (hmv h25 tb25 lh rh12 b ρ l (hi l)))) (FloatOps.absf (F := Ideal) (φ := .f32) (hmv h26 tb26 lh rh13 b ρ l (lo l))) := by
  unfold row
  pointwise [k0_pay519, k0_pay523, k0_pay524, k0_pay526, k0_pay527, k0_pay529]
  rfl

theorem P_am13 (lh : FVec Ideal S256x16 .bf16) (rh13 : Vec Ideal S16x256 .bf16) (am : FVec Ideal S256x128 .f32) (tb27 : Vec Ideal S1x8x128 .f32) (h27 : Vec Ideal S2x128x128 .f32) (rh14 : Vec Ideal S16x256 .bf16) (tb28 : Vec Ideal S1x8x128 .f32) (h28 : Vec Ideal S2x128x128 .f32) (b : Fin 2) (ρ l : Fin 128) : ((k0_pay536 lh (k0_pay526 lh rh13) am (k0_pay530 tb27) h27 rh14 tb28 h28) (ix2 (row b ρ) l) : EReal) = max (max (am (ix2 (row b ρ) l)) (FloatOps.absf (F := Ideal) (φ := .f32) (hmv h27 tb27 lh rh13 b ρ l (hi l)))) (FloatOps.absf (F := Ideal) (φ := .f32) (hmv h28 tb28 lh rh14 b ρ l (lo l))) := by
  unfold row
  pointwise [k0_pay526, k0_pay530, k0_pay531, k0_pay533, k0_pay534, k0_pay536]
  rfl

theorem P_am14 (lh : FVec Ideal S256x16 .bf16) (rh14 : Vec Ideal S16x256 .bf16) (am : FVec Ideal S256x128 .f32) (tb29 : Vec Ideal S1x8x128 .f32) (h29 : Vec Ideal S2x128x128 .f32) (rh15 : Vec Ideal S16x256 .bf16) (tb30 : Vec Ideal S1x8x128 .f32) (h30 : Vec Ideal S2x128x128 .f32) (b : Fin 2) (ρ l : Fin 128) : ((k0_pay543 lh (k0_pay533 lh rh14) am (k0_pay537 tb29 h29) rh15 tb30 h30) (ix2 (row b ρ) l) : EReal) = max (max (am (ix2 (row b ρ) l)) (FloatOps.absf (F := Ideal) (φ := .f32) (hmv h29 tb29 lh rh14 b ρ l (hi l)))) (FloatOps.absf (F := Ideal) (φ := .f32) (hmv h30 tb30 lh rh15 b ρ l (lo l))) := by
  unfold row
  pointwise [k0_pay533, k0_pay537, k0_pay538, k0_pay540, k0_pay541, k0_pay543]
  rfl

theorem P_am15 (lh : FVec Ideal S256x16 .bf16) (am : FVec Ideal S256x128 .f32) (rh15 : Vec Ideal S16x256 .bf16) (tb31 : Vec Ideal S1x8x128 .f32) (h31 : Vec Ideal S2x128x128 .f32) (rh16 : Vec Ideal S16x256 .bf16) (tb32 : Vec Ideal S1x8x128 .f32) (h32 : Vec Ideal S2x128x128 .f32) (b : Fin 2) (ρ l : Fin 128) : ((k0_pay549 lh am (k0_pay544 lh rh15 tb31 h31) rh16 tb32 h32) (ix2 (row b ρ) l) : EReal) = max (max (am (ix2 (row b ρ) l)) (FloatOps.absf (F := Ideal) (φ := .f32) (hmv h31 tb31 lh rh15 b ρ l (hi l)))) (FloatOps.absf (F := Ideal) (φ := .f32) (hmv h32 tb32 lh rh16 b ρ l (lo l))) := by
  unfold row
  pointwise [k0_pay540, k0_pay544, k0_pay546, k0_pay547, k0_pay549]
  rfl

theorem P_am16 (lh : FVec Ideal S256x16 .bf16) (am : FVec Ideal S256x128 .f32) (rh16 : Vec Ideal S16x256 .bf16) (tb33 : Vec Ideal S1x8x128 .f32) (h33 : Vec Ideal S2x128x128 .f32) (rh17 : Vec Ideal S16x256 .bf16) (tb34 : Vec Ideal S1x8x128 .f32) (h34 : Vec Ideal S2x128x128 .f32) (b : Fin 2) (ρ l : Fin 128) : ((k0_pay556 lh am (k0_pay550 lh rh16 tb33 h33) rh17 tb34 h34) (ix2 (row b ρ) l) : EReal) = max (max (am (ix2 (row b ρ) l)) (FloatOps.absf (F := Ideal) (φ := .f32) (hmv h33 tb33 lh rh16 b ρ l (hi l)))) (FloatOps.absf (F := Ideal) (φ := .f32) (hmv h34 tb34 lh rh17 b ρ l (lo l))) := by
  unfold row
  pointwise [k0_pay546, k0_pay550, k0_pay553, k0_pay554, k0_pay556]
  rfl

theorem P_am17 (lh : FVec Ideal S256x16 .bf16) (am : FVec Ideal S256x128 .f32) (rh17 : Vec Ideal S16x256 .bf16) (tb35 : Vec Ideal S1x8x128 .f32) (h35 : Vec Ideal S2x128x128 .f32) (rh18 : Vec Ideal S16x256 .bf16) (tb36 : Vec Ideal S1x8x128 .f32) (h36 : Vec Ideal S2x128x128 .f32) (b : Fin 2) (ρ l : Fin 128) : ((k0_pay563 lh am (k0_pay557 lh rh17 tb35 h35) rh18 tb36 h36) (ix2 (row b ρ) l) : EReal) = max (max (am (ix2 (row b ρ) l)) (FloatOps.absf (F := Ideal) (φ := .f32) (hmv h35 tb35 lh rh17 b ρ l (hi l)))) (FloatOps.absf (F := Ideal) (φ := .f32) (hmv h36 tb36 lh rh18 b ρ l (lo l))) := by
  unfold row
  pointwise [k0_pay553, k0_pay557, k0_pay560, k0_pay561, k0_pay563]
  rfl

theorem P_am18 (lh : FVec Ideal S256x16 .bf16) (am : FVec Ideal S256x128 .f32) (rh18 : Vec Ideal S16x256 .bf16) (tb37 : Vec Ideal S1x8x128 .f32) (h37 : Vec Ideal S2x128x128 .f32) (rh19 : Vec Ideal S16x256 .bf16) (tb38 : Vec Ideal S1x8x128 .f32) (h38 : Vec Ideal S2x128x128 .f32) (tb39 : Vec Ideal S1x8x128 .f32) (h39 : Vec Ideal S2x128x128 .f32) (b : Fin 2) (ρ l : Fin 128) : ((k0_pay572 lh am (k0_pay566 lh rh18 tb37 h37) rh19 tb38 h38 tb39 h39) (ix2 l (row b ρ)) : EReal) = max (max (max (am (ix2 (row b ρ) l)) (FloatOps.absf (F := Ideal) (φ := .f32) (hmv h37 tb37 lh rh18 b ρ l (hi l)))) (FloatOps.absf (F := Ideal) (φ := .f32) (hmv h38 tb38 lh rh19 b ρ l (lo l)))) (FloatOps.absf (F := Ideal) (φ := .f32) (hmv h39 tb39 lh rh19 b ρ l (hi l))) := by
  unfold row
  pointwise [k0_pay560, k0_pay564, k0_pay566, k0_pay567, k0_pay568, k0_pay570, k0_pay572]
  rfl

theorem P_q0 (rs : FVec Ideal S1x256 .f32) (amT : FVec Ideal S128x256 .f32) (h0 : Vec Ideal S2x128x128 .f32) (b : Fin 2) (ρ l : Fin 128) : ((k0_pay578 rs amT h0) (ix4 0 b ρ l) : EReal) = clipq (h0 (ix3 b ρ l) * (k0_pay576 rs amT) (ix2 (row b ρ) l)) := by
  pointwise [k0_pay578]
  rfl

theorem P_q1 (iv : FVec Ideal S256x128 .f32) (h1 : Vec Ideal S2x128x128 .f32) (b : Fin 2) (ρ l : Fin 128) : ((k0_pay579 iv h1) (ix4 0 b ρ l) : EReal) = clipq (h1 (ix3 b ρ l) * (iv) (ix2 (row b ρ) l)) := by
  pointwise [k0_pay579]
  rfl

theorem P_q2 (iv : FVec Ideal S256x128 .f32) (h2 : Vec Ideal S2x128x128 .f32) (b : Fin 2) (ρ l : Fin 128) : ((k0_pay580 iv h2) (ix4 0 b ρ l) : EReal) = clipq (h2 (ix3 b ρ l) * (iv) (ix2 (row b ρ) l)) := by
  pointwise [k0_pay580]
  rfl

theorem P_q3 (iv : FVec Ideal S256x128 .f32) (h3 : Vec Ideal S2x128x128 .f32) (b : Fin 2) (ρ l : Fin 128) : ((k0_pay582 (k0_pay581 iv h3)) (ix4 0 b ρ l) : EReal) = clipq (h3 (ix3 b ρ l) * (iv) (ix2 (row b ρ) l)) := by
  pointwise [k0_pay581, k0_pay582]
  rfl

theorem P_q4 (iv : FVec Ideal S256x128 .f32) (h4 : Vec Ideal S2x128x128 .f32) (b : Fin 2) (ρ l : Fin 128) : ((k0_pay583 iv h4) (ix4 0 b ρ l) : EReal) = clipq (h4 (ix3 b ρ l) * (iv) (ix2 (row b ρ) l)) := by
  pointwise [k0_pay583]
  rfl

theorem P_q5 (iv : FVec Ideal S256x128 .f32) (h5 : Vec Ideal S2x128x128 .f32) (b : Fin 2) (ρ l : Fin 128) : ((k0_pay586 (k0_pay585 iv h5)) (ix4 0 b ρ l) : EReal) = clipq (h5 (ix3 b ρ l) * (iv) (ix2 (row b ρ) l)) := by
  pointwise [k0_pay585, k0_pay586]
  rfl

theorem P_q6 (iv : FVec Ideal S256x128 .f32) (h6 : Vec Ideal S2x128x128 .f32) (b : Fin 2) (ρ l : Fin 128) : ((k0_pay587 iv h6) (ix4 0 b ρ l) : EReal) = clipq (h6 (ix3 b ρ l) * (iv) (ix2 (row b ρ) l)) := by
  pointwise [k0_pay587]
  rfl

theorem P_q7 (iv : FVec Ideal S256x128 .f32) (h7 : Vec Ideal S2x128x128 .f32) (b : Fin 2) (ρ l : Fin 128) : ((k0_pay588 iv h7) (ix4 0 b ρ l) : EReal) = clipq (h7 (ix3 b ρ l) * (iv) (ix2 (row b ρ) l)) := by
  pointwise [k0_pay588]
  rfl

theorem P_q8 (iv : FVec Ideal S256x128 .f32) (h8 : Vec Ideal S2x128x128 .f32) (b : Fin 2) (ρ l : Fin 128) : ((k0_pay590 (k0_pay589 iv h8)) (ix4 0 b ρ l) : EReal) = clipq (h8 (ix3 b ρ l) * (iv) (ix2 (row b ρ) l)) := by
  pointwise [k0_pay589, k0_pay590]
  rfl

theorem P_q9 (iv : FVec Ideal S256x128 .f32) (h9 : Vec Ideal S2x128x128 .f32) (b : Fin 2) (ρ l : Fin 128) : ((k0_pay591 iv h9) (ix4 0 b ρ l) : EReal) = clipq (h9 (ix3 b ρ l) * (iv) (ix2 (row b ρ) l)) := by
  pointwise [k0_pay591]
  rfl

theorem P_q10 (iv : FVec Ideal S256x128 .f32) (h10 : Vec Ideal S2x128x128 .f32) (b : Fin 2) (ρ l : Fin 128) : ((k0_pay594 (k0_pay593 iv h10)) (ix4 0 b ρ l) : EReal) = clipq (h10 (ix3 b ρ l) * (iv) (ix2 (row b ρ) l)) := by
  pointwise [k0_pay593, k0_pay594]
  rfl

theorem P_q11 (iv : FVec Ideal S256x128 .f32) (h11 : Vec Ideal S2x128x128 .f32) (b : Fin 2) (ρ l : Fin 128) : ((k0_pay595 iv h11) (ix4 0 b ρ l) : EReal) = clipq (h11 (ix3 b ρ l) * (iv) (ix2 (row b ρ) l)) := by
  pointwise [k0_pay595]
  rfl

theorem P_q12 (iv : FVec Ideal S256x128 .f32) (h12 : Vec Ideal S2x128x128 .f32) (b : Fin 2) (ρ l : Fin 128) : ((k0_pay596 iv h12) (ix4 0 b ρ l) : EReal) = clipq (h12 (ix3 b ρ l) * (iv) (ix2 (row b ρ) l)) := by
  pointwise [k0_pay596]
  rfl

theorem P_q13 (iv : FVec Ideal S256x128 .f32) (h13 : Vec Ideal S2x128x128 .f32) (b : Fin 2) (ρ l : Fin 128) : ((k0_pay598 (FloatOps.ofBits FTy.f32 1138753536#32) (k0_pay597 iv h13)) (ix4 0 b ρ l) : EReal) = clipq (h13 (ix3 b ρ l) * (iv) (ix2 (row b ρ) l)) := by
  pointwise [k0_pay597, k0_pay598]
  rfl

theorem P_q14 (iv : FVec Ideal S256x128 .f32) (h14 : Vec Ideal S2x128x128 .f32) (b : Fin 2) (ρ l : Fin 128) : ((k0_pay599 iv h14) (ix4 0 b ρ l) : EReal) = clipq (h14 (ix3 b ρ l) * (iv) (ix2 (row b ρ) l)) := by
  pointwise [k0_pay599]
  rfl

theorem P_q15 (iv : FVec Ideal S256x128 .f32) (h15 : Vec Ideal S2x128x128 .f32) (b : Fin 2) (ρ l : Fin 128) : ((k0_pay602 (k0_pay601 iv h15)) (ix4 0 b ρ l) : EReal) = clipq (h15 (ix3 b ρ l) * (iv) (ix2 (row b ρ) l)) := by
  pointwise [k0_pay601, k0_pay602]
  rfl

theorem P_q16 (iv : FVec Ideal S256x128 .f32) (h16 : Vec Ideal S2x128x128 .f32) (b : Fin 2) (ρ l : Fin 128) : ((k0_pay603 iv h16) (ix4 0 b ρ l) : EReal) = clipq (h16 (ix3 b ρ l) * (iv) (ix2 (row b ρ) l)) := by
  pointwise [k0_pay603]
  rfl

theorem P_q17 (iv : FVec Ideal S256x128 .f32) (h17 : Vec Ideal S2x128x128 .f32) (b : Fin 2) (ρ l : Fin 128) : ((k0_pay604 iv h17) (ix4 0 b ρ l) : EReal) = clipq (h17 (ix3 b ρ l) * (iv) (ix2 (row b ρ) l)) := by
  pointwise [k0_pay604]
  rfl

theorem P_q18 (iv : FVec Ideal S256x128 .f32) (h18 : Vec Ideal S2x128x128 .f32) (b : Fin 2) (ρ l : Fin 128) : ((k0_pay606 (k0_pay605 iv h18)) (ix4 0 b ρ l) : EReal) = clipq (h18 (ix3 b ρ l) * (iv) (ix2 (row b ρ) l)) := by
  pointwise [k0_pay605, k0_pay606]
  rfl

theorem P_q19 (iv : FVec Ideal S256x128 .f32) (h19 : Vec Ideal S2x128x128 .f32) (b : Fin 2) (ρ l : Fin 128) : ((k0_pay607 iv h19) (ix4 0 b ρ l) : EReal) = clipq (h19 (ix3 b ρ l) * (iv) (ix2 (row b ρ) l)) := by
  pointwise [k0_pay607]
  rfl

theorem P_q20 (iv : FVec Ideal S256x128 .f32) (h20 : Vec Ideal S2x128x128 .f32) (b : Fin 2) (ρ l : Fin 128) : ((k0_pay610 (k0_pay609 iv h20) (FloatOps.ofBits FTy.f32 3286237184#32) (FloatOps.ofBits FTy.f32 1138753536#32)) (ix4 0 b ρ l) : EReal) = clipq (h20 (ix3 b ρ l) * (iv) (ix2 (row b ρ) l)) := by
  pointwise [k0_pay609, k0_pay610]
  rfl

theorem P_q21 (iv : FVec Ideal S256x128 .f32) (h21 : Vec Ideal S2x128x128 .f32) (b : Fin 2) (ρ l : Fin 128) : ((k0_pay611 iv h21) (ix4 0 b ρ l) : EReal) = clipq (h21 (ix3 b ρ l) * (iv) (ix2 (row b ρ) l)) := by
  pointwise [k0_pay611]
  rfl

theorem P_q22 (iv : FVec Ideal S256x128 .f32) (h22 : Vec Ideal S2x128x128 .f32) (b : Fin 2) (ρ l : Fin 128) : ((k0_pay612 iv h22) (ix4 0 b ρ l) : EReal) = clipq (h22 (ix3 b ρ l) * (iv) (ix2 (row b ρ) l)) := by
  pointwise [k0_pay612]
  rfl

theorem P_q23 (iv : FVec Ideal S256x128 .f32) (h23 : Vec Ideal S2x128x128 .f32) (b : Fin 2) (ρ l : Fin 128) : ((k0_pay613 iv h23) (ix4 0 b ρ l) : EReal) = clipq (h23 (ix3 b ρ l) * (iv) (ix2 (row b ρ) l)) := by
  pointwise [k0_pay613]
  rfl

theorem P_q24 (iv : FVec Ideal S256x128 .f32) (h24 : Vec Ideal S2x128x128 .f32) (b : Fin 2) (ρ l : Fin 128) : ((k0_pay614 iv h24) (ix4 0 b ρ l) : EReal) = clipq (h24 (ix3 b ρ l) * (iv) (ix2 (row b ρ) l)) := by
  pointwise [k0_pay614]
  rfl

theorem P_q25 (iv : FVec Ideal S256x128 .f32) (h25 : Vec Ideal S2x128x128 .f32) (b : Fin 2) (ρ l : Fin 128) : ((k0_pay616 iv h25) (ix4 0 b ρ l) : EReal) = clipq (h25 (ix3 b ρ l) * (iv) (ix2 (row b ρ) l)) := by
  pointwise [k0_pay616]
  rfl

theorem P_q26 (iv : FVec Ideal S256x128 .f32) (h26 : Vec Ideal S2x128x128 .f32) (b : Fin 2) (ρ l : Fin 128) : ((k0_pay617 iv h26) (ix4 0 b ρ l) : EReal) = clipq (h26 (ix3 b ρ l) * (iv) (ix2 (row b ρ) l)) := by
  pointwise [k0_pay617]
  rfl

theorem P_q27 (iv : FVec Ideal S256x128 .f32) (h27 : Vec Ideal S2x128x128 .f32) (b : Fin 2) (ρ l : Fin 128) : ((k0_pay619 (k0_pay618 iv h27)) (ix4 0 b ρ l) : EReal) = clipq (h27 (ix3 b ρ l) * (iv) (ix2 (row b ρ) l)) := by
  pointwise [k0_pay618, k0_pay619]
  rfl

theorem P_q28 (iv : FVec Ideal S256x128 .f32) (h28 : Vec Ideal S2x128x128 .f32) (b : Fin 2) (ρ l : Fin 128) : ((k0_pay620 iv h28) (ix4 0 b ρ l) : EReal) = clipq (h28 (ix3 b ρ l) * (iv) (ix2 (row b ρ) l)) := by
  pointwise [k0_pay620]
  rfl

theorem P_q29 (iv : FVec Ideal S256x128 .f32) (h29 : Vec Ideal S2x128x128 .f32) (b : Fin 2) (ρ l : Fin 128) : ((k0_pay621 iv h29) (ix4 0 b ρ l) : EReal) = clipq (h29 (ix3 b ρ l) * (iv) (ix2 (row b ρ) l)) := by
  pointwise [k0_pay621]
  rfl

theorem P_q30 (iv : FVec Ideal S256x128 .f32) (h30 : Vec Ideal S2x128x128 .f32) (b : Fin 2) (ρ l : Fin 128) : ((k0_pay623 iv h30) (ix4 0 b ρ l) : EReal) = clipq (h30 (ix3 b ρ l) * (iv) (ix2 (row b ρ) l)) := by
  pointwise [k0_pay623]
  rfl

theorem P_q31 (iv : FVec Ideal S256x128 .f32) (h31 : Vec Ideal S2x128x128 .f32) (b : Fin 2) (ρ l : Fin 128) : ((k0_pay624 iv h31) (ix4 0 b ρ l) : EReal) = clipq (h31 (ix3 b ρ l) * (iv) (ix2 (row b ρ) l)) := by
  pointwise [k0_pay624]
  rfl

theorem P_q32 (iv : FVec Ideal S256x128 .f32) (h32 : Vec Ideal S2x128x128 .f32) (b : Fin 2) (ρ l : Fin 128) : ((k0_pay626 (k0_pay625 iv h32)) (ix4 0 b ρ l) : EReal) = clipq (h32 (ix3 b ρ l) * (iv) (ix2 (row b ρ) l)) := by
  pointwise [k0_pay625, k0_pay626]
  rfl

theorem P_q33 (iv : FVec Ideal S256x128 .f32) (h33 : Vec Ideal S2x128x128 .f32) (b : Fin 2) (ρ l : Fin 128) : ((k0_pay627 iv h33) (ix4 0 b ρ l) : EReal) = clipq (h33 (ix3 b ρ l) * (iv) (ix2 (row b ρ) l)) := by
  pointwise [k0_pay627]
  rfl

theorem P_q34 (iv : FVec Ideal S256x128 .f32) (h34 : Vec Ideal S2x128x128 .f32) (b : Fin 2) (ρ l : Fin 128) : ((k0_pay628 iv h34) (ix4 0 b ρ l) : EReal) = clipq (h34 (ix3 b ρ l) * (iv) (ix2 (row b ρ) l)) := by
  pointwise [k0_pay628]
  rfl

theorem P_q35 (iv : FVec Ideal S256x128 .f32) (h35 : Vec Ideal S2x128x128 .f32) (b : Fin 2) (ρ l : Fin 128) : ((k0_pay631 iv h35) (ix4 0 b ρ l) : EReal) = clipq (h35 (ix3 b ρ l) * (iv) (ix2 (row b ρ) l)) := by
  pointwise [k0_pay631]
  rfl

theorem P_q36 (iv : FVec Ideal S256x128 .f32) (h36 : Vec Ideal S2x128x128 .f32) (b : Fin 2) (ρ l : Fin 128) : ((k0_pay632 iv h36) (ix4 0 b ρ l) : EReal) = clipq (h36 (ix3 b ρ l) * (iv) (ix2 (row b ρ) l)) := by
  pointwise [k0_pay632]
  rfl

theorem P_q37 (iv : FVec Ideal S256x128 .f32) (h37 : Vec Ideal S2x128x128 .f32) (b : Fin 2) (ρ l : Fin 128) : ((k0_pay634 (k0_pay633 iv h37)) (ix4 0 b ρ l) : EReal) = clipq (h37 (ix3 b ρ l) * (iv) (ix2 (row b ρ) l)) := by
  pointwise [k0_pay633, k0_pay634]
  rfl

theorem P_q38 (iv : FVec Ideal S256x128 .f32) (h38 : Vec Ideal S2x128x128 .f32) (b : Fin 2) (ρ l : Fin 128) : ((k0_pay635 iv h38) (ix4 0 b ρ l) : EReal) = clipq (h38 (ix3 b ρ l) * (iv) (ix2 (row b ρ) l)) := by
  pointwise [k0_pay635]
  rfl

theorem P_q39 (iv : FVec Ideal S256x128 .f32) (h39 : Vec Ideal S2x128x128 .f32) (b : Fin 2) (ρ l : Fin 128) : ((k0_pay636 iv h39) (ix4 0 b ρ l) : EReal) = clipq (h39 (ix3 b ρ l) * (iv) (ix2 (row b ρ) l)) := by
  pointwise [k0_pay636]
  rfl

theorem P_acc0 (q0 : Vec Ideal S1x2x128x640 .fp8e4m3) (wh0 : Vec Ideal S64x640 .fp8e4m3) (b : Fin 2) (ρ : Fin 128) (o : Fin 64) : ((k0_pay584 k0_pay577 q0 wh0) (ix2 (row b ρ) o) : EReal) = ∑ x, q0 (ix4 0 b ρ x) * wh0 (ix2 o x) := by
  unfold row
  pointwise [k0_pay577, k0_pay584]

theorem P_acc1 (acc : FVec Ideal S256x64 .f32) (q1 : Vec Ideal S1x2x128x640 .fp8e4m3) (wh1 : Vec Ideal S64x640 .fp8e4m3) (b : Fin 2) (ρ : Fin 128) (o : Fin 64) : ((k0_pay592 acc q1 wh1) (ix2 (row b ρ) o) : EReal) = acc (ix2 (row b ρ) o) + ∑ x, q1 (ix4 0 b ρ x) * wh1 (ix2 o x) := by
  unfold row
  pointwise [k0_pay592]

theorem P_acc2 (acc : FVec Ideal S256x64 .f32) (q2 : Vec Ideal S1x2x128x640 .fp8e4m3) (wh2 : Vec Ideal S64x640 .fp8e4m3) (b : Fin 2) (ρ : Fin 128) (o : Fin 64) : ((k0_pay600 acc q2 wh2) (ix2 (row b ρ) o) : EReal) = acc (ix2 (row b ρ) o) + ∑ x, q2 (ix4 0 b ρ x) * wh2 (ix2 o x) := by
  unfold row
  pointwise [k0_pay600]

theorem P_acc3 (acc : FVec Ideal S256x64 .f32) (q3 : Vec Ideal S1x2x128x640 .fp8e4m3) (wh3 : Vec Ideal S64x640 .fp8e4m3) (b : Fin 2) (ρ : Fin 128) (o : Fin 64) : ((k0_pay608 acc q3 wh3) (ix2 (row b ρ) o) : EReal) = acc (ix2 (row b ρ) o) + ∑ x, q3 (ix4 0 b ρ x) * wh3 (ix2 o x) := by
  unfold row
  pointwise [k0_pay608]

theorem P_acc4 (acc : FVec Ideal S256x64 .f32) (q4 : Vec Ideal S1x2x128x640 .fp8e4m3) (wh4 : Vec Ideal S64x640 .fp8e4m3) (b : Fin 2) (ρ : Fin 128) (o : Fin 64) : ((k0_pay615 acc q4 wh4) (ix2 (row b ρ) o) : EReal) = acc (ix2 (row b ρ) o) + ∑ x, q4 (ix4 0 b ρ x) * wh4 (ix2 o x) := by
  unfold row
  pointwise [k0_pay615]

theorem P_acc5 (acc : FVec Ideal S256x64 .f32) (q5 : Vec Ideal S1x2x128x640 .fp8e4m3) (wh5 : Vec Ideal S64x640 .fp8e4m3) (b : Fin 2) (ρ : Fin 128) (o : Fin 64) : ((k0_pay622 acc q5 wh5) (ix2 (row b ρ) o) : EReal) = acc (ix2 (row b ρ) o) + ∑ x, q5 (ix4 0 b ρ x) * wh5 (ix2 o x) := by
  unfold row
  pointwise [k0_pay622]

theorem P_acc6 (acc : FVec Ideal S256x64 .f32) (q6 : Vec Ideal S1x2x128x640 .fp8e4m3) (wh6 : Vec Ideal S64x640 .fp8e4m3) (b : Fin 2) (ρ : Fin 128) (o : Fin 64) : ((k0_pay630 acc (k0_pay629 q6) wh6) (ix2 (row b ρ) o) : EReal) = acc (ix2 (row b ρ) o) + ∑ x, q6 (ix4 0 b ρ x) * wh6 (ix2 o x) := by
  unfold row
  pointwise [k0_pay629, k0_pay630]

/-- One entry of the head output from the operands of the vector operations that form it. -/
def outv (sc : FVec Ideal S1x256 .f32) (acc : FVec Ideal S256x64 .f32) (q7 : Vec Ideal S1x2x128x640 .fp8e4m3) (wh7 : Vec Ideal S64x640 .fp8e4m3) (sh : Vec Ideal S64x1 .f32) (bh : Vec Ideal S64x1 .f32) (b : Fin 2) (ρ : Fin 128) (o : Fin 64) : EReal :=
  (acc (ix2 (row b ρ) o) + ∑ x, q7 (ix4 0 b ρ x) * wh7 (ix2 o x)) * sc (ix2 0 (row b ρ)) * sh (ix2 o 0) + bh (ix2 o 0)

theorem row0 (ρ : Fin 128) : (⟨ρ.val, by omega⟩ : Fin 256) = row 0 ρ := Fin.ext (by simp only [row, Fin.val_zero]; omega)
theorem row1 (ρ : Fin 128) : (⟨128 + ρ.val, by omega⟩ : Fin 256) = row 1 ρ := Fin.ext (by simp only [row, Fin.val_one] <;> omega)
theorem dm0 (ρ : Fin 128) : (⟨ρ.val / 128, by omega⟩ : Fin 2) = 0 ∧ (⟨ρ.val % 128, by omega⟩ : Fin 128) = ρ :=
  ⟨Fin.ext (by simp only [Fin.val_zero]; omega), Fin.ext (by show ρ.val % 128 = ρ.val; omega)⟩
theorem dm1 (ρ : Fin 128) : (⟨(128 + ρ.val) / 128, by omega⟩ : Fin 2) = 1 := Fin.ext (by simp only [Fin.val_one]; omega)

theorem P_o0 (sc : FVec Ideal S1x256 .f32) (acc : FVec Ideal S256x64 .f32) (q7 : Vec Ideal S1x2x128x640 .fp8e4m3) (wh7 : Vec Ideal S64x640 .fp8e4m3) (sh : Vec Ideal S64x1 .f32) (bh : Vec Ideal S64x1 .f32) (ρ : Fin 128) (o : Fin 64) : (k0_pay640 sc acc (k0_pay637 q7) wh7 sh bh (ix4 0 0 o ρ) : EReal) = outv sc acc q7 wh7 sh bh 0 ρ o := by
  pointwise [k0_pay637, k0_pay638, k0_pay639, k0_pay640]
  simp only [row0, row1, dm0, dm1]
  rfl

theorem P_o1 (sc : FVec Ideal S1x256 .f32) (acc : FVec Ideal S256x64 .f32) (q7 : Vec Ideal S1x2x128x640 .fp8e4m3) (wh7 : Vec Ideal S64x640 .fp8e4m3) (sh : Vec Ideal S64x1 .f32) (bh : Vec Ideal S64x1 .f32) (ρ : Fin 128) (o : Fin 64) : (k0_pay642 sc acc (k0_pay637 q7) wh7 sh bh (ix4 0 0 o ρ) : EReal) = outv sc acc q7 wh7 sh bh 1 ρ o := by
  pointwise [k0_pay637, k0_pay638, k0_pay641, k0_pay642]
  simp only [row0, row1, dm0, dm1]
  rfl

theorem P_cu (sc : FVec Ideal S1x256 .f32) (acc : FVec Ideal S256x64 .f32) (q7 : Vec Ideal S1x2x128x640 .fp8e4m3) (wh7 : Vec Ideal S64x640 .fp8e4m3) (sh : Vec Ideal S64x1 .f32) (bh : Vec Ideal S64x1 .f32) (ρ : Fin 128) : (k0_pay1 (k0_pay643 sc acc (k0_pay637 q7) wh7 sh bh sh bh) (ix3 0 0 ρ) : EReal) = ∑ o, outv sc acc q7 wh7 sh bh 0 ρ o * outv sc acc q7 wh7 sh bh 1 ρ o := by
  pointwise [k0_pay1, k0_pay637, k0_pay638, k0_pay639, k0_pay641, k0_pay643]
  simp only [row0, row1, dm0, dm1]
  rfl

theorem P_uu (sc : FVec Ideal S1x256 .f32) (acc : FVec Ideal S256x64 .f32) (q7 : Vec Ideal S1x2x128x640 .fp8e4m3) (wh7 : Vec Ideal S64x640 .fp8e4m3) (sh : Vec Ideal S64x1 .f32) (bh : Vec Ideal S64x1 .f32) (ρ : Fin 128) : (k0_pay2 (k0_pay641 sc acc (k0_pay637 q7) wh7 sh bh) (ix3 0 0 ρ) : EReal) = ∑ o, outv sc acc q7 wh7 sh bh 1 ρ o * outv sc acc q7 wh7 sh bh 1 ρ o := by
  pointwise [k0_pay2, k0_pay637, k0_pay638, k0_pay641]
  simp only [row0, row1, dm0, dm1]
  rfl

theorem P_sc (rs : FVec Ideal S1x256 .f32) (amT : FVec Ideal S128x256 .f32) (w : Fin 256) : (k0_pay573 rs amT (ix2 0 w) : EReal) = sclF (mx (fun x => amT (ix2 x (w))) * rs (ix2 0 (w))) := by
  pointwise [k0_pay573]
  rfl

theorem P_iv (rs : FVec Ideal S1x256 .f32) (amT : FVec Ideal S128x256 .f32) (w : Fin 256) (l : Fin 128) : (k0_pay576 rs amT (ix2 w l) : EReal) = Ideal.div (rs (ix2 0 w)) (sclF (mx (fun x => amT (ix2 x (w))) * rs (ix2 0 (w)))) := by
  pointwise [k0_pay576, k0_pay573]
  rfl

theorem P_qs0 (rs : FVec Ideal S1x256 .f32) (amT : FVec Ideal S128x256 .f32) (l : Fin 128) : (k0_pay574 rs amT (ix4 0 0 0 l) : EReal) = sclF (mx (fun x => amT (ix2 x (row 0 l))) * rs (ix2 0 (row 0 l))) := by
  pointwise [k0_pay574, k0_pay573]
  simp only [row0]
  rfl

theorem P_qs1 (rs : FVec Ideal S1x256 .f32) (amT : FVec Ideal S128x256 .f32) (l : Fin 128) : (k0_pay575 rs amT (ix4 0 0 0 l) : EReal) = sclF (mx (fun x => amT (ix2 x (row 1 l))) * rs (ix2 0 (row 1 l))) := by
  pointwise [k0_pay575, k0_pay573]
  simp only [row1]
  rfl

theorem P_mu (v43 v48 v54 v59 : Vec Ideal S1x1x128x128 .f32) (b : Fin 2) (ρ : Fin 128) : (k0_pay435 (k0_pay433 v43 v48) (ix2 0 (row b ρ)) : EReal) = muF (∑ x, (if b = 0 then v43 else v48) (ix4 0 0 ρ x)) := by
  unfold row
  fin_cases b <;> pointwise [k0_pay433, k0_pay435] <;> simp [muF, invd]

theorem P_sd (v43 v48 v54 v59 : Vec Ideal S1x1x128x128 .f32) (b : Fin 2) (ρ : Fin 128) : (k0_pay436 (k0_pay433 v43 v48) (k0_pay434 v54) v59 (ix2 0 (row b ρ)) : EReal) = sdF (∑ x, (if b = 0 then v43 else v48) (ix4 0 0 ρ x)) (∑ x, (if b = 0 then v54 else v59) (ix4 0 0 ρ x)) := by
  pointwise [k0_pay434, k0_pay436]
  rw [P_mu v43 v48 v54 v59 b ρ]
  fin_cases b <;> simp [row, sdF, invd]

theorem P_rs (v43 v48 v54 v59 : Vec Ideal S1x1x128x128 .f32) (b : Fin 2) (ρ : Fin 128) : (k0_pay437 (k0_pay433 v43 v48) (k0_pay434 v54) v59 (ix2 0 (row b ρ)) : EReal) = Ideal.div 1 (sdF (∑ x, (if b = 0 then v43 else v48) (ix4 0 0 ρ x)) (∑ x, (if b = 0 then v54 else v59) (ix4 0 0 ρ x))) := by
  rw [← P_sd]
  pointwise [k0_pay437]

theorem P_lh (v43 v48 v54 v59 : Vec Ideal S1x1x128x128 .f32) (b : Fin 2) (ρ : Fin 128) (j : Fin 16) : (k0_pay438 (k0_pay433 v43 v48) (k0_pay434 v54) v59 (ix2 (row b ρ) j) : EReal)
    = outerL (0 - muF (∑ x, (if b = 0 then v43 else v48) (ix4 0 0 ρ x))) (sdF (∑ x, (if b = 0 then v43 else v48) (ix4 0 0 ρ x)) (∑ x, (if b = 0 then v54 else v59) (ix4 0 0 ρ x))) j := by
  rw [← P_sd, ← P_mu v43 v48 v54 v59]
  fin_cases j <;> pointwise [k0_pay438] <;> rfl

theorem P_e (a : Vec Ideal S1x64x128 .fp8e4m3) (w : Vec Ideal S64x5120 .fp8e4m3) (ρ : Fin 128) (d : Fin 5120) :
    (k0_pay428 (k0_pay423 a) w (ix2 ρ d) : EReal) = ∑ p, a (ix3 0 p ρ) * w (ix2 p d) := by
  pointwise [k0_pay428, k0_pay423]

theorem P_st0 (s0 s1 : Vec Ideal S1x1x40x128 .f32) (kk : Elt Ideal .f32) (ρ : Fin 128) (g : Fin 40) :
    (k0_pay424 s0 s1 kk (ix3 0 ρ ⟨g.val, by omega⟩) : EReal) = s0 (ix4 0 0 g ρ) := by
  pointwise [k0_pay424]

theorem P_st1 (s0 s1 : Vec Ideal S1x1x40x128 .f32) (kk : Elt Ideal .f32) (ρ : Fin 128) (g : Fin 40) :
    (k0_pay424 s0 s1 kk (ix3 0 ρ ⟨40 + g.val, by omega⟩) : EReal) = s1 (ix4 0 0 g ρ) * kk := by
  pointwise [k0_pay424]

theorem P_st2 (s0 s1 : Vec Ideal S1x1x40x128 .f32) (kk : Elt Ideal .f32) (z) (ρ : Fin 128) (g : Fin 40) :
    (k0_pay427 (k0_pay425 s0) (k0_pay426 s1 kk) z (ix3 0 ρ ⟨g.val, by omega⟩) : EReal) = s0 (ix4 0 0 g ρ) := by
  pointwise [k0_pay427, k0_pay425, k0_pay426]

theorem P_st3 (s0 s1 : Vec Ideal S1x1x40x128 .f32) (kk : Elt Ideal .f32) (z) (ρ : Fin 128) (g : Fin 40) :
    (k0_pay427 (k0_pay425 s0) (k0_pay426 s1 kk) z (ix3 0 ρ ⟨40 + g.val, by omega⟩) : EReal) = s1 (ix4 0 0 g ρ) * kk := by
  pointwise [k0_pay427, k0_pay425, k0_pay426]

theorem P_t0 (se : Vec Ideal S1x5120 .f32) (sp : Elt Ideal .f32) (s : Fin 8) (d : Fin 5120) : (k0_pay5 se sp (ix3 0 s d) : EReal) = se (ix2 0 d) * sp := by
  pointwise [k0_pay5]

theorem P_t1 (be be' : Vec Ideal S1x5120 .f32) (s : Fin 8) (d : Fin 5120) : (k0_pay6 be be' (ix3 0 s d) : EReal) = be' (ix2 0 d) - (∑ x, be (ix2 0 x)) * invd := by
  pointwise [k0_pay6]
  rfl

theorem P_t2 (hs : Vec Ideal S1x1x5120 .f32) (s : Fin 8) (d : Fin 5120) : (k0_pay421 (k0_pay7 hs) (ix3 0 s d) : EReal) = 1 + hs (ix3 0 0 d) := by
  pointwise [k0_pay421, k0_pay7, k0_pay3]

theorem P_rh (hs sf : Vec Ideal S1x1x5120 .f32) (j : Fin 16) (d : Fin 5120) :
    (k0_pay422 (k0_pay3 hs) (k0_pay4 sf) (ix2 j d) : EReal) = outerR (1 + hs (ix3 0 0 d)) (sf (ix3 0 0 d)) j := by
  fin_cases j <;> pointwise [k0_pay422, k0_pay3, k0_pay4] <;> rfl

end Cert.KernelIdeal.Hand
-- ==== Proof.ValTrip0.lean ====
/- One trip of the row loop, column groups 0 to 9: what it computes and stores. -/
module

public import proofs.«01_k».proof.Proof.ValDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (arg8 : Memref sig .tc .vmem S1x2x128x5120 .i8) (arg10 : Memref sig .tc .vmem S1x2x128x5120 .i8) (arg23 : Memref sig .tc .vmem S128x5120 .f32) (arg24 : Memref sig .tc .vmem S2x128x128 .f32) (arg25 : Memref sig .tc .vmem S3x8x5120 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty) (k : Fin k0_t1_loop.trips)
  (TT : Fin 3 → Fin 5120 → EReal) (hT25 : ∀ (a : Fin 3) (s : Fin 8) (d : Fin 5120), View.read (Elt Ideal) arg25.view X_arg25 (ix3 a s d) = TT a d)
include hT25

theorem e_0 (r : Fin 32) (l : Fin 128) : trip_k0_t1.sl.v1412 arg23 arg25 X_arg23 X_arg25 k (ix2 r l) = eT (View.read (Elt Ideal) arg23.view X_arg23) TT (trow k r) (col 0 l) := by
  simp only [trip_k0_t1.sl.v1412, trip_k0_t1.sl.v1411, trip_k0_t1.sl.v1410, trip_k0_t1.sl.v1409, trip_k0_t1.sl.v1408, trip_k0_t1.sl.v1406, trip_k0_t1.sl.v1405, trip_k0_t1.sl.v1404, trip_k0_t1.sl.v1403, trip_k0_t1.sl.v1401]
  pointwise [View.readAt_apply, k0_off4_eq, hT25]
  rw [col0]
  rfl

theorem h_0_0 (r : Fin 32) (l : Fin 128) : trip_k0_t1.sl.v1428 arg8 arg10 arg23 arg24 arg25 X_arg8 X_arg10 X_arg23 X_arg24 X_arg25 k (ix2 r l) = HH arg8 arg10 arg23 arg24 X_arg8 X_arg10 X_arg23 X_arg24 TT 0 (trow k r) (col 0 l) := by
  simp only [trip_k0_t1.sl.v1428, trip_k0_t1.sl.v1427, trip_k0_t1.sl.v1426, trip_k0_t1.sl.v1425, trip_k0_t1.sl.v1424, trip_k0_t1.sl.v1391, trip_k0_t1.sl.v1420, trip_k0_t1.sl.v1419, trip_k0_t1.sl.v1423, trip_k0_t1.sl.v1422, trip_k0_t1.sl.v1421, trip_k0_t1.sl.v1416, trip_k0_t1.sl.v1415]
  pointwise [View.readAt_apply, k0_off2_eq, k0_off5_eq]
  refine Eq.trans ?_ (hT_col _ _ _ _ _ _ _ _ _).symm
  exact congrArg₂ HAdd.hAdd (by rw [col0]; rfl) (e_0 arg23 arg25 X_arg23 X_arg25 k TT hT25 r l)

theorem p_0_0 (x : S1x32x128.Idx) : trip_k0_t1.sl.v1432 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off6 k) S1x32x128.size (k0_off6_inb k)).emb x) := by
  idx_vars x
  refine Eq.trans ?_ (h_0_0 arg8 arg10 arg23 arg24 arg25 X_arg8 X_arg10 X_arg23 X_arg24 X_arg25 k TT hT25 x1 x2 |>.trans ?_)
  · simp only [trip_k0_t1.sl.v1432]; pointwise
  · refine congr (congr (congrArg _ (Fin.ext ?_)) (Fin.ext ?_)) (Fin.ext ?_)
    · obtain rfl := Subsingleton.elim x0 0
      exact emb_coord _ (k0_off6_eq k) _ 0 _ rfl
    · exact emb_coord _ (k0_off6_eq k) _ 1 _ rfl
    · exact emb_coord _ (k0_off6_eq k) _ 2 _ rfl

theorem h_0_1 (r : Fin 32) (l : Fin 128) : trip_k0_t1.sl.v1451 arg8 arg10 arg23 arg24 arg25 X_arg8 X_arg10 X_arg23 X_arg24 X_arg25 k (ix2 r l) = HH arg8 arg10 arg23 arg24 X_arg8 X_arg10 X_arg23 X_arg24 TT 1 (trow k r) (col 0 l) := by
  simp only [trip_k0_t1.sl.v1451, trip_k0_t1.sl.v1450, trip_k0_t1.sl.v1449, trip_k0_t1.sl.v1448, trip_k0_t1.sl.v1447, trip_k0_t1.sl.v1394, trip_k0_t1.sl.v1443, trip_k0_t1.sl.v1442, trip_k0_t1.sl.v1446, trip_k0_t1.sl.v1445, trip_k0_t1.sl.v1444, trip_k0_t1.sl.v1439, trip_k0_t1.sl.v1438]
  pointwise [View.readAt_apply, k0_off3_eq, k0_off7_eq]
  refine Eq.trans ?_ (hT_col _ _ _ _ _ _ _ _ _).symm
  exact congrArg₂ HAdd.hAdd (by rw [col0]; rfl) (e_0 arg23 arg25 X_arg23 X_arg25 k TT hT25 r l)

theorem p_0_1 (x : S1x32x128.Idx) : trip_k0_t1.sl.v1455 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off8 k) S1x32x128.size (k0_off8_inb k)).emb x) := by
  idx_vars x
  refine Eq.trans ?_ (h_0_1 arg8 arg10 arg23 arg24 arg25 X_arg8 X_arg10 X_arg23 X_arg24 X_arg25 k TT hT25 x1 x2 |>.trans ?_)
  · simp only [trip_k0_t1.sl.v1455]; pointwise
  · refine congr (congr (congrArg _ (Fin.ext ?_)) (Fin.ext ?_)) (Fin.ext ?_)
    · obtain rfl := Subsingleton.elim x0 0
      exact emb_coord _ (k0_off8_eq k) _ 0 _ rfl
    · exact emb_coord _ (k0_off8_eq k) _ 1 _ rfl
    · exact emb_coord _ (k0_off8_eq k) _ 2 _ rfl

theorem e_1 (r : Fin 32) (l : Fin 128) : trip_k0_t1.sl.v1472 arg23 arg25 X_arg23 X_arg25 k (ix2 r l) = eT (View.read (Elt Ideal) arg23.view X_arg23) TT (trow k r) (col 1 l) := by
  simp only [trip_k0_t1.sl.v1472, trip_k0_t1.sl.v1471, trip_k0_t1.sl.v1470, trip_k0_t1.sl.v1469, trip_k0_t1.sl.v1468, trip_k0_t1.sl.v1466, trip_k0_t1.sl.v1465, trip_k0_t1.sl.v1464, trip_k0_t1.sl.v1463, trip_k0_t1.sl.v1461]
  pointwise [View.readAt_apply, k0_off9_eq, hT25]
  rfl

theorem h_1_0 (r : Fin 32) (l : Fin 128) : trip_k0_t1.sl.v1488 arg8 arg10 arg23 arg24 arg25 X_arg8 X_arg10 X_arg23 X_arg24 X_arg25 k (ix2 r l) = HH arg8 arg10 arg23 arg24 X_arg8 X_arg10 X_arg23 X_arg24 TT 0 (trow k r) (col 1 l) := by
  simp only [trip_k0_t1.sl.v1488, trip_k0_t1.sl.v1487, trip_k0_t1.sl.v1486, trip_k0_t1.sl.v1485, trip_k0_t1.sl.v1484, trip_k0_t1.sl.v1391, trip_k0_t1.sl.v1480, trip_k0_t1.sl.v1479, trip_k0_t1.sl.v1483, trip_k0_t1.sl.v1482, trip_k0_t1.sl.v1481, trip_k0_t1.sl.v1476, trip_k0_t1.sl.v1475]
  pointwise [View.readAt_apply, k0_off10_eq, k0_off2_eq]
  refine Eq.trans ?_ (hT_col _ _ _ _ _ _ _ _ _).symm
  exact congrArg₂ HAdd.hAdd rfl (e_1 arg23 arg25 X_arg23 X_arg25 k TT hT25 r l)

theorem p_1_0 (x : S1x32x128.Idx) : trip_k0_t1.sl.v1492 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off11 k) S1x32x128.size (k0_off11_inb k)).emb x) := by
  idx_vars x
  refine Eq.trans ?_ (h_1_0 arg8 arg10 arg23 arg24 arg25 X_arg8 X_arg10 X_arg23 X_arg24 X_arg25 k TT hT25 x1 x2 |>.trans ?_)
  · simp only [trip_k0_t1.sl.v1492]; pointwise
  · refine congr (congr (congrArg _ (Fin.ext ?_)) (Fin.ext ?_)) (Fin.ext ?_)
    · obtain rfl := Subsingleton.elim x0 0
      exact emb_coord _ (k0_off11_eq k) _ 0 _ rfl
    · exact emb_coord _ (k0_off11_eq k) _ 1 _ rfl
    · exact emb_coord _ (k0_off11_eq k) _ 2 _ rfl

theorem h_1_1 (r : Fin 32) (l : Fin 128) : trip_k0_t1.sl.v1511 arg8 arg10 arg23 arg24 arg25 X_arg8 X_arg10 X_arg23 X_arg24 X_arg25 k (ix2 r l) = HH arg8 arg10 arg23 arg24 X_arg8 X_arg10 X_arg23 X_arg24 TT 1 (trow k r) (col 1 l) := by
  simp only [trip_k0_t1.sl.v1511, trip_k0_t1.sl.v1510, trip_k0_t1.sl.v1509, trip_k0_t1.sl.v1508, trip_k0_t1.sl.v1507, trip_k0_t1.sl.v1394, trip_k0_t1.sl.v1503, trip_k0_t1.sl.v1502, trip_k0_t1.sl.v1506, trip_k0_t1.sl.v1505, trip_k0_t1.sl.v1504, trip_k0_t1.sl.v1499, trip_k0_t1.sl.v1498]
  pointwise [View.readAt_apply, k0_off12_eq, k0_off3_eq]
  refine Eq.trans ?_ (hT_col _ _ _ _ _ _ _ _ _).symm
  exact congrArg₂ HAdd.hAdd rfl (e_1 arg23 arg25 X_arg23 X_arg25 k TT hT25 r l)

theorem p_1_1 (x : S1x32x128.Idx) : trip_k0_t1.sl.v1515 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off13 k) S1x32x128.size (k0_off13_inb k)).emb x) := by
  idx_vars x
  refine Eq.trans ?_ (h_1_1 arg8 arg10 arg23 arg24 arg25 X_arg8 X_arg10 X_arg23 X_arg24 X_arg25 k TT hT25 x1 x2 |>.trans ?_)
  · simp only [trip_k0_t1.sl.v1515]; pointwise
  · refine congr (congr (congrArg _ (Fin.ext ?_)) (Fin.ext ?_)) (Fin.ext ?_)
    · obtain rfl := Subsingleton.elim x0 0
      exact emb_coord _ (k0_off13_eq k) _ 0 _ rfl
    · exact emb_coord _ (k0_off13_eq k) _ 1 _ rfl
    · exact emb_coord _ (k0_off13_eq k) _ 2 _ rfl

theorem e_2 (r : Fin 32) (l : Fin 128) : trip_k0_t1.sl.v1532 arg23 arg25 X_arg23 X_arg25 k (ix2 r l) = eT (View.read (Elt Ideal) arg23.view X_arg23) TT (trow k r) (col 2 l) := by
  simp only [trip_k0_t1.sl.v1532, trip_k0_t1.sl.v1531, trip_k0_t1.sl.v1530, trip_k0_t1.sl.v1529, trip_k0_t1.sl.v1528, trip_k0_t1.sl.v1526, trip_k0_t1.sl.v1525, trip_k0_t1.sl.v1524, trip_k0_t1.sl.v1523, trip_k0_t1.sl.v1521]
  pointwise [View.readAt_apply, k0_off14_eq, hT25]
  rfl

theorem h_2_0 (r : Fin 32) (l : Fin 128) : trip_k0_t1.sl.v1548 arg8 arg10 arg23 arg24 arg25 X_arg8 X_arg10 X_arg23 X_arg24 X_arg25 k (ix2 r l) = HH arg8 arg10 arg23 arg24 X_arg8 X_arg10 X_arg23 X_arg24 TT 0 (trow k r) (col 2 l) := by
  simp only [trip_k0_t1.sl.v1548, trip_k0_t1.sl.v1547, trip_k0_t1.sl.v1546, trip_k0_t1.sl.v1545, trip_k0_t1.sl.v1544, trip_k0_t1.sl.v1391, trip_k0_t1.sl.v1540, trip_k0_t1.sl.v1539, trip_k0_t1.sl.v1543, trip_k0_t1.sl.v1542, trip_k0_t1.sl.v1541, trip_k0_t1.sl.v1536, trip_k0_t1.sl.v1535]
  pointwise [View.readAt_apply, k0_off15_eq, k0_off2_eq]
  refine Eq.trans ?_ (hT_col _ _ _ _ _ _ _ _ _).symm
  exact congrArg₂ HAdd.hAdd rfl (e_2 arg23 arg25 X_arg23 X_arg25 k TT hT25 r l)

theorem p_2_0 (x : S1x32x128.Idx) : trip_k0_t1.sl.v1552 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off16 k) S1x32x128.size (k0_off16_inb k)).emb x) := by
  idx_vars x
  refine Eq.trans ?_ (h_2_0 arg8 arg10 arg23 arg24 arg25 X_arg8 X_arg10 X_arg23 X_arg24 X_arg25 k TT hT25 x1 x2 |>.trans ?_)
  · simp only [trip_k0_t1.sl.v1552]; pointwise
  · refine congr (congr (congrArg _ (Fin.ext ?_)) (Fin.ext ?_)) (Fin.ext ?_)
    · obtain rfl := Subsingleton.elim x0 0
      exact emb_coord _ (k0_off16_eq k) _ 0 _ rfl
    · exact emb_coord _ (k0_off16_eq k) _ 1 _ rfl
    · exact emb_coord _ (k0_off16_eq k) _ 2 _ rfl

theorem h_2_1 (r : Fin 32) (l : Fin 128) : trip_k0_t1.sl.v1571 arg8 arg10 arg23 arg24 arg25 X_arg8 X_arg10 X_arg23 X_arg24 X_arg25 k (ix2 r l) = HH arg8 arg10 arg23 arg24 X_arg8 X_arg10 X_arg23 X_arg24 TT 1 (trow k r) (col 2 l) := by
  simp only [trip_k0_t1.sl.v1571, trip_k0_t1.sl.v1570, trip_k0_t1.sl.v1569, trip_k0_t1.sl.v1568, trip_k0_t1.sl.v1567, trip_k0_t1.sl.v1394, trip_k0_t1.sl.v1563, trip_k0_t1.sl.v1562, trip_k0_t1.sl.v1566, trip_k0_t1.sl.v1565, trip_k0_t1.sl.v1564, trip_k0_t1.sl.v1559, trip_k0_t1.sl.v1558]
  pointwise [View.readAt_apply, k0_off17_eq, k0_off3_eq]
  refine Eq.trans ?_ (hT_col _ _ _ _ _ _ _ _ _).symm
  exact congrArg₂ HAdd.hAdd rfl (e_2 arg23 arg25 X_arg23 X_arg25 k TT hT25 r l)

theorem p_2_1 (x : S1x32x128.Idx) : trip_k0_t1.sl.v1575 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off18 k) S1x32x128.size (k0_off18_inb k)).emb x) := by
  idx_vars x
  refine Eq.trans ?_ (h_2_1 arg8 arg10 arg23 arg24 arg25 X_arg8 X_arg10 X_arg23 X_arg24 X_arg25 k TT hT25 x1 x2 |>.trans ?_)
  · simp only [trip_k0_t1.sl.v1575]; pointwise
  · refine congr (congr (congrArg _ (Fin.ext ?_)) (Fin.ext ?_)) (Fin.ext ?_)
    · obtain rfl := Subsingleton.elim x0 0
      exact emb_coord _ (k0_off18_eq k) _ 0 _ rfl
    · exact emb_coord _ (k0_off18_eq k) _ 1 _ rfl
    · exact emb_coord _ (k0_off18_eq k) _ 2 _ rfl

theorem e_3 (r : Fin 32) (l : Fin 128) : trip_k0_t1.sl.v1592 arg23 arg25 X_arg23 X_arg25 k (ix2 r l) = eT (View.read (Elt Ideal) arg23.view X_arg23) TT (trow k r) (col 3 l) := by
  simp only [trip_k0_t1.sl.v1592, trip_k0_t1.sl.v1591, trip_k0_t1.sl.v1590, trip_k0_t1.sl.v1589, trip_k0_t1.sl.v1588, trip_k0_t1.sl.v1586, trip_k0_t1.sl.v1585, trip_k0_t1.sl.v1584, trip_k0_t1.sl.v1583, trip_k0_t1.sl.v1581]
  pointwise [View.readAt_apply, k0_off19_eq, hT25]
  rfl

theorem h_3_0 (r : Fin 32) (l : Fin 128) : trip_k0_t1.sl.v1608 arg8 arg10 arg23 arg24 arg25 X_arg8 X_arg10 X_arg23 X_arg24 X_arg25 k (ix2 r l) = HH arg8 arg10 arg23 arg24 X_arg8 X_arg10 X_arg23 X_arg24 TT 0 (trow k r) (col 3 l) := by
  simp only [trip_k0_t1.sl.v1608, trip_k0_t1.sl.v1607, trip_k0_t1.sl.v1606, trip_k0_t1.sl.v1605, trip_k0_t1.sl.v1604, trip_k0_t1.sl.v1391, trip_k0_t1.sl.v1600, trip_k0_t1.sl.v1599, trip_k0_t1.sl.v1603, trip_k0_t1.sl.v1602, trip_k0_t1.sl.v1601, trip_k0_t1.sl.v1596, trip_k0_t1.sl.v1595]
  pointwise [View.readAt_apply, k0_off2_eq, k0_off20_eq]
  refine Eq.trans ?_ (hT_col _ _ _ _ _ _ _ _ _).symm
  exact congrArg₂ HAdd.hAdd rfl (e_3 arg23 arg25 X_arg23 X_arg25 k TT hT25 r l)

theorem p_3_0 (x : S1x32x128.Idx) : trip_k0_t1.sl.v1612 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off21 k) S1x32x128.size (k0_off21_inb k)).emb x) := by
  idx_vars x
  refine Eq.trans ?_ (h_3_0 arg8 arg10 arg23 arg24 arg25 X_arg8 X_arg10 X_arg23 X_arg24 X_arg25 k TT hT25 x1 x2 |>.trans ?_)
  · simp only [trip_k0_t1.sl.v1612]; pointwise
  · refine congr (congr (congrArg _ (Fin.ext ?_)) (Fin.ext ?_)) (Fin.ext ?_)
    · obtain rfl := Subsingleton.elim x0 0
      exact emb_coord _ (k0_off21_eq k) _ 0 _ rfl
    · exact emb_coord _ (k0_off21_eq k) _ 1 _ rfl
    · exact emb_coord _ (k0_off21_eq k) _ 2 _ rfl

theorem h_3_1 (r : Fin 32) (l : Fin 128) : trip_k0_t1.sl.v1631 arg8 arg10 arg23 arg24 arg25 X_arg8 X_arg10 X_arg23 X_arg24 X_arg25 k (ix2 r l) = HH arg8 arg10 arg23 arg24 X_arg8 X_arg10 X_arg23 X_arg24 TT 1 (trow k r) (col 3 l) := by
  simp only [trip_k0_t1.sl.v1631, trip_k0_t1.sl.v1630, trip_k0_t1.sl.v1629, trip_k0_t1.sl.v1628, trip_k0_t1.sl.v1627, trip_k0_t1.sl.v1394, trip_k0_t1.sl.v1623, trip_k0_t1.sl.v1622, trip_k0_t1.sl.v1626, trip_k0_t1.sl.v1625, trip_k0_t1.sl.v1624, trip_k0_t1.sl.v1619, trip_k0_t1.sl.v1618]
  pointwise [View.readAt_apply, k0_off22_eq, k0_off3_eq]
  refine Eq.trans ?_ (hT_col _ _ _ _ _ _ _ _ _).symm
  exact congrArg₂ HAdd.hAdd rfl (e_3 arg23 arg25 X_arg23 X_arg25 k TT hT25 r l)

theorem p_3_1 (x : S1x32x128.Idx) : trip_k0_t1.sl.v1635 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off23 k) S1x32x128.size (k0_off23_inb k)).emb x) := by
  idx_vars x
  refine Eq.trans ?_ (h_3_1 arg8 arg10 arg23 arg24 arg25 X_arg8 X_arg10 X_arg23 X_arg24 X_arg25 k TT hT25 x1 x2 |>.trans ?_)
  · simp only [trip_k0_t1.sl.v1635]; pointwise
  · refine congr (congr (congrArg _ (Fin.ext ?_)) (Fin.ext ?_)) (Fin.ext ?_)
    · obtain rfl := Subsingleton.elim x0 0
      exact emb_coord _ (k0_off23_eq k) _ 0 _ rfl
    · exact emb_coord _ (k0_off23_eq k) _ 1 _ rfl
    · exact emb_coord _ (k0_off23_eq k) _ 2 _ rfl

theorem e_4 (r : Fin 32) (l : Fin 128) : trip_k0_t1.sl.v1652 arg23 arg25 X_arg23 X_arg25 k (ix2 r l) = eT (View.read (Elt Ideal) arg23.view X_arg23) TT (trow k r) (col 4 l) := by
  simp only [trip_k0_t1.sl.v1652, trip_k0_t1.sl.v1651, trip_k0_t1.sl.v1650, trip_k0_t1.sl.v1649, trip_k0_t1.sl.v1648, trip_k0_t1.sl.v1646, trip_k0_t1.sl.v1645, trip_k0_t1.sl.v1644, trip_k0_t1.sl.v1643, trip_k0_t1.sl.v1641]
  pointwise [View.readAt_apply, k0_off24_eq, hT25]
  rfl

theorem h_4_0 (r : Fin 32) (l : Fin 128) : trip_k0_t1.sl.v1668 arg8 arg10 arg23 arg24 arg25 X_arg8 X_arg10 X_arg23 X_arg24 X_arg25 k (ix2 r l) = HH arg8 arg10 arg23 arg24 X_arg8 X_arg10 X_arg23 X_arg24 TT 0 (trow k r) (col 4 l) := by
  simp only [trip_k0_t1.sl.v1668, trip_k0_t1.sl.v1667, trip_k0_t1.sl.v1666, trip_k0_t1.sl.v1665, trip_k0_t1.sl.v1664, trip_k0_t1.sl.v1391, trip_k0_t1.sl.v1660, trip_k0_t1.sl.v1659, trip_k0_t1.sl.v1663, trip_k0_t1.sl.v1662, trip_k0_t1.sl.v1661, trip_k0_t1.sl.v1656, trip_k0_t1.sl.v1655]
  pointwise [View.readAt_apply, k0_off2_eq, k0_off25_eq]
  refine Eq.trans ?_ (hT_col _ _ _ _ _ _ _ _ _).symm
  exact congrArg₂ HAdd.hAdd rfl (e_4 arg23 arg25 X_arg23 X_arg25 k TT hT25 r l)

theorem p_4_0 (x : S1x32x128.Idx) : trip_k0_t1.sl.v1672 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off26 k) S1x32x128.size (k0_off26_inb k)).emb x) := by
  idx_vars x
  refine Eq.trans ?_ (h_4_0 arg8 arg10 arg23 arg24 arg25 X_arg8 X_arg10 X_arg23 X_arg24 X_arg25 k TT hT25 x1 x2 |>.trans ?_)
  · simp only [trip_k0_t1.sl.v1672]; pointwise
  · refine congr (congr (congrArg _ (Fin.ext ?_)) (Fin.ext ?_)) (Fin.ext ?_)
    · obtain rfl := Subsingleton.elim x0 0
      exact emb_coord _ (k0_off26_eq k) _ 0 _ rfl
    · exact emb_coord _ (k0_off26_eq k) _ 1 _ rfl
    · exact emb_coord _ (k0_off26_eq k) _ 2 _ rfl

theorem h_4_1 (r : Fin 32) (l : Fin 128) : trip_k0_t1.sl.v1691 arg8 arg10 arg23 arg24 arg25 X_arg8 X_arg10 X_arg23 X_arg24 X_arg25 k (ix2 r l) = HH arg8 arg10 arg23 arg24 X_arg8 X_arg10 X_arg23 X_arg24 TT 1 (trow k r) (col 4 l) := by
  simp only [trip_k0_t1.sl.v1691, trip_k0_t1.sl.v1690, trip_k0_t1.sl.v1689, trip_k0_t1.sl.v1688, trip_k0_t1.sl.v1687, trip_k0_t1.sl.v1394, trip_k0_t1.sl.v1683, trip_k0_t1.sl.v1682, trip_k0_t1.sl.v1686, trip_k0_t1.sl.v1685, trip_k0_t1.sl.v1684, trip_k0_t1.sl.v1679, trip_k0_t1.sl.v1678, trip_k0_t1.sl.r]
  pointwise [View.readAt_apply, k0_off27_eq, k0_off3_eq]
  refine Eq.trans ?_ (hT_col _ _ _ _ _ _ _ _ _).symm
  exact congrArg₂ HAdd.hAdd rfl (e_4 arg23 arg25 X_arg23 X_arg25 k TT hT25 r l)

theorem p_4_1 (x : S1x32x128.Idx) : trip_k0_t1.sl.v1695 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off28 k) S1x32x128.size (k0_off28_inb k)).emb x) := by
  idx_vars x
  refine Eq.trans ?_ (h_4_1 arg8 arg10 arg23 arg24 arg25 X_arg8 X_arg10 X_arg23 X_arg24 X_arg25 k TT hT25 x1 x2 |>.trans ?_)
  · simp only [trip_k0_t1.sl.v1695]; pointwise
  · refine congr (congr (congrArg _ (Fin.ext ?_)) (Fin.ext ?_)) (Fin.ext ?_)
    · obtain rfl := Subsingleton.elim x0 0
      exact emb_coord _ (k0_off28_eq k) _ 0 _ rfl
    · exact emb_coord _ (k0_off28_eq k) _ 1 _ rfl
    · exact emb_coord _ (k0_off28_eq k) _ 2 _ rfl

theorem e_5 (r : Fin 32) (l : Fin 128) : trip_k0_t1.sl.v1712 arg23 arg25 X_arg23 X_arg25 k (ix2 r l) = eT (View.read (Elt Ideal) arg23.view X_arg23) TT (trow k r) (col 5 l) := by
  simp only [trip_k0_t1.sl.v1712, trip_k0_t1.sl.v1711, trip_k0_t1.sl.v1710, trip_k0_t1.sl.v1709, trip_k0_t1.sl.v1708, trip_k0_t1.sl.v1706, trip_k0_t1.sl.v1705, trip_k0_t1.sl.v1704, trip_k0_t1.sl.v1703, trip_k0_t1.sl.v1701]
  pointwise [View.readAt_apply, k0_off29_eq, hT25]
  rfl

theorem h_5_0 (r : Fin 32) (l : Fin 128) : trip_k0_t1.sl.v1728 arg8 arg10 arg23 arg24 arg25 X_arg8 X_arg10 X_arg23 X_arg24 X_arg25 k (ix2 r l) = HH arg8 arg10 arg23 arg24 X_arg8 X_arg10 X_arg23 X_arg24 TT 0 (trow k r) (col 5 l) := by
  simp only [trip_k0_t1.sl.v1728, trip_k0_t1.sl.v1727, trip_k0_t1.sl.v1726, trip_k0_t1.sl.v1725, trip_k0_t1.sl.v1724, trip_k0_t1.sl.v1391, trip_k0_t1.sl.v1720, trip_k0_t1.sl.v1719, trip_k0_t1.sl.r_1, trip_k0_t1.sl.v1723, trip_k0_t1.sl.v1722, trip_k0_t1.sl.v1721, trip_k0_t1.sl.v1716, trip_k0_t1.sl.v1715]
  pointwise [View.readAt_apply, k0_off2_eq, k0_off30_eq]
  refine Eq.trans ?_ (hT_col _ _ _ _ _ _ _ _ _).symm
  exact congrArg₂ HAdd.hAdd rfl (e_5 arg23 arg25 X_arg23 X_arg25 k TT hT25 r l)

theorem p_5_0 (x : S1x32x128.Idx) : trip_k0_t1.sl.v1732 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off31 k) S1x32x128.size (k0_off31_inb k)).emb x) := by
  idx_vars x
  refine Eq.trans ?_ (h_5_0 arg8 arg10 arg23 arg24 arg25 X_arg8 X_arg10 X_arg23 X_arg24 X_arg25 k TT hT25 x1 x2 |>.trans ?_)
  · simp only [trip_k0_t1.sl.v1732]; pointwise
  · refine congr (congr (congrArg _ (Fin.ext ?_)) (Fin.ext ?_)) (Fin.ext ?_)
    · obtain rfl := Subsingleton.elim x0 0
      exact emb_coord _ (k0_off31_eq k) _ 0 _ rfl
    · exact emb_coord _ (k0_off31_eq k) _ 1 _ rfl
    · exact emb_coord _ (k0_off31_eq k) _ 2 _ rfl

theorem h_5_1 (r : Fin 32) (l : Fin 128) : trip_k0_t1.sl.v1751 arg8 arg10 arg23 arg24 arg25 X_arg8 X_arg10 X_arg23 X_arg24 X_arg25 k (ix2 r l) = HH arg8 arg10 arg23 arg24 X_arg8 X_arg10 X_arg23 X_arg24 TT 1 (trow k r) (col 5 l) := by
  simp only [trip_k0_t1.sl.v1751, trip_k0_t1.sl.v1750, trip_k0_t1.sl.v1749, trip_k0_t1.sl.v1748, trip_k0_t1.sl.v1747, trip_k0_t1.sl.v1394, trip_k0_t1.sl.v1743, trip_k0_t1.sl.v1742, trip_k0_t1.sl.v1746, trip_k0_t1.sl.v1745, trip_k0_t1.sl.v1744, trip_k0_t1.sl.v1739, trip_k0_t1.sl.v1738]
  pointwise [View.readAt_apply, k0_off3_eq, k0_off32_eq]
  refine Eq.trans ?_ (hT_col _ _ _ _ _ _ _ _ _).symm
  exact congrArg₂ HAdd.hAdd rfl (e_5 arg23 arg25 X_arg23 X_arg25 k TT hT25 r l)

theorem p_5_1 (x : S1x32x128.Idx) : trip_k0_t1.sl.v1755 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off33 k) S1x32x128.size (k0_off33_inb k)).emb x) := by
  idx_vars x
  refine Eq.trans ?_ (h_5_1 arg8 arg10 arg23 arg24 arg25 X_arg8 X_arg10 X_arg23 X_arg24 X_arg25 k TT hT25 x1 x2 |>.trans ?_)
  · simp only [trip_k0_t1.sl.v1755]; pointwise
  · refine congr (congr (congrArg _ (Fin.ext ?_)) (Fin.ext ?_)) (Fin.ext ?_)
    · obtain rfl := Subsingleton.elim x0 0
      exact emb_coord _ (k0_off33_eq k) _ 0 _ rfl
    · exact emb_coord _ (k0_off33_eq k) _ 1 _ rfl
    · exact emb_coord _ (k0_off33_eq k) _ 2 _ rfl

theorem e_6 (r : Fin 32) (l : Fin 128) : trip_k0_t1.sl.v1772 arg23 arg25 X_arg23 X_arg25 k (ix2 r l) = eT (View.read (Elt Ideal) arg23.view X_arg23) TT (trow k r) (col 6 l) := by
  simp only [trip_k0_t1.sl.v1772, trip_k0_t1.sl.v1771, trip_k0_t1.sl.v1770, trip_k0_t1.sl.v1769, trip_k0_t1.sl.v1768, trip_k0_t1.sl.v1766, trip_k0_t1.sl.v1765, trip_k0_t1.sl.v1764, trip_k0_t1.sl.v1763, trip_k0_t1.sl.r_2, trip_k0_t1.sl.v1761]
  pointwise [View.readAt_apply, k0_off34_eq, hT25]
  rfl

theorem h_6_0 (r : Fin 32) (l : Fin 128) : trip_k0_t1.sl.v1788 arg8 arg10 arg23 arg24 arg25 X_arg8 X_arg10 X_arg23 X_arg24 X_arg25 k (ix2 r l) = HH arg8 arg10 arg23 arg24 X_arg8 X_arg10 X_arg23 X_arg24 TT 0 (trow k r) (col 6 l) := by
  simp only [trip_k0_t1.sl.v1788, trip_k0_t1.sl.v1787, trip_k0_t1.sl.v1786, trip_k0_t1.sl.v1785, trip_k0_t1.sl.v1784, trip_k0_t1.sl.v1391, trip_k0_t1.sl.v1780, trip_k0_t1.sl.v1779, trip_k0_t1.sl.v1783, trip_k0_t1.sl.v1782, trip_k0_t1.sl.v1781, trip_k0_t1.sl.v1776, trip_k0_t1.sl.v1775]
  pointwise [View.readAt_apply, k0_off2_eq, k0_off35_eq]
  refine Eq.trans ?_ (hT_col _ _ _ _ _ _ _ _ _).symm
  exact congrArg₂ HAdd.hAdd rfl (e_6 arg23 arg25 X_arg23 X_arg25 k TT hT25 r l)

theorem p_6_0 (x : S1x32x128.Idx) : trip_k0_t1.sl.v1792 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off36 k) S1x32x128.size (k0_off36_inb k)).emb x) := by
  idx_vars x
  refine Eq.trans ?_ (h_6_0 arg8 arg10 arg23 arg24 arg25 X_arg8 X_arg10 X_arg23 X_arg24 X_arg25 k TT hT25 x1 x2 |>.trans ?_)
  · simp only [trip_k0_t1.sl.v1792]; pointwise
  · refine congr (congr (congrArg _ (Fin.ext ?_)) (Fin.ext ?_)) (Fin.ext ?_)
    · obtain rfl := Subsingleton.elim x0 0
      exact emb_coord _ (k0_off36_eq k) _ 0 _ rfl
    · exact emb_coord _ (k0_off36_eq k) _ 1 _ rfl
    · exact emb_coord _ (k0_off36_eq k) _ 2 _ rfl

theorem h_6_1 (r : Fin 32) (l : Fin 128) : trip_k0_t1.sl.v1811 arg8 arg10 arg23 arg24 arg25 X_arg8 X_arg10 X_arg23 X_arg24 X_arg25 k (ix2 r l) = HH arg8 arg10 arg23 arg24 X_arg8 X_arg10 X_arg23 X_arg24 TT 1 (trow k r) (col 6 l) := by
  simp only [trip_k0_t1.sl.v1811, trip_k0_t1.sl.v1810, trip_k0_t1.sl.v1809, trip_k0_t1.sl.v1808, trip_k0_t1.sl.v1807, trip_k0_t1.sl.v1394, trip_k0_t1.sl.v1803, trip_k0_t1.sl.v1802, trip_k0_t1.sl.v1806, trip_k0_t1.sl.v1805, trip_k0_t1.sl.v1804, trip_k0_t1.sl.v1799, trip_k0_t1.sl.v1798]
  pointwise [View.readAt_apply, k0_off3_eq, k0_off37_eq]
  refine Eq.trans ?_ (hT_col _ _ _ _ _ _ _ _ _).symm
  exact congrArg₂ HAdd.hAdd rfl (e_6 arg23 arg25 X_arg23 X_arg25 k TT hT25 r l)

theorem p_6_1 (x : S1x32x128.Idx) : trip_k0_t1.sl.v1815 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off38 k) S1x32x128.size (k0_off38_inb k)).emb x) := by
  idx_vars x
  refine Eq.trans ?_ (h_6_1 arg8 arg10 arg23 arg24 arg25 X_arg8 X_arg10 X_arg23 X_arg24 X_arg25 k TT hT25 x1 x2 |>.trans ?_)
  · simp only [trip_k0_t1.sl.v1815]; pointwise
  · refine congr (congr (congrArg _ (Fin.ext ?_)) (Fin.ext ?_)) (Fin.ext ?_)
    · obtain rfl := Subsingleton.elim x0 0
      exact emb_coord _ (k0_off38_eq k) _ 0 _ rfl
    · exact emb_coord _ (k0_off38_eq k) _ 1 _ rfl
    · exact emb_coord _ (k0_off38_eq k) _ 2 _ rfl

theorem e_7 (r : Fin 32) (l : Fin 128) : trip_k0_t1.sl.v1832 arg23 arg25 X_arg23 X_arg25 k (ix2 r l) = eT (View.read (Elt Ideal) arg23.view X_arg23) TT (trow k r) (col 7 l) := by
  simp only [trip_k0_t1.sl.v1832, trip_k0_t1.sl.v1831, trip_k0_t1.sl.v1830, trip_k0_t1.sl.v1829, trip_k0_t1.sl.v1828, trip_k0_t1.sl.v1826, trip_k0_t1.sl.v1825, trip_k0_t1.sl.v1824, trip_k0_t1.sl.v1823, trip_k0_t1.sl.v1821]
  pointwise [View.readAt_apply, k0_off39_eq, hT25]
  rfl

theorem h_7_0 (r : Fin 32) (l : Fin 128) : trip_k0_t1.sl.v1848 arg8 arg10 arg23 arg24 arg25 X_arg8 X_arg10 X_arg23 X_arg24 X_arg25 k (ix2 r l) = HH arg8 arg10 arg23 arg24 X_arg8 X_arg10 X_arg23 X_arg24 TT 0 (trow k r) (col 7 l) := by
  simp only [trip_k0_t1.sl.v1848, trip_k0_t1.sl.v1847, trip_k0_t1.sl.v1846, trip_k0_t1.sl.v1845, trip_k0_t1.sl.v1844, trip_k0_t1.sl.v1391, trip_k0_t1.sl.v1840, trip_k0_t1.sl.v1839, trip_k0_t1.sl.v1843, trip_k0_t1.sl.v1842, trip_k0_t1.sl.v1841, trip_k0_t1.sl.v1836, trip_k0_t1.sl.v1835]
  pointwise [View.readAt_apply, k0_off2_eq, k0_off40_eq]
  refine Eq.trans ?_ (hT_col _ _ _ _ _ _ _ _ _).symm
  exact congrArg₂ HAdd.hAdd rfl (e_7 arg23 arg25 X_arg23 X_arg25 k TT hT25 r l)

theorem p_7_0 (x : S1x32x128.Idx) : trip_k0_t1.sl.v1852 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off41 k) S1x32x128.size (k0_off41_inb k)).emb x) := by
  idx_vars x
  refine Eq.trans ?_ (h_7_0 arg8 arg10 arg23 arg24 arg25 X_arg8 X_arg10 X_arg23 X_arg24 X_arg25 k TT hT25 x1 x2 |>.trans ?_)
  · simp only [trip_k0_t1.sl.v1852]; pointwise
  · refine congr (congr (congrArg _ (Fin.ext ?_)) (Fin.ext ?_)) (Fin.ext ?_)
    · obtain rfl := Subsingleton.elim x0 0
      exact emb_coord _ (k0_off41_eq k) _ 0 _ rfl
    · exact emb_coord _ (k0_off41_eq k) _ 1 _ rfl
    · exact emb_coord _ (k0_off41_eq k) _ 2 _ rfl

theorem h_7_1 (r : Fin 32) (l : Fin 128) : trip_k0_t1.sl.v1871 arg8 arg10 arg23 arg24 arg25 X_arg8 X_arg10 X_arg23 X_arg24 X_arg25 k (ix2 r l) = HH arg8 arg10 arg23 arg24 X_arg8 X_arg10 X_arg23 X_arg24 TT 1 (trow k r) (col 7 l) := by
  simp only [trip_k0_t1.sl.v1871, trip_k0_t1.sl.v1870, trip_k0_t1.sl.v1869, trip_k0_t1.sl.v1868, trip_k0_t1.sl.v1867, trip_k0_t1.sl.v1394, trip_k0_t1.sl.v1863, trip_k0_t1.sl.v1862, trip_k0_t1.sl.v1866, trip_k0_t1.sl.v1865, trip_k0_t1.sl.v1864, trip_k0_t1.sl.v1859, trip_k0_t1.sl.v1858]
  pointwise [View.readAt_apply, k0_off3_eq, k0_off42_eq]
  refine Eq.trans ?_ (hT_col _ _ _ _ _ _ _ _ _).symm
  exact congrArg₂ HAdd.hAdd rfl (e_7 arg23 arg25 X_arg23 X_arg25 k TT hT25 r l)

theorem p_7_1 (x : S1x32x128.Idx) : trip_k0_t1.sl.v1875 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off43 k) S1x32x128.size (k0_off43_inb k)).emb x) := by
  idx_vars x
  refine Eq.trans ?_ (h_7_1 arg8 arg10 arg23 arg24 arg25 X_arg8 X_arg10 X_arg23 X_arg24 X_arg25 k TT hT25 x1 x2 |>.trans ?_)
  · simp only [trip_k0_t1.sl.v1875]; pointwise
  · refine congr (congr (congrArg _ (Fin.ext ?_)) (Fin.ext ?_)) (Fin.ext ?_)
    · obtain rfl := Subsingleton.elim x0 0
      exact emb_coord _ (k0_off43_eq k) _ 0 _ rfl
    · exact emb_coord _ (k0_off43_eq k) _ 1 _ rfl
    · exact emb_coord _ (k0_off43_eq k) _ 2 _ rfl

theorem e_8 (r : Fin 32) (l : Fin 128) : trip_k0_t1.sl.v1892 arg23 arg25 X_arg23 X_arg25 k (ix2 r l) = eT (View.read (Elt Ideal) arg23.view X_arg23) TT (trow k r) (col 8 l) := by
  simp only [trip_k0_t1.sl.v1892, trip_k0_t1.sl.v1891, trip_k0_t1.sl.v1890, trip_k0_t1.sl.v1889, trip_k0_t1.sl.v1888, trip_k0_t1.sl.v1886, trip_k0_t1.sl.v1885, trip_k0_t1.sl.v1884, trip_k0_t1.sl.v1883, trip_k0_t1.sl.v1881]
  pointwise [View.readAt_apply, k0_off44_eq, hT25]
  rfl

theorem h_8_0 (r : Fin 32) (l : Fin 128) : trip_k0_t1.sl.v1908 arg8 arg10 arg23 arg24 arg25 X_arg8 X_arg10 X_arg23 X_arg24 X_arg25 k (ix2 r l) = HH arg8 arg10 arg23 arg24 X_arg8 X_arg10 X_arg23 X_arg24 TT 0 (trow k r) (col 8 l) := by
  simp only [trip_k0_t1.sl.v1908, trip_k0_t1.sl.v1907, trip_k0_t1.sl.v1906, trip_k0_t1.sl.v1905, trip_k0_t1.sl.v1904, trip_k0_t1.sl.v1391, trip_k0_t1.sl.v1900, trip_k0_t1.sl.v1899, trip_k0_t1.sl.v1903, trip_k0_t1.sl.v1902, trip_k0_t1.sl.v1901, trip_k0_t1.sl.v1896, trip_k0_t1.sl.v1895]
  pointwise [View.readAt_apply, k0_off2_eq, k0_off45_eq]
  refine Eq.trans ?_ (hT_col _ _ _ _ _ _ _ _ _).symm
  exact congrArg₂ HAdd.hAdd rfl (e_8 arg23 arg25 X_arg23 X_arg25 k TT hT25 r l)

theorem p_8_0 (x : S1x32x128.Idx) : trip_k0_t1.sl.v1912 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off46 k) S1x32x128.size (k0_off46_inb k)).emb x) := by
  idx_vars x
  refine Eq.trans ?_ (h_8_0 arg8 arg10 arg23 arg24 arg25 X_arg8 X_arg10 X_arg23 X_arg24 X_arg25 k TT hT25 x1 x2 |>.trans ?_)
  · simp only [trip_k0_t1.sl.v1912]; pointwise
  · refine congr (congr (congrArg _ (Fin.ext ?_)) (Fin.ext ?_)) (Fin.ext ?_)
    · obtain rfl := Subsingleton.elim x0 0
      exact emb_coord _ (k0_off46_eq k) _ 0 _ rfl
    · exact emb_coord _ (k0_off46_eq k) _ 1 _ rfl
    · exact emb_coord _ (k0_off46_eq k) _ 2 _ rfl

theorem h_8_1 (r : Fin 32) (l : Fin 128) : trip_k0_t1.sl.v1931 arg8 arg10 arg23 arg24 arg25 X_arg8 X_arg10 X_arg23 X_arg24 X_arg25 k (ix2 r l) = HH arg8 arg10 arg23 arg24 X_arg8 X_arg10 X_arg23 X_arg24 TT 1 (trow k r) (col 8 l) := by
  simp only [trip_k0_t1.sl.v1931, trip_k0_t1.sl.v1930, trip_k0_t1.sl.v1929, trip_k0_t1.sl.v1928, trip_k0_t1.sl.v1927, trip_k0_t1.sl.v1394, trip_k0_t1.sl.v1923, trip_k0_t1.sl.v1922, trip_k0_t1.sl.v1926, trip_k0_t1.sl.v1925, trip_k0_t1.sl.v1924, trip_k0_t1.sl.v1919, trip_k0_t1.sl.v1918]
  pointwise [View.readAt_apply, k0_off3_eq, k0_off47_eq]
  refine Eq.trans ?_ (hT_col _ _ _ _ _ _ _ _ _).symm
  exact congrArg₂ HAdd.hAdd rfl (e_8 arg23 arg25 X_arg23 X_arg25 k TT hT25 r l)

theorem p_8_1 (x : S1x32x128.Idx) : trip_k0_t1.sl.v1935 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off48 k) S1x32x128.size (k0_off48_inb k)).emb x) := by
  idx_vars x
  refine Eq.trans ?_ (h_8_1 arg8 arg10 arg23 arg24 arg25 X_arg8 X_arg10 X_arg23 X_arg24 X_arg25 k TT hT25 x1 x2 |>.trans ?_)
  · simp only [trip_k0_t1.sl.v1935]; pointwise
  · refine congr (congr (congrArg _ (Fin.ext ?_)) (Fin.ext ?_)) (Fin.ext ?_)
    · obtain rfl := Subsingleton.elim x0 0
      exact emb_coord _ (k0_off48_eq k) _ 0 _ rfl
    · exact emb_coord _ (k0_off48_eq k) _ 1 _ rfl
    · exact emb_coord _ (k0_off48_eq k) _ 2 _ rfl

theorem e_9 (r : Fin 32) (l : Fin 128) : trip_k0_t1.sl.v1952 arg23 arg25 X_arg23 X_arg25 k (ix2 r l) = eT (View.read (Elt Ideal) arg23.view X_arg23) TT (trow k r) (col 9 l) := by
  simp only [trip_k0_t1.sl.v1952, trip_k0_t1.sl.v1951, trip_k0_t1.sl.v1950, trip_k0_t1.sl.v1949, trip_k0_t1.sl.v1948, trip_k0_t1.sl.v1946, trip_k0_t1.sl.v1945, trip_k0_t1.sl.v1944, trip_k0_t1.sl.v1943, trip_k0_t1.sl.v1941]
  pointwise [View.readAt_apply, k0_off49_eq, hT25]
  rfl

theorem h_9_0 (r : Fin 32) (l : Fin 128) : trip_k0_t1.sl.v1968 arg8 arg10 arg23 arg24 arg25 X_arg8 X_arg10 X_arg23 X_arg24 X_arg25 k (ix2 r l) = HH arg8 arg10 arg23 arg24 X_arg8 X_arg10 X_arg23 X_arg24 TT 0 (trow k r) (col 9 l) := by
  simp only [trip_k0_t1.sl.v1968, trip_k0_t1.sl.v1967, trip_k0_t1.sl.v1966, trip_k0_t1.sl.v1965, trip_k0_t1.sl.v1964, trip_k0_t1.sl.v1391, trip_k0_t1.sl.v1960, trip_k0_t1.sl.v1959, trip_k0_t1.sl.v1963, trip_k0_t1.sl.v1962, trip_k0_t1.sl.v1961, trip_k0_t1.sl.v1956, trip_k0_t1.sl.v1955]
  pointwise [View.readAt_apply, k0_off2_eq, k0_off50_eq]
  refine Eq.trans ?_ (hT_col _ _ _ _ _ _ _ _ _).symm
  exact congrArg₂ HAdd.hAdd rfl (e_9 arg23 arg25 X_arg23 X_arg25 k TT hT25 r l)

theorem p_9_0 (x : S1x32x128.Idx) : trip_k0_t1.sl.v1972 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off51 k) S1x32x128.size (k0_off51_inb k)).emb x) := by
  idx_vars x
  refine Eq.trans ?_ (h_9_0 arg8 arg10 arg23 arg24 arg25 X_arg8 X_arg10 X_arg23 X_arg24 X_arg25 k TT hT25 x1 x2 |>.trans ?_)
  · simp only [trip_k0_t1.sl.v1972]; pointwise
  · refine congr (congr (congrArg _ (Fin.ext ?_)) (Fin.ext ?_)) (Fin.ext ?_)
    · obtain rfl := Subsingleton.elim x0 0
      exact emb_coord _ (k0_off51_eq k) _ 0 _ rfl
    · exact emb_coord _ (k0_off51_eq k) _ 1 _ rfl
    · exact emb_coord _ (k0_off51_eq k) _ 2 _ rfl

theorem h_9_1 (r : Fin 32) (l : Fin 128) : trip_k0_t1.sl.v1991 arg8 arg10 arg23 arg24 arg25 X_arg8 X_arg10 X_arg23 X_arg24 X_arg25 k (ix2 r l) = HH arg8 arg10 arg23 arg24 X_arg8 X_arg10 X_arg23 X_arg24 TT 1 (trow k r) (col 9 l) := by
  simp only [trip_k0_t1.sl.v1991, trip_k0_t1.sl.v1990, trip_k0_t1.sl.v1989, trip_k0_t1.sl.v1988, trip_k0_t1.sl.v1987, trip_k0_t1.sl.v1394, trip_k0_t1.sl.v1983, trip_k0_t1.sl.v1982, trip_k0_t1.sl.v1986, trip_k0_t1.sl.v1985, trip_k0_t1.sl.v1984, trip_k0_t1.sl.v1979, trip_k0_t1.sl.v1978]
  pointwise [View.readAt_apply, k0_off3_eq, k0_off52_eq]
  refine Eq.trans ?_ (hT_col _ _ _ _ _ _ _ _ _).symm
  exact congrArg₂ HAdd.hAdd rfl (e_9 arg23 arg25 X_arg23 X_arg25 k TT hT25 r l)

theorem p_9_1 (x : S1x32x128.Idx) : trip_k0_t1.sl.v1995 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off53 k) S1x32x128.size (k0_off53_inb k)).emb x) := by
  idx_vars x
  refine Eq.trans ?_ (h_9_1 arg8 arg10 arg23 arg24 arg25 X_arg8 X_arg10 X_arg23 X_arg24 X_arg25 k TT hT25 x1 x2 |>.trans ?_)
  · simp only [trip_k0_t1.sl.v1995]; pointwise
  · refine congr (congr (congrArg _ (Fin.ext ?_)) (Fin.ext ?_)) (Fin.ext ?_)
    · obtain rfl := Subsingleton.elim x0 0
      exact emb_coord _ (k0_off53_eq k) _ 0 _ rfl
    · exact emb_coord _ (k0_off53_eq k) _ 1 _ rfl
    · exact emb_coord _ (k0_off53_eq k) _ 2 _ rfl

end Cert.KernelIdeal.Hand
-- ==== Proof.ValTrip1.lean ====
/- One trip of the row loop, column groups 10 to 19: what it computes and stores. -/
module

public import proofs.«01_k».proof.Proof.ValDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (arg8 : Memref sig .tc .vmem S1x2x128x5120 .i8) (arg10 : Memref sig .tc .vmem S1x2x128x5120 .i8) (arg23 : Memref sig .tc .vmem S128x5120 .f32) (arg24 : Memref sig .tc .vmem S2x128x128 .f32) (arg25 : Memref sig .tc .vmem S3x8x5120 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty) (k : Fin k0_t1_loop.trips)
  (TT : Fin 3 → Fin 5120 → EReal) (hT25 : ∀ (a : Fin 3) (s : Fin 8) (d : Fin 5120), View.read (Elt Ideal) arg25.view X_arg25 (ix3 a s d) = TT a d)
include hT25

theorem e_10 (r : Fin 32) (l : Fin 128) : trip_k0_t1.sl.v2012 arg23 arg25 X_arg23 X_arg25 k (ix2 r l) = eT (View.read (Elt Ideal) arg23.view X_arg23) TT (trow k r) (col 10 l) := by
  simp only [trip_k0_t1.sl.v2012, trip_k0_t1.sl.v2011, trip_k0_t1.sl.v2010, trip_k0_t1.sl.v2009, trip_k0_t1.sl.v2008, trip_k0_t1.sl.v2006, trip_k0_t1.sl.v2005, trip_k0_t1.sl.v2004, trip_k0_t1.sl.v2003, trip_k0_t1.sl.v2001]
  pointwise [View.readAt_apply, k0_off54_eq, hT25]
  rfl

theorem h_10_0 (r : Fin 32) (l : Fin 128) : trip_k0_t1.sl.v2028 arg8 arg10 arg23 arg24 arg25 X_arg8 X_arg10 X_arg23 X_arg24 X_arg25 k (ix2 r l) = HH arg8 arg10 arg23 arg24 X_arg8 X_arg10 X_arg23 X_arg24 TT 0 (trow k r) (col 10 l) := by
  simp only [trip_k0_t1.sl.v2028, trip_k0_t1.sl.v2027, trip_k0_t1.sl.v2026, trip_k0_t1.sl.v2025, trip_k0_t1.sl.v2024, trip_k0_t1.sl.v1391, trip_k0_t1.sl.v2020, trip_k0_t1.sl.v2019, trip_k0_t1.sl.v2023, trip_k0_t1.sl.v2022, trip_k0_t1.sl.v2021, trip_k0_t1.sl.v2016, trip_k0_t1.sl.v2015]
  pointwise [View.readAt_apply, k0_off2_eq, k0_off55_eq]
  refine Eq.trans ?_ (hT_col _ _ _ _ _ _ _ _ _).symm
  exact congrArg₂ HAdd.hAdd rfl (e_10 arg23 arg25 X_arg23 X_arg25 k TT hT25 r l)

theorem p_10_0 (x : S1x32x128.Idx) : trip_k0_t1.sl.v2032 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off56 k) S1x32x128.size (k0_off56_inb k)).emb x) := by
  idx_vars x
  refine Eq.trans ?_ (h_10_0 arg8 arg10 arg23 arg24 arg25 X_arg8 X_arg10 X_arg23 X_arg24 X_arg25 k TT hT25 x1 x2 |>.trans ?_)
  · simp only [trip_k0_t1.sl.v2032]; pointwise
  · refine congr (congr (congrArg _ (Fin.ext ?_)) (Fin.ext ?_)) (Fin.ext ?_)
    · obtain rfl := Subsingleton.elim x0 0
      exact emb_coord _ (k0_off56_eq k) _ 0 _ rfl
    · exact emb_coord _ (k0_off56_eq k) _ 1 _ rfl
    · exact emb_coord _ (k0_off56_eq k) _ 2 _ rfl

theorem h_10_1 (r : Fin 32) (l : Fin 128) : trip_k0_t1.sl.v2051 arg8 arg10 arg23 arg24 arg25 X_arg8 X_arg10 X_arg23 X_arg24 X_arg25 k (ix2 r l) = HH arg8 arg10 arg23 arg24 X_arg8 X_arg10 X_arg23 X_arg24 TT 1 (trow k r) (col 10 l) := by
  simp only [trip_k0_t1.sl.v2051, trip_k0_t1.sl.v2050, trip_k0_t1.sl.v2049, trip_k0_t1.sl.v2048, trip_k0_t1.sl.v2047, trip_k0_t1.sl.v1394, trip_k0_t1.sl.v2043, trip_k0_t1.sl.v2042, trip_k0_t1.sl.v2046, trip_k0_t1.sl.v2045, trip_k0_t1.sl.v2044, trip_k0_t1.sl.v2039, trip_k0_t1.sl.v2038]
  pointwise [View.readAt_apply, k0_off3_eq, k0_off57_eq]
  refine Eq.trans ?_ (hT_col _ _ _ _ _ _ _ _ _).symm
  exact congrArg₂ HAdd.hAdd rfl (e_10 arg23 arg25 X_arg23 X_arg25 k TT hT25 r l)

theorem p_10_1 (x : S1x32x128.Idx) : trip_k0_t1.sl.v2055 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off58 k) S1x32x128.size (k0_off58_inb k)).emb x) := by
  idx_vars x
  refine Eq.trans ?_ (h_10_1 arg8 arg10 arg23 arg24 arg25 X_arg8 X_arg10 X_arg23 X_arg24 X_arg25 k TT hT25 x1 x2 |>.trans ?_)
  · simp only [trip_k0_t1.sl.v2055]; pointwise
  · refine congr (congr (congrArg _ (Fin.ext ?_)) (Fin.ext ?_)) (Fin.ext ?_)
    · obtain rfl := Subsingleton.elim x0 0
      exact emb_coord _ (k0_off58_eq k) _ 0 _ rfl
    · exact emb_coord _ (k0_off58_eq k) _ 1 _ rfl
    · exact emb_coord _ (k0_off58_eq k) _ 2 _ rfl

theorem e_11 (r : Fin 32) (l : Fin 128) : trip_k0_t1.sl.v2072 arg23 arg25 X_arg23 X_arg25 k (ix2 r l) = eT (View.read (Elt Ideal) arg23.view X_arg23) TT (trow k r) (col 11 l) := by
  simp only [trip_k0_t1.sl.v2072, trip_k0_t1.sl.v2071, trip_k0_t1.sl.v2070, trip_k0_t1.sl.v2069, trip_k0_t1.sl.v2068, trip_k0_t1.sl.v2066, trip_k0_t1.sl.v2065, trip_k0_t1.sl.v2064, trip_k0_t1.sl.v2063, trip_k0_t1.sl.v2061, trip_k0_t1.sl.r_3]
  pointwise [View.readAt_apply, k0_off59_eq, hT25]
  rfl

theorem h_11_0 (r : Fin 32) (l : Fin 128) : trip_k0_t1.sl.v2088 arg8 arg10 arg23 arg24 arg25 X_arg8 X_arg10 X_arg23 X_arg24 X_arg25 k (ix2 r l) = HH arg8 arg10 arg23 arg24 X_arg8 X_arg10 X_arg23 X_arg24 TT 0 (trow k r) (col 11 l) := by
  simp only [trip_k0_t1.sl.v2088, trip_k0_t1.sl.v2087, trip_k0_t1.sl.v2086, trip_k0_t1.sl.v2085, trip_k0_t1.sl.v2084, trip_k0_t1.sl.v1391, trip_k0_t1.sl.v2080, trip_k0_t1.sl.v2079, trip_k0_t1.sl.v2083, trip_k0_t1.sl.v2082, trip_k0_t1.sl.v2081, trip_k0_t1.sl.v2076, trip_k0_t1.sl.v2075]
  pointwise [View.readAt_apply, k0_off2_eq, k0_off60_eq]
  refine Eq.trans ?_ (hT_col _ _ _ _ _ _ _ _ _).symm
  exact congrArg₂ HAdd.hAdd rfl (e_11 arg23 arg25 X_arg23 X_arg25 k TT hT25 r l)

theorem p_11_0 (x : S1x32x128.Idx) : trip_k0_t1.sl.v2092 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off61 k) S1x32x128.size (k0_off61_inb k)).emb x) := by
  idx_vars x
  refine Eq.trans ?_ (h_11_0 arg8 arg10 arg23 arg24 arg25 X_arg8 X_arg10 X_arg23 X_arg24 X_arg25 k TT hT25 x1 x2 |>.trans ?_)
  · simp only [trip_k0_t1.sl.v2092]; pointwise
  · refine congr (congr (congrArg _ (Fin.ext ?_)) (Fin.ext ?_)) (Fin.ext ?_)
    · obtain rfl := Subsingleton.elim x0 0
      exact emb_coord _ (k0_off61_eq k) _ 0 _ rfl
    · exact emb_coord _ (k0_off61_eq k) _ 1 _ rfl
    · exact emb_coord _ (k0_off61_eq k) _ 2 _ rfl

theorem h_11_1 (r : Fin 32) (l : Fin 128) : trip_k0_t1.sl.v2111 arg8 arg10 arg23 arg24 arg25 X_arg8 X_arg10 X_arg23 X_arg24 X_arg25 k (ix2 r l) = HH arg8 arg10 arg23 arg24 X_arg8 X_arg10 X_arg23 X_arg24 TT 1 (trow k r) (col 11 l) := by
  simp only [trip_k0_t1.sl.v2111, trip_k0_t1.sl.v2110, trip_k0_t1.sl.v2109, trip_k0_t1.sl.v2108, trip_k0_t1.sl.v2107, trip_k0_t1.sl.v1394, trip_k0_t1.sl.v2103, trip_k0_t1.sl.v2102, trip_k0_t1.sl.v2106, trip_k0_t1.sl.v2105, trip_k0_t1.sl.v2104, trip_k0_t1.sl.v2099, trip_k0_t1.sl.v2098]
  pointwise [View.readAt_apply, k0_off3_eq, k0_off62_eq]
  refine Eq.trans ?_ (hT_col _ _ _ _ _ _ _ _ _).symm
  exact congrArg₂ HAdd.hAdd rfl (e_11 arg23 arg25 X_arg23 X_arg25 k TT hT25 r l)

theorem p_11_1 (x : S1x32x128.Idx) : trip_k0_t1.sl.v2115 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off63 k) S1x32x128.size (k0_off63_inb k)).emb x) := by
  idx_vars x
  refine Eq.trans ?_ (h_11_1 arg8 arg10 arg23 arg24 arg25 X_arg8 X_arg10 X_arg23 X_arg24 X_arg25 k TT hT25 x1 x2 |>.trans ?_)
  · simp only [trip_k0_t1.sl.v2115]; pointwise
  · refine congr (congr (congrArg _ (Fin.ext ?_)) (Fin.ext ?_)) (Fin.ext ?_)
    · obtain rfl := Subsingleton.elim x0 0
      exact emb_coord _ (k0_off63_eq k) _ 0 _ rfl
    · exact emb_coord _ (k0_off63_eq k) _ 1 _ rfl
    · exact emb_coord _ (k0_off63_eq k) _ 2 _ rfl

theorem e_12 (r : Fin 32) (l : Fin 128) : trip_k0_t1.sl.v2132 arg23 arg25 X_arg23 X_arg25 k (ix2 r l) = eT (View.read (Elt Ideal) arg23.view X_arg23) TT (trow k r) (col 12 l) := by
  simp only [trip_k0_t1.sl.v2132, trip_k0_t1.sl.v2131, trip_k0_t1.sl.v2130, trip_k0_t1.sl.v2129, trip_k0_t1.sl.v2128, trip_k0_t1.sl.v2126, trip_k0_t1.sl.v2125, trip_k0_t1.sl.v2124, trip_k0_t1.sl.v2123, trip_k0_t1.sl.v2121]
  pointwise [View.readAt_apply, k0_off64_eq, hT25]
  rfl

theorem h_12_0 (r : Fin 32) (l : Fin 128) : trip_k0_t1.sl.v2148 arg8 arg10 arg23 arg24 arg25 X_arg8 X_arg10 X_arg23 X_arg24 X_arg25 k (ix2 r l) = HH arg8 arg10 arg23 arg24 X_arg8 X_arg10 X_arg23 X_arg24 TT 0 (trow k r) (col 12 l) := by
  simp only [trip_k0_t1.sl.v2148, trip_k0_t1.sl.v2147, trip_k0_t1.sl.v2146, trip_k0_t1.sl.v2145, trip_k0_t1.sl.v2144, trip_k0_t1.sl.v1391, trip_k0_t1.sl.v2140, trip_k0_t1.sl.v2139, trip_k0_t1.sl.v2143, trip_k0_t1.sl.v2142, trip_k0_t1.sl.v2141, trip_k0_t1.sl.v2136, trip_k0_t1.sl.v2135]
  pointwise [View.readAt_apply, k0_off2_eq, k0_off65_eq]
  refine Eq.trans ?_ (hT_col _ _ _ _ _ _ _ _ _).symm
  exact congrArg₂ HAdd.hAdd rfl (e_12 arg23 arg25 X_arg23 X_arg25 k TT hT25 r l)

theorem p_12_0 (x : S1x32x128.Idx) : trip_k0_t1.sl.v2152 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off66 k) S1x32x128.size (k0_off66_inb k)).emb x) := by
  idx_vars x
  refine Eq.trans ?_ (h_12_0 arg8 arg10 arg23 arg24 arg25 X_arg8 X_arg10 X_arg23 X_arg24 X_arg25 k TT hT25 x1 x2 |>.trans ?_)
  · simp only [trip_k0_t1.sl.v2152]; pointwise
  · refine congr (congr (congrArg _ (Fin.ext ?_)) (Fin.ext ?_)) (Fin.ext ?_)
    · obtain rfl := Subsingleton.elim x0 0
      exact emb_coord _ (k0_off66_eq k) _ 0 _ rfl
    · exact emb_coord _ (k0_off66_eq k) _ 1 _ rfl
    · exact emb_coord _ (k0_off66_eq k) _ 2 _ rfl

theorem h_12_1 (r : Fin 32) (l : Fin 128) : trip_k0_t1.sl.v2171 arg8 arg10 arg23 arg24 arg25 X_arg8 X_arg10 X_arg23 X_arg24 X_arg25 k (ix2 r l) = HH arg8 arg10 arg23 arg24 X_arg8 X_arg10 X_arg23 X_arg24 TT 1 (trow k r) (col 12 l) := by
  simp only [trip_k0_t1.sl.v2171, trip_k0_t1.sl.v2170, trip_k0_t1.sl.v2169, trip_k0_t1.sl.v2168, trip_k0_t1.sl.v2167, trip_k0_t1.sl.v1394, trip_k0_t1.sl.v2163, trip_k0_t1.sl.v2162, trip_k0_t1.sl.v2166, trip_k0_t1.sl.v2165, trip_k0_t1.sl.v2164, trip_k0_t1.sl.v2159, trip_k0_t1.sl.v2158]
  pointwise [View.readAt_apply, k0_off3_eq, k0_off67_eq]
  refine Eq.trans ?_ (hT_col _ _ _ _ _ _ _ _ _).symm
  exact congrArg₂ HAdd.hAdd rfl (e_12 arg23 arg25 X_arg23 X_arg25 k TT hT25 r l)

theorem p_12_1 (x : S1x32x128.Idx) : trip_k0_t1.sl.v2175 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off68 k) S1x32x128.size (k0_off68_inb k)).emb x) := by
  idx_vars x
  refine Eq.trans ?_ (h_12_1 arg8 arg10 arg23 arg24 arg25 X_arg8 X_arg10 X_arg23 X_arg24 X_arg25 k TT hT25 x1 x2 |>.trans ?_)
  · simp only [trip_k0_t1.sl.v2175]; pointwise
  · refine congr (congr (congrArg _ (Fin.ext ?_)) (Fin.ext ?_)) (Fin.ext ?_)
    · obtain rfl := Subsingleton.elim x0 0
      exact emb_coord _ (k0_off68_eq k) _ 0 _ rfl
    · exact emb_coord _ (k0_off68_eq k) _ 1 _ rfl
    · exact emb_coord _ (k0_off68_eq k) _ 2 _ rfl

theorem e_13 (r : Fin 32) (l : Fin 128) : trip_k0_t1.sl.v2192 arg23 arg25 X_arg23 X_arg25 k (ix2 r l) = eT (View.read (Elt Ideal) arg23.view X_arg23) TT (trow k r) (col 13 l) := by
  simp only [trip_k0_t1.sl.v2192, trip_k0_t1.sl.v2191, trip_k0_t1.sl.v2190, trip_k0_t1.sl.v2189, trip_k0_t1.sl.v2188, trip_k0_t1.sl.v2186, trip_k0_t1.sl.v2185, trip_k0_t1.sl.v2184, trip_k0_t1.sl.v2183, trip_k0_t1.sl.v2181]
  pointwise [View.readAt_apply, k0_off69_eq, hT25]
  rfl

theorem h_13_0 (r : Fin 32) (l : Fin 128) : trip_k0_t1.sl.v2208 arg8 arg10 arg23 arg24 arg25 X_arg8 X_arg10 X_arg23 X_arg24 X_arg25 k (ix2 r l) = HH arg8 arg10 arg23 arg24 X_arg8 X_arg10 X_arg23 X_arg24 TT 0 (trow k r) (col 13 l) := by
  simp only [trip_k0_t1.sl.v2208, trip_k0_t1.sl.v2207, trip_k0_t1.sl.v2206, trip_k0_t1.sl.v2205, trip_k0_t1.sl.v2204, trip_k0_t1.sl.v1391, trip_k0_t1.sl.v2200, trip_k0_t1.sl.v2199, trip_k0_t1.sl.v2203, trip_k0_t1.sl.v2202, trip_k0_t1.sl.v2201, trip_k0_t1.sl.v2196, trip_k0_t1.sl.v2195]
  pointwise [View.readAt_apply, k0_off2_eq, k0_off70_eq]
  refine Eq.trans ?_ (hT_col _ _ _ _ _ _ _ _ _).symm
  exact congrArg₂ HAdd.hAdd rfl (e_13 arg23 arg25 X_arg23 X_arg25 k TT hT25 r l)

theorem p_13_0 (x : S1x32x128.Idx) : trip_k0_t1.sl.v2212 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off71 k) S1x32x128.size (k0_off71_inb k)).emb x) := by
  idx_vars x
  refine Eq.trans ?_ (h_13_0 arg8 arg10 arg23 arg24 arg25 X_arg8 X_arg10 X_arg23 X_arg24 X_arg25 k TT hT25 x1 x2 |>.trans ?_)
  · simp only [trip_k0_t1.sl.v2212]; pointwise
  · refine congr (congr (congrArg _ (Fin.ext ?_)) (Fin.ext ?_)) (Fin.ext ?_)
    · obtain rfl := Subsingleton.elim x0 0
      exact emb_coord _ (k0_off71_eq k) _ 0 _ rfl
    · exact emb_coord _ (k0_off71_eq k) _ 1 _ rfl
    · exact emb_coord _ (k0_off71_eq k) _ 2 _ rfl

theorem h_13_1 (r : Fin 32) (l : Fin 128) : trip_k0_t1.sl.v2231 arg8 arg10 arg23 arg24 arg25 X_arg8 X_arg10 X_arg23 X_arg24 X_arg25 k (ix2 r l) = HH arg8 arg10 arg23 arg24 X_arg8 X_arg10 X_arg23 X_arg24 TT 1 (trow k r) (col 13 l) := by
  simp only [trip_k0_t1.sl.v2231, trip_k0_t1.sl.v2230, trip_k0_t1.sl.v2229, trip_k0_t1.sl.v2228, trip_k0_t1.sl.v2227, trip_k0_t1.sl.v1394, trip_k0_t1.sl.v2223, trip_k0_t1.sl.v2222, trip_k0_t1.sl.v2226, trip_k0_t1.sl.v2225, trip_k0_t1.sl.v2224, trip_k0_t1.sl.v2219, trip_k0_t1.sl.v2218]
  pointwise [View.readAt_apply, k0_off3_eq, k0_off72_eq]
  refine Eq.trans ?_ (hT_col _ _ _ _ _ _ _ _ _).symm
  exact congrArg₂ HAdd.hAdd rfl (e_13 arg23 arg25 X_arg23 X_arg25 k TT hT25 r l)

theorem p_13_1 (x : S1x32x128.Idx) : trip_k0_t1.sl.v2235 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off73 k) S1x32x128.size (k0_off73_inb k)).emb x) := by
  idx_vars x
  refine Eq.trans ?_ (h_13_1 arg8 arg10 arg23 arg24 arg25 X_arg8 X_arg10 X_arg23 X_arg24 X_arg25 k TT hT25 x1 x2 |>.trans ?_)
  · simp only [trip_k0_t1.sl.v2235]; pointwise
  · refine congr (congr (congrArg _ (Fin.ext ?_)) (Fin.ext ?_)) (Fin.ext ?_)
    · obtain rfl := Subsingleton.elim x0 0
      exact emb_coord _ (k0_off73_eq k) _ 0 _ rfl
    · exact emb_coord _ (k0_off73_eq k) _ 1 _ rfl
    · exact emb_coord _ (k0_off73_eq k) _ 2 _ rfl

theorem e_14 (r : Fin 32) (l : Fin 128) : trip_k0_t1.sl.v2252 arg23 arg25 X_arg23 X_arg25 k (ix2 r l) = eT (View.read (Elt Ideal) arg23.view X_arg23) TT (trow k r) (col 14 l) := by
  simp only [trip_k0_t1.sl.v2252, trip_k0_t1.sl.v2251, trip_k0_t1.sl.v2250, trip_k0_t1.sl.v2249, trip_k0_t1.sl.v2248, trip_k0_t1.sl.v2246, trip_k0_t1.sl.v2245, trip_k0_t1.sl.v2244, trip_k0_t1.sl.v2243, trip_k0_t1.sl.v2241]
  pointwise [View.readAt_apply, k0_off74_eq, hT25]
  rfl

theorem h_14_0 (r : Fin 32) (l : Fin 128) : trip_k0_t1.sl.v2268 arg8 arg10 arg23 arg24 arg25 X_arg8 X_arg10 X_arg23 X_arg24 X_arg25 k (ix2 r l) = HH arg8 arg10 arg23 arg24 X_arg8 X_arg10 X_arg23 X_arg24 TT 0 (trow k r) (col 14 l) := by
  simp only [trip_k0_t1.sl.v2268, trip_k0_t1.sl.v2267, trip_k0_t1.sl.v2266, trip_k0_t1.sl.v2265, trip_k0_t1.sl.v2264, trip_k0_t1.sl.v1391, trip_k0_t1.sl.v2260, trip_k0_t1.sl.v2259, trip_k0_t1.sl.v2263, trip_k0_t1.sl.v2262, trip_k0_t1.sl.v2261, trip_k0_t1.sl.v2256, trip_k0_t1.sl.v2255]
  pointwise [View.readAt_apply, k0_off2_eq, k0_off75_eq]
  refine Eq.trans ?_ (hT_col _ _ _ _ _ _ _ _ _).symm
  exact congrArg₂ HAdd.hAdd rfl (e_14 arg23 arg25 X_arg23 X_arg25 k TT hT25 r l)

theorem p_14_0 (x : S1x32x128.Idx) : trip_k0_t1.sl.v2272 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off76 k) S1x32x128.size (k0_off76_inb k)).emb x) := by
  idx_vars x
  refine Eq.trans ?_ (h_14_0 arg8 arg10 arg23 arg24 arg25 X_arg8 X_arg10 X_arg23 X_arg24 X_arg25 k TT hT25 x1 x2 |>.trans ?_)
  · simp only [trip_k0_t1.sl.v2272]; pointwise
  · refine congr (congr (congrArg _ (Fin.ext ?_)) (Fin.ext ?_)) (Fin.ext ?_)
    · obtain rfl := Subsingleton.elim x0 0
      exact emb_coord _ (k0_off76_eq k) _ 0 _ rfl
    · exact emb_coord _ (k0_off76_eq k) _ 1 _ rfl
    · exact emb_coord _ (k0_off76_eq k) _ 2 _ rfl

theorem h_14_1 (r : Fin 32) (l : Fin 128) : trip_k0_t1.sl.v2291 arg8 arg10 arg23 arg24 arg25 X_arg8 X_arg10 X_arg23 X_arg24 X_arg25 k (ix2 r l) = HH arg8 arg10 arg23 arg24 X_arg8 X_arg10 X_arg23 X_arg24 TT 1 (trow k r) (col 14 l) := by
  simp only [trip_k0_t1.sl.v2291, trip_k0_t1.sl.v2290, trip_k0_t1.sl.v2289, trip_k0_t1.sl.v2288, trip_k0_t1.sl.v2287, trip_k0_t1.sl.v1394, trip_k0_t1.sl.v2283, trip_k0_t1.sl.v2282, trip_k0_t1.sl.v2286, trip_k0_t1.sl.v2285, trip_k0_t1.sl.v2284, trip_k0_t1.sl.v2279, trip_k0_t1.sl.v2278]
  pointwise [View.readAt_apply, k0_off3_eq, k0_off77_eq]
  refine Eq.trans ?_ (hT_col _ _ _ _ _ _ _ _ _).symm
  exact congrArg₂ HAdd.hAdd rfl (e_14 arg23 arg25 X_arg23 X_arg25 k TT hT25 r l)

theorem p_14_1 (x : S1x32x128.Idx) : trip_k0_t1.sl.v2295 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off78 k) S1x32x128.size (k0_off78_inb k)).emb x) := by
  idx_vars x
  refine Eq.trans ?_ (h_14_1 arg8 arg10 arg23 arg24 arg25 X_arg8 X_arg10 X_arg23 X_arg24 X_arg25 k TT hT25 x1 x2 |>.trans ?_)
  · simp only [trip_k0_t1.sl.v2295]; pointwise
  · refine congr (congr (congrArg _ (Fin.ext ?_)) (Fin.ext ?_)) (Fin.ext ?_)
    · obtain rfl := Subsingleton.elim x0 0
      exact emb_coord _ (k0_off78_eq k) _ 0 _ rfl
    · exact emb_coord _ (k0_off78_eq k) _ 1 _ rfl
    · exact emb_coord _ (k0_off78_eq k) _ 2 _ rfl

theorem e_15 (r : Fin 32) (l : Fin 128) : trip_k0_t1.sl.v2312 arg23 arg25 X_arg23 X_arg25 k (ix2 r l) = eT (View.read (Elt Ideal) arg23.view X_arg23) TT (trow k r) (col 15 l) := by
  simp only [trip_k0_t1.sl.v2312, trip_k0_t1.sl.v2311, trip_k0_t1.sl.v2310, trip_k0_t1.sl.v2309, trip_k0_t1.sl.v2308, trip_k0_t1.sl.v2306, trip_k0_t1.sl.v2305, trip_k0_t1.sl.v2304, trip_k0_t1.sl.v2303, trip_k0_t1.sl.v2301]
  pointwise [View.readAt_apply, k0_off79_eq, hT25]
  rfl

theorem h_15_0 (r : Fin 32) (l : Fin 128) : trip_k0_t1.sl.v2328 arg8 arg10 arg23 arg24 arg25 X_arg8 X_arg10 X_arg23 X_arg24 X_arg25 k (ix2 r l) = HH arg8 arg10 arg23 arg24 X_arg8 X_arg10 X_arg23 X_arg24 TT 0 (trow k r) (col 15 l) := by
  simp only [trip_k0_t1.sl.v2328, trip_k0_t1.sl.v2327, trip_k0_t1.sl.v2326, trip_k0_t1.sl.v2325, trip_k0_t1.sl.v2324, trip_k0_t1.sl.v1391, trip_k0_t1.sl.v2320, trip_k0_t1.sl.v2319, trip_k0_t1.sl.v2323, trip_k0_t1.sl.v2322, trip_k0_t1.sl.v2321, trip_k0_t1.sl.v2316, trip_k0_t1.sl.v2315]
  pointwise [View.readAt_apply, k0_off2_eq, k0_off80_eq]
  refine Eq.trans ?_ (hT_col _ _ _ _ _ _ _ _ _).symm
  exact congrArg₂ HAdd.hAdd rfl (e_15 arg23 arg25 X_arg23 X_arg25 k TT hT25 r l)

theorem p_15_0 (x : S1x32x128.Idx) : trip_k0_t1.sl.v2332 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off81 k) S1x32x128.size (k0_off81_inb k)).emb x) := by
  idx_vars x
  refine Eq.trans ?_ (h_15_0 arg8 arg10 arg23 arg24 arg25 X_arg8 X_arg10 X_arg23 X_arg24 X_arg25 k TT hT25 x1 x2 |>.trans ?_)
  · simp only [trip_k0_t1.sl.v2332]; pointwise
  · refine congr (congr (congrArg _ (Fin.ext ?_)) (Fin.ext ?_)) (Fin.ext ?_)
    · obtain rfl := Subsingleton.elim x0 0
      exact emb_coord _ (k0_off81_eq k) _ 0 _ rfl
    · exact emb_coord _ (k0_off81_eq k) _ 1 _ rfl
    · exact emb_coord _ (k0_off81_eq k) _ 2 _ rfl

theorem h_15_1 (r : Fin 32) (l : Fin 128) : trip_k0_t1.sl.v2351 arg8 arg10 arg23 arg24 arg25 X_arg8 X_arg10 X_arg23 X_arg24 X_arg25 k (ix2 r l) = HH arg8 arg10 arg23 arg24 X_arg8 X_arg10 X_arg23 X_arg24 TT 1 (trow k r) (col 15 l) := by
  simp only [trip_k0_t1.sl.v2351, trip_k0_t1.sl.v2350, trip_k0_t1.sl.v2349, trip_k0_t1.sl.v2348, trip_k0_t1.sl.v2347, trip_k0_t1.sl.v1394, trip_k0_t1.sl.v2343, trip_k0_t1.sl.v2342, trip_k0_t1.sl.v2346, trip_k0_t1.sl.v2345, trip_k0_t1.sl.v2344, trip_k0_t1.sl.v2339, trip_k0_t1.sl.v2338]
  pointwise [View.readAt_apply, k0_off3_eq, k0_off82_eq]
  refine Eq.trans ?_ (hT_col _ _ _ _ _ _ _ _ _).symm
  exact congrArg₂ HAdd.hAdd rfl (e_15 arg23 arg25 X_arg23 X_arg25 k TT hT25 r l)

theorem p_15_1 (x : S1x32x128.Idx) : trip_k0_t1.sl.v2355 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off83 k) S1x32x128.size (k0_off83_inb k)).emb x) := by
  idx_vars x
  refine Eq.trans ?_ (h_15_1 arg8 arg10 arg23 arg24 arg25 X_arg8 X_arg10 X_arg23 X_arg24 X_arg25 k TT hT25 x1 x2 |>.trans ?_)
  · simp only [trip_k0_t1.sl.v2355]; pointwise
  · refine congr (congr (congrArg _ (Fin.ext ?_)) (Fin.ext ?_)) (Fin.ext ?_)
    · obtain rfl := Subsingleton.elim x0 0
      exact emb_coord _ (k0_off83_eq k) _ 0 _ rfl
    · exact emb_coord _ (k0_off83_eq k) _ 1 _ rfl
    · exact emb_coord _ (k0_off83_eq k) _ 2 _ rfl

theorem e_16 (r : Fin 32) (l : Fin 128) : trip_k0_t1.sl.v2372 arg23 arg25 X_arg23 X_arg25 k (ix2 r l) = eT (View.read (Elt Ideal) arg23.view X_arg23) TT (trow k r) (col 16 l) := by
  simp only [trip_k0_t1.sl.v2372, trip_k0_t1.sl.v2371, trip_k0_t1.sl.v2370, trip_k0_t1.sl.v2369, trip_k0_t1.sl.v2368, trip_k0_t1.sl.v2366, trip_k0_t1.sl.v2365, trip_k0_t1.sl.v2364, trip_k0_t1.sl.v2363, trip_k0_t1.sl.v2361]
  pointwise [View.readAt_apply, k0_off84_eq, hT25]
  rfl

theorem h_16_0 (r : Fin 32) (l : Fin 128) : trip_k0_t1.sl.v2388 arg8 arg10 arg23 arg24 arg25 X_arg8 X_arg10 X_arg23 X_arg24 X_arg25 k (ix2 r l) = HH arg8 arg10 arg23 arg24 X_arg8 X_arg10 X_arg23 X_arg24 TT 0 (trow k r) (col 16 l) := by
  simp only [trip_k0_t1.sl.v2388, trip_k0_t1.sl.v2387, trip_k0_t1.sl.v2386, trip_k0_t1.sl.v2385, trip_k0_t1.sl.v2384, trip_k0_t1.sl.v1391, trip_k0_t1.sl.v2380, trip_k0_t1.sl.v2379, trip_k0_t1.sl.v2383, trip_k0_t1.sl.v2382, trip_k0_t1.sl.v2381, trip_k0_t1.sl.v2376, trip_k0_t1.sl.v2375]
  pointwise [View.readAt_apply, k0_off2_eq, k0_off85_eq]
  refine Eq.trans ?_ (hT_col _ _ _ _ _ _ _ _ _).symm
  exact congrArg₂ HAdd.hAdd rfl (e_16 arg23 arg25 X_arg23 X_arg25 k TT hT25 r l)

theorem p_16_0 (x : S1x32x128.Idx) : trip_k0_t1.sl.v2392 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off86 k) S1x32x128.size (k0_off86_inb k)).emb x) := by
  idx_vars x
  refine Eq.trans ?_ (h_16_0 arg8 arg10 arg23 arg24 arg25 X_arg8 X_arg10 X_arg23 X_arg24 X_arg25 k TT hT25 x1 x2 |>.trans ?_)
  · simp only [trip_k0_t1.sl.v2392]; pointwise
  · refine congr (congr (congrArg _ (Fin.ext ?_)) (Fin.ext ?_)) (Fin.ext ?_)
    · obtain rfl := Subsingleton.elim x0 0
      exact emb_coord _ (k0_off86_eq k) _ 0 _ rfl
    · exact emb_coord _ (k0_off86_eq k) _ 1 _ rfl
    · exact emb_coord _ (k0_off86_eq k) _ 2 _ rfl

theorem h_16_1 (r : Fin 32) (l : Fin 128) : trip_k0_t1.sl.v2411 arg8 arg10 arg23 arg24 arg25 X_arg8 X_arg10 X_arg23 X_arg24 X_arg25 k (ix2 r l) = HH arg8 arg10 arg23 arg24 X_arg8 X_arg10 X_arg23 X_arg24 TT 1 (trow k r) (col 16 l) := by
  simp only [trip_k0_t1.sl.v2411, trip_k0_t1.sl.v2410, trip_k0_t1.sl.v2409, trip_k0_t1.sl.v2408, trip_k0_t1.sl.v2407, trip_k0_t1.sl.v1394, trip_k0_t1.sl.v2403, trip_k0_t1.sl.v2402, trip_k0_t1.sl.v2406, trip_k0_t1.sl.v2405, trip_k0_t1.sl.v2404, trip_k0_t1.sl.v2399, trip_k0_t1.sl.v2398, trip_k0_t1.sl.r_4]
  pointwise [View.readAt_apply, k0_off3_eq, k0_off87_eq]
  refine Eq.trans ?_ (hT_col _ _ _ _ _ _ _ _ _).symm
  exact congrArg₂ HAdd.hAdd rfl (e_16 arg23 arg25 X_arg23 X_arg25 k TT hT25 r l)

theorem p_16_1 (x : S1x32x128.Idx) : trip_k0_t1.sl.v2415 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off88 k) S1x32x128.size (k0_off88_inb k)).emb x) := by
  idx_vars x
  refine Eq.trans ?_ (h_16_1 arg8 arg10 arg23 arg24 arg25 X_arg8 X_arg10 X_arg23 X_arg24 X_arg25 k TT hT25 x1 x2 |>.trans ?_)
  · simp only [trip_k0_t1.sl.v2415]; pointwise
  · refine congr (congr (congrArg _ (Fin.ext ?_)) (Fin.ext ?_)) (Fin.ext ?_)
    · obtain rfl := Subsingleton.elim x0 0
      exact emb_coord _ (k0_off88_eq k) _ 0 _ rfl
    · exact emb_coord _ (k0_off88_eq k) _ 1 _ rfl
    · exact emb_coord _ (k0_off88_eq k) _ 2 _ rfl

theorem e_17 (r : Fin 32) (l : Fin 128) : trip_k0_t1.sl.v2432 arg23 arg25 X_arg23 X_arg25 k (ix2 r l) = eT (View.read (Elt Ideal) arg23.view X_arg23) TT (trow k r) (col 17 l) := by
  simp only [trip_k0_t1.sl.v2432, trip_k0_t1.sl.v2431, trip_k0_t1.sl.v2430, trip_k0_t1.sl.v2429, trip_k0_t1.sl.v2428, trip_k0_t1.sl.v2426, trip_k0_t1.sl.v2425, trip_k0_t1.sl.v2424, trip_k0_t1.sl.v2423, trip_k0_t1.sl.v2421]
  pointwise [View.readAt_apply, k0_off89_eq, hT25]
  rfl

theorem h_17_0 (r : Fin 32) (l : Fin 128) : trip_k0_t1.sl.v2448 arg8 arg10 arg23 arg24 arg25 X_arg8 X_arg10 X_arg23 X_arg24 X_arg25 k (ix2 r l) = HH arg8 arg10 arg23 arg24 X_arg8 X_arg10 X_arg23 X_arg24 TT 0 (trow k r) (col 17 l) := by
  simp only [trip_k0_t1.sl.v2448, trip_k0_t1.sl.v2447, trip_k0_t1.sl.v2446, trip_k0_t1.sl.v2445, trip_k0_t1.sl.v2444, trip_k0_t1.sl.v1391, trip_k0_t1.sl.v2440, trip_k0_t1.sl.v2439, trip_k0_t1.sl.r_5, trip_k0_t1.sl.v2443, trip_k0_t1.sl.v2442, trip_k0_t1.sl.v2441, trip_k0_t1.sl.v2436, trip_k0_t1.sl.v2435]
  pointwise [View.readAt_apply, k0_off2_eq, k0_off90_eq]
  refine Eq.trans ?_ (hT_col _ _ _ _ _ _ _ _ _).symm
  exact congrArg₂ HAdd.hAdd rfl (e_17 arg23 arg25 X_arg23 X_arg25 k TT hT25 r l)

theorem p_17_0 (x : S1x32x128.Idx) : trip_k0_t1.sl.v2452 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off91 k) S1x32x128.size (k0_off91_inb k)).emb x) := by
  idx_vars x
  refine Eq.trans ?_ (h_17_0 arg8 arg10 arg23 arg24 arg25 X_arg8 X_arg10 X_arg23 X_arg24 X_arg25 k TT hT25 x1 x2 |>.trans ?_)
  · simp only [trip_k0_t1.sl.v2452]; pointwise
  · refine congr (congr (congrArg _ (Fin.ext ?_)) (Fin.ext ?_)) (Fin.ext ?_)
    · obtain rfl := Subsingleton.elim x0 0
      exact emb_coord _ (k0_off91_eq k) _ 0 _ rfl
    · exact emb_coord _ (k0_off91_eq k) _ 1 _ rfl
    · exact emb_coord _ (k0_off91_eq k) _ 2 _ rfl

theorem h_17_1 (r : Fin 32) (l : Fin 128) : trip_k0_t1.sl.v2471 arg8 arg10 arg23 arg24 arg25 X_arg8 X_arg10 X_arg23 X_arg24 X_arg25 k (ix2 r l) = HH arg8 arg10 arg23 arg24 X_arg8 X_arg10 X_arg23 X_arg24 TT 1 (trow k r) (col 17 l) := by
  simp only [trip_k0_t1.sl.v2471, trip_k0_t1.sl.v2470, trip_k0_t1.sl.v2469, trip_k0_t1.sl.v2468, trip_k0_t1.sl.v2467, trip_k0_t1.sl.v1394, trip_k0_t1.sl.v2463, trip_k0_t1.sl.v2462, trip_k0_t1.sl.v2466, trip_k0_t1.sl.v2465, trip_k0_t1.sl.v2464, trip_k0_t1.sl.v2459, trip_k0_t1.sl.v2458]
  pointwise [View.readAt_apply, k0_off3_eq, k0_off92_eq]
  refine Eq.trans ?_ (hT_col _ _ _ _ _ _ _ _ _).symm
  exact congrArg₂ HAdd.hAdd rfl (e_17 arg23 arg25 X_arg23 X_arg25 k TT hT25 r l)

theorem p_17_1 (x : S1x32x128.Idx) : trip_k0_t1.sl.v2475 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off93 k) S1x32x128.size (k0_off93_inb k)).emb x) := by
  idx_vars x
  refine Eq.trans ?_ (h_17_1 arg8 arg10 arg23 arg24 arg25 X_arg8 X_arg10 X_arg23 X_arg24 X_arg25 k TT hT25 x1 x2 |>.trans ?_)
  · simp only [trip_k0_t1.sl.v2475]; pointwise
  · refine congr (congr (congrArg _ (Fin.ext ?_)) (Fin.ext ?_)) (Fin.ext ?_)
    · obtain rfl := Subsingleton.elim x0 0
      exact emb_coord _ (k0_off93_eq k) _ 0 _ rfl
    · exact emb_coord _ (k0_off93_eq k) _ 1 _ rfl
    · exact emb_coord _ (k0_off93_eq k) _ 2 _ rfl

theorem e_18 (r : Fin 32) (l : Fin 128) : trip_k0_t1.sl.v2492 arg23 arg25 X_arg23 X_arg25 k (ix2 r l) = eT (View.read (Elt Ideal) arg23.view X_arg23) TT (trow k r) (col 18 l) := by
  simp only [trip_k0_t1.sl.v2492, trip_k0_t1.sl.v2491, trip_k0_t1.sl.v2490, trip_k0_t1.sl.v2489, trip_k0_t1.sl.v2488, trip_k0_t1.sl.v2486, trip_k0_t1.sl.v2485, trip_k0_t1.sl.v2484, trip_k0_t1.sl.v2483, trip_k0_t1.sl.r_6, trip_k0_t1.sl.v2481]
  pointwise [View.readAt_apply, k0_off94_eq, hT25]
  rfl

theorem h_18_0 (r : Fin 32) (l : Fin 128) : trip_k0_t1.sl.v2508 arg8 arg10 arg23 arg24 arg25 X_arg8 X_arg10 X_arg23 X_arg24 X_arg25 k (ix2 r l) = HH arg8 arg10 arg23 arg24 X_arg8 X_arg10 X_arg23 X_arg24 TT 0 (trow k r) (col 18 l) := by
  simp only [trip_k0_t1.sl.v2508, trip_k0_t1.sl.v2507, trip_k0_t1.sl.v2506, trip_k0_t1.sl.v2505, trip_k0_t1.sl.v2504, trip_k0_t1.sl.v1391, trip_k0_t1.sl.v2500, trip_k0_t1.sl.v2499, trip_k0_t1.sl.v2503, trip_k0_t1.sl.v2502, trip_k0_t1.sl.v2501, trip_k0_t1.sl.v2496, trip_k0_t1.sl.v2495]
  pointwise [View.readAt_apply, k0_off2_eq, k0_off95_eq]
  refine Eq.trans ?_ (hT_col _ _ _ _ _ _ _ _ _).symm
  exact congrArg₂ HAdd.hAdd rfl (e_18 arg23 arg25 X_arg23 X_arg25 k TT hT25 r l)

theorem p_18_0 (x : S1x32x128.Idx) : trip_k0_t1.sl.v2512 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off96 k) S1x32x128.size (k0_off96_inb k)).emb x) := by
  idx_vars x
  refine Eq.trans ?_ (h_18_0 arg8 arg10 arg23 arg24 arg25 X_arg8 X_arg10 X_arg23 X_arg24 X_arg25 k TT hT25 x1 x2 |>.trans ?_)
  · simp only [trip_k0_t1.sl.v2512]; pointwise
  · refine congr (congr (congrArg _ (Fin.ext ?_)) (Fin.ext ?_)) (Fin.ext ?_)
    · obtain rfl := Subsingleton.elim x0 0
      exact emb_coord _ (k0_off96_eq k) _ 0 _ rfl
    · exact emb_coord _ (k0_off96_eq k) _ 1 _ rfl
    · exact emb_coord _ (k0_off96_eq k) _ 2 _ rfl

theorem h_18_1 (r : Fin 32) (l : Fin 128) : trip_k0_t1.sl.v2531 arg8 arg10 arg23 arg24 arg25 X_arg8 X_arg10 X_arg23 X_arg24 X_arg25 k (ix2 r l) = HH arg8 arg10 arg23 arg24 X_arg8 X_arg10 X_arg23 X_arg24 TT 1 (trow k r) (col 18 l) := by
  simp only [trip_k0_t1.sl.v2531, trip_k0_t1.sl.v2530, trip_k0_t1.sl.v2529, trip_k0_t1.sl.v2528, trip_k0_t1.sl.v2527, trip_k0_t1.sl.v1394, trip_k0_t1.sl.v2523, trip_k0_t1.sl.v2522, trip_k0_t1.sl.v2526, trip_k0_t1.sl.v2525, trip_k0_t1.sl.v2524, trip_k0_t1.sl.v2519, trip_k0_t1.sl.v2518]
  pointwise [View.readAt_apply, k0_off3_eq, k0_off97_eq]
  refine Eq.trans ?_ (hT_col _ _ _ _ _ _ _ _ _).symm
  exact congrArg₂ HAdd.hAdd rfl (e_18 arg23 arg25 X_arg23 X_arg25 k TT hT25 r l)

theorem p_18_1 (x : S1x32x128.Idx) : trip_k0_t1.sl.v2535 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off98 k) S1x32x128.size (k0_off98_inb k)).emb x) := by
  idx_vars x
  refine Eq.trans ?_ (h_18_1 arg8 arg10 arg23 arg24 arg25 X_arg8 X_arg10 X_arg23 X_arg24 X_arg25 k TT hT25 x1 x2 |>.trans ?_)
  · simp only [trip_k0_t1.sl.v2535]; pointwise
  · refine congr (congr (congrArg _ (Fin.ext ?_)) (Fin.ext ?_)) (Fin.ext ?_)
    · obtain rfl := Subsingleton.elim x0 0
      exact emb_coord _ (k0_off98_eq k) _ 0 _ rfl
    · exact emb_coord _ (k0_off98_eq k) _ 1 _ rfl
    · exact emb_coord _ (k0_off98_eq k) _ 2 _ rfl

theorem e_19 (r : Fin 32) (l : Fin 128) : trip_k0_t1.sl.v2552 arg23 arg25 X_arg23 X_arg25 k (ix2 r l) = eT (View.read (Elt Ideal) arg23.view X_arg23) TT (trow k r) (col 19 l) := by
  simp only [trip_k0_t1.sl.v2552, trip_k0_t1.sl.v2551, trip_k0_t1.sl.v2550, trip_k0_t1.sl.v2549, trip_k0_t1.sl.v2548, trip_k0_t1.sl.v2546, trip_k0_t1.sl.v2545, trip_k0_t1.sl.v2544, trip_k0_t1.sl.v2543, trip_k0_t1.sl.v2541]
  pointwise [View.readAt_apply, k0_off99_eq, hT25]
  rfl

theorem h_19_0 (r : Fin 32) (l : Fin 128) : trip_k0_t1.sl.v2568 arg8 arg10 arg23 arg24 arg25 X_arg8 X_arg10 X_arg23 X_arg24 X_arg25 k (ix2 r l) = HH arg8 arg10 arg23 arg24 X_arg8 X_arg10 X_arg23 X_arg24 TT 0 (trow k r) (col 19 l) := by
  simp only [trip_k0_t1.sl.v2568, trip_k0_t1.sl.v2567, trip_k0_t1.sl.v2566, trip_k0_t1.sl.v2565, trip_k0_t1.sl.v2564, trip_k0_t1.sl.v1391, trip_k0_t1.sl.v2560, trip_k0_t1.sl.v2559, trip_k0_t1.sl.v2563, trip_k0_t1.sl.v2562, trip_k0_t1.sl.v2561, trip_k0_t1.sl.v2556, trip_k0_t1.sl.v2555]
  pointwise [View.readAt_apply, k0_off100_eq, k0_off2_eq]
  refine Eq.trans ?_ (hT_col _ _ _ _ _ _ _ _ _).symm
  exact congrArg₂ HAdd.hAdd rfl (e_19 arg23 arg25 X_arg23 X_arg25 k TT hT25 r l)

theorem p_19_0 (x : S1x32x128.Idx) : trip_k0_t1.sl.v2572 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off101 k) S1x32x128.size (k0_off101_inb k)).emb x) := by
  idx_vars x
  refine Eq.trans ?_ (h_19_0 arg8 arg10 arg23 arg24 arg25 X_arg8 X_arg10 X_arg23 X_arg24 X_arg25 k TT hT25 x1 x2 |>.trans ?_)
  · simp only [trip_k0_t1.sl.v2572]; pointwise
  · refine congr (congr (congrArg _ (Fin.ext ?_)) (Fin.ext ?_)) (Fin.ext ?_)
    · obtain rfl := Subsingleton.elim x0 0
      exact emb_coord _ (k0_off101_eq k) _ 0 _ rfl
    · exact emb_coord _ (k0_off101_eq k) _ 1 _ rfl
    · exact emb_coord _ (k0_off101_eq k) _ 2 _ rfl

theorem h_19_1 (r : Fin 32) (l : Fin 128) : trip_k0_t1.sl.v2591 arg8 arg10 arg23 arg24 arg25 X_arg8 X_arg10 X_arg23 X_arg24 X_arg25 k (ix2 r l) = HH arg8 arg10 arg23 arg24 X_arg8 X_arg10 X_arg23 X_arg24 TT 1 (trow k r) (col 19 l) := by
  simp only [trip_k0_t1.sl.v2591, trip_k0_t1.sl.v2590, trip_k0_t1.sl.v2589, trip_k0_t1.sl.v2588, trip_k0_t1.sl.v2587, trip_k0_t1.sl.v1394, trip_k0_t1.sl.v2583, trip_k0_t1.sl.v2582, trip_k0_t1.sl.v2586, trip_k0_t1.sl.v2585, trip_k0_t1.sl.v2584, trip_k0_t1.sl.v2579, trip_k0_t1.sl.v2578]
  pointwise [View.readAt_apply, k0_off102_eq, k0_off3_eq]
  refine Eq.trans ?_ (hT_col _ _ _ _ _ _ _ _ _).symm
  exact congrArg₂ HAdd.hAdd rfl (e_19 arg23 arg25 X_arg23 X_arg25 k TT hT25 r l)

theorem p_19_1 (x : S1x32x128.Idx) : trip_k0_t1.sl.v2595 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off103 k) S1x32x128.size (k0_off103_inb k)).emb x) := by
  idx_vars x
  refine Eq.trans ?_ (h_19_1 arg8 arg10 arg23 arg24 arg25 X_arg8 X_arg10 X_arg23 X_arg24 X_arg25 k TT hT25 x1 x2 |>.trans ?_)
  · simp only [trip_k0_t1.sl.v2595]; pointwise
  · refine congr (congr (congrArg _ (Fin.ext ?_)) (Fin.ext ?_)) (Fin.ext ?_)
    · obtain rfl := Subsingleton.elim x0 0
      exact emb_coord _ (k0_off103_eq k) _ 0 _ rfl
    · exact emb_coord _ (k0_off103_eq k) _ 1 _ rfl
    · exact emb_coord _ (k0_off103_eq k) _ 2 _ rfl

end Cert.KernelIdeal.Hand
-- ==== Proof.ValTrip2.lean ====
/- One trip of the row loop, column groups 20 to 29: what it computes and stores. -/
module

public import proofs.«01_k».proof.Proof.ValDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (arg8 : Memref sig .tc .vmem S1x2x128x5120 .i8) (arg10 : Memref sig .tc .vmem S1x2x128x5120 .i8) (arg23 : Memref sig .tc .vmem S128x5120 .f32) (arg24 : Memref sig .tc .vmem S2x128x128 .f32) (arg25 : Memref sig .tc .vmem S3x8x5120 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty) (k : Fin k0_t1_loop.trips)
  (TT : Fin 3 → Fin 5120 → EReal) (hT25 : ∀ (a : Fin 3) (s : Fin 8) (d : Fin 5120), View.read (Elt Ideal) arg25.view X_arg25 (ix3 a s d) = TT a d)
include hT25

theorem e_20 (r : Fin 32) (l : Fin 128) : trip_k0_t1.sl.v2612 arg23 arg25 X_arg23 X_arg25 k (ix2 r l) = eT (View.read (Elt Ideal) arg23.view X_arg23) TT (trow k r) (col 20 l) := by
  simp only [trip_k0_t1.sl.v2612, trip_k0_t1.sl.v2611, trip_k0_t1.sl.v2610, trip_k0_t1.sl.v2609, trip_k0_t1.sl.v2608, trip_k0_t1.sl.v2606, trip_k0_t1.sl.v2605, trip_k0_t1.sl.v2604, trip_k0_t1.sl.v2603, trip_k0_t1.sl.v2601]
  pointwise [View.readAt_apply, k0_off104_eq, hT25]
  rfl

theorem h_20_0 (r : Fin 32) (l : Fin 128) : trip_k0_t1.sl.v2628 arg8 arg10 arg23 arg24 arg25 X_arg8 X_arg10 X_arg23 X_arg24 X_arg25 k (ix2 r l) = HH arg8 arg10 arg23 arg24 X_arg8 X_arg10 X_arg23 X_arg24 TT 0 (trow k r) (col 20 l) := by
  simp only [trip_k0_t1.sl.v2628, trip_k0_t1.sl.v2627, trip_k0_t1.sl.v2626, trip_k0_t1.sl.v2625, trip_k0_t1.sl.v2624, trip_k0_t1.sl.v1391, trip_k0_t1.sl.v2620, trip_k0_t1.sl.v2619, trip_k0_t1.sl.v2623, trip_k0_t1.sl.v2622, trip_k0_t1.sl.v2621, trip_k0_t1.sl.v2616, trip_k0_t1.sl.v2615]
  pointwise [View.readAt_apply, k0_off105_eq, k0_off2_eq]
  refine Eq.trans ?_ (hT_col _ _ _ _ _ _ _ _ _).symm
  exact congrArg₂ HAdd.hAdd rfl (e_20 arg23 arg25 X_arg23 X_arg25 k TT hT25 r l)

theorem p_20_0 (x : S1x32x128.Idx) : trip_k0_t1.sl.v2632 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off106 k) S1x32x128.size (k0_off106_inb k)).emb x) := by
  idx_vars x
  refine Eq.trans ?_ (h_20_0 arg8 arg10 arg23 arg24 arg25 X_arg8 X_arg10 X_arg23 X_arg24 X_arg25 k TT hT25 x1 x2 |>.trans ?_)
  · simp only [trip_k0_t1.sl.v2632]; pointwise
  · refine congr (congr (congrArg _ (Fin.ext ?_)) (Fin.ext ?_)) (Fin.ext ?_)
    · obtain rfl := Subsingleton.elim x0 0
      exact emb_coord _ (k0_off106_eq k) _ 0 _ rfl
    · exact emb_coord _ (k0_off106_eq k) _ 1 _ rfl
    · exact emb_coord _ (k0_off106_eq k) _ 2 _ rfl

theorem h_20_1 (r : Fin 32) (l : Fin 128) : trip_k0_t1.sl.v2651 arg8 arg10 arg23 arg24 arg25 X_arg8 X_arg10 X_arg23 X_arg24 X_arg25 k (ix2 r l) = HH arg8 arg10 arg23 arg24 X_arg8 X_arg10 X_arg23 X_arg24 TT 1 (trow k r) (col 20 l) := by
  simp only [trip_k0_t1.sl.v2651, trip_k0_t1.sl.v2650, trip_k0_t1.sl.v2649, trip_k0_t1.sl.v2648, trip_k0_t1.sl.v2647, trip_k0_t1.sl.v1394, trip_k0_t1.sl.v2643, trip_k0_t1.sl.v2642, trip_k0_t1.sl.v2646, trip_k0_t1.sl.v2645, trip_k0_t1.sl.v2644, trip_k0_t1.sl.v2639, trip_k0_t1.sl.v2638]
  pointwise [View.readAt_apply, k0_off107_eq, k0_off3_eq]
  refine Eq.trans ?_ (hT_col _ _ _ _ _ _ _ _ _).symm
  exact congrArg₂ HAdd.hAdd rfl (e_20 arg23 arg25 X_arg23 X_arg25 k TT hT25 r l)

theorem p_20_1 (x : S1x32x128.Idx) : trip_k0_t1.sl.v2655 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off108 k) S1x32x128.size (k0_off108_inb k)).emb x) := by
  idx_vars x
  refine Eq.trans ?_ (h_20_1 arg8 arg10 arg23 arg24 arg25 X_arg8 X_arg10 X_arg23 X_arg24 X_arg25 k TT hT25 x1 x2 |>.trans ?_)
  · simp only [trip_k0_t1.sl.v2655]; pointwise
  · refine congr (congr (congrArg _ (Fin.ext ?_)) (Fin.ext ?_)) (Fin.ext ?_)
    · obtain rfl := Subsingleton.elim x0 0
      exact emb_coord _ (k0_off108_eq k) _ 0 _ rfl
    · exact emb_coord _ (k0_off108_eq k) _ 1 _ rfl
    · exact emb_coord _ (k0_off108_eq k) _ 2 _ rfl

theorem e_21 (r : Fin 32) (l : Fin 128) : trip_k0_t1.sl.v2672 arg23 arg25 X_arg23 X_arg25 k (ix2 r l) = eT (View.read (Elt Ideal) arg23.view X_arg23) TT (trow k r) (col 21 l) := by
  simp only [trip_k0_t1.sl.v2672, trip_k0_t1.sl.v2671, trip_k0_t1.sl.v2670, trip_k0_t1.sl.v2669, trip_k0_t1.sl.v2668, trip_k0_t1.sl.v2666, trip_k0_t1.sl.v2665, trip_k0_t1.sl.v2664, trip_k0_t1.sl.v2663, trip_k0_t1.sl.v2661]
  pointwise [View.readAt_apply, k0_off109_eq, hT25]
  rfl

theorem h_21_0 (r : Fin 32) (l : Fin 128) : trip_k0_t1.sl.v2688 arg8 arg10 arg23 arg24 arg25 X_arg8 X_arg10 X_arg23 X_arg24 X_arg25 k (ix2 r l) = HH arg8 arg10 arg23 arg24 X_arg8 X_arg10 X_arg23 X_arg24 TT 0 (trow k r) (col 21 l) := by
  simp only [trip_k0_t1.sl.v2688, trip_k0_t1.sl.v2687, trip_k0_t1.sl.v2686, trip_k0_t1.sl.v2685, trip_k0_t1.sl.v2684, trip_k0_t1.sl.v1391, trip_k0_t1.sl.v2680, trip_k0_t1.sl.v2679, trip_k0_t1.sl.v2683, trip_k0_t1.sl.v2682, trip_k0_t1.sl.v2681, trip_k0_t1.sl.v2676, trip_k0_t1.sl.v2675]
  pointwise [View.readAt_apply, k0_off110_eq, k0_off2_eq]
  refine Eq.trans ?_ (hT_col _ _ _ _ _ _ _ _ _).symm
  exact congrArg₂ HAdd.hAdd rfl (e_21 arg23 arg25 X_arg23 X_arg25 k TT hT25 r l)

theorem p_21_0 (x : S1x32x128.Idx) : trip_k0_t1.sl.v2692 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off111 k) S1x32x128.size (k0_off111_inb k)).emb x) := by
  idx_vars x
  refine Eq.trans ?_ (h_21_0 arg8 arg10 arg23 arg24 arg25 X_arg8 X_arg10 X_arg23 X_arg24 X_arg25 k TT hT25 x1 x2 |>.trans ?_)
  · simp only [trip_k0_t1.sl.v2692]; pointwise
  · refine congr (congr (congrArg _ (Fin.ext ?_)) (Fin.ext ?_)) (Fin.ext ?_)
    · obtain rfl := Subsingleton.elim x0 0
      exact emb_coord _ (k0_off111_eq k) _ 0 _ rfl
    · exact emb_coord _ (k0_off111_eq k) _ 1 _ rfl
    · exact emb_coord _ (k0_off111_eq k) _ 2 _ rfl

theorem h_21_1 (r : Fin 32) (l : Fin 128) : trip_k0_t1.sl.v2711 arg8 arg10 arg23 arg24 arg25 X_arg8 X_arg10 X_arg23 X_arg24 X_arg25 k (ix2 r l) = HH arg8 arg10 arg23 arg24 X_arg8 X_arg10 X_arg23 X_arg24 TT 1 (trow k r) (col 21 l) := by
  simp only [trip_k0_t1.sl.v2711, trip_k0_t1.sl.v2710, trip_k0_t1.sl.v2709, trip_k0_t1.sl.v2708, trip_k0_t1.sl.v2707, trip_k0_t1.sl.v1394, trip_k0_t1.sl.v2703, trip_k0_t1.sl.v2702, trip_k0_t1.sl.v2706, trip_k0_t1.sl.v2705, trip_k0_t1.sl.v2704, trip_k0_t1.sl.v2699, trip_k0_t1.sl.v2698]
  pointwise [View.readAt_apply, k0_off112_eq, k0_off3_eq]
  refine Eq.trans ?_ (hT_col _ _ _ _ _ _ _ _ _).symm
  exact congrArg₂ HAdd.hAdd rfl (e_21 arg23 arg25 X_arg23 X_arg25 k TT hT25 r l)

theorem p_21_1 (x : S1x32x128.Idx) : trip_k0_t1.sl.v2715 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off113 k) S1x32x128.size (k0_off113_inb k)).emb x) := by
  idx_vars x
  refine Eq.trans ?_ (h_21_1 arg8 arg10 arg23 arg24 arg25 X_arg8 X_arg10 X_arg23 X_arg24 X_arg25 k TT hT25 x1 x2 |>.trans ?_)
  · simp only [trip_k0_t1.sl.v2715]; pointwise
  · refine congr (congr (congrArg _ (Fin.ext ?_)) (Fin.ext ?_)) (Fin.ext ?_)
    · obtain rfl := Subsingleton.elim x0 0
      exact emb_coord _ (k0_off113_eq k) _ 0 _ rfl
    · exact emb_coord _ (k0_off113_eq k) _ 1 _ rfl
    · exact emb_coord _ (k0_off113_eq k) _ 2 _ rfl

theorem e_22 (r : Fin 32) (l : Fin 128) : trip_k0_t1.sl.v2732 arg23 arg25 X_arg23 X_arg25 k (ix2 r l) = eT (View.read (Elt Ideal) arg23.view X_arg23) TT (trow k r) (col 22 l) := by
  simp only [trip_k0_t1.sl.v2732, trip_k0_t1.sl.v2731, trip_k0_t1.sl.v2730, trip_k0_t1.sl.v2729, trip_k0_t1.sl.v2728, trip_k0_t1.sl.v2726, trip_k0_t1.sl.v2725, trip_k0_t1.sl.v2724, trip_k0_t1.sl.v2723, trip_k0_t1.sl.v2721]
  pointwise [View.readAt_apply, k0_off114_eq, hT25]
  rfl

theorem h_22_0 (r : Fin 32) (l : Fin 128) : trip_k0_t1.sl.v2748 arg8 arg10 arg23 arg24 arg25 X_arg8 X_arg10 X_arg23 X_arg24 X_arg25 k (ix2 r l) = HH arg8 arg10 arg23 arg24 X_arg8 X_arg10 X_arg23 X_arg24 TT 0 (trow k r) (col 22 l) := by
  simp only [trip_k0_t1.sl.v2748, trip_k0_t1.sl.v2747, trip_k0_t1.sl.v2746, trip_k0_t1.sl.v2745, trip_k0_t1.sl.v2744, trip_k0_t1.sl.v1391, trip_k0_t1.sl.v2740, trip_k0_t1.sl.v2739, trip_k0_t1.sl.v2743, trip_k0_t1.sl.v2742, trip_k0_t1.sl.v2741, trip_k0_t1.sl.v2736, trip_k0_t1.sl.v2735]
  pointwise [View.readAt_apply, k0_off115_eq, k0_off2_eq]
  refine Eq.trans ?_ (hT_col _ _ _ _ _ _ _ _ _).symm
  exact congrArg₂ HAdd.hAdd rfl (e_22 arg23 arg25 X_arg23 X_arg25 k TT hT25 r l)

theorem p_22_0 (x : S1x32x128.Idx) : trip_k0_t1.sl.v2752 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off116 k) S1x32x128.size (k0_off116_inb k)).emb x) := by
  idx_vars x
  refine Eq.trans ?_ (h_22_0 arg8 arg10 arg23 arg24 arg25 X_arg8 X_arg10 X_arg23 X_arg24 X_arg25 k TT hT25 x1 x2 |>.trans ?_)
  · simp only [trip_k0_t1.sl.v2752]; pointwise
  · refine congr (congr (congrArg _ (Fin.ext ?_)) (Fin.ext ?_)) (Fin.ext ?_)
    · obtain rfl := Subsingleton.elim x0 0
      exact emb_coord _ (k0_off116_eq k) _ 0 _ rfl
    · exact emb_coord _ (k0_off116_eq k) _ 1 _ rfl
    · exact emb_coord _ (k0_off116_eq k) _ 2 _ rfl

theorem h_22_1 (r : Fin 32) (l : Fin 128) : trip_k0_t1.sl.v2771 arg8 arg10 arg23 arg24 arg25 X_arg8 X_arg10 X_arg23 X_arg24 X_arg25 k (ix2 r l) = HH arg8 arg10 arg23 arg24 X_arg8 X_arg10 X_arg23 X_arg24 TT 1 (trow k r) (col 22 l) := by
  simp only [trip_k0_t1.sl.v2771, trip_k0_t1.sl.v2770, trip_k0_t1.sl.v2769, trip_k0_t1.sl.v2768, trip_k0_t1.sl.v2767, trip_k0_t1.sl.v1394, trip_k0_t1.sl.v2763, trip_k0_t1.sl.v2762, trip_k0_t1.sl.v2766, trip_k0_t1.sl.v2765, trip_k0_t1.sl.v2764, trip_k0_t1.sl.v2759, trip_k0_t1.sl.v2758]
  pointwise [View.readAt_apply, k0_off117_eq, k0_off3_eq]
  refine Eq.trans ?_ (hT_col _ _ _ _ _ _ _ _ _).symm
  exact congrArg₂ HAdd.hAdd rfl (e_22 arg23 arg25 X_arg23 X_arg25 k TT hT25 r l)

theorem p_22_1 (x : S1x32x128.Idx) : trip_k0_t1.sl.v2775 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off118 k) S1x32x128.size (k0_off118_inb k)).emb x) := by
  idx_vars x
  refine Eq.trans ?_ (h_22_1 arg8 arg10 arg23 arg24 arg25 X_arg8 X_arg10 X_arg23 X_arg24 X_arg25 k TT hT25 x1 x2 |>.trans ?_)
  · simp only [trip_k0_t1.sl.v2775]; pointwise
  · refine congr (congr (congrArg _ (Fin.ext ?_)) (Fin.ext ?_)) (Fin.ext ?_)
    · obtain rfl := Subsingleton.elim x0 0
      exact emb_coord _ (k0_off118_eq k) _ 0 _ rfl
    · exact emb_coord _ (k0_off118_eq k) _ 1 _ rfl
    · exact emb_coord _ (k0_off118_eq k) _ 2 _ rfl

theorem e_23 (r : Fin 32) (l : Fin 128) : trip_k0_t1.sl.v2792 arg23 arg25 X_arg23 X_arg25 k (ix2 r l) = eT (View.read (Elt Ideal) arg23.view X_arg23) TT (trow k r) (col 23 l) := by
  simp only [trip_k0_t1.sl.v2792, trip_k0_t1.sl.v2791, trip_k0_t1.sl.v2790, trip_k0_t1.sl.v2789, trip_k0_t1.sl.v2788, trip_k0_t1.sl.v2786, trip_k0_t1.sl.v2785, trip_k0_t1.sl.v2784, trip_k0_t1.sl.v2783, trip_k0_t1.sl.v2781, trip_k0_t1.sl.r_7]
  pointwise [View.readAt_apply, k0_off119_eq, hT25]
  rfl

theorem h_23_0 (r : Fin 32) (l : Fin 128) : trip_k0_t1.sl.v2808 arg8 arg10 arg23 arg24 arg25 X_arg8 X_arg10 X_arg23 X_arg24 X_arg25 k (ix2 r l) = HH arg8 arg10 arg23 arg24 X_arg8 X_arg10 X_arg23 X_arg24 TT 0 (trow k r) (col 23 l) := by
  simp only [trip_k0_t1.sl.v2808, trip_k0_t1.sl.v2807, trip_k0_t1.sl.v2806, trip_k0_t1.sl.v2805, trip_k0_t1.sl.v2804, trip_k0_t1.sl.v1391, trip_k0_t1.sl.v2800, trip_k0_t1.sl.v2799, trip_k0_t1.sl.v2803, trip_k0_t1.sl.v2802, trip_k0_t1.sl.v2801, trip_k0_t1.sl.v2796, trip_k0_t1.sl.v2795]
  pointwise [View.readAt_apply, k0_off120_eq, k0_off2_eq]
  refine Eq.trans ?_ (hT_col _ _ _ _ _ _ _ _ _).symm
  exact congrArg₂ HAdd.hAdd rfl (e_23 arg23 arg25 X_arg23 X_arg25 k TT hT25 r l)

theorem p_23_0 (x : S1x32x128.Idx) : trip_k0_t1.sl.v2812 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off121 k) S1x32x128.size (k0_off121_inb k)).emb x) := by
  idx_vars x
  refine Eq.trans ?_ (h_23_0 arg8 arg10 arg23 arg24 arg25 X_arg8 X_arg10 X_arg23 X_arg24 X_arg25 k TT hT25 x1 x2 |>.trans ?_)
  · simp only [trip_k0_t1.sl.v2812]; pointwise
  · refine congr (congr (congrArg _ (Fin.ext ?_)) (Fin.ext ?_)) (Fin.ext ?_)
    · obtain rfl := Subsingleton.elim x0 0
      exact emb_coord _ (k0_off121_eq k) _ 0 _ rfl
    · exact emb_coord _ (k0_off121_eq k) _ 1 _ rfl
    · exact emb_coord _ (k0_off121_eq k) _ 2 _ rfl

theorem h_23_1 (r : Fin 32) (l : Fin 128) : trip_k0_t1.sl.v2831 arg8 arg10 arg23 arg24 arg25 X_arg8 X_arg10 X_arg23 X_arg24 X_arg25 k (ix2 r l) = HH arg8 arg10 arg23 arg24 X_arg8 X_arg10 X_arg23 X_arg24 TT 1 (trow k r) (col 23 l) := by
  simp only [trip_k0_t1.sl.v2831, trip_k0_t1.sl.v2830, trip_k0_t1.sl.v2829, trip_k0_t1.sl.v2828, trip_k0_t1.sl.v2827, trip_k0_t1.sl.v1394, trip_k0_t1.sl.v2823, trip_k0_t1.sl.v2822, trip_k0_t1.sl.v2826, trip_k0_t1.sl.v2825, trip_k0_t1.sl.v2824, trip_k0_t1.sl.v2819, trip_k0_t1.sl.v2818]
  pointwise [View.readAt_apply, k0_off122_eq, k0_off3_eq]
  refine Eq.trans ?_ (hT_col _ _ _ _ _ _ _ _ _).symm
  exact congrArg₂ HAdd.hAdd rfl (e_23 arg23 arg25 X_arg23 X_arg25 k TT hT25 r l)

theorem p_23_1 (x : S1x32x128.Idx) : trip_k0_t1.sl.v2835 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off123 k) S1x32x128.size (k0_off123_inb k)).emb x) := by
  idx_vars x
  refine Eq.trans ?_ (h_23_1 arg8 arg10 arg23 arg24 arg25 X_arg8 X_arg10 X_arg23 X_arg24 X_arg25 k TT hT25 x1 x2 |>.trans ?_)
  · simp only [trip_k0_t1.sl.v2835]; pointwise
  · refine congr (congr (congrArg _ (Fin.ext ?_)) (Fin.ext ?_)) (Fin.ext ?_)
    · obtain rfl := Subsingleton.elim x0 0
      exact emb_coord _ (k0_off123_eq k) _ 0 _ rfl
    · exact emb_coord _ (k0_off123_eq k) _ 1 _ rfl
    · exact emb_coord _ (k0_off123_eq k) _ 2 _ rfl

theorem e_24 (r : Fin 32) (l : Fin 128) : trip_k0_t1.sl.v2852 arg23 arg25 X_arg23 X_arg25 k (ix2 r l) = eT (View.read (Elt Ideal) arg23.view X_arg23) TT (trow k r) (col 24 l) := by
  simp only [trip_k0_t1.sl.v2852, trip_k0_t1.sl.v2851, trip_k0_t1.sl.v2850, trip_k0_t1.sl.v2849, trip_k0_t1.sl.v2848, trip_k0_t1.sl.v2846, trip_k0_t1.sl.v2845, trip_k0_t1.sl.v2844, trip_k0_t1.sl.v2843, trip_k0_t1.sl.v2841]
  pointwise [View.readAt_apply, k0_off124_eq, hT25]
  rfl

theorem h_24_0 (r : Fin 32) (l : Fin 128) : trip_k0_t1.sl.v2868 arg8 arg10 arg23 arg24 arg25 X_arg8 X_arg10 X_arg23 X_arg24 X_arg25 k (ix2 r l) = HH arg8 arg10 arg23 arg24 X_arg8 X_arg10 X_arg23 X_arg24 TT 0 (trow k r) (col 24 l) := by
  simp only [trip_k0_t1.sl.v2868, trip_k0_t1.sl.v2867, trip_k0_t1.sl.v2866, trip_k0_t1.sl.v2865, trip_k0_t1.sl.v2864, trip_k0_t1.sl.v1391, trip_k0_t1.sl.v2860, trip_k0_t1.sl.v2859, trip_k0_t1.sl.v2863, trip_k0_t1.sl.v2862, trip_k0_t1.sl.v2861, trip_k0_t1.sl.v2856, trip_k0_t1.sl.v2855]
  pointwise [View.readAt_apply, k0_off125_eq, k0_off2_eq]
  refine Eq.trans ?_ (hT_col _ _ _ _ _ _ _ _ _).symm
  exact congrArg₂ HAdd.hAdd rfl (e_24 arg23 arg25 X_arg23 X_arg25 k TT hT25 r l)

theorem p_24_0 (x : S1x32x128.Idx) : trip_k0_t1.sl.v2872 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off126 k) S1x32x128.size (k0_off126_inb k)).emb x) := by
  idx_vars x
  refine Eq.trans ?_ (h_24_0 arg8 arg10 arg23 arg24 arg25 X_arg8 X_arg10 X_arg23 X_arg24 X_arg25 k TT hT25 x1 x2 |>.trans ?_)
  · simp only [trip_k0_t1.sl.v2872]; pointwise
  · refine congr (congr (congrArg _ (Fin.ext ?_)) (Fin.ext ?_)) (Fin.ext ?_)
    · obtain rfl := Subsingleton.elim x0 0
      exact emb_coord _ (k0_off126_eq k) _ 0 _ rfl
    · exact emb_coord _ (k0_off126_eq k) _ 1 _ rfl
    · exact emb_coord _ (k0_off126_eq k) _ 2 _ rfl

theorem h_24_1 (r : Fin 32) (l : Fin 128) : trip_k0_t1.sl.v2891 arg8 arg10 arg23 arg24 arg25 X_arg8 X_arg10 X_arg23 X_arg24 X_arg25 k (ix2 r l) = HH arg8 arg10 arg23 arg24 X_arg8 X_arg10 X_arg23 X_arg24 TT 1 (trow k r) (col 24 l) := by
  simp only [trip_k0_t1.sl.v2891, trip_k0_t1.sl.v2890, trip_k0_t1.sl.v2889, trip_k0_t1.sl.v2888, trip_k0_t1.sl.v2887, trip_k0_t1.sl.v1394, trip_k0_t1.sl.v2883, trip_k0_t1.sl.v2882, trip_k0_t1.sl.v2886, trip_k0_t1.sl.v2885, trip_k0_t1.sl.v2884, trip_k0_t1.sl.v2879, trip_k0_t1.sl.v2878]
  pointwise [View.readAt_apply, k0_off127_eq, k0_off3_eq]
  refine Eq.trans ?_ (hT_col _ _ _ _ _ _ _ _ _).symm
  exact congrArg₂ HAdd.hAdd rfl (e_24 arg23 arg25 X_arg23 X_arg25 k TT hT25 r l)

theorem p_24_1 (x : S1x32x128.Idx) : trip_k0_t1.sl.v2895 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off128 k) S1x32x128.size (k0_off128_inb k)).emb x) := by
  idx_vars x
  refine Eq.trans ?_ (h_24_1 arg8 arg10 arg23 arg24 arg25 X_arg8 X_arg10 X_arg23 X_arg24 X_arg25 k TT hT25 x1 x2 |>.trans ?_)
  · simp only [trip_k0_t1.sl.v2895]; pointwise
  · refine congr (congr (congrArg _ (Fin.ext ?_)) (Fin.ext ?_)) (Fin.ext ?_)
    · obtain rfl := Subsingleton.elim x0 0
      exact emb_coord _ (k0_off128_eq k) _ 0 _ rfl
    · exact emb_coord _ (k0_off128_eq k) _ 1 _ rfl
    · exact emb_coord _ (k0_off128_eq k) _ 2 _ rfl

theorem e_25 (r : Fin 32) (l : Fin 128) : trip_k0_t1.sl.v2912 arg23 arg25 X_arg23 X_arg25 k (ix2 r l) = eT (View.read (Elt Ideal) arg23.view X_arg23) TT (trow k r) (col 25 l) := by
  simp only [trip_k0_t1.sl.v2912, trip_k0_t1.sl.v2911, trip_k0_t1.sl.v2910, trip_k0_t1.sl.v2909, trip_k0_t1.sl.v2908, trip_k0_t1.sl.v2906, trip_k0_t1.sl.v2905, trip_k0_t1.sl.v2904, trip_k0_t1.sl.v2903, trip_k0_t1.sl.v2901]
  pointwise [View.readAt_apply, k0_off129_eq, hT25]
  rfl

theorem h_25_0 (r : Fin 32) (l : Fin 128) : trip_k0_t1.sl.v2928 arg8 arg10 arg23 arg24 arg25 X_arg8 X_arg10 X_arg23 X_arg24 X_arg25 k (ix2 r l) = HH arg8 arg10 arg23 arg24 X_arg8 X_arg10 X_arg23 X_arg24 TT 0 (trow k r) (col 25 l) := by
  simp only [trip_k0_t1.sl.v2928, trip_k0_t1.sl.v2927, trip_k0_t1.sl.v2926, trip_k0_t1.sl.v2925, trip_k0_t1.sl.v2924, trip_k0_t1.sl.v1391, trip_k0_t1.sl.v2920, trip_k0_t1.sl.v2919, trip_k0_t1.sl.v2923, trip_k0_t1.sl.v2922, trip_k0_t1.sl.v2921, trip_k0_t1.sl.v2916, trip_k0_t1.sl.v2915]
  pointwise [View.readAt_apply, k0_off130_eq, k0_off2_eq]
  refine Eq.trans ?_ (hT_col _ _ _ _ _ _ _ _ _).symm
  exact congrArg₂ HAdd.hAdd rfl (e_25 arg23 arg25 X_arg23 X_arg25 k TT hT25 r l)

theorem p_25_0 (x : S1x32x128.Idx) : trip_k0_t1.sl.v2932 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off131 k) S1x32x128.size (k0_off131_inb k)).emb x) := by
  idx_vars x
  refine Eq.trans ?_ (h_25_0 arg8 arg10 arg23 arg24 arg25 X_arg8 X_arg10 X_arg23 X_arg24 X_arg25 k TT hT25 x1 x2 |>.trans ?_)
  · simp only [trip_k0_t1.sl.v2932]; pointwise
  · refine congr (congr (congrArg _ (Fin.ext ?_)) (Fin.ext ?_)) (Fin.ext ?_)
    · obtain rfl := Subsingleton.elim x0 0
      exact emb_coord _ (k0_off131_eq k) _ 0 _ rfl
    · exact emb_coord _ (k0_off131_eq k) _ 1 _ rfl
    · exact emb_coord _ (k0_off131_eq k) _ 2 _ rfl

theorem h_25_1 (r : Fin 32) (l : Fin 128) : trip_k0_t1.sl.v2951 arg8 arg10 arg23 arg24 arg25 X_arg8 X_arg10 X_arg23 X_arg24 X_arg25 k (ix2 r l) = HH arg8 arg10 arg23 arg24 X_arg8 X_arg10 X_arg23 X_arg24 TT 1 (trow k r) (col 25 l) := by
  simp only [trip_k0_t1.sl.v2951, trip_k0_t1.sl.v2950, trip_k0_t1.sl.v2949, trip_k0_t1.sl.v2948, trip_k0_t1.sl.v2947, trip_k0_t1.sl.v1394, trip_k0_t1.sl.v2943, trip_k0_t1.sl.v2942, trip_k0_t1.sl.v2946, trip_k0_t1.sl.v2945, trip_k0_t1.sl.v2944, trip_k0_t1.sl.v2939, trip_k0_t1.sl.v2938]
  pointwise [View.readAt_apply, k0_off132_eq, k0_off3_eq]
  refine Eq.trans ?_ (hT_col _ _ _ _ _ _ _ _ _).symm
  exact congrArg₂ HAdd.hAdd rfl (e_25 arg23 arg25 X_arg23 X_arg25 k TT hT25 r l)

theorem p_25_1 (x : S1x32x128.Idx) : trip_k0_t1.sl.v2955 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off133 k) S1x32x128.size (k0_off133_inb k)).emb x) := by
  idx_vars x
  refine Eq.trans ?_ (h_25_1 arg8 arg10 arg23 arg24 arg25 X_arg8 X_arg10 X_arg23 X_arg24 X_arg25 k TT hT25 x1 x2 |>.trans ?_)
  · simp only [trip_k0_t1.sl.v2955]; pointwise
  · refine congr (congr (congrArg _ (Fin.ext ?_)) (Fin.ext ?_)) (Fin.ext ?_)
    · obtain rfl := Subsingleton.elim x0 0
      exact emb_coord _ (k0_off133_eq k) _ 0 _ rfl
    · exact emb_coord _ (k0_off133_eq k) _ 1 _ rfl
    · exact emb_coord _ (k0_off133_eq k) _ 2 _ rfl

theorem e_26 (r : Fin 32) (l : Fin 128) : trip_k0_t1.sl.v2972 arg23 arg25 X_arg23 X_arg25 k (ix2 r l) = eT (View.read (Elt Ideal) arg23.view X_arg23) TT (trow k r) (col 26 l) := by
  simp only [trip_k0_t1.sl.v2972, trip_k0_t1.sl.v2971, trip_k0_t1.sl.v2970, trip_k0_t1.sl.v2969, trip_k0_t1.sl.v2968, trip_k0_t1.sl.v2966, trip_k0_t1.sl.v2965, trip_k0_t1.sl.v2964, trip_k0_t1.sl.v2963, trip_k0_t1.sl.v2961]
  pointwise [View.readAt_apply, k0_off134_eq, hT25]
  rfl

theorem h_26_0 (r : Fin 32) (l : Fin 128) : trip_k0_t1.sl.v2988 arg8 arg10 arg23 arg24 arg25 X_arg8 X_arg10 X_arg23 X_arg24 X_arg25 k (ix2 r l) = HH arg8 arg10 arg23 arg24 X_arg8 X_arg10 X_arg23 X_arg24 TT 0 (trow k r) (col 26 l) := by
  simp only [trip_k0_t1.sl.v2988, trip_k0_t1.sl.v2987, trip_k0_t1.sl.v2986, trip_k0_t1.sl.v2985, trip_k0_t1.sl.v2984, trip_k0_t1.sl.v1391, trip_k0_t1.sl.v2980, trip_k0_t1.sl.v2979, trip_k0_t1.sl.v2983, trip_k0_t1.sl.v2982, trip_k0_t1.sl.v2981, trip_k0_t1.sl.v2976, trip_k0_t1.sl.v2975]
  pointwise [View.readAt_apply, k0_off135_eq, k0_off2_eq]
  refine Eq.trans ?_ (hT_col _ _ _ _ _ _ _ _ _).symm
  exact congrArg₂ HAdd.hAdd rfl (e_26 arg23 arg25 X_arg23 X_arg25 k TT hT25 r l)

theorem p_26_0 (x : S1x32x128.Idx) : trip_k0_t1.sl.v2992 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off136 k) S1x32x128.size (k0_off136_inb k)).emb x) := by
  idx_vars x
  refine Eq.trans ?_ (h_26_0 arg8 arg10 arg23 arg24 arg25 X_arg8 X_arg10 X_arg23 X_arg24 X_arg25 k TT hT25 x1 x2 |>.trans ?_)
  · simp only [trip_k0_t1.sl.v2992]; pointwise
  · refine congr (congr (congrArg _ (Fin.ext ?_)) (Fin.ext ?_)) (Fin.ext ?_)
    · obtain rfl := Subsingleton.elim x0 0
      exact emb_coord _ (k0_off136_eq k) _ 0 _ rfl
    · exact emb_coord _ (k0_off136_eq k) _ 1 _ rfl
    · exact emb_coord _ (k0_off136_eq k) _ 2 _ rfl

theorem h_26_1 (r : Fin 32) (l : Fin 128) : trip_k0_t1.sl.v3011 arg8 arg10 arg23 arg24 arg25 X_arg8 X_arg10 X_arg23 X_arg24 X_arg25 k (ix2 r l) = HH arg8 arg10 arg23 arg24 X_arg8 X_arg10 X_arg23 X_arg24 TT 1 (trow k r) (col 26 l) := by
  simp only [trip_k0_t1.sl.v3011, trip_k0_t1.sl.v3010, trip_k0_t1.sl.v3009, trip_k0_t1.sl.v3008, trip_k0_t1.sl.v3007, trip_k0_t1.sl.v1394, trip_k0_t1.sl.v3003, trip_k0_t1.sl.v3002, trip_k0_t1.sl.v3006, trip_k0_t1.sl.v3005, trip_k0_t1.sl.v3004, trip_k0_t1.sl.v2999, trip_k0_t1.sl.v2998]
  pointwise [View.readAt_apply, k0_off137_eq, k0_off3_eq]
  refine Eq.trans ?_ (hT_col _ _ _ _ _ _ _ _ _).symm
  exact congrArg₂ HAdd.hAdd rfl (e_26 arg23 arg25 X_arg23 X_arg25 k TT hT25 r l)

theorem p_26_1 (x : S1x32x128.Idx) : trip_k0_t1.sl.v3015 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off138 k) S1x32x128.size (k0_off138_inb k)).emb x) := by
  idx_vars x
  refine Eq.trans ?_ (h_26_1 arg8 arg10 arg23 arg24 arg25 X_arg8 X_arg10 X_arg23 X_arg24 X_arg25 k TT hT25 x1 x2 |>.trans ?_)
  · simp only [trip_k0_t1.sl.v3015]; pointwise
  · refine congr (congr (congrArg _ (Fin.ext ?_)) (Fin.ext ?_)) (Fin.ext ?_)
    · obtain rfl := Subsingleton.elim x0 0
      exact emb_coord _ (k0_off138_eq k) _ 0 _ rfl
    · exact emb_coord _ (k0_off138_eq k) _ 1 _ rfl
    · exact emb_coord _ (k0_off138_eq k) _ 2 _ rfl

theorem e_27 (r : Fin 32) (l : Fin 128) : trip_k0_t1.sl.v3032 arg23 arg25 X_arg23 X_arg25 k (ix2 r l) = eT (View.read (Elt Ideal) arg23.view X_arg23) TT (trow k r) (col 27 l) := by
  simp only [trip_k0_t1.sl.v3032, trip_k0_t1.sl.v3031, trip_k0_t1.sl.v3030, trip_k0_t1.sl.v3029, trip_k0_t1.sl.v3028, trip_k0_t1.sl.v3026, trip_k0_t1.sl.v3025, trip_k0_t1.sl.v3024, trip_k0_t1.sl.v3023, trip_k0_t1.sl.v3021]
  pointwise [View.readAt_apply, k0_off139_eq, hT25]
  rfl

theorem h_27_0 (r : Fin 32) (l : Fin 128) : trip_k0_t1.sl.v3048 arg8 arg10 arg23 arg24 arg25 X_arg8 X_arg10 X_arg23 X_arg24 X_arg25 k (ix2 r l) = HH arg8 arg10 arg23 arg24 X_arg8 X_arg10 X_arg23 X_arg24 TT 0 (trow k r) (col 27 l) := by
  simp only [trip_k0_t1.sl.v3048, trip_k0_t1.sl.v3047, trip_k0_t1.sl.v3046, trip_k0_t1.sl.v3045, trip_k0_t1.sl.v3044, trip_k0_t1.sl.v1391, trip_k0_t1.sl.v3040, trip_k0_t1.sl.v3039, trip_k0_t1.sl.v3043, trip_k0_t1.sl.v3042, trip_k0_t1.sl.v3041, trip_k0_t1.sl.v3036, trip_k0_t1.sl.v3035]
  pointwise [View.readAt_apply, k0_off140_eq, k0_off2_eq]
  refine Eq.trans ?_ (hT_col _ _ _ _ _ _ _ _ _).symm
  exact congrArg₂ HAdd.hAdd rfl (e_27 arg23 arg25 X_arg23 X_arg25 k TT hT25 r l)

theorem p_27_0 (x : S1x32x128.Idx) : trip_k0_t1.sl.v3052 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off141 k) S1x32x128.size (k0_off141_inb k)).emb x) := by
  idx_vars x
  refine Eq.trans ?_ (h_27_0 arg8 arg10 arg23 arg24 arg25 X_arg8 X_arg10 X_arg23 X_arg24 X_arg25 k TT hT25 x1 x2 |>.trans ?_)
  · simp only [trip_k0_t1.sl.v3052]; pointwise
  · refine congr (congr (congrArg _ (Fin.ext ?_)) (Fin.ext ?_)) (Fin.ext ?_)
    · obtain rfl := Subsingleton.elim x0 0
      exact emb_coord _ (k0_off141_eq k) _ 0 _ rfl
    · exact emb_coord _ (k0_off141_eq k) _ 1 _ rfl
    · exact emb_coord _ (k0_off141_eq k) _ 2 _ rfl

theorem h_27_1 (r : Fin 32) (l : Fin 128) : trip_k0_t1.sl.v3071 arg8 arg10 arg23 arg24 arg25 X_arg8 X_arg10 X_arg23 X_arg24 X_arg25 k (ix2 r l) = HH arg8 arg10 arg23 arg24 X_arg8 X_arg10 X_arg23 X_arg24 TT 1 (trow k r) (col 27 l) := by
  simp only [trip_k0_t1.sl.v3071, trip_k0_t1.sl.v3070, trip_k0_t1.sl.v3069, trip_k0_t1.sl.v3068, trip_k0_t1.sl.v3067, trip_k0_t1.sl.v1394, trip_k0_t1.sl.v3063, trip_k0_t1.sl.v3062, trip_k0_t1.sl.v3066, trip_k0_t1.sl.v3065, trip_k0_t1.sl.v3064, trip_k0_t1.sl.v3059, trip_k0_t1.sl.v3058]
  pointwise [View.readAt_apply, k0_off142_eq, k0_off3_eq]
  refine Eq.trans ?_ (hT_col _ _ _ _ _ _ _ _ _).symm
  exact congrArg₂ HAdd.hAdd rfl (e_27 arg23 arg25 X_arg23 X_arg25 k TT hT25 r l)

theorem p_27_1 (x : S1x32x128.Idx) : trip_k0_t1.sl.v3075 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off143 k) S1x32x128.size (k0_off143_inb k)).emb x) := by
  idx_vars x
  refine Eq.trans ?_ (h_27_1 arg8 arg10 arg23 arg24 arg25 X_arg8 X_arg10 X_arg23 X_arg24 X_arg25 k TT hT25 x1 x2 |>.trans ?_)
  · simp only [trip_k0_t1.sl.v3075]; pointwise
  · refine congr (congr (congrArg _ (Fin.ext ?_)) (Fin.ext ?_)) (Fin.ext ?_)
    · obtain rfl := Subsingleton.elim x0 0
      exact emb_coord _ (k0_off143_eq k) _ 0 _ rfl
    · exact emb_coord _ (k0_off143_eq k) _ 1 _ rfl
    · exact emb_coord _ (k0_off143_eq k) _ 2 _ rfl

theorem e_28 (r : Fin 32) (l : Fin 128) : trip_k0_t1.sl.v3092 arg23 arg25 X_arg23 X_arg25 k (ix2 r l) = eT (View.read (Elt Ideal) arg23.view X_arg23) TT (trow k r) (col 28 l) := by
  simp only [trip_k0_t1.sl.v3092, trip_k0_t1.sl.v3091, trip_k0_t1.sl.v3090, trip_k0_t1.sl.v3089, trip_k0_t1.sl.v3088, trip_k0_t1.sl.v3086, trip_k0_t1.sl.v3085, trip_k0_t1.sl.v3084, trip_k0_t1.sl.v3083, trip_k0_t1.sl.v3081]
  pointwise [View.readAt_apply, k0_off144_eq, hT25]
  rfl

theorem h_28_0 (r : Fin 32) (l : Fin 128) : trip_k0_t1.sl.v3108 arg8 arg10 arg23 arg24 arg25 X_arg8 X_arg10 X_arg23 X_arg24 X_arg25 k (ix2 r l) = HH arg8 arg10 arg23 arg24 X_arg8 X_arg10 X_arg23 X_arg24 TT 0 (trow k r) (col 28 l) := by
  simp only [trip_k0_t1.sl.v3108, trip_k0_t1.sl.v3107, trip_k0_t1.sl.v3106, trip_k0_t1.sl.v3105, trip_k0_t1.sl.v3104, trip_k0_t1.sl.v1391, trip_k0_t1.sl.v3100, trip_k0_t1.sl.v3099, trip_k0_t1.sl.v3103, trip_k0_t1.sl.v3102, trip_k0_t1.sl.v3101, trip_k0_t1.sl.v3096, trip_k0_t1.sl.v3095]
  pointwise [View.readAt_apply, k0_off145_eq, k0_off2_eq]
  refine Eq.trans ?_ (hT_col _ _ _ _ _ _ _ _ _).symm
  exact congrArg₂ HAdd.hAdd rfl (e_28 arg23 arg25 X_arg23 X_arg25 k TT hT25 r l)

theorem p_28_0 (x : S1x32x128.Idx) : trip_k0_t1.sl.v3112 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off146 k) S1x32x128.size (k0_off146_inb k)).emb x) := by
  idx_vars x
  refine Eq.trans ?_ (h_28_0 arg8 arg10 arg23 arg24 arg25 X_arg8 X_arg10 X_arg23 X_arg24 X_arg25 k TT hT25 x1 x2 |>.trans ?_)
  · simp only [trip_k0_t1.sl.v3112]; pointwise
  · refine congr (congr (congrArg _ (Fin.ext ?_)) (Fin.ext ?_)) (Fin.ext ?_)
    · obtain rfl := Subsingleton.elim x0 0
      exact emb_coord _ (k0_off146_eq k) _ 0 _ rfl
    · exact emb_coord _ (k0_off146_eq k) _ 1 _ rfl
    · exact emb_coord _ (k0_off146_eq k) _ 2 _ rfl

theorem h_28_1 (r : Fin 32) (l : Fin 128) : trip_k0_t1.sl.v3131 arg8 arg10 arg23 arg24 arg25 X_arg8 X_arg10 X_arg23 X_arg24 X_arg25 k (ix2 r l) = HH arg8 arg10 arg23 arg24 X_arg8 X_arg10 X_arg23 X_arg24 TT 1 (trow k r) (col 28 l) := by
  simp only [trip_k0_t1.sl.v3131, trip_k0_t1.sl.v3130, trip_k0_t1.sl.v3129, trip_k0_t1.sl.v3128, trip_k0_t1.sl.v3127, trip_k0_t1.sl.v1394, trip_k0_t1.sl.v3123, trip_k0_t1.sl.v3122, trip_k0_t1.sl.v3126, trip_k0_t1.sl.v3125, trip_k0_t1.sl.v3124, trip_k0_t1.sl.v3119, trip_k0_t1.sl.v3118, trip_k0_t1.sl.r_8]
  pointwise [View.readAt_apply, k0_off147_eq, k0_off3_eq]
  refine Eq.trans ?_ (hT_col _ _ _ _ _ _ _ _ _).symm
  exact congrArg₂ HAdd.hAdd rfl (e_28 arg23 arg25 X_arg23 X_arg25 k TT hT25 r l)

theorem p_28_1 (x : S1x32x128.Idx) : trip_k0_t1.sl.v3135 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off148 k) S1x32x128.size (k0_off148_inb k)).emb x) := by
  idx_vars x
  refine Eq.trans ?_ (h_28_1 arg8 arg10 arg23 arg24 arg25 X_arg8 X_arg10 X_arg23 X_arg24 X_arg25 k TT hT25 x1 x2 |>.trans ?_)
  · simp only [trip_k0_t1.sl.v3135]; pointwise
  · refine congr (congr (congrArg _ (Fin.ext ?_)) (Fin.ext ?_)) (Fin.ext ?_)
    · obtain rfl := Subsingleton.elim x0 0
      exact emb_coord _ (k0_off148_eq k) _ 0 _ rfl
    · exact emb_coord _ (k0_off148_eq k) _ 1 _ rfl
    · exact emb_coord _ (k0_off148_eq k) _ 2 _ rfl

theorem e_29 (r : Fin 32) (l : Fin 128) : trip_k0_t1.sl.v3152 arg23 arg25 X_arg23 X_arg25 k (ix2 r l) = eT (View.read (Elt Ideal) arg23.view X_arg23) TT (trow k r) (col 29 l) := by
  simp only [trip_k0_t1.sl.v3152, trip_k0_t1.sl.v3151, trip_k0_t1.sl.v3150, trip_k0_t1.sl.v3149, trip_k0_t1.sl.v3148, trip_k0_t1.sl.v3146, trip_k0_t1.sl.v3145, trip_k0_t1.sl.v3144, trip_k0_t1.sl.v3143, trip_k0_t1.sl.v3141]
  pointwise [View.readAt_apply, k0_off149_eq, hT25]
  rfl

theorem h_29_0 (r : Fin 32) (l : Fin 128) : trip_k0_t1.sl.v3168 arg8 arg10 arg23 arg24 arg25 X_arg8 X_arg10 X_arg23 X_arg24 X_arg25 k (ix2 r l) = HH arg8 arg10 arg23 arg24 X_arg8 X_arg10 X_arg23 X_arg24 TT 0 (trow k r) (col 29 l) := by
  simp only [trip_k0_t1.sl.v3168, trip_k0_t1.sl.v3167, trip_k0_t1.sl.v3166, trip_k0_t1.sl.v3165, trip_k0_t1.sl.v3164, trip_k0_t1.sl.v1391, trip_k0_t1.sl.v3160, trip_k0_t1.sl.v3159, trip_k0_t1.sl.r_9, trip_k0_t1.sl.v3163, trip_k0_t1.sl.v3162, trip_k0_t1.sl.v3161, trip_k0_t1.sl.v3156, trip_k0_t1.sl.v3155]
  pointwise [View.readAt_apply, k0_off150_eq, k0_off2_eq]
  refine Eq.trans ?_ (hT_col _ _ _ _ _ _ _ _ _).symm
  exact congrArg₂ HAdd.hAdd rfl (e_29 arg23 arg25 X_arg23 X_arg25 k TT hT25 r l)

theorem p_29_0 (x : S1x32x128.Idx) : trip_k0_t1.sl.v3172 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off151 k) S1x32x128.size (k0_off151_inb k)).emb x) := by
  idx_vars x
  refine Eq.trans ?_ (h_29_0 arg8 arg10 arg23 arg24 arg25 X_arg8 X_arg10 X_arg23 X_arg24 X_arg25 k TT hT25 x1 x2 |>.trans ?_)
  · simp only [trip_k0_t1.sl.v3172]; pointwise
  · refine congr (congr (congrArg _ (Fin.ext ?_)) (Fin.ext ?_)) (Fin.ext ?_)
    · obtain rfl := Subsingleton.elim x0 0
      exact emb_coord _ (k0_off151_eq k) _ 0 _ rfl
    · exact emb_coord _ (k0_off151_eq k) _ 1 _ rfl
    · exact emb_coord _ (k0_off151_eq k) _ 2 _ rfl

theorem h_29_1 (r : Fin 32) (l : Fin 128) : trip_k0_t1.sl.v3191 arg8 arg10 arg23 arg24 arg25 X_arg8 X_arg10 X_arg23 X_arg24 X_arg25 k (ix2 r l) = HH arg8 arg10 arg23 arg24 X_arg8 X_arg10 X_arg23 X_arg24 TT 1 (trow k r) (col 29 l) := by
  simp only [trip_k0_t1.sl.v3191, trip_k0_t1.sl.v3190, trip_k0_t1.sl.v3189, trip_k0_t1.sl.v3188, trip_k0_t1.sl.v3187, trip_k0_t1.sl.v1394, trip_k0_t1.sl.v3183, trip_k0_t1.sl.v3182, trip_k0_t1.sl.v3186, trip_k0_t1.sl.v3185, trip_k0_t1.sl.v3184, trip_k0_t1.sl.v3179, trip_k0_t1.sl.v3178]
  pointwise [View.readAt_apply, k0_off152_eq, k0_off3_eq]
  refine Eq.trans ?_ (hT_col _ _ _ _ _ _ _ _ _).symm
  exact congrArg₂ HAdd.hAdd rfl (e_29 arg23 arg25 X_arg23 X_arg25 k TT hT25 r l)

theorem p_29_1 (x : S1x32x128.Idx) : trip_k0_t1.sl.v3195 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off153 k) S1x32x128.size (k0_off153_inb k)).emb x) := by
  idx_vars x
  refine Eq.trans ?_ (h_29_1 arg8 arg10 arg23 arg24 arg25 X_arg8 X_arg10 X_arg23 X_arg24 X_arg25 k TT hT25 x1 x2 |>.trans ?_)
  · simp only [trip_k0_t1.sl.v3195]; pointwise
  · refine congr (congr (congrArg _ (Fin.ext ?_)) (Fin.ext ?_)) (Fin.ext ?_)
    · obtain rfl := Subsingleton.elim x0 0
      exact emb_coord _ (k0_off153_eq k) _ 0 _ rfl
    · exact emb_coord _ (k0_off153_eq k) _ 1 _ rfl
    · exact emb_coord _ (k0_off153_eq k) _ 2 _ rfl

end Cert.KernelIdeal.Hand
-- ==== Proof.ValTrip3.lean ====
/- One trip of the row loop, column groups 30 to 39: what it computes and stores. -/
module

public import proofs.«01_k».proof.Proof.ValDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (arg8 : Memref sig .tc .vmem S1x2x128x5120 .i8) (arg10 : Memref sig .tc .vmem S1x2x128x5120 .i8) (arg23 : Memref sig .tc .vmem S128x5120 .f32) (arg24 : Memref sig .tc .vmem S2x128x128 .f32) (arg25 : Memref sig .tc .vmem S3x8x5120 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty) (k : Fin k0_t1_loop.trips)
  (TT : Fin 3 → Fin 5120 → EReal) (hT25 : ∀ (a : Fin 3) (s : Fin 8) (d : Fin 5120), View.read (Elt Ideal) arg25.view X_arg25 (ix3 a s d) = TT a d)
include hT25

theorem e_30 (r : Fin 32) (l : Fin 128) : trip_k0_t1.sl.v3212 arg23 arg25 X_arg23 X_arg25 k (ix2 r l) = eT (View.read (Elt Ideal) arg23.view X_arg23) TT (trow k r) (col 30 l) := by
  simp only [trip_k0_t1.sl.v3212, trip_k0_t1.sl.v3211, trip_k0_t1.sl.v3210, trip_k0_t1.sl.v3209, trip_k0_t1.sl.v3208, trip_k0_t1.sl.v3206, trip_k0_t1.sl.v3205, trip_k0_t1.sl.v3204, trip_k0_t1.sl.v3203, trip_k0_t1.sl.r_10, trip_k0_t1.sl.v3201]
  pointwise [View.readAt_apply, k0_off154_eq, hT25]
  rfl

theorem h_30_0 (r : Fin 32) (l : Fin 128) : trip_k0_t1.sl.v3228 arg8 arg10 arg23 arg24 arg25 X_arg8 X_arg10 X_arg23 X_arg24 X_arg25 k (ix2 r l) = HH arg8 arg10 arg23 arg24 X_arg8 X_arg10 X_arg23 X_arg24 TT 0 (trow k r) (col 30 l) := by
  simp only [trip_k0_t1.sl.v3228, trip_k0_t1.sl.v3227, trip_k0_t1.sl.v3226, trip_k0_t1.sl.v3225, trip_k0_t1.sl.v3224, trip_k0_t1.sl.v1391, trip_k0_t1.sl.v3220, trip_k0_t1.sl.v3219, trip_k0_t1.sl.v3223, trip_k0_t1.sl.v3222, trip_k0_t1.sl.v3221, trip_k0_t1.sl.v3216, trip_k0_t1.sl.v3215]
  pointwise [View.readAt_apply, k0_off155_eq, k0_off2_eq]
  refine Eq.trans ?_ (hT_col _ _ _ _ _ _ _ _ _).symm
  exact congrArg₂ HAdd.hAdd rfl (e_30 arg23 arg25 X_arg23 X_arg25 k TT hT25 r l)

theorem p_30_0 (x : S1x32x128.Idx) : trip_k0_t1.sl.v3232 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off156 k) S1x32x128.size (k0_off156_inb k)).emb x) := by
  idx_vars x
  refine Eq.trans ?_ (h_30_0 arg8 arg10 arg23 arg24 arg25 X_arg8 X_arg10 X_arg23 X_arg24 X_arg25 k TT hT25 x1 x2 |>.trans ?_)
  · simp only [trip_k0_t1.sl.v3232]; pointwise
  · refine congr (congr (congrArg _ (Fin.ext ?_)) (Fin.ext ?_)) (Fin.ext ?_)
    · obtain rfl := Subsingleton.elim x0 0
      exact emb_coord _ (k0_off156_eq k) _ 0 _ rfl
    · exact emb_coord _ (k0_off156_eq k) _ 1 _ rfl
    · exact emb_coord _ (k0_off156_eq k) _ 2 _ rfl

theorem h_30_1 (r : Fin 32) (l : Fin 128) : trip_k0_t1.sl.v3251 arg8 arg10 arg23 arg24 arg25 X_arg8 X_arg10 X_arg23 X_arg24 X_arg25 k (ix2 r l) = HH arg8 arg10 arg23 arg24 X_arg8 X_arg10 X_arg23 X_arg24 TT 1 (trow k r) (col 30 l) := by
  simp only [trip_k0_t1.sl.v3251, trip_k0_t1.sl.v3250, trip_k0_t1.sl.v3249, trip_k0_t1.sl.v3248, trip_k0_t1.sl.v3247, trip_k0_t1.sl.v1394, trip_k0_t1.sl.v3243, trip_k0_t1.sl.v3242, trip_k0_t1.sl.v3246, trip_k0_t1.sl.v3245, trip_k0_t1.sl.v3244, trip_k0_t1.sl.v3239, trip_k0_t1.sl.v3238]
  pointwise [View.readAt_apply, k0_off157_eq, k0_off3_eq]
  refine Eq.trans ?_ (hT_col _ _ _ _ _ _ _ _ _).symm
  exact congrArg₂ HAdd.hAdd rfl (e_30 arg23 arg25 X_arg23 X_arg25 k TT hT25 r l)

theorem p_30_1 (x : S1x32x128.Idx) : trip_k0_t1.sl.v3255 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off158 k) S1x32x128.size (k0_off158_inb k)).emb x) := by
  idx_vars x
  refine Eq.trans ?_ (h_30_1 arg8 arg10 arg23 arg24 arg25 X_arg8 X_arg10 X_arg23 X_arg24 X_arg25 k TT hT25 x1 x2 |>.trans ?_)
  · simp only [trip_k0_t1.sl.v3255]; pointwise
  · refine congr (congr (congrArg _ (Fin.ext ?_)) (Fin.ext ?_)) (Fin.ext ?_)
    · obtain rfl := Subsingleton.elim x0 0
      exact emb_coord _ (k0_off158_eq k) _ 0 _ rfl
    · exact emb_coord _ (k0_off158_eq k) _ 1 _ rfl
    · exact emb_coord _ (k0_off158_eq k) _ 2 _ rfl

theorem e_31 (r : Fin 32) (l : Fin 128) : trip_k0_t1.sl.v3272 arg23 arg25 X_arg23 X_arg25 k (ix2 r l) = eT (View.read (Elt Ideal) arg23.view X_arg23) TT (trow k r) (col 31 l) := by
  simp only [trip_k0_t1.sl.v3272, trip_k0_t1.sl.v3271, trip_k0_t1.sl.v3270, trip_k0_t1.sl.v3269, trip_k0_t1.sl.v3268, trip_k0_t1.sl.v3266, trip_k0_t1.sl.v3265, trip_k0_t1.sl.v3264, trip_k0_t1.sl.v3263, trip_k0_t1.sl.v3261]
  pointwise [View.readAt_apply, k0_off159_eq, hT25]
  rfl

theorem h_31_0 (r : Fin 32) (l : Fin 128) : trip_k0_t1.sl.v3288 arg8 arg10 arg23 arg24 arg25 X_arg8 X_arg10 X_arg23 X_arg24 X_arg25 k (ix2 r l) = HH arg8 arg10 arg23 arg24 X_arg8 X_arg10 X_arg23 X_arg24 TT 0 (trow k r) (col 31 l) := by
  simp only [trip_k0_t1.sl.v3288, trip_k0_t1.sl.v3287, trip_k0_t1.sl.v3286, trip_k0_t1.sl.v3285, trip_k0_t1.sl.v3284, trip_k0_t1.sl.v1391, trip_k0_t1.sl.v3280, trip_k0_t1.sl.v3279, trip_k0_t1.sl.v3283, trip_k0_t1.sl.v3282, trip_k0_t1.sl.v3281, trip_k0_t1.sl.v3276, trip_k0_t1.sl.v3275]
  pointwise [View.readAt_apply, k0_off160_eq, k0_off2_eq]
  refine Eq.trans ?_ (hT_col _ _ _ _ _ _ _ _ _).symm
  exact congrArg₂ HAdd.hAdd rfl (e_31 arg23 arg25 X_arg23 X_arg25 k TT hT25 r l)

theorem p_31_0 (x : S1x32x128.Idx) : trip_k0_t1.sl.v3292 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off161 k) S1x32x128.size (k0_off161_inb k)).emb x) := by
  idx_vars x
  refine Eq.trans ?_ (h_31_0 arg8 arg10 arg23 arg24 arg25 X_arg8 X_arg10 X_arg23 X_arg24 X_arg25 k TT hT25 x1 x2 |>.trans ?_)
  · simp only [trip_k0_t1.sl.v3292]; pointwise
  · refine congr (congr (congrArg _ (Fin.ext ?_)) (Fin.ext ?_)) (Fin.ext ?_)
    · obtain rfl := Subsingleton.elim x0 0
      exact emb_coord _ (k0_off161_eq k) _ 0 _ rfl
    · exact emb_coord _ (k0_off161_eq k) _ 1 _ rfl
    · exact emb_coord _ (k0_off161_eq k) _ 2 _ rfl

theorem h_31_1 (r : Fin 32) (l : Fin 128) : trip_k0_t1.sl.v3311 arg8 arg10 arg23 arg24 arg25 X_arg8 X_arg10 X_arg23 X_arg24 X_arg25 k (ix2 r l) = HH arg8 arg10 arg23 arg24 X_arg8 X_arg10 X_arg23 X_arg24 TT 1 (trow k r) (col 31 l) := by
  simp only [trip_k0_t1.sl.v3311, trip_k0_t1.sl.v3310, trip_k0_t1.sl.v3309, trip_k0_t1.sl.v3308, trip_k0_t1.sl.v3307, trip_k0_t1.sl.v1394, trip_k0_t1.sl.v3303, trip_k0_t1.sl.v3302, trip_k0_t1.sl.v3306, trip_k0_t1.sl.v3305, trip_k0_t1.sl.v3304, trip_k0_t1.sl.v3299, trip_k0_t1.sl.v3298]
  pointwise [View.readAt_apply, k0_off162_eq, k0_off3_eq]
  refine Eq.trans ?_ (hT_col _ _ _ _ _ _ _ _ _).symm
  exact congrArg₂ HAdd.hAdd rfl (e_31 arg23 arg25 X_arg23 X_arg25 k TT hT25 r l)

theorem p_31_1 (x : S1x32x128.Idx) : trip_k0_t1.sl.v3315 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off163 k) S1x32x128.size (k0_off163_inb k)).emb x) := by
  idx_vars x
  refine Eq.trans ?_ (h_31_1 arg8 arg10 arg23 arg24 arg25 X_arg8 X_arg10 X_arg23 X_arg24 X_arg25 k TT hT25 x1 x2 |>.trans ?_)
  · simp only [trip_k0_t1.sl.v3315]; pointwise
  · refine congr (congr (congrArg _ (Fin.ext ?_)) (Fin.ext ?_)) (Fin.ext ?_)
    · obtain rfl := Subsingleton.elim x0 0
      exact emb_coord _ (k0_off163_eq k) _ 0 _ rfl
    · exact emb_coord _ (k0_off163_eq k) _ 1 _ rfl
    · exact emb_coord _ (k0_off163_eq k) _ 2 _ rfl

theorem e_32 (r : Fin 32) (l : Fin 128) : trip_k0_t1.sl.v3332 arg23 arg25 X_arg23 X_arg25 k (ix2 r l) = eT (View.read (Elt Ideal) arg23.view X_arg23) TT (trow k r) (col 32 l) := by
  simp only [trip_k0_t1.sl.v3332, trip_k0_t1.sl.v3331, trip_k0_t1.sl.v3330, trip_k0_t1.sl.v3329, trip_k0_t1.sl.v3328, trip_k0_t1.sl.v3326, trip_k0_t1.sl.v3325, trip_k0_t1.sl.v3324, trip_k0_t1.sl.v3323, trip_k0_t1.sl.v3321]
  pointwise [View.readAt_apply, k0_off164_eq, hT25]
  rfl

theorem h_32_0 (r : Fin 32) (l : Fin 128) : trip_k0_t1.sl.v3348 arg8 arg10 arg23 arg24 arg25 X_arg8 X_arg10 X_arg23 X_arg24 X_arg25 k (ix2 r l) = HH arg8 arg10 arg23 arg24 X_arg8 X_arg10 X_arg23 X_arg24 TT 0 (trow k r) (col 32 l) := by
  simp only [trip_k0_t1.sl.v3348, trip_k0_t1.sl.v3347, trip_k0_t1.sl.v3346, trip_k0_t1.sl.v3345, trip_k0_t1.sl.v3344, trip_k0_t1.sl.v1391, trip_k0_t1.sl.v3340, trip_k0_t1.sl.v3339, trip_k0_t1.sl.v3343, trip_k0_t1.sl.v3342, trip_k0_t1.sl.v3341, trip_k0_t1.sl.v3336, trip_k0_t1.sl.v3335]
  pointwise [View.readAt_apply, k0_off165_eq, k0_off2_eq]
  refine Eq.trans ?_ (hT_col _ _ _ _ _ _ _ _ _).symm
  exact congrArg₂ HAdd.hAdd rfl (e_32 arg23 arg25 X_arg23 X_arg25 k TT hT25 r l)

theorem p_32_0 (x : S1x32x128.Idx) : trip_k0_t1.sl.v3352 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off166 k) S1x32x128.size (k0_off166_inb k)).emb x) := by
  idx_vars x
  refine Eq.trans ?_ (h_32_0 arg8 arg10 arg23 arg24 arg25 X_arg8 X_arg10 X_arg23 X_arg24 X_arg25 k TT hT25 x1 x2 |>.trans ?_)
  · simp only [trip_k0_t1.sl.v3352]; pointwise
  · refine congr (congr (congrArg _ (Fin.ext ?_)) (Fin.ext ?_)) (Fin.ext ?_)
    · obtain rfl := Subsingleton.elim x0 0
      exact emb_coord _ (k0_off166_eq k) _ 0 _ rfl
    · exact emb_coord _ (k0_off166_eq k) _ 1 _ rfl
    · exact emb_coord _ (k0_off166_eq k) _ 2 _ rfl

theorem h_32_1 (r : Fin 32) (l : Fin 128) : trip_k0_t1.sl.v3371 arg8 arg10 arg23 arg24 arg25 X_arg8 X_arg10 X_arg23 X_arg24 X_arg25 k (ix2 r l) = HH arg8 arg10 arg23 arg24 X_arg8 X_arg10 X_arg23 X_arg24 TT 1 (trow k r) (col 32 l) := by
  simp only [trip_k0_t1.sl.v3371, trip_k0_t1.sl.v3370, trip_k0_t1.sl.v3369, trip_k0_t1.sl.v3368, trip_k0_t1.sl.v3367, trip_k0_t1.sl.v1394, trip_k0_t1.sl.v3363, trip_k0_t1.sl.v3362, trip_k0_t1.sl.v3366, trip_k0_t1.sl.v3365, trip_k0_t1.sl.v3364, trip_k0_t1.sl.v3359, trip_k0_t1.sl.v3358]
  pointwise [View.readAt_apply, k0_off167_eq, k0_off3_eq]
  refine Eq.trans ?_ (hT_col _ _ _ _ _ _ _ _ _).symm
  exact congrArg₂ HAdd.hAdd rfl (e_32 arg23 arg25 X_arg23 X_arg25 k TT hT25 r l)

theorem p_32_1 (x : S1x32x128.Idx) : trip_k0_t1.sl.v3375 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off168 k) S1x32x128.size (k0_off168_inb k)).emb x) := by
  idx_vars x
  refine Eq.trans ?_ (h_32_1 arg8 arg10 arg23 arg24 arg25 X_arg8 X_arg10 X_arg23 X_arg24 X_arg25 k TT hT25 x1 x2 |>.trans ?_)
  · simp only [trip_k0_t1.sl.v3375]; pointwise
  · refine congr (congr (congrArg _ (Fin.ext ?_)) (Fin.ext ?_)) (Fin.ext ?_)
    · obtain rfl := Subsingleton.elim x0 0
      exact emb_coord _ (k0_off168_eq k) _ 0 _ rfl
    · exact emb_coord _ (k0_off168_eq k) _ 1 _ rfl
    · exact emb_coord _ (k0_off168_eq k) _ 2 _ rfl

theorem e_33 (r : Fin 32) (l : Fin 128) : trip_k0_t1.sl.v3392 arg23 arg25 X_arg23 X_arg25 k (ix2 r l) = eT (View.read (Elt Ideal) arg23.view X_arg23) TT (trow k r) (col 33 l) := by
  simp only [trip_k0_t1.sl.v3392, trip_k0_t1.sl.v3391, trip_k0_t1.sl.v3390, trip_k0_t1.sl.v3389, trip_k0_t1.sl.v3388, trip_k0_t1.sl.v3386, trip_k0_t1.sl.v3385, trip_k0_t1.sl.v3384, trip_k0_t1.sl.v3383, trip_k0_t1.sl.v3381]
  pointwise [View.readAt_apply, k0_off169_eq, hT25]
  rfl

theorem h_33_0 (r : Fin 32) (l : Fin 128) : trip_k0_t1.sl.v3408 arg8 arg10 arg23 arg24 arg25 X_arg8 X_arg10 X_arg23 X_arg24 X_arg25 k (ix2 r l) = HH arg8 arg10 arg23 arg24 X_arg8 X_arg10 X_arg23 X_arg24 TT 0 (trow k r) (col 33 l) := by
  simp only [trip_k0_t1.sl.v3408, trip_k0_t1.sl.v3407, trip_k0_t1.sl.v3406, trip_k0_t1.sl.v3405, trip_k0_t1.sl.v3404, trip_k0_t1.sl.v1391, trip_k0_t1.sl.v3400, trip_k0_t1.sl.v3399, trip_k0_t1.sl.v3403, trip_k0_t1.sl.v3402, trip_k0_t1.sl.v3401, trip_k0_t1.sl.v3396, trip_k0_t1.sl.v3395]
  pointwise [View.readAt_apply, k0_off170_eq, k0_off2_eq]
  refine Eq.trans ?_ (hT_col _ _ _ _ _ _ _ _ _).symm
  exact congrArg₂ HAdd.hAdd rfl (e_33 arg23 arg25 X_arg23 X_arg25 k TT hT25 r l)

theorem p_33_0 (x : S1x32x128.Idx) : trip_k0_t1.sl.v3412 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off171 k) S1x32x128.size (k0_off171_inb k)).emb x) := by
  idx_vars x
  refine Eq.trans ?_ (h_33_0 arg8 arg10 arg23 arg24 arg25 X_arg8 X_arg10 X_arg23 X_arg24 X_arg25 k TT hT25 x1 x2 |>.trans ?_)
  · simp only [trip_k0_t1.sl.v3412]; pointwise
  · refine congr (congr (congrArg _ (Fin.ext ?_)) (Fin.ext ?_)) (Fin.ext ?_)
    · obtain rfl := Subsingleton.elim x0 0
      exact emb_coord _ (k0_off171_eq k) _ 0 _ rfl
    · exact emb_coord _ (k0_off171_eq k) _ 1 _ rfl
    · exact emb_coord _ (k0_off171_eq k) _ 2 _ rfl

theorem h_33_1 (r : Fin 32) (l : Fin 128) : trip_k0_t1.sl.v3431 arg8 arg10 arg23 arg24 arg25 X_arg8 X_arg10 X_arg23 X_arg24 X_arg25 k (ix2 r l) = HH arg8 arg10 arg23 arg24 X_arg8 X_arg10 X_arg23 X_arg24 TT 1 (trow k r) (col 33 l) := by
  simp only [trip_k0_t1.sl.v3431, trip_k0_t1.sl.v3430, trip_k0_t1.sl.v3429, trip_k0_t1.sl.v3428, trip_k0_t1.sl.v3427, trip_k0_t1.sl.v1394, trip_k0_t1.sl.v3423, trip_k0_t1.sl.v3422, trip_k0_t1.sl.v3426, trip_k0_t1.sl.v3425, trip_k0_t1.sl.v3424, trip_k0_t1.sl.v3419, trip_k0_t1.sl.v3418]
  pointwise [View.readAt_apply, k0_off172_eq, k0_off3_eq]
  refine Eq.trans ?_ (hT_col _ _ _ _ _ _ _ _ _).symm
  exact congrArg₂ HAdd.hAdd rfl (e_33 arg23 arg25 X_arg23 X_arg25 k TT hT25 r l)

theorem p_33_1 (x : S1x32x128.Idx) : trip_k0_t1.sl.v3435 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off173 k) S1x32x128.size (k0_off173_inb k)).emb x) := by
  idx_vars x
  refine Eq.trans ?_ (h_33_1 arg8 arg10 arg23 arg24 arg25 X_arg8 X_arg10 X_arg23 X_arg24 X_arg25 k TT hT25 x1 x2 |>.trans ?_)
  · simp only [trip_k0_t1.sl.v3435]; pointwise
  · refine congr (congr (congrArg _ (Fin.ext ?_)) (Fin.ext ?_)) (Fin.ext ?_)
    · obtain rfl := Subsingleton.elim x0 0
      exact emb_coord _ (k0_off173_eq k) _ 0 _ rfl
    · exact emb_coord _ (k0_off173_eq k) _ 1 _ rfl
    · exact emb_coord _ (k0_off173_eq k) _ 2 _ rfl

theorem e_34 (r : Fin 32) (l : Fin 128) : trip_k0_t1.sl.v3452 arg23 arg25 X_arg23 X_arg25 k (ix2 r l) = eT (View.read (Elt Ideal) arg23.view X_arg23) TT (trow k r) (col 34 l) := by
  simp only [trip_k0_t1.sl.v3452, trip_k0_t1.sl.v3451, trip_k0_t1.sl.v3450, trip_k0_t1.sl.v3449, trip_k0_t1.sl.v3448, trip_k0_t1.sl.v3446, trip_k0_t1.sl.v3445, trip_k0_t1.sl.v3444, trip_k0_t1.sl.v3443, trip_k0_t1.sl.v3441]
  pointwise [View.readAt_apply, k0_off174_eq, hT25]
  rfl

theorem h_34_0 (r : Fin 32) (l : Fin 128) : trip_k0_t1.sl.v3468 arg8 arg10 arg23 arg24 arg25 X_arg8 X_arg10 X_arg23 X_arg24 X_arg25 k (ix2 r l) = HH arg8 arg10 arg23 arg24 X_arg8 X_arg10 X_arg23 X_arg24 TT 0 (trow k r) (col 34 l) := by
  simp only [trip_k0_t1.sl.v3468, trip_k0_t1.sl.v3467, trip_k0_t1.sl.v3466, trip_k0_t1.sl.v3465, trip_k0_t1.sl.v3464, trip_k0_t1.sl.v1391, trip_k0_t1.sl.v3460, trip_k0_t1.sl.v3459, trip_k0_t1.sl.v3463, trip_k0_t1.sl.v3462, trip_k0_t1.sl.v3461, trip_k0_t1.sl.v3456, trip_k0_t1.sl.v3455]
  pointwise [View.readAt_apply, k0_off175_eq, k0_off2_eq]
  refine Eq.trans ?_ (hT_col _ _ _ _ _ _ _ _ _).symm
  exact congrArg₂ HAdd.hAdd rfl (e_34 arg23 arg25 X_arg23 X_arg25 k TT hT25 r l)

theorem p_34_0 (x : S1x32x128.Idx) : trip_k0_t1.sl.v3472 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off176 k) S1x32x128.size (k0_off176_inb k)).emb x) := by
  idx_vars x
  refine Eq.trans ?_ (h_34_0 arg8 arg10 arg23 arg24 arg25 X_arg8 X_arg10 X_arg23 X_arg24 X_arg25 k TT hT25 x1 x2 |>.trans ?_)
  · simp only [trip_k0_t1.sl.v3472]; pointwise
  · refine congr (congr (congrArg _ (Fin.ext ?_)) (Fin.ext ?_)) (Fin.ext ?_)
    · obtain rfl := Subsingleton.elim x0 0
      exact emb_coord _ (k0_off176_eq k) _ 0 _ rfl
    · exact emb_coord _ (k0_off176_eq k) _ 1 _ rfl
    · exact emb_coord _ (k0_off176_eq k) _ 2 _ rfl

theorem h_34_1 (r : Fin 32) (l : Fin 128) : trip_k0_t1.sl.v3491 arg8 arg10 arg23 arg24 arg25 X_arg8 X_arg10 X_arg23 X_arg24 X_arg25 k (ix2 r l) = HH arg8 arg10 arg23 arg24 X_arg8 X_arg10 X_arg23 X_arg24 TT 1 (trow k r) (col 34 l) := by
  simp only [trip_k0_t1.sl.v3491, trip_k0_t1.sl.v3490, trip_k0_t1.sl.v3489, trip_k0_t1.sl.v3488, trip_k0_t1.sl.v3487, trip_k0_t1.sl.v1394, trip_k0_t1.sl.v3483, trip_k0_t1.sl.v3482, trip_k0_t1.sl.v3486, trip_k0_t1.sl.v3485, trip_k0_t1.sl.v3484, trip_k0_t1.sl.v3479, trip_k0_t1.sl.v3478]
  pointwise [View.readAt_apply, k0_off177_eq, k0_off3_eq]
  refine Eq.trans ?_ (hT_col _ _ _ _ _ _ _ _ _).symm
  exact congrArg₂ HAdd.hAdd rfl (e_34 arg23 arg25 X_arg23 X_arg25 k TT hT25 r l)

theorem p_34_1 (x : S1x32x128.Idx) : trip_k0_t1.sl.v3495 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off178 k) S1x32x128.size (k0_off178_inb k)).emb x) := by
  idx_vars x
  refine Eq.trans ?_ (h_34_1 arg8 arg10 arg23 arg24 arg25 X_arg8 X_arg10 X_arg23 X_arg24 X_arg25 k TT hT25 x1 x2 |>.trans ?_)
  · simp only [trip_k0_t1.sl.v3495]; pointwise
  · refine congr (congr (congrArg _ (Fin.ext ?_)) (Fin.ext ?_)) (Fin.ext ?_)
    · obtain rfl := Subsingleton.elim x0 0
      exact emb_coord _ (k0_off178_eq k) _ 0 _ rfl
    · exact emb_coord _ (k0_off178_eq k) _ 1 _ rfl
    · exact emb_coord _ (k0_off178_eq k) _ 2 _ rfl

theorem e_35 (r : Fin 32) (l : Fin 128) : trip_k0_t1.sl.v3512 arg23 arg25 X_arg23 X_arg25 k (ix2 r l) = eT (View.read (Elt Ideal) arg23.view X_arg23) TT (trow k r) (col 35 l) := by
  simp only [trip_k0_t1.sl.v3512, trip_k0_t1.sl.v3511, trip_k0_t1.sl.v3510, trip_k0_t1.sl.v3509, trip_k0_t1.sl.v3508, trip_k0_t1.sl.v3506, trip_k0_t1.sl.v3505, trip_k0_t1.sl.v3504, trip_k0_t1.sl.v3503, trip_k0_t1.sl.v3501, trip_k0_t1.sl.r_11]
  pointwise [View.readAt_apply, k0_off179_eq, hT25]
  rfl

theorem h_35_0 (r : Fin 32) (l : Fin 128) : trip_k0_t1.sl.v3528 arg8 arg10 arg23 arg24 arg25 X_arg8 X_arg10 X_arg23 X_arg24 X_arg25 k (ix2 r l) = HH arg8 arg10 arg23 arg24 X_arg8 X_arg10 X_arg23 X_arg24 TT 0 (trow k r) (col 35 l) := by
  simp only [trip_k0_t1.sl.v3528, trip_k0_t1.sl.v3527, trip_k0_t1.sl.v3526, trip_k0_t1.sl.v3525, trip_k0_t1.sl.v3524, trip_k0_t1.sl.v1391, trip_k0_t1.sl.v3520, trip_k0_t1.sl.v3519, trip_k0_t1.sl.v3523, trip_k0_t1.sl.v3522, trip_k0_t1.sl.v3521, trip_k0_t1.sl.v3516, trip_k0_t1.sl.v3515]
  pointwise [View.readAt_apply, k0_off180_eq, k0_off2_eq]
  refine Eq.trans ?_ (hT_col _ _ _ _ _ _ _ _ _).symm
  exact congrArg₂ HAdd.hAdd rfl (e_35 arg23 arg25 X_arg23 X_arg25 k TT hT25 r l)

theorem p_35_0 (x : S1x32x128.Idx) : trip_k0_t1.sl.v3532 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off181 k) S1x32x128.size (k0_off181_inb k)).emb x) := by
  idx_vars x
  refine Eq.trans ?_ (h_35_0 arg8 arg10 arg23 arg24 arg25 X_arg8 X_arg10 X_arg23 X_arg24 X_arg25 k TT hT25 x1 x2 |>.trans ?_)
  · simp only [trip_k0_t1.sl.v3532]; pointwise
  · refine congr (congr (congrArg _ (Fin.ext ?_)) (Fin.ext ?_)) (Fin.ext ?_)
    · obtain rfl := Subsingleton.elim x0 0
      exact emb_coord _ (k0_off181_eq k) _ 0 _ rfl
    · exact emb_coord _ (k0_off181_eq k) _ 1 _ rfl
    · exact emb_coord _ (k0_off181_eq k) _ 2 _ rfl

theorem h_35_1 (r : Fin 32) (l : Fin 128) : trip_k0_t1.sl.v3551 arg8 arg10 arg23 arg24 arg25 X_arg8 X_arg10 X_arg23 X_arg24 X_arg25 k (ix2 r l) = HH arg8 arg10 arg23 arg24 X_arg8 X_arg10 X_arg23 X_arg24 TT 1 (trow k r) (col 35 l) := by
  simp only [trip_k0_t1.sl.v3551, trip_k0_t1.sl.v3550, trip_k0_t1.sl.v3549, trip_k0_t1.sl.v3548, trip_k0_t1.sl.v3547, trip_k0_t1.sl.v1394, trip_k0_t1.sl.v3543, trip_k0_t1.sl.v3542, trip_k0_t1.sl.v3546, trip_k0_t1.sl.v3545, trip_k0_t1.sl.v3544, trip_k0_t1.sl.v3539, trip_k0_t1.sl.v3538]
  pointwise [View.readAt_apply, k0_off182_eq, k0_off3_eq]
  refine Eq.trans ?_ (hT_col _ _ _ _ _ _ _ _ _).symm
  exact congrArg₂ HAdd.hAdd rfl (e_35 arg23 arg25 X_arg23 X_arg25 k TT hT25 r l)

theorem p_35_1 (x : S1x32x128.Idx) : trip_k0_t1.sl.v3555 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off183 k) S1x32x128.size (k0_off183_inb k)).emb x) := by
  idx_vars x
  refine Eq.trans ?_ (h_35_1 arg8 arg10 arg23 arg24 arg25 X_arg8 X_arg10 X_arg23 X_arg24 X_arg25 k TT hT25 x1 x2 |>.trans ?_)
  · simp only [trip_k0_t1.sl.v3555]; pointwise
  · refine congr (congr (congrArg _ (Fin.ext ?_)) (Fin.ext ?_)) (Fin.ext ?_)
    · obtain rfl := Subsingleton.elim x0 0
      exact emb_coord _ (k0_off183_eq k) _ 0 _ rfl
    · exact emb_coord _ (k0_off183_eq k) _ 1 _ rfl
    · exact emb_coord _ (k0_off183_eq k) _ 2 _ rfl

theorem e_36 (r : Fin 32) (l : Fin 128) : trip_k0_t1.sl.v3572 arg23 arg25 X_arg23 X_arg25 k (ix2 r l) = eT (View.read (Elt Ideal) arg23.view X_arg23) TT (trow k r) (col 36 l) := by
  simp only [trip_k0_t1.sl.v3572, trip_k0_t1.sl.v3571, trip_k0_t1.sl.v3570, trip_k0_t1.sl.v3569, trip_k0_t1.sl.v3568, trip_k0_t1.sl.v3566, trip_k0_t1.sl.v3565, trip_k0_t1.sl.v3564, trip_k0_t1.sl.v3563, trip_k0_t1.sl.v3561]
  pointwise [View.readAt_apply, k0_off184_eq, hT25]
  rfl

theorem h_36_0 (r : Fin 32) (l : Fin 128) : trip_k0_t1.sl.v3588 arg8 arg10 arg23 arg24 arg25 X_arg8 X_arg10 X_arg23 X_arg24 X_arg25 k (ix2 r l) = HH arg8 arg10 arg23 arg24 X_arg8 X_arg10 X_arg23 X_arg24 TT 0 (trow k r) (col 36 l) := by
  simp only [trip_k0_t1.sl.v3588, trip_k0_t1.sl.v3587, trip_k0_t1.sl.v3586, trip_k0_t1.sl.v3585, trip_k0_t1.sl.v3584, trip_k0_t1.sl.v1391, trip_k0_t1.sl.v3580, trip_k0_t1.sl.v3579, trip_k0_t1.sl.v3583, trip_k0_t1.sl.v3582, trip_k0_t1.sl.v3581, trip_k0_t1.sl.v3576, trip_k0_t1.sl.v3575]
  pointwise [View.readAt_apply, k0_off185_eq, k0_off2_eq]
  refine Eq.trans ?_ (hT_col _ _ _ _ _ _ _ _ _).symm
  exact congrArg₂ HAdd.hAdd rfl (e_36 arg23 arg25 X_arg23 X_arg25 k TT hT25 r l)

theorem p_36_0 (x : S1x32x128.Idx) : trip_k0_t1.sl.v3592 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off186 k) S1x32x128.size (k0_off186_inb k)).emb x) := by
  idx_vars x
  refine Eq.trans ?_ (h_36_0 arg8 arg10 arg23 arg24 arg25 X_arg8 X_arg10 X_arg23 X_arg24 X_arg25 k TT hT25 x1 x2 |>.trans ?_)
  · simp only [trip_k0_t1.sl.v3592]; pointwise
  · refine congr (congr (congrArg _ (Fin.ext ?_)) (Fin.ext ?_)) (Fin.ext ?_)
    · obtain rfl := Subsingleton.elim x0 0
      exact emb_coord _ (k0_off186_eq k) _ 0 _ rfl
    · exact emb_coord _ (k0_off186_eq k) _ 1 _ rfl
    · exact emb_coord _ (k0_off186_eq k) _ 2 _ rfl

theorem h_36_1 (r : Fin 32) (l : Fin 128) : trip_k0_t1.sl.v3611 arg8 arg10 arg23 arg24 arg25 X_arg8 X_arg10 X_arg23 X_arg24 X_arg25 k (ix2 r l) = HH arg8 arg10 arg23 arg24 X_arg8 X_arg10 X_arg23 X_arg24 TT 1 (trow k r) (col 36 l) := by
  simp only [trip_k0_t1.sl.v3611, trip_k0_t1.sl.v3610, trip_k0_t1.sl.v3609, trip_k0_t1.sl.v3608, trip_k0_t1.sl.v3607, trip_k0_t1.sl.v1394, trip_k0_t1.sl.v3603, trip_k0_t1.sl.v3602, trip_k0_t1.sl.v3606, trip_k0_t1.sl.v3605, trip_k0_t1.sl.v3604, trip_k0_t1.sl.v3599, trip_k0_t1.sl.v3598]
  pointwise [View.readAt_apply, k0_off187_eq, k0_off3_eq]
  refine Eq.trans ?_ (hT_col _ _ _ _ _ _ _ _ _).symm
  exact congrArg₂ HAdd.hAdd rfl (e_36 arg23 arg25 X_arg23 X_arg25 k TT hT25 r l)

theorem p_36_1 (x : S1x32x128.Idx) : trip_k0_t1.sl.v3615 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off188 k) S1x32x128.size (k0_off188_inb k)).emb x) := by
  idx_vars x
  refine Eq.trans ?_ (h_36_1 arg8 arg10 arg23 arg24 arg25 X_arg8 X_arg10 X_arg23 X_arg24 X_arg25 k TT hT25 x1 x2 |>.trans ?_)
  · simp only [trip_k0_t1.sl.v3615]; pointwise
  · refine congr (congr (congrArg _ (Fin.ext ?_)) (Fin.ext ?_)) (Fin.ext ?_)
    · obtain rfl := Subsingleton.elim x0 0
      exact emb_coord _ (k0_off188_eq k) _ 0 _ rfl
    · exact emb_coord _ (k0_off188_eq k) _ 1 _ rfl
    · exact emb_coord _ (k0_off188_eq k) _ 2 _ rfl

theorem e_37 (r : Fin 32) (l : Fin 128) : trip_k0_t1.sl.v3632 arg23 arg25 X_arg23 X_arg25 k (ix2 r l) = eT (View.read (Elt Ideal) arg23.view X_arg23) TT (trow k r) (col 37 l) := by
  simp only [trip_k0_t1.sl.v3632, trip_k0_t1.sl.v3631, trip_k0_t1.sl.v3630, trip_k0_t1.sl.v3629, trip_k0_t1.sl.v3628, trip_k0_t1.sl.v3626, trip_k0_t1.sl.v3625, trip_k0_t1.sl.v3624, trip_k0_t1.sl.v3623, trip_k0_t1.sl.v3621]
  pointwise [View.readAt_apply, k0_off189_eq, hT25]
  rfl

theorem h_37_0 (r : Fin 32) (l : Fin 128) : trip_k0_t1.sl.v3648 arg8 arg10 arg23 arg24 arg25 X_arg8 X_arg10 X_arg23 X_arg24 X_arg25 k (ix2 r l) = HH arg8 arg10 arg23 arg24 X_arg8 X_arg10 X_arg23 X_arg24 TT 0 (trow k r) (col 37 l) := by
  simp only [trip_k0_t1.sl.v3648, trip_k0_t1.sl.v3647, trip_k0_t1.sl.v3646, trip_k0_t1.sl.v3645, trip_k0_t1.sl.v3644, trip_k0_t1.sl.v1391, trip_k0_t1.sl.v3640, trip_k0_t1.sl.v3639, trip_k0_t1.sl.v3643, trip_k0_t1.sl.v3642, trip_k0_t1.sl.v3641, trip_k0_t1.sl.v3636, trip_k0_t1.sl.v3635]
  pointwise [View.readAt_apply, k0_off190_eq, k0_off2_eq]
  refine Eq.trans ?_ (hT_col _ _ _ _ _ _ _ _ _).symm
  exact congrArg₂ HAdd.hAdd rfl (e_37 arg23 arg25 X_arg23 X_arg25 k TT hT25 r l)

theorem p_37_0 (x : S1x32x128.Idx) : trip_k0_t1.sl.v3652 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off191 k) S1x32x128.size (k0_off191_inb k)).emb x) := by
  idx_vars x
  refine Eq.trans ?_ (h_37_0 arg8 arg10 arg23 arg24 arg25 X_arg8 X_arg10 X_arg23 X_arg24 X_arg25 k TT hT25 x1 x2 |>.trans ?_)
  · simp only [trip_k0_t1.sl.v3652]; pointwise
  · refine congr (congr (congrArg _ (Fin.ext ?_)) (Fin.ext ?_)) (Fin.ext ?_)
    · obtain rfl := Subsingleton.elim x0 0
      exact emb_coord _ (k0_off191_eq k) _ 0 _ rfl
    · exact emb_coord _ (k0_off191_eq k) _ 1 _ rfl
    · exact emb_coord _ (k0_off191_eq k) _ 2 _ rfl

theorem h_37_1 (r : Fin 32) (l : Fin 128) : trip_k0_t1.sl.v3671 arg8 arg10 arg23 arg24 arg25 X_arg8 X_arg10 X_arg23 X_arg24 X_arg25 k (ix2 r l) = HH arg8 arg10 arg23 arg24 X_arg8 X_arg10 X_arg23 X_arg24 TT 1 (trow k r) (col 37 l) := by
  simp only [trip_k0_t1.sl.v3671, trip_k0_t1.sl.v3670, trip_k0_t1.sl.v3669, trip_k0_t1.sl.v3668, trip_k0_t1.sl.v3667, trip_k0_t1.sl.v1394, trip_k0_t1.sl.v3663, trip_k0_t1.sl.v3662, trip_k0_t1.sl.v3666, trip_k0_t1.sl.v3665, trip_k0_t1.sl.v3664, trip_k0_t1.sl.v3659, trip_k0_t1.sl.v3658]
  pointwise [View.readAt_apply, k0_off192_eq, k0_off3_eq]
  refine Eq.trans ?_ (hT_col _ _ _ _ _ _ _ _ _).symm
  exact congrArg₂ HAdd.hAdd rfl (e_37 arg23 arg25 X_arg23 X_arg25 k TT hT25 r l)

theorem p_37_1 (x : S1x32x128.Idx) : trip_k0_t1.sl.v3675 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off193 k) S1x32x128.size (k0_off193_inb k)).emb x) := by
  idx_vars x
  refine Eq.trans ?_ (h_37_1 arg8 arg10 arg23 arg24 arg25 X_arg8 X_arg10 X_arg23 X_arg24 X_arg25 k TT hT25 x1 x2 |>.trans ?_)
  · simp only [trip_k0_t1.sl.v3675]; pointwise
  · refine congr (congr (congrArg _ (Fin.ext ?_)) (Fin.ext ?_)) (Fin.ext ?_)
    · obtain rfl := Subsingleton.elim x0 0
      exact emb_coord _ (k0_off193_eq k) _ 0 _ rfl
    · exact emb_coord _ (k0_off193_eq k) _ 1 _ rfl
    · exact emb_coord _ (k0_off193_eq k) _ 2 _ rfl

theorem e_38 (r : Fin 32) (l : Fin 128) : trip_k0_t1.sl.v3692 arg23 arg25 X_arg23 X_arg25 k (ix2 r l) = eT (View.read (Elt Ideal) arg23.view X_arg23) TT (trow k r) (col 38 l) := by
  simp only [trip_k0_t1.sl.v3692, trip_k0_t1.sl.v3691, trip_k0_t1.sl.v3690, trip_k0_t1.sl.v3689, trip_k0_t1.sl.v3688, trip_k0_t1.sl.v3686, trip_k0_t1.sl.v3685, trip_k0_t1.sl.v3684, trip_k0_t1.sl.v3683, trip_k0_t1.sl.v3681]
  pointwise [View.readAt_apply, k0_off194_eq, hT25]
  rfl

theorem h_38_0 (r : Fin 32) (l : Fin 128) : trip_k0_t1.sl.v3708 arg8 arg10 arg23 arg24 arg25 X_arg8 X_arg10 X_arg23 X_arg24 X_arg25 k (ix2 r l) = HH arg8 arg10 arg23 arg24 X_arg8 X_arg10 X_arg23 X_arg24 TT 0 (trow k r) (col 38 l) := by
  simp only [trip_k0_t1.sl.v3708, trip_k0_t1.sl.v3707, trip_k0_t1.sl.v3706, trip_k0_t1.sl.v3705, trip_k0_t1.sl.v3704, trip_k0_t1.sl.v1391, trip_k0_t1.sl.v3700, trip_k0_t1.sl.v3699, trip_k0_t1.sl.v3703, trip_k0_t1.sl.v3702, trip_k0_t1.sl.v3701, trip_k0_t1.sl.v3696, trip_k0_t1.sl.v3695]
  pointwise [View.readAt_apply, k0_off195_eq, k0_off2_eq]
  refine Eq.trans ?_ (hT_col _ _ _ _ _ _ _ _ _).symm
  exact congrArg₂ HAdd.hAdd rfl (e_38 arg23 arg25 X_arg23 X_arg25 k TT hT25 r l)

theorem p_38_0 (x : S1x32x128.Idx) : trip_k0_t1.sl.v3712 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off196 k) S1x32x128.size (k0_off196_inb k)).emb x) := by
  idx_vars x
  refine Eq.trans ?_ (h_38_0 arg8 arg10 arg23 arg24 arg25 X_arg8 X_arg10 X_arg23 X_arg24 X_arg25 k TT hT25 x1 x2 |>.trans ?_)
  · simp only [trip_k0_t1.sl.v3712]; pointwise
  · refine congr (congr (congrArg _ (Fin.ext ?_)) (Fin.ext ?_)) (Fin.ext ?_)
    · obtain rfl := Subsingleton.elim x0 0
      exact emb_coord _ (k0_off196_eq k) _ 0 _ rfl
    · exact emb_coord _ (k0_off196_eq k) _ 1 _ rfl
    · exact emb_coord _ (k0_off196_eq k) _ 2 _ rfl

theorem h_38_1 (r : Fin 32) (l : Fin 128) : trip_k0_t1.sl.v3731 arg8 arg10 arg23 arg24 arg25 X_arg8 X_arg10 X_arg23 X_arg24 X_arg25 k (ix2 r l) = HH arg8 arg10 arg23 arg24 X_arg8 X_arg10 X_arg23 X_arg24 TT 1 (trow k r) (col 38 l) := by
  simp only [trip_k0_t1.sl.v3731, trip_k0_t1.sl.v3730, trip_k0_t1.sl.v3729, trip_k0_t1.sl.v3728, trip_k0_t1.sl.v3727, trip_k0_t1.sl.v1394, trip_k0_t1.sl.v3723, trip_k0_t1.sl.v3722, trip_k0_t1.sl.v3726, trip_k0_t1.sl.v3725, trip_k0_t1.sl.v3724, trip_k0_t1.sl.v3719, trip_k0_t1.sl.v3718]
  pointwise [View.readAt_apply, k0_off197_eq, k0_off3_eq]
  refine Eq.trans ?_ (hT_col _ _ _ _ _ _ _ _ _).symm
  exact congrArg₂ HAdd.hAdd rfl (e_38 arg23 arg25 X_arg23 X_arg25 k TT hT25 r l)

theorem p_38_1 (x : S1x32x128.Idx) : trip_k0_t1.sl.v3735 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off198 k) S1x32x128.size (k0_off198_inb k)).emb x) := by
  idx_vars x
  refine Eq.trans ?_ (h_38_1 arg8 arg10 arg23 arg24 arg25 X_arg8 X_arg10 X_arg23 X_arg24 X_arg25 k TT hT25 x1 x2 |>.trans ?_)
  · simp only [trip_k0_t1.sl.v3735]; pointwise
  · refine congr (congr (congrArg _ (Fin.ext ?_)) (Fin.ext ?_)) (Fin.ext ?_)
    · obtain rfl := Subsingleton.elim x0 0
      exact emb_coord _ (k0_off198_eq k) _ 0 _ rfl
    · exact emb_coord _ (k0_off198_eq k) _ 1 _ rfl
    · exact emb_coord _ (k0_off198_eq k) _ 2 _ rfl

theorem e_39 (r : Fin 32) (l : Fin 128) : trip_k0_t1.sl.v3752 arg23 arg25 X_arg23 X_arg25 k (ix2 r l) = eT (View.read (Elt Ideal) arg23.view X_arg23) TT (trow k r) (col 39 l) := by
  simp only [trip_k0_t1.sl.v3752, trip_k0_t1.sl.v3751, trip_k0_t1.sl.v3750, trip_k0_t1.sl.v3749, trip_k0_t1.sl.v3748, trip_k0_t1.sl.v3746, trip_k0_t1.sl.v3745, trip_k0_t1.sl.v3744, trip_k0_t1.sl.v3743, trip_k0_t1.sl.v3741]
  pointwise [View.readAt_apply, k0_off199_eq, hT25]
  rfl

theorem h_39_0 (r : Fin 32) (l : Fin 128) : trip_k0_t1.sl.v3768 arg8 arg10 arg23 arg24 arg25 X_arg8 X_arg10 X_arg23 X_arg24 X_arg25 k (ix2 r l) = HH arg8 arg10 arg23 arg24 X_arg8 X_arg10 X_arg23 X_arg24 TT 0 (trow k r) (col 39 l) := by
  simp only [trip_k0_t1.sl.v3768, trip_k0_t1.sl.v3767, trip_k0_t1.sl.v3766, trip_k0_t1.sl.v3765, trip_k0_t1.sl.v3764, trip_k0_t1.sl.v1391, trip_k0_t1.sl.v3760, trip_k0_t1.sl.v3759, trip_k0_t1.sl.v3763, trip_k0_t1.sl.v3762, trip_k0_t1.sl.v3761, trip_k0_t1.sl.v3756, trip_k0_t1.sl.v3755]
  pointwise [View.readAt_apply, k0_off2_eq, k0_off200_eq]
  refine Eq.trans ?_ (hT_col _ _ _ _ _ _ _ _ _).symm
  exact congrArg₂ HAdd.hAdd rfl (e_39 arg23 arg25 X_arg23 X_arg25 k TT hT25 r l)

theorem p_39_0 (x : S1x32x128.Idx) : trip_k0_t1.sl.v3772 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off201 k) S1x32x128.size (k0_off201_inb k)).emb x) := by
  idx_vars x
  refine Eq.trans ?_ (h_39_0 arg8 arg10 arg23 arg24 arg25 X_arg8 X_arg10 X_arg23 X_arg24 X_arg25 k TT hT25 x1 x2 |>.trans ?_)
  · simp only [trip_k0_t1.sl.v3772]; pointwise
  · refine congr (congr (congrArg _ (Fin.ext ?_)) (Fin.ext ?_)) (Fin.ext ?_)
    · obtain rfl := Subsingleton.elim x0 0
      exact emb_coord _ (k0_off201_eq k) _ 0 _ rfl
    · exact emb_coord _ (k0_off201_eq k) _ 1 _ rfl
    · exact emb_coord _ (k0_off201_eq k) _ 2 _ rfl

theorem h_39_1 (r : Fin 32) (l : Fin 128) : trip_k0_t1.sl.v3791 arg8 arg10 arg23 arg24 arg25 X_arg8 X_arg10 X_arg23 X_arg24 X_arg25 k (ix2 r l) = HH arg8 arg10 arg23 arg24 X_arg8 X_arg10 X_arg23 X_arg24 TT 1 (trow k r) (col 39 l) := by
  simp only [trip_k0_t1.sl.v3791, trip_k0_t1.sl.v3790, trip_k0_t1.sl.v3789, trip_k0_t1.sl.v3788, trip_k0_t1.sl.v3787, trip_k0_t1.sl.v1394, trip_k0_t1.sl.v3783, trip_k0_t1.sl.v3782, trip_k0_t1.sl.v3786, trip_k0_t1.sl.v3785, trip_k0_t1.sl.v3784, trip_k0_t1.sl.v3779, trip_k0_t1.sl.v3778]
  pointwise [View.readAt_apply, k0_off202_eq, k0_off3_eq]
  refine Eq.trans ?_ (hT_col _ _ _ _ _ _ _ _ _).symm
  exact congrArg₂ HAdd.hAdd rfl (e_39 arg23 arg25 X_arg23 X_arg25 k TT hT25 r l)

theorem p_39_1 (x : S1x32x128.Idx) : trip_k0_t1.sl.v3795 arg8 arg10 arg23 arg24 arg25 X_arg8 X_arg10 X_arg23 X_arg24 X_arg25 k x = (fun y : S2x128x5120.Idx => HH arg8 arg10 arg23 arg24 X_arg8 X_arg10 X_arg23 X_arg24 TT (y 0) (y 1) (y 2)) ((Rect.unit (s := S2x128x5120) (k0_off203 k) S1x32x128.size (k0_off203_inb k)).emb x) := by
  idx_vars x
  refine Eq.trans ?_ (h_39_1 arg8 arg10 arg23 arg24 arg25 X_arg8 X_arg10 X_arg23 X_arg24 X_arg25 k TT hT25 x1 x2 |>.trans ?_)
  · simp only [trip_k0_t1.sl.v3795]; pointwise
  · refine congr (congr (congrArg _ (Fin.ext ?_)) (Fin.ext ?_)) (Fin.ext ?_)
    · obtain rfl := Subsingleton.elim x0 0
      exact emb_coord _ (k0_off203_eq k) _ 0 _ rfl
    · exact emb_coord _ (k0_off203_eq k) _ 1 _ rfl
    · exact emb_coord _ (k0_off203_eq k) _ 2 _ rfl

end Cert.KernelIdeal.Hand
-- ==== Proof.ValSums.lean ====
/- One trip of the row loop: the lane sums it stores. -/
module

public import proofs.«01_k».proof.Proof.ValTrip0
public import proofs.«01_k».proof.Proof.ValTrip1
public import proofs.«01_k».proof.Proof.ValTrip2
public import proofs.«01_k».proof.Proof.ValTrip3

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (arg8 : Memref sig .tc .vmem S1x2x128x5120 .i8) (arg10 : Memref sig .tc .vmem S1x2x128x5120 .i8) (arg23 : Memref sig .tc .vmem S128x5120 .f32) (arg24 : Memref sig .tc .vmem S2x128x128 .f32) (arg25 : Memref sig .tc .vmem S3x8x5120 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty) (k : Fin k0_t1_loop.trips)
  (TT : Fin 3 → Fin 5120 → EReal) (hT25 : ∀ (a : Fin 3) (s : Fin 8) (d : Fin 5120), View.read (Elt Ideal) arg25.view X_arg25 (ix3 a s d) = TT a d)
include hT25

omit hT25 in
theorem z_0_0 (r : Fin 32) (l : Fin 128) : trip_k0_t1.sl.v1395  (F := Ideal) (ix2 r l) = part (fun g => HH arg8 arg10 arg23 arg24 X_arg8 X_arg10 X_arg23 X_arg24 TT 0 (trow k r) (col g l)) 0 := by
  rw [part_zero]
  simp only [trip_k0_t1.sl.v1395, trip_k0_t1.sl.cst_897]
  pointwise

theorem s_0_0_0 (r : Fin 32) (l : Fin 128) : trip_k0_t1.sl.v1433 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 1 := by
  simp only [trip_k0_t1.sl.v1433]
  exact (congrArg₂ HAdd.hAdd (z_0_0 arg8 arg10 arg23 arg24 X_arg8 X_arg10 X_arg23 X_arg24 k TT r l) (h_0_0 arg8 arg10 arg23 arg24 arg25 X_arg8 X_arg10 X_arg23 X_arg24 X_arg25 k TT hT25 r l)).trans (part_succ _ 0 (by omega)).symm

theorem s_0_0_1 (r : Fin 32) (l : Fin 128) : trip_k0_t1.sl.v1493 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 2 := by
  simp only [trip_k0_t1.sl.v1493]
  exact (congrArg₂ HAdd.hAdd (s_0_0_0 arg8 arg10 arg23 arg24 arg25 X_arg8 X_arg10 X_arg23 X_arg24 X_arg25 k TT hT25 r l) (h_1_0 arg8 arg10 arg23 arg24 arg25 X_arg8 X_arg10 X_arg23 X_arg24 X_arg25 k TT hT25 r l)).trans (part_succ _ 1 (by omega)).symm

theorem s_0_0_2 (r : Fin 32) (l : Fin 128) : trip_k0_t1.sl.v1553 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 3 := by
  simp only [trip_k0_t1.sl.v1553]
  exact (congrArg₂ HAdd.hAdd (s_0_0_1 arg8 arg10 arg23 arg24 arg25 X_arg8 X_arg10 X_arg23 X_arg24 X_arg25 k TT hT25 r l) (h_2_0 arg8 arg10 arg23 arg24 arg25 X_arg8 X_arg10 X_arg23 X_arg24 X_arg25 k TT hT25 r l)).trans (part_succ _ 2 (by omega)).symm

theorem s_0_0_3 (r : Fin 32) (l : Fin 128) : trip_k0_t1.sl.v1613 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 4 := by
  simp only [trip_k0_t1.sl.v1613]
  exact (congrArg₂ HAdd.hAdd (s_0_0_2 arg8 arg10 arg23 arg24 arg25 X_arg8 X_arg10 X_arg23 X_arg24 X_arg25 k TT hT25 r l) (h_3_0 arg8 arg10 arg23 arg24 arg25 X_arg8 X_arg10 X_arg23 X_arg24 X_arg25 k TT hT25 r l)).trans (part_succ _ 3 (by omega)).symm

theorem s_0_0_4 (r : Fin 32) (l : Fin 128) : trip_k0_t1.sl.v1673 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 5 := by
  simp only [trip_k0_t1.sl.v1673]
  exact (congrArg₂ HAdd.hAdd (s_0_0_3 arg8 arg10 arg23 arg24 arg25 X_arg8 X_arg10 X_arg23 X_arg24 X_arg25 k TT hT25 r l) (h_4_0 arg8 arg10 arg23 arg24 arg25 X_arg8 X_arg10 X_arg23 X_arg24 X_arg25 k TT hT25 r l)).trans (part_succ _ 4 (by omega)).symm

theorem s_0_0_5 (r : Fin 32) (l : Fin 128) : trip_k0_t1.sl.v1733 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 6 := by
  simp only [trip_k0_t1.sl.v1733]
  exact (congrArg₂ HAdd.hAdd (s_0_0_4 arg8 arg10 arg23 arg24 arg25 X_arg8 X_arg10 X_arg23 X_arg24 X_arg25 k TT hT25 r l) (h_5_0 arg8 arg10 arg23 arg24 arg25 X_arg8 X_arg10 X_arg23 X_arg24 X_arg25 k TT hT25 r l)).trans (part_succ _ 5 (by omega)).symm

theorem s_0_0_6 (r : Fin 32) (l : Fin 128) : trip_k0_t1.sl.v1793 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 7 := by
  simp only [trip_k0_t1.sl.v1793]
  exact (congrArg₂ HAdd.hAdd (s_0_0_5 arg8 arg10 arg23 arg24 arg25 X_arg8 X_arg10 X_arg23 X_arg24 X_arg25 k TT hT25 r l) (h_6_0 arg8 arg10 arg23 arg24 arg25 X_arg8 X_arg10 X_arg23 X_arg24 X_arg25 k TT hT25 r l)).trans (part_succ _ 6 (by omega)).symm

theorem s_0_0_7 (r : Fin 32) (l : Fin 128) : trip_k0_t1.sl.v1853 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 8 := by
  simp only [trip_k0_t1.sl.v1853]
  exact (congrArg₂ HAdd.hAdd (s_0_0_6 arg8 arg10 arg23 arg24 arg25 X_arg8 X_arg10 X_arg23 X_arg24 X_arg25 k TT hT25 r l) (h_7_0 arg8 arg10 arg23 arg24 arg25 X_arg8 X_arg10 X_arg23 X_arg24 X_arg25 k TT hT25 r l)).trans (part_succ _ 7 (by omega)).symm

theorem s_0_0_8 (r : Fin 32) (l : Fin 128) : trip_k0_t1.sl.v1913 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 9 := by
  simp only [trip_k0_t1.sl.v1913]
  exact (congrArg₂ HAdd.hAdd (s_0_0_7 arg8 arg10 arg23 arg24 arg25 X_arg8 X_arg10 X_arg23 X_arg24 X_arg25 k TT hT25 r l) (h_8_0 arg8 arg10 arg23 arg24 arg25 X_arg8 X_arg10 X_arg23 X_arg24 X_arg25 k TT hT25 r l)).trans (part_succ _ 8 (by omega)).symm

theorem s_0_0_9 (r : Fin 32) (l : Fin 128) : trip_k0_t1.sl.v1973 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 10 := by
  simp only [trip_k0_t1.sl.v1973]
  exact (congrArg₂ HAdd.hAdd (s_0_0_8 arg8 arg10 arg23 arg24 arg25 X_arg8 X_arg10 X_arg23 X_arg24 X_arg25 k TT hT25 r l) (h_9_0 arg8 arg10 arg23 arg24 arg25 X_arg8 X_arg10 X_arg23 X_arg24 X_arg25 k TT hT25 r l)).trans (part_succ _ 9 (by omega)).symm

theorem s_0_0_10 (r : Fin 32) (l : Fin 128) : trip_k0_t1.sl.v2033 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 11 := by
  simp only [trip_k0_t1.sl.v2033]
  exact (congrArg₂ HAdd.hAdd (s_0_0_9 arg8 arg10 arg23 arg24 arg25 X_arg8 X_arg10 X_arg23 X_arg24 X_arg25 k TT hT25 r l) (h_10_0 arg8 arg10 arg23 arg24 arg25 X_arg8 X_arg10 X_arg23 X_arg24 X_arg25 k TT hT25 r l)).trans (part_succ _ 10 (by omega)).symm

theorem s_0_0_11 (r : Fin 32) (l : Fin 128) : trip_k0_t1.sl.v2093 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 12 := by
  simp only [trip_k0_t1.sl.v2093]
  exact (congrArg₂ HAdd.hAdd (s_0_0_10 arg8 arg10 arg23 arg24 arg25 X_arg8 X_arg10 X_arg23 X_arg24 X_arg25 k TT hT25 r l) (h_11_0 arg8 arg10 arg23 arg24 arg25 X_arg8 X_arg10 X_arg23 X_arg24 X_arg25 k TT hT25 r l)).trans (part_succ _ 11 (by omega)).symm

theorem s_0_0_12 (r : Fin 32) (l : Fin 128) : trip_k0_t1.sl.v2153 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 13 := by
  simp only [trip_k0_t1.sl.v2153]
  exact (congrArg₂ HAdd.hAdd (s_0_0_11 arg8 arg10 arg23 arg24 arg25 X_arg8 X_arg10 X_arg23 X_arg24 X_arg25 k TT hT25 r l) (h_12_0 arg8 arg10 arg23 arg24 arg25 X_arg8 X_arg10 X_arg23 X_arg24 X_arg25 k TT hT25 r l)).trans (part_succ _ 12 (by omega)).symm

theorem s_0_0_13 (r : Fin 32) (l : Fin 128) : trip_k0_t1.sl.v2213 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 14 := by
  simp only [trip_k0_t1.sl.v2213]
  exact (congrArg₂ HAdd.hAdd (s_0_0_12 arg8 arg10 arg23 arg24 arg25 X_arg8 X_arg10 X_arg23 X_arg24 X_arg25 k TT hT25 r l) (h_13_0 arg8 arg10 arg23 arg24 arg25 X_arg8 X_arg10 X_arg23 X_arg24 X_arg25 k TT hT25 r l)).trans (part_succ _ 13 (by omega)).symm

theorem s_0_0_14 (r : Fin 32) (l : Fin 128) : trip_k0_t1.sl.v2273 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 15 := by
  simp only [trip_k0_t1.sl.v2273]
  exact (congrArg₂ HAdd.hAdd (s_0_0_13 arg8 arg10 arg23 arg24 arg25 X_arg8 X_arg10 X_arg23 X_arg24 X_arg25 k TT hT25 r l) (h_14_0 arg8 arg10 arg23 arg24 arg25 X_arg8 X_arg10 X_arg23 X_arg24 X_arg25 k TT hT25 r l)).trans (part_succ _ 14 (by omega)).symm

theorem s_0_0_15 (r : Fin 32) (l : Fin 128) : trip_k0_t1.sl.v2333 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 16 := by
  simp only [trip_k0_t1.sl.v2333]
  exact (congrArg₂ HAdd.hAdd (s_0_0_14 arg8 arg10 arg23 arg24 arg25 X_arg8 X_arg10 X_arg23 X_arg24 X_arg25 k TT hT25 r l) (h_15_0 arg8 arg10 arg23 arg24 arg25 X_arg8 X_arg10 X_arg23 X_arg24 X_arg25 k TT hT25 r l)).trans (part_succ _ 15 (by omega)).symm

theorem s_0_0_16 (r : Fin 32) (l : Fin 128) : trip_k0_t1.sl.v2393 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 17 := by
  simp only [trip_k0_t1.sl.v2393]
  exact (congrArg₂ HAdd.hAdd (s_0_0_15 arg8 arg10 arg23 arg24 arg25 X_arg8 X_arg10 X_arg23 X_arg24 X_arg25 k TT hT25 r l) (h_16_0 arg8 arg10 arg23 arg24 arg25 X_arg8 X_arg10 X_arg23 X_arg24 X_arg25 k TT hT25 r l)).trans (part_succ _ 16 (by omega)).symm

theorem s_0_0_17 (r : Fin 32) (l : Fin 128) : trip_k0_t1.sl.v2453 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 18 := by
  simp only [trip_k0_t1.sl.v2453]
  exact (congrArg₂ HAdd.hAdd (s_0_0_16 arg8 arg10 arg23 arg24 arg25 X_arg8 X_arg10 X_arg23 X_arg24 X_arg25 k TT hT25 r l) (h_17_0 arg8 arg10 arg23 arg24 arg25 X_arg8 X_arg10 X_arg23 X_arg24 X_arg25 k TT hT25 r l)).trans (part_succ _ 17 (by omega)).symm

theorem s_0_0_18 (r : Fin 32) (l : Fin 128) : trip_k0_t1.sl.v2513 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 19 := by
  simp only [trip_k0_t1.sl.v2513]
  exact (congrArg₂ HAdd.hAdd (s_0_0_17 arg8 arg10 arg23 arg24 arg25 X_arg8 X_arg10 X_arg23 X_arg24 X_arg25 k TT hT25 r l) (h_18_0 arg8 arg10 arg23 arg24 arg25 X_arg8 X_arg10 X_arg23 X_arg24 X_arg25 k TT hT25 r l)).trans (part_succ _ 18 (by omega)).symm

theorem s_0_0_19 (r : Fin 32) (l : Fin 128) : trip_k0_t1.sl.v2573 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 20 := by
  simp only [trip_k0_t1.sl.v2573]
  exact (congrArg₂ HAdd.hAdd (s_0_0_18 arg8 arg10 arg23 arg24 arg25 X_arg8 X_arg10 X_arg23 X_arg24 X_arg25 k TT hT25 r l) (h_19_0 arg8 arg10 arg23 arg24 arg25 X_arg8 X_arg10 X_arg23 X_arg24 X_arg25 k TT hT25 r l)).trans (part_succ _ 19 (by omega)).symm

theorem s_0_0_20 (r : Fin 32) (l : Fin 128) : trip_k0_t1.sl.v2633 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 21 := by
  simp only [trip_k0_t1.sl.v2633]
  exact (congrArg₂ HAdd.hAdd (s_0_0_19 arg8 arg10 arg23 arg24 arg25 X_arg8 X_arg10 X_arg23 X_arg24 X_arg25 k TT hT25 r l) (h_20_0 arg8 arg10 arg23 arg24 arg25 X_arg8 X_arg10 X_arg23 X_arg24 X_arg25 k TT hT25 r l)).trans (part_succ _ 20 (by omega)).symm

theorem s_0_0_21 (r : Fin 32) (l : Fin 128) : trip_k0_t1.sl.v2693 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 22 := by
  simp only [trip_k0_t1.sl.v2693]
  exact (congrArg₂ HAdd.hAdd (s_0_0_20 arg8 arg10 arg23 arg24 arg25 X_arg8 X_arg10 X_arg23 X_arg24 X_arg25 k TT hT25 r l) (h_21_0 arg8 arg10 arg23 arg24 arg25 X_arg8 X_arg10 X_arg23 X_arg24 X_arg25 k TT hT25 r l)).trans (part_succ _ 21 (by omega)).symm

theorem s_0_0_22 (r : Fin 32) (l : Fin 128) : trip_k0_t1.sl.v2753 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 23 := by
  simp only [trip_k0_t1.sl.v2753]
  exact (congrArg₂ HAdd.hAdd (s_0_0_21 arg8 arg10 arg23 arg24 arg25 X_arg8 X_arg10 X_arg23 X_arg24 X_arg25 k TT hT25 r l) (h_22_0 arg8 arg10 arg23 arg24 arg25 X_arg8 X_arg10 X_arg23 X_arg24 X_arg25 k TT hT25 r l)).trans (part_succ _ 22 (by omega)).symm

theorem s_0_0_23 (r : Fin 32) (l : Fin 128) : trip_k0_t1.sl.v2813 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 24 := by
  simp only [trip_k0_t1.sl.v2813]
  exact (congrArg₂ HAdd.hAdd (s_0_0_22 arg8 arg10 arg23 arg24 arg25 X_arg8 X_arg10 X_arg23 X_arg24 X_arg25 k TT hT25 r l) (h_23_0 arg8 arg10 arg23 arg24 arg25 X_arg8 X_arg10 X_arg23 X_arg24 X_arg25 k TT hT25 r l)).trans (part_succ _ 23 (by omega)).symm

theorem s_0_0_24 (r : Fin 32) (l : Fin 128) : trip_k0_t1.sl.v2873 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 25 := by
  simp only [trip_k0_t1.sl.v2873]
  exact (congrArg₂ HAdd.hAdd (s_0_0_23 arg8 arg10 arg23 arg24 arg25 X_arg8 X_arg10 X_arg23 X_arg24 X_arg25 k TT hT25 r l) (h_24_0 arg8 arg10 arg23 arg24 arg25 X_arg8 X_arg10 X_arg23 X_arg24 X_arg25 k TT hT25 r l)).trans (part_succ _ 24 (by omega)).symm

theorem s_0_0_25 (r : Fin 32) (l : Fin 128) : trip_k0_t1.sl.v2933 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 26 := by
  simp only [trip_k0_t1.sl.v2933]
  exact (congrArg₂ HAdd.hAdd (s_0_0_24 arg8 arg10 arg23 arg24 arg25 X_arg8 X_arg10 X_arg23 X_arg24 X_arg25 k TT hT25 r l) (h_25_0 arg8 arg10 arg23 arg24 arg25 X_arg8 X_arg10 X_arg23 X_arg24 X_arg25 k TT hT25 r l)).trans (part_succ _ 25 (by omega)).symm

theorem s_0_0_26 (r : Fin 32) (l : Fin 128) : trip_k0_t1.sl.v2993 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 27 := by
  simp only [trip_k0_t1.sl.v2993]
  exact (congrArg₂ HAdd.hAdd (s_0_0_25 arg8 arg10 arg23 arg24 arg25 X_arg8 X_arg10 X_arg23 X_arg24 X_arg25 k TT hT25 r l) (h_26_0 arg8 arg10 arg23 arg24 arg25 X_arg8 X_arg10 X_arg23 X_arg24 X_arg25 k TT hT25 r l)).trans (part_succ _ 26 (by omega)).symm

theorem s_0_0_27 (r : Fin 32) (l : Fin 128) : trip_k0_t1.sl.v3053 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 28 := by
  simp only [trip_k0_t1.sl.v3053]
  exact (congrArg₂ HAdd.hAdd (s_0_0_26 arg8 arg10 arg23 arg24 arg25 X_arg8 X_arg10 X_arg23 X_arg24 X_arg25 k TT hT25 r l) (h_27_0 arg8 arg10 arg23 arg24 arg25 X_arg8 X_arg10 X_arg23 X_arg24 X_arg25 k TT hT25 r l)).trans (part_succ _ 27 (by omega)).symm

theorem s_0_0_28 (r : Fin 32) (l : Fin 128) : trip_k0_t1.sl.v3113 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 29 := by
  simp only [trip_k0_t1.sl.v3113]
  exact (congrArg₂ HAdd.hAdd (s_0_0_27 arg8 arg10 arg23 arg24 arg25 X_arg8 X_arg10 X_arg23 X_arg24 X_arg25 k TT hT25 r l) (h_28_0 arg8 arg10 arg23 arg24 arg25 X_arg8 X_arg10 X_arg23 X_arg24 X_arg25 k TT hT25 r l)).trans (part_succ _ 28 (by omega)).symm

theorem s_0_0_29 (r : Fin 32) (l : Fin 128) : trip_k0_t1.sl.v3173 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 30 := by
  simp only [trip_k0_t1.sl.v3173]
  exact (congrArg₂ HAdd.hAdd (s_0_0_28 arg8 arg10 arg23 arg24 arg25 X_arg8 X_arg10 X_arg23 X_arg24 X_arg25 k TT hT25 r l) (h_29_0 arg8 arg10 arg23 arg24 arg25 X_arg8 X_arg10 X_arg23 X_arg24 X_arg25 k TT hT25 r l)).trans (part_succ _ 29 (by omega)).symm

theorem s_0_0_30 (r : Fin 32) (l : Fin 128) : trip_k0_t1.sl.v3233 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 31 := by
  simp only [trip_k0_t1.sl.v3233]
  exact (congrArg₂ HAdd.hAdd (s_0_0_29 arg8 arg10 arg23 arg24 arg25 X_arg8 X_arg10 X_arg23 X_arg24 X_arg25 k TT hT25 r l) (h_30_0 arg8 arg10 arg23 arg24 arg25 X_arg8 X_arg10 X_arg23 X_arg24 X_arg25 k TT hT25 r l)).trans (part_succ _ 30 (by omega)).symm

theorem s_0_0_31 (r : Fin 32) (l : Fin 128) : trip_k0_t1.sl.v3293 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 32 := by
  simp only [trip_k0_t1.sl.v3293]
  exact (congrArg₂ HAdd.hAdd (s_0_0_30 arg8 arg10 arg23 arg24 arg25 X_arg8 X_arg10 X_arg23 X_arg24 X_arg25 k TT hT25 r l) (h_31_0 arg8 arg10 arg23 arg24 arg25 X_arg8 X_arg10 X_arg23 X_arg24 X_arg25 k TT hT25 r l)).trans (part_succ _ 31 (by omega)).symm

theorem s_0_0_32 (r : Fin 32) (l : Fin 128) : trip_k0_t1.sl.v3353 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 33 := by
  simp only [trip_k0_t1.sl.v3353]
  exact (congrArg₂ HAdd.hAdd (s_0_0_31 arg8 arg10 arg23 arg24 arg25 X_arg8 X_arg10 X_arg23 X_arg24 X_arg25 k TT hT25 r l) (h_32_0 arg8 arg10 arg23 arg24 arg25 X_arg8 X_arg10 X_arg23 X_arg24 X_arg25 k TT hT25 r l)).trans (part_succ _ 32 (by omega)).symm

theorem s_0_0_33 (r : Fin 32) (l : Fin 128) : trip_k0_t1.sl.v3413 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 34 := by
  simp only [trip_k0_t1.sl.v3413]
  exact (congrArg₂ HAdd.hAdd (s_0_0_32 arg8 arg10 arg23 arg24 arg25 X_arg8 X_arg10 X_arg23 X_arg24 X_arg25 k TT hT25 r l) (h_33_0 arg8 arg10 arg23 arg24 arg25 X_arg8 X_arg10 X_arg23 X_arg24 X_arg25 k TT hT25 r l)).trans (part_succ _ 33 (by omega)).symm

theorem s_0_0_34 (r : Fin 32) (l : Fin 128) : trip_k0_t1.sl.v3473 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 35 := by
  simp only [trip_k0_t1.sl.v3473]
  exact (congrArg₂ HAdd.hAdd (s_0_0_33 arg8 arg10 arg23 arg24 arg25 X_arg8 X_arg10 X_arg23 X_arg24 X_arg25 k TT hT25 r l) (h_34_0 arg8 arg10 arg23 arg24 arg25 X_arg8 X_arg10 X_arg23 X_arg24 X_arg25 k TT hT25 r l)).trans (part_succ _ 34 (by omega)).symm

theorem s_0_0_35 (r : Fin 32) (l : Fin 128) : trip_k0_t1.sl.v3533 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 36 := by
  simp only [trip_k0_t1.sl.v3533]
  exact (congrArg₂ HAdd.hAdd (s_0_0_34 arg8 arg10 arg23 arg24 arg25 X_arg8 X_arg10 X_arg23 X_arg24 X_arg25 k TT hT25 r l) (h_35_0 arg8 arg10 arg23 arg24 arg25 X_arg8 X_arg10 X_arg23 X_arg24 X_arg25 k TT hT25 r l)).trans (part_succ _ 35 (by omega)).symm

theorem s_0_0_36 (r : Fin 32) (l : Fin 128) : trip_k0_t1.sl.v3593 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 37 := by
  simp only [trip_k0_t1.sl.v3593]
  exact (congrArg₂ HAdd.hAdd (s_0_0_35 arg8 arg10 arg23 arg24 arg25 X_arg8 X_arg10 X_arg23 X_arg24 X_arg25 k TT hT25 r l) (h_36_0 arg8 arg10 arg23 arg24 arg25 X_arg8 X_arg10 X_arg23 X_arg24 X_arg25 k TT hT25 r l)).trans (part_succ _ 36 (by omega)).symm

theorem s_0_0_37 (r : Fin 32) (l : Fin 128) : trip_k0_t1.sl.v3653 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 38 := by
  simp only [trip_k0_t1.sl.v3653]
  exact (congrArg₂ HAdd.hAdd (s_0_0_36 arg8 arg10 arg23 arg24 arg25 X_arg8 X_arg10 X_arg23 X_arg24 X_arg25 k TT hT25 r l) (h_37_0 arg8 arg10 arg23 arg24 arg25 X_arg8 X_arg10 X_arg23 X_arg24 X_arg25 k TT hT25 r l)).trans (part_succ _ 37 (by omega)).symm

theorem s_0_0_38 (r : Fin 32) (l : Fin 128) : trip_k0_t1.sl.v3713 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 39 := by
  simp only [trip_k0_t1.sl.v3713]
  exact (congrArg₂ HAdd.hAdd (s_0_0_37 arg8 arg10 arg23 arg24 arg25 X_arg8 X_arg10 X_arg23 X_arg24 X_arg25 k TT hT25 r l) (h_38_0 arg8 arg10 arg23 arg24 arg25 X_arg8 X_arg10 X_arg23 X_arg24 X_arg25 k TT hT25 r l)).trans (part_succ _ 38 (by omega)).symm

theorem s_0_0_39 (r : Fin 32) (l : Fin 128) : trip_k0_t1.sl.v3773 arg8 arg10 arg23 arg24 arg25 X_arg8 X_arg10 X_arg23 X_arg24 X_arg25 k (ix2 r l) = part (fun g => HH arg8 arg10 arg23 arg24 X_arg8 X_arg10 X_arg23 X_arg24 TT 0 (trow k r) (col g l)) 40 := by
  simp only [trip_k0_t1.sl.v3773]
  exact (congrArg₂ HAdd.hAdd (s_0_0_38 arg8 arg10 arg23 arg24 arg25 X_arg8 X_arg10 X_arg23 X_arg24 X_arg25 k TT hT25 r l) (h_39_0 arg8 arg10 arg23 arg24 arg25 X_arg8 X_arg10 X_arg23 X_arg24 X_arg25 k TT hT25 r l)).trans (part_succ _ 39 (by omega)).symm

theorem q_0_0 (x : S1x1x32x128.Idx) : k0_pay429 (trip_k0_t1.sl.v3773 arg8 arg10 arg23 arg24 arg25 X_arg8 X_arg10 X_arg23 X_arg24 X_arg25 k) x = (fun y : S2x2x128x128.Idx => SS arg8 arg10 arg23 arg24 X_arg8 X_arg10 X_arg23 X_arg24 TT (y 0) (y 1) (y 2) (y 3)) ((Rect.unit (s := S2x2x128x128) (k0_off204 k) S1x1x32x128.size (k0_off204_inb k)).emb x) := by
  idx_vars x
  refine Eq.trans ?_ ((s_0_0_39 arg8 arg10 arg23 arg24 arg25 X_arg8 X_arg10 X_arg23 X_arg24 X_arg25 k TT hT25 x2 x3).trans ((part_all _).trans ?_))
  · pointwise [k0_pay429]
  · refine Eq.trans (b := SS arg8 arg10 arg23 arg24 X_arg8 X_arg10 X_arg23 X_arg24 TT 0 0 (trow k x2) x3) rfl ?_
    refine congr (congr (congr (congrArg _ (Fin.ext ?_)) (Fin.ext ?_)) (Fin.ext ?_)) (Fin.ext ?_)
    · obtain rfl := Subsingleton.elim x0 0
      exact emb_coord _ (k0_off204_eq k) _ 0 _ rfl
    · obtain rfl := Subsingleton.elim x1 0
      exact emb_coord _ (k0_off204_eq k) _ 1 _ rfl
    · exact emb_coord _ (k0_off204_eq k) _ 2 _ rfl
    · exact emb_coord _ (k0_off204_eq k) _ 3 _ (Nat.zero_add _).symm

omit hT25 in
theorem z_0_1 (r : Fin 32) (l : Fin 128) : trip_k0_t1.sl.v1395  (F := Ideal) (ix2 r l) = part (fun g => HH arg8 arg10 arg23 arg24 X_arg8 X_arg10 X_arg23 X_arg24 TT 1 (trow k r) (col g l)) 0 := by
  rw [part_zero]
  simp only [trip_k0_t1.sl.v1395, trip_k0_t1.sl.cst_897]
  pointwise

theorem s_0_1_0 (r : Fin 32) (l : Fin 128) : trip_k0_t1.sl.v1456 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 1 := by
  simp only [trip_k0_t1.sl.v1456]
  exact (congrArg₂ HAdd.hAdd (z_0_1 arg8 arg10 arg23 arg24 X_arg8 X_arg10 X_arg23 X_arg24 k TT r l) (h_0_1 arg8 arg10 arg23 arg24 arg25 X_arg8 X_arg10 X_arg23 X_arg24 X_arg25 k TT hT25 r l)).trans (part_succ _ 0 (by omega)).symm

theorem s_0_1_1 (r : Fin 32) (l : Fin 128) : trip_k0_t1.sl.v1516 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 2 := by
  simp only [trip_k0_t1.sl.v1516]
  exact (congrArg₂ HAdd.hAdd (s_0_1_0 arg8 arg10 arg23 arg24 arg25 X_arg8 X_arg10 X_arg23 X_arg24 X_arg25 k TT hT25 r l) (h_1_1 arg8 arg10 arg23 arg24 arg25 X_arg8 X_arg10 X_arg23 X_arg24 X_arg25 k TT hT25 r l)).trans (part_succ _ 1 (by omega)).symm

theorem s_0_1_2 (r : Fin 32) (l : Fin 128) : trip_k0_t1.sl.v1576 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 3 := by
  simp only [trip_k0_t1.sl.v1576]
  exact (congrArg₂ HAdd.hAdd (s_0_1_1 arg8 arg10 arg23 arg24 arg25 X_arg8 X_arg10 X_arg23 X_arg24 X_arg25 k TT hT25 r l) (h_2_1 arg8 arg10 arg23 arg24 arg25 X_arg8 X_arg10 X_arg23 X_arg24 X_arg25 k TT hT25 r l)).trans (part_succ _ 2 (by omega)).symm

theorem s_0_1_3 (r : Fin 32) (l : Fin 128) : trip_k0_t1.sl.v1636 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 4 := by
  simp only [trip_k0_t1.sl.v1636]
  exact (congrArg₂ HAdd.hAdd (s_0_1_2 arg8 arg10 arg23 arg24 arg25 X_arg8 X_arg10 X_arg23 X_arg24 X_arg25 k TT hT25 r l) (h_3_1 arg8 arg10 arg23 arg24 arg25 X_arg8 X_arg10 X_arg23 X_arg24 X_arg25 k TT hT25 r l)).trans (part_succ _ 3 (by omega)).symm

theorem s_0_1_4 (r : Fin 32) (l : Fin 128) : trip_k0_t1.sl.v1696 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 5 := by
  simp only [trip_k0_t1.sl.v1696]
  exact (congrArg₂ HAdd.hAdd (s_0_1_3 arg8 arg10 arg23 arg24 arg25 X_arg8 X_arg10 X_arg23 X_arg24 X_arg25 k TT hT25 r l) (h_4_1 arg8 arg10 arg23 arg24 arg25 X_arg8 X_arg10 X_arg23 X_arg24 X_arg25 k TT hT25 r l)).trans (part_succ _ 4 (by omega)).symm

theorem s_0_1_5 (r : Fin 32) (l : Fin 128) : trip_k0_t1.sl.v1756 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 6 := by
  simp only [trip_k0_t1.sl.v1756]
  exact (congrArg₂ HAdd.hAdd (s_0_1_4 arg8 arg10 arg23 arg24 arg25 X_arg8 X_arg10 X_arg23 X_arg24 X_arg25 k TT hT25 r l) (h_5_1 arg8 arg10 arg23 arg24 arg25 X_arg8 X_arg10 X_arg23 X_arg24 X_arg25 k TT hT25 r l)).trans (part_succ _ 5 (by omega)).symm

theorem s_0_1_6 (r : Fin 32) (l : Fin 128) : trip_k0_t1.sl.v1816 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 7 := by
  simp only [trip_k0_t1.sl.v1816]
  exact (congrArg₂ HAdd.hAdd (s_0_1_5 arg8 arg10 arg23 arg24 arg25 X_arg8 X_arg10 X_arg23 X_arg24 X_arg25 k TT hT25 r l) (h_6_1 arg8 arg10 arg23 arg24 arg25 X_arg8 X_arg10 X_arg23 X_arg24 X_arg25 k TT hT25 r l)).trans (part_succ _ 6 (by omega)).symm

theorem s_0_1_7 (r : Fin 32) (l : Fin 128) : trip_k0_t1.sl.v1876 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 8 := by
  simp only [trip_k0_t1.sl.v1876]
  exact (congrArg₂ HAdd.hAdd (s_0_1_6 arg8 arg10 arg23 arg24 arg25 X_arg8 X_arg10 X_arg23 X_arg24 X_arg25 k TT hT25 r l) (h_7_1 arg8 arg10 arg23 arg24 arg25 X_arg8 X_arg10 X_arg23 X_arg24 X_arg25 k TT hT25 r l)).trans (part_succ _ 7 (by omega)).symm

theorem s_0_1_8 (r : Fin 32) (l : Fin 128) : trip_k0_t1.sl.v1936 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 9 := by
  simp only [trip_k0_t1.sl.v1936]
  exact (congrArg₂ HAdd.hAdd (s_0_1_7 arg8 arg10 arg23 arg24 arg25 X_arg8 X_arg10 X_arg23 X_arg24 X_arg25 k TT hT25 r l) (h_8_1 arg8 arg10 arg23 arg24 arg25 X_arg8 X_arg10 X_arg23 X_arg24 X_arg25 k TT hT25 r l)).trans (part_succ _ 8 (by omega)).symm

theorem s_0_1_9 (r : Fin 32) (l : Fin 128) : trip_k0_t1.sl.v1996 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 10 := by
  simp only [trip_k0_t1.sl.v1996]
  exact (congrArg₂ HAdd.hAdd (s_0_1_8 arg8 arg10 arg23 arg24 arg25 X_arg8 X_arg10 X_arg23 X_arg24 X_arg25 k TT hT25 r l) (h_9_1 arg8 arg10 arg23 arg24 arg25 X_arg8 X_arg10 X_arg23 X_arg24 X_arg25 k TT hT25 r l)).trans (part_succ _ 9 (by omega)).symm

theorem s_0_1_10 (r : Fin 32) (l : Fin 128) : trip_k0_t1.sl.v2056 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 11 := by
  simp only [trip_k0_t1.sl.v2056]
  exact (congrArg₂ HAdd.hAdd (s_0_1_9 arg8 arg10 arg23 arg24 arg25 X_arg8 X_arg10 X_arg23 X_arg24 X_arg25 k TT hT25 r l) (h_10_1 arg8 arg10 arg23 arg24 arg25 X_arg8 X_arg10 X_arg23 X_arg24 X_arg25 k TT hT25 r l)).trans (part_succ _ 10 (by omega)).symm

theorem s_0_1_11 (r : Fin 32) (l : Fin 128) : trip_k0_t1.sl.v2116 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 12 := by
  simp only [trip_k0_t1.sl.v2116]
  exact (congrArg₂ HAdd.hAdd (s_0_1_10 arg8 arg10 arg23 arg24 arg25 X_arg8 X_arg10 X_arg23 X_arg24 X_arg25 k TT hT25 r l) (h_11_1 arg8 arg10 arg23 arg24 arg25 X_arg8 X_arg10 X_arg23 X_arg24 X_arg25 k TT hT25 r l)).trans (part_succ _ 11 (by omega)).symm

theorem s_0_1_12 (r : Fin 32) (l : Fin 128) : trip_k0_t1.sl.v2176 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 13 := by
  simp only [trip_k0_t1.sl.v2176]
  exact (congrArg₂ HAdd.hAdd (s_0_1_11 arg8 arg10 arg23 arg24 arg25 X_arg8 X_arg10 X_arg23 X_arg24 X_arg25 k TT hT25 r l) (h_12_1 arg8 arg10 arg23 arg24 arg25 X_arg8 X_arg10 X_arg23 X_arg24 X_arg25 k TT hT25 r l)).trans (part_succ _ 12 (by omega)).symm

theorem s_0_1_13 (r : Fin 32) (l : Fin 128) : trip_k0_t1.sl.v2236 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 14 := by
  simp only [trip_k0_t1.sl.v2236]
  exact (congrArg₂ HAdd.hAdd (s_0_1_12 arg8 arg10 arg23 arg24 arg25 X_arg8 X_arg10 X_arg23 X_arg24 X_arg25 k TT hT25 r l) (h_13_1 arg8 arg10 arg23 arg24 arg25 X_arg8 X_arg10 X_arg23 X_arg24 X_arg25 k TT hT25 r l)).trans (part_succ _ 13 (by omega)).symm

theorem s_0_1_14 (r : Fin 32) (l : Fin 128) : trip_k0_t1.sl.v2296 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 15 := by
  simp only [trip_k0_t1.sl.v2296]
  exact (congrArg₂ HAdd.hAdd (s_0_1_13 arg8 arg10 arg23 arg24 arg25 X_arg8 X_arg10 X_arg23 X_arg24 X_arg25 k TT hT25 r l) (h_14_1 arg8 arg10 arg23 arg24 arg25 X_arg8 X_arg10 X_arg23 X_arg24 X_arg25 k TT hT25 r l)).trans (part_succ _ 14 (by omega)).symm

theorem s_0_1_15 (r : Fin 32) (l : Fin 128) : trip_k0_t1.sl.v2356 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 16 := by
  simp only [trip_k0_t1.sl.v2356]
  exact (congrArg₂ HAdd.hAdd (s_0_1_14 arg8 arg10 arg23 arg24 arg25 X_arg8 X_arg10 X_arg23 X_arg24 X_arg25 k TT hT25 r l) (h_15_1 arg8 arg10 arg23 arg24 arg25 X_arg8 X_arg10 X_arg23 X_arg24 X_arg25 k TT hT25 r l)).trans (part_succ _ 15 (by omega)).symm

theorem s_0_1_16 (r : Fin 32) (l : Fin 128) : trip_k0_t1.sl.v2416 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 17 := by
  simp only [trip_k0_t1.sl.v2416]
  exact (congrArg₂ HAdd.hAdd (s_0_1_15 arg8 arg10 arg23 arg24 arg25 X_arg8 X_arg10 X_arg23 X_arg24 X_arg25 k TT hT25 r l) (h_16_1 arg8 arg10 arg23 arg24 arg25 X_arg8 X_arg10 X_arg23 X_arg24 X_arg25 k TT hT25 r l)).trans (part_succ _ 16 (by omega)).symm

theorem s_0_1_17 (r : Fin 32) (l : Fin 128) : trip_k0_t1.sl.v2476 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 18 := by
  simp only [trip_k0_t1.sl.v2476]
  exact (congrArg₂ HAdd.hAdd (s_0_1_16 arg8 arg10 arg23 arg24 arg25 X_arg8 X_arg10 X_arg23 X_arg24 X_arg25 k TT hT25 r l) (h_17_1 arg8 arg10 arg23 arg24 arg25 X_arg8 X_arg10 X_arg23 X_arg24 X_arg25 k TT hT25 r l)).trans (part_succ _ 17 (by omega)).symm

theorem s_0_1_18 (r : Fin 32) (l : Fin 128) : trip_k0_t1.sl.v2536 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 19 := by
  simp only [trip_k0_t1.sl.v2536]
  exact (congrArg₂ HAdd.hAdd (s_0_1_17 arg8 arg10 arg23 arg24 arg25 X_arg8 X_arg10 X_arg23 X_arg24 X_arg25 k TT hT25 r l) (h_18_1 arg8 arg10 arg23 arg24 arg25 X_arg8 X_arg10 X_arg23 X_arg24 X_arg25 k TT hT25 r l)).trans (part_succ _ 18 (by omega)).symm

theorem s_0_1_19 (r : Fin 32) (l : Fin 128) : trip_k0_t1.sl.v2596 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 20 := by
  simp only [trip_k0_t1.sl.v2596]
  exact (congrArg₂ HAdd.hAdd (s_0_1_18 arg8 arg10 arg23 arg24 arg25 X_arg8 X_arg10 X_arg23 X_arg24 X_arg25 k TT hT25 r l) (h_19_1 arg8 arg10 arg23 arg24 arg25 X_arg8 X_arg10 X_arg23 X_arg24 X_arg25 k TT hT25 r l)).trans (part_succ _ 19 (by omega)).symm

theorem s_0_1_20 (r : Fin 32) (l : Fin 128) : trip_k0_t1.sl.v2656 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 21 := by
  simp only [trip_k0_t1.sl.v2656]
  exact (congrArg₂ HAdd.hAdd (s_0_1_19 arg8 arg10 arg23 arg24 arg25 X_arg8 X_arg10 X_arg23 X_arg24 X_arg25 k TT hT25 r l) (h_20_1 arg8 arg10 arg23 arg24 arg25 X_arg8 X_arg10 X_arg23 X_arg24 X_arg25 k TT hT25 r l)).trans (part_succ _ 20 (by omega)).symm

theorem s_0_1_21 (r : Fin 32) (l : Fin 128) : trip_k0_t1.sl.v2716 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 22 := by
  simp only [trip_k0_t1.sl.v2716]
  exact (congrArg₂ HAdd.hAdd (s_0_1_20 arg8 arg10 arg23 arg24 arg25 X_arg8 X_arg10 X_arg23 X_arg24 X_arg25 k TT hT25 r l) (h_21_1 arg8 arg10 arg23 arg24 arg25 X_arg8 X_arg10 X_arg23 X_arg24 X_arg25 k TT hT25 r l)).trans (part_succ _ 21 (by omega)).symm

theorem s_0_1_22 (r : Fin 32) (l : Fin 128) : trip_k0_t1.sl.v2776 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 23 := by
  simp only [trip_k0_t1.sl.v2776]
  exact (congrArg₂ HAdd.hAdd (s_0_1_21 arg8 arg10 arg23 arg24 arg25 X_arg8 X_arg10 X_arg23 X_arg24 X_arg25 k TT hT25 r l) (h_22_1 arg8 arg10 arg23 arg24 arg25 X_arg8 X_arg10 X_arg23 X_arg24 X_arg25 k TT hT25 r l)).trans (part_succ _ 22 (by omega)).symm

theorem s_0_1_23 (r : Fin 32) (l : Fin 128) : trip_k0_t1.sl.v2836 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 24 := by
  simp only [trip_k0_t1.sl.v2836]
  exact (congrArg₂ HAdd.hAdd (s_0_1_22 arg8 arg10 arg23 arg24 arg25 X_arg8 X_arg10 X_arg23 X_arg24 X_arg25 k TT hT25 r l) (h_23_1 arg8 arg10 arg23 arg24 arg25 X_arg8 X_arg10 X_arg23 X_arg24 X_arg25 k TT hT25 r l)).trans (part_succ _ 23 (by omega)).symm

theorem s_0_1_24 (r : Fin 32) (l : Fin 128) : trip_k0_t1.sl.v2896 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 25 := by
  simp only [trip_k0_t1.sl.v2896]
  exact (congrArg₂ HAdd.hAdd (s_0_1_23 arg8 arg10 arg23 arg24 arg25 X_arg8 X_arg10 X_arg23 X_arg24 X_arg25 k TT hT25 r l) (h_24_1 arg8 arg10 arg23 arg24 arg25 X_arg8 X_arg10 X_arg23 X_arg24 X_arg25 k TT hT25 r l)).trans (part_succ _ 24 (by omega)).symm

theorem s_0_1_25 (r : Fin 32) (l : Fin 128) : trip_k0_t1.sl.v2956 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 26 := by
  simp only [trip_k0_t1.sl.v2956]
  exact (congrArg₂ HAdd.hAdd (s_0_1_24 arg8 arg10 arg23 arg24 arg25 X_arg8 X_arg10 X_arg23 X_arg24 X_arg25 k TT hT25 r l) (h_25_1 arg8 arg10 arg23 arg24 arg25 X_arg8 X_arg10 X_arg23 X_arg24 X_arg25 k TT hT25 r l)).trans (part_succ _ 25 (by omega)).symm

theorem s_0_1_26 (r : Fin 32) (l : Fin 128) : trip_k0_t1.sl.v3016 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 27 := by
  simp only [trip_k0_t1.sl.v3016]
  exact (congrArg₂ HAdd.hAdd (s_0_1_25 arg8 arg10 arg23 arg24 arg25 X_arg8 X_arg10 X_arg23 X_arg24 X_arg25 k TT hT25 r l) (h_26_1 arg8 arg10 arg23 arg24 arg25 X_arg8 X_arg10 X_arg23 X_arg24 X_arg25 k TT hT25 r l)).trans (part_succ _ 26 (by omega)).symm

theorem s_0_1_27 (r : Fin 32) (l : Fin 128) : trip_k0_t1.sl.v3076 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 28 := by
  simp only [trip_k0_t1.sl.v3076]
  exact (congrArg₂ HAdd.hAdd (s_0_1_26 arg8 arg10 arg23 arg24 arg25 X_arg8 X_arg10 X_arg23 X_arg24 X_arg25 k TT hT25 r l) (h_27_1 arg8 arg10 arg23 arg24 arg25 X_arg8 X_arg10 X_arg23 X_arg24 X_arg25 k TT hT25 r l)).trans (part_succ _ 27 (by omega)).symm

theorem s_0_1_28 (r : Fin 32) (l : Fin 128) : trip_k0_t1.sl.v3136 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 29 := by
  simp only [trip_k0_t1.sl.v3136]
  exact (congrArg₂ HAdd.hAdd (s_0_1_27 arg8 arg10 arg23 arg24 arg25 X_arg8 X_arg10 X_arg23 X_arg24 X_arg25 k TT hT25 r l) (h_28_1 arg8 arg10 arg23 arg24 arg25 X_arg8 X_arg10 X_arg23 X_arg24 X_arg25 k TT hT25 r l)).trans (part_succ _ 28 (by omega)).symm

theorem s_0_1_29 (r : Fin 32) (l : Fin 128) : trip_k0_t1.sl.v3196 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 30 := by
  simp only [trip_k0_t1.sl.v3196]
  exact (congrArg₂ HAdd.hAdd (s_0_1_28 arg8 arg10 arg23 arg24 arg25 X_arg8 X_arg10 X_arg23 X_arg24 X_arg25 k TT hT25 r l) (h_29_1 arg8 arg10 arg23 arg24 arg25 X_arg8 X_arg10 X_arg23 X_arg24 X_arg25 k TT hT25 r l)).trans (part_succ _ 29 (by omega)).symm

theorem s_0_1_30 (r : Fin 32) (l : Fin 128) : trip_k0_t1.sl.v3256 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 31 := by
  simp only [trip_k0_t1.sl.v3256]
  exact (congrArg₂ HAdd.hAdd (s_0_1_29 arg8 arg10 arg23 arg24 arg25 X_arg8 X_arg10 X_arg23 X_arg24 X_arg25 k TT hT25 r l) (h_30_1 arg8 arg10 arg23 arg24 arg25 X_arg8 X_arg10 X_arg23 X_arg24 X_arg25 k TT hT25 r l)).trans (part_succ _ 30 (by omega)).symm

theorem s_0_1_31 (r : Fin 32) (l : Fin 128) : trip_k0_t1.sl.v3316 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 32 := by
  simp only [trip_k0_t1.sl.v3316]
  exact (congrArg₂ HAdd.hAdd (s_0_1_30 arg8 arg10 arg23 arg24 arg25 X_arg8 X_arg10 X_arg23 X_arg24 X_arg25 k TT hT25 r l) (h_31_1 arg8 arg10 arg23 arg24 arg25 X_arg8 X_arg10 X_arg23 X_arg24 X_arg25 k TT hT25 r l)).trans (part_succ _ 31 (by omega)).symm

theorem s_0_1_32 (r : Fin 32) (l : Fin 128) : trip_k0_t1.sl.v3376 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 33 := by
  simp only [trip_k0_t1.sl.v3376]
  exact (congrArg₂ HAdd.hAdd (s_0_1_31 arg8 arg10 arg23 arg24 arg25 X_arg8 X_arg10 X_arg23 X_arg24 X_arg25 k TT hT25 r l) (h_32_1 arg8 arg10 arg23 arg24 arg25 X_arg8 X_arg10 X_arg23 X_arg24 X_arg25 k TT hT25 r l)).trans (part_succ _ 32 (by omega)).symm

theorem s_0_1_33 (r : Fin 32) (l : Fin 128) : trip_k0_t1.sl.v3436 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 34 := by
  simp only [trip_k0_t1.sl.v3436]
  exact (congrArg₂ HAdd.hAdd (s_0_1_32 arg8 arg10 arg23 arg24 arg25 X_arg8 X_arg10 X_arg23 X_arg24 X_arg25 k TT hT25 r l) (h_33_1 arg8 arg10 arg23 arg24 arg25 X_arg8 X_arg10 X_arg23 X_arg24 X_arg25 k TT hT25 r l)).trans (part_succ _ 33 (by omega)).symm

theorem s_0_1_34 (r : Fin 32) (l : Fin 128) : trip_k0_t1.sl.v3496 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 35 := by
  simp only [trip_k0_t1.sl.v3496]
  exact (congrArg₂ HAdd.hAdd (s_0_1_33 arg8 arg10 arg23 arg24 arg25 X_arg8 X_arg10 X_arg23 X_arg24 X_arg25 k TT hT25 r l) (h_34_1 arg8 arg10 arg23 arg24 arg25 X_arg8 X_arg10 X_arg23 X_arg24 X_arg25 k TT hT25 r l)).trans (part_succ _ 34 (by omega)).symm

theorem s_0_1_35 (r : Fin 32) (l : Fin 128) : trip_k0_t1.sl.v3556 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 36 := by
  simp only [trip_k0_t1.sl.v3556]
  exact (congrArg₂ HAdd.hAdd (s_0_1_34 arg8 arg10 arg23 arg24 arg25 X_arg8 X_arg10 X_arg23 X_arg24 X_arg25 k TT hT25 r l) (h_35_1 arg8 arg10 arg23 arg24 arg25 X_arg8 X_arg10 X_arg23 X_arg24 X_arg25 k TT hT25 r l)).trans (part_succ _ 35 (by omega)).symm

theorem s_0_1_36 (r : Fin 32) (l : Fin 128) : trip_k0_t1.sl.v3616 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 37 := by
  simp only [trip_k0_t1.sl.v3616]
  exact (congrArg₂ HAdd.hAdd (s_0_1_35 arg8 arg10 arg23 arg24 arg25 X_arg8 X_arg10 X_arg23 X_arg24 X_arg25 k TT hT25 r l) (h_36_1 arg8 arg10 arg23 arg24 arg25 X_arg8 X_arg10 X_arg23 X_arg24 X_arg25 k TT hT25 r l)).trans (part_succ _ 36 (by omega)).symm

theorem s_0_1_37 (r : Fin 32) (l : Fin 128) : trip_k0_t1.sl.v3676 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 38 := by
  simp only [trip_k0_t1.sl.v3676]
  exact (congrArg₂ HAdd.hAdd (s_0_1_36 arg8 arg10 arg23 arg24 arg25 X_arg8 X_arg10 X_arg23 X_arg24 X_arg25 k TT hT25 r l) (h_37_1 arg8 arg10 arg23 arg24 arg25 X_arg8 X_arg10 X_arg23 X_arg24 X_arg25 k TT hT25 r l)).trans (part_succ _ 37 (by omega)).symm

theorem s_0_1_38 (r : Fin 32) (l : Fin 128) : trip_k0_t1.sl.v3736 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 39 := by
  simp only [trip_k0_t1.sl.v3736]
  exact (congrArg₂ HAdd.hAdd (s_0_1_37 arg8 arg10 arg23 arg24 arg25 X_arg8 X_arg10 X_arg23 X_arg24 X_arg25 k TT hT25 r l) (h_38_1 arg8 arg10 arg23 arg24 arg25 X_arg8 X_arg10 X_arg23 X_arg24 X_arg25 k TT hT25 r l)).trans (part_succ _ 38 (by omega)).symm

theorem s_0_1_39 (r : Fin 32) (l : Fin 128) : trip_k0_t1.sl.v3796 arg8 arg10 arg23 arg24 arg25 X_arg8 X_arg10 X_arg23 X_arg24 X_arg25 k (ix2 r l) = part (fun g => HH arg8 arg10 arg23 arg24 X_arg8 X_arg10 X_arg23 X_arg24 TT 1 (trow k r) (col g l)) 40 := by
  simp only [trip_k0_t1.sl.v3796]
  exact (congrArg₂ HAdd.hAdd (s_0_1_38 arg8 arg10 arg23 arg24 arg25 X_arg8 X_arg10 X_arg23 X_arg24 X_arg25 k TT hT25 r l) (h_39_1 arg8 arg10 arg23 arg24 arg25 X_arg8 X_arg10 X_arg23 X_arg24 X_arg25 k TT hT25 r l)).trans (part_succ _ 39 (by omega)).symm

theorem q_0_1 (x : S1x1x32x128.Idx) : k0_pay431 (trip_k0_t1.sl.v3796 arg8 arg10 arg23 arg24 arg25 X_arg8 X_arg10 X_arg23 X_arg24 X_arg25 k) x = (fun y : S2x2x128x128.Idx => SS arg8 arg10 arg23 arg24 X_arg8 X_arg10 X_arg23 X_arg24 TT (y 0) (y 1) (y 2) (y 3)) ((Rect.unit (s := S2x2x128x128) (k0_off206 k) S1x1x32x128.size (k0_off206_inb k)).emb x) := by
  idx_vars x
  refine Eq.trans ?_ ((s_0_1_39 arg8 arg10 arg23 arg24 arg25 X_arg8 X_arg10 X_arg23 X_arg24 X_arg25 k TT hT25 x2 x3).trans ((part_all _).trans ?_))
  · pointwise [k0_pay431]
  · refine Eq.trans (b := SS arg8 arg10 arg23 arg24 X_arg8 X_arg10 X_arg23 X_arg24 TT 0 1 (trow k x2) x3) rfl ?_
    refine congr (congr (congr (congrArg _ (Fin.ext ?_)) (Fin.ext ?_)) (Fin.ext ?_)) (Fin.ext ?_)
    · obtain rfl := Subsingleton.elim x0 0
      exact emb_coord _ (k0_off206_eq k) _ 0 _ rfl
    · obtain rfl := Subsingleton.elim x1 0
      exact emb_coord _ (k0_off206_eq k) _ 1 _ rfl
    · exact emb_coord _ (k0_off206_eq k) _ 2 _ rfl
    · exact emb_coord _ (k0_off206_eq k) _ 3 _ (Nat.zero_add _).symm

omit hT25 in
theorem z_1_0 (r : Fin 32) (l : Fin 128) : trip_k0_t1.sl.v1395  (F := Ideal) (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 0 := by
  rw [part_zero]
  simp only [trip_k0_t1.sl.v1395, trip_k0_t1.sl.cst_897]
  pointwise

theorem s_1_0_0 (r : Fin 32) (l : Fin 128) : trip_k0_t1.sl.v1435 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 1 := by
  simp only [trip_k0_t1.sl.v1435, trip_k0_t1.sl.v1434]
  exact (congrArg₂ HAdd.hAdd (z_1_0 arg8 arg10 arg23 arg24 X_arg8 X_arg10 X_arg23 X_arg24 k TT r l) (congrArg₂ HMul.hMul (h_0_0 arg8 arg10 arg23 arg24 arg25 X_arg8 X_arg10 X_arg23 X_arg24 X_arg25 k TT hT25 r l) (h_0_0 arg8 arg10 arg23 arg24 arg25 X_arg8 X_arg10 X_arg23 X_arg24 X_arg25 k TT hT25 r l))).trans (part_succ _ 0 (by omega)).symm

theorem s_1_0_1 (r : Fin 32) (l : Fin 128) : trip_k0_t1.sl.v1495 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 2 := by
  simp only [trip_k0_t1.sl.v1495, trip_k0_t1.sl.v1494]
  exact (congrArg₂ HAdd.hAdd (s_1_0_0 arg8 arg10 arg23 arg24 arg25 X_arg8 X_arg10 X_arg23 X_arg24 X_arg25 k TT hT25 r l) (congrArg₂ HMul.hMul (h_1_0 arg8 arg10 arg23 arg24 arg25 X_arg8 X_arg10 X_arg23 X_arg24 X_arg25 k TT hT25 r l) (h_1_0 arg8 arg10 arg23 arg24 arg25 X_arg8 X_arg10 X_arg23 X_arg24 X_arg25 k TT hT25 r l))).trans (part_succ _ 1 (by omega)).symm

theorem s_1_0_2 (r : Fin 32) (l : Fin 128) : trip_k0_t1.sl.v1555 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 3 := by
  simp only [trip_k0_t1.sl.v1555, trip_k0_t1.sl.v1554]
  exact (congrArg₂ HAdd.hAdd (s_1_0_1 arg8 arg10 arg23 arg24 arg25 X_arg8 X_arg10 X_arg23 X_arg24 X_arg25 k TT hT25 r l) (congrArg₂ HMul.hMul (h_2_0 arg8 arg10 arg23 arg24 arg25 X_arg8 X_arg10 X_arg23 X_arg24 X_arg25 k TT hT25 r l) (h_2_0 arg8 arg10 arg23 arg24 arg25 X_arg8 X_arg10 X_arg23 X_arg24 X_arg25 k TT hT25 r l))).trans (part_succ _ 2 (by omega)).symm

theorem s_1_0_3 (r : Fin 32) (l : Fin 128) : trip_k0_t1.sl.v1615 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 4 := by
  simp only [trip_k0_t1.sl.v1615, trip_k0_t1.sl.v1614]
  exact (congrArg₂ HAdd.hAdd (s_1_0_2 arg8 arg10 arg23 arg24 arg25 X_arg8 X_arg10 X_arg23 X_arg24 X_arg25 k TT hT25 r l) (congrArg₂ HMul.hMul (h_3_0 arg8 arg10 arg23 arg24 arg25 X_arg8 X_arg10 X_arg23 X_arg24 X_arg25 k TT hT25 r l) (h_3_0 arg8 arg10 arg23 arg24 arg25 X_arg8 X_arg10 X_arg23 X_arg24 X_arg25 k TT hT25 r l))).trans (part_succ _ 3 (by omega)).symm

theorem s_1_0_4 (r : Fin 32) (l : Fin 128) : trip_k0_t1.sl.v1675 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 5 := by
  simp only [trip_k0_t1.sl.v1675, trip_k0_t1.sl.v1674]
  exact (congrArg₂ HAdd.hAdd (s_1_0_3 arg8 arg10 arg23 arg24 arg25 X_arg8 X_arg10 X_arg23 X_arg24 X_arg25 k TT hT25 r l) (congrArg₂ HMul.hMul (h_4_0 arg8 arg10 arg23 arg24 arg25 X_arg8 X_arg10 X_arg23 X_arg24 X_arg25 k TT hT25 r l) (h_4_0 arg8 arg10 arg23 arg24 arg25 X_arg8 X_arg10 X_arg23 X_arg24 X_arg25 k TT hT25 r l))).trans (part_succ _ 4 (by omega)).symm

theorem s_1_0_5 (r : Fin 32) (l : Fin 128) : trip_k0_t1.sl.v1735 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 6 := by
  simp only [trip_k0_t1.sl.v1735, trip_k0_t1.sl.v1734]
  exact (congrArg₂ HAdd.hAdd (s_1_0_4 arg8 arg10 arg23 arg24 arg25 X_arg8 X_arg10 X_arg23 X_arg24 X_arg25 k TT hT25 r l) (congrArg₂ HMul.hMul (h_5_0 arg8 arg10 arg23 arg24 arg25 X_arg8 X_arg10 X_arg23 X_arg24 X_arg25 k TT hT25 r l) (h_5_0 arg8 arg10 arg23 arg24 arg25 X_arg8 X_arg10 X_arg23 X_arg24 X_arg25 k TT hT25 r l))).trans (part_succ _ 5 (by omega)).symm

theorem s_1_0_6 (r : Fin 32) (l : Fin 128) : trip_k0_t1.sl.v1795 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 7 := by
  simp only [trip_k0_t1.sl.v1795, trip_k0_t1.sl.v1794]
  exact (congrArg₂ HAdd.hAdd (s_1_0_5 arg8 arg10 arg23 arg24 arg25 X_arg8 X_arg10 X_arg23 X_arg24 X_arg25 k TT hT25 r l) (congrArg₂ HMul.hMul (h_6_0 arg8 arg10 arg23 arg24 arg25 X_arg8 X_arg10 X_arg23 X_arg24 X_arg25 k TT hT25 r l) (h_6_0 arg8 arg10 arg23 arg24 arg25 X_arg8 X_arg10 X_arg23 X_arg24 X_arg25 k TT hT25 r l))).trans (part_succ _ 6 (by omega)).symm

theorem s_1_0_7 (r : Fin 32) (l : Fin 128) : trip_k0_t1.sl.v1855 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 8 := by
  simp only [trip_k0_t1.sl.v1855, trip_k0_t1.sl.v1854]
  exact (congrArg₂ HAdd.hAdd (s_1_0_6 arg8 arg10 arg23 arg24 arg25 X_arg8 X_arg10 X_arg23 X_arg24 X_arg25 k TT hT25 r l) (congrArg₂ HMul.hMul (h_7_0 arg8 arg10 arg23 arg24 arg25 X_arg8 X_arg10 X_arg23 X_arg24 X_arg25 k TT hT25 r l) (h_7_0 arg8 arg10 arg23 arg24 arg25 X_arg8 X_arg10 X_arg23 X_arg24 X_arg25 k TT hT25 r l))).trans (part_succ _ 7 (by omega)).symm

theorem s_1_0_8 (r : Fin 32) (l : Fin 128) : trip_k0_t1.sl.v1915 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 9 := by
  simp only [trip_k0_t1.sl.v1915, trip_k0_t1.sl.v1914]
  exact (congrArg₂ HAdd.hAdd (s_1_0_7 arg8 arg10 arg23 arg24 arg25 X_arg8 X_arg10 X_arg23 X_arg24 X_arg25 k TT hT25 r l) (congrArg₂ HMul.hMul (h_8_0 arg8 arg10 arg23 arg24 arg25 X_arg8 X_arg10 X_arg23 X_arg24 X_arg25 k TT hT25 r l) (h_8_0 arg8 arg10 arg23 arg24 arg25 X_arg8 X_arg10 X_arg23 X_arg24 X_arg25 k TT hT25 r l))).trans (part_succ _ 8 (by omega)).symm

theorem s_1_0_9 (r : Fin 32) (l : Fin 128) : trip_k0_t1.sl.v1975 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 10 := by
  simp only [trip_k0_t1.sl.v1975, trip_k0_t1.sl.v1974]
  exact (congrArg₂ HAdd.hAdd (s_1_0_8 arg8 arg10 arg23 arg24 arg25 X_arg8 X_arg10 X_arg23 X_arg24 X_arg25 k TT hT25 r l) (congrArg₂ HMul.hMul (h_9_0 arg8 arg10 arg23 arg24 arg25 X_arg8 X_arg10 X_arg23 X_arg24 X_arg25 k TT hT25 r l) (h_9_0 arg8 arg10 arg23 arg24 arg25 X_arg8 X_arg10 X_arg23 X_arg24 X_arg25 k TT hT25 r l))).trans (part_succ _ 9 (by omega)).symm

theorem s_1_0_10 (r : Fin 32) (l : Fin 128) : trip_k0_t1.sl.v2035 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 11 := by
  simp only [trip_k0_t1.sl.v2035, trip_k0_t1.sl.v2034]
  exact (congrArg₂ HAdd.hAdd (s_1_0_9 arg8 arg10 arg23 arg24 arg25 X_arg8 X_arg10 X_arg23 X_arg24 X_arg25 k TT hT25 r l) (congrArg₂ HMul.hMul (h_10_0 arg8 arg10 arg23 arg24 arg25 X_arg8 X_arg10 X_arg23 X_arg24 X_arg25 k TT hT25 r l) (h_10_0 arg8 arg10 arg23 arg24 arg25 X_arg8 X_arg10 X_arg23 X_arg24 X_arg25 k TT hT25 r l))).trans (part_succ _ 10 (by omega)).symm

theorem s_1_0_11 (r : Fin 32) (l : Fin 128) : trip_k0_t1.sl.v2095 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 12 := by
  simp only [trip_k0_t1.sl.v2095, trip_k0_t1.sl.v2094]
  exact (congrArg₂ HAdd.hAdd (s_1_0_10 arg8 arg10 arg23 arg24 arg25 X_arg8 X_arg10 X_arg23 X_arg24 X_arg25 k TT hT25 r l) (congrArg₂ HMul.hMul (h_11_0 arg8 arg10 arg23 arg24 arg25 X_arg8 X_arg10 X_arg23 X_arg24 X_arg25 k TT hT25 r l) (h_11_0 arg8 arg10 arg23 arg24 arg25 X_arg8 X_arg10 X_arg23 X_arg24 X_arg25 k TT hT25 r l))).trans (part_succ _ 11 (by omega)).symm

theorem s_1_0_12 (r : Fin 32) (l : Fin 128) : trip_k0_t1.sl.v2155 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 13 := by
  simp only [trip_k0_t1.sl.v2155, trip_k0_t1.sl.v2154]
  exact (congrArg₂ HAdd.hAdd (s_1_0_11 arg8 arg10 arg23 arg24 arg25 X_arg8 X_arg10 X_arg23 X_arg24 X_arg25 k TT hT25 r l) (congrArg₂ HMul.hMul (h_12_0 arg8 arg10 arg23 arg24 arg25 X_arg8 X_arg10 X_arg23 X_arg24 X_arg25 k TT hT25 r l) (h_12_0 arg8 arg10 arg23 arg24 arg25 X_arg8 X_arg10 X_arg23 X_arg24 X_arg25 k TT hT25 r l))).trans (part_succ _ 12 (by omega)).symm

theorem s_1_0_13 (r : Fin 32) (l : Fin 128) : trip_k0_t1.sl.v2215 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 14 := by
  simp only [trip_k0_t1.sl.v2215, trip_k0_t1.sl.v2214]
  exact (congrArg₂ HAdd.hAdd (s_1_0_12 arg8 arg10 arg23 arg24 arg25 X_arg8 X_arg10 X_arg23 X_arg24 X_arg25 k TT hT25 r l) (congrArg₂ HMul.hMul (h_13_0 arg8 arg10 arg23 arg24 arg25 X_arg8 X_arg10 X_arg23 X_arg24 X_arg25 k TT hT25 r l) (h_13_0 arg8 arg10 arg23 arg24 arg25 X_arg8 X_arg10 X_arg23 X_arg24 X_arg25 k TT hT25 r l))).trans (part_succ _ 13 (by omega)).symm

theorem s_1_0_14 (r : Fin 32) (l : Fin 128) : trip_k0_t1.sl.v2275 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 15 := by
  simp only [trip_k0_t1.sl.v2275, trip_k0_t1.sl.v2274]
  exact (congrArg₂ HAdd.hAdd (s_1_0_13 arg8 arg10 arg23 arg24 arg25 X_arg8 X_arg10 X_arg23 X_arg24 X_arg25 k TT hT25 r l) (congrArg₂ HMul.hMul (h_14_0 arg8 arg10 arg23 arg24 arg25 X_arg8 X_arg10 X_arg23 X_arg24 X_arg25 k TT hT25 r l) (h_14_0 arg8 arg10 arg23 arg24 arg25 X_arg8 X_arg10 X_arg23 X_arg24 X_arg25 k TT hT25 r l))).trans (part_succ _ 14 (by omega)).symm

theorem s_1_0_15 (r : Fin 32) (l : Fin 128) : trip_k0_t1.sl.v2335 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 16 := by
  simp only [trip_k0_t1.sl.v2335, trip_k0_t1.sl.v2334]
  exact (congrArg₂ HAdd.hAdd (s_1_0_14 arg8 arg10 arg23 arg24 arg25 X_arg8 X_arg10 X_arg23 X_arg24 X_arg25 k TT hT25 r l) (congrArg₂ HMul.hMul (h_15_0 arg8 arg10 arg23 arg24 arg25 X_arg8 X_arg10 X_arg23 X_arg24 X_arg25 k TT hT25 r l) (h_15_0 arg8 arg10 arg23 arg24 arg25 X_arg8 X_arg10 X_arg23 X_arg24 X_arg25 k TT hT25 r l))).trans (part_succ _ 15 (by omega)).symm

theorem s_1_0_16 (r : Fin 32) (l : Fin 128) : trip_k0_t1.sl.v2395 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 17 := by
  simp only [trip_k0_t1.sl.v2395, trip_k0_t1.sl.v2394]
  exact (congrArg₂ HAdd.hAdd (s_1_0_15 arg8 arg10 arg23 arg24 arg25 X_arg8 X_arg10 X_arg23 X_arg24 X_arg25 k TT hT25 r l) (congrArg₂ HMul.hMul (h_16_0 arg8 arg10 arg23 arg24 arg25 X_arg8 X_arg10 X_arg23 X_arg24 X_arg25 k TT hT25 r l) (h_16_0 arg8 arg10 arg23 arg24 arg25 X_arg8 X_arg10 X_arg23 X_arg24 X_arg25 k TT hT25 r l))).trans (part_succ _ 16 (by omega)).symm

theorem s_1_0_17 (r : Fin 32) (l : Fin 128) : trip_k0_t1.sl.v2455 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 18 := by
  simp only [trip_k0_t1.sl.v2455, trip_k0_t1.sl.v2454]
  exact (congrArg₂ HAdd.hAdd (s_1_0_16 arg8 arg10 arg23 arg24 arg25 X_arg8 X_arg10 X_arg23 X_arg24 X_arg25 k TT hT25 r l) (congrArg₂ HMul.hMul (h_17_0 arg8 arg10 arg23 arg24 arg25 X_arg8 X_arg10 X_arg23 X_arg24 X_arg25 k TT hT25 r l) (h_17_0 arg8 arg10 arg23 arg24 arg25 X_arg8 X_arg10 X_arg23 X_arg24 X_arg25 k TT hT25 r l))).trans (part_succ _ 17 (by omega)).symm

theorem s_1_0_18 (r : Fin 32) (l : Fin 128) : trip_k0_t1.sl.v2515 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 19 := by
  simp only [trip_k0_t1.sl.v2515, trip_k0_t1.sl.v2514]
  exact (congrArg₂ HAdd.hAdd (s_1_0_17 arg8 arg10 arg23 arg24 arg25 X_arg8 X_arg10 X_arg23 X_arg24 X_arg25 k TT hT25 r l) (congrArg₂ HMul.hMul (h_18_0 arg8 arg10 arg23 arg24 arg25 X_arg8 X_arg10 X_arg23 X_arg24 X_arg25 k TT hT25 r l) (h_18_0 arg8 arg10 arg23 arg24 arg25 X_arg8 X_arg10 X_arg23 X_arg24 X_arg25 k TT hT25 r l))).trans (part_succ _ 18 (by omega)).symm

theorem s_1_0_19 (r : Fin 32) (l : Fin 128) : trip_k0_t1.sl.v2575 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 20 := by
  simp only [trip_k0_t1.sl.v2575, trip_k0_t1.sl.v2574]
  exact (congrArg₂ HAdd.hAdd (s_1_0_18 arg8 arg10 arg23 arg24 arg25 X_arg8 X_arg10 X_arg23 X_arg24 X_arg25 k TT hT25 r l) (congrArg₂ HMul.hMul (h_19_0 arg8 arg10 arg23 arg24 arg25 X_arg8 X_arg10 X_arg23 X_arg24 X_arg25 k TT hT25 r l) (h_19_0 arg8 arg10 arg23 arg24 arg25 X_arg8 X_arg10 X_arg23 X_arg24 X_arg25 k TT hT25 r l))).trans (part_succ _ 19 (by omega)).symm

theorem s_1_0_20 (r : Fin 32) (l : Fin 128) : trip_k0_t1.sl.v2635 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 21 := by
  simp only [trip_k0_t1.sl.v2635, trip_k0_t1.sl.v2634]
  exact (congrArg₂ HAdd.hAdd (s_1_0_19 arg8 arg10 arg23 arg24 arg25 X_arg8 X_arg10 X_arg23 X_arg24 X_arg25 k TT hT25 r l) (congrArg₂ HMul.hMul (h_20_0 arg8 arg10 arg23 arg24 arg25 X_arg8 X_arg10 X_arg23 X_arg24 X_arg25 k TT hT25 r l) (h_20_0 arg8 arg10 arg23 arg24 arg25 X_arg8 X_arg10 X_arg23 X_arg24 X_arg25 k TT hT25 r l))).trans (part_succ _ 20 (by omega)).symm

theorem s_1_0_21 (r : Fin 32) (l : Fin 128) : trip_k0_t1.sl.v2695 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 22 := by
  simp only [trip_k0_t1.sl.v2695, trip_k0_t1.sl.v2694]
  exact (congrArg₂ HAdd.hAdd (s_1_0_20 arg8 arg10 arg23 arg24 arg25 X_arg8 X_arg10 X_arg23 X_arg24 X_arg25 k TT hT25 r l) (congrArg₂ HMul.hMul (h_21_0 arg8 arg10 arg23 arg24 arg25 X_arg8 X_arg10 X_arg23 X_arg24 X_arg25 k TT hT25 r l) (h_21_0 arg8 arg10 arg23 arg24 arg25 X_arg8 X_arg10 X_arg23 X_arg24 X_arg25 k TT hT25 r l))).trans (part_succ _ 21 (by omega)).symm

theorem s_1_0_22 (r : Fin 32) (l : Fin 128) : trip_k0_t1.sl.v2755 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 23 := by
  simp only [trip_k0_t1.sl.v2755, trip_k0_t1.sl.v2754]
  exact (congrArg₂ HAdd.hAdd (s_1_0_21 arg8 arg10 arg23 arg24 arg25 X_arg8 X_arg10 X_arg23 X_arg24 X_arg25 k TT hT25 r l) (congrArg₂ HMul.hMul (h_22_0 arg8 arg10 arg23 arg24 arg25 X_arg8 X_arg10 X_arg23 X_arg24 X_arg25 k TT hT25 r l) (h_22_0 arg8 arg10 arg23 arg24 arg25 X_arg8 X_arg10 X_arg23 X_arg24 X_arg25 k TT hT25 r l))).trans (part_succ _ 22 (by omega)).symm

theorem s_1_0_23 (r : Fin 32) (l : Fin 128) : trip_k0_t1.sl.v2815 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 24 := by
  simp only [trip_k0_t1.sl.v2815, trip_k0_t1.sl.v2814]
  exact (congrArg₂ HAdd.hAdd (s_1_0_22 arg8 arg10 arg23 arg24 arg25 X_arg8 X_arg10 X_arg23 X_arg24 X_arg25 k TT hT25 r l) (congrArg₂ HMul.hMul (h_23_0 arg8 arg10 arg23 arg24 arg25 X_arg8 X_arg10 X_arg23 X_arg24 X_arg25 k TT hT25 r l) (h_23_0 arg8 arg10 arg23 arg24 arg25 X_arg8 X_arg10 X_arg23 X_arg24 X_arg25 k TT hT25 r l))).trans (part_succ _ 23 (by omega)).symm

theorem s_1_0_24 (r : Fin 32) (l : Fin 128) : trip_k0_t1.sl.v2875 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 25 := by
  simp only [trip_k0_t1.sl.v2875, trip_k0_t1.sl.v2874]
  exact (congrArg₂ HAdd.hAdd (s_1_0_23 arg8 arg10 arg23 arg24 arg25 X_arg8 X_arg10 X_arg23 X_arg24 X_arg25 k TT hT25 r l) (congrArg₂ HMul.hMul (h_24_0 arg8 arg10 arg23 arg24 arg25 X_arg8 X_arg10 X_arg23 X_arg24 X_arg25 k TT hT25 r l) (h_24_0 arg8 arg10 arg23 arg24 arg25 X_arg8 X_arg10 X_arg23 X_arg24 X_arg25 k TT hT25 r l))).trans (part_succ _ 24 (by omega)).symm

theorem s_1_0_25 (r : Fin 32) (l : Fin 128) : trip_k0_t1.sl.v2935 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 26 := by
  simp only [trip_k0_t1.sl.v2935, trip_k0_t1.sl.v2934]
  exact (congrArg₂ HAdd.hAdd (s_1_0_24 arg8 arg10 arg23 arg24 arg25 X_arg8 X_arg10 X_arg23 X_arg24 X_arg25 k TT hT25 r l) (congrArg₂ HMul.hMul (h_25_0 arg8 arg10 arg23 arg24 arg25 X_arg8 X_arg10 X_arg23 X_arg24 X_arg25 k TT hT25 r l) (h_25_0 arg8 arg10 arg23 arg24 arg25 X_arg8 X_arg10 X_arg23 X_arg24 X_arg25 k TT hT25 r l))).trans (part_succ _ 25 (by omega)).symm

theorem s_1_0_26 (r : Fin 32) (l : Fin 128) : trip_k0_t1.sl.v2995 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 27 := by
  simp only [trip_k0_t1.sl.v2995, trip_k0_t1.sl.v2994]
  exact (congrArg₂ HAdd.hAdd (s_1_0_25 arg8 arg10 arg23 arg24 arg25 X_arg8 X_arg10 X_arg23 X_arg24 X_arg25 k TT hT25 r l) (congrArg₂ HMul.hMul (h_26_0 arg8 arg10 arg23 arg24 arg25 X_arg8 X_arg10 X_arg23 X_arg24 X_arg25 k TT hT25 r l) (h_26_0 arg8 arg10 arg23 arg24 arg25 X_arg8 X_arg10 X_arg23 X_arg24 X_arg25 k TT hT25 r l))).trans (part_succ _ 26 (by omega)).symm

theorem s_1_0_27 (r : Fin 32) (l : Fin 128) : trip_k0_t1.sl.v3055 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 28 := by
  simp only [trip_k0_t1.sl.v3055, trip_k0_t1.sl.v3054]
  exact (congrArg₂ HAdd.hAdd (s_1_0_26 arg8 arg10 arg23 arg24 arg25 X_arg8 X_arg10 X_arg23 X_arg24 X_arg25 k TT hT25 r l) (congrArg₂ HMul.hMul (h_27_0 arg8 arg10 arg23 arg24 arg25 X_arg8 X_arg10 X_arg23 X_arg24 X_arg25 k TT hT25 r l) (h_27_0 arg8 arg10 arg23 arg24 arg25 X_arg8 X_arg10 X_arg23 X_arg24 X_arg25 k TT hT25 r l))).trans (part_succ _ 27 (by omega)).symm

theorem s_1_0_28 (r : Fin 32) (l : Fin 128) : trip_k0_t1.sl.v3115 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 29 := by
  simp only [trip_k0_t1.sl.v3115, trip_k0_t1.sl.v3114]
  exact (congrArg₂ HAdd.hAdd (s_1_0_27 arg8 arg10 arg23 arg24 arg25 X_arg8 X_arg10 X_arg23 X_arg24 X_arg25 k TT hT25 r l) (congrArg₂ HMul.hMul (h_28_0 arg8 arg10 arg23 arg24 arg25 X_arg8 X_arg10 X_arg23 X_arg24 X_arg25 k TT hT25 r l) (h_28_0 arg8 arg10 arg23 arg24 arg25 X_arg8 X_arg10 X_arg23 X_arg24 X_arg25 k TT hT25 r l))).trans (part_succ _ 28 (by omega)).symm

theorem s_1_0_29 (r : Fin 32) (l : Fin 128) : trip_k0_t1.sl.v3175 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 30 := by
  simp only [trip_k0_t1.sl.v3175, trip_k0_t1.sl.v3174]
  exact (congrArg₂ HAdd.hAdd (s_1_0_28 arg8 arg10 arg23 arg24 arg25 X_arg8 X_arg10 X_arg23 X_arg24 X_arg25 k TT hT25 r l) (congrArg₂ HMul.hMul (h_29_0 arg8 arg10 arg23 arg24 arg25 X_arg8 X_arg10 X_arg23 X_arg24 X_arg25 k TT hT25 r l) (h_29_0 arg8 arg10 arg23 arg24 arg25 X_arg8 X_arg10 X_arg23 X_arg24 X_arg25 k TT hT25 r l))).trans (part_succ _ 29 (by omega)).symm

theorem s_1_0_30 (r : Fin 32) (l : Fin 128) : trip_k0_t1.sl.v3235 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 31 := by
  simp only [trip_k0_t1.sl.v3235, trip_k0_t1.sl.v3234]
  exact (congrArg₂ HAdd.hAdd (s_1_0_29 arg8 arg10 arg23 arg24 arg25 X_arg8 X_arg10 X_arg23 X_arg24 X_arg25 k TT hT25 r l) (congrArg₂ HMul.hMul (h_30_0 arg8 arg10 arg23 arg24 arg25 X_arg8 X_arg10 X_arg23 X_arg24 X_arg25 k TT hT25 r l) (h_30_0 arg8 arg10 arg23 arg24 arg25 X_arg8 X_arg10 X_arg23 X_arg24 X_arg25 k TT hT25 r l))).trans (part_succ _ 30 (by omega)).symm

theorem s_1_0_31 (r : Fin 32) (l : Fin 128) : trip_k0_t1.sl.v3295 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 32 := by
  simp only [trip_k0_t1.sl.v3295, trip_k0_t1.sl.v3294]
  exact (congrArg₂ HAdd.hAdd (s_1_0_30 arg8 arg10 arg23 arg24 arg25 X_arg8 X_arg10 X_arg23 X_arg24 X_arg25 k TT hT25 r l) (congrArg₂ HMul.hMul (h_31_0 arg8 arg10 arg23 arg24 arg25 X_arg8 X_arg10 X_arg23 X_arg24 X_arg25 k TT hT25 r l) (h_31_0 arg8 arg10 arg23 arg24 arg25 X_arg8 X_arg10 X_arg23 X_arg24 X_arg25 k TT hT25 r l))).trans (part_succ _ 31 (by omega)).symm

theorem s_1_0_32 (r : Fin 32) (l : Fin 128) : trip_k0_t1.sl.v3355 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 33 := by
  simp only [trip_k0_t1.sl.v3355, trip_k0_t1.sl.v3354]
  exact (congrArg₂ HAdd.hAdd (s_1_0_31 arg8 arg10 arg23 arg24 arg25 X_arg8 X_arg10 X_arg23 X_arg24 X_arg25 k TT hT25 r l) (congrArg₂ HMul.hMul (h_32_0 arg8 arg10 arg23 arg24 arg25 X_arg8 X_arg10 X_arg23 X_arg24 X_arg25 k TT hT25 r l) (h_32_0 arg8 arg10 arg23 arg24 arg25 X_arg8 X_arg10 X_arg23 X_arg24 X_arg25 k TT hT25 r l))).trans (part_succ _ 32 (by omega)).symm

theorem s_1_0_33 (r : Fin 32) (l : Fin 128) : trip_k0_t1.sl.v3415 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 34 := by
  simp only [trip_k0_t1.sl.v3415, trip_k0_t1.sl.v3414]
  exact (congrArg₂ HAdd.hAdd (s_1_0_32 arg8 arg10 arg23 arg24 arg25 X_arg8 X_arg10 X_arg23 X_arg24 X_arg25 k TT hT25 r l) (congrArg₂ HMul.hMul (h_33_0 arg8 arg10 arg23 arg24 arg25 X_arg8 X_arg10 X_arg23 X_arg24 X_arg25 k TT hT25 r l) (h_33_0 arg8 arg10 arg23 arg24 arg25 X_arg8 X_arg10 X_arg23 X_arg24 X_arg25 k TT hT25 r l))).trans (part_succ _ 33 (by omega)).symm

theorem s_1_0_34 (r : Fin 32) (l : Fin 128) : trip_k0_t1.sl.v3475 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 35 := by
  simp only [trip_k0_t1.sl.v3475, trip_k0_t1.sl.v3474]
  exact (congrArg₂ HAdd.hAdd (s_1_0_33 arg8 arg10 arg23 arg24 arg25 X_arg8 X_arg10 X_arg23 X_arg24 X_arg25 k TT hT25 r l) (congrArg₂ HMul.hMul (h_34_0 arg8 arg10 arg23 arg24 arg25 X_arg8 X_arg10 X_arg23 X_arg24 X_arg25 k TT hT25 r l) (h_34_0 arg8 arg10 arg23 arg24 arg25 X_arg8 X_arg10 X_arg23 X_arg24 X_arg25 k TT hT25 r l))).trans (part_succ _ 34 (by omega)).symm

theorem s_1_0_35 (r : Fin 32) (l : Fin 128) : trip_k0_t1.sl.v3535 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 36 := by
  simp only [trip_k0_t1.sl.v3535, trip_k0_t1.sl.v3534]
  exact (congrArg₂ HAdd.hAdd (s_1_0_34 arg8 arg10 arg23 arg24 arg25 X_arg8 X_arg10 X_arg23 X_arg24 X_arg25 k TT hT25 r l) (congrArg₂ HMul.hMul (h_35_0 arg8 arg10 arg23 arg24 arg25 X_arg8 X_arg10 X_arg23 X_arg24 X_arg25 k TT hT25 r l) (h_35_0 arg8 arg10 arg23 arg24 arg25 X_arg8 X_arg10 X_arg23 X_arg24 X_arg25 k TT hT25 r l))).trans (part_succ _ 35 (by omega)).symm

theorem s_1_0_36 (r : Fin 32) (l : Fin 128) : trip_k0_t1.sl.v3595 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 37 := by
  simp only [trip_k0_t1.sl.v3595, trip_k0_t1.sl.v3594]
  exact (congrArg₂ HAdd.hAdd (s_1_0_35 arg8 arg10 arg23 arg24 arg25 X_arg8 X_arg10 X_arg23 X_arg24 X_arg25 k TT hT25 r l) (congrArg₂ HMul.hMul (h_36_0 arg8 arg10 arg23 arg24 arg25 X_arg8 X_arg10 X_arg23 X_arg24 X_arg25 k TT hT25 r l) (h_36_0 arg8 arg10 arg23 arg24 arg25 X_arg8 X_arg10 X_arg23 X_arg24 X_arg25 k TT hT25 r l))).trans (part_succ _ 36 (by omega)).symm

theorem s_1_0_37 (r : Fin 32) (l : Fin 128) : trip_k0_t1.sl.v3655 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 38 := by
  simp only [trip_k0_t1.sl.v3655, trip_k0_t1.sl.v3654]
  exact (congrArg₂ HAdd.hAdd (s_1_0_36 arg8 arg10 arg23 arg24 arg25 X_arg8 X_arg10 X_arg23 X_arg24 X_arg25 k TT hT25 r l) (congrArg₂ HMul.hMul (h_37_0 arg8 arg10 arg23 arg24 arg25 X_arg8 X_arg10 X_arg23 X_arg24 X_arg25 k TT hT25 r l) (h_37_0 arg8 arg10 arg23 arg24 arg25 X_arg8 X_arg10 X_arg23 X_arg24 X_arg25 k TT hT25 r l))).trans (part_succ _ 37 (by omega)).symm

theorem s_1_0_38 (r : Fin 32) (l : Fin 128) : trip_k0_t1.sl.v3715 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 39 := by
  simp only [trip_k0_t1.sl.v3715, trip_k0_t1.sl.v3714]
  exact (congrArg₂ HAdd.hAdd (s_1_0_37 arg8 arg10 arg23 arg24 arg25 X_arg8 X_arg10 X_arg23 X_arg24 X_arg25 k TT hT25 r l) (congrArg₂ HMul.hMul (h_38_0 arg8 arg10 arg23 arg24 arg25 X_arg8 X_arg10 X_arg23 X_arg24 X_arg25 k TT hT25 r l) (h_38_0 arg8 arg10 arg23 arg24 arg25 X_arg8 X_arg10 X_arg23 X_arg24 X_arg25 k TT hT25 r l))).trans (part_succ _ 38 (by omega)).symm

theorem s_1_0_39 (r : Fin 32) (l : Fin 128) : trip_k0_t1.sl.v3775 arg8 arg10 arg23 arg24 arg25 X_arg8 X_arg10 X_arg23 X_arg24 X_arg25 k (ix2 r l) = part (fun g => HH arg8 arg10 arg23 arg24 X_arg8 X_arg10 X_arg23 X_arg24 TT 0 (trow k r) (col g l) * HH arg8 arg10 arg23 arg24 X_arg8 X_arg10 X_arg23 X_arg24 TT 0 (trow k r) (col g l)) 40 := by
  simp only [trip_k0_t1.sl.v3775, trip_k0_t1.sl.v3774]
  exact (congrArg₂ HAdd.hAdd (s_1_0_38 arg8 arg10 arg23 arg24 arg25 X_arg8 X_arg10 X_arg23 X_arg24 X_arg25 k TT hT25 r l) (congrArg₂ HMul.hMul (h_39_0 arg8 arg10 arg23 arg24 arg25 X_arg8 X_arg10 X_arg23 X_arg24 X_arg25 k TT hT25 r l) (h_39_0 arg8 arg10 arg23 arg24 arg25 X_arg8 X_arg10 X_arg23 X_arg24 X_arg25 k TT hT25 r l))).trans (part_succ _ 39 (by omega)).symm

theorem q_1_0 (x : S1x1x32x128.Idx) : k0_pay430 (trip_k0_t1.sl.v3775 arg8 arg10 arg23 arg24 arg25 X_arg8 X_arg10 X_arg23 X_arg24 X_arg25 k) x = (fun y : S2x2x128x128.Idx => SS arg8 arg10 arg23 arg24 X_arg8 X_arg10 X_arg23 X_arg24 TT (y 0) (y 1) (y 2) (y 3)) ((Rect.unit (s := S2x2x128x128) (k0_off205 k) S1x1x32x128.size (k0_off205_inb k)).emb x) := by
  idx_vars x
  refine Eq.trans ?_ ((s_1_0_39 arg8 arg10 arg23 arg24 arg25 X_arg8 X_arg10 X_arg23 X_arg24 X_arg25 k TT hT25 x2 x3).trans ((part_all _).trans ?_))
  · pointwise [k0_pay430]
  · refine Eq.trans (b := SS arg8 arg10 arg23 arg24 X_arg8 X_arg10 X_arg23 X_arg24 TT 1 0 (trow k x2) x3) rfl ?_
    refine congr (congr (congr (congrArg _ (Fin.ext ?_)) (Fin.ext ?_)) (Fin.ext ?_)) (Fin.ext ?_)
    · obtain rfl := Subsingleton.elim x0 0
      exact emb_coord _ (k0_off205_eq k) _ 0 _ rfl
    · obtain rfl := Subsingleton.elim x1 0
      exact emb_coord _ (k0_off205_eq k) _ 1 _ rfl
    · exact emb_coord _ (k0_off205_eq k) _ 2 _ rfl
    · exact emb_coord _ (k0_off205_eq k) _ 3 _ (Nat.zero_add _).symm

omit hT25 in
theorem z_1_1 (r : Fin 32) (l : Fin 128) : trip_k0_t1.sl.v1395  (F := Ideal) (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 0 := by
  rw [part_zero]
  simp only [trip_k0_t1.sl.v1395, trip_k0_t1.sl.cst_897]
  pointwise

theorem s_1_1_0 (r : Fin 32) (l : Fin 128) : trip_k0_t1.sl.v1458 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 1 := by
  simp only [trip_k0_t1.sl.v1458, trip_k0_t1.sl.v1457]
  exact (congrArg₂ HAdd.hAdd (z_1_1 arg8 arg10 arg23 arg24 X_arg8 X_arg10 X_arg23 X_arg24 k TT r l) (congrArg₂ HMul.hMul (h_0_1 arg8 arg10 arg23 arg24 arg25 X_arg8 X_arg10 X_arg23 X_arg24 X_arg25 k TT hT25 r l) (h_0_1 arg8 arg10 arg23 arg24 arg25 X_arg8 X_arg10 X_arg23 X_arg24 X_arg25 k TT hT25 r l))).trans (part_succ _ 0 (by omega)).symm

theorem s_1_1_1 (r : Fin 32) (l : Fin 128) : trip_k0_t1.sl.v1518 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 2 := by
  simp only [trip_k0_t1.sl.v1518, trip_k0_t1.sl.v1517]
  exact (congrArg₂ HAdd.hAdd (s_1_1_0 arg8 arg10 arg23 arg24 arg25 X_arg8 X_arg10 X_arg23 X_arg24 X_arg25 k TT hT25 r l) (congrArg₂ HMul.hMul (h_1_1 arg8 arg10 arg23 arg24 arg25 X_arg8 X_arg10 X_arg23 X_arg24 X_arg25 k TT hT25 r l) (h_1_1 arg8 arg10 arg23 arg24 arg25 X_arg8 X_arg10 X_arg23 X_arg24 X_arg25 k TT hT25 r l))).trans (part_succ _ 1 (by omega)).symm

theorem s_1_1_2 (r : Fin 32) (l : Fin 128) : trip_k0_t1.sl.v1578 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 3 := by
  simp only [trip_k0_t1.sl.v1578, trip_k0_t1.sl.v1577]
  exact (congrArg₂ HAdd.hAdd (s_1_1_1 arg8 arg10 arg23 arg24 arg25 X_arg8 X_arg10 X_arg23 X_arg24 X_arg25 k TT hT25 r l) (congrArg₂ HMul.hMul (h_2_1 arg8 arg10 arg23 arg24 arg25 X_arg8 X_arg10 X_arg23 X_arg24 X_arg25 k TT hT25 r l) (h_2_1 arg8 arg10 arg23 arg24 arg25 X_arg8 X_arg10 X_arg23 X_arg24 X_arg25 k TT hT25 r l))).trans (part_succ _ 2 (by omega)).symm

theorem s_1_1_3 (r : Fin 32) (l : Fin 128) : trip_k0_t1.sl.v1638 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 4 := by
  simp only [trip_k0_t1.sl.v1638, trip_k0_t1.sl.v1637]
  exact (congrArg₂ HAdd.hAdd (s_1_1_2 arg8 arg10 arg23 arg24 arg25 X_arg8 X_arg10 X_arg23 X_arg24 X_arg25 k TT hT25 r l) (congrArg₂ HMul.hMul (h_3_1 arg8 arg10 arg23 arg24 arg25 X_arg8 X_arg10 X_arg23 X_arg24 X_arg25 k TT hT25 r l) (h_3_1 arg8 arg10 arg23 arg24 arg25 X_arg8 X_arg10 X_arg23 X_arg24 X_arg25 k TT hT25 r l))).trans (part_succ _ 3 (by omega)).symm

theorem s_1_1_4 (r : Fin 32) (l : Fin 128) : trip_k0_t1.sl.v1698 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 5 := by
  simp only [trip_k0_t1.sl.v1698, trip_k0_t1.sl.v1697]
  exact (congrArg₂ HAdd.hAdd (s_1_1_3 arg8 arg10 arg23 arg24 arg25 X_arg8 X_arg10 X_arg23 X_arg24 X_arg25 k TT hT25 r l) (congrArg₂ HMul.hMul (h_4_1 arg8 arg10 arg23 arg24 arg25 X_arg8 X_arg10 X_arg23 X_arg24 X_arg25 k TT hT25 r l) (h_4_1 arg8 arg10 arg23 arg24 arg25 X_arg8 X_arg10 X_arg23 X_arg24 X_arg25 k TT hT25 r l))).trans (part_succ _ 4 (by omega)).symm

theorem s_1_1_5 (r : Fin 32) (l : Fin 128) : trip_k0_t1.sl.v1758 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 6 := by
  simp only [trip_k0_t1.sl.v1758, trip_k0_t1.sl.v1757]
  exact (congrArg₂ HAdd.hAdd (s_1_1_4 arg8 arg10 arg23 arg24 arg25 X_arg8 X_arg10 X_arg23 X_arg24 X_arg25 k TT hT25 r l) (congrArg₂ HMul.hMul (h_5_1 arg8 arg10 arg23 arg24 arg25 X_arg8 X_arg10 X_arg23 X_arg24 X_arg25 k TT hT25 r l) (h_5_1 arg8 arg10 arg23 arg24 arg25 X_arg8 X_arg10 X_arg23 X_arg24 X_arg25 k TT hT25 r l))).trans (part_succ _ 5 (by omega)).symm

theorem s_1_1_6 (r : Fin 32) (l : Fin 128) : trip_k0_t1.sl.v1818 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 7 := by
  simp only [trip_k0_t1.sl.v1818, trip_k0_t1.sl.v1817]
  exact (congrArg₂ HAdd.hAdd (s_1_1_5 arg8 arg10 arg23 arg24 arg25 X_arg8 X_arg10 X_arg23 X_arg24 X_arg25 k TT hT25 r l) (congrArg₂ HMul.hMul (h_6_1 arg8 arg10 arg23 arg24 arg25 X_arg8 X_arg10 X_arg23 X_arg24 X_arg25 k TT hT25 r l) (h_6_1 arg8 arg10 arg23 arg24 arg25 X_arg8 X_arg10 X_arg23 X_arg24 X_arg25 k TT hT25 r l))).trans (part_succ _ 6 (by omega)).symm

theorem s_1_1_7 (r : Fin 32) (l : Fin 128) : trip_k0_t1.sl.v1878 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 8 := by
  simp only [trip_k0_t1.sl.v1878, trip_k0_t1.sl.v1877]
  exact (congrArg₂ HAdd.hAdd (s_1_1_6 arg8 arg10 arg23 arg24 arg25 X_arg8 X_arg10 X_arg23 X_arg24 X_arg25 k TT hT25 r l) (congrArg₂ HMul.hMul (h_7_1 arg8 arg10 arg23 arg24 arg25 X_arg8 X_arg10 X_arg23 X_arg24 X_arg25 k TT hT25 r l) (h_7_1 arg8 arg10 arg23 arg24 arg25 X_arg8 X_arg10 X_arg23 X_arg24 X_arg25 k TT hT25 r l))).trans (part_succ _ 7 (by omega)).symm

theorem s_1_1_8 (r : Fin 32) (l : Fin 128) : trip_k0_t1.sl.v1938 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 9 := by
  simp only [trip_k0_t1.sl.v1938, trip_k0_t1.sl.v1937]
  exact (congrArg₂ HAdd.hAdd (s_1_1_7 arg8 arg10 arg23 arg24 arg25 X_arg8 X_arg10 X_arg23 X_arg24 X_arg25 k TT hT25 r l) (congrArg₂ HMul.hMul (h_8_1 arg8 arg10 arg23 arg24 arg25 X_arg8 X_arg10 X_arg23 X_arg24 X_arg25 k TT hT25 r l) (h_8_1 arg8 arg10 arg23 arg24 arg25 X_arg8 X_arg10 X_arg23 X_arg24 X_arg25 k TT hT25 r l))).trans (part_succ _ 8 (by omega)).symm

theorem s_1_1_9 (r : Fin 32) (l : Fin 128) : trip_k0_t1.sl.v1998 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 10 := by
  simp only [trip_k0_t1.sl.v1998, trip_k0_t1.sl.v1997]
  exact (congrArg₂ HAdd.hAdd (s_1_1_8 arg8 arg10 arg23 arg24 arg25 X_arg8 X_arg10 X_arg23 X_arg24 X_arg25 k TT hT25 r l) (congrArg₂ HMul.hMul (h_9_1 arg8 arg10 arg23 arg24 arg25 X_arg8 X_arg10 X_arg23 X_arg24 X_arg25 k TT hT25 r l) (h_9_1 arg8 arg10 arg23 arg24 arg25 X_arg8 X_arg10 X_arg23 X_arg24 X_arg25 k TT hT25 r l))).trans (part_succ _ 9 (by omega)).symm

theorem s_1_1_10 (r : Fin 32) (l : Fin 128) : trip_k0_t1.sl.v2058 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 11 := by
  simp only [trip_k0_t1.sl.v2058, trip_k0_t1.sl.v2057]
  exact (congrArg₂ HAdd.hAdd (s_1_1_9 arg8 arg10 arg23 arg24 arg25 X_arg8 X_arg10 X_arg23 X_arg24 X_arg25 k TT hT25 r l) (congrArg₂ HMul.hMul (h_10_1 arg8 arg10 arg23 arg24 arg25 X_arg8 X_arg10 X_arg23 X_arg24 X_arg25 k TT hT25 r l) (h_10_1 arg8 arg10 arg23 arg24 arg25 X_arg8 X_arg10 X_arg23 X_arg24 X_arg25 k TT hT25 r l))).trans (part_succ _ 10 (by omega)).symm

theorem s_1_1_11 (r : Fin 32) (l : Fin 128) : trip_k0_t1.sl.v2118 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 12 := by
  simp only [trip_k0_t1.sl.v2118, trip_k0_t1.sl.v2117]
  exact (congrArg₂ HAdd.hAdd (s_1_1_10 arg8 arg10 arg23 arg24 arg25 X_arg8 X_arg10 X_arg23 X_arg24 X_arg25 k TT hT25 r l) (congrArg₂ HMul.hMul (h_11_1 arg8 arg10 arg23 arg24 arg25 X_arg8 X_arg10 X_arg23 X_arg24 X_arg25 k TT hT25 r l) (h_11_1 arg8 arg10 arg23 arg24 arg25 X_arg8 X_arg10 X_arg23 X_arg24 X_arg25 k TT hT25 r l))).trans (part_succ _ 11 (by omega)).symm

theorem s_1_1_12 (r : Fin 32) (l : Fin 128) : trip_k0_t1.sl.v2178 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 13 := by
  simp only [trip_k0_t1.sl.v2178, trip_k0_t1.sl.v2177]
  exact (congrArg₂ HAdd.hAdd (s_1_1_11 arg8 arg10 arg23 arg24 arg25 X_arg8 X_arg10 X_arg23 X_arg24 X_arg25 k TT hT25 r l) (congrArg₂ HMul.hMul (h_12_1 arg8 arg10 arg23 arg24 arg25 X_arg8 X_arg10 X_arg23 X_arg24 X_arg25 k TT hT25 r l) (h_12_1 arg8 arg10 arg23 arg24 arg25 X_arg8 X_arg10 X_arg23 X_arg24 X_arg25 k TT hT25 r l))).trans (part_succ _ 12 (by omega)).symm

theorem s_1_1_13 (r : Fin 32) (l : Fin 128) : trip_k0_t1.sl.v2238 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 14 := by
  simp only [trip_k0_t1.sl.v2238, trip_k0_t1.sl.v2237]
  exact (congrArg₂ HAdd.hAdd (s_1_1_12 arg8 arg10 arg23 arg24 arg25 X_arg8 X_arg10 X_arg23 X_arg24 X_arg25 k TT hT25 r l) (congrArg₂ HMul.hMul (h_13_1 arg8 arg10 arg23 arg24 arg25 X_arg8 X_arg10 X_arg23 X_arg24 X_arg25 k TT hT25 r l) (h_13_1 arg8 arg10 arg23 arg24 arg25 X_arg8 X_arg10 X_arg23 X_arg24 X_arg25 k TT hT25 r l))).trans (part_succ _ 13 (by omega)).symm

theorem s_1_1_14 (r : Fin 32) (l : Fin 128) : trip_k0_t1.sl.v2298 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 15 := by
  simp only [trip_k0_t1.sl.v2298, trip_k0_t1.sl.v2297]
  exact (congrArg₂ HAdd.hAdd (s_1_1_13 arg8 arg10 arg23 arg24 arg25 X_arg8 X_arg10 X_arg23 X_arg24 X_arg25 k TT hT25 r l) (congrArg₂ HMul.hMul (h_14_1 arg8 arg10 arg23 arg24 arg25 X_arg8 X_arg10 X_arg23 X_arg24 X_arg25 k TT hT25 r l) (h_14_1 arg8 arg10 arg23 arg24 arg25 X_arg8 X_arg10 X_arg23 X_arg24 X_arg25 k TT hT25 r l))).trans (part_succ _ 14 (by omega)).symm

theorem s_1_1_15 (r : Fin 32) (l : Fin 128) : trip_k0_t1.sl.v2358 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 16 := by
  simp only [trip_k0_t1.sl.v2358, trip_k0_t1.sl.v2357]
  exact (congrArg₂ HAdd.hAdd (s_1_1_14 arg8 arg10 arg23 arg24 arg25 X_arg8 X_arg10 X_arg23 X_arg24 X_arg25 k TT hT25 r l) (congrArg₂ HMul.hMul (h_15_1 arg8 arg10 arg23 arg24 arg25 X_arg8 X_arg10 X_arg23 X_arg24 X_arg25 k TT hT25 r l) (h_15_1 arg8 arg10 arg23 arg24 arg25 X_arg8 X_arg10 X_arg23 X_arg24 X_arg25 k TT hT25 r l))).trans (part_succ _ 15 (by omega)).symm

theorem s_1_1_16 (r : Fin 32) (l : Fin 128) : trip_k0_t1.sl.v2418 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 17 := by
  simp only [trip_k0_t1.sl.v2418, trip_k0_t1.sl.v2417]
  exact (congrArg₂ HAdd.hAdd (s_1_1_15 arg8 arg10 arg23 arg24 arg25 X_arg8 X_arg10 X_arg23 X_arg24 X_arg25 k TT hT25 r l) (congrArg₂ HMul.hMul (h_16_1 arg8 arg10 arg23 arg24 arg25 X_arg8 X_arg10 X_arg23 X_arg24 X_arg25 k TT hT25 r l) (h_16_1 arg8 arg10 arg23 arg24 arg25 X_arg8 X_arg10 X_arg23 X_arg24 X_arg25 k TT hT25 r l))).trans (part_succ _ 16 (by omega)).symm

theorem s_1_1_17 (r : Fin 32) (l : Fin 128) : trip_k0_t1.sl.v2478 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 18 := by
  simp only [trip_k0_t1.sl.v2478, trip_k0_t1.sl.v2477]
  exact (congrArg₂ HAdd.hAdd (s_1_1_16 arg8 arg10 arg23 arg24 arg25 X_arg8 X_arg10 X_arg23 X_arg24 X_arg25 k TT hT25 r l) (congrArg₂ HMul.hMul (h_17_1 arg8 arg10 arg23 arg24 arg25 X_arg8 X_arg10 X_arg23 X_arg24 X_arg25 k TT hT25 r l) (h_17_1 arg8 arg10 arg23 arg24 arg25 X_arg8 X_arg10 X_arg23 X_arg24 X_arg25 k TT hT25 r l))).trans (part_succ _ 17 (by omega)).symm

theorem s_1_1_18 (r : Fin 32) (l : Fin 128) : trip_k0_t1.sl.v2538 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 19 := by
  simp only [trip_k0_t1.sl.v2538, trip_k0_t1.sl.v2537]
  exact (congrArg₂ HAdd.hAdd (s_1_1_17 arg8 arg10 arg23 arg24 arg25 X_arg8 X_arg10 X_arg23 X_arg24 X_arg25 k TT hT25 r l) (congrArg₂ HMul.hMul (h_18_1 arg8 arg10 arg23 arg24 arg25 X_arg8 X_arg10 X_arg23 X_arg24 X_arg25 k TT hT25 r l) (h_18_1 arg8 arg10 arg23 arg24 arg25 X_arg8 X_arg10 X_arg23 X_arg24 X_arg25 k TT hT25 r l))).trans (part_succ _ 18 (by omega)).symm

theorem s_1_1_19 (r : Fin 32) (l : Fin 128) : trip_k0_t1.sl.v2598 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 20 := by
  simp only [trip_k0_t1.sl.v2598, trip_k0_t1.sl.v2597]
  exact (congrArg₂ HAdd.hAdd (s_1_1_18 arg8 arg10 arg23 arg24 arg25 X_arg8 X_arg10 X_arg23 X_arg24 X_arg25 k TT hT25 r l) (congrArg₂ HMul.hMul (h_19_1 arg8 arg10 arg23 arg24 arg25 X_arg8 X_arg10 X_arg23 X_arg24 X_arg25 k TT hT25 r l) (h_19_1 arg8 arg10 arg23 arg24 arg25 X_arg8 X_arg10 X_arg23 X_arg24 X_arg25 k TT hT25 r l))).trans (part_succ _ 19 (by omega)).symm

theorem s_1_1_20 (r : Fin 32) (l : Fin 128) : trip_k0_t1.sl.v2658 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 21 := by
  simp only [trip_k0_t1.sl.v2658, trip_k0_t1.sl.v2657]
  exact (congrArg₂ HAdd.hAdd (s_1_1_19 arg8 arg10 arg23 arg24 arg25 X_arg8 X_arg10 X_arg23 X_arg24 X_arg25 k TT hT25 r l) (congrArg₂ HMul.hMul (h_20_1 arg8 arg10 arg23 arg24 arg25 X_arg8 X_arg10 X_arg23 X_arg24 X_arg25 k TT hT25 r l) (h_20_1 arg8 arg10 arg23 arg24 arg25 X_arg8 X_arg10 X_arg23 X_arg24 X_arg25 k TT hT25 r l))).trans (part_succ _ 20 (by omega)).symm

theorem s_1_1_21 (r : Fin 32) (l : Fin 128) : trip_k0_t1.sl.v2718 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 22 := by
  simp only [trip_k0_t1.sl.v2718, trip_k0_t1.sl.v2717]
  exact (congrArg₂ HAdd.hAdd (s_1_1_20 arg8 arg10 arg23 arg24 arg25 X_arg8 X_arg10 X_arg23 X_arg24 X_arg25 k TT hT25 r l) (congrArg₂ HMul.hMul (h_21_1 arg8 arg10 arg23 arg24 arg25 X_arg8 X_arg10 X_arg23 X_arg24 X_arg25 k TT hT25 r l) (h_21_1 arg8 arg10 arg23 arg24 arg25 X_arg8 X_arg10 X_arg23 X_arg24 X_arg25 k TT hT25 r l))).trans (part_succ _ 21 (by omega)).symm

theorem s_1_1_22 (r : Fin 32) (l : Fin 128) : trip_k0_t1.sl.v2778 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 23 := by
  simp only [trip_k0_t1.sl.v2778, trip_k0_t1.sl.v2777]
  exact (congrArg₂ HAdd.hAdd (s_1_1_21 arg8 arg10 arg23 arg24 arg25 X_arg8 X_arg10 X_arg23 X_arg24 X_arg25 k TT hT25 r l) (congrArg₂ HMul.hMul (h_22_1 arg8 arg10 arg23 arg24 arg25 X_arg8 X_arg10 X_arg23 X_arg24 X_arg25 k TT hT25 r l) (h_22_1 arg8 arg10 arg23 arg24 arg25 X_arg8 X_arg10 X_arg23 X_arg24 X_arg25 k TT hT25 r l))).trans (part_succ _ 22 (by omega)).symm

theorem s_1_1_23 (r : Fin 32) (l : Fin 128) : trip_k0_t1.sl.v2838 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 24 := by
  simp only [trip_k0_t1.sl.v2838, trip_k0_t1.sl.v2837]
  exact (congrArg₂ HAdd.hAdd (s_1_1_22 arg8 arg10 arg23 arg24 arg25 X_arg8 X_arg10 X_arg23 X_arg24 X_arg25 k TT hT25 r l) (congrArg₂ HMul.hMul (h_23_1 arg8 arg10 arg23 arg24 arg25 X_arg8 X_arg10 X_arg23 X_arg24 X_arg25 k TT hT25 r l) (h_23_1 arg8 arg10 arg23 arg24 arg25 X_arg8 X_arg10 X_arg23 X_arg24 X_arg25 k TT hT25 r l))).trans (part_succ _ 23 (by omega)).symm

theorem s_1_1_24 (r : Fin 32) (l : Fin 128) : trip_k0_t1.sl.v2898 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 25 := by
  simp only [trip_k0_t1.sl.v2898, trip_k0_t1.sl.v2897]
  exact (congrArg₂ HAdd.hAdd (s_1_1_23 arg8 arg10 arg23 arg24 arg25 X_arg8 X_arg10 X_arg23 X_arg24 X_arg25 k TT hT25 r l) (congrArg₂ HMul.hMul (h_24_1 arg8 arg10 arg23 arg24 arg25 X_arg8 X_arg10 X_arg23 X_arg24 X_arg25 k TT hT25 r l) (h_24_1 arg8 arg10 arg23 arg24 arg25 X_arg8 X_arg10 X_arg23 X_arg24 X_arg25 k TT hT25 r l))).trans (part_succ _ 24 (by omega)).symm

theorem s_1_1_25 (r : Fin 32) (l : Fin 128) : trip_k0_t1.sl.v2958 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 26 := by
  simp only [trip_k0_t1.sl.v2958, trip_k0_t1.sl.v2957]
  exact (congrArg₂ HAdd.hAdd (s_1_1_24 arg8 arg10 arg23 arg24 arg25 X_arg8 X_arg10 X_arg23 X_arg24 X_arg25 k TT hT25 r l) (congrArg₂ HMul.hMul (h_25_1 arg8 arg10 arg23 arg24 arg25 X_arg8 X_arg10 X_arg23 X_arg24 X_arg25 k TT hT25 r l) (h_25_1 arg8 arg10 arg23 arg24 arg25 X_arg8 X_arg10 X_arg23 X_arg24 X_arg25 k TT hT25 r l))).trans (part_succ _ 25 (by omega)).symm

theorem s_1_1_26 (r : Fin 32) (l : Fin 128) : trip_k0_t1.sl.v3018 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 27 := by
  simp only [trip_k0_t1.sl.v3018, trip_k0_t1.sl.v3017]
  exact (congrArg₂ HAdd.hAdd (s_1_1_25 arg8 arg10 arg23 arg24 arg25 X_arg8 X_arg10 X_arg23 X_arg24 X_arg25 k TT hT25 r l) (congrArg₂ HMul.hMul (h_26_1 arg8 arg10 arg23 arg24 arg25 X_arg8 X_arg10 X_arg23 X_arg24 X_arg25 k TT hT25 r l) (h_26_1 arg8 arg10 arg23 arg24 arg25 X_arg8 X_arg10 X_arg23 X_arg24 X_arg25 k TT hT25 r l))).trans (part_succ _ 26 (by omega)).symm

theorem s_1_1_27 (r : Fin 32) (l : Fin 128) : trip_k0_t1.sl.v3078 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 28 := by
  simp only [trip_k0_t1.sl.v3078, trip_k0_t1.sl.v3077]
  exact (congrArg₂ HAdd.hAdd (s_1_1_26 arg8 arg10 arg23 arg24 arg25 X_arg8 X_arg10 X_arg23 X_arg24 X_arg25 k TT hT25 r l) (congrArg₂ HMul.hMul (h_27_1 arg8 arg10 arg23 arg24 arg25 X_arg8 X_arg10 X_arg23 X_arg24 X_arg25 k TT hT25 r l) (h_27_1 arg8 arg10 arg23 arg24 arg25 X_arg8 X_arg10 X_arg23 X_arg24 X_arg25 k TT hT25 r l))).trans (part_succ _ 27 (by omega)).symm

theorem s_1_1_28 (r : Fin 32) (l : Fin 128) : trip_k0_t1.sl.v3138 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 29 := by
  simp only [trip_k0_t1.sl.v3138, trip_k0_t1.sl.v3137]
  exact (congrArg₂ HAdd.hAdd (s_1_1_27 arg8 arg10 arg23 arg24 arg25 X_arg8 X_arg10 X_arg23 X_arg24 X_arg25 k TT hT25 r l) (congrArg₂ HMul.hMul (h_28_1 arg8 arg10 arg23 arg24 arg25 X_arg8 X_arg10 X_arg23 X_arg24 X_arg25 k TT hT25 r l) (h_28_1 arg8 arg10 arg23 arg24 arg25 X_arg8 X_arg10 X_arg23 X_arg24 X_arg25 k TT hT25 r l))).trans (part_succ _ 28 (by omega)).symm

theorem s_1_1_29 (r : Fin 32) (l : Fin 128) : trip_k0_t1.sl.v3198 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 30 := by
  simp only [trip_k0_t1.sl.v3198, trip_k0_t1.sl.v3197]
  exact (congrArg₂ HAdd.hAdd (s_1_1_28 arg8 arg10 arg23 arg24 arg25 X_arg8 X_arg10 X_arg23 X_arg24 X_arg25 k TT hT25 r l) (congrArg₂ HMul.hMul (h_29_1 arg8 arg10 arg23 arg24 arg25 X_arg8 X_arg10 X_arg23 X_arg24 X_arg25 k TT hT25 r l) (h_29_1 arg8 arg10 arg23 arg24 arg25 X_arg8 X_arg10 X_arg23 X_arg24 X_arg25 k TT hT25 r l))).trans (part_succ _ 29 (by omega)).symm

theorem s_1_1_30 (r : Fin 32) (l : Fin 128) : trip_k0_t1.sl.v3258 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 31 := by
  simp only [trip_k0_t1.sl.v3258, trip_k0_t1.sl.v3257]
  exact (congrArg₂ HAdd.hAdd (s_1_1_29 arg8 arg10 arg23 arg24 arg25 X_arg8 X_arg10 X_arg23 X_arg24 X_arg25 k TT hT25 r l) (congrArg₂ HMul.hMul (h_30_1 arg8 arg10 arg23 arg24 arg25 X_arg8 X_arg10 X_arg23 X_arg24 X_arg25 k TT hT25 r l) (h_30_1 arg8 arg10 arg23 arg24 arg25 X_arg8 X_arg10 X_arg23 X_arg24 X_arg25 k TT hT25 r l))).trans (part_succ _ 30 (by omega)).symm

theorem s_1_1_31 (r : Fin 32) (l : Fin 128) : trip_k0_t1.sl.v3318 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 32 := by
  simp only [trip_k0_t1.sl.v3318, trip_k0_t1.sl.v3317]
  exact (congrArg₂ HAdd.hAdd (s_1_1_30 arg8 arg10 arg23 arg24 arg25 X_arg8 X_arg10 X_arg23 X_arg24 X_arg25 k TT hT25 r l) (congrArg₂ HMul.hMul (h_31_1 arg8 arg10 arg23 arg24 arg25 X_arg8 X_arg10 X_arg23 X_arg24 X_arg25 k TT hT25 r l) (h_31_1 arg8 arg10 arg23 arg24 arg25 X_arg8 X_arg10 X_arg23 X_arg24 X_arg25 k TT hT25 r l))).trans (part_succ _ 31 (by omega)).symm

theorem s_1_1_32 (r : Fin 32) (l : Fin 128) : trip_k0_t1.sl.v3378 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 33 := by
  simp only [trip_k0_t1.sl.v3378, trip_k0_t1.sl.v3377]
  exact (congrArg₂ HAdd.hAdd (s_1_1_31 arg8 arg10 arg23 arg24 arg25 X_arg8 X_arg10 X_arg23 X_arg24 X_arg25 k TT hT25 r l) (congrArg₂ HMul.hMul (h_32_1 arg8 arg10 arg23 arg24 arg25 X_arg8 X_arg10 X_arg23 X_arg24 X_arg25 k TT hT25 r l) (h_32_1 arg8 arg10 arg23 arg24 arg25 X_arg8 X_arg10 X_arg23 X_arg24 X_arg25 k TT hT25 r l))).trans (part_succ _ 32 (by omega)).symm

theorem s_1_1_33 (r : Fin 32) (l : Fin 128) : trip_k0_t1.sl.v3438 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 34 := by
  simp only [trip_k0_t1.sl.v3438, trip_k0_t1.sl.v3437]
  exact (congrArg₂ HAdd.hAdd (s_1_1_32 arg8 arg10 arg23 arg24 arg25 X_arg8 X_arg10 X_arg23 X_arg24 X_arg25 k TT hT25 r l) (congrArg₂ HMul.hMul (h_33_1 arg8 arg10 arg23 arg24 arg25 X_arg8 X_arg10 X_arg23 X_arg24 X_arg25 k TT hT25 r l) (h_33_1 arg8 arg10 arg23 arg24 arg25 X_arg8 X_arg10 X_arg23 X_arg24 X_arg25 k TT hT25 r l))).trans (part_succ _ 33 (by omega)).symm

theorem s_1_1_34 (r : Fin 32) (l : Fin 128) : trip_k0_t1.sl.v3498 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 35 := by
  simp only [trip_k0_t1.sl.v3498, trip_k0_t1.sl.v3497]
  exact (congrArg₂ HAdd.hAdd (s_1_1_33 arg8 arg10 arg23 arg24 arg25 X_arg8 X_arg10 X_arg23 X_arg24 X_arg25 k TT hT25 r l) (congrArg₂ HMul.hMul (h_34_1 arg8 arg10 arg23 arg24 arg25 X_arg8 X_arg10 X_arg23 X_arg24 X_arg25 k TT hT25 r l) (h_34_1 arg8 arg10 arg23 arg24 arg25 X_arg8 X_arg10 X_arg23 X_arg24 X_arg25 k TT hT25 r l))).trans (part_succ _ 34 (by omega)).symm

theorem s_1_1_35 (r : Fin 32) (l : Fin 128) : trip_k0_t1.sl.v3558 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 36 := by
  simp only [trip_k0_t1.sl.v3558, trip_k0_t1.sl.v3557]
  exact (congrArg₂ HAdd.hAdd (s_1_1_34 arg8 arg10 arg23 arg24 arg25 X_arg8 X_arg10 X_arg23 X_arg24 X_arg25 k TT hT25 r l) (congrArg₂ HMul.hMul (h_35_1 arg8 arg10 arg23 arg24 arg25 X_arg8 X_arg10 X_arg23 X_arg24 X_arg25 k TT hT25 r l) (h_35_1 arg8 arg10 arg23 arg24 arg25 X_arg8 X_arg10 X_arg23 X_arg24 X_arg25 k TT hT25 r l))).trans (part_succ _ 35 (by omega)).symm

theorem s_1_1_36 (r : Fin 32) (l : Fin 128) : trip_k0_t1.sl.v3618 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 37 := by
  simp only [trip_k0_t1.sl.v3618, trip_k0_t1.sl.v3617]
  exact (congrArg₂ HAdd.hAdd (s_1_1_35 arg8 arg10 arg23 arg24 arg25 X_arg8 X_arg10 X_arg23 X_arg24 X_arg25 k TT hT25 r l) (congrArg₂ HMul.hMul (h_36_1 arg8 arg10 arg23 arg24 arg25 X_arg8 X_arg10 X_arg23 X_arg24 X_arg25 k TT hT25 r l) (h_36_1 arg8 arg10 arg23 arg24 arg25 X_arg8 X_arg10 X_arg23 X_arg24 X_arg25 k TT hT25 r l))).trans (part_succ _ 36 (by omega)).symm

theorem s_1_1_37 (r : Fin 32) (l : Fin 128) : trip_k0_t1.sl.v3678 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 38 := by
  simp only [trip_k0_t1.sl.v3678, trip_k0_t1.sl.v3677]
  exact (congrArg₂ HAdd.hAdd (s_1_1_36 arg8 arg10 arg23 arg24 arg25 X_arg8 X_arg10 X_arg23 X_arg24 X_arg25 k TT hT25 r l) (congrArg₂ HMul.hMul (h_37_1 arg8 arg10 arg23 arg24 arg25 X_arg8 X_arg10 X_arg23 X_arg24 X_arg25 k TT hT25 r l) (h_37_1 arg8 arg10 arg23 arg24 arg25 X_arg8 X_arg10 X_arg23 X_arg24 X_arg25 k TT hT25 r l))).trans (part_succ _ 37 (by omega)).symm

theorem s_1_1_38 (r : Fin 32) (l : Fin 128) : trip_k0_t1.sl.v3738 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 39 := by
  simp only [trip_k0_t1.sl.v3738, trip_k0_t1.sl.v3737]
  exact (congrArg₂ HAdd.hAdd (s_1_1_37 arg8 arg10 arg23 arg24 arg25 X_arg8 X_arg10 X_arg23 X_arg24 X_arg25 k TT hT25 r l) (congrArg₂ HMul.hMul (h_38_1 arg8 arg10 arg23 arg24 arg25 X_arg8 X_arg10 X_arg23 X_arg24 X_arg25 k TT hT25 r l) (h_38_1 arg8 arg10 arg23 arg24 arg25 X_arg8 X_arg10 X_arg23 X_arg24 X_arg25 k TT hT25 r l))).trans (part_succ _ 38 (by omega)).symm

theorem s_1_1_39 (r : Fin 32) (l : Fin 128) : trip_k0_t1.sl.v3798 arg8 arg10 arg23 arg24 arg25 X_arg8 X_arg10 X_arg23 X_arg24 X_arg25 k (ix2 r l) = part (fun g => HH arg8 arg10 arg23 arg24 X_arg8 X_arg10 X_arg23 X_arg24 TT 1 (trow k r) (col g l) * HH arg8 arg10 arg23 arg24 X_arg8 X_arg10 X_arg23 X_arg24 TT 1 (trow k r) (col g l)) 40 := by
  simp only [trip_k0_t1.sl.v3798, trip_k0_t1.sl.v3797]
  exact (congrArg₂ HAdd.hAdd (s_1_1_38 arg8 arg10 arg23 arg24 arg25 X_arg8 X_arg10 X_arg23 X_arg24 X_arg25 k TT hT25 r l) (congrArg₂ HMul.hMul (h_39_1 arg8 arg10 arg23 arg24 arg25 X_arg8 X_arg10 X_arg23 X_arg24 X_arg25 k TT hT25 r l) (h_39_1 arg8 arg10 arg23 arg24 arg25 X_arg8 X_arg10 X_arg23 X_arg24 X_arg25 k TT hT25 r l))).trans (part_succ _ 39 (by omega)).symm

theorem q_1_1 (x : S1x1x32x128.Idx) : k0_pay432 (trip_k0_t1.sl.v3798 arg8 arg10 arg23 arg24 arg25 X_arg8 X_arg10 X_arg23 X_arg24 X_arg25 k) x = (fun y : S2x2x128x128.Idx => SS arg8 arg10 arg23 arg24 X_arg8 X_arg10 X_arg23 X_arg24 TT (y 0) (y 1) (y 2) (y 3)) ((Rect.unit (s := S2x2x128x128) (k0_off207 k) S1x1x32x128.size (k0_off207_inb k)).emb x) := by
  idx_vars x
  refine Eq.trans ?_ ((s_1_1_39 arg8 arg10 arg23 arg24 arg25 X_arg8 X_arg10 X_arg23 X_arg24 X_arg25 k TT hT25 x2 x3).trans ((part_all _).trans ?_))
  · pointwise [k0_pay432]
  · refine Eq.trans (b := SS arg8 arg10 arg23 arg24 X_arg8 X_arg10 X_arg23 X_arg24 TT 1 1 (trow k x2) x3) rfl ?_
    refine congr (congr (congr (congrArg _ (Fin.ext ?_)) (Fin.ext ?_)) (Fin.ext ?_)) (Fin.ext ?_)
    · obtain rfl := Subsingleton.elim x0 0
      exact emb_coord _ (k0_off207_eq k) _ 0 _ rfl
    · obtain rfl := Subsingleton.elim x1 0
      exact emb_coord _ (k0_off207_eq k) _ 1 _ rfl
    · exact emb_coord _ (k0_off207_eq k) _ 2 _ rfl
    · exact emb_coord _ (k0_off207_eq k) _ 3 _ (Nat.zero_add _).symm

end Cert.KernelIdeal.Hand
-- ==== Proof.ValLoop.lean ====
/- The row loop: after its four trips the hidden rows and their lane sums. -/
module

public import proofs.«01_k».proof.Proof.ValSums

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section
variable (arg8 : Memref sig .tc .vmem S1x2x128x5120 .i8) (arg10 : Memref sig .tc .vmem S1x2x128x5120 .i8) (arg23 : Memref sig .tc .vmem S128x5120 .f32) (arg24 : Memref sig .tc .vmem S2x128x128 .f32) (arg25 : Memref sig .tc .vmem S3x8x5120 .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty) (k : Fin k0_t1_loop.trips)
  (TT : Fin 3 → Fin 5120 → EReal) (hT25 : ∀ (a : Fin 3) (s : Fin 8) (d : Fin 5120), View.read (Elt Ideal) arg25.view X_arg25 (ix3 a s d) = TT a d)

/-- What one trip stores in the buffer of hidden rows. -/
def LH : List (View.Piece (Elt Ideal) S2x128x5120 .f32) := [
  ⟨Rect.unit (k0_off203 k) S1x32x128.size (k0_off203_inb k), trip_k0_t1.sl.v3795 arg8 arg10 arg23 arg24 arg25 X_arg8 X_arg10 X_arg23 X_arg24 X_arg25 k⟩,
  ⟨Rect.unit (k0_off201 k) S1x32x128.size (k0_off201_inb k), trip_k0_t1.sl.v3772 arg8 arg10 arg23 arg24 arg25 X_arg8 X_arg10 X_arg23 X_arg24 X_arg25 k⟩,
  ⟨Rect.unit (k0_off198 k) S1x32x128.size (k0_off198_inb k), trip_k0_t1.sl.v3735 arg8 arg10 arg23 arg24 arg25 X_arg8 X_arg10 X_arg23 X_arg24 X_arg25 k⟩,
  ⟨Rect.unit (k0_off196 k) S1x32x128.size (k0_off196_inb k), trip_k0_t1.sl.v3712 arg8 arg10 arg23 arg24 arg25 X_arg8 X_arg10 X_arg23 X_arg24 X_arg25 k⟩,
  ⟨Rect.unit (k0_off193 k) S1x32x128.size (k0_off193_inb k), trip_k0_t1.sl.v3675 arg8 arg10 arg23 arg24 arg25 X_arg8 X_arg10 X_arg23 X_arg24 X_arg25 k⟩,
  ⟨Rect.unit (k0_off191 k) S1x32x128.size (k0_off191_inb k), trip_k0_t1.sl.v3652 arg8 arg10 arg23 arg24 arg25 X_arg8 X_arg10 X_arg23 X_arg24 X_arg25 k⟩,
  ⟨Rect.unit (k0_off188 k) S1x32x128.size (k0_off188_inb k), trip_k0_t1.sl.v3615 arg8 arg10 arg23 arg24 arg25 X_arg8 X_arg10 X_arg23 X_arg24 X_arg25 k⟩,
  ⟨Rect.unit (k0_off186 k) S1x32x128.size (k0_off186_inb k), trip_k0_t1.sl.v3592 arg8 arg10 arg23 arg24 arg25 X_arg8 X_arg10 X_arg23 X_arg24 X_arg25 k⟩,
  ⟨Rect.unit (k0_off183 k) S1x32x128.size (k0_off183_inb k), trip_k0_t1.sl.v3555 arg8 arg10 arg23 arg24 arg25 X_arg8 X_arg10 X_arg23 X_arg24 X_arg25 k⟩,
  ⟨Rect.unit (k0_off181 k) S1x32x128.size (k0_off181_inb k), trip_k0_t1.sl.v3532 arg8 arg10 arg23 arg24 arg25 X_arg8 X_arg10 X_arg23 X_arg24 X_arg25 k⟩,
  ⟨Rect.unit (k0_off178 k) S1x32x128.size (k0_off178_inb k), trip_k0_t1.sl.v3495 arg8 arg10 arg23 arg24 arg25 X_arg8 X_arg10 X_arg23 X_arg24 X_arg25 k⟩,
  ⟨Rect.unit (k0_off176 k) S1x32x128.size (k0_off176_inb k), trip_k0_t1.sl.v3472 arg8 arg10 arg23 arg24 arg25 X_arg8 X_arg10 X_arg23 X_arg24 X_arg25 k⟩,
  ⟨Rect.unit (k0_off173 k) S1x32x128.size (k0_off173_inb k), trip_k0_t1.sl.v3435 arg8 arg10 arg23 arg24 arg25 X_arg8 X_arg10 X_arg23 X_arg24 X_arg25 k⟩,
  ⟨Rect.unit (k0_off171 k) S1x32x128.size (k0_off171_inb k), trip_k0_t1.sl.v3412 arg8 arg10 arg23 arg24 arg25 X_arg8 X_arg10 X_arg23 X_arg24 X_arg25 k⟩,
  ⟨Rect.unit (k0_off168 k) S1x32x128.size (k0_off168_inb k), trip_k0_t1.sl.v3375 arg8 arg10 arg23 arg24 arg25 X_arg8 X_arg10 X_arg23 X_arg24 X_arg25 k⟩,
  ⟨Rect.unit (k0_off166 k) S1x32x128.size (k0_off166_inb k), trip_k0_t1.sl.v3352 arg8 arg10 arg23 arg24 arg25 X_arg8 X_arg10 X_arg23 X_arg24 X_arg25 k⟩,
  ⟨Rect.unit (k0_off163 k) S1x32x128.size (k0_off163_inb k), trip_k0_t1.sl.v3315 arg8 arg10 arg23 arg24 arg25 X_arg8 X_arg10 X_arg23 X_arg24 X_arg25 k⟩,
  ⟨Rect.unit (k0_off161 k) S1x32x128.size (k0_off161_inb k), trip_k0_t1.sl.v3292 arg8 arg10 arg23 arg24 arg25 X_arg8 X_arg10 X_arg23 X_arg24 X_arg25 k⟩,
  ⟨Rect.unit (k0_off158 k) S1x32x128.size (k0_off158_inb k), trip_k0_t1.sl.v3255 arg8 arg10 arg23 arg24 arg25 X_arg8 X_arg10 X_arg23 X_arg24 X_arg25 k⟩,
  ⟨Rect.unit (k0_off156 k) S1x32x128.size (k0_off156_inb k), trip_k0_t1.sl.v3232 arg8 arg10 arg23 arg24 arg25 X_arg8 X_arg10 X_arg23 X_arg24 X_arg25 k⟩,
  ⟨Rect.unit (k0_off153 k) S1x32x128.size (k0_off153_inb k), trip_k0_t1.sl.v3195 arg8 arg10 arg23 arg24 arg25 X_arg8 X_arg10 X_arg23 X_arg24 X_arg25 k⟩,
  ⟨Rect.unit (k0_off151 k) S1x32x128.size (k0_off151_inb k), trip_k0_t1.sl.v3172 arg8 arg10 arg23 arg24 arg25 X_arg8 X_arg10 X_arg23 X_arg24 X_arg25 k⟩,
  ⟨Rect.unit (k0_off148 k) S1x32x128.size (k0_off148_inb k), trip_k0_t1.sl.v3135 arg8 arg10 arg23 arg24 arg25 X_arg8 X_arg10 X_arg23 X_arg24 X_arg25 k⟩,
  ⟨Rect.unit (k0_off146 k) S1x32x128.size (k0_off146_inb k), trip_k0_t1.sl.v3112 arg8 arg10 arg23 arg24 arg25 X_arg8 X_arg10 X_arg23 X_arg24 X_arg25 k⟩,
  ⟨Rect.unit (k0_off143 k) S1x32x128.size (k0_off143_inb k), trip_k0_t1.sl.v3075 arg8 arg10 arg23 arg24 arg25 X_arg8 X_arg10 X_arg23 X_arg24 X_arg25 k⟩,
  ⟨Rect.unit (k0_off141 k) S1x32x128.size (k0_off141_inb k), trip_k0_t1.sl.v3052 arg8 arg10 arg23 arg24 arg25 X_arg8 X_arg10 X_arg23 X_arg24 X_arg25 k⟩,
  ⟨Rect.unit (k0_off138 k) S1x32x128.size (k0_off138_inb k), trip_k0_t1.sl.v3015 arg8 arg10 arg23 arg24 arg25 X_arg8 X_arg10 X_arg23 X_arg24 X_arg25 k⟩,
  ⟨Rect.unit (k0_off136 k) S1x32x128.size (k0_off136_inb k), trip_k0_t1.sl.v2992 arg8 arg10 arg23 arg24 arg25 X_arg8 X_arg10 X_arg23 X_arg24 X_arg25 k⟩,
  ⟨Rect.unit (k0_off133 k) S1x32x128.size (k0_off133_inb k), trip_k0_t1.sl.v2955 arg8 arg10 arg23 arg24 arg25 X_arg8 X_arg10 X_arg23 X_arg24 X_arg25 k⟩,
  ⟨Rect.unit (k0_off131 k) S1x32x128.size (k0_off131_inb k), trip_k0_t1.sl.v2932 arg8 arg10 arg23 arg24 arg25 X_arg8 X_arg10 X_arg23 X_arg24 X_arg25 k⟩,
  ⟨Rect.unit (k0_off128 k) S1x32x128.size (k0_off128_inb k), trip_k0_t1.sl.v2895 arg8 arg10 arg23 arg24 arg25 X_arg8 X_arg10 X_arg23 X_arg24 X_arg25 k⟩,
  ⟨Rect.unit (k0_off126 k) S1x32x128.size (k0_off126_inb k), trip_k0_t1.sl.v2872 arg8 arg10 arg23 arg24 arg25 X_arg8 X_arg10 X_arg23 X_arg24 X_arg25 k⟩,
  ⟨Rect.unit (k0_off123 k) S1x32x128.size (k0_off123_inb k), trip_k0_t1.sl.v2835 arg8 arg10 arg23 arg24 arg25 X_arg8 X_arg10 X_arg23 X_arg24 X_arg25 k⟩,
  ⟨Rect.unit (k0_off121 k) S1x32x128.size (k0_off121_inb k), trip_k0_t1.sl.v2812 arg8 arg10 arg23 arg24 arg25 X_arg8 X_arg10 X_arg23 X_arg24 X_arg25 k⟩,
  ⟨Rect.unit (k0_off118 k) S1x32x128.size (k0_off118_inb k), trip_k0_t1.sl.v2775 arg8 arg10 arg23 arg24 arg25 X_arg8 X_arg10 X_arg23 X_arg24 X_arg25 k⟩,
  ⟨Rect.unit (k0_off116 k) S1x32x128.size (k0_off116_inb k), trip_k0_t1.sl.v2752 arg8 arg10 arg23 arg24 arg25 X_arg8 X_arg10 X_arg23 X_arg24 X_arg25 k⟩,
  ⟨Rect.unit (k0_off113 k) S1x32x128.size (k0_off113_inb k), trip_k0_t1.sl.v2715 arg8 arg10 arg23 arg24 arg25 X_arg8 X_arg10 X_arg23 X_arg24 X_arg25 k⟩,
  ⟨Rect.unit (k0_off111 k) S1x32x128.size (k0_off111_inb k), trip_k0_t1.sl.v2692 arg8 arg10 arg23 arg24 arg25 X_arg8 X_arg10 X_arg23 X_arg24 X_arg25 k⟩,
  ⟨Rect.unit (k0_off108 k) S1x32x128.size (k0_off108_inb k), trip_k0_t1.sl.v2655 arg8 arg10 arg23 arg24 arg25 X_arg8 X_arg10 X_arg23 X_arg24 X_arg25 k⟩,
  ⟨Rect.unit (k0_off106 k) S1x32x128.size (k0_off106_inb k), trip_k0_t1.sl.v2632 arg8 arg10 arg23 arg24 arg25 X_arg8 X_arg10 X_arg23 X_arg24 X_arg25 k⟩,
  ⟨Rect.unit (k0_off103 k) S1x32x128.size (k0_off103_inb k), trip_k0_t1.sl.v2595 arg8 arg10 arg23 arg24 arg25 X_arg8 X_arg10 X_arg23 X_arg24 X_arg25 k⟩,
  ⟨Rect.unit (k0_off101 k) S1x32x128.size (k0_off101_inb k), trip_k0_t1.sl.v2572 arg8 arg10 arg23 arg24 arg25 X_arg8 X_arg10 X_arg23 X_arg24 X_arg25 k⟩,
  ⟨Rect.unit (k0_off98 k) S1x32x128.size (k0_off98_inb k), trip_k0_t1.sl.v2535 arg8 arg10 arg23 arg24 arg25 X_arg8 X_arg10 X_arg23 X_arg24 X_arg25 k⟩,
  ⟨Rect.unit (k0_off96 k) S1x32x128.size (k0_off96_inb k), trip_k0_t1.sl.v2512 arg8 arg10 arg23 arg24 arg25 X_arg8 X_arg10 X_arg23 X_arg24 X_arg25 k⟩,
  ⟨Rect.unit (k0_off93 k) S1x32x128.size (k0_off93_inb k), trip_k0_t1.sl.v2475 arg8 arg10 arg23 arg24 arg25 X_arg8 X_arg10 X_arg23 X_arg24 X_arg25 k⟩,
  ⟨Rect.unit (k0_off91 k) S1x32x128.size (k0_off91_inb k), trip_k0_t1.sl.v2452 arg8 arg10 arg23 arg24 arg25 X_arg8 X_arg10 X_arg23 X_arg24 X_arg25 k⟩,
  ⟨Rect.unit (k0_off88 k) S1x32x128.size (k0_off88_inb k), trip_k0_t1.sl.v2415 arg8 arg10 arg23 arg24 arg25 X_arg8 X_arg10 X_arg23 X_arg24 X_arg25 k⟩,
  ⟨Rect.unit (k0_off86 k) S1x32x128.size (k0_off86_inb k), trip_k0_t1.sl.v2392 arg8 arg10 arg23 arg24 arg25 X_arg8 X_arg10 X_arg23 X_arg24 X_arg25 k⟩,
  ⟨Rect.unit (k0_off83 k) S1x32x128.size (k0_off83_inb k), trip_k0_t1.sl.v2355 arg8 arg10 arg23 arg24 arg25 X_arg8 X_arg10 X_arg23 X_arg24 X_arg25 k⟩,
  ⟨Rect.unit (k0_off81 k) S1x32x128.size (k0_off81_inb k), trip_k0_t1.sl.v2332 arg8 arg10 arg23 arg24 arg25 X_arg8 X_arg10 X_arg23 X_arg24 X_arg25 k⟩,
  ⟨Rect.unit (k0_off78 k) S1x32x128.size (k0_off78_inb k), trip_k0_t1.sl.v2295 arg8 arg10 arg23 arg24 arg25 X_arg8 X_arg10 X_arg23 X_arg24 X_arg25 k⟩,
  ⟨Rect.unit (k0_off76 k) S1x32x128.size (k0_off76_inb k), trip_k0_t1.sl.v2272 arg8 arg10 arg23 arg24 arg25 X_arg8 X_arg10 X_arg23 X_arg24 X_arg25 k⟩,
  ⟨Rect.unit (k0_off73 k) S1x32x128.size (k0_off73_inb k), trip_k0_t1.sl.v2235 arg8 arg10 arg23 arg24 arg25 X_arg8 X_arg10 X_arg23 X_arg24 X_arg25 k⟩,
  ⟨Rect.unit (k0_off71 k) S1x32x128.size (k0_off71_inb k), trip_k0_t1.sl.v2212 arg8 arg10 arg23 arg24 arg25 X_arg8 X_arg10 X_arg23 X_arg24 X_arg25 k⟩,
  ⟨Rect.unit (k0_off68 k) S1x32x128.size (k0_off68_inb k), trip_k0_t1.sl.v2175 arg8 arg10 arg23 arg24 arg25 X_arg8 X_arg10 X_arg23 X_arg24 X_arg25 k⟩,
  ⟨Rect.unit (k0_off66 k) S1x32x128.size (k0_off66_inb k), trip_k0_t1.sl.v2152 arg8 arg10 arg23 arg24 arg25 X_arg8 X_arg10 X_arg23 X_arg24 X_arg25 k⟩,
  ⟨Rect.unit (k0_off63 k) S1x32x128.size (k0_off63_inb k), trip_k0_t1.sl.v2115 arg8 arg10 arg23 arg24 arg25 X_arg8 X_arg10 X_arg23 X_arg24 X_arg25 k⟩,
  ⟨Rect.unit (k0_off61 k) S1x32x128.size (k0_off61_inb k), trip_k0_t1.sl.v2092 arg8 arg10 arg23 arg24 arg25 X_arg8 X_arg10 X_arg23 X_arg24 X_arg25 k⟩,
  ⟨Rect.unit (k0_off58 k) S1x32x128.size (k0_off58_inb k), trip_k0_t1.sl.v2055 arg8 arg10 arg23 arg24 arg25 X_arg8 X_arg10 X_arg23 X_arg24 X_arg25 k⟩,
  ⟨Rect.unit (k0_off56 k) S1x32x128.size (k0_off56_inb k), trip_k0_t1.sl.v2032 arg8 arg10 arg23 arg24 arg25 X_arg8 X_arg10 X_arg23 X_arg24 X_arg25 k⟩,
  ⟨Rect.unit (k0_off53 k) S1x32x128.size (k0_off53_inb k), trip_k0_t1.sl.v1995 arg8 arg10 arg23 arg24 arg25 X_arg8 X_arg10 X_arg23 X_arg24 X_arg25 k⟩,
  ⟨Rect.unit (k0_off51 k) S1x32x128.size (k0_off51_inb k), trip_k0_t1.sl.v1972 arg8 arg10 arg23 arg24 arg25 X_arg8 X_arg10 X_arg23 X_arg24 X_arg25 k⟩,
  ⟨Rect.unit (k0_off48 k) S1x32x128.size (k0_off48_inb k), trip_k0_t1.sl.v1935 arg8 arg10 arg23 arg24 arg25 X_arg8 X_arg10 X_arg23 X_arg24 X_arg25 k⟩,
  ⟨Rect.unit (k0_off46 k) S1x32x128.size (k0_off46_inb k), trip_k0_t1.sl.v1912 arg8 arg10 arg23 arg24 arg25 X_arg8 X_arg10 X_arg23 X_arg24 X_arg25 k⟩,
  ⟨Rect.unit (k0_off43 k) S1x32x128.size (k0_off43_inb k), trip_k0_t1.sl.v1875 arg8 arg10 arg23 arg24 arg25 X_arg8 X_arg10 X_arg23 X_arg24 X_arg25 k⟩,
  ⟨Rect.unit (k0_off41 k) S1x32x128.size (k0_off41_inb k), trip_k0_t1.sl.v1852 arg8 arg10 arg23 arg24 arg25 X_arg8 X_arg10 X_arg23 X_arg24 X_arg25 k⟩,
  ⟨Rect.unit (k0_off38 k) S1x32x128.size (k0_off38_inb k), trip_k0_t1.sl.v1815 arg8 arg10 arg23 arg24 arg25 X_arg8 X_arg10 X_arg23 X_arg24 X_arg25 k⟩,
  ⟨Rect.unit (k0_off36 k) S1x32x128.size (k0_off36_inb k), trip_k0_t1.sl.v1792 arg8 arg10 arg23 arg24 arg25 X_arg8 X_arg10 X_arg23 X_arg24 X_arg25 k⟩,
  ⟨Rect.unit (k0_off33 k) S1x32x128.size (k0_off33_inb k), trip_k0_t1.sl.v1755 arg8 arg10 arg23 arg24 arg25 X_arg8 X_arg10 X_arg23 X_arg24 X_arg25 k⟩,
  ⟨Rect.unit (k0_off31 k) S1x32x128.size (k0_off31_inb k), trip_k0_t1.sl.v1732 arg8 arg10 arg23 arg24 arg25 X_arg8 X_arg10 X_arg23 X_arg24 X_arg25 k⟩,
  ⟨Rect.unit (k0_off28 k) S1x32x128.size (k0_off28_inb k), trip_k0_t1.sl.v1695 arg8 arg10 arg23 arg24 arg25 X_arg8 X_arg10 X_arg23 X_arg24 X_arg25 k⟩,
  ⟨Rect.unit (k0_off26 k) S1x32x128.size (k0_off26_inb k), trip_k0_t1.sl.v1672 arg8 arg10 arg23 arg24 arg25 X_arg8 X_arg10 X_arg23 X_arg24 X_arg25 k⟩,
  ⟨Rect.unit (k0_off23 k) S1x32x128.size (k0_off23_inb k), trip_k0_t1.sl.v1635 arg8 arg10 arg23 arg24 arg25 X_arg8 X_arg10 X_arg23 X_arg24 X_arg25 k⟩,
  ⟨Rect.unit (k0_off21 k) S1x32x128.size (k0_off21_inb k), trip_k0_t1.sl.v1612 arg8 arg10 arg23 arg24 arg25 X_arg8 X_arg10 X_arg23 X_arg24 X_arg25 k⟩,
  ⟨Rect.unit (k0_off18 k) S1x32x128.size (k0_off18_inb k), trip_k0_t1.sl.v1575 arg8 arg10 arg23 arg24 arg25 X_arg8 X_arg10 X_arg23 X_arg24 X_arg25 k⟩,
  ⟨Rect.unit (k0_off16 k) S1x32x128.size (k0_off16_inb k), trip_k0_t1.sl.v1552 arg8 arg10 arg23 arg24 arg25 X_arg8 X_arg10 X_arg23 X_arg24 X_arg25 k⟩,
  ⟨Rect.unit (k0_off13 k) S1x32x128.size (k0_off13_inb k), trip_k0_t1.sl.v1515 arg8 arg10 arg23 arg24 arg25 X_arg8 X_arg10 X_arg23 X_arg24 X_arg25 k⟩,
  ⟨Rect.unit (k0_off11 k) S1x32x128.size (k0_off11_inb k), trip_k0_t1.sl.v1492 arg8 arg10 arg23 arg24 arg25 X_arg8 X_arg10 X_arg23 X_arg24 X_arg25 k⟩,
  ⟨Rect.unit (k0_off8 k) S1x32x128.size (k0_off8_inb k), trip_k0_t1.sl.v1455 arg8 arg10 arg23 arg24 arg25 X_arg8 X_arg10 X_arg23 X_arg24 X_arg25 k⟩,
  ⟨Rect.unit (k0_off6 k) S1x32x128.size (k0_off6_inb k), trip_k0_t1.sl.v1432 arg8 arg10 arg23 arg24 arg25 X_arg8 X_arg10 X_arg23 X_arg24 X_arg25 k⟩]

/-- What one trip stores in the buffer of lane sums. -/
def LS : List (View.Piece (Elt Ideal) S2x2x128x128 .f32) := [
  ⟨Rect.unit (k0_off207 k) S1x1x32x128.size (k0_off207_inb k), k0_pay432 (trip_k0_t1.sl.v3798 arg8 arg10 arg23 arg24 arg25 X_arg8 X_arg10 X_arg23 X_arg24 X_arg25 k)⟩,
  ⟨Rect.unit (k0_off206 k) S1x1x32x128.size (k0_off206_inb k), k0_pay431 (trip_k0_t1.sl.v3796 arg8 arg10 arg23 arg24 arg25 X_arg8 X_arg10 X_arg23 X_arg24 X_arg25 k)⟩,
  ⟨Rect.unit (k0_off205 k) S1x1x32x128.size (k0_off205_inb k), k0_pay430 (trip_k0_t1.sl.v3775 arg8 arg10 arg23 arg24 arg25 X_arg8 X_arg10 X_arg23 X_arg24 X_arg25 k)⟩,
  ⟨Rect.unit (k0_off204 k) S1x1x32x128.size (k0_off204_inb k), k0_pay429 (trip_k0_t1.sl.v3773 arg8 arg10 arg23 arg24 arg25 X_arg8 X_arg10 X_arg23 X_arg24 X_arg25 k)⟩]

theorem mem3 (off : Fin S2x128x5120.rank → ℕ) (inb) (b K c : ℕ) (h : off = ![b, 32 * K, c]) (y : S2x128x5120.Idx) (h0 : (y 0).val = b)
    (h1 : 32 * K ≤ (y 1).val ∧ (y 1).val < 32 * K + 32) (h2 : c ≤ (y 2).val ∧ (y 2).val < c + 128) :
    y ∈ (Rect.unit (s := S2x128x5120) off S1x32x128.size inb).set := by
  subst h; rw [Rect.mem_set_unit]; intro q; fin_cases q
  · exact ⟨le_of_eq h0.symm, by show (y 0).val < b + 1; omega⟩
  · exact h1
  · exact h2

theorem mem4 (off : Fin S2x2x128x128.rank → ℕ) (inb) (a b K : ℕ) (h : off = ![a, b, 32 * K, 0]) (y : S2x2x128x128.Idx) (h0 : (y 0).val = a) (h0' : (y 1).val = b)
    (h1 : 32 * K ≤ (y 2).val ∧ (y 2).val < 32 * K + 32) :
    y ∈ (Rect.unit (s := S2x2x128x128) off S1x1x32x128.size inb).set := by
  subst h; rw [Rect.mem_set_unit]; intro q; fin_cases q
  · exact ⟨le_of_eq h0.symm, by show (y 0).val < a + 1; omega⟩
  · exact ⟨le_of_eq h0'.symm, by show (y 1).val < b + 1; omega⟩
  · exact h1
  · exact ⟨Nat.zero_le _, by show (y 3).val < 0 + 128; have := (y 3).isLt; have e : S2x2x128x128.size 3 = 128 := rfl; omega⟩

include hT25 in
theorem LH_val : ∀ p ∈ LH arg8 arg10 arg23 arg24 arg25 X_arg8 X_arg10 X_arg23 X_arg24 X_arg25 k, ∀ x : p.1.shape.Idx, p.2 x = (fun y : S2x128x5120.Idx => HH arg8 arg10 arg23 arg24 X_arg8 X_arg10 X_arg23 X_arg24 TT (y 0) (y 1) (y 2)) (p.1.emb x) := by
  unfold LH
  simp only [List.forall_mem_cons]
  exact ⟨p_39_1 arg8 arg10 arg23 arg24 arg25 X_arg8 X_arg10 X_arg23 X_arg24 X_arg25 k TT hT25, p_39_0 arg8 arg10 arg23 arg24 arg25 X_arg8 X_arg10 X_arg23 X_arg24 X_arg25 k TT hT25, p_38_1 arg8 arg10 arg23 arg24 arg25 X_arg8 X_arg10 X_arg23 X_arg24 X_arg25 k TT hT25, p_38_0 arg8 arg10 arg23 arg24 arg25 X_arg8 X_arg10 X_arg23 X_arg24 X_arg25 k TT hT25, p_37_1 arg8 arg10 arg23 arg24 arg25 X_arg8 X_arg10 X_arg23 X_arg24 X_arg25 k TT hT25, p_37_0 arg8 arg10 arg23 arg24 arg25 X_arg8 X_arg10 X_arg23 X_arg24 X_arg25 k TT hT25, p_36_1 arg8 arg10 arg23 arg24 arg25 X_arg8 X_arg10 X_arg23 X_arg24 X_arg25 k TT hT25, p_36_0 arg8 arg10 arg23 arg24 arg25 X_arg8 X_arg10 X_arg23 X_arg24 X_arg25 k TT hT25, p_35_1 arg8 arg10 arg23 arg24 arg25 X_arg8 X_arg10 X_arg23 X_arg24 X_arg25 k TT hT25, p_35_0 arg8 arg10 arg23 arg24 arg25 X_arg8 X_arg10 X_arg23 X_arg24 X_arg25 k TT hT25, p_34_1 arg8 arg10 arg23 arg24 arg25 X_arg8 X_arg10 X_arg23 X_arg24 X_arg25 k TT hT25, p_34_0 arg8 arg10 arg23 arg24 arg25 X_arg8 X_arg10 X_arg23 X_arg24 X_arg25 k TT hT25, p_33_1 arg8 arg10 arg23 arg24 arg25 X_arg8 X_arg10 X_arg23 X_arg24 X_arg25 k TT hT25, p_33_0 arg8 arg10 arg23 arg24 arg25 X_arg8 X_arg10 X_arg23 X_arg24 X_arg25 k TT hT25, p_32_1 arg8 arg10 arg23 arg24 arg25 X_arg8 X_arg10 X_arg23 X_arg24 X_arg25 k TT hT25, p_32_0 arg8 arg10 arg23 arg24 arg25 X_arg8 X_arg10 X_arg23 X_arg24 X_arg25 k TT hT25, p_31_1 arg8 arg10 arg23 arg24 arg25 X_arg8 X_arg10 X_arg23 X_arg24 X_arg25 k TT hT25, p_31_0 arg8 arg10 arg23 arg24 arg25 X_arg8 X_arg10 X_arg23 X_arg24 X_arg25 k TT hT25, p_30_1 arg8 arg10 arg23 arg24 arg25 X_arg8 X_arg10 X_arg23 X_arg24 X_arg25 k TT hT25, p_30_0 arg8 arg10 arg23 arg24 arg25 X_arg8 X_arg10 X_arg23 X_arg24 X_arg25 k TT hT25, p_29_1 arg8 arg10 arg23 arg24 arg25 X_arg8 X_arg10 X_arg23 X_arg24 X_arg25 k TT hT25, p_29_0 arg8 arg10 arg23 arg24 arg25 X_arg8 X_arg10 X_arg23 X_arg24 X_arg25 k TT hT25, p_28_1 arg8 arg10 arg23 arg24 arg25 X_arg8 X_arg10 X_arg23 X_arg24 X_arg25 k TT hT25, p_28_0 arg8 arg10 arg23 arg24 arg25 X_arg8 X_arg10 X_arg23 X_arg24 X_arg25 k TT hT25, p_27_1 arg8 arg10 arg23 arg24 arg25 X_arg8 X_arg10 X_arg23 X_arg24 X_arg25 k TT hT25, p_27_0 arg8 arg10 arg23 arg24 arg25 X_arg8 X_arg10 X_arg23 X_arg24 X_arg25 k TT hT25, p_26_1 arg8 arg10 arg23 arg24 arg25 X_arg8 X_arg10 X_arg23 X_arg24 X_arg25 k TT hT25, p_26_0 arg8 arg10 arg23 arg24 arg25 X_arg8 X_arg10 X_arg23 X_arg24 X_arg25 k TT hT25, p_25_1 arg8 arg10 arg23 arg24 arg25 X_arg8 X_arg10 X_arg23 X_arg24 X_arg25 k TT hT25, p_25_0 arg8 arg10 arg23 arg24 arg25 X_arg8 X_arg10 X_arg23 X_arg24 X_arg25 k TT hT25, p_24_1 arg8 arg10 arg23 arg24 arg25 X_arg8 X_arg10 X_arg23 X_arg24 X_arg25 k TT hT25, p_24_0 arg8 arg10 arg23 arg24 arg25 X_arg8 X_arg10 X_arg23 X_arg24 X_arg25 k TT hT25, p_23_1 arg8 arg10 arg23 arg24 arg25 X_arg8 X_arg10 X_arg23 X_arg24 X_arg25 k TT hT25, p_23_0 arg8 arg10 arg23 arg24 arg25 X_arg8 X_arg10 X_arg23 X_arg24 X_arg25 k TT hT25, p_22_1 arg8 arg10 arg23 arg24 arg25 X_arg8 X_arg10 X_arg23 X_arg24 X_arg25 k TT hT25, p_22_0 arg8 arg10 arg23 arg24 arg25 X_arg8 X_arg10 X_arg23 X_arg24 X_arg25 k TT hT25, p_21_1 arg8 arg10 arg23 arg24 arg25 X_arg8 X_arg10 X_arg23 X_arg24 X_arg25 k TT hT25, p_21_0 arg8 arg10 arg23 arg24 arg25 X_arg8 X_arg10 X_arg23 X_arg24 X_arg25 k TT hT25, p_20_1 arg8 arg10 arg23 arg24 arg25 X_arg8 X_arg10 X_arg23 X_arg24 X_arg25 k TT hT25, p_20_0 arg8 arg10 arg23 arg24 arg25 X_arg8 X_arg10 X_arg23 X_arg24 X_arg25 k TT hT25, p_19_1 arg8 arg10 arg23 arg24 arg25 X_arg8 X_arg10 X_arg23 X_arg24 X_arg25 k TT hT25, p_19_0 arg8 arg10 arg23 arg24 arg25 X_arg8 X_arg10 X_arg23 X_arg24 X_arg25 k TT hT25, p_18_1 arg8 arg10 arg23 arg24 arg25 X_arg8 X_arg10 X_arg23 X_arg24 X_arg25 k TT hT25, p_18_0 arg8 arg10 arg23 arg24 arg25 X_arg8 X_arg10 X_arg23 X_arg24 X_arg25 k TT hT25, p_17_1 arg8 arg10 arg23 arg24 arg25 X_arg8 X_arg10 X_arg23 X_arg24 X_arg25 k TT hT25, p_17_0 arg8 arg10 arg23 arg24 arg25 X_arg8 X_arg10 X_arg23 X_arg24 X_arg25 k TT hT25, p_16_1 arg8 arg10 arg23 arg24 arg25 X_arg8 X_arg10 X_arg23 X_arg24 X_arg25 k TT hT25, p_16_0 arg8 arg10 arg23 arg24 arg25 X_arg8 X_arg10 X_arg23 X_arg24 X_arg25 k TT hT25, p_15_1 arg8 arg10 arg23 arg24 arg25 X_arg8 X_arg10 X_arg23 X_arg24 X_arg25 k TT hT25, p_15_0 arg8 arg10 arg23 arg24 arg25 X_arg8 X_arg10 X_arg23 X_arg24 X_arg25 k TT hT25, p_14_1 arg8 arg10 arg23 arg24 arg25 X_arg8 X_arg10 X_arg23 X_arg24 X_arg25 k TT hT25, p_14_0 arg8 arg10 arg23 arg24 arg25 X_arg8 X_arg10 X_arg23 X_arg24 X_arg25 k TT hT25, p_13_1 arg8 arg10 arg23 arg24 arg25 X_arg8 X_arg10 X_arg23 X_arg24 X_arg25 k TT hT25, p_13_0 arg8 arg10 arg23 arg24 arg25 X_arg8 X_arg10 X_arg23 X_arg24 X_arg25 k TT hT25, p_12_1 arg8 arg10 arg23 arg24 arg25 X_arg8 X_arg10 X_arg23 X_arg24 X_arg25 k TT hT25, p_12_0 arg8 arg10 arg23 arg24 arg25 X_arg8 X_arg10 X_arg23 X_arg24 X_arg25 k TT hT25, p_11_1 arg8 arg10 arg23 arg24 arg25 X_arg8 X_arg10 X_arg23 X_arg24 X_arg25 k TT hT25, p_11_0 arg8 arg10 arg23 arg24 arg25 X_arg8 X_arg10 X_arg23 X_arg24 X_arg25 k TT hT25, p_10_1 arg8 arg10 arg23 arg24 arg25 X_arg8 X_arg10 X_arg23 X_arg24 X_arg25 k TT hT25, p_10_0 arg8 arg10 arg23 arg24 arg25 X_arg8 X_arg10 X_arg23 X_arg24 X_arg25 k TT hT25, p_9_1 arg8 arg10 arg23 arg24 arg25 X_arg8 X_arg10 X_arg23 X_arg24 X_arg25 k TT hT25, p_9_0 arg8 arg10 arg23 arg24 arg25 X_arg8 X_arg10 X_arg23 X_arg24 X_arg25 k TT hT25, p_8_1 arg8 arg10 arg23 arg24 arg25 X_arg8 X_arg10 X_arg23 X_arg24 X_arg25 k TT hT25, p_8_0 arg8 arg10 arg23 arg24 arg25 X_arg8 X_arg10 X_arg23 X_arg24 X_arg25 k TT hT25, p_7_1 arg8 arg10 arg23 arg24 arg25 X_arg8 X_arg10 X_arg23 X_arg24 X_arg25 k TT hT25, p_7_0 arg8 arg10 arg23 arg24 arg25 X_arg8 X_arg10 X_arg23 X_arg24 X_arg25 k TT hT25, p_6_1 arg8 arg10 arg23 arg24 arg25 X_arg8 X_arg10 X_arg23 X_arg24 X_arg25 k TT hT25, p_6_0 arg8 arg10 arg23 arg24 arg25 X_arg8 X_arg10 X_arg23 X_arg24 X_arg25 k TT hT25, p_5_1 arg8 arg10 arg23 arg24 arg25 X_arg8 X_arg10 X_arg23 X_arg24 X_arg25 k TT hT25, p_5_0 arg8 arg10 arg23 arg24 arg25 X_arg8 X_arg10 X_arg23 X_arg24 X_arg25 k TT hT25, p_4_1 arg8 arg10 arg23 arg24 arg25 X_arg8 X_arg10 X_arg23 X_arg24 X_arg25 k TT hT25, p_4_0 arg8 arg10 arg23 arg24 arg25 X_arg8 X_arg10 X_arg23 X_arg24 X_arg25 k TT hT25, p_3_1 arg8 arg10 arg23 arg24 arg25 X_arg8 X_arg10 X_arg23 X_arg24 X_arg25 k TT hT25, p_3_0 arg8 arg10 arg23 arg24 arg25 X_arg8 X_arg10 X_arg23 X_arg24 X_arg25 k TT hT25, p_2_1 arg8 arg10 arg23 arg24 arg25 X_arg8 X_arg10 X_arg23 X_arg24 X_arg25 k TT hT25, p_2_0 arg8 arg10 arg23 arg24 arg25 X_arg8 X_arg10 X_arg23 X_arg24 X_arg25 k TT hT25, p_1_1 arg8 arg10 arg23 arg24 arg25 X_arg8 X_arg10 X_arg23 X_arg24 X_arg25 k TT hT25, p_1_0 arg8 arg10 arg23 arg24 arg25 X_arg8 X_arg10 X_arg23 X_arg24 X_arg25 k TT hT25, p_0_1 arg8 arg10 arg23 arg24 arg25 X_arg8 X_arg10 X_arg23 X_arg24 X_arg25 k TT hT25, p_0_0 arg8 arg10 arg23 arg24 arg25 X_arg8 X_arg10 X_arg23 X_arg24 X_arg25 k TT hT25, fun _ h => absurd h List.not_mem_nil⟩

include hT25 in
theorem LS_val : ∀ p ∈ LS arg8 arg10 arg23 arg24 arg25 X_arg8 X_arg10 X_arg23 X_arg24 X_arg25 k, ∀ x : p.1.shape.Idx, p.2 x = (fun y : S2x2x128x128.Idx => SS arg8 arg10 arg23 arg24 X_arg8 X_arg10 X_arg23 X_arg24 TT (y 0) (y 1) (y 2) (y 3)) (p.1.emb x) := by
  unfold LS
  simp only [List.forall_mem_cons]
  exact ⟨q_1_1 arg8 arg10 arg23 arg24 arg25 X_arg8 X_arg10 X_arg23 X_arg24 X_arg25 k TT hT25, q_0_1 arg8 arg10 arg23 arg24 arg25 X_arg8 X_arg10 X_arg23 X_arg24 X_arg25 k TT hT25, q_1_0 arg8 arg10 arg23 arg24 arg25 X_arg8 X_arg10 X_arg23 X_arg24 X_arg25 k TT hT25, q_0_0 arg8 arg10 arg23 arg24 arg25 X_arg8 X_arg10 X_arg23 X_arg24 X_arg25 k TT hT25, fun _ h => absurd h List.not_mem_nil⟩

theorem LH_cover (y : S2x128x5120.Idx) (h1 : 32 * k.val ≤ (y 1).val ∧ (y 1).val < 32 * k.val + 32) : ∃ p ∈ LH arg8 arg10 arg23 arg24 arg25 X_arg8 X_arg10 X_arg23 X_arg24 X_arg25 k, y ∈ p.1.set := by
  by_contra hn
  have hn : ∀ p ∈ LH arg8 arg10 arg23 arg24 arg25 X_arg8 X_arg10 X_arg23 X_arg24 X_arg25 k, y ∉ p.1.set := fun p hp hy => hn ⟨p, hp, hy⟩
  unfold LH at hn
  simp only [List.forall_mem_cons] at hn
  obtain ⟨n0, n1, n2, n3, n4, n5, n6, n7, n8, n9, n10, n11, n12, n13, n14, n15, n16, n17, n18, n19, n20, n21, n22, n23, n24, n25, n26, n27, n28, n29, n30, n31, n32, n33, n34, n35, n36, n37, n38, n39, n40, n41, n42, n43, n44, n45, n46, n47, n48, n49, n50, n51, n52, n53, n54, n55, n56, n57, n58, n59, n60, n61, n62, n63, n64, n65, n66, n67, n68, n69, n70, n71, n72, n73, n74, n75, n76, n77, n78, n79, -⟩ := hn
  obtain ⟨g, hg⟩ : ∃ g : Fin 40, (y 2).val / 128 = g.val := ⟨⟨(y 2).val / 128, by have := (y 2).isLt; have e : S2x128x5120.size 2 = 5120 := rfl; omega⟩, rfl⟩
  obtain ⟨b, hb⟩ : ∃ b : Fin 2, (y 0).val = b.val := ⟨⟨(y 0).val, (y 0).isLt⟩, rfl⟩
  fin_cases g <;> fin_cases b
  · exact n79 (mem3 _ _ 0 k.val 0 (k0_off6_eq k) y hb h1 ⟨by change (y 2).val / 128 = 0 at hg; omega, by change (y 2).val / 128 = 0 at hg; omega⟩)
  · exact n78 (mem3 _ _ 1 k.val 0 (k0_off8_eq k) y hb h1 ⟨by change (y 2).val / 128 = 0 at hg; omega, by change (y 2).val / 128 = 0 at hg; omega⟩)
  · exact n77 (mem3 _ _ 0 k.val 128 (k0_off11_eq k) y hb h1 ⟨by change (y 2).val / 128 = 1 at hg; omega, by change (y 2).val / 128 = 1 at hg; omega⟩)
  · exact n76 (mem3 _ _ 1 k.val 128 (k0_off13_eq k) y hb h1 ⟨by change (y 2).val / 128 = 1 at hg; omega, by change (y 2).val / 128 = 1 at hg; omega⟩)
  · exact n75 (mem3 _ _ 0 k.val 256 (k0_off16_eq k) y hb h1 ⟨by change (y 2).val / 128 = 2 at hg; omega, by change (y 2).val / 128 = 2 at hg; omega⟩)
  · exact n74 (mem3 _ _ 1 k.val 256 (k0_off18_eq k) y hb h1 ⟨by change (y 2).val / 128 = 2 at hg; omega, by change (y 2).val / 128 = 2 at hg; omega⟩)
  · exact n73 (mem3 _ _ 0 k.val 384 (k0_off21_eq k) y hb h1 ⟨by change (y 2).val / 128 = 3 at hg; omega, by change (y 2).val / 128 = 3 at hg; omega⟩)
  · exact n72 (mem3 _ _ 1 k.val 384 (k0_off23_eq k) y hb h1 ⟨by change (y 2).val / 128 = 3 at hg; omega, by change (y 2).val / 128 = 3 at hg; omega⟩)
  · exact n71 (mem3 _ _ 0 k.val 512 (k0_off26_eq k) y hb h1 ⟨by change (y 2).val / 128 = 4 at hg; omega, by change (y 2).val / 128 = 4 at hg; omega⟩)
  · exact n70 (mem3 _ _ 1 k.val 512 (k0_off28_eq k) y hb h1 ⟨by change (y 2).val / 128 = 4 at hg; omega, by change (y 2).val / 128 = 4 at hg; omega⟩)
  · exact n69 (mem3 _ _ 0 k.val 640 (k0_off31_eq k) y hb h1 ⟨by change (y 2).val / 128 = 5 at hg; omega, by change (y 2).val / 128 = 5 at hg; omega⟩)
  · exact n68 (mem3 _ _ 1 k.val 640 (k0_off33_eq k) y hb h1 ⟨by change (y 2).val / 128 = 5 at hg; omega, by change (y 2).val / 128 = 5 at hg; omega⟩)
  · exact n67 (mem3 _ _ 0 k.val 768 (k0_off36_eq k) y hb h1 ⟨by change (y 2).val / 128 = 6 at hg; omega, by change (y 2).val / 128 = 6 at hg; omega⟩)
  · exact n66 (mem3 _ _ 1 k.val 768 (k0_off38_eq k) y hb h1 ⟨by change (y 2).val / 128 = 6 at hg; omega, by change (y 2).val / 128 = 6 at hg; omega⟩)
  · exact n65 (mem3 _ _ 0 k.val 896 (k0_off41_eq k) y hb h1 ⟨by change (y 2).val / 128 = 7 at hg; omega, by change (y 2).val / 128 = 7 at hg; omega⟩)
  · exact n64 (mem3 _ _ 1 k.val 896 (k0_off43_eq k) y hb h1 ⟨by change (y 2).val / 128 = 7 at hg; omega, by change (y 2).val / 128 = 7 at hg; omega⟩)
  · exact n63 (mem3 _ _ 0 k.val 1024 (k0_off46_eq k) y hb h1 ⟨by change (y 2).val / 128 = 8 at hg; omega, by change (y 2).val / 128 = 8 at hg; omega⟩)
  · exact n62 (mem3 _ _ 1 k.val 1024 (k0_off48_eq k) y hb h1 ⟨by change (y 2).val / 128 = 8 at hg; omega, by change (y 2).val / 128 = 8 at hg; omega⟩)
  · exact n61 (mem3 _ _ 0 k.val 1152 (k0_off51_eq k) y hb h1 ⟨by change (y 2).val / 128 = 9 at hg; omega, by change (y 2).val / 128 = 9 at hg; omega⟩)
  · exact n60 (mem3 _ _ 1 k.val 1152 (k0_off53_eq k) y hb h1 ⟨by change (y 2).val / 128 = 9 at hg; omega, by change (y 2).val / 128 = 9 at hg; omega⟩)
  · exact n59 (mem3 _ _ 0 k.val 1280 (k0_off56_eq k) y hb h1 ⟨by change (y 2).val / 128 = 10 at hg; omega, by change (y 2).val / 128 = 10 at hg; omega⟩)
  · exact n58 (mem3 _ _ 1 k.val 1280 (k0_off58_eq k) y hb h1 ⟨by change (y 2).val / 128 = 10 at hg; omega, by change (y 2).val / 128 = 10 at hg; omega⟩)
  · exact n57 (mem3 _ _ 0 k.val 1408 (k0_off61_eq k) y hb h1 ⟨by change (y 2).val / 128 = 11 at hg; omega, by change (y 2).val / 128 = 11 at hg; omega⟩)
  · exact n56 (mem3 _ _ 1 k.val 1408 (k0_off63_eq k) y hb h1 ⟨by change (y 2).val / 128 = 11 at hg; omega, by change (y 2).val / 128 = 11 at hg; omega⟩)
  · exact n55 (mem3 _ _ 0 k.val 1536 (k0_off66_eq k) y hb h1 ⟨by change (y 2).val / 128 = 12 at hg; omega, by change (y 2).val / 128 = 12 at hg; omega⟩)
  · exact n54 (mem3 _ _ 1 k.val 1536 (k0_off68_eq k) y hb h1 ⟨by change (y 2).val / 128 = 12 at hg; omega, by change (y 2).val / 128 = 12 at hg; omega⟩)
  · exact n53 (mem3 _ _ 0 k.val 1664 (k0_off71_eq k) y hb h1 ⟨by change (y 2).val / 128 = 13 at hg; omega, by change (y 2).val / 128 = 13 at hg; omega⟩)
  · exact n52 (mem3 _ _ 1 k.val 1664 (k0_off73_eq k) y hb h1 ⟨by change (y 2).val / 128 = 13 at hg; omega, by change (y 2).val / 128 = 13 at hg; omega⟩)
  · exact n51 (mem3 _ _ 0 k.val 1792 (k0_off76_eq k) y hb h1 ⟨by change (y 2).val / 128 = 14 at hg; omega, by change (y 2).val / 128 = 14 at hg; omega⟩)
  · exact n50 (mem3 _ _ 1 k.val 1792 (k0_off78_eq k) y hb h1 ⟨by change (y 2).val / 128 = 14 at hg; omega, by change (y 2).val / 128 = 14 at hg; omega⟩)
  · exact n49 (mem3 _ _ 0 k.val 1920 (k0_off81_eq k) y hb h1 ⟨by change (y 2).val / 128 = 15 at hg; omega, by change (y 2).val / 128 = 15 at hg; omega⟩)
  · exact n48 (mem3 _ _ 1 k.val 1920 (k0_off83_eq k) y hb h1 ⟨by change (y 2).val / 128 = 15 at hg; omega, by change (y 2).val / 128 = 15 at hg; omega⟩)
  · exact n47 (mem3 _ _ 0 k.val 2048 (k0_off86_eq k) y hb h1 ⟨by change (y 2).val / 128 = 16 at hg; omega, by change (y 2).val / 128 = 16 at hg; omega⟩)
  · exact n46 (mem3 _ _ 1 k.val 2048 (k0_off88_eq k) y hb h1 ⟨by change (y 2).val / 128 = 16 at hg; omega, by change (y 2).val / 128 = 16 at hg; omega⟩)
  · exact n45 (mem3 _ _ 0 k.val 2176 (k0_off91_eq k) y hb h1 ⟨by change (y 2).val / 128 = 17 at hg; omega, by change (y 2).val / 128 = 17 at hg; omega⟩)
  · exact n44 (mem3 _ _ 1 k.val 2176 (k0_off93_eq k) y hb h1 ⟨by change (y 2).val / 128 = 17 at hg; omega, by change (y 2).val / 128 = 17 at hg; omega⟩)
  · exact n43 (mem3 _ _ 0 k.val 2304 (k0_off96_eq k) y hb h1 ⟨by change (y 2).val / 128 = 18 at hg; omega, by change (y 2).val / 128 = 18 at hg; omega⟩)
  · exact n42 (mem3 _ _ 1 k.val 2304 (k0_off98_eq k) y hb h1 ⟨by change (y 2).val / 128 = 18 at hg; omega, by change (y 2).val / 128 = 18 at hg; omega⟩)
  · exact n41 (mem3 _ _ 0 k.val 2432 (k0_off101_eq k) y hb h1 ⟨by change (y 2).val / 128 = 19 at hg; omega, by change (y 2).val / 128 = 19 at hg; omega⟩)
  · exact n40 (mem3 _ _ 1 k.val 2432 (k0_off103_eq k) y hb h1 ⟨by change (y 2).val / 128 = 19 at hg; omega, by change (y 2).val / 128 = 19 at hg; omega⟩)
  · exact n39 (mem3 _ _ 0 k.val 2560 (k0_off106_eq k) y hb h1 ⟨by change (y 2).val / 128 = 20 at hg; omega, by change (y 2).val / 128 = 20 at hg; omega⟩)
  · exact n38 (mem3 _ _ 1 k.val 2560 (k0_off108_eq k) y hb h1 ⟨by change (y 2).val / 128 = 20 at hg; omega, by change (y 2).val / 128 = 20 at hg; omega⟩)
  · exact n37 (mem3 _ _ 0 k.val 2688 (k0_off111_eq k) y hb h1 ⟨by change (y 2).val / 128 = 21 at hg; omega, by change (y 2).val / 128 = 21 at hg; omega⟩)
  · exact n36 (mem3 _ _ 1 k.val 2688 (k0_off113_eq k) y hb h1 ⟨by change (y 2).val / 128 = 21 at hg; omega, by change (y 2).val / 128 = 21 at hg; omega⟩)
  · exact n35 (mem3 _ _ 0 k.val 2816 (k0_off116_eq k) y hb h1 ⟨by change (y 2).val / 128 = 22 at hg; omega, by change (y 2).val / 128 = 22 at hg; omega⟩)
  · exact n34 (mem3 _ _ 1 k.val 2816 (k0_off118_eq k) y hb h1 ⟨by change (y 2).val / 128 = 22 at hg; omega, by change (y 2).val / 128 = 22 at hg; omega⟩)
  · exact n33 (mem3 _ _ 0 k.val 2944 (k0_off121_eq k) y hb h1 ⟨by change (y 2).val / 128 = 23 at hg; omega, by change (y 2).val / 128 = 23 at hg; omega⟩)
  · exact n32 (mem3 _ _ 1 k.val 2944 (k0_off123_eq k) y hb h1 ⟨by change (y 2).val / 128 = 23 at hg; omega, by change (y 2).val / 128 = 23 at hg; omega⟩)
  · exact n31 (mem3 _ _ 0 k.val 3072 (k0_off126_eq k) y hb h1 ⟨by change (y 2).val / 128 = 24 at hg; omega, by change (y 2).val / 128 = 24 at hg; omega⟩)
  · exact n30 (mem3 _ _ 1 k.val 3072 (k0_off128_eq k) y hb h1 ⟨by change (y 2).val / 128 = 24 at hg; omega, by change (y 2).val / 128 = 24 at hg; omega⟩)
  · exact n29 (mem3 _ _ 0 k.val 3200 (k0_off131_eq k) y hb h1 ⟨by change (y 2).val / 128 = 25 at hg; omega, by change (y 2).val / 128 = 25 at hg; omega⟩)
  · exact n28 (mem3 _ _ 1 k.val 3200 (k0_off133_eq k) y hb h1 ⟨by change (y 2).val / 128 = 25 at hg; omega, by change (y 2).val / 128 = 25 at hg; omega⟩)
  · exact n27 (mem3 _ _ 0 k.val 3328 (k0_off136_eq k) y hb h1 ⟨by change (y 2).val / 128 = 26 at hg; omega, by change (y 2).val / 128 = 26 at hg; omega⟩)
  · exact n26 (mem3 _ _ 1 k.val 3328 (k0_off138_eq k) y hb h1 ⟨by change (y 2).val / 128 = 26 at hg; omega, by change (y 2).val / 128 = 26 at hg; omega⟩)
  · exact n25 (mem3 _ _ 0 k.val 3456 (k0_off141_eq k) y hb h1 ⟨by change (y 2).val / 128 = 27 at hg; omega, by change (y 2).val / 128 = 27 at hg; omega⟩)
  · exact n24 (mem3 _ _ 1 k.val 3456 (k0_off143_eq k) y hb h1 ⟨by change (y 2).val / 128 = 27 at hg; omega, by change (y 2).val / 128 = 27 at hg; omega⟩)
  · exact n23 (mem3 _ _ 0 k.val 3584 (k0_off146_eq k) y hb h1 ⟨by change (y 2).val / 128 = 28 at hg; omega, by change (y 2).val / 128 = 28 at hg; omega⟩)
  · exact n22 (mem3 _ _ 1 k.val 3584 (k0_off148_eq k) y hb h1 ⟨by change (y 2).val / 128 = 28 at hg; omega, by change (y 2).val / 128 = 28 at hg; omega⟩)
  · exact n21 (mem3 _ _ 0 k.val 3712 (k0_off151_eq k) y hb h1 ⟨by change (y 2).val / 128 = 29 at hg; omega, by change (y 2).val / 128 = 29 at hg; omega⟩)
  · exact n20 (mem3 _ _ 1 k.val 3712 (k0_off153_eq k) y hb h1 ⟨by change (y 2).val / 128 = 29 at hg; omega, by change (y 2).val / 128 = 29 at hg; omega⟩)
  · exact n19 (mem3 _ _ 0 k.val 3840 (k0_off156_eq k) y hb h1 ⟨by change (y 2).val / 128 = 30 at hg; omega, by change (y 2).val / 128 = 30 at hg; omega⟩)
  · exact n18 (mem3 _ _ 1 k.val 3840 (k0_off158_eq k) y hb h1 ⟨by change (y 2).val / 128 = 30 at hg; omega, by change (y 2).val / 128 = 30 at hg; omega⟩)
  · exact n17 (mem3 _ _ 0 k.val 3968 (k0_off161_eq k) y hb h1 ⟨by change (y 2).val / 128 = 31 at hg; omega, by change (y 2).val / 128 = 31 at hg; omega⟩)
  · exact n16 (mem3 _ _ 1 k.val 3968 (k0_off163_eq k) y hb h1 ⟨by change (y 2).val / 128 = 31 at hg; omega, by change (y 2).val / 128 = 31 at hg; omega⟩)
  · exact n15 (mem3 _ _ 0 k.val 4096 (k0_off166_eq k) y hb h1 ⟨by change (y 2).val / 128 = 32 at hg; omega, by change (y 2).val / 128 = 32 at hg; omega⟩)
  · exact n14 (mem3 _ _ 1 k.val 4096 (k0_off168_eq k) y hb h1 ⟨by change (y 2).val / 128 = 32 at hg; omega, by change (y 2).val / 128 = 32 at hg; omega⟩)
  · exact n13 (mem3 _ _ 0 k.val 4224 (k0_off171_eq k) y hb h1 ⟨by change (y 2).val / 128 = 33 at hg; omega, by change (y 2).val / 128 = 33 at hg; omega⟩)
  · exact n12 (mem3 _ _ 1 k.val 4224 (k0_off173_eq k) y hb h1 ⟨by change (y 2).val / 128 = 33 at hg; omega, by change (y 2).val / 128 = 33 at hg; omega⟩)
  · exact n11 (mem3 _ _ 0 k.val 4352 (k0_off176_eq k) y hb h1 ⟨by change (y 2).val / 128 = 34 at hg; omega, by change (y 2).val / 128 = 34 at hg; omega⟩)
  · exact n10 (mem3 _ _ 1 k.val 4352 (k0_off178_eq k) y hb h1 ⟨by change (y 2).val / 128 = 34 at hg; omega, by change (y 2).val / 128 = 34 at hg; omega⟩)
  · exact n9 (mem3 _ _ 0 k.val 4480 (k0_off181_eq k) y hb h1 ⟨by change (y 2).val / 128 = 35 at hg; omega, by change (y 2).val / 128 = 35 at hg; omega⟩)
  · exact n8 (mem3 _ _ 1 k.val 4480 (k0_off183_eq k) y hb h1 ⟨by change (y 2).val / 128 = 35 at hg; omega, by change (y 2).val / 128 = 35 at hg; omega⟩)
  · exact n7 (mem3 _ _ 0 k.val 4608 (k0_off186_eq k) y hb h1 ⟨by change (y 2).val / 128 = 36 at hg; omega, by change (y 2).val / 128 = 36 at hg; omega⟩)
  · exact n6 (mem3 _ _ 1 k.val 4608 (k0_off188_eq k) y hb h1 ⟨by change (y 2).val / 128 = 36 at hg; omega, by change (y 2).val / 128 = 36 at hg; omega⟩)
  · exact n5 (mem3 _ _ 0 k.val 4736 (k0_off191_eq k) y hb h1 ⟨by change (y 2).val / 128 = 37 at hg; omega, by change (y 2).val / 128 = 37 at hg; omega⟩)
  · exact n4 (mem3 _ _ 1 k.val 4736 (k0_off193_eq k) y hb h1 ⟨by change (y 2).val / 128 = 37 at hg; omega, by change (y 2).val / 128 = 37 at hg; omega⟩)
  · exact n3 (mem3 _ _ 0 k.val 4864 (k0_off196_eq k) y hb h1 ⟨by change (y 2).val / 128 = 38 at hg; omega, by change (y 2).val / 128 = 38 at hg; omega⟩)
  · exact n2 (mem3 _ _ 1 k.val 4864 (k0_off198_eq k) y hb h1 ⟨by change (y 2).val / 128 = 38 at hg; omega, by change (y 2).val / 128 = 38 at hg; omega⟩)
  · exact n1 (mem3 _ _ 0 k.val 4992 (k0_off201_eq k) y hb h1 ⟨by change (y 2).val / 128 = 39 at hg; omega, by change (y 2).val / 128 = 39 at hg; omega⟩)
  · exact n0 (mem3 _ _ 1 k.val 4992 (k0_off203_eq k) y hb h1 ⟨by change (y 2).val / 128 = 39 at hg; omega, by change (y 2).val / 128 = 39 at hg; omega⟩)

theorem LS_cover (y : S2x2x128x128.Idx) (h1 : 32 * k.val ≤ (y 2).val ∧ (y 2).val < 32 * k.val + 32) : ∃ p ∈ LS arg8 arg10 arg23 arg24 arg25 X_arg8 X_arg10 X_arg23 X_arg24 X_arg25 k, y ∈ p.1.set := by
  by_contra hn
  have hn : ∀ p ∈ LS arg8 arg10 arg23 arg24 arg25 X_arg8 X_arg10 X_arg23 X_arg24 X_arg25 k, y ∉ p.1.set := fun p hp hy => hn ⟨p, hp, hy⟩
  unfold LS at hn
  simp only [List.forall_mem_cons] at hn
  obtain ⟨n0, n1, n2, n3, -⟩ := hn
  obtain ⟨a, ha⟩ : ∃ b : Fin 2, (y 0).val = b.val := ⟨⟨(y 0).val, (y 0).isLt⟩, rfl⟩
  obtain ⟨b, hb⟩ : ∃ b : Fin 2, (y 1).val = b.val := ⟨⟨(y 1).val, (y 1).isLt⟩, rfl⟩
  fin_cases a <;> fin_cases b
  · exact n3 (mem4 _ _ 0 0 k.val (k0_off204_eq k) y ha hb h1)
  · exact n1 (mem4 _ _ 0 1 k.val (k0_off206_eq k) y ha hb h1)
  · exact n2 (mem4 _ _ 1 0 k.val (k0_off205_eq k) y ha hb h1)
  · exact n0 (mem4 _ _ 1 1 k.val (k0_off207_eq k) y ha hb h1)

end

variable (𝒱 : Variants) (c : Dev nD) (bd : Option 𝒱.V) (i : grid0.Coords) (arg2 : Memref sig .tc .smem S4 .f32) (harg2 : arg2.IsWhole) (arg3 : Memref sig .tc .smem S1 .f32) (harg3 : arg3.IsWhole) (arg4 : Memref sig .tc .vmem S1x64x128 .fp8e4m3) (harg4 : arg4.IsWhole) (arg5 : Memref sig .tc .vmem S64x5120 .fp8e4m3) (harg5 : arg5.IsWhole) (arg6 : Memref sig .tc .vmem S1x5120 .f32) (harg6 : arg6.IsWhole) (arg7 : Memref sig .tc .vmem S1x5120 .f32) (harg7 : arg7.IsWhole) (arg8 : Memref sig .tc .vmem S1x2x128x5120 .i8) (harg8 : arg8.IsWhole) (arg9 : Memref sig .tc .vmem S1x2x40x128 .f32) (harg9 : arg9.IsWhole) (arg10 : Memref sig .tc .vmem S1x2x128x5120 .i8) (harg10 : arg10.IsWhole) (arg11 : Memref sig .tc .vmem S1x2x40x128 .f32) (harg11 : arg11.IsWhole) (arg12 : Memref sig .tc .vmem S1x1x5120 .f32) (harg12 : arg12.IsWhole) (arg13 : Memref sig .tc .vmem S1x1x5120 .f32) (harg13 : arg13.IsWhole) (arg14 : Memref sig .tc .vmem S64x5120 .fp8e4m3) (harg14 : arg14.IsWhole) (arg15 : Memref sig .tc .vmem S64x1 .f32) (harg15 : arg15.IsWhole) (arg16 : Memref sig .tc .vmem S64x1 .f32) (harg16 : arg16.IsWhole) (arg17 : Memref sig .tc .vmem S1x2x128x5120 .fp8e4m3) (harg17 : arg17.IsWhole) (arg18 : Memref sig .tc .vmem S1x2x1x128 .f32) (harg18 : arg18.IsWhole) (arg19 : Memref sig .tc .vmem S1x2x64x128 .f32) (harg19 : arg19.IsWhole) (arg20 : Memref sig .tc .vmem S1x1x128 .f32) (harg20 : arg20.IsWhole) (arg21 : Memref sig .tc .vmem S1x1x128 .f32) (harg21 : arg21.IsWhole) (arg22 : Memref sig .tc .vmem S2x128x5120 .f32) (harg22 : arg22.IsWhole) (arg23 : Memref sig .tc .vmem S128x5120 .f32) (harg23 : arg23.IsWhole) (arg24 : Memref sig .tc .vmem S2x128x128 .f32) (harg24 : arg24.IsWhole) (arg25 : Memref sig .tc .vmem S3x8x5120 .f32) (harg25 : arg25.IsWhole) (arg26 : Memref sig .tc .vmem S16x5120 .bf16) (harg26 : arg26.IsWhole) (arg27 : Memref sig .tc .vmem S2x2x128x128 .f32) (harg27 : arg27.IsWhole) (v7 : FVec Ideal S128x64 .fp8e4m3) (v23 : FVec Ideal S40x128 .f32) (v29 : FVec Ideal S40x128 .f32) (cst_21 : Ideal .f32) (X_arg8 : BufTy.Contents (Elt Ideal) arg8.view.ty) (X_arg10 : BufTy.Contents (Elt Ideal) arg10.view.ty) (X_arg23 : BufTy.Contents (Elt Ideal) arg23.view.ty) (X_arg24 : BufTy.Contents (Elt Ideal) arg24.view.ty) (X_arg25 : BufTy.Contents (Elt Ideal) arg25.view.ty)

theorem trip_lists (k : Fin k0_t1_loop.trips) : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 k = (LH arg8 arg10 arg23 arg24 arg25 X_arg8 X_arg10 X_arg23 X_arg24 X_arg25 k, LS arg8 arg10 arg23 arg24 arg25 X_arg8 X_arg10 X_arg23 X_arg24 X_arg25 k) := by
  unfold tripL_k0_t1
  rw [trip_k0_t1]
  rfl

variable (TT : Fin 3 → Fin 5120 → EReal) (hT25 : ∀ (a : Fin 3) (s : Fin 8) (d : Fin 5120), View.read (Elt Ideal) arg25.view X_arg25 (ix3 a s d) = TT a d)

/-- Before trip `n` the pieces hold the hidden rows, the lane sums, and cover the first `32 n` rows. -/
def Upto (n : ℕ) (P : List (View.Piece (Elt Ideal) S2x128x5120 .f32) × List (View.Piece (Elt Ideal) S2x2x128x128 .f32)) : Prop :=
  (∀ p ∈ P.1, ∀ x : p.1.shape.Idx, p.2 x = (fun y : S2x128x5120.Idx => HH arg8 arg10 arg23 arg24 X_arg8 X_arg10 X_arg23 X_arg24 TT (y 0) (y 1) (y 2)) (p.1.emb x)) ∧
  (∀ p ∈ P.2, ∀ x : p.1.shape.Idx, p.2 x = (fun y : S2x2x128x128.Idx => SS arg8 arg10 arg23 arg24 X_arg8 X_arg10 X_arg23 X_arg24 TT (y 0) (y 1) (y 2) (y 3)) (p.1.emb x)) ∧
  (∀ y : S2x128x5120.Idx, (y 1).val < 32 * n → ∃ p ∈ P.1, y ∈ p.1.set) ∧
  (∀ y : S2x2x128x128.Idx, (y 2).val < 32 * n → ∃ p ∈ P.2, y ∈ p.1.set)

include hT25

theorem upto : ∀ n : ℕ, n ≤ k0_t1_loop.trips → Upto arg8 arg10 arg23 arg24 X_arg8 X_arg10 X_arg23 X_arg24 TT n (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 n)
  | 0, _ => by
    rw [pb_k0_t1.eq_1]
    exact ⟨fun p hp => absurd hp List.not_mem_nil, fun p hp => absurd hp List.not_mem_nil, fun y hy => absurd hy (by omega), fun y hy => absurd hy (by omega)⟩
  | n + 1, hn => by
    obtain ⟨u1, u2, u3, u4⟩ := upto n (by omega)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 ⟨n, by omega⟩, trip_lists]
    refine ⟨fun p hp => ?_, fun p hp => ?_, fun y hy => ?_, fun y hy => ?_⟩
    · rcases List.mem_append.mp hp with hp | hp
      · exact LH_val arg8 arg10 arg23 arg24 arg25 X_arg8 X_arg10 X_arg23 X_arg24 X_arg25 ⟨n, by omega⟩ TT hT25 p hp
      · exact u1 p hp
    · rcases List.mem_append.mp hp with hp | hp
      · exact LS_val arg8 arg10 arg23 arg24 arg25 X_arg8 X_arg10 X_arg23 X_arg24 X_arg25 ⟨n, by omega⟩ TT hT25 p hp
      · exact u2 p hp
    · by_cases h : (y 1).val < 32 * n
      · obtain ⟨p, hp, h⟩ := u3 y h
        exact ⟨p, List.mem_append_right _ hp, h⟩
      · obtain ⟨p, hp, h⟩ := LH_cover arg8 arg10 arg23 arg24 arg25 X_arg8 X_arg10 X_arg23 X_arg24 X_arg25 ⟨n, by omega⟩ y ⟨by show 32 * n ≤ _; omega, by show _ < 32 * n + 32; omega⟩
        exact ⟨p, List.mem_append_left _ hp, h⟩
    · by_cases h : (y 2).val < 32 * n
      · obtain ⟨p, hp, h⟩ := u4 y h
        exact ⟨p, List.mem_append_right _ hp, h⟩
      · obtain ⟨p, hp, h⟩ := LS_cover arg8 arg10 arg23 arg24 arg25 X_arg8 X_arg10 X_arg23 X_arg24 X_arg25 ⟨n, by omega⟩ y ⟨by show 32 * n ≤ _; omega, by show _ < 32 * n + 32; omega⟩
        exact ⟨p, List.mem_append_left _ hp, h⟩

/-- After the loop the buffer of hidden rows holds them, whatever it held before. -/
theorem loop_h (v : View sig .tc .vmem S2x128x5120 .f32) (f : BufTy.Contents (Elt Ideal) v.ty) (y : S2x128x5120.Idx) :
    View.read (Elt Ideal) v (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 k0_t1_loop.trips).1) y = HH arg8 arg10 arg23 arg24 X_arg8 X_arg10 X_arg23 X_arg24 TT (y 0) (y 1) (y 2) := by
  obtain ⟨u1, -, u3, -⟩ := upto 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 TT hT25 _ (le_refl _)
  refine View.read_writes_apply_of_pieces v f (fun y : S2x128x5120.Idx => HH arg8 arg10 arg23 arg24 X_arg8 X_arg10 X_arg23 X_arg24 TT (y 0) (y 1) (y 2)) _ u1 y (u3 y ?_)
  rw [trips_eq]; exact (y 1).isLt

/-- After the loop the buffer of lane sums holds them, whatever it held before. -/
theorem loop_s (v : View sig .tc .vmem S2x2x128x128 .f32) (f : BufTy.Contents (Elt Ideal) v.ty) (y : S2x2x128x128.Idx) :
    View.read (Elt Ideal) v (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 k0_t1_loop.trips).2) y = SS arg8 arg10 arg23 arg24 X_arg8 X_arg10 X_arg23 X_arg24 TT (y 0) (y 1) (y 2) (y 3) := by
  obtain ⟨-, u2, -, u4⟩ := upto 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v7 v23 v29 cst_21 X_arg8 X_arg10 X_arg23 X_arg24 X_arg25 TT hT25 _ (le_refl _)
  refine View.read_writes_apply_of_pieces v f (fun y : S2x2x128x128.Idx => SS arg8 arg10 arg23 arg24 X_arg8 X_arg10 X_arg23 X_arg24 TT (y 0) (y 1) (y 2) (y 3)) _ u2 y (u4 y ?_)
  rw [trips_eq]; exact (y 2).isLt

end Cert.KernelIdeal.Hand
-- ==== Proof.ValSpec.lean ====
/- What the kernel computes for one row, and the steps by which its buffers come to hold it. -/
module

public import proofs.«01_k».proof.Proof.ValPay
public import proofs.«01_k».proof.Proof.ValLoop

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section
variable (H : Fin 5120 → EReal) (T : Fin 5120 → EReal) (R : Fin 16 → Fin 5120 → EReal)

/-- The sum of a row, and the sum of its squares, lane by lane. -/
def rS1 : EReal := ∑ l : Fin 128, ∑ g : Fin 40, H (col g l)
def rS2 : EReal := ∑ l : Fin 128, ∑ g : Fin 40, H (col g l) * H (col g l)
/-- The modulated row, without its division by the standard deviation. -/
def rHM (d : Fin 5120) : EReal := H d * T d + ∑ j, outerL (0 - muF (rS1 H)) (sdF (rS1 H) (rS2 H)) j * R j d

/-- The largest of the first `n` of forty magnitudes. -/
def amx (f : Fin 40 → EReal) : ℕ → EReal
  | 0 => 0
  | n + 1 => max (amx f n) (if h : n < 40 then FloatOps.absf (F := Ideal) (φ := .f32) (f ⟨n, h⟩) else 0)

theorem amx_succ (f : Fin 40 → EReal) (n : ℕ) (h : n < 40) : max (amx f n) (FloatOps.absf (F := Ideal) (φ := .f32) (f ⟨n, h⟩)) = amx f (n + 1) := by
  rw [amx, dif_pos h]

/-- The reciprocal standard deviation, the largest magnitude of the modulated row, its scale, and the factor that quantises it. -/
def rRs : EReal := Ideal.div 1 (sdF (rS1 H) (rS2 H))
def rAM : EReal := mx fun l => amx (fun g => rHM H T R (col g l)) 40
def rSc : EReal := sclF (rAM H T R * rRs H)
def rIv : EReal := Ideal.div (rRs H) (rSc H T R)
/-- The codes of the row. -/
def rQ (d : Fin 5120) : EReal := clipq (rHM H T R d * rIv H T R)
end

/-- Column `x` of the chunk `j` of 640 columns. -/
def c640 (j : Fin 8) (x : Fin 640) : Fin 5120 := ⟨640 * j.val + x.val, by omega⟩

/-- The sum over the first `n` of eight chunks. -/
def part8 (f : Fin 8 → EReal) (n : ℕ) : EReal := ∑ i ∈ Finset.range n, if h : i < 8 then f ⟨i, h⟩ else 0
theorem part8_one (f : Fin 8 → EReal) : f 0 = part8 f 1 := by simp [part8]
theorem part8_succ (f : Fin 8 → EReal) (n : ℕ) (h : n < 8) : part8 f n + f ⟨n, h⟩ = part8 f (n + 1) := by
  unfold part8; rw [Finset.sum_range_succ, dif_pos h]
theorem part8_all (f : Fin 8 → EReal) : part8 f 8 = ∑ i, f i := by
  unfold part8; rw [Finset.sum_range]; exact Finset.sum_congr rfl fun i _ => dif_pos i.isLt

/-- The head output of the row for output column `o`, chunk by chunk. -/
def rO (H : Fin 5120 → EReal) (T : Fin 5120 → EReal) (R : Fin 16 → Fin 5120 → EReal) (wh : Fin 64 → Fin 5120 → EReal) (sh bh : Fin 64 → EReal) (o : Fin 64) : EReal :=
  (∑ j, ∑ x, rQ H T R (c640 j x) * wh o (c640 j x)) * rSc H T R * sh o + bh o

theorem idx_eq {s : Shape} {off : Fin s.rank → ℕ} {size : Fin s.rank → ℕ} (inb) (x : (Rect.unit off size inb).shape.Idx) (y : s.Idx)
    (h : ∀ a, (y a).val = off a + (x a).val) : (Rect.unit off size inb).emb x = y := by
  funext a; exact Fin.ext ((emb_val inb x a).trans (h a).symm)

theorem readAt_at {kd sp s e} (v : View sig kd sp s e) (f : BufTy.Contents (Elt Ideal) v.ty) {off : Fin s.rank → ℕ} {size : Fin s.rank → ℕ} (inb)
    (x : (Rect.unit off size inb).shape.Idx) (y : s.Idx) (h : ∀ a, (y a).val = off a + (x a).val) :
    View.readAt (Elt Ideal) v (Rect.unit off size inb).toLoadRect f x = View.read (Elt Ideal) v f y := by
  rw [← idx_eq inb x y h]; rfl

/-- The hidden rows have been overwritten by the modulated rows in the first `n` groups of columns. -/
def Inv (v : View sig .tc .vmem S2x128x5120 .f32) (M H : Fin 2 → Fin 128 → Fin 5120 → EReal) (n : ℕ) (L : List (View.Piece (Elt Ideal) S2x128x5120 .f32)) : Prop :=
  ∀ (f : BufTy.Contents (Elt Ideal) v.ty) (b : Fin 2) (ρ : Fin 128) (d : Fin 5120),
    View.read (Elt Ideal) v (v.writes (Elt Ideal) f L) (ix3 b ρ d) = if d.val < 128 * n then M b ρ d else H b ρ d

theorem inv_step (v : View sig .tc .vmem S2x128x5120 .f32) (M H : Fin 2 → Fin 128 → Fin 5120 → EReal) (g : Fin 40) (L : List (View.Piece (Elt Ideal) S2x128x5120 .f32))
    (inb) (p) (hL : Inv v M H g.val L) (hp : ∀ (b : Fin 2) (ρ l : Fin 128), p (ix3 b ρ l) = M b ρ (col g l)) :
    Inv v M H (g.val + 1) (⟨Rect.unit (s := S2x128x5120) ![0, 0, 128 * g.val] S2x128x128.size inb, p⟩ :: L) := by
  intro f b ρ d
  by_cases hd : d.val / 128 = g.val
  · have e : (Rect.unit (s := S2x128x5120) ![0, 0, 128 * g.val] S2x128x128.size inb).emb (ix3 b ρ ⟨d.val % 128, by omega⟩) = ix3 b ρ d := by
      refine idx_eq inb _ _ fun a => ?_
      fin_cases a
      · exact (Nat.zero_add _).symm
      · exact (Nat.zero_add _).symm
      · show d.val = 128 * g.val + d.val % 128
        omega
    rw [if_pos (by omega), ← e, View.read_writes_cons_emb]
    refine (hp b ρ _).trans (congrArg _ (Fin.ext ?_))
    show 128 * g.val + d.val % 128 = d.val
    omega
  · rw [View.read_writes_cons_miss (y := ix3 b ρ d), hL f b ρ d]
    · by_cases h : d.val < 128 * g.val
      · rw [if_pos h, if_pos (by omega)]
      · rw [if_neg h, if_neg (by omega)]
    · intro hm
      rw [Rect.mem_set_unit] at hm
      have h2 := hm 2
      have h3 : 128 * g.val ≤ d.val ∧ d.val < 128 * g.val + 128 := h2
      omega

/-- The first `n` groups of columns hold the codes. -/
def InvQ (v : View sig .tc .vmem S1x2x128x5120 .fp8e4m3) (Q : Fin 2 → Fin 128 → Fin 5120 → EReal) (n : ℕ) (L : List (View.Piece (Elt Ideal) S1x2x128x5120 .fp8e4m3)) : Prop :=
  ∀ (f : BufTy.Contents (Elt Ideal) v.ty) (b : Fin 2) (ρ : Fin 128) (d : Fin 5120), d.val < 128 * n →
    View.read (Elt Ideal) v (v.writes (Elt Ideal) f L) (ix4 0 b ρ d) = Q b ρ d

theorem invq_nil (v : View sig .tc .vmem S1x2x128x5120 .fp8e4m3) (Q : Fin 2 → Fin 128 → Fin 5120 → EReal) : InvQ v Q 0 [] :=
  fun f b ρ d h => absurd h (by omega)

theorem invq_step (v : View sig .tc .vmem S1x2x128x5120 .fp8e4m3) (Q : Fin 2 → Fin 128 → Fin 5120 → EReal) (g : Fin 40) (L : List (View.Piece (Elt Ideal) S1x2x128x5120 .fp8e4m3))
    (inb) (p) (hL : InvQ v Q g.val L) (hp : ∀ (b : Fin 2) (ρ l : Fin 128), p (ix4 0 b ρ l) = Q b ρ (col g l)) :
    InvQ v Q (g.val + 1) (⟨Rect.unit (s := S1x2x128x5120) ![0, 0, 0, 128 * g.val] S1x2x128x128.size inb, p⟩ :: L) := by
  intro f b ρ d hdn
  by_cases hd : d.val / 128 = g.val
  · have e : (Rect.unit (s := S1x2x128x5120) ![0, 0, 0, 128 * g.val] S1x2x128x128.size inb).emb (ix4 0 b ρ ⟨d.val % 128, by omega⟩) = ix4 0 b ρ d := by
      refine idx_eq inb _ _ fun a => ?_
      fin_cases a
      · rfl
      · exact (Nat.zero_add _).symm
      · exact (Nat.zero_add _).symm
      · show d.val = 128 * g.val + d.val % 128
        omega
    rw [← e, View.read_writes_cons_emb]
    refine (hp b ρ _).trans (congrArg _ (Fin.ext ?_))
    show 128 * g.val + d.val % 128 = d.val
    omega
  · rw [View.read_writes_cons_miss (y := ix4 0 b ρ d), hL f b ρ d (by omega)]
    intro hm
    rw [Rect.mem_set_unit] at hm
    have h2 := hm 3
    have h3 : 128 * g.val ≤ d.val ∧ d.val < 128 * g.val + 128 := h2
    omega

/-- Group `g` read back before it is overwritten. -/
theorem rd_h {v : View sig .tc .vmem S2x128x5120 .f32} {M H : Fin 2 → Fin 128 → Fin 5120 → EReal} (g : Fin 40) {L : List (View.Piece (Elt Ideal) S2x128x5120 .f32)}
    (hL : Inv v M H g.val L) {f : BufTy.Contents (Elt Ideal) v.ty} {inb} (b : Fin 2) (ρ l : Fin 128) :
    View.readAt (Elt Ideal) v (Rect.unit (s := S2x128x5120) ![0, 0, 128 * g.val] S2x128x128.size inb).toLoadRect (v.writes (Elt Ideal) f L) (ix3 b ρ l) = H b ρ (col g l) := by
  rw [readAt_at v _ inb (ix3 b ρ l) (ix3 b ρ (col g l)), hL f, if_neg (by show ¬ 128 * g.val + l.val < _; omega)]
  intro a; fin_cases a
  · exact (Nat.zero_add _).symm
  · exact (Nat.zero_add _).symm
  · rfl

/-- Group `g` read back after all are overwritten. -/
theorem rd_m {v : View sig .tc .vmem S2x128x5120 .f32} {M H : Fin 2 → Fin 128 → Fin 5120 → EReal} (g : Fin 40) {L : List (View.Piece (Elt Ideal) S2x128x5120 .f32)}
    (hL : Inv v M H 40 L) {f : BufTy.Contents (Elt Ideal) v.ty} {inb} (b : Fin 2) (ρ l : Fin 128) :
    View.readAt (Elt Ideal) v (Rect.unit (s := S2x128x5120) ![0, 0, 128 * g.val] S2x128x128.size inb).toLoadRect (v.writes (Elt Ideal) f L) (ix3 b ρ l) = M b ρ (col g l) := by
  rw [readAt_at v _ inb (ix3 b ρ l) (ix3 b ρ (col g l)), hL f, if_pos (by have := (col g l).isLt; omega)]
  intro a; fin_cases a
  · exact (Nat.zero_add _).symm
  · exact (Nat.zero_add _).symm
  · rfl

/-- Chunk `j` of the codes read back. -/
theorem rd_q {v : View sig .tc .vmem S1x2x128x5120 .fp8e4m3} {Q : Fin 2 → Fin 128 → Fin 5120 → EReal} (j : Fin 8) {L : List (View.Piece (Elt Ideal) S1x2x128x5120 .fp8e4m3)}
    (hL : InvQ v Q (5 * j.val + 5) L) {f : BufTy.Contents (Elt Ideal) v.ty} {inb} (b : Fin 2) (ρ : Fin 128) (x : Fin 640) :
    View.readAt (Elt Ideal) v (Rect.unit (s := S1x2x128x5120) ![0, 0, 0, 640 * j.val] S1x2x128x640.size inb).toLoadRect (v.writes (Elt Ideal) f L) (ix4 0 b ρ x) = Q b ρ (c640 j x) := by
  rw [readAt_at v _ inb (ix4 0 b ρ x) (ix4 0 b ρ (c640 j x)), hL f b ρ _ (by show 640 * j.val + x.val < _; omega)]
  intro a; fin_cases a
  · rfl
  · exact (Nat.zero_add _).symm
  · exact (Nat.zero_add _).symm
  · rfl

/-- Chunk `j` of the head weights. -/
theorem rd_w {v : View sig .tc .vmem S64x5120 .fp8e4m3} (j : Fin 8) (f : BufTy.Contents (Elt Ideal) v.ty) {inb} (o : Fin 64) (x : Fin 640) :
    View.readAt (Elt Ideal) v (Rect.unit (s := S64x5120) ![0, 640 * j.val] S64x640.size inb).toLoadRect f (ix2 o x) = View.read (Elt Ideal) v f (ix2 o (c640 j x)) := by
  refine readAt_at v _ inb (ix2 o x) (ix2 o (c640 j x)) fun a => ?_
  fin_cases a
  · exact (Nat.zero_add _).symm
  · rfl

/-- Group `g` of the scale table. -/
theorem rd_tab {v : View sig .tc .vmem S3x8x5120 .f32} {f : BufTy.Contents (Elt Ideal) v.ty} {TT : Fin 3 → Fin 5120 → EReal} (g : Fin 40)
    (hT : ∀ (a : Fin 3) (s : Fin 8) (d : Fin 5120), View.read (Elt Ideal) v f (ix3 a s d) = TT a d) {inb} (s : Fin 8) (l : Fin 128) :
    View.readAt (Elt Ideal) v (Rect.unit (s := S3x8x5120) ![2, 0, 128 * g.val] S1x8x128.size inb).toLoadRect f (ix3 0 s l) = TT 2 (col g l) := by
  rw [readAt_at v _ inb (ix3 0 s l) (ix3 2 s (col g l)), hT]
  intro a; fin_cases a
  · rfl
  · exact (Nat.zero_add _).symm
  · rfl

/-- Group `g` of the right factors. -/
theorem rd_lo {v : View sig .tc .vmem S16x5120 .bf16} {f : BufTy.Contents (Elt Ideal) v.ty} {RR : Fin 16 → Fin 5120 → EReal} (g : Fin 40)
    (hR : ∀ (j : Fin 16) (d : Fin 5120), View.read (Elt Ideal) v f (ix2 j d) = RR j d) {inb} (l : Fin 128) (j : Fin 16) :
    View.readAt (Elt Ideal) v (Rect.unit (s := S16x5120) ![0, 128 * g.val] S16x256.size inb).toLoadRect f (ix2 j (lo l)) = RR j (col g l) := by
  rw [readAt_at v _ inb (ix2 j (lo l)) (ix2 j (col g l)), hR]
  intro a; fin_cases a
  · exact (Nat.zero_add _).symm
  · rfl

theorem rd_hi {v : View sig .tc .vmem S16x5120 .bf16} {f : BufTy.Contents (Elt Ideal) v.ty} {RR : Fin 16 → Fin 5120 → EReal} (g g' : Fin 40) (hg : g'.val = g.val + 1)
    (hR : ∀ (j : Fin 16) (d : Fin 5120), View.read (Elt Ideal) v f (ix2 j d) = RR j d) {inb} (l : Fin 128) (j : Fin 16) :
    View.readAt (Elt Ideal) v (Rect.unit (s := S16x5120) ![0, 128 * g.val] S16x256.size inb).toLoadRect f (ix2 j (hi l)) = RR j (col g' l) := by
  rw [readAt_at v _ inb (ix2 j (hi l)) (ix2 j (col g' l)), hR]
  intro a; fin_cases a
  · exact (Nat.zero_add _).symm
  · show 128 * g'.val + l.val = 128 * g.val + (128 + l.val)
    omega

theorem hmv_eq {h : Vec Ideal S2x128x128 .f32} {tb : Vec Ideal S1x8x128 .f32} {lh : FVec Ideal S256x16 .bf16} {rh : Vec Ideal S16x256 .bf16} {b : Fin 2} {ρ l : Fin 128} {c : Fin 256}
    {H : Fin 5120 → EReal} {T : Fin 5120 → EReal} {R : Fin 16 → Fin 5120 → EReal} {d : Fin 5120}
    (e1 : h (ix3 b ρ l) = H d) (e2 : tb (ix3 0 (sub8 b ρ) l) = T d) (e3 : ∀ j : Fin 16, lh (ix2 (row b ρ) j) = outerL (0 - muF (rS1 H)) (sdF (rS1 H) (rS2 H)) j)
    (e4 : ∀ j : Fin 16, rh (ix2 j c) = R j d) : hmv h tb lh rh b ρ l c = rHM H T R d := by
  unfold hmv rHM
  rw [e1, e2]
  exact congrArg _ (Finset.sum_congr rfl fun j _ => by rw [e3, e4])

end Cert.KernelIdeal.Hand
-- ==== Proof.ValOut.lean ====
/- Small facts on written buffers, and the hidden rows as a function of the inputs of a run. -/
module

public import proofs.«01_k».proof.Proof.ValSpec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- A read of what the last piece wrote. -/
theorem wr_hit {kd sp s e} (v : View sig kd sp s e) (f : BufTy.Contents (Elt Ideal) v.ty) {off : Fin s.rank → ℕ} {size : Fin s.rank → ℕ} (inb) (p) (L : List (View.Piece (Elt Ideal) s e))
    (x : (Rect.unit off size inb).shape.Idx) (y : s.Idx) (h : ∀ a, (y a).val = off a + (x a).val) :
    View.read (Elt Ideal) v (v.writes (Elt Ideal) f (⟨Rect.unit off size inb, p⟩ :: L)) y = p x := by
  rw [← idx_eq inb x y h]; exact View.read_writes_cons_emb ..

/-- A read past a piece that lies elsewhere. -/
theorem wr_miss {kd sp s e} (v : View sig kd sp s e) (f : BufTy.Contents (Elt Ideal) v.ty) {off : Fin s.rank → ℕ} {size : Fin s.rank → ℕ} (inb) (p) (L : List (View.Piece (Elt Ideal) s e))
    (y : s.Idx) (a : Fin s.rank) (h : (y a).val < off a ∨ off a + size a ≤ (y a).val) :
    View.read (Elt Ideal) v (v.writes (Elt Ideal) f (⟨Rect.unit off size inb, p⟩ :: L)) y = View.read (Elt Ideal) v (v.writes (Elt Ideal) f L) y := by
  have hy : y ∉ (Rect.unit off size inb).set := by
    intro hm
    rw [Rect.mem_set_unit] at hm
    have := hm a
    omega
  exact View.read_writes_cons_miss (p := ⟨Rect.unit off size inb, p⟩) (y := y) (hy := hy) ..

/-- The patch codes. -/
theorem rd_pt (v : View sig .tc .vmem S1x64x128 .fp8e4m3) (f : BufTy.Contents (Elt Ideal) v.ty) {inb} (p : Fin 64) (ρ : Fin 128) :
    View.readAt (Elt Ideal) v (Rect.unit (s := S1x64x128) ![0, 0, 0] S1x64x128.size inb).toLoadRect f (ix3 0 p ρ) = View.read (Elt Ideal) v f (ix3 0 p ρ) := by
  refine readAt_at v f inb (ix3 0 p ρ) (ix3 0 p ρ) fun a => ?_
  fin_cases a <;> exact (Nat.zero_add _).symm

/-- The embedding weights. -/
theorem rd_we (v : View sig .tc .vmem S64x5120 .fp8e4m3) (f : BufTy.Contents (Elt Ideal) v.ty) {inb} (p : Fin 64) (d : Fin 5120) :
    View.readAt (Elt Ideal) v (Rect.unit (s := S64x5120) ![0, 0] S64x5120.size inb).toLoadRect f (ix2 p d) = View.read (Elt Ideal) v f (ix2 p d) := by
  refine readAt_at v f inb (ix2 p d) (ix2 p d) fun a => ?_
  fin_cases a <;> exact (Nat.zero_add _).symm

/-- The scales of the first branch. -/
theorem rd_b0 (v : View sig .tc .vmem S1x2x40x128 .f32) (f : BufTy.Contents (Elt Ideal) v.ty) {inb} (g : Fin 40) (ρ : Fin 128) :
    View.readAt (Elt Ideal) v (Rect.unit (s := S1x2x40x128) ![0, 0, 0, 0] S1x1x40x128.size inb).toLoadRect f (ix4 0 0 g ρ) = View.read (Elt Ideal) v f (ix4 0 0 g ρ) := by
  refine readAt_at v f inb (ix4 0 0 g ρ) (ix4 0 0 g ρ) fun a => ?_
  fin_cases a
  · rfl
  · rfl
  · exact (Nat.zero_add _).symm
  · exact (Nat.zero_add _).symm

/-- The scales of the second branch. -/
theorem rd_b1 (v : View sig .tc .vmem S1x2x40x128 .f32) (f : BufTy.Contents (Elt Ideal) v.ty) {inb} (g : Fin 40) (ρ : Fin 128) :
    View.readAt (Elt Ideal) v (Rect.unit (s := S1x2x40x128) ![0, 1, 0, 0] S1x1x40x128.size inb).toLoadRect f (ix4 0 0 g ρ) = View.read (Elt Ideal) v f (ix4 0 1 g ρ) := by
  refine readAt_at v f inb (ix4 0 0 g ρ) (ix4 0 1 g ρ) fun a => ?_
  fin_cases a
  · rfl
  · rfl
  · exact (Nat.zero_add _).symm
  · exact (Nat.zero_add _).symm

/-- The clip factor of a batch. -/
theorem kk_val (v : View sig .tc .smem S4 .f32) (f : BufTy.Contents (Elt Ideal) v.ty) (i : grid0.Coords) (h) :
    View.readAt (Elt Ideal) v (Rect.unit (s := S4) (k0_off1 i) S1.size (k0_off1_inb i)).toLoadRect f (Shape.Idx.first h) = View.read (Elt Ideal) v f (ix1 (i 0)) := by
  refine readAt_at _ _ _ _ (ix1 (i 0)) fun a => ?_
  fin_cases a
  have e : ∀ z : Fin 4, (Scalar.indexCast (BitVec.ofNat 32 z.val) : Index).toNat = z.val := by decide
  exact (e (i 0)).symm

/-- The hidden rows: two dequantised residuals and the embedded row. -/
def hid (x8 x10 : S1x2x128x5120.Idx → Elt Ideal .i8) (x9 x11 : S1x2x40x128.Idx → EReal) (kk : EReal) (pt : S1x64x128.Idx → EReal) (we : S64x5120.Idx → EReal)
    (TT : Fin 3 → Fin 5120 → EReal) (b : Fin 2) (ρ : Fin 128) (d : Fin 5120) : EReal :=
  FloatOps.sitofp (F := Ideal) .f32 (x8 (ix4 0 b ρ d)) * x9 (ix4 0 b (grp d) ρ)
    + FloatOps.sitofp (F := Ideal) .f32 (x10 (ix4 0 b ρ d)) * (x11 (ix4 0 b (grp d) ρ) * kk)
    + ((∑ p, pt (ix3 0 p ρ) * we (ix2 p d)) * TT 0 d + TT 1 d)

/-- The three tables and the right factors that the first step of a batch forms. -/
def tabT (se : Fin 5120 → EReal) (sp : EReal) (be hs : Fin 5120 → EReal) : Fin 3 → Fin 5120 → EReal :=
  ![fun d => se d * sp, fun d => be d - (∑ x, be x) * invd, fun d => 1 + hs d]
def rhsT (hs sf : Fin 5120 → EReal) (j : Fin 16) (d : Fin 5120) : EReal := outerR (1 + hs d) (sf d) j

end Cert.KernelIdeal.Hand
-- ==== Proof.ValGeo.lean ====
/- The arrays the launch reads, its blocks of them at a point, and the arrays it is to write. -/
module

public import proofs.«01_k».proof.Proof.ValOut
public import proofs.«01_k».proof.Proof.KernelIdealFrame
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (c : Dev nD)

/-- The array under window 0, as the launch finds it. -/
def aK : S4.Idx → Elt Ideal .f32 := V m c main_arg9
/-- The array under window 1, as the launch finds it. -/
def aSP : S1.Idx → Elt Ideal .f32 := V m c main_v0
/-- The array under window 2, as the launch finds it. -/
def aPT : S4x64x4680.Idx → Elt Ideal .fp8e4m3 := V m c main_v9
/-- The array under window 3, as the launch finds it. -/
def aWE : S64x5120.Idx → Elt Ideal .fp8e4m3 := V m c main_v10
/-- The array under window 4, as the launch finds it. -/
def aSE : S1x5120.Idx → Elt Ideal .f32 := V m c main_v1
/-- The array under window 5, as the launch finds it. -/
def aBE : S1x5120.Idx → Elt Ideal .f32 := V m c main_v2
/-- The array under window 6, as the launch finds it. -/
def aC0 : S4x2x4680x5120.Idx → Elt Ideal .i8 := V m c main_arg5
/-- The array under window 7, as the launch finds it. -/
def aS0 : S4x2x40x4680.Idx → Elt Ideal .f32 := V m c main_v11
/-- The array under window 8, as the launch finds it. -/
def aC1 : S4x2x4680x5120.Idx → Elt Ideal .i8 := V m c main_arg7
/-- The array under window 9, as the launch finds it. -/
def aS1 : S4x2x40x4680.Idx → Elt Ideal .f32 := V m c main_v12
/-- The array under window 10, as the launch finds it. -/
def aHS : S4x1x5120.Idx → Elt Ideal .f32 := V m c main_v13
/-- The array under window 11, as the launch finds it. -/
def aHB : S4x1x5120.Idx → Elt Ideal .f32 := V m c main_v14
/-- The array under window 12, as the launch finds it. -/
def aWH : S64x5120.Idx → Elt Ideal .fp8e4m3 := V m c main_v15
/-- The array under window 13, as the launch finds it. -/
def aSH : S64x1.Idx → Elt Ideal .f32 := V m c main_v16
/-- The array under window 14, as the launch finds it. -/
def aBH : S64x1.Idx → Elt Ideal .f32 := V m c main_v17

/-- The value before normalisation over all of a frame. -/
def gHid (a : Fin 4) (b : Fin 2) (n : Fin 4680) (d : Fin 5120) : EReal :=
  FloatOps.sitofp (F := Ideal) .f32 (aC0 m c (ix4 a b n d)) * aS0 m c (ix4 a b (grp d) n) + FloatOps.sitofp (F := Ideal) .f32 (aC1 m c (ix4 a b n d)) * (aS1 m c (ix4 a b (grp d) n) * aK m c (ix1 a)) + ((∑ p : Fin 64, (aPT m c (ix3 a p n) : EReal) * aWE m c (ix2 p d)) * (aSE m c (ix2 0 d) * aSP m c (ix1 0)) + ((aBE m c (ix2 0 d) : EReal) - (∑ x : Fin 5120, (aBE m c (ix2 0 x) : EReal)) * invd))

/-- The per-channel table of a frame. -/
def gT (a : Fin 4) : Fin 3 → Fin 5120 → EReal :=
  tabT (fun d => aSE m c (ix2 0 d)) (aSP m c (ix1 0)) (fun d => aBE m c (ix2 0 d)) (fun d => aHS m c (ix3 a 0 d))

/-- The right factor of the outer products of a frame. -/
def gR (a : Fin 4) : Fin 16 → Fin 5120 → EReal := rhsT (fun d => aHS m c (ix3 a 0 d)) (fun d => aHB m c (ix3 a 0 d))

/-- A head output. -/
def gO (a : Fin 4) (b : Fin 2) (o : Fin 64) (n : Fin 4680) : EReal :=
  rO (gHid m c a b n) (gT m c a 2) (gR m c a) (fun o d => aWH m c (ix2 o d)) (fun o => aSH m c (ix2 o 0)) (fun o => aBH m c (ix2 o 0)) o

/-- The codes to be written. -/
def G15 : S4x2x4680x5120.Idx → Elt Ideal .fp8e4m3 := fun y => rQ (gHid m c (y 0) (y 1) (y 2)) (gT m c (y 0) 2) (gR m c (y 0)) (y 3)
/-- The scales to be written. -/
def G16 : S4x2x1x4680.Idx → Elt Ideal .f32 := fun y => rSc (gHid m c (y 0) (y 1) (y 3)) (gT m c (y 0) 2) (gR m c (y 0))
/-- The head outputs to be written. -/
def G17 : S4x2x64x4680.Idx → Elt Ideal .f32 := fun y => gO m c (y 0) (y 1) (y 2) (y 3)
/-- The inner products across the two rows to be written. -/
def G18 : S4x1x4680.Idx → Elt Ideal .f32 := fun y => (∑ o : Fin 64, gO m c (y 0) 0 o (y 2) * gO m c (y 0) 1 o (y 2) : EReal)
/-- The squared lengths of the second row to be written. -/
def G19 : S4x1x4680.Idx → Elt Ideal .f32 := fun y => (∑ o : Fin 64, gO m c (y 0) 1 o (y 2) * gO m c (y 0) 1 o (y 2) : EReal)

theorem lt_N (t : Fin cfg0.N) : t.val < 148 := lt_of_lt_of_eq t.isLt N_0

/-- The frame of a point. -/
def bt (t : Fin cfg0.N) : Fin 4 := ⟨t.val / 37, by have := lt_N t; omega⟩
/-- The patch of a point's row. -/
def nn (t : Fin cfg0.N) (ρ : Fin 128) (h : 128 * (t.val % 37) + ρ.val < 4680) : Fin 4680 := ⟨128 * (t.val % 37) + ρ.val, h⟩

theorem co0' : ∀ t : Fin cfg0.N, ((grid0.coords t) 0).val = t.val / 37 := (by decide +kernel : ∀ t : Fin grid0.N, _)
theorem co0 (t : Fin cfg0.N) : (grid0.coords t) 0 = bt t := Fin.ext (co0' t)
theorem co1 : ∀ t : Fin cfg0.N, ((grid0.coords t) 1).val = t.val % 37 := (by decide +kernel : ∀ t : Fin grid0.N, _)

theorem ix_0 : ∀ t : Fin cfg0.N, win0_0.index t = ![0] := (by decide +kernel : ∀ t : Fin grid0.N, _)
theorem ix_1 : ∀ t : Fin cfg0.N, win0_1.index t = ![0] := (by decide +kernel : ∀ t : Fin grid0.N, _)
theorem ix_2 : ∀ t : Fin cfg0.N, win0_2.index t = ![t.val / 37, 0, t.val % 37] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val / 37, 0, t.val % 37, 0] := (by decide +kernel : ∀ t : Fin grid0.N, _)
theorem ix_7 : ∀ t : Fin cfg0.N, win0_7.index t = ![t.val / 37, 0, 0, t.val % 37] := (by decide +kernel : ∀ t : Fin grid0.N, _)
theorem ix_8 : ∀ t : Fin cfg0.N, win0_8.index t = ![t.val / 37, 0, t.val % 37, 0] := (by decide +kernel : ∀ t : Fin grid0.N, _)
theorem ix_9 : ∀ t : Fin cfg0.N, win0_9.index t = ![t.val / 37, 0, 0, t.val % 37] := (by decide +kernel : ∀ t : Fin grid0.N, _)
theorem ix_10 : ∀ t : Fin cfg0.N, win0_10.index t = ![t.val / 37, 0, 0] := (by decide +kernel : ∀ t : Fin grid0.N, _)
theorem ix_11 : ∀ t : Fin cfg0.N, win0_11.index t = ![t.val / 37, 0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![0, 0] := (by decide +kernel : ∀ t : Fin grid0.N, _)
theorem ix_15 : ∀ t : Fin cfg0.N, win0_15.index t = ![t.val / 37, 0, t.val % 37, 0] := (by decide +kernel : ∀ t : Fin grid0.N, _)
theorem ix_16 : ∀ t : Fin cfg0.N, win0_16.index t = ![t.val / 37, 0, 0, t.val % 37] := (by decide +kernel : ∀ t : Fin grid0.N, _)
theorem ix_17 : ∀ t : Fin cfg0.N, win0_17.index t = ![t.val / 37, 0, 0, t.val % 37] := (by decide +kernel : ∀ t : Fin grid0.N, _)
theorem ix_18 : ∀ t : Fin cfg0.N, win0_18.index t = ![t.val / 37, 0, t.val % 37] := (by decide +kernel : ∀ t : Fin grid0.N, _)
theorem ix_19 : ∀ t : Fin cfg0.N, win0_19.index t = ![t.val / 37, 0, t.val % 37] := (by decide +kernel : ∀ t : Fin grid0.N, _)
theorem xs_2 : ∀ t : Fin cfg0.N, win0_2.xsize (grid0.coords t) = ![1, 64, (min 128 (4680 - 128 * (t.val % 37)))] := (by decide +kernel : ∀ t : Fin grid0.N, _)
theorem xs_6 : ∀ t : Fin cfg0.N, win0_6.xsize (grid0.coords t) = ![1, 2, (min 128 (4680 - 128 * (t.val % 37))), 5120] := (by decide +kernel : ∀ t : Fin grid0.N, _)
theorem xs_7 : ∀ t : Fin cfg0.N, win0_7.xsize (grid0.coords t) = ![1, 2, 40, (min 128 (4680 - 128 * (t.val % 37)))] := (by decide +kernel : ∀ t : Fin grid0.N, _)
theorem xs_8 : ∀ t : Fin cfg0.N, win0_8.xsize (grid0.coords t) = ![1, 2, (min 128 (4680 - 128 * (t.val % 37))), 5120] := (by decide +kernel : ∀ t : Fin grid0.N, _)
theorem xs_9 : ∀ t : Fin cfg0.N, win0_9.xsize (grid0.coords t) = ![1, 2, 40, (min 128 (4680 - 128 * (t.val % 37)))] := (by decide +kernel : ∀ t : Fin grid0.N, _)
theorem xs_15 : ∀ t : Fin cfg0.N, win0_15.xsize (grid0.coords t) = ![1, 2, (min 128 (4680 - 128 * (t.val % 37))), 5120] := (by decide +kernel : ∀ t : Fin grid0.N, _)
theorem xs_16 : ∀ t : Fin cfg0.N, win0_16.xsize (grid0.coords t) = ![1, 2, 1, (min 128 (4680 - 128 * (t.val % 37)))] := (by decide +kernel : ∀ t : Fin grid0.N, _)
theorem xs_17 : ∀ t : Fin cfg0.N, win0_17.xsize (grid0.coords t) = ![1, 2, 64, (min 128 (4680 - 128 * (t.val % 37)))] := (by decide +kernel : ∀ t : Fin grid0.N, _)
theorem xs_18 : ∀ t : Fin cfg0.N, win0_18.xsize (grid0.coords t) = ![1, 1, (min 128 (4680 - 128 * (t.val % 37)))] := (by decide +kernel : ∀ t : Fin grid0.N, _)
theorem xs_19 : ∀ t : Fin cfg0.N, win0_19.xsize (grid0.coords t) = ![1, 1, (min 128 (4680 - 128 * (t.val % 37)))] := (by decide +kernel : ∀ t : Fin grid0.N, _)

/-! What the input blocks hold. -/

theorem in0 (t : Fin cfg0.N) (a : Fin 4) : (iblk m c 0 t : _ → _) (ix1 a) = aK m c (ix1 a) := by
  unfold iblk aK
  refine (View.read_apply _ _).trans ?_
  refine congrArg (V m c _) (funext fun a => Fin.ext ?_)
  have hi := congrFun (ix_0 t)
  fin_cases a <;> blk_simp [hi]
theorem in1 (t : Fin cfg0.N)  : (iblk m c 1 t : _ → _) (ix1 0) = aSP m c (ix1 0) := by
  unfold iblk aSP
  refine (View.read_apply _ _).trans ?_
  refine congrArg (V m c _) (funext fun a => Fin.ext ?_)
  have hi := congrFun (ix_1 t)
  fin_cases a <;> blk_simp [hi]
theorem in3 (t : Fin cfg0.N) (p : Fin 64) (d : Fin 5120) : (iblk m c 3 t : _ → _) (ix2 p d) = aWE m c (ix2 p d) := by
  unfold iblk aWE
  refine (View.read_apply _ _).trans ?_
  refine congrArg (V m c _) (funext fun a => Fin.ext ?_)
  have hi := congrFun (ix_3 t)
  fin_cases a <;> blk_simp [hi]
theorem in4 (t : Fin cfg0.N) (d : Fin 5120) : (iblk m c 4 t : _ → _) (ix2 0 d) = aSE m c (ix2 0 d) := by
  unfold iblk aSE
  refine (View.read_apply _ _).trans ?_
  refine congrArg (V m c _) (funext fun a => Fin.ext ?_)
  have hi := congrFun (ix_4 t)
  fin_cases a <;> blk_simp [hi]
theorem in5 (t : Fin cfg0.N) (d : Fin 5120) : (iblk m c 5 t : _ → _) (ix2 0 d) = aBE m c (ix2 0 d) := by
  unfold iblk aBE
  refine (View.read_apply _ _).trans ?_
  refine congrArg (V m c _) (funext fun a => Fin.ext ?_)
  have hi := congrFun (ix_5 t)
  fin_cases a <;> blk_simp [hi]
theorem in10 (t : Fin cfg0.N) (d : Fin 5120) : (iblk m c 10 t : _ → _) (ix3 0 0 d) = aHS m c (ix3 (bt t) 0 d) := by
  unfold iblk aHS
  refine (View.read_apply _ _).trans ?_
  refine congrArg (V m c _) (funext fun a => Fin.ext ?_)
  have hi := congrFun (ix_10 t)
  fin_cases a <;> blk_simp [hi] <;> rfl
theorem in11 (t : Fin cfg0.N) (d : Fin 5120) : (iblk m c 11 t : _ → _) (ix3 0 0 d) = aHB m c (ix3 (bt t) 0 d) := by
  unfold iblk aHB
  refine (View.read_apply _ _).trans ?_
  refine congrArg (V m c _) (funext fun a => Fin.ext ?_)
  have hi := congrFun (ix_11 t)
  fin_cases a <;> blk_simp [hi] <;> rfl
theorem in12 (t : Fin cfg0.N) (o : Fin 64) (d : Fin 5120) : (iblk m c 12 t : _ → _) (ix2 o d) = aWH m c (ix2 o d) := by
  unfold iblk aWH
  refine (View.read_apply _ _).trans ?_
  refine congrArg (V m c _) (funext fun a => Fin.ext ?_)
  have hi := congrFun (ix_12 t)
  fin_cases a <;> blk_simp [hi]
theorem in13 (t : Fin cfg0.N) (o : Fin 64) : (iblk m c 13 t : _ → _) (ix2 o 0) = aSH m c (ix2 o 0) := by
  unfold iblk aSH
  refine (View.read_apply _ _).trans ?_
  refine congrArg (V m c _) (funext fun a => Fin.ext ?_)
  have hi := congrFun (ix_13 t)
  fin_cases a <;> blk_simp [hi]
theorem in14 (t : Fin cfg0.N) (o : Fin 64) : (iblk m c 14 t : _ → _) (ix2 o 0) = aBH m c (ix2 o 0) := by
  unfold iblk aBH
  refine (View.read_apply _ _).trans ?_
  refine congrArg (V m c _) (funext fun a => Fin.ext ?_)
  have hi := congrFun (ix_14 t)
  fin_cases a <;> blk_simp [hi]
theorem in2 (t : Fin cfg0.N) (z : S1x64x128.Idx → Elt Ideal .fp8e4m3) (ρ : Fin 128) (h : 128 * (t.val % 37) + ρ.val < 4680) (p : Fin 64) :
    win0_2.fill (grid0.coords t) z (iblk m c 2 t) (ix3 0 p ρ) = aPT m c (ix3 (bt t) p (nn t ρ h)) := by
  have hm : win0_2.moved (grid0.coords t) (ix3 0 p ρ) = true := by
    rw [Pipeline.Window.moved_iff]
    intro a
    rw [xs_2 t]
    have := ρ.isLt
    fin_cases a <;> first | exact Fin.isLt _ | (show ρ.val < min 128 (4680 - 128 * (t.val % 37)); omega)
  unfold Pipeline.Window.fill
  rw [dif_pos hm]
  unfold iblk aPT
  refine (View.read_apply _ _).trans ?_
  refine congrArg (V m c _) (funext fun a => Fin.ext ?_)
  have hi := congrFun (ix_2 t)
  have e1 : t.val % 37 * 128 + ρ.val = 128 * (t.val % 37) + ρ.val := by omega
  fin_cases a <;> blk_simp [hi] <;> first | rfl | exact e1
theorem in6 (t : Fin cfg0.N) (z : S1x2x128x5120.Idx → Elt Ideal .i8) (ρ : Fin 128) (h : 128 * (t.val % 37) + ρ.val < 4680) (b : Fin 2) (d : Fin 5120) :
    win0_6.fill (grid0.coords t) z (iblk m c 6 t) (ix4 0 b ρ d) = aC0 m c (ix4 (bt t) b (nn t ρ h) d) := by
  have hm : win0_6.moved (grid0.coords t) (ix4 0 b ρ d) = true := by
    rw [Pipeline.Window.moved_iff]
    intro a
    rw [xs_6 t]
    have := ρ.isLt
    fin_cases a <;> first | exact Fin.isLt _ | (show ρ.val < min 128 (4680 - 128 * (t.val % 37)); omega)
  unfold Pipeline.Window.fill
  rw [dif_pos hm]
  unfold iblk aC0
  refine (View.read_apply _ _).trans ?_
  refine congrArg (V m c _) (funext fun a => Fin.ext ?_)
  have hi := congrFun (ix_6 t)
  have e1 : t.val % 37 * 128 + ρ.val = 128 * (t.val % 37) + ρ.val := by omega
  fin_cases a <;> blk_simp [hi] <;> first | rfl | exact e1
theorem in8 (t : Fin cfg0.N) (z : S1x2x128x5120.Idx → Elt Ideal .i8) (ρ : Fin 128) (h : 128 * (t.val % 37) + ρ.val < 4680) (b : Fin 2) (d : Fin 5120) :
    win0_8.fill (grid0.coords t) z (iblk m c 8 t) (ix4 0 b ρ d) = aC1 m c (ix4 (bt t) b (nn t ρ h) d) := by
  have hm : win0_8.moved (grid0.coords t) (ix4 0 b ρ d) = true := by
    rw [Pipeline.Window.moved_iff]
    intro a
    rw [xs_8 t]
    have := ρ.isLt
    fin_cases a <;> first | exact Fin.isLt _ | (show ρ.val < min 128 (4680 - 128 * (t.val % 37)); omega)
  unfold Pipeline.Window.fill
  rw [dif_pos hm]
  unfold iblk aC1
  refine (View.read_apply _ _).trans ?_
  refine congrArg (V m c _) (funext fun a => Fin.ext ?_)
  have hi := congrFun (ix_8 t)
  have e1 : t.val % 37 * 128 + ρ.val = 128 * (t.val % 37) + ρ.val := by omega
  fin_cases a <;> blk_simp [hi] <;> first | rfl | exact e1
theorem in7 (t : Fin cfg0.N) (z : S1x2x40x128.Idx → Elt Ideal .f32) (ρ : Fin 128) (h : 128 * (t.val % 37) + ρ.val < 4680) (b : Fin 2) (g : Fin 40) :
    win0_7.fill (grid0.coords t) z (iblk m c 7 t) (ix4 0 b g ρ) = aS0 m c (ix4 (bt t) b g (nn t ρ h)) := by
  have hm : win0_7.moved (grid0.coords t) (ix4 0 b g ρ) = true := by
    rw [Pipeline.Window.moved_iff]
    intro a
    rw [xs_7 t]
    have := ρ.isLt
    fin_cases a <;> first | exact Fin.isLt _ | (show ρ.val < min 128 (4680 - 128 * (t.val % 37)); omega)
  unfold Pipeline.Window.fill
  rw [dif_pos hm]
  unfold iblk aS0
  refine (View.read_apply _ _).trans ?_
  refine congrArg (V m c _) (funext fun a => Fin.ext ?_)
  have hi := congrFun (ix_7 t)
  have e1 : t.val % 37 * 128 + ρ.val = 128 * (t.val % 37) + ρ.val := by omega
  fin_cases a <;> blk_simp [hi] <;> first | rfl | exact e1
theorem in9 (t : Fin cfg0.N) (z : S1x2x40x128.Idx → Elt Ideal .f32) (ρ : Fin 128) (h : 128 * (t.val % 37) + ρ.val < 4680) (b : Fin 2) (g : Fin 40) :
    win0_9.fill (grid0.coords t) z (iblk m c 9 t) (ix4 0 b g ρ) = aS1 m c (ix4 (bt t) b g (nn t ρ h)) := by
  have hm : win0_9.moved (grid0.coords t) (ix4 0 b g ρ) = true := by
    rw [Pipeline.Window.moved_iff]
    intro a
    rw [xs_9 t]
    have := ρ.isLt
    fin_cases a <;> first | exact Fin.isLt _ | (show ρ.val < min 128 (4680 - 128 * (t.val % 37)); omega)
  unfold Pipeline.Window.fill
  rw [dif_pos hm]
  unfold iblk aS1
  refine (View.read_apply _ _).trans ?_
  refine congrArg (V m c _) (funext fun a => Fin.ext ?_)
  have hi := congrFun (ix_9 t)
  have e1 : t.val % 37 * 128 + ρ.val = 128 * (t.val % 37) + ρ.val := by omega
  fin_cases a <;> blk_simp [hi] <;> first | rfl | exact e1

set_option maxHeartbeats 1000000 in
theorem out15 (t : Fin cfg0.N) (X : S1x2x128x5120.Idx → Elt Ideal .fp8e4m3) (G : S4x2x4680x5120.Idx → Elt Ideal .fp8e4m3)
    (h : ∀ (ρ : Fin 128) (h : 128 * (t.val % 37) + ρ.val < 4680) (b : Fin 2) (d : Fin 5120), X (ix4 0 b ρ d) = G (ix4 (bt t) b (nn t ρ h) d)) :
    win0_15.cut (grid0.coords t) X = (win0_15.blk t).view.read (Elt Ideal) G := by
  funext y
  have hx : ∀ a, (y a).val < ![1, 2, (min 128 (4680 - 128 * (t.val % 37))), 5120] a := fun a => by rw [← xs_15 t]; exact (y a).isLt
  have h0 : (y 0).val < 1 := hx 0
  have hρ : (y 2).val < min 128 (4680 - 128 * (t.val % 37)) := hx 2
  refine Eq.trans (congrArg X ?_) (Eq.trans (h ⟨(y 2).val, by omega⟩ (by show 128 * (t.val % 37) + (y 2).val < 4680; omega) ⟨(y 1).val, hx 1⟩ ⟨(y 3).val, hx 3⟩) (congrArg G ?_))
  · funext a; refine Fin.ext ?_
    fin_cases a <;> first | rfl | exact Nat.lt_one_iff.mp h0 | exact Nat.lt_one_iff.mp (hx 1) | exact Nat.lt_one_iff.mp (hx 2)
  · refine funext fun a => Fin.ext ?_
    have hi := congrFun (ix_15 t)
    have e0 : t.val / 37 = t.val / 37 + (y 0).val := by omega
    have e1 : 128 * (t.val % 37) + (y 2).val = t.val % 37 * 128 + (y 2).val := by omega
    fin_cases a <;> blk_simp [hi] <;> try first | rfl | exact e0 | exact e1 | exact (Nat.lt_one_iff.mp (hx 1)).symm | exact (Nat.lt_one_iff.mp (hx 2)).symm

set_option maxHeartbeats 1000000 in
theorem out16 (t : Fin cfg0.N) (X : S1x2x1x128.Idx → Elt Ideal .f32) (G : S4x2x1x4680.Idx → Elt Ideal .f32)
    (h : ∀ (ρ : Fin 128) (h : 128 * (t.val % 37) + ρ.val < 4680) (b : Fin 2), X (ix4 0 b 0 ρ) = G (ix4 (bt t) b 0 (nn t ρ h))) :
    win0_16.cut (grid0.coords t) X = (win0_16.blk t).view.read (Elt Ideal) G := by
  funext y
  have hx : ∀ a, (y a).val < ![1, 2, 1, (min 128 (4680 - 128 * (t.val % 37)))] a := fun a => by rw [← xs_16 t]; exact (y a).isLt
  have h0 : (y 0).val < 1 := hx 0
  have hρ : (y 3).val < min 128 (4680 - 128 * (t.val % 37)) := hx 3
  refine Eq.trans (congrArg X ?_) (Eq.trans (h ⟨(y 3).val, by omega⟩ (by show 128 * (t.val % 37) + (y 3).val < 4680; omega) ⟨(y 1).val, hx 1⟩) (congrArg G ?_))
  · funext a; refine Fin.ext ?_
    fin_cases a <;> first | rfl | exact Nat.lt_one_iff.mp h0 | exact Nat.lt_one_iff.mp (hx 1) | exact Nat.lt_one_iff.mp (hx 2)
  · refine funext fun a => Fin.ext ?_
    have hi := congrFun (ix_16 t)
    have e0 : t.val / 37 = t.val / 37 + (y 0).val := by omega
    have e1 : 128 * (t.val % 37) + (y 3).val = t.val % 37 * 128 + (y 3).val := by omega
    fin_cases a <;> blk_simp [hi] <;> try first | rfl | exact e0 | exact e1 | exact (Nat.lt_one_iff.mp (hx 1)).symm | exact (Nat.lt_one_iff.mp (hx 2)).symm

set_option maxHeartbeats 1000000 in
theorem out17 (t : Fin cfg0.N) (X : S1x2x64x128.Idx → Elt Ideal .f32) (G : S4x2x64x4680.Idx → Elt Ideal .f32)
    (h : ∀ (ρ : Fin 128) (h : 128 * (t.val % 37) + ρ.val < 4680) (b : Fin 2) (o : Fin 64), X (ix4 0 b o ρ) = G (ix4 (bt t) b o (nn t ρ h))) :
    win0_17.cut (grid0.coords t) X = (win0_17.blk t).view.read (Elt Ideal) G := by
  funext y
  have hx : ∀ a, (y a).val < ![1, 2, 64, (min 128 (4680 - 128 * (t.val % 37)))] a := fun a => by rw [← xs_17 t]; exact (y a).isLt
  have h0 : (y 0).val < 1 := hx 0
  have hρ : (y 3).val < min 128 (4680 - 128 * (t.val % 37)) := hx 3
  refine Eq.trans (congrArg X ?_) (Eq.trans (h ⟨(y 3).val, by omega⟩ (by show 128 * (t.val % 37) + (y 3).val < 4680; omega) ⟨(y 1).val, hx 1⟩ ⟨(y 2).val, hx 2⟩) (congrArg G ?_))
  · funext a; refine Fin.ext ?_
    fin_cases a <;> first | rfl | exact Nat.lt_one_iff.mp h0 | exact Nat.lt_one_iff.mp (hx 1) | exact Nat.lt_one_iff.mp (hx 2)
  · refine funext fun a => Fin.ext ?_
    have hi := congrFun (ix_17 t)
    have e0 : t.val / 37 = t.val / 37 + (y 0).val := by omega
    have e1 : 128 * (t.val % 37) + (y 3).val = t.val % 37 * 128 + (y 3).val := by omega
    fin_cases a <;> blk_simp [hi] <;> try first | rfl | exact e0 | exact e1 | exact (Nat.lt_one_iff.mp (hx 1)).symm | exact (Nat.lt_one_iff.mp (hx 2)).symm

set_option maxHeartbeats 1000000 in
theorem out18 (t : Fin cfg0.N) (X : S1x1x128.Idx → Elt Ideal .f32) (G : S4x1x4680.Idx → Elt Ideal .f32)
    (h : ∀ (ρ : Fin 128) (h : 128 * (t.val % 37) + ρ.val < 4680) , X (ix3 0 0 ρ) = G (ix3 (bt t) 0 (nn t ρ h))) :
    win0_18.cut (grid0.coords t) X = (win0_18.blk t).view.read (Elt Ideal) G := by
  funext y
  have hx : ∀ a, (y a).val < ![1, 1, (min 128 (4680 - 128 * (t.val % 37)))] a := fun a => by rw [← xs_18 t]; exact (y a).isLt
  have h0 : (y 0).val < 1 := hx 0
  have hρ : (y 2).val < min 128 (4680 - 128 * (t.val % 37)) := hx 2
  refine Eq.trans (congrArg X ?_) (Eq.trans (h ⟨(y 2).val, by omega⟩ (by show 128 * (t.val % 37) + (y 2).val < 4680; omega) ) (congrArg G ?_))
  · funext a; refine Fin.ext ?_
    fin_cases a <;> first | rfl | exact Nat.lt_one_iff.mp h0 | exact Nat.lt_one_iff.mp (hx 1) | exact Nat.lt_one_iff.mp (hx 2)
  · refine funext fun a => Fin.ext ?_
    have hi := congrFun (ix_18 t)
    have e0 : t.val / 37 = t.val / 37 + (y 0).val := by omega
    have e1 : 128 * (t.val % 37) + (y 2).val = t.val % 37 * 128 + (y 2).val := by omega
    fin_cases a <;> blk_simp [hi] <;> try first | rfl | exact e0 | exact e1 | exact (Nat.lt_one_iff.mp (hx 1)).symm | exact (Nat.lt_one_iff.mp (hx 2)).symm

set_option maxHeartbeats 1000000 in
theorem out19 (t : Fin cfg0.N) (X : S1x1x128.Idx → Elt Ideal .f32) (G : S4x1x4680.Idx → Elt Ideal .f32)
    (h : ∀ (ρ : Fin 128) (h : 128 * (t.val % 37) + ρ.val < 4680) , X (ix3 0 0 ρ) = G (ix3 (bt t) 0 (nn t ρ h))) :
    win0_19.cut (grid0.coords t) X = (win0_19.blk t).view.read (Elt Ideal) G := by
  funext y
  have hx : ∀ a, (y a).val < ![1, 1, (min 128 (4680 - 128 * (t.val % 37)))] a := fun a => by rw [← xs_19 t]; exact (y a).isLt
  have h0 : (y 0).val < 1 := hx 0
  have hρ : (y 2).val < min 128 (4680 - 128 * (t.val % 37)) := hx 2
  refine Eq.trans (congrArg X ?_) (Eq.trans (h ⟨(y 2).val, by omega⟩ (by show 128 * (t.val % 37) + (y 2).val < 4680; omega) ) (congrArg G ?_))
  · funext a; refine Fin.ext ?_
    fin_cases a <;> first | rfl | exact Nat.lt_one_iff.mp h0 | exact Nat.lt_one_iff.mp (hx 1) | exact Nat.lt_one_iff.mp (hx 2)
  · refine funext fun a => Fin.ext ?_
    have hi := congrFun (ix_19 t)
    have e0 : t.val / 37 = t.val / 37 + (y 0).val := by omega
    have e1 : 128 * (t.val % 37) + (y 2).val = t.val % 37 * 128 + (y 2).val := by omega
    fin_cases a <;> blk_simp [hi] <;> try first | rfl | exact e0 | exact e1 | exact (Nat.lt_one_iff.mp (hx 1)).symm | exact (Nat.lt_one_iff.mp (hx 2)).symm

end Cert.KernelIdeal.Hand
-- ==== Proof.ValOuts.lean ====
/- What one run leaves in its outputs, as a proposition on their contents. -/
module

public import proofs.«01_k».proof.Proof.ValOut

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The five outputs of a run hold the codes, the scales, the head outputs and the two inner products. -/
structure Outs (i : grid0.Coords) (x2 : S4.Idx → Elt Ideal .f32) (x4 : S1x64x128.Idx → Elt Ideal .fp8e4m3) (x5 : S64x5120.Idx → Elt Ideal .fp8e4m3) (x8 : S1x2x128x5120.Idx → Elt Ideal .i8) (x9 : S1x2x40x128.Idx → Elt Ideal .f32) (x10 : S1x2x128x5120.Idx → Elt Ideal .i8) (x11 : S1x2x40x128.Idx → Elt Ideal .f32) (x14 : S64x5120.Idx → Elt Ideal .fp8e4m3) (x15 : S64x1.Idx → Elt Ideal .f32) (x16 : S64x1.Idx → Elt Ideal .f32)
    (TT : Fin 3 → Fin 5120 → EReal) (RR : Fin 16 → Fin 5120 → EReal)
    (d17 : S1x2x128x5120.Idx → Elt Ideal .fp8e4m3) (d18 : S1x2x1x128.Idx → Elt Ideal .f32) (d19 : S1x2x64x128.Idx → Elt Ideal .f32) (d20 : S1x1x128.Idx → Elt Ideal .f32) (d21 : S1x1x128.Idx → Elt Ideal .f32) : Prop where
  o17 : ∀ (b : Fin 2) (ρ : Fin 128) (d : Fin 5120), d17 (ix4 0 b ρ d) = rQ (hid x8 x10 x9 x11 (x2 (ix1 (i 0))) x4 x5 TT b ρ) (TT 2) RR d
  o18 : ∀ (b : Fin 2) (ρ : Fin 128), d18 (ix4 0 b 0 ρ) = rSc (hid x8 x10 x9 x11 (x2 (ix1 (i 0))) x4 x5 TT b ρ) (TT 2) RR
  o19 : ∀ (b : Fin 2) (o : Fin 64) (ρ : Fin 128), d19 (ix4 0 b o ρ) = rO (hid x8 x10 x9 x11 (x2 (ix1 (i 0))) x4 x5 TT b ρ) (TT 2) RR (fun o d => x14 (ix2 o d)) (fun o => x15 (ix2 o 0)) (fun o => x16 (ix2 o 0)) o
  o20 : ∀ (ρ : Fin 128), d20 (ix3 0 0 ρ) = ∑ o, rO (hid x8 x10 x9 x11 (x2 (ix1 (i 0))) x4 x5 TT 0 ρ) (TT 2) RR (fun o d => x14 (ix2 o d)) (fun o => x15 (ix2 o 0)) (fun o => x16 (ix2 o 0)) o * rO (hid x8 x10 x9 x11 (x2 (ix1 (i 0))) x4 x5 TT 1 ρ) (TT 2) RR (fun o d => x14 (ix2 o d)) (fun o => x15 (ix2 o 0)) (fun o => x16 (ix2 o 0)) o
  o21 : ∀ (ρ : Fin 128), d21 (ix3 0 0 ρ) = ∑ o, rO (hid x8 x10 x9 x11 (x2 (ix1 (i 0))) x4 x5 TT 1 ρ) (TT 2) RR (fun o d => x14 (ix2 o d)) (fun o => x15 (ix2 o 0)) (fun o => x16 (ix2 o 0)) o * rO (hid x8 x10 x9 x11 (x2 (ix1 (i 0))) x4 x5 TT 1 ρ) (TT 2) RR (fun o d => x14 (ix2 o d)) (fun o => x15 (ix2 o 0)) (fun o => x16 (ix2 o 0)) o

end Cert.KernelIdeal.Hand
-- ==== Proof.ValDat.lean ====
/- The proof data of the launch: what each block holds after each point. -/
module

public import proofs.«01_k».proof.Proof.ValGeo
public import proofs.«01_k».proof.Proof.ValOuts

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (c : Dev nD)

/-- Window 0 as the body finds it. -/
def x0 (t : Fin cfg0.N) : S4.Idx → Elt Ideal .f32 := iblk m c 0 t
/-- Window 1 as the body finds it. -/
def x1 (t : Fin cfg0.N) : S1.Idx → Elt Ideal .f32 := iblk m c 1 t
/-- Window 2 as the body finds it, past the array at what was there. -/
def x2 (z : S1x64x128.Idx → Elt Ideal .fp8e4m3) (t : Fin cfg0.N) : S1x64x128.Idx → Elt Ideal .fp8e4m3 := win0_2.fill (grid0.coords t) z (iblk m c 2 t)
/-- Window 3 as the body finds it. -/
def x3 (t : Fin cfg0.N) : S64x5120.Idx → Elt Ideal .fp8e4m3 := iblk m c 3 t
/-- Window 4 as the body finds it. -/
def x4 (t : Fin cfg0.N) : S1x5120.Idx → Elt Ideal .f32 := iblk m c 4 t
/-- Window 5 as the body finds it. -/
def x5 (t : Fin cfg0.N) : S1x5120.Idx → Elt Ideal .f32 := iblk m c 5 t
/-- Window 6 as the body finds it, past the array at what was there. -/
def x6 (z : S1x2x128x5120.Idx → Elt Ideal .i8) (t : Fin cfg0.N) : S1x2x128x5120.Idx → Elt Ideal .i8 := win0_6.fill (grid0.coords t) z (iblk m c 6 t)
/-- Window 7 as the body finds it, past the array at what was there. -/
def x7 (z : S1x2x40x128.Idx → Elt Ideal .f32) (t : Fin cfg0.N) : S1x2x40x128.Idx → Elt Ideal .f32 := win0_7.fill (grid0.coords t) z (iblk m c 7 t)
/-- Window 8 as the body finds it, past the array at what was there. -/
def x8 (z : S1x2x128x5120.Idx → Elt Ideal .i8) (t : Fin cfg0.N) : S1x2x128x5120.Idx → Elt Ideal .i8 := win0_8.fill (grid0.coords t) z (iblk m c 8 t)
/-- Window 9 as the body finds it, past the array at what was there. -/
def x9 (z : S1x2x40x128.Idx → Elt Ideal .f32) (t : Fin cfg0.N) : S1x2x40x128.Idx → Elt Ideal .f32 := win0_9.fill (grid0.coords t) z (iblk m c 9 t)
/-- Window 10 as the body finds it. -/
def x10 (t : Fin cfg0.N) : S1x1x5120.Idx → Elt Ideal .f32 := iblk m c 10 t
/-- Window 11 as the body finds it. -/
def x11 (t : Fin cfg0.N) : S1x1x5120.Idx → Elt Ideal .f32 := iblk m c 11 t
/-- Window 12 as the body finds it. -/
def x12 (t : Fin cfg0.N) : S64x5120.Idx → Elt Ideal .fp8e4m3 := iblk m c 12 t
/-- Window 13 as the body finds it. -/
def x13 (t : Fin cfg0.N) : S64x1.Idx → Elt Ideal .f32 := iblk m c 13 t
/-- Window 14 as the body finds it. -/
def x14 (t : Fin cfg0.N) : S64x1.Idx → Elt Ideal .f32 := iblk m c 14 t
/-- Window 15 as the body leaves it, past the array at zero. -/
def y15 (t : Fin cfg0.N) : S1x2x128x5120.Idx → Elt Ideal .fp8e4m3 := win0_15.fill (grid0.coords t) (fun _ => (0 : EReal)) ((win0_15.blk t).view.read (Elt Ideal) (G15 m c))
/-- Window 16 as the body leaves it, past the array at zero. -/
def y16 (t : Fin cfg0.N) : S1x2x1x128.Idx → Elt Ideal .f32 := win0_16.fill (grid0.coords t) (fun _ => (0 : EReal)) ((win0_16.blk t).view.read (Elt Ideal) (G16 m c))
/-- Window 17 as the body leaves it, past the array at zero. -/
def y17 (t : Fin cfg0.N) : S1x2x64x128.Idx → Elt Ideal .f32 := win0_17.fill (grid0.coords t) (fun _ => (0 : EReal)) ((win0_17.blk t).view.read (Elt Ideal) (G17 m c))
/-- Window 18 as the body leaves it, past the array at zero. -/
def y18 (t : Fin cfg0.N) : S1x1x128.Idx → Elt Ideal .f32 := win0_18.fill (grid0.coords t) (fun _ => (0 : EReal)) ((win0_18.blk t).view.read (Elt Ideal) (G18 m c))
/-- Window 19 as the body leaves it, past the array at zero. -/
def y19 (t : Fin cfg0.N) : S1x1x128.Idx → Elt Ideal .f32 := win0_19.fill (grid0.coords t) (fun _ => (0 : EReal)) ((win0_19.blk t).view.read (Elt Ideal) (G19 m c))

/-- The row's values before normalisation, from the windows. -/
theorem hid_eq (t : Fin cfg0.N) (z2 : S1x64x128.Idx → Elt Ideal .fp8e4m3) (z6 : S1x2x128x5120.Idx → Elt Ideal .i8) (z7 : S1x2x40x128.Idx → Elt Ideal .f32) (z8 : S1x2x128x5120.Idx → Elt Ideal .i8) (z9 : S1x2x40x128.Idx → Elt Ideal .f32) (b : Fin 2) (ρ : Fin 128) (h : 128 * (t.val % 37) + ρ.val < 4680) :
    hid (x6 m c z6 t) (x8 m c z8 t) (x7 m c z7 t) (x9 m c z9 t) ((x0 m c t) (ix1 ((grid0.coords t) 0))) (x2 m c z2 t) (x3 m c t) (gT m c (bt t)) b ρ = gHid m c (bt t) b (nn t ρ h) := by
  funext d
  unfold hid gHid
  rw [show (x6 m c z6 t) (ix4 0 b ρ d) = _ from in6 m c t z6 ρ h b d, show (x8 m c z8 t) (ix4 0 b ρ d) = _ from in8 m c t z8 ρ h b d,
    show (x7 m c z7 t) (ix4 0 b (grp d) ρ) = _ from in7 m c t z7 ρ h b (grp d), show (x9 m c z9 t) (ix4 0 b (grp d) ρ) = _ from in9 m c t z9 ρ h b (grp d),
    co0 t, show (x0 m c t) (ix1 (bt t)) = _ from in0 m c t (bt t)]
  have hs : (∑ p : Fin 64, (x2 m c z2 t (ix3 0 p ρ) : EReal) * x3 m c t (ix2 p d)) = ∑ p : Fin 64, (aPT m c (ix3 (bt t) p (nn t ρ h)) : EReal) * aWE m c (ix2 p d) :=
    Finset.sum_congr rfl fun p _ => by rw [show (x2 m c z2 t) (ix3 0 p ρ) = _ from in2 m c t z2 ρ h p, show (x3 m c t) (ix2 p d) = _ from in3 m c t p d]
  rw [hs]
  rfl

theorem tab_eq (t : Fin cfg0.N) : tabT (fun d => x4 m c t (ix2 0 d)) (x1 m c t (ix1 0)) (fun d => x5 m c t (ix2 0 d)) (fun d => x10 m c t (ix3 0 0 d)) = gT m c (bt t) := by
  unfold gT
  rw [show (fun d => x4 m c t (ix2 0 d)) = _ from funext (in4 m c t), show x1 m c t (ix1 0) = _ from in1 m c t, show (fun d => x5 m c t (ix2 0 d)) = _ from funext (in5 m c t), show (fun d => x10 m c t (ix3 0 0 d)) = _ from funext (in10 m c t)]

theorem rhs_eq (t : Fin cfg0.N) : rhsT (fun d => x10 m c t (ix3 0 0 d)) (fun d => x11 m c t (ix3 0 0 d)) = gR m c (bt t) := by
  unfold gR
  rw [show (fun d => x10 m c t (ix3 0 0 d)) = _ from funext (in10 m c t), show (fun d => x11 m c t (ix3 0 0 d)) = _ from funext (in11 m c t)]

theorem wh_eq (t : Fin cfg0.N) : (fun o d => x12 m c t (ix2 o d)) = fun o d => aWH m c (ix2 o d) := funext fun o => funext fun d => in12 m c t o d
theorem sh_eq (t : Fin cfg0.N) : (fun o => x13 m c t (ix2 o 0)) = fun o => aSH m c (ix2 o 0) := funext fun o => in13 m c t o
theorem bh_eq (t : Fin cfg0.N) : (fun o => x14 m c t (ix2 o 0)) = fun o => aBH m c (ix2 o 0) := funext fun o => in14 m c t o

/-- What a run leaves in the outputs is, inside the arrays, what is to be written there. -/
theorem outs_cut (t : Fin cfg0.N) (z2 : S1x64x128.Idx → Elt Ideal .fp8e4m3) (z6 : S1x2x128x5120.Idx → Elt Ideal .i8) (z7 : S1x2x40x128.Idx → Elt Ideal .f32) (z8 : S1x2x128x5120.Idx → Elt Ideal .i8) (z9 : S1x2x40x128.Idx → Elt Ideal .f32) (d17 : S1x2x128x5120.Idx → Elt Ideal .fp8e4m3) (d18 : S1x2x1x128.Idx → Elt Ideal .f32) (d19 : S1x2x64x128.Idx → Elt Ideal .f32) (d20 : S1x1x128.Idx → Elt Ideal .f32) (d21 : S1x1x128.Idx → Elt Ideal .f32) (H : Outs (grid0.coords t) (x0 m c t) (x2 m c z2 t) (x3 m c t) (x6 m c z6 t) (x7 m c z7 t) (x8 m c z8 t) (x9 m c z9 t) (x12 m c t) (x13 m c t) (x14 m c t) (gT m c (bt t)) (gR m c (bt t)) d17 d18 d19 d20 d21) :
    win0_15.cut (grid0.coords t) d17 = (win0_15.blk t).view.read (Elt Ideal) (G15 m c) ∧ win0_16.cut (grid0.coords t) d18 = (win0_16.blk t).view.read (Elt Ideal) (G16 m c) ∧ win0_17.cut (grid0.coords t) d19 = (win0_17.blk t).view.read (Elt Ideal) (G17 m c) ∧ win0_18.cut (grid0.coords t) d20 = (win0_18.blk t).view.read (Elt Ideal) (G18 m c) ∧ win0_19.cut (grid0.coords t) d21 = (win0_19.blk t).view.read (Elt Ideal) (G19 m c) := by
  refine ⟨out15 t d17 _ fun ρ h b d => ?_, out16 t d18 _ fun ρ h b => ?_, out17 t d19 _ fun ρ h b o => ?_, out18 t d20 _ fun ρ h => ?_, out19 t d21 _ fun ρ h => ?_⟩
  · rw [H.o17, hid_eq m c t z2 z6 z7 z8 z9 b ρ h]; rfl
  · rw [H.o18, hid_eq m c t z2 z6 z7 z8 z9 b ρ h]; rfl
  · rw [H.o19, hid_eq m c t z2 z6 z7 z8 z9 b ρ h, wh_eq, sh_eq, bh_eq]; rfl
  · rw [H.o20, hid_eq m c t z2 z6 z7 z8 z9 0 ρ h, hid_eq m c t z2 z6 z7 z8 z9 1 ρ h, wh_eq, sh_eq, bh_eq]; rfl
  · rw [H.o21, hid_eq m c t z2 z6 z7 z8 z9 1 ρ h, wh_eq, sh_eq, bh_eq]; rfl

/-- The branch is taken at the first point of each frame. -/
theorem first_iff : ∀ t : Fin cfg0.N, first (grid0.coords t) ↔ t.val % 37 = 0 := (by decide +kernel : ∀ t : Fin grid0.N, _)

local notation "𝕄" => MT nD τ sig Unit (Elt Ideal) ℕ (UR sig nD τ) ℕ

/-- The frame a point count lies in. -/
def fr (n : ℕ) : Fin 4 := ⟨n / 37 % 4, Nat.mod_lt _ (Nat.le_of_ble_eq_true rfl)⟩

theorem fr_bt (t : Fin cfg0.N) : fr t.val = bt t := Fin.ext (Nat.mod_eq_of_lt (bt t).isLt)
theorem fr_succ (t : Fin cfg0.N) (h : (t.val + 1) % 37 ≠ 0) : fr (t.val + 1) = bt t := by
  have := lt_N t
  exact Fin.ext (show (t.val + 1) / 37 % 4 = t.val / 37 by omega)

/-- The scratch operands between points: after the first point of a frame the two tables are that frame's. -/
def ΦT (n : ℕ) : sProp 𝕄 :=
  iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)
    ∗ (∃ d, ⌜n % 37 ≠ 0 → ∀ (a : Fin 3) (s : Fin 8) (x : Fin 5120), (d : S3x8x5120.Idx → Elt Ideal .f32) (ix3 a s x) = gT m c (fr n) a x⌝ ∗ owns (c : Thread nD τ) (Memref.whole cc0_scratch3) fullShare d)
    ∗ (∃ d, ⌜n % 37 ≠ 0 → ∀ (j : Fin 16) (x : Fin 5120), (d : S16x5120.Idx → Elt Ideal .bf16) (ix2 j x) = gR m c (fr n) j x⌝ ∗ owns (c : Thread nD τ) (Memref.whole cc0_scratch4) fullShare d)
    ∗ (∃ d, owns (c : Thread nD τ) (Memref.whole cc0_scratch5) fullShare d))

end Cert.KernelIdeal.Hand
-- ==== Proof.ValMem.lean ====
/- The body's buffers and their contents, bundled. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KernelIdealRunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The body's twenty-six buffers. -/
structure Mem where
  a2 : Memref sig .tc .smem S4 .f32
  h2 : a2.IsWhole
  a3 : Memref sig .tc .smem S1 .f32
  h3 : a3.IsWhole
  a4 : Memref sig .tc .vmem S1x64x128 .fp8e4m3
  h4 : a4.IsWhole
  a5 : Memref sig .tc .vmem S64x5120 .fp8e4m3
  h5 : a5.IsWhole
  a6 : Memref sig .tc .vmem S1x5120 .f32
  h6 : a6.IsWhole
  a7 : Memref sig .tc .vmem S1x5120 .f32
  h7 : a7.IsWhole
  a8 : Memref sig .tc .vmem S1x2x128x5120 .i8
  h8 : a8.IsWhole
  a9 : Memref sig .tc .vmem S1x2x40x128 .f32
  h9 : a9.IsWhole
  a10 : Memref sig .tc .vmem S1x2x128x5120 .i8
  h10 : a10.IsWhole
  a11 : Memref sig .tc .vmem S1x2x40x128 .f32
  h11 : a11.IsWhole
  a12 : Memref sig .tc .vmem S1x1x5120 .f32
  h12 : a12.IsWhole
  a13 : Memref sig .tc .vmem S1x1x5120 .f32
  h13 : a13.IsWhole
  a14 : Memref sig .tc .vmem S64x5120 .fp8e4m3
  h14 : a14.IsWhole
  a15 : Memref sig .tc .vmem S64x1 .f32
  h15 : a15.IsWhole
  a16 : Memref sig .tc .vmem S64x1 .f32
  h16 : a16.IsWhole
  a17 : Memref sig .tc .vmem S1x2x128x5120 .fp8e4m3
  h17 : a17.IsWhole
  a18 : Memref sig .tc .vmem S1x2x1x128 .f32
  h18 : a18.IsWhole
  a19 : Memref sig .tc .vmem S1x2x64x128 .f32
  h19 : a19.IsWhole
  a20 : Memref sig .tc .vmem S1x1x128 .f32
  h20 : a20.IsWhole
  a21 : Memref sig .tc .vmem S1x1x128 .f32
  h21 : a21.IsWhole
  a22 : Memref sig .tc .vmem S2x128x5120 .f32
  h22 : a22.IsWhole
  a23 : Memref sig .tc .vmem S128x5120 .f32
  h23 : a23.IsWhole
  a24 : Memref sig .tc .vmem S2x128x128 .f32
  h24 : a24.IsWhole
  a25 : Memref sig .tc .vmem S3x8x5120 .f32
  h25 : a25.IsWhole
  a26 : Memref sig .tc .vmem S16x5120 .bf16
  h26 : a26.IsWhole
  a27 : Memref sig .tc .vmem S2x2x128x128 .f32
  h27 : a27.IsWhole

/-- What the buffers hold. -/
structure Cont (F : FTy → Type) (A : Mem) where
  f2 : BufTy.Contents (Elt F) A.a2.view.ty
  f3 : BufTy.Contents (Elt F) A.a3.view.ty
  f4 : BufTy.Contents (Elt F) A.a4.view.ty
  f5 : BufTy.Contents (Elt F) A.a5.view.ty
  f6 : BufTy.Contents (Elt F) A.a6.view.ty
  f7 : BufTy.Contents (Elt F) A.a7.view.ty
  f8 : BufTy.Contents (Elt F) A.a8.view.ty
  f9 : BufTy.Contents (Elt F) A.a9.view.ty
  f10 : BufTy.Contents (Elt F) A.a10.view.ty
  f11 : BufTy.Contents (Elt F) A.a11.view.ty
  f12 : BufTy.Contents (Elt F) A.a12.view.ty
  f13 : BufTy.Contents (Elt F) A.a13.view.ty
  f14 : BufTy.Contents (Elt F) A.a14.view.ty
  f15 : BufTy.Contents (Elt F) A.a15.view.ty
  f16 : BufTy.Contents (Elt F) A.a16.view.ty
  f17 : BufTy.Contents (Elt F) A.a17.view.ty
  f18 : BufTy.Contents (Elt F) A.a18.view.ty
  f19 : BufTy.Contents (Elt F) A.a19.view.ty
  f20 : BufTy.Contents (Elt F) A.a20.view.ty
  f21 : BufTy.Contents (Elt F) A.a21.view.ty
  f22 : BufTy.Contents (Elt F) A.a22.view.ty
  f23 : BufTy.Contents (Elt F) A.a23.view.ty
  f24 : BufTy.Contents (Elt F) A.a24.view.ty
  f25 : BufTy.Contents (Elt F) A.a25.view.ty
  f26 : BufTy.Contents (Elt F) A.a26.view.ty
  f27 : BufTy.Contents (Elt F) A.a27.view.ty

local notation "𝕄" => MT nD τ sig Unit (Elt F) ℕ (UR sig nD τ) ℕ

/-- The buffers held at given contents. -/
abbrev Held (c : Dev nD) (A : Mem) (f2 : BufTy.Contents (Elt F) A.a2.view.ty) (f3 : BufTy.Contents (Elt F) A.a3.view.ty) (f4 : BufTy.Contents (Elt F) A.a4.view.ty) (f5 : BufTy.Contents (Elt F) A.a5.view.ty) (f6 : BufTy.Contents (Elt F) A.a6.view.ty) (f7 : BufTy.Contents (Elt F) A.a7.view.ty) (f8 : BufTy.Contents (Elt F) A.a8.view.ty) (f9 : BufTy.Contents (Elt F) A.a9.view.ty) (f10 : BufTy.Contents (Elt F) A.a10.view.ty) (f11 : BufTy.Contents (Elt F) A.a11.view.ty) (f12 : BufTy.Contents (Elt F) A.a12.view.ty) (f13 : BufTy.Contents (Elt F) A.a13.view.ty) (f14 : BufTy.Contents (Elt F) A.a14.view.ty) (f15 : BufTy.Contents (Elt F) A.a15.view.ty) (f16 : BufTy.Contents (Elt F) A.a16.view.ty) (f17 : BufTy.Contents (Elt F) A.a17.view.ty) (f18 : BufTy.Contents (Elt F) A.a18.view.ty) (f19 : BufTy.Contents (Elt F) A.a19.view.ty) (f20 : BufTy.Contents (Elt F) A.a20.view.ty) (f21 : BufTy.Contents (Elt F) A.a21.view.ty) (f22 : BufTy.Contents (Elt F) A.a22.view.ty) (f23 : BufTy.Contents (Elt F) A.a23.view.ty) (f24 : BufTy.Contents (Elt F) A.a24.view.ty) (f25 : BufTy.Contents (Elt F) A.a25.view.ty) (f26 : BufTy.Contents (Elt F) A.a26.view.ty) (f27 : BufTy.Contents (Elt F) A.a27.view.ty) : sProp 𝕄 :=
  iprop((A.a2.view.loc (c : Thread nD τ) ↦[A.a2.view.set]{fullShare} f2) ∗ (A.a3.view.loc (c : Thread nD τ) ↦[A.a3.view.set]{fullShare} f3) ∗ (A.a4.view.loc (c : Thread nD τ) ↦[A.a4.view.set]{fullShare} f4) ∗ (A.a5.view.loc (c : Thread nD τ) ↦[A.a5.view.set]{fullShare} f5) ∗ (A.a6.view.loc (c : Thread nD τ) ↦[A.a6.view.set]{fullShare} f6) ∗ (A.a7.view.loc (c : Thread nD τ) ↦[A.a7.view.set]{fullShare} f7) ∗ (A.a8.view.loc (c : Thread nD τ) ↦[A.a8.view.set]{fullShare} f8) ∗ (A.a9.view.loc (c : Thread nD τ) ↦[A.a9.view.set]{fullShare} f9) ∗ (A.a10.view.loc (c : Thread nD τ) ↦[A.a10.view.set]{fullShare} f10) ∗ (A.a11.view.loc (c : Thread nD τ) ↦[A.a11.view.set]{fullShare} f11) ∗ (A.a12.view.loc (c : Thread nD τ) ↦[A.a12.view.set]{fullShare} f12) ∗ (A.a13.view.loc (c : Thread nD τ) ↦[A.a13.view.set]{fullShare} f13) ∗ (A.a14.view.loc (c : Thread nD τ) ↦[A.a14.view.set]{fullShare} f14) ∗ (A.a15.view.loc (c : Thread nD τ) ↦[A.a15.view.set]{fullShare} f15) ∗ (A.a16.view.loc (c : Thread nD τ) ↦[A.a16.view.set]{fullShare} f16) ∗ (A.a17.view.loc (c : Thread nD τ) ↦[A.a17.view.set]{fullShare} f17) ∗ (A.a18.view.loc (c : Thread nD τ) ↦[A.a18.view.set]{fullShare} f18) ∗ (A.a19.view.loc (c : Thread nD τ) ↦[A.a19.view.set]{fullShare} f19) ∗ (A.a20.view.loc (c : Thread nD τ) ↦[A.a20.view.set]{fullShare} f20) ∗ (A.a21.view.loc (c : Thread nD τ) ↦[A.a21.view.set]{fullShare} f21) ∗ (A.a22.view.loc (c : Thread nD τ) ↦[A.a22.view.set]{fullShare} f22) ∗ (A.a23.view.loc (c : Thread nD τ) ↦[A.a23.view.set]{fullShare} f23) ∗ (A.a24.view.loc (c : Thread nD τ) ↦[A.a24.view.set]{fullShare} f24) ∗ (A.a25.view.loc (c : Thread nD τ) ↦[A.a25.view.set]{fullShare} f25) ∗ (A.a26.view.loc (c : Thread nD τ) ↦[A.a26.view.set]{fullShare} f26) ∗ (A.a27.view.loc (c : Thread nD τ) ↦[A.a27.view.set]{fullShare} f27))

end Cert.KernelIdeal.Hand
-- ==== Proof.ValRunA.lean ====
/- The body run with the contents it ends with, case A. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.ValMem

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The body run from contents `X`: the contents it ends with, the branch taken. -/
def runA (c : Dev nD) (i : grid0.Coords) (hc0 : first i) (A : Mem) (X : Cont F A) :
    { o : Cont F A // ∀ (E : Set ℕ) (K : PUnit → sProp 𝕄),
      iprop(Held c A X.f2 X.f3 X.f4 X.f5 X.f6 X.f7 X.f8 X.f9 X.f10 X.f11 X.f12 X.f13 X.f14 X.f15 X.f16 X.f17 X.f18 X.f19 X.f20 X.f21 X.f22 X.f23 X.f24 X.f25 X.f26 X.f27 ∗ (Held c A o.f2 o.f3 o.f4 o.f5 o.f6 o.f7 o.f8 o.f9 o.f10 o.f11 o.f12 o.f13 o.f14 o.f15 o.f16 o.f17 o.f18 o.f19 o.f20 o.f21 o.f22 o.f23 o.f24 o.f25 o.f26 o.f27 -∗ K ⟨⟩))
        ⊢ wp frame (wpE (defs₀ (F := F)) Variants.none c none) E (cc0_head i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) K } := by
  refine ⟨⟨X.f2, X.f3, X.f4, X.f5, X.f6, X.f7, X.f8, X.f9, X.f10, X.f11, X.f12, X.f13, X.f14, X.f15, X.f16, ?_, ?_, ?_, ?_, ?_, ?_, ?_, ?_, ?_, ?_, ?_⟩, fun E K => ?run⟩
  case run =>
    dsimp only
    simp only [cc0_head_eq_skeleton]; unfold cc0_head_skel
    simp only [k0_part60_eq_skeleton, k0_part1_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    iintro ⟨⟨H2, H3, H4, H5, H6, H7, H8, H9, H10, H11, H12, H13, H14, H15, H16, H17, H18, H19, H20, H21, H22, H23, H24, H25, H26, H27⟩, Hk⟩
    sl_exec (disch := first | sl_exact hc0)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

end Cert.KernelIdeal.Hand
-- ==== Proof.ValMidA.lean ====
/- The middle of a run with the tables being formed: what its buffers hold. -/
module

public import proofs.«01_k».proof.Proof.ValSpec
public import proofs.«01_k».proof.Proof.ValRunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The hidden rows of the run. -/
def hbA (c : Dev nD) (i : grid0.Coords) (A : Mem) (X : Cont Ideal A) (TT : Fin 3 → Fin 5120 → EReal) (b : Fin 2) (ρ : Fin 128) (d : Fin 5120) : EReal := HH A.a8 A.a10 A.a23 A.a24 X.f8 X.f10 (A.a23.view.writes (Elt Ideal) A.a23.view.junk (runA.sl.H23_1 (F := Ideal) A X)) (A.a24.view.writes (Elt Ideal) A.a24.view.junk (runA.sl.H24_2 (F := Ideal) i A X)) TT b ρ d
/-- The modulated rows of the run, and its codes. -/
def hmA (c : Dev nD) (i : grid0.Coords) (A : Mem) (X : Cont Ideal A) (TT : Fin 3 → Fin 5120 → EReal) (RR : Fin 16 → Fin 5120 → EReal) (b : Fin 2) (ρ : Fin 128) (d : Fin 5120) : EReal := rHM (hbA c i A X TT b ρ) (TT 2) RR d
def qqA (c : Dev nD) (i : grid0.Coords) (A : Mem) (X : Cont Ideal A) (TT : Fin 3 → Fin 5120 → EReal) (RR : Fin 16 → Fin 5120 → EReal) (b : Fin 2) (ρ : Fin 128) (d : Fin 5120) : EReal := rQ (hbA c i A X TT b ρ) (TT 2) RR d

variable (c : Dev nD) (i : grid0.Coords) (A : Mem) (X : Cont Ideal A) (TT : Fin 3 → Fin 5120 → EReal) (RR : Fin 16 → Fin 5120 → EReal)
  (hT : ∀ (a : Fin 3) (s : Fin 8) (d : Fin 5120), View.read (Elt Ideal) A.a25.view (A.a25.view.writes (Elt Ideal) A.a25.view.junk (runA.sl.H25_3 (F := Ideal) A X)) (ix3 a s d) = TT a d)
  (hR : ∀ (j : Fin 16) (d : Fin 5120), View.read (Elt Ideal) A.a26.view (A.a26.view.writes (Elt Ideal) A.a26.view.junk (runA.sl.H26_1 (F := Ideal) A X)) (ix2 j d) = RR j d)

include hT
theorem baseA : Inv A.a22.view (hmA c i A X TT RR) (hbA c i A X TT) 0 (pb_k0_t1 (F := Ideal) Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runA.sl.r_5 (F := Ideal) A X) (runA.sl.r_6 (F := Ideal) A X) (runA.sl.r_7 (F := Ideal) i A X) (runA.sl.cst_21 (F := Ideal) ) X.f8 X.f10 (A.a23.view.writes (Elt Ideal) A.a23.view.junk (runA.sl.H23_1 (F := Ideal) A X)) (A.a24.view.writes (Elt Ideal) A.a24.view.junk (runA.sl.H24_2 (F := Ideal) i A X)) (A.a25.view.writes (Elt Ideal) A.a25.view.junk (runA.sl.H25_3 (F := Ideal) A X)) k0_t1_loop.trips).1 := by
  intro f b ρ d
  rw [if_neg (by omega)]
  exact loop_h Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runA.sl.r_5 (F := Ideal) A X) (runA.sl.r_6 (F := Ideal) A X) (runA.sl.r_7 (F := Ideal) i A X) (runA.sl.cst_21 (F := Ideal) ) X.f8 X.f10 (A.a23.view.writes (Elt Ideal) A.a23.view.junk (runA.sl.H23_1 (F := Ideal) A X)) (A.a24.view.writes (Elt Ideal) A.a24.view.junk (runA.sl.H24_2 (F := Ideal) i A X)) (A.a25.view.writes (Elt Ideal) A.a25.view.junk (runA.sl.H25_3 (F := Ideal) A X)) TT hT A.a22.view f (ix3 b ρ d)

theorem sumA_0_0 (ρ x : Fin 128) : (runA.sl.v43 (F := Ideal) c i A X) (ix4 0 0 ρ x) = SS A.a8 A.a10 A.a23 A.a24 X.f8 X.f10 (A.a23.view.writes (Elt Ideal) A.a23.view.junk (runA.sl.H23_1 (F := Ideal) A X)) (A.a24.view.writes (Elt Ideal) A.a24.view.junk (runA.sl.H24_2 (F := Ideal) i A X)) TT 0 0 ρ x := by
  unfold runA.sl.v43
  refine (readAt_at A.a27.view _ _ (ix4 0 0 ρ x) (ix4 0 0 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runA.sl.r_5 (F := Ideal) A X) (runA.sl.r_6 (F := Ideal) A X) (runA.sl.r_7 (F := Ideal) i A X) (runA.sl.cst_21 (F := Ideal) ) X.f8 X.f10 (A.a23.view.writes (Elt Ideal) A.a23.view.junk (runA.sl.H23_1 (F := Ideal) A X)) (A.a24.view.writes (Elt Ideal) A.a24.view.junk (runA.sl.H24_2 (F := Ideal) i A X)) (A.a25.view.writes (Elt Ideal) A.a25.view.junk (runA.sl.H25_3 (F := Ideal) A X)) TT hT A.a27.view _ (ix4 0 0 ρ x))
  fin_cases q
  · rfl
  · rfl
  · exact (Nat.zero_add _).symm
  · exact (Nat.zero_add _).symm

theorem sumA_0_1 (ρ x : Fin 128) : (runA.sl.v48 (F := Ideal) c i A X) (ix4 0 0 ρ x) = SS A.a8 A.a10 A.a23 A.a24 X.f8 X.f10 (A.a23.view.writes (Elt Ideal) A.a23.view.junk (runA.sl.H23_1 (F := Ideal) A X)) (A.a24.view.writes (Elt Ideal) A.a24.view.junk (runA.sl.H24_2 (F := Ideal) i A X)) TT 0 1 ρ x := by
  unfold runA.sl.v48
  refine (readAt_at A.a27.view _ _ (ix4 0 0 ρ x) (ix4 0 1 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runA.sl.r_5 (F := Ideal) A X) (runA.sl.r_6 (F := Ideal) A X) (runA.sl.r_7 (F := Ideal) i A X) (runA.sl.cst_21 (F := Ideal) ) X.f8 X.f10 (A.a23.view.writes (Elt Ideal) A.a23.view.junk (runA.sl.H23_1 (F := Ideal) A X)) (A.a24.view.writes (Elt Ideal) A.a24.view.junk (runA.sl.H24_2 (F := Ideal) i A X)) (A.a25.view.writes (Elt Ideal) A.a25.view.junk (runA.sl.H25_3 (F := Ideal) A X)) TT hT A.a27.view _ (ix4 0 1 ρ x))
  fin_cases q
  · rfl
  · rfl
  · exact (Nat.zero_add _).symm
  · exact (Nat.zero_add _).symm

theorem sumA_1_0 (ρ x : Fin 128) : (runA.sl.v54 (F := Ideal) c i A X) (ix4 0 0 ρ x) = SS A.a8 A.a10 A.a23 A.a24 X.f8 X.f10 (A.a23.view.writes (Elt Ideal) A.a23.view.junk (runA.sl.H23_1 (F := Ideal) A X)) (A.a24.view.writes (Elt Ideal) A.a24.view.junk (runA.sl.H24_2 (F := Ideal) i A X)) TT 1 0 ρ x := by
  unfold runA.sl.v54
  refine (readAt_at A.a27.view _ _ (ix4 0 0 ρ x) (ix4 1 0 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runA.sl.r_5 (F := Ideal) A X) (runA.sl.r_6 (F := Ideal) A X) (runA.sl.r_7 (F := Ideal) i A X) (runA.sl.cst_21 (F := Ideal) ) X.f8 X.f10 (A.a23.view.writes (Elt Ideal) A.a23.view.junk (runA.sl.H23_1 (F := Ideal) A X)) (A.a24.view.writes (Elt Ideal) A.a24.view.junk (runA.sl.H24_2 (F := Ideal) i A X)) (A.a25.view.writes (Elt Ideal) A.a25.view.junk (runA.sl.H25_3 (F := Ideal) A X)) TT hT A.a27.view _ (ix4 1 0 ρ x))
  fin_cases q
  · rfl
  · rfl
  · exact (Nat.zero_add _).symm
  · exact (Nat.zero_add _).symm

theorem sumA_1_1 (ρ x : Fin 128) : (runA.sl.v59 (F := Ideal) c i A X) (ix4 0 0 ρ x) = SS A.a8 A.a10 A.a23 A.a24 X.f8 X.f10 (A.a23.view.writes (Elt Ideal) A.a23.view.junk (runA.sl.H23_1 (F := Ideal) A X)) (A.a24.view.writes (Elt Ideal) A.a24.view.junk (runA.sl.H24_2 (F := Ideal) i A X)) TT 1 1 ρ x := by
  unfold runA.sl.v59
  refine (readAt_at A.a27.view _ _ (ix4 0 0 ρ x) (ix4 1 1 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runA.sl.r_5 (F := Ideal) A X) (runA.sl.r_6 (F := Ideal) A X) (runA.sl.r_7 (F := Ideal) i A X) (runA.sl.cst_21 (F := Ideal) ) X.f8 X.f10 (A.a23.view.writes (Elt Ideal) A.a23.view.junk (runA.sl.H23_1 (F := Ideal) A X)) (A.a24.view.writes (Elt Ideal) A.a24.view.junk (runA.sl.H24_2 (F := Ideal) i A X)) (A.a25.view.writes (Elt Ideal) A.a25.view.junk (runA.sl.H25_3 (F := Ideal) A X)) TT hT A.a27.view _ (ix4 1 1 ρ x))
  fin_cases q
  · rfl
  · rfl
  · exact (Nat.zero_add _).symm
  · exact (Nat.zero_add _).symm

theorem s1A (b : Fin 2) (ρ : Fin 128) : (∑ x, (if b = 0 then (runA.sl.v43 (F := Ideal) c i A X) else (runA.sl.v48 (F := Ideal) c i A X)) (ix4 0 0 ρ x)) = rS1 (hbA c i A X TT b ρ) := by
  unfold rS1
  refine Finset.sum_congr rfl fun x _ => ?_
  obtain rfl | rfl : b = 0 ∨ b = 1 := by omega
  · rw [if_pos rfl, sumA_0_0 c i A X TT hT]; rfl
  · rw [if_neg (by decide), sumA_0_1 c i A X TT hT]; rfl

theorem s2A (b : Fin 2) (ρ : Fin 128) : (∑ x, (if b = 0 then (runA.sl.v54 (F := Ideal) c i A X) else (runA.sl.v59 (F := Ideal) c i A X)) (ix4 0 0 ρ x)) = rS2 (hbA c i A X TT b ρ) := by
  unfold rS2
  refine Finset.sum_congr rfl fun x _ => ?_
  obtain rfl | rfl : b = 0 ∨ b = 1 := by omega
  · rw [if_pos rfl, sumA_1_0 c i A X TT hT]; rfl
  · rw [if_neg (by decide), sumA_1_1 c i A X TT hT]; rfl

theorem lhA (b : Fin 2) (ρ : Fin 128) (j : Fin 16) : (runA.sl.r_11 (F := Ideal) c i A X) (ix2 (row b ρ) j) = outerL (0 - muF (rS1 (hbA c i A X TT b ρ))) (sdF (rS1 (hbA c i A X TT b ρ)) (rS2 (hbA c i A X TT b ρ))) j := by
  rw [← s1A c i A X TT hT, ← s2A c i A X TT hT]
  exact P_lh _ _ _ _ b ρ j

theorem rsA (b : Fin 2) (ρ : Fin 128) : (runA.sl.r_10 (F := Ideal) c i A X) (ix2 0 (row b ρ)) = rRs (hbA c i A X TT b ρ) := by
  unfold rRs
  rw [← s1A c i A X TT hT, ← s2A c i A X TT hT]
  exact P_rs _ _ _ _ b ρ

include hR
theorem invA_1 : Inv A.a22.view (hmA c i A X TT RR) (hbA c i A X TT) 1 (runA.sl.H22_1 (F := Ideal) c i A X) := by
  unfold runA.sl.H22_1
  exact inv_step _ _ _ 0 _ _ _ (baseA c i A X TT RR hT) fun b ρ l => (P_h0 _ _ _ _ b ρ l).trans (hmv_eq (rd_h 0 (baseA c i A X TT RR hT) b ρ l) (rd_tab 0 hT _ l) (lhA c i A X TT hT b ρ) (rd_lo 0 hR l))

theorem invA_2 : Inv A.a22.view (hmA c i A X TT RR) (hbA c i A X TT) 2 (runA.sl.H22_2 (F := Ideal) c i A X) := by
  unfold runA.sl.H22_2
  exact inv_step _ _ _ 1 _ _ _ (invA_1 c i A X TT RR hT hR) fun b ρ l => (P_h1 _ _ _ _ b ρ l).trans (hmv_eq (rd_h 1 (invA_1 c i A X TT RR hT hR) b ρ l) (rd_tab 1 hT _ l) (lhA c i A X TT hT b ρ) (rd_hi 0 1 rfl hR l))

theorem invA_3 : Inv A.a22.view (hmA c i A X TT RR) (hbA c i A X TT) 3 (runA.sl.H22_3 (F := Ideal) c i A X) := by
  unfold runA.sl.H22_3
  exact inv_step _ _ _ 2 _ _ _ (invA_2 c i A X TT RR hT hR) fun b ρ l => (P_h2 _ _ _ _ b ρ l).trans (hmv_eq (rd_h 2 (invA_2 c i A X TT RR hT hR) b ρ l) (rd_tab 2 hT _ l) (lhA c i A X TT hT b ρ) (rd_lo 2 hR l))

theorem invA_4 : Inv A.a22.view (hmA c i A X TT RR) (hbA c i A X TT) 4 (runA.sl.H22_4 (F := Ideal) c i A X) := by
  unfold runA.sl.H22_4
  exact inv_step _ _ _ 3 _ _ _ (invA_3 c i A X TT RR hT hR) fun b ρ l => (P_h3 _ _ _ _ b ρ l).trans (hmv_eq (rd_h 3 (invA_3 c i A X TT RR hT hR) b ρ l) (rd_tab 3 hT _ l) (lhA c i A X TT hT b ρ) (rd_hi 2 3 rfl hR l))

theorem invA_5 : Inv A.a22.view (hmA c i A X TT RR) (hbA c i A X TT) 5 (runA.sl.H22_5 (F := Ideal) c i A X) := by
  unfold runA.sl.H22_5
  exact inv_step _ _ _ 4 _ _ _ (invA_4 c i A X TT RR hT hR) fun b ρ l => (P_h4 _ _ _ _ b ρ l).trans (hmv_eq (rd_h 4 (invA_4 c i A X TT RR hT hR) b ρ l) (rd_tab 4 hT _ l) (lhA c i A X TT hT b ρ) (rd_lo 4 hR l))

theorem invA_6 : Inv A.a22.view (hmA c i A X TT RR) (hbA c i A X TT) 6 (runA.sl.H22_6 (F := Ideal) c i A X) := by
  unfold runA.sl.H22_6
  exact inv_step _ _ _ 5 _ _ _ (invA_5 c i A X TT RR hT hR) fun b ρ l => (P_h5 _ _ _ _ b ρ l).trans (hmv_eq (rd_h 5 (invA_5 c i A X TT RR hT hR) b ρ l) (rd_tab 5 hT _ l) (lhA c i A X TT hT b ρ) (rd_hi 4 5 rfl hR l))

theorem invA_7 : Inv A.a22.view (hmA c i A X TT RR) (hbA c i A X TT) 7 (runA.sl.H22_7 (F := Ideal) c i A X) := by
  unfold runA.sl.H22_7
  exact inv_step _ _ _ 6 _ _ _ (invA_6 c i A X TT RR hT hR) fun b ρ l => (P_h6 _ _ _ _ b ρ l).trans (hmv_eq (rd_h 6 (invA_6 c i A X TT RR hT hR) b ρ l) (rd_tab 6 hT _ l) (lhA c i A X TT hT b ρ) (rd_lo 6 hR l))

theorem invA_8 : Inv A.a22.view (hmA c i A X TT RR) (hbA c i A X TT) 8 (runA.sl.H22_8 (F := Ideal) c i A X) := by
  unfold runA.sl.H22_8
  exact inv_step _ _ _ 7 _ _ _ (invA_7 c i A X TT RR hT hR) fun b ρ l => (P_h7 _ _ _ _ b ρ l).trans (hmv_eq (rd_h 7 (invA_7 c i A X TT RR hT hR) b ρ l) (rd_tab 7 hT _ l) (lhA c i A X TT hT b ρ) (rd_hi 6 7 rfl hR l))

theorem invA_9 : Inv A.a22.view (hmA c i A X TT RR) (hbA c i A X TT) 9 (runA.sl.H22_9 (F := Ideal) c i A X) := by
  unfold runA.sl.H22_9
  exact inv_step _ _ _ 8 _ _ _ (invA_8 c i A X TT RR hT hR) fun b ρ l => (P_h8 _ _ _ _ b ρ l).trans (hmv_eq (rd_h 8 (invA_8 c i A X TT RR hT hR) b ρ l) (rd_tab 8 hT _ l) (lhA c i A X TT hT b ρ) (rd_lo 8 hR l))

theorem invA_10 : Inv A.a22.view (hmA c i A X TT RR) (hbA c i A X TT) 10 (runA.sl.H22_10 (F := Ideal) c i A X) := by
  unfold runA.sl.H22_10
  exact inv_step _ _ _ 9 _ _ _ (invA_9 c i A X TT RR hT hR) fun b ρ l => (P_h9 _ _ _ _ b ρ l).trans (hmv_eq (rd_h 9 (invA_9 c i A X TT RR hT hR) b ρ l) (rd_tab 9 hT _ l) (lhA c i A X TT hT b ρ) (rd_hi 8 9 rfl hR l))

theorem invA_11 : Inv A.a22.view (hmA c i A X TT RR) (hbA c i A X TT) 11 (runA.sl.H22_11 (F := Ideal) c i A X) := by
  unfold runA.sl.H22_11
  exact inv_step _ _ _ 10 _ _ _ (invA_10 c i A X TT RR hT hR) fun b ρ l => (P_h10 _ _ _ _ b ρ l).trans (hmv_eq (rd_h 10 (invA_10 c i A X TT RR hT hR) b ρ l) (rd_tab 10 hT _ l) (lhA c i A X TT hT b ρ) (rd_lo 10 hR l))

theorem invA_12 : Inv A.a22.view (hmA c i A X TT RR) (hbA c i A X TT) 12 (runA.sl.H22_12 (F := Ideal) c i A X) := by
  unfold runA.sl.H22_12
  exact inv_step _ _ _ 11 _ _ _ (invA_11 c i A X TT RR hT hR) fun b ρ l => (P_h11 _ _ _ _ b ρ l).trans (hmv_eq (rd_h 11 (invA_11 c i A X TT RR hT hR) b ρ l) (rd_tab 11 hT _ l) (lhA c i A X TT hT b ρ) (rd_hi 10 11 rfl hR l))

theorem invA_13 : Inv A.a22.view (hmA c i A X TT RR) (hbA c i A X TT) 13 (runA.sl.H22_13 (F := Ideal) c i A X) := by
  unfold runA.sl.H22_13
  exact inv_step _ _ _ 12 _ _ _ (invA_12 c i A X TT RR hT hR) fun b ρ l => (P_h12 _ _ _ _ b ρ l).trans (hmv_eq (rd_h 12 (invA_12 c i A X TT RR hT hR) b ρ l) (rd_tab 12 hT _ l) (lhA c i A X TT hT b ρ) (rd_lo 12 hR l))

theorem invA_14 : Inv A.a22.view (hmA c i A X TT RR) (hbA c i A X TT) 14 (runA.sl.H22_14 (F := Ideal) c i A X) := by
  unfold runA.sl.H22_14
  exact inv_step _ _ _ 13 _ _ _ (invA_13 c i A X TT RR hT hR) fun b ρ l => (P_h13 _ _ _ _ b ρ l).trans (hmv_eq (rd_h 13 (invA_13 c i A X TT RR hT hR) b ρ l) (rd_tab 13 hT _ l) (lhA c i A X TT hT b ρ) (rd_hi 12 13 rfl hR l))

theorem invA_15 : Inv A.a22.view (hmA c i A X TT RR) (hbA c i A X TT) 15 (runA.sl.H22_15 (F := Ideal) c i A X) := by
  unfold runA.sl.H22_15
  exact inv_step _ _ _ 14 _ _ _ (invA_14 c i A X TT RR hT hR) fun b ρ l => (P_h14 _ _ _ _ b ρ l).trans (hmv_eq (rd_h 14 (invA_14 c i A X TT RR hT hR) b ρ l) (rd_tab 14 hT _ l) (lhA c i A X TT hT b ρ) (rd_lo 14 hR l))

theorem invA_16 : Inv A.a22.view (hmA c i A X TT RR) (hbA c i A X TT) 16 (runA.sl.H22_16 (F := Ideal) c i A X) := by
  unfold runA.sl.H22_16
  exact inv_step _ _ _ 15 _ _ _ (invA_15 c i A X TT RR hT hR) fun b ρ l => (P_h15 _ _ _ _ b ρ l).trans (hmv_eq (rd_h 15 (invA_15 c i A X TT RR hT hR) b ρ l) (rd_tab 15 hT _ l) (lhA c i A X TT hT b ρ) (rd_hi 14 15 rfl hR l))

theorem invA_17 : Inv A.a22.view (hmA c i A X TT RR) (hbA c i A X TT) 17 (runA.sl.H22_17 (F := Ideal) c i A X) := by
  unfold runA.sl.H22_17
  exact inv_step _ _ _ 16 _ _ _ (invA_16 c i A X TT RR hT hR) fun b ρ l => (P_h16 _ _ _ _ b ρ l).trans (hmv_eq (rd_h 16 (invA_16 c i A X TT RR hT hR) b ρ l) (rd_tab 16 hT _ l) (lhA c i A X TT hT b ρ) (rd_lo 16 hR l))

theorem invA_18 : Inv A.a22.view (hmA c i A X TT RR) (hbA c i A X TT) 18 (runA.sl.H22_18 (F := Ideal) c i A X) := by
  unfold runA.sl.H22_18
  exact inv_step _ _ _ 17 _ _ _ (invA_17 c i A X TT RR hT hR) fun b ρ l => (P_h17 _ _ _ _ b ρ l).trans (hmv_eq (rd_h 17 (invA_17 c i A X TT RR hT hR) b ρ l) (rd_tab 17 hT _ l) (lhA c i A X TT hT b ρ) (rd_hi 16 17 rfl hR l))

theorem invA_19 : Inv A.a22.view (hmA c i A X TT RR) (hbA c i A X TT) 19 (runA.sl.H22_19 (F := Ideal) c i A X) := by
  unfold runA.sl.H22_19
  exact inv_step _ _ _ 18 _ _ _ (invA_18 c i A X TT RR hT hR) fun b ρ l => (P_h18 _ _ _ _ b ρ l).trans (hmv_eq (rd_h 18 (invA_18 c i A X TT RR hT hR) b ρ l) (rd_tab 18 hT _ l) (lhA c i A X TT hT b ρ) (rd_lo 18 hR l))

theorem invA_20 : Inv A.a22.view (hmA c i A X TT RR) (hbA c i A X TT) 20 (runA.sl.H22_20 (F := Ideal) c i A X) := by
  unfold runA.sl.H22_20
  exact inv_step _ _ _ 19 _ _ _ (invA_19 c i A X TT RR hT hR) fun b ρ l => (P_h19 _ _ _ _ b ρ l).trans (hmv_eq (rd_h 19 (invA_19 c i A X TT RR hT hR) b ρ l) (rd_tab 19 hT _ l) (lhA c i A X TT hT b ρ) (rd_hi 18 19 rfl hR l))

theorem invA_21 : Inv A.a22.view (hmA c i A X TT RR) (hbA c i A X TT) 21 (runA.sl.H22_21 (F := Ideal) c i A X) := by
  unfold runA.sl.H22_21
  exact inv_step _ _ _ 20 _ _ _ (invA_20 c i A X TT RR hT hR) fun b ρ l => (P_h20 _ _ _ _ b ρ l).trans (hmv_eq (rd_h 20 (invA_20 c i A X TT RR hT hR) b ρ l) (rd_tab 20 hT _ l) (lhA c i A X TT hT b ρ) (rd_lo 20 hR l))

theorem invA_22 : Inv A.a22.view (hmA c i A X TT RR) (hbA c i A X TT) 22 (runA.sl.H22_22 (F := Ideal) c i A X) := by
  unfold runA.sl.H22_22
  exact inv_step _ _ _ 21 _ _ _ (invA_21 c i A X TT RR hT hR) fun b ρ l => (P_h21 _ _ _ _ b ρ l).trans (hmv_eq (rd_h 21 (invA_21 c i A X TT RR hT hR) b ρ l) (rd_tab 21 hT _ l) (lhA c i A X TT hT b ρ) (rd_hi 20 21 rfl hR l))

theorem invA_23 : Inv A.a22.view (hmA c i A X TT RR) (hbA c i A X TT) 23 (runA.sl.H22_23 (F := Ideal) c i A X) := by
  unfold runA.sl.H22_23
  exact inv_step _ _ _ 22 _ _ _ (invA_22 c i A X TT RR hT hR) fun b ρ l => (P_h22 _ _ _ _ b ρ l).trans (hmv_eq (rd_h 22 (invA_22 c i A X TT RR hT hR) b ρ l) (rd_tab 22 hT _ l) (lhA c i A X TT hT b ρ) (rd_lo 22 hR l))

theorem invA_24 : Inv A.a22.view (hmA c i A X TT RR) (hbA c i A X TT) 24 (runA.sl.H22_24 (F := Ideal) c i A X) := by
  unfold runA.sl.H22_24
  exact inv_step _ _ _ 23 _ _ _ (invA_23 c i A X TT RR hT hR) fun b ρ l => (P_h23 _ _ _ _ b ρ l).trans (hmv_eq (rd_h 23 (invA_23 c i A X TT RR hT hR) b ρ l) (rd_tab 23 hT _ l) (lhA c i A X TT hT b ρ) (rd_hi 22 23 rfl hR l))

theorem invA_25 : Inv A.a22.view (hmA c i A X TT RR) (hbA c i A X TT) 25 (runA.sl.H22_25 (F := Ideal) c i A X) := by
  unfold runA.sl.H22_25
  exact inv_step _ _ _ 24 _ _ _ (invA_24 c i A X TT RR hT hR) fun b ρ l => (P_h24 _ _ _ _ b ρ l).trans (hmv_eq (rd_h 24 (invA_24 c i A X TT RR hT hR) b ρ l) (rd_tab 24 hT _ l) (lhA c i A X TT hT b ρ) (rd_lo 24 hR l))

theorem invA_26 : Inv A.a22.view (hmA c i A X TT RR) (hbA c i A X TT) 26 (runA.sl.H22_26 (F := Ideal) c i A X) := by
  unfold runA.sl.H22_26
  exact inv_step _ _ _ 25 _ _ _ (invA_25 c i A X TT RR hT hR) fun b ρ l => (P_h25 _ _ _ _ b ρ l).trans (hmv_eq (rd_h 25 (invA_25 c i A X TT RR hT hR) b ρ l) (rd_tab 25 hT _ l) (lhA c i A X TT hT b ρ) (rd_hi 24 25 rfl hR l))

theorem invA_27 : Inv A.a22.view (hmA c i A X TT RR) (hbA c i A X TT) 27 (runA.sl.H22_27 (F := Ideal) c i A X) := by
  unfold runA.sl.H22_27
  exact inv_step _ _ _ 26 _ _ _ (invA_26 c i A X TT RR hT hR) fun b ρ l => (P_h26 _ _ _ _ b ρ l).trans (hmv_eq (rd_h 26 (invA_26 c i A X TT RR hT hR) b ρ l) (rd_tab 26 hT _ l) (lhA c i A X TT hT b ρ) (rd_lo 26 hR l))

theorem invA_28 : Inv A.a22.view (hmA c i A X TT RR) (hbA c i A X TT) 28 (runA.sl.H22_28 (F := Ideal) c i A X) := by
  unfold runA.sl.H22_28
  exact inv_step _ _ _ 27 _ _ _ (invA_27 c i A X TT RR hT hR) fun b ρ l => (P_h27 _ _ _ _ b ρ l).trans (hmv_eq (rd_h 27 (invA_27 c i A X TT RR hT hR) b ρ l) (rd_tab 27 hT _ l) (lhA c i A X TT hT b ρ) (rd_hi 26 27 rfl hR l))

theorem invA_29 : Inv A.a22.view (hmA c i A X TT RR) (hbA c i A X TT) 29 (runA.sl.H22_29 (F := Ideal) c i A X) := by
  unfold runA.sl.H22_29
  exact inv_step _ _ _ 28 _ _ _ (invA_28 c i A X TT RR hT hR) fun b ρ l => (P_h28 _ _ _ _ b ρ l).trans (hmv_eq (rd_h 28 (invA_28 c i A X TT RR hT hR) b ρ l) (rd_tab 28 hT _ l) (lhA c i A X TT hT b ρ) (rd_lo 28 hR l))

theorem invA_30 : Inv A.a22.view (hmA c i A X TT RR) (hbA c i A X TT) 30 (runA.sl.H22_30 (F := Ideal) c i A X) := by
  unfold runA.sl.H22_30
  exact inv_step _ _ _ 29 _ _ _ (invA_29 c i A X TT RR hT hR) fun b ρ l => (P_h29 _ _ _ _ b ρ l).trans (hmv_eq (rd_h 29 (invA_29 c i A X TT RR hT hR) b ρ l) (rd_tab 29 hT _ l) (lhA c i A X TT hT b ρ) (rd_hi 28 29 rfl hR l))

theorem invA_31 : Inv A.a22.view (hmA c i A X TT RR) (hbA c i A X TT) 31 (runA.sl.H22_31 (F := Ideal) c i A X) := by
  unfold runA.sl.H22_31
  exact inv_step _ _ _ 30 _ _ _ (invA_30 c i A X TT RR hT hR) fun b ρ l => (P_h30 _ _ _ _ b ρ l).trans (hmv_eq (rd_h 30 (invA_30 c i A X TT RR hT hR) b ρ l) (rd_tab 30 hT _ l) (lhA c i A X TT hT b ρ) (rd_lo 30 hR l))

theorem invA_32 : Inv A.a22.view (hmA c i A X TT RR) (hbA c i A X TT) 32 (runA.sl.H22_32 (F := Ideal) c i A X) := by
  unfold runA.sl.H22_32
  exact inv_step _ _ _ 31 _ _ _ (invA_31 c i A X TT RR hT hR) fun b ρ l => (P_h31 _ _ _ _ b ρ l).trans (hmv_eq (rd_h 31 (invA_31 c i A X TT RR hT hR) b ρ l) (rd_tab 31 hT _ l) (lhA c i A X TT hT b ρ) (rd_hi 30 31 rfl hR l))

theorem invA_33 : Inv A.a22.view (hmA c i A X TT RR) (hbA c i A X TT) 33 (runA.sl.H22_33 (F := Ideal) c i A X) := by
  unfold runA.sl.H22_33
  exact inv_step _ _ _ 32 _ _ _ (invA_32 c i A X TT RR hT hR) fun b ρ l => (P_h32 _ _ _ _ b ρ l).trans (hmv_eq (rd_h 32 (invA_32 c i A X TT RR hT hR) b ρ l) (rd_tab 32 hT _ l) (lhA c i A X TT hT b ρ) (rd_lo 32 hR l))

theorem invA_34 : Inv A.a22.view (hmA c i A X TT RR) (hbA c i A X TT) 34 (runA.sl.H22_34 (F := Ideal) c i A X) := by
  unfold runA.sl.H22_34
  exact inv_step _ _ _ 33 _ _ _ (invA_33 c i A X TT RR hT hR) fun b ρ l => (P_h33 _ _ _ _ b ρ l).trans (hmv_eq (rd_h 33 (invA_33 c i A X TT RR hT hR) b ρ l) (rd_tab 33 hT _ l) (lhA c i A X TT hT b ρ) (rd_hi 32 33 rfl hR l))

theorem invA_35 : Inv A.a22.view (hmA c i A X TT RR) (hbA c i A X TT) 35 (runA.sl.H22_35 (F := Ideal) c i A X) := by
  unfold runA.sl.H22_35
  exact inv_step _ _ _ 34 _ _ _ (invA_34 c i A X TT RR hT hR) fun b ρ l => (P_h34 _ _ _ _ b ρ l).trans (hmv_eq (rd_h 34 (invA_34 c i A X TT RR hT hR) b ρ l) (rd_tab 34 hT _ l) (lhA c i A X TT hT b ρ) (rd_lo 34 hR l))

theorem invA_36 : Inv A.a22.view (hmA c i A X TT RR) (hbA c i A X TT) 36 (runA.sl.H22_36 (F := Ideal) c i A X) := by
  unfold runA.sl.H22_36
  exact inv_step _ _ _ 35 _ _ _ (invA_35 c i A X TT RR hT hR) fun b ρ l => (P_h35 _ _ _ _ b ρ l).trans (hmv_eq (rd_h 35 (invA_35 c i A X TT RR hT hR) b ρ l) (rd_tab 35 hT _ l) (lhA c i A X TT hT b ρ) (rd_hi 34 35 rfl hR l))

theorem invA_37 : Inv A.a22.view (hmA c i A X TT RR) (hbA c i A X TT) 37 (runA.sl.H22_37 (F := Ideal) c i A X) := by
  unfold runA.sl.H22_37
  exact inv_step _ _ _ 36 _ _ _ (invA_36 c i A X TT RR hT hR) fun b ρ l => (P_h36 _ _ _ _ b ρ l).trans (hmv_eq (rd_h 36 (invA_36 c i A X TT RR hT hR) b ρ l) (rd_tab 36 hT _ l) (lhA c i A X TT hT b ρ) (rd_lo 36 hR l))

theorem invA_38 : Inv A.a22.view (hmA c i A X TT RR) (hbA c i A X TT) 38 (runA.sl.H22_38 (F := Ideal) c i A X) := by
  unfold runA.sl.H22_38
  exact inv_step _ _ _ 37 _ _ _ (invA_37 c i A X TT RR hT hR) fun b ρ l => (P_h37 _ _ _ _ b ρ l).trans (hmv_eq (rd_h 37 (invA_37 c i A X TT RR hT hR) b ρ l) (rd_tab 37 hT _ l) (lhA c i A X TT hT b ρ) (rd_hi 36 37 rfl hR l))

theorem invA_39 : Inv A.a22.view (hmA c i A X TT RR) (hbA c i A X TT) 39 (runA.sl.H22_39 (F := Ideal) c i A X) := by
  unfold runA.sl.H22_39
  exact inv_step _ _ _ 38 _ _ _ (invA_38 c i A X TT RR hT hR) fun b ρ l => (P_h38 _ _ _ _ b ρ l).trans (hmv_eq (rd_h 38 (invA_38 c i A X TT RR hT hR) b ρ l) (rd_tab 38 hT _ l) (lhA c i A X TT hT b ρ) (rd_lo 38 hR l))

theorem invA_40 : Inv A.a22.view (hmA c i A X TT RR) (hbA c i A X TT) 40 (runA.sl.H22_40 (F := Ideal) c i A X) := by
  unfold runA.sl.H22_40
  exact inv_step _ _ _ 39 _ _ _ (invA_39 c i A X TT RR hT hR) fun b ρ l => (P_h39 _ _ _ _ b ρ l).trans (hmv_eq (rd_h 39 (invA_39 c i A X TT RR hT hR) b ρ l) (rd_tab 39 hT _ l) (lhA c i A X TT hT b ρ) (rd_hi 38 39 rfl hR l))

theorem amA_0 (b : Fin 2) (ρ l : Fin 128) : (runA.sl.r_12 (F := Ideal) c i A X) (ix2 (row b ρ) l) = amx (fun g => hmA c i A X TT RR b ρ (col g l)) 2 := by
  unfold runA.sl.r_12
  exact (P_am0 _ _ _ _ _ _ b ρ l).trans ((congrArg₂ max ((congrArg₂ max (rfl : (0 : EReal) = amx (fun g => hmA c i A X TT RR b ρ (col g l)) 0) (congrArg (FloatOps.absf (F := Ideal) (φ := .f32)) (hmv_eq (rd_h 0 (baseA c i A X TT RR hT) b ρ l) (rd_tab 0 hT _ l) (lhA c i A X TT hT b ρ) (rd_lo 0 hR l)))).trans (amx_succ (fun g => hmA c i A X TT RR b ρ (col g l)) 0 (Nat.le_of_ble_eq_true rfl))) (congrArg (FloatOps.absf (F := Ideal) (φ := .f32)) (hmv_eq (rd_h 1 (invA_1 c i A X TT RR hT hR) b ρ l) (rd_tab 1 hT _ l) (lhA c i A X TT hT b ρ) (rd_hi 0 1 rfl hR l)))).trans (amx_succ (fun g => hmA c i A X TT RR b ρ (col g l)) 1 (Nat.le_of_ble_eq_true rfl)))

theorem amA_1 (b : Fin 2) (ρ l : Fin 128) : (runA.sl.r_14 (F := Ideal) c i A X) (ix2 (row b ρ) l) = amx (fun g => hmA c i A X TT RR b ρ (col g l)) 4 := by
  unfold runA.sl.r_14
  exact (P_am1 _ _ _ _ _ _ _ b ρ l).trans ((congrArg₂ max ((congrArg₂ max (amA_0 c i A X TT RR hT hR b ρ l) (congrArg (FloatOps.absf (F := Ideal) (φ := .f32)) (hmv_eq (rd_h 2 (invA_2 c i A X TT RR hT hR) b ρ l) (rd_tab 2 hT _ l) (lhA c i A X TT hT b ρ) (rd_lo 2 hR l)))).trans (amx_succ (fun g => hmA c i A X TT RR b ρ (col g l)) 2 (Nat.le_of_ble_eq_true rfl))) (congrArg (FloatOps.absf (F := Ideal) (φ := .f32)) (hmv_eq (rd_h 3 (invA_3 c i A X TT RR hT hR) b ρ l) (rd_tab 3 hT _ l) (lhA c i A X TT hT b ρ) (rd_hi 2 3 rfl hR l)))).trans (amx_succ (fun g => hmA c i A X TT RR b ρ (col g l)) 3 (Nat.le_of_ble_eq_true rfl)))

theorem amA_2 (b : Fin 2) (ρ l : Fin 128) : (runA.sl.r_16 (F := Ideal) c i A X) (ix2 (row b ρ) l) = amx (fun g => hmA c i A X TT RR b ρ (col g l)) 6 := by
  unfold runA.sl.r_16
  exact (P_am2 _ _ _ _ _ _ _ b ρ l).trans ((congrArg₂ max ((congrArg₂ max (amA_1 c i A X TT RR hT hR b ρ l) (congrArg (FloatOps.absf (F := Ideal) (φ := .f32)) (hmv_eq (rd_h 4 (invA_4 c i A X TT RR hT hR) b ρ l) (rd_tab 4 hT _ l) (lhA c i A X TT hT b ρ) (rd_lo 4 hR l)))).trans (amx_succ (fun g => hmA c i A X TT RR b ρ (col g l)) 4 (Nat.le_of_ble_eq_true rfl))) (congrArg (FloatOps.absf (F := Ideal) (φ := .f32)) (hmv_eq (rd_h 5 (invA_5 c i A X TT RR hT hR) b ρ l) (rd_tab 5 hT _ l) (lhA c i A X TT hT b ρ) (rd_hi 4 5 rfl hR l)))).trans (amx_succ (fun g => hmA c i A X TT RR b ρ (col g l)) 5 (Nat.le_of_ble_eq_true rfl)))

theorem amA_3 (b : Fin 2) (ρ l : Fin 128) : (runA.sl.r_19 (F := Ideal) c i A X) (ix2 (row b ρ) l) = amx (fun g => hmA c i A X TT RR b ρ (col g l)) 8 := by
  unfold runA.sl.r_19
  exact (P_am3 _ _ _ _ _ _ _ b ρ l).trans ((congrArg₂ max ((congrArg₂ max (amA_2 c i A X TT RR hT hR b ρ l) (congrArg (FloatOps.absf (F := Ideal) (φ := .f32)) (hmv_eq (rd_h 6 (invA_6 c i A X TT RR hT hR) b ρ l) (rd_tab 6 hT _ l) (lhA c i A X TT hT b ρ) (rd_lo 6 hR l)))).trans (amx_succ (fun g => hmA c i A X TT RR b ρ (col g l)) 6 (Nat.le_of_ble_eq_true rfl))) (congrArg (FloatOps.absf (F := Ideal) (φ := .f32)) (hmv_eq (rd_h 7 (invA_7 c i A X TT RR hT hR) b ρ l) (rd_tab 7 hT _ l) (lhA c i A X TT hT b ρ) (rd_hi 6 7 rfl hR l)))).trans (amx_succ (fun g => hmA c i A X TT RR b ρ (col g l)) 7 (Nat.le_of_ble_eq_true rfl)))

theorem amA_4 (b : Fin 2) (ρ l : Fin 128) : (runA.sl.r_22 (F := Ideal) c i A X) (ix2 (row b ρ) l) = amx (fun g => hmA c i A X TT RR b ρ (col g l)) 10 := by
  unfold runA.sl.r_22
  exact (P_am4 _ _ _ _ _ _ _ b ρ l).trans ((congrArg₂ max ((congrArg₂ max (amA_3 c i A X TT RR hT hR b ρ l) (congrArg (FloatOps.absf (F := Ideal) (φ := .f32)) (hmv_eq (rd_h 8 (invA_8 c i A X TT RR hT hR) b ρ l) (rd_tab 8 hT _ l) (lhA c i A X TT hT b ρ) (rd_lo 8 hR l)))).trans (amx_succ (fun g => hmA c i A X TT RR b ρ (col g l)) 8 (Nat.le_of_ble_eq_true rfl))) (congrArg (FloatOps.absf (F := Ideal) (φ := .f32)) (hmv_eq (rd_h 9 (invA_9 c i A X TT RR hT hR) b ρ l) (rd_tab 9 hT _ l) (lhA c i A X TT hT b ρ) (rd_hi 8 9 rfl hR l)))).trans (amx_succ (fun g => hmA c i A X TT RR b ρ (col g l)) 9 (Nat.le_of_ble_eq_true rfl)))

theorem amA_5 (b : Fin 2) (ρ l : Fin 128) : (runA.sl.r_26 (F := Ideal) c i A X) (ix2 (row b ρ) l) = amx (fun g => hmA c i A X TT RR b ρ (col g l)) 12 := by
  unfold runA.sl.r_26
  exact (P_am5 _ _ _ _ _ _ _ b ρ l).trans ((congrArg₂ max ((congrArg₂ max (amA_4 c i A X TT RR hT hR b ρ l) (congrArg (FloatOps.absf (F := Ideal) (φ := .f32)) (hmv_eq (rd_h 10 (invA_10 c i A X TT RR hT hR) b ρ l) (rd_tab 10 hT _ l) (lhA c i A X TT hT b ρ) (rd_lo 10 hR l)))).trans (amx_succ (fun g => hmA c i A X TT RR b ρ (col g l)) 10 (Nat.le_of_ble_eq_true rfl))) (congrArg (FloatOps.absf (F := Ideal) (φ := .f32)) (hmv_eq (rd_h 11 (invA_11 c i A X TT RR hT hR) b ρ l) (rd_tab 11 hT _ l) (lhA c i A X TT hT b ρ) (rd_hi 10 11 rfl hR l)))).trans (amx_succ (fun g => hmA c i A X TT RR b ρ (col g l)) 11 (Nat.le_of_ble_eq_true rfl)))

theorem amA_6 (b : Fin 2) (ρ l : Fin 128) : (runA.sl.r_30 (F := Ideal) c i A X) (ix2 (row b ρ) l) = amx (fun g => hmA c i A X TT RR b ρ (col g l)) 14 := by
  unfold runA.sl.r_30
  exact (P_am6 _ _ _ _ _ _ _ b ρ l).trans ((congrArg₂ max ((congrArg₂ max (amA_5 c i A X TT RR hT hR b ρ l) (congrArg (FloatOps.absf (F := Ideal) (φ := .f32)) (hmv_eq (rd_h 12 (invA_12 c i A X TT RR hT hR) b ρ l) (rd_tab 12 hT _ l) (lhA c i A X TT hT b ρ) (rd_lo 12 hR l)))).trans (amx_succ (fun g => hmA c i A X TT RR b ρ (col g l)) 12 (Nat.le_of_ble_eq_true rfl))) (congrArg (FloatOps.absf (F := Ideal) (φ := .f32)) (hmv_eq (rd_h 13 (invA_13 c i A X TT RR hT hR) b ρ l) (rd_tab 13 hT _ l) (lhA c i A X TT hT b ρ) (rd_hi 12 13 rfl hR l)))).trans (amx_succ (fun g => hmA c i A X TT RR b ρ (col g l)) 13 (Nat.le_of_ble_eq_true rfl)))

theorem amA_7 (b : Fin 2) (ρ l : Fin 128) : (runA.sl.r_34 (F := Ideal) c i A X) (ix2 (row b ρ) l) = amx (fun g => hmA c i A X TT RR b ρ (col g l)) 16 := by
  unfold runA.sl.r_34
  exact (P_am7 _ _ _ _ _ _ _ b ρ l).trans ((congrArg₂ max ((congrArg₂ max (amA_6 c i A X TT RR hT hR b ρ l) (congrArg (FloatOps.absf (F := Ideal) (φ := .f32)) (hmv_eq (rd_h 14 (invA_14 c i A X TT RR hT hR) b ρ l) (rd_tab 14 hT _ l) (lhA c i A X TT hT b ρ) (rd_lo 14 hR l)))).trans (amx_succ (fun g => hmA c i A X TT RR b ρ (col g l)) 14 (Nat.le_of_ble_eq_true rfl))) (congrArg (FloatOps.absf (F := Ideal) (φ := .f32)) (hmv_eq (rd_h 15 (invA_15 c i A X TT RR hT hR) b ρ l) (rd_tab 15 hT _ l) (lhA c i A X TT hT b ρ) (rd_hi 14 15 rfl hR l)))).trans (amx_succ (fun g => hmA c i A X TT RR b ρ (col g l)) 15 (Nat.le_of_ble_eq_true rfl)))

theorem amA_8 (b : Fin 2) (ρ l : Fin 128) : (runA.sl.r_39 (F := Ideal) c i A X) (ix2 (row b ρ) l) = amx (fun g => hmA c i A X TT RR b ρ (col g l)) 18 := by
  unfold runA.sl.r_39
  exact (P_am8 _ _ _ _ _ _ _ b ρ l).trans ((congrArg₂ max ((congrArg₂ max (amA_7 c i A X TT RR hT hR b ρ l) (congrArg (FloatOps.absf (F := Ideal) (φ := .f32)) (hmv_eq (rd_h 16 (invA_16 c i A X TT RR hT hR) b ρ l) (rd_tab 16 hT _ l) (lhA c i A X TT hT b ρ) (rd_lo 16 hR l)))).trans (amx_succ (fun g => hmA c i A X TT RR b ρ (col g l)) 16 (Nat.le_of_ble_eq_true rfl))) (congrArg (FloatOps.absf (F := Ideal) (φ := .f32)) (hmv_eq (rd_h 17 (invA_17 c i A X TT RR hT hR) b ρ l) (rd_tab 17 hT _ l) (lhA c i A X TT hT b ρ) (rd_hi 16 17 rfl hR l)))).trans (amx_succ (fun g => hmA c i A X TT RR b ρ (col g l)) 17 (Nat.le_of_ble_eq_true rfl)))

theorem amA_9 (b : Fin 2) (ρ l : Fin 128) : (runA.sl.r_43 (F := Ideal) c i A X) (ix2 (row b ρ) l) = amx (fun g => hmA c i A X TT RR b ρ (col g l)) 21 := by
  unfold runA.sl.r_43
  exact (P_am9 _ _ _ _ _ _ _ _ _ _ b ρ l).trans ((congrArg₂ max ((congrArg₂ max ((congrArg₂ max (amA_8 c i A X TT RR hT hR b ρ l) (congrArg (FloatOps.absf (F := Ideal) (φ := .f32)) (hmv_eq (rd_h 18 (invA_18 c i A X TT RR hT hR) b ρ l) (rd_tab 18 hT _ l) (lhA c i A X TT hT b ρ) (rd_lo 18 hR l)))).trans (amx_succ (fun g => hmA c i A X TT RR b ρ (col g l)) 18 (Nat.le_of_ble_eq_true rfl))) (congrArg (FloatOps.absf (F := Ideal) (φ := .f32)) (hmv_eq (rd_h 19 (invA_19 c i A X TT RR hT hR) b ρ l) (rd_tab 19 hT _ l) (lhA c i A X TT hT b ρ) (rd_hi 18 19 rfl hR l)))).trans (amx_succ (fun g => hmA c i A X TT RR b ρ (col g l)) 19 (Nat.le_of_ble_eq_true rfl))) (congrArg (FloatOps.absf (F := Ideal) (φ := .f32)) (hmv_eq (rd_h 20 (invA_20 c i A X TT RR hT hR) b ρ l) (rd_tab 20 hT _ l) (lhA c i A X TT hT b ρ) (rd_lo 20 hR l)))).trans (amx_succ (fun g => hmA c i A X TT RR b ρ (col g l)) 20 (Nat.le_of_ble_eq_true rfl)))

theorem amA_10 (b : Fin 2) (ρ l : Fin 128) : (runA.sl.r_45 (F := Ideal) c i A X) (ix2 (row b ρ) l) = amx (fun g => hmA c i A X TT RR b ρ (col g l)) 23 := by
  unfold runA.sl.r_45
  exact (P_am10 _ _ _ _ _ _ _ _ b ρ l).trans ((congrArg₂ max ((congrArg₂ max (amA_9 c i A X TT RR hT hR b ρ l) (congrArg (FloatOps.absf (F := Ideal) (φ := .f32)) (hmv_eq (rd_h 21 (invA_21 c i A X TT RR hT hR) b ρ l) (rd_tab 21 hT _ l) (lhA c i A X TT hT b ρ) (rd_hi 20 21 rfl hR l)))).trans (amx_succ (fun g => hmA c i A X TT RR b ρ (col g l)) 21 (Nat.le_of_ble_eq_true rfl))) (congrArg (FloatOps.absf (F := Ideal) (φ := .f32)) (hmv_eq (rd_h 22 (invA_22 c i A X TT RR hT hR) b ρ l) (rd_tab 22 hT _ l) (lhA c i A X TT hT b ρ) (rd_lo 22 hR l)))).trans (amx_succ (fun g => hmA c i A X TT RR b ρ (col g l)) 22 (Nat.le_of_ble_eq_true rfl)))

theorem amA_11 (b : Fin 2) (ρ l : Fin 128) : (runA.sl.r_47 (F := Ideal) c i A X) (ix2 (row b ρ) l) = amx (fun g => hmA c i A X TT RR b ρ (col g l)) 25 := by
  unfold runA.sl.r_47
  exact (P_am11 _ _ _ _ _ _ _ _ b ρ l).trans ((congrArg₂ max ((congrArg₂ max (amA_10 c i A X TT RR hT hR b ρ l) (congrArg (FloatOps.absf (F := Ideal) (φ := .f32)) (hmv_eq (rd_h 23 (invA_23 c i A X TT RR hT hR) b ρ l) (rd_tab 23 hT _ l) (lhA c i A X TT hT b ρ) (rd_hi 22 23 rfl hR l)))).trans (amx_succ (fun g => hmA c i A X TT RR b ρ (col g l)) 23 (Nat.le_of_ble_eq_true rfl))) (congrArg (FloatOps.absf (F := Ideal) (φ := .f32)) (hmv_eq (rd_h 24 (invA_24 c i A X TT RR hT hR) b ρ l) (rd_tab 24 hT _ l) (lhA c i A X TT hT b ρ) (rd_lo 24 hR l)))).trans (amx_succ (fun g => hmA c i A X TT RR b ρ (col g l)) 24 (Nat.le_of_ble_eq_true rfl)))

theorem amA_12 (b : Fin 2) (ρ l : Fin 128) : (runA.sl.r_50 (F := Ideal) c i A X) (ix2 (row b ρ) l) = amx (fun g => hmA c i A X TT RR b ρ (col g l)) 27 := by
  unfold runA.sl.r_50
  exact (P_am12 _ _ _ _ _ _ _ _ b ρ l).trans ((congrArg₂ max ((congrArg₂ max (amA_11 c i A X TT RR hT hR b ρ l) (congrArg (FloatOps.absf (F := Ideal) (φ := .f32)) (hmv_eq (rd_h 25 (invA_25 c i A X TT RR hT hR) b ρ l) (rd_tab 25 hT _ l) (lhA c i A X TT hT b ρ) (rd_hi 24 25 rfl hR l)))).trans (amx_succ (fun g => hmA c i A X TT RR b ρ (col g l)) 25 (Nat.le_of_ble_eq_true rfl))) (congrArg (FloatOps.absf (F := Ideal) (φ := .f32)) (hmv_eq (rd_h 26 (invA_26 c i A X TT RR hT hR) b ρ l) (rd_tab 26 hT _ l) (lhA c i A X TT hT b ρ) (rd_lo 26 hR l)))).trans (amx_succ (fun g => hmA c i A X TT RR b ρ (col g l)) 26 (Nat.le_of_ble_eq_true rfl)))

theorem amA_13 (b : Fin 2) (ρ l : Fin 128) : (runA.sl.r_54 (F := Ideal) c i A X) (ix2 (row b ρ) l) = amx (fun g => hmA c i A X TT RR b ρ (col g l)) 29 := by
  unfold runA.sl.r_54
  exact (P_am13 _ _ _ _ _ _ _ _ b ρ l).trans ((congrArg₂ max ((congrArg₂ max (amA_12 c i A X TT RR hT hR b ρ l) (congrArg (FloatOps.absf (F := Ideal) (φ := .f32)) (hmv_eq (rd_h 27 (invA_27 c i A X TT RR hT hR) b ρ l) (rd_tab 27 hT _ l) (lhA c i A X TT hT b ρ) (rd_hi 26 27 rfl hR l)))).trans (amx_succ (fun g => hmA c i A X TT RR b ρ (col g l)) 27 (Nat.le_of_ble_eq_true rfl))) (congrArg (FloatOps.absf (F := Ideal) (φ := .f32)) (hmv_eq (rd_h 28 (invA_28 c i A X TT RR hT hR) b ρ l) (rd_tab 28 hT _ l) (lhA c i A X TT hT b ρ) (rd_lo 28 hR l)))).trans (amx_succ (fun g => hmA c i A X TT RR b ρ (col g l)) 28 (Nat.le_of_ble_eq_true rfl)))

theorem amA_14 (b : Fin 2) (ρ l : Fin 128) : (runA.sl.r_56 (F := Ideal) c i A X) (ix2 (row b ρ) l) = amx (fun g => hmA c i A X TT RR b ρ (col g l)) 31 := by
  unfold runA.sl.r_56
  exact (P_am14 _ _ _ _ _ _ _ _ b ρ l).trans ((congrArg₂ max ((congrArg₂ max (amA_13 c i A X TT RR hT hR b ρ l) (congrArg (FloatOps.absf (F := Ideal) (φ := .f32)) (hmv_eq (rd_h 29 (invA_29 c i A X TT RR hT hR) b ρ l) (rd_tab 29 hT _ l) (lhA c i A X TT hT b ρ) (rd_hi 28 29 rfl hR l)))).trans (amx_succ (fun g => hmA c i A X TT RR b ρ (col g l)) 29 (Nat.le_of_ble_eq_true rfl))) (congrArg (FloatOps.absf (F := Ideal) (φ := .f32)) (hmv_eq (rd_h 30 (invA_30 c i A X TT RR hT hR) b ρ l) (rd_tab 30 hT _ l) (lhA c i A X TT hT b ρ) (rd_lo 30 hR l)))).trans (amx_succ (fun g => hmA c i A X TT RR b ρ (col g l)) 30 (Nat.le_of_ble_eq_true rfl)))

theorem amA_15 (b : Fin 2) (ρ l : Fin 128) : (runA.sl.r_58 (F := Ideal) c i A X) (ix2 (row b ρ) l) = amx (fun g => hmA c i A X TT RR b ρ (col g l)) 33 := by
  unfold runA.sl.r_58
  exact (P_am15 _ _ _ _ _ _ _ _ b ρ l).trans ((congrArg₂ max ((congrArg₂ max (amA_14 c i A X TT RR hT hR b ρ l) (congrArg (FloatOps.absf (F := Ideal) (φ := .f32)) (hmv_eq (rd_h 31 (invA_31 c i A X TT RR hT hR) b ρ l) (rd_tab 31 hT _ l) (lhA c i A X TT hT b ρ) (rd_hi 30 31 rfl hR l)))).trans (amx_succ (fun g => hmA c i A X TT RR b ρ (col g l)) 31 (Nat.le_of_ble_eq_true rfl))) (congrArg (FloatOps.absf (F := Ideal) (φ := .f32)) (hmv_eq (rd_h 32 (invA_32 c i A X TT RR hT hR) b ρ l) (rd_tab 32 hT _ l) (lhA c i A X TT hT b ρ) (rd_lo 32 hR l)))).trans (amx_succ (fun g => hmA c i A X TT RR b ρ (col g l)) 32 (Nat.le_of_ble_eq_true rfl)))

theorem amA_16 (b : Fin 2) (ρ l : Fin 128) : (runA.sl.r_61 (F := Ideal) c i A X) (ix2 (row b ρ) l) = amx (fun g => hmA c i A X TT RR b ρ (col g l)) 35 := by
  unfold runA.sl.r_61
  exact (P_am16 _ _ _ _ _ _ _ _ b ρ l).trans ((congrArg₂ max ((congrArg₂ max (amA_15 c i A X TT RR hT hR b ρ l) (congrArg (FloatOps.absf (F := Ideal) (φ := .f32)) (hmv_eq (rd_h 33 (invA_33 c i A X TT RR hT hR) b ρ l) (rd_tab 33 hT _ l) (lhA c i A X TT hT b ρ) (rd_hi 32 33 rfl hR l)))).trans (amx_succ (fun g => hmA c i A X TT RR b ρ (col g l)) 33 (Nat.le_of_ble_eq_true rfl))) (congrArg (FloatOps.absf (F := Ideal) (φ := .f32)) (hmv_eq (rd_h 34 (invA_34 c i A X TT RR hT hR) b ρ l) (rd_tab 34 hT _ l) (lhA c i A X TT hT b ρ) (rd_lo 34 hR l)))).trans (amx_succ (fun g => hmA c i A X TT RR b ρ (col g l)) 34 (Nat.le_of_ble_eq_true rfl)))

theorem amA_17 (b : Fin 2) (ρ l : Fin 128) : (runA.sl.r_64 (F := Ideal) c i A X) (ix2 (row b ρ) l) = amx (fun g => hmA c i A X TT RR b ρ (col g l)) 37 := by
  unfold runA.sl.r_64
  exact (P_am17 _ _ _ _ _ _ _ _ b ρ l).trans ((congrArg₂ max ((congrArg₂ max (amA_16 c i A X TT RR hT hR b ρ l) (congrArg (FloatOps.absf (F := Ideal) (φ := .f32)) (hmv_eq (rd_h 35 (invA_35 c i A X TT RR hT hR) b ρ l) (rd_tab 35 hT _ l) (lhA c i A X TT hT b ρ) (rd_hi 34 35 rfl hR l)))).trans (amx_succ (fun g => hmA c i A X TT RR b ρ (col g l)) 35 (Nat.le_of_ble_eq_true rfl))) (congrArg (FloatOps.absf (F := Ideal) (φ := .f32)) (hmv_eq (rd_h 36 (invA_36 c i A X TT RR hT hR) b ρ l) (rd_tab 36 hT _ l) (lhA c i A X TT hT b ρ) (rd_lo 36 hR l)))).trans (amx_succ (fun g => hmA c i A X TT RR b ρ (col g l)) 36 (Nat.le_of_ble_eq_true rfl)))

theorem amA_18 (b : Fin 2) (ρ l : Fin 128) : (runA.sl.r_66 (F := Ideal) c i A X) (ix2 l (row b ρ)) = amx (fun g => hmA c i A X TT RR b ρ (col g l)) 40 := by
  unfold runA.sl.r_66
  exact (P_am18 _ _ _ _ _ _ _ _ _ _ b ρ l).trans ((congrArg₂ max ((congrArg₂ max ((congrArg₂ max (amA_17 c i A X TT RR hT hR b ρ l) (congrArg (FloatOps.absf (F := Ideal) (φ := .f32)) (hmv_eq (rd_h 37 (invA_37 c i A X TT RR hT hR) b ρ l) (rd_tab 37 hT _ l) (lhA c i A X TT hT b ρ) (rd_hi 36 37 rfl hR l)))).trans (amx_succ (fun g => hmA c i A X TT RR b ρ (col g l)) 37 (Nat.le_of_ble_eq_true rfl))) (congrArg (FloatOps.absf (F := Ideal) (φ := .f32)) (hmv_eq (rd_h 38 (invA_38 c i A X TT RR hT hR) b ρ l) (rd_tab 38 hT _ l) (lhA c i A X TT hT b ρ) (rd_lo 38 hR l)))).trans (amx_succ (fun g => hmA c i A X TT RR b ρ (col g l)) 38 (Nat.le_of_ble_eq_true rfl))) (congrArg (FloatOps.absf (F := Ideal) (φ := .f32)) (hmv_eq (rd_h 39 (invA_39 c i A X TT RR hT hR) b ρ l) (rd_tab 39 hT _ l) (lhA c i A X TT hT b ρ) (rd_hi 38 39 rfl hR l)))).trans (amx_succ (fun g => hmA c i A X TT RR b ρ (col g l)) 39 (Nat.le_of_ble_eq_true rfl)))

theorem mxA (b : Fin 2) (ρ : Fin 128) : mx (fun x => (runA.sl.r_66 (F := Ideal) c i A X) (ix2 x (row b ρ))) * (runA.sl.r_10 (F := Ideal) c i A X) (ix2 0 (row b ρ)) = rAM (hbA c i A X TT b ρ) (TT 2) RR * rRs (hbA c i A X TT b ρ) := by
  rw [rsA c i A X TT hT]
  exact congrArg (fun f => mx f * _) (funext fun x => amA_18 c i A X TT RR hT hR b ρ x)

theorem scA (b : Fin 2) (ρ : Fin 128) : (runA.sl.r_67 (F := Ideal) c i A X) (ix2 0 (row b ρ)) = rSc (hbA c i A X TT b ρ) (TT 2) RR := by
  unfold runA.sl.r_67 rSc
  exact (P_sc _ _ _).trans (congrArg sclF (mxA c i A X TT RR hT hR b ρ))

theorem ivA (b : Fin 2) (ρ l : Fin 128) : k0_pay576 (runA.sl.r_10 (F := Ideal) c i A X) (runA.sl.r_66 (F := Ideal) c i A X) (ix2 (row b ρ) l) = rIv (hbA c i A X TT b ρ) (TT 2) RR := by
  unfold rIv rSc
  exact (P_iv _ _ _ _).trans (congrArg₂ Ideal.div (rsA c i A X TT hT b ρ) (congrArg sclF (mxA c i A X TT RR hT hR b ρ)))

theorem invqA_5 : InvQ A.a17.view (qqA c i A X TT RR) 5 (runA.sl.H17_5 (F := Ideal) c i A X) := by
  unfold runA.sl.H17_5
  exact invq_step _ _ 4 _ _ _ (invq_step _ _ 3 _ _ _ (invq_step _ _ 2 _ _ _ (invq_step _ _ 1 _ _ _ (invq_step _ _ 0 _ _ _ (invq_nil _ _) (fun b ρ l => (P_q0 _ _ _ b ρ l).trans (congrArg clipq (congrArg₂ HMul.hMul (rd_m 0 (invA_40 c i A X TT RR hT hR) b ρ l) (ivA c i A X TT RR hT hR b ρ l))))) (fun b ρ l => (P_q1 _ _ b ρ l).trans (congrArg clipq (congrArg₂ HMul.hMul (rd_m 1 (invA_40 c i A X TT RR hT hR) b ρ l) (ivA c i A X TT RR hT hR b ρ l))))) (fun b ρ l => (P_q2 _ _ b ρ l).trans (congrArg clipq (congrArg₂ HMul.hMul (rd_m 2 (invA_40 c i A X TT RR hT hR) b ρ l) (ivA c i A X TT RR hT hR b ρ l))))) (fun b ρ l => (P_q3 _ _ b ρ l).trans (congrArg clipq (congrArg₂ HMul.hMul (rd_m 3 (invA_40 c i A X TT RR hT hR) b ρ l) (ivA c i A X TT RR hT hR b ρ l))))) (fun b ρ l => (P_q4 _ _ b ρ l).trans (congrArg clipq (congrArg₂ HMul.hMul (rd_m 4 (invA_40 c i A X TT RR hT hR) b ρ l) (ivA c i A X TT RR hT hR b ρ l))))

theorem invqA_10 : InvQ A.a17.view (qqA c i A X TT RR) 10 (runA.sl.H17_10 (F := Ideal) c i A X) := by
  unfold runA.sl.H17_10
  exact invq_step _ _ 9 _ _ _ (invq_step _ _ 8 _ _ _ (invq_step _ _ 7 _ _ _ (invq_step _ _ 6 _ _ _ (invq_step _ _ 5 _ _ _ ((invqA_5 c i A X TT RR hT hR)) (fun b ρ l => (P_q5 _ _ b ρ l).trans (congrArg clipq (congrArg₂ HMul.hMul (rd_m 5 (invA_40 c i A X TT RR hT hR) b ρ l) (ivA c i A X TT RR hT hR b ρ l))))) (fun b ρ l => (P_q6 _ _ b ρ l).trans (congrArg clipq (congrArg₂ HMul.hMul (rd_m 6 (invA_40 c i A X TT RR hT hR) b ρ l) (ivA c i A X TT RR hT hR b ρ l))))) (fun b ρ l => (P_q7 _ _ b ρ l).trans (congrArg clipq (congrArg₂ HMul.hMul (rd_m 7 (invA_40 c i A X TT RR hT hR) b ρ l) (ivA c i A X TT RR hT hR b ρ l))))) (fun b ρ l => (P_q8 _ _ b ρ l).trans (congrArg clipq (congrArg₂ HMul.hMul (rd_m 8 (invA_40 c i A X TT RR hT hR) b ρ l) (ivA c i A X TT RR hT hR b ρ l))))) (fun b ρ l => (P_q9 _ _ b ρ l).trans (congrArg clipq (congrArg₂ HMul.hMul (rd_m 9 (invA_40 c i A X TT RR hT hR) b ρ l) (ivA c i A X TT RR hT hR b ρ l))))

theorem invqA_15 : InvQ A.a17.view (qqA c i A X TT RR) 15 (runA.sl.H17_15 (F := Ideal) c i A X) := by
  unfold runA.sl.H17_15
  exact invq_step _ _ 14 _ _ _ (invq_step _ _ 13 _ _ _ (invq_step _ _ 12 _ _ _ (invq_step _ _ 11 _ _ _ (invq_step _ _ 10 _ _ _ ((invqA_10 c i A X TT RR hT hR)) (fun b ρ l => (P_q10 _ _ b ρ l).trans (congrArg clipq (congrArg₂ HMul.hMul (rd_m 10 (invA_40 c i A X TT RR hT hR) b ρ l) (ivA c i A X TT RR hT hR b ρ l))))) (fun b ρ l => (P_q11 _ _ b ρ l).trans (congrArg clipq (congrArg₂ HMul.hMul (rd_m 11 (invA_40 c i A X TT RR hT hR) b ρ l) (ivA c i A X TT RR hT hR b ρ l))))) (fun b ρ l => (P_q12 _ _ b ρ l).trans (congrArg clipq (congrArg₂ HMul.hMul (rd_m 12 (invA_40 c i A X TT RR hT hR) b ρ l) (ivA c i A X TT RR hT hR b ρ l))))) (fun b ρ l => (P_q13 _ _ b ρ l).trans (congrArg clipq (congrArg₂ HMul.hMul (rd_m 13 (invA_40 c i A X TT RR hT hR) b ρ l) (ivA c i A X TT RR hT hR b ρ l))))) (fun b ρ l => (P_q14 _ _ b ρ l).trans (congrArg clipq (congrArg₂ HMul.hMul (rd_m 14 (invA_40 c i A X TT RR hT hR) b ρ l) (ivA c i A X TT RR hT hR b ρ l))))

theorem invqA_20 : InvQ A.a17.view (qqA c i A X TT RR) 20 (runA.sl.H17_20 (F := Ideal) c i A X) := by
  unfold runA.sl.H17_20
  exact invq_step _ _ 19 _ _ _ (invq_step _ _ 18 _ _ _ (invq_step _ _ 17 _ _ _ (invq_step _ _ 16 _ _ _ (invq_step _ _ 15 _ _ _ ((invqA_15 c i A X TT RR hT hR)) (fun b ρ l => (P_q15 _ _ b ρ l).trans (congrArg clipq (congrArg₂ HMul.hMul (rd_m 15 (invA_40 c i A X TT RR hT hR) b ρ l) (ivA c i A X TT RR hT hR b ρ l))))) (fun b ρ l => (P_q16 _ _ b ρ l).trans (congrArg clipq (congrArg₂ HMul.hMul (rd_m 16 (invA_40 c i A X TT RR hT hR) b ρ l) (ivA c i A X TT RR hT hR b ρ l))))) (fun b ρ l => (P_q17 _ _ b ρ l).trans (congrArg clipq (congrArg₂ HMul.hMul (rd_m 17 (invA_40 c i A X TT RR hT hR) b ρ l) (ivA c i A X TT RR hT hR b ρ l))))) (fun b ρ l => (P_q18 _ _ b ρ l).trans (congrArg clipq (congrArg₂ HMul.hMul (rd_m 18 (invA_40 c i A X TT RR hT hR) b ρ l) (ivA c i A X TT RR hT hR b ρ l))))) (fun b ρ l => (P_q19 _ _ b ρ l).trans (congrArg clipq (congrArg₂ HMul.hMul (rd_m 19 (invA_40 c i A X TT RR hT hR) b ρ l) (ivA c i A X TT RR hT hR b ρ l))))

theorem invqA_25 : InvQ A.a17.view (qqA c i A X TT RR) 25 (runA.sl.H17_25 (F := Ideal) c i A X) := by
  unfold runA.sl.H17_25
  exact invq_step _ _ 24 _ _ _ (invq_step _ _ 23 _ _ _ (invq_step _ _ 22 _ _ _ (invq_step _ _ 21 _ _ _ (invq_step _ _ 20 _ _ _ ((invqA_20 c i A X TT RR hT hR)) (fun b ρ l => (P_q20 _ _ b ρ l).trans (congrArg clipq (congrArg₂ HMul.hMul (rd_m 20 (invA_40 c i A X TT RR hT hR) b ρ l) (ivA c i A X TT RR hT hR b ρ l))))) (fun b ρ l => (P_q21 _ _ b ρ l).trans (congrArg clipq (congrArg₂ HMul.hMul (rd_m 21 (invA_40 c i A X TT RR hT hR) b ρ l) (ivA c i A X TT RR hT hR b ρ l))))) (fun b ρ l => (P_q22 _ _ b ρ l).trans (congrArg clipq (congrArg₂ HMul.hMul (rd_m 22 (invA_40 c i A X TT RR hT hR) b ρ l) (ivA c i A X TT RR hT hR b ρ l))))) (fun b ρ l => (P_q23 _ _ b ρ l).trans (congrArg clipq (congrArg₂ HMul.hMul (rd_m 23 (invA_40 c i A X TT RR hT hR) b ρ l) (ivA c i A X TT RR hT hR b ρ l))))) (fun b ρ l => (P_q24 _ _ b ρ l).trans (congrArg clipq (congrArg₂ HMul.hMul (rd_m 24 (invA_40 c i A X TT RR hT hR) b ρ l) (ivA c i A X TT RR hT hR b ρ l))))

theorem invqA_30 : InvQ A.a17.view (qqA c i A X TT RR) 30 (runA.sl.H17_30 (F := Ideal) c i A X) := by
  unfold runA.sl.H17_30
  exact invq_step _ _ 29 _ _ _ (invq_step _ _ 28 _ _ _ (invq_step _ _ 27 _ _ _ (invq_step _ _ 26 _ _ _ (invq_step _ _ 25 _ _ _ ((invqA_25 c i A X TT RR hT hR)) (fun b ρ l => (P_q25 _ _ b ρ l).trans (congrArg clipq (congrArg₂ HMul.hMul (rd_m 25 (invA_40 c i A X TT RR hT hR) b ρ l) (ivA c i A X TT RR hT hR b ρ l))))) (fun b ρ l => (P_q26 _ _ b ρ l).trans (congrArg clipq (congrArg₂ HMul.hMul (rd_m 26 (invA_40 c i A X TT RR hT hR) b ρ l) (ivA c i A X TT RR hT hR b ρ l))))) (fun b ρ l => (P_q27 _ _ b ρ l).trans (congrArg clipq (congrArg₂ HMul.hMul (rd_m 27 (invA_40 c i A X TT RR hT hR) b ρ l) (ivA c i A X TT RR hT hR b ρ l))))) (fun b ρ l => (P_q28 _ _ b ρ l).trans (congrArg clipq (congrArg₂ HMul.hMul (rd_m 28 (invA_40 c i A X TT RR hT hR) b ρ l) (ivA c i A X TT RR hT hR b ρ l))))) (fun b ρ l => (P_q29 _ _ b ρ l).trans (congrArg clipq (congrArg₂ HMul.hMul (rd_m 29 (invA_40 c i A X TT RR hT hR) b ρ l) (ivA c i A X TT RR hT hR b ρ l))))

theorem invqA_35 : InvQ A.a17.view (qqA c i A X TT RR) 35 (runA.sl.H17_35 (F := Ideal) c i A X) := by
  unfold runA.sl.H17_35
  exact invq_step _ _ 34 _ _ _ (invq_step _ _ 33 _ _ _ (invq_step _ _ 32 _ _ _ (invq_step _ _ 31 _ _ _ (invq_step _ _ 30 _ _ _ ((invqA_30 c i A X TT RR hT hR)) (fun b ρ l => (P_q30 _ _ b ρ l).trans (congrArg clipq (congrArg₂ HMul.hMul (rd_m 30 (invA_40 c i A X TT RR hT hR) b ρ l) (ivA c i A X TT RR hT hR b ρ l))))) (fun b ρ l => (P_q31 _ _ b ρ l).trans (congrArg clipq (congrArg₂ HMul.hMul (rd_m 31 (invA_40 c i A X TT RR hT hR) b ρ l) (ivA c i A X TT RR hT hR b ρ l))))) (fun b ρ l => (P_q32 _ _ b ρ l).trans (congrArg clipq (congrArg₂ HMul.hMul (rd_m 32 (invA_40 c i A X TT RR hT hR) b ρ l) (ivA c i A X TT RR hT hR b ρ l))))) (fun b ρ l => (P_q33 _ _ b ρ l).trans (congrArg clipq (congrArg₂ HMul.hMul (rd_m 33 (invA_40 c i A X TT RR hT hR) b ρ l) (ivA c i A X TT RR hT hR b ρ l))))) (fun b ρ l => (P_q34 _ _ b ρ l).trans (congrArg clipq (congrArg₂ HMul.hMul (rd_m 34 (invA_40 c i A X TT RR hT hR) b ρ l) (ivA c i A X TT RR hT hR b ρ l))))

theorem invqA_40 : InvQ A.a17.view (qqA c i A X TT RR) 40 (runA.sl.H17_40 (F := Ideal) c i A X) := by
  unfold runA.sl.H17_40
  exact invq_step _ _ 39 _ _ _ (invq_step _ _ 38 _ _ _ (invq_step _ _ 37 _ _ _ (invq_step _ _ 36 _ _ _ (invq_step _ _ 35 _ _ _ ((invqA_35 c i A X TT RR hT hR)) (fun b ρ l => (P_q35 _ _ b ρ l).trans (congrArg clipq (congrArg₂ HMul.hMul (rd_m 35 (invA_40 c i A X TT RR hT hR) b ρ l) (ivA c i A X TT RR hT hR b ρ l))))) (fun b ρ l => (P_q36 _ _ b ρ l).trans (congrArg clipq (congrArg₂ HMul.hMul (rd_m 36 (invA_40 c i A X TT RR hT hR) b ρ l) (ivA c i A X TT RR hT hR b ρ l))))) (fun b ρ l => (P_q37 _ _ b ρ l).trans (congrArg clipq (congrArg₂ HMul.hMul (rd_m 37 (invA_40 c i A X TT RR hT hR) b ρ l) (ivA c i A X TT RR hT hR b ρ l))))) (fun b ρ l => (P_q38 _ _ b ρ l).trans (congrArg clipq (congrArg₂ HMul.hMul (rd_m 38 (invA_40 c i A X TT RR hT hR) b ρ l) (ivA c i A X TT RR hT hR b ρ l))))) (fun b ρ l => (P_q39 _ _ b ρ l).trans (congrArg clipq (congrArg₂ HMul.hMul (rd_m 39 (invA_40 c i A X TT RR hT hR) b ρ l) (ivA c i A X TT RR hT hR b ρ l))))

/-- One term of the head product of the run. -/
def ttA (c : Dev nD) (i : grid0.Coords) (A : Mem) (X : Cont Ideal A) (TT : Fin 3 → Fin 5120 → EReal) (RR : Fin 16 → Fin 5120 → EReal) (b : Fin 2) (ρ : Fin 128) (o : Fin 64) (j : Fin 8) : EReal := ∑ x, qqA c i A X TT RR b ρ (c640 j x) * View.read (Elt Ideal) A.a14.view X.f14 (ix2 o (c640 j x))

theorem accA_0 (b : Fin 2) (ρ : Fin 128) (o : Fin 64) : (runA.sl.r_70 (F := Ideal) c i A X) (ix2 (row b ρ) o) = part8 (ttA c i A X TT RR b ρ o) 1 := by
  unfold runA.sl.r_70
  exact (P_acc0 _ _ b ρ o).trans (Eq.trans (Finset.sum_congr rfl fun x _ => congrArg₂ HMul.hMul (rd_q 0 (invqA_5 c i A X TT RR hT hR) b ρ x) (rd_w 0 X.f14 o x)) (part8_one (ttA c i A X TT RR b ρ o)))

theorem accA_1 (b : Fin 2) (ρ : Fin 128) (o : Fin 64) : (runA.sl.r_73 (F := Ideal) c i A X) (ix2 (row b ρ) o) = part8 (ttA c i A X TT RR b ρ o) 2 := by
  unfold runA.sl.r_73
  exact (P_acc1 _ _ _ b ρ o).trans ((congrArg₂ HAdd.hAdd (accA_0 c i A X TT RR hT hR b ρ o) (Finset.sum_congr rfl fun x _ => congrArg₂ HMul.hMul (rd_q 1 (invqA_10 c i A X TT RR hT hR) b ρ x) (rd_w 1 X.f14 o x))).trans (part8_succ (ttA c i A X TT RR b ρ o) 1 (by decide)))

theorem accA_2 (b : Fin 2) (ρ : Fin 128) (o : Fin 64) : (runA.sl.r_76 (F := Ideal) c i A X) (ix2 (row b ρ) o) = part8 (ttA c i A X TT RR b ρ o) 3 := by
  unfold runA.sl.r_76
  exact (P_acc2 _ _ _ b ρ o).trans ((congrArg₂ HAdd.hAdd (accA_1 c i A X TT RR hT hR b ρ o) (Finset.sum_congr rfl fun x _ => congrArg₂ HMul.hMul (rd_q 2 (invqA_15 c i A X TT RR hT hR) b ρ x) (rd_w 2 X.f14 o x))).trans (part8_succ (ttA c i A X TT RR b ρ o) 2 (by decide)))

theorem accA_3 (b : Fin 2) (ρ : Fin 128) (o : Fin 64) : (runA.sl.r_79 (F := Ideal) c i A X) (ix2 (row b ρ) o) = part8 (ttA c i A X TT RR b ρ o) 4 := by
  unfold runA.sl.r_79
  exact (P_acc3 _ _ _ b ρ o).trans ((congrArg₂ HAdd.hAdd (accA_2 c i A X TT RR hT hR b ρ o) (Finset.sum_congr rfl fun x _ => congrArg₂ HMul.hMul (rd_q 3 (invqA_20 c i A X TT RR hT hR) b ρ x) (rd_w 3 X.f14 o x))).trans (part8_succ (ttA c i A X TT RR b ρ o) 3 (by decide)))

theorem accA_4 (b : Fin 2) (ρ : Fin 128) (o : Fin 64) : (runA.sl.r_81 (F := Ideal) c i A X) (ix2 (row b ρ) o) = part8 (ttA c i A X TT RR b ρ o) 5 := by
  unfold runA.sl.r_81
  exact (P_acc4 _ _ _ b ρ o).trans ((congrArg₂ HAdd.hAdd (accA_3 c i A X TT RR hT hR b ρ o) (Finset.sum_congr rfl fun x _ => congrArg₂ HMul.hMul (rd_q 4 (invqA_25 c i A X TT RR hT hR) b ρ x) (rd_w 4 X.f14 o x))).trans (part8_succ (ttA c i A X TT RR b ρ o) 4 (by decide)))

theorem accA_5 (b : Fin 2) (ρ : Fin 128) (o : Fin 64) : (runA.sl.r_83 (F := Ideal) c i A X) (ix2 (row b ρ) o) = part8 (ttA c i A X TT RR b ρ o) 6 := by
  unfold runA.sl.r_83
  exact (P_acc5 _ _ _ b ρ o).trans ((congrArg₂ HAdd.hAdd (accA_4 c i A X TT RR hT hR b ρ o) (Finset.sum_congr rfl fun x _ => congrArg₂ HMul.hMul (rd_q 5 (invqA_30 c i A X TT RR hT hR) b ρ x) (rd_w 5 X.f14 o x))).trans (part8_succ (ttA c i A X TT RR b ρ o) 5 (by decide)))

theorem accA_6 (b : Fin 2) (ρ : Fin 128) (o : Fin 64) : (runA.sl.r_87 (F := Ideal) c i A X) (ix2 (row b ρ) o) = part8 (ttA c i A X TT RR b ρ o) 7 := by
  unfold runA.sl.r_87
  exact (P_acc6 _ _ _ b ρ o).trans ((congrArg₂ HAdd.hAdd (accA_5 c i A X TT RR hT hR b ρ o) (Finset.sum_congr rfl fun x _ => congrArg₂ HMul.hMul (rd_q 6 (invqA_35 c i A X TT RR hT hR) b ρ x) (rd_w 6 X.f14 o x))).trans (part8_succ (ttA c i A X TT RR b ρ o) 6 (by decide)))

theorem outA (b : Fin 2) (ρ : Fin 128) (o : Fin 64) : outv (runA.sl.r_67 (F := Ideal) c i A X) (runA.sl.r_87 (F := Ideal) c i A X) (runA.sl.v1337 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16) b ρ o = rO (hbA c i A X TT b ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o := by
  have e1 : (runA.sl.r_87 (F := Ideal) c i A X) (ix2 (row b ρ) o) + (∑ x, (runA.sl.v1337 (F := Ideal) c i A X) (ix4 0 b ρ x) * (View.readAt (Elt Ideal) A.a14.view (Rect.unit (s := S64x5120) ![0, 4480] S64x640.size inb_S64x5120_S64x640_0_4480).toLoadRect X.f14) (ix2 o x)) = ∑ j, ttA c i A X TT RR b ρ o j :=
    (congrArg₂ HAdd.hAdd (accA_6 c i A X TT RR hT hR b ρ o) (Finset.sum_congr rfl fun x _ => congrArg₂ HMul.hMul (rd_q 7 (invqA_40 c i A X TT RR hT hR) b ρ x) (rd_w 7 X.f14 o x))).trans ((part8_succ (ttA c i A X TT RR b ρ o) 7 (by decide)).trans (part8_all _))
  have e3 : (View.readAt (Elt Ideal) A.a15.view (Rect.unit (s := S64x1) ![0, 0] S64x1.size inb_S64x1_S64x1_0_0).toLoadRect X.f15) (ix2 o 0) = View.read (Elt Ideal) A.a15.view X.f15 (ix2 o 0) := readAt_at _ _ _ (ix2 o 0) (ix2 o 0) fun q => by fin_cases q <;> exact (Nat.zero_add _).symm
  have e4 : (View.readAt (Elt Ideal) A.a16.view (Rect.unit (s := S64x1) ![0, 0] S64x1.size inb_S64x1_S64x1_0_0).toLoadRect X.f16) (ix2 o 0) = View.read (Elt Ideal) A.a16.view X.f16 (ix2 o 0) := readAt_at _ _ _ (ix2 o 0) (ix2 o 0) fun q => by fin_cases q <;> exact (Nat.zero_add _).symm
  unfold outv rO
  rw [e1, e3, e4, scA c i A X TT RR hT hR]
  rfl

end Cert.KernelIdeal.Hand
-- ==== Proof.ValEndA.lean ====
/- What a run with the tables being formed leaves in its outputs. -/
module

public import proofs.«01_k».proof.Proof.ValOut
public import proofs.«01_k».proof.Proof.ValMidA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (c : Dev nD) (i : grid0.Coords) (A : Mem) (X : Cont Ideal A) (TT : Fin 3 → Fin 5120 → EReal) (RR : Fin 16 → Fin 5120 → EReal)
  (hT : ∀ (a : Fin 3) (s : Fin 8) (d : Fin 5120), View.read (Elt Ideal) A.a25.view (A.a25.view.writes (Elt Ideal) A.a25.view.junk (runA.sl.H25_3 (F := Ideal) A X)) (ix3 a s d) = TT a d)
  (hR : ∀ (j : Fin 16) (d : Fin 5120), View.read (Elt Ideal) A.a26.view (A.a26.view.writes (Elt Ideal) A.a26.view.junk (runA.sl.H26_1 (F := Ideal) A X)) (ix2 j d) = RR j d)

theorem eA (ρ : Fin 128) (d : Fin 5120) : View.read (Elt Ideal) A.a23.view (A.a23.view.writes (Elt Ideal) A.a23.view.junk (runA.sl.H23_1 (F := Ideal) A X)) (ix2 ρ d) = ∑ p, View.read (Elt Ideal) A.a4.view X.f4 (ix3 0 p ρ) * View.read (Elt Ideal) A.a5.view X.f5 (ix2 p d) := by
  unfold runA.sl.H23_1 runA.sl.r_5
  refine (wr_hit A.a23.view _ _ _ _ (ix2 ρ d) (ix2 ρ d) (by intro a; fin_cases a <;> first | rfl | exact (Nat.zero_add _).symm)).trans ((P_e _ _ ρ d).trans ?_)
  refine Finset.sum_congr rfl fun p _ => congrArg₂ HMul.hMul ?_ ?_
  · exact rd_pt _ _ p ρ
  · exact rd_we _ _ p d

theorem stxA (b : Fin 2) (ρ : Fin 128) (g : Fin 40) : View.read (Elt Ideal) A.a24.view (A.a24.view.writes (Elt Ideal) A.a24.view.junk (runA.sl.H24_2 (F := Ideal) i A X)) (ix3 b ρ ⟨g.val, by omega⟩) = View.read (Elt Ideal) A.a9.view X.f9 (ix4 0 b g ρ) := by
  unfold runA.sl.H24_2
  obtain rfl | rfl : b = 0 ∨ b = 1 := by omega
  · rw [wr_miss A.a24.view _ _ _ _ (ix3 0 ρ ⟨g.val, by omega⟩) 0 (Or.inl (Nat.le_of_ble_eq_true rfl))]
    refine (wr_hit A.a24.view _ _ _ _ (ix3 0 ρ ⟨g.val, by omega⟩) (ix3 0 ρ ⟨g.val, by omega⟩) (by intro a; fin_cases a <;> first | rfl | exact (Nat.zero_add _).symm)).trans ((P_st0 _ _ _ ρ g).trans ?_)
    exact rd_b0 _ _ g ρ
  · unfold runA.sl.r_6 runA.sl.r_7
    refine (wr_hit A.a24.view _ _ _ _ (ix3 0 ρ ⟨g.val, by omega⟩) (ix3 1 ρ ⟨g.val, by omega⟩) (by intro a; fin_cases a <;> first | rfl | exact (Nat.zero_add _).symm)).trans ((P_st2 _ _ _ _ ρ g).trans ?_)
    exact rd_b1 _ _ g ρ

theorem styA (b : Fin 2) (ρ : Fin 128) (g : Fin 40) : View.read (Elt Ideal) A.a24.view (A.a24.view.writes (Elt Ideal) A.a24.view.junk (runA.sl.H24_2 (F := Ideal) i A X)) (ix3 b ρ ⟨40 + g.val, by omega⟩) = View.read (Elt Ideal) A.a11.view X.f11 (ix4 0 b g ρ) * (View.read (Elt Ideal) A.a2.view X.f2 (ix1 (i 0))) := by
  unfold runA.sl.H24_2
  obtain rfl | rfl : b = 0 ∨ b = 1 := by omega
  · rw [wr_miss A.a24.view _ _ _ _ (ix3 0 ρ ⟨40 + g.val, by omega⟩) 0 (Or.inl (Nat.le_of_ble_eq_true rfl))]
    refine (wr_hit A.a24.view _ _ _ _ (ix3 0 ρ ⟨40 + g.val, by omega⟩) (ix3 0 ρ ⟨40 + g.val, by omega⟩) (by intro a; fin_cases a <;> first | rfl | exact (Nat.zero_add _).symm)).trans ((P_st1 _ _ _ ρ g).trans ?_)
    refine congrArg₂ HMul.hMul (rd_b0 _ _ g ρ) ?_
    unfold runA.sl.r_4
    exact kk_val A.a2.view _ i _
  · unfold runA.sl.r_6 runA.sl.r_7
    refine (wr_hit A.a24.view _ _ _ _ (ix3 0 ρ ⟨40 + g.val, by omega⟩) (ix3 1 ρ ⟨40 + g.val, by omega⟩) (by intro a; fin_cases a <;> first | rfl | exact (Nat.zero_add _).symm)).trans ((P_st3 _ _ _ _ ρ g).trans ?_)
    refine congrArg₂ HMul.hMul (rd_b1 _ _ g ρ) ?_
    unfold runA.sl.r_4
    exact kk_val A.a2.view _ i _

theorem hb_eqA (b : Fin 2) (ρ : Fin 128) : hbA c i A X TT b ρ = hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ := by
  funext d
  unfold hbA HH hT eT hid
  rw [eA, stxA, styA]

omit c i in
theorem tab_A (f) (a : Fin 3) (s : Fin 8) (d : Fin 5120) : View.read (Elt Ideal) A.a25.view (A.a25.view.writes (Elt Ideal) f (runA.sl.H25_3 (F := Ideal) A X)) (ix3 a s d) = (tabT (fun d => View.read (Elt Ideal) A.a6.view X.f6 (ix2 0 d)) (View.read (Elt Ideal) A.a3.view X.f3 (ix1 0)) (fun d => View.read (Elt Ideal) A.a7.view X.f7 (ix2 0 d)) (fun d => View.read (Elt Ideal) A.a12.view X.f12 (ix3 0 0 d))) a d := by
  have z5 : ∀ x : Fin 5120, View.readAt (Elt Ideal) A.a7.view (Rect.unit (s := S1x5120) ![0, 0] S1x5120.size inb_S1x5120_S1x5120_0_0).toLoadRect X.f7 (ix2 0 x) = View.read (Elt Ideal) A.a7.view X.f7 (ix2 0 x) := fun x => readAt_at _ _ _ (ix2 0 x) (ix2 0 x) (by intro a; fin_cases a <;> exact (Nat.zero_add _).symm)
  unfold runA.sl.H25_3
  obtain rfl | rfl | rfl : a = 0 ∨ a = 1 ∨ a = 2 := by omega
  · rw [wr_miss A.a25.view _ _ _ _ (ix3 0 s d) 0 (Or.inl (Nat.le_of_ble_eq_true rfl)), wr_miss A.a25.view _ _ _ _ (ix3 0 s d) 0 (Or.inl (Nat.le_of_ble_eq_true rfl))]
    refine (wr_hit A.a25.view _ _ _ _ (ix3 0 s d) (ix3 0 s d) (by intro a; fin_cases a <;> first | rfl | exact (Nat.zero_add _).symm)).trans ((P_t0 _ _ s d).trans ?_)
    refine congrArg₂ HMul.hMul (readAt_at _ _ _ (ix2 0 d) (ix2 0 d) (by intro a; fin_cases a <;> exact (Nat.zero_add _).symm)) ?_
    unfold runA.sl.r
    exact readAt_at _ _ _ _ (ix1 0) (by intro a; fin_cases a; rfl)
  · rw [wr_miss A.a25.view _ _ _ _ (ix3 1 s d) 0 (Or.inl (Nat.le_of_ble_eq_true rfl))]
    refine (wr_hit A.a25.view _ _ _ _ (ix3 0 s d) (ix3 1 s d) (by intro a; fin_cases a <;> first | rfl | exact (Nat.zero_add _).symm)).trans ((P_t1 _ _ s d).trans ?_)
    exact congrArg₂ (fun (a b : EReal) => a - b * invd) (z5 d) (Finset.sum_congr rfl fun x _ => z5 x)
  · refine (wr_hit A.a25.view _ _ _ _ (ix3 0 s d) (ix3 2 s d) (by intro a; fin_cases a <;> first | rfl | exact (Nat.zero_add _).symm)).trans ?_
    unfold runA.sl.r_3
    refine (P_t2 _ s d).trans ?_
    exact congrArg (fun x : EReal => 1 + x) (readAt_at _ _ _ (ix3 0 0 d) (ix3 0 0 d) (by intro a; fin_cases a <;> exact (Nat.zero_add _).symm))

omit c i in
theorem rhs_A (f) (j : Fin 16) (d : Fin 5120) : View.read (Elt Ideal) A.a26.view (A.a26.view.writes (Elt Ideal) f (runA.sl.H26_1 (F := Ideal) A X)) (ix2 j d) = (rhsT (fun d => View.read (Elt Ideal) A.a12.view X.f12 (ix3 0 0 d)) (fun d => View.read (Elt Ideal) A.a13.view X.f13 (ix3 0 0 d))) j d := by
  unfold runA.sl.H26_1 runA.sl.r_1 runA.sl.r_2
  refine (wr_hit A.a26.view _ _ _ _ (ix2 j d) (ix2 j d) (by intro a; fin_cases a <;> first | rfl | exact (Nat.zero_add _).symm)).trans ((P_rh _ _ j d).trans ?_)
  exact congrArg₂ (fun (x y : EReal) => outerR (1 + x) y j) (readAt_at _ _ _ (ix3 0 0 d) (ix3 0 0 d) (by intro a; fin_cases a <;> exact (Nat.zero_add _).symm)) (readAt_at _ _ _ (ix3 0 0 d) (ix3 0 0 d) (by intro a; fin_cases a <;> exact (Nat.zero_add _).symm))

theorem q7eA : (runA.sl.r_89 (F := Ideal) c i A X) = k0_pay637 (runA.sl.v1337 (F := Ideal) c i A X) := by
  unfold runA.sl.r_89
  rfl

theorem f17A (hc0 : first i) : (runA c i hc0 A X).1.f17 = A.a17.view.writes (Elt Ideal) X.f17 (runA.sl.H17_40 (F := Ideal) c i A X) := by
  unfold runA
  dsimp only

theorem f18A (hc0 : first i) : (runA c i hc0 A X).1.f18 = A.a18.view.writes (Elt Ideal) X.f18 [⟨Rect.unit (s := S1x2x1x128) ![0, 1, 0, 0] S1x1x1x128.size inb_S1x2x1x128_S1x1x1x128_0_1_0_0, k0_pay575 (runA.sl.r_10 (F := Ideal) c i A X) (runA.sl.r_66 (F := Ideal) c i A X)⟩, ⟨Rect.unit (s := S1x2x1x128) ![0, 0, 0, 0] S1x1x1x128.size inb_S1x2x1x128_S1x1x1x128_0_0_0_0, k0_pay574 (runA.sl.r_10 (F := Ideal) c i A X) (runA.sl.r_66 (F := Ideal) c i A X)⟩] := by
  unfold runA
  dsimp only

theorem f19A (hc0 : first i) : (runA c i hc0 A X).1.f19 = A.a19.view.writes (Elt Ideal) X.f19 [⟨Rect.unit (s := S1x2x64x128) ![0, 1, 0, 0] S1x1x64x128.size inb_S1x2x64x128_S1x1x64x128_0_1_0_0, k0_pay642 (runA.sl.r_67 (F := Ideal) c i A X) (runA.sl.r_87 (F := Ideal) c i A X) (runA.sl.r_89 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16)⟩, ⟨Rect.unit (s := S1x2x64x128) ![0, 0, 0, 0] S1x1x64x128.size inb_S1x2x64x128_S1x1x64x128_0_0_0_0, k0_pay640 (runA.sl.r_67 (F := Ideal) c i A X) (runA.sl.r_87 (F := Ideal) c i A X) (runA.sl.r_89 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16)⟩] := by
  unfold runA
  dsimp only

theorem f20A (hc0 : first i) : (runA c i hc0 A X).1.f20 = A.a20.view.writes (Elt Ideal) X.f20 [⟨Rect.unit (s := S1x1x128) ![0, 0, 0] S1x1x128.size inb_S1x1x128_S1x1x128_0_0_0, k0_pay1 (k0_pay643 (runA.sl.r_67 (F := Ideal) c i A X) (runA.sl.r_87 (F := Ideal) c i A X) (runA.sl.r_89 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16))⟩] := by
  unfold runA
  dsimp only
  unfold runA.sl.r_91
  rfl

theorem f21A (hc0 : first i) : (runA c i hc0 A X).1.f21 = A.a21.view.writes (Elt Ideal) X.f21 [⟨Rect.unit (s := S1x1x128) ![0, 0, 0] S1x1x128.size inb_S1x1x128_S1x1x128_0_0_0, k0_pay2 (k0_pay641 (runA.sl.r_67 (F := Ideal) c i A X) (runA.sl.r_87 (F := Ideal) c i A X) (runA.sl.r_89 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16))⟩] := by
  unfold runA
  dsimp only
  unfold runA.sl.r_90
  rfl

include hT hR
theorem o17A (hc0 : first i) (b : Fin 2) (ρ : Fin 128) (d : Fin 5120) : View.read (Elt Ideal) A.a17.view (runA c i hc0 A X).1.f17 (ix4 0 b ρ d) = rQ (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ) (TT 2) RR d := by
  rw [f17A, ← hb_eqA c i A X TT]
  exact invqA_40 c i A X TT RR hT hR X.f17 b ρ d d.isLt

theorem o18A (hc0 : first i) (b : Fin 2) (ρ : Fin 128) : View.read (Elt Ideal) A.a18.view (runA c i hc0 A X).1.f18 (ix4 0 b 0 ρ) = rSc (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ) (TT 2) RR := by
  rw [f18A, ← hb_eqA c i A X TT]
  have hs := congrArg sclF (mxA c i A X TT RR hT hR b ρ)
  obtain rfl | rfl : b = 0 ∨ b = 1 := by omega
  · refine (wr_miss A.a18.view X.f18 _ _ _ (ix4 0 0 0 ρ) 1 (Or.inl (Nat.le_of_ble_eq_true rfl))).trans ?_
    exact (wr_hit A.a18.view X.f18 _ _ _ (ix4 0 0 0 ρ) (ix4 0 0 0 ρ) (by intro a; fin_cases a <;> first | rfl | exact (Nat.zero_add _).symm)).trans ((P_qs0 _ _ ρ).trans hs)
  · exact (wr_hit A.a18.view X.f18 _ _ _ (ix4 0 0 0 ρ) (ix4 0 1 0 ρ) (by intro a; fin_cases a <;> first | rfl | exact (Nat.zero_add _).symm)).trans ((P_qs1 _ _ ρ).trans hs)

theorem o19A (hc0 : first i) (b : Fin 2) (o : Fin 64) (ρ : Fin 128) : View.read (Elt Ideal) A.a19.view (runA c i hc0 A X).1.f19 (ix4 0 b o ρ) = rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o := by
  rw [f19A, q7eA, ← hb_eqA c i A X TT]
  have hs := outA c i A X TT RR hT hR b ρ o
  obtain rfl | rfl : b = 0 ∨ b = 1 := by omega
  · refine (wr_miss A.a19.view X.f19 _ _ _ (ix4 0 0 o ρ) 1 (Or.inl (Nat.le_of_ble_eq_true rfl))).trans ?_
    exact (wr_hit A.a19.view X.f19 _ _ _ (ix4 0 0 o ρ) (ix4 0 0 o ρ) (by intro a; fin_cases a <;> first | rfl | exact (Nat.zero_add _).symm)).trans ((P_o0 _ _ _ _ _ _ ρ o).trans hs)
  · exact (wr_hit A.a19.view X.f19 _ _ _ (ix4 0 0 o ρ) (ix4 0 1 o ρ) (by intro a; fin_cases a <;> first | rfl | exact (Nat.zero_add _).symm)).trans ((P_o1 _ _ _ _ _ _ ρ o).trans hs)

theorem o20A (hc0 : first i) (ρ : Fin 128) : View.read (Elt Ideal) A.a20.view (runA c i hc0 A X).1.f20 (ix3 0 0 ρ) = ∑ o, (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 0 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) * (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 1 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) := by
  rw [f20A, q7eA, ← hb_eqA c i A X TT 0, ← hb_eqA c i A X TT 1]
  refine (wr_hit A.a20.view X.f20 _ _ _ (ix3 0 0 ρ) (ix3 0 0 ρ) (by intro a; fin_cases a <;> first | rfl | exact (Nat.zero_add _).symm)).trans ((P_cu _ _ _ _ _ _ ρ).trans ?_)
  exact Finset.sum_congr rfl fun o _ => congrArg₂ HMul.hMul (outA c i A X TT RR hT hR 0 ρ o) (outA c i A X TT RR hT hR 1 ρ o)

theorem o21A (hc0 : first i) (ρ : Fin 128) : View.read (Elt Ideal) A.a21.view (runA c i hc0 A X).1.f21 (ix3 0 0 ρ) = ∑ o, (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 1 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) * (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 1 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) := by
  rw [f21A, q7eA, ← hb_eqA c i A X TT]
  refine (wr_hit A.a21.view X.f21 _ _ _ (ix3 0 0 ρ) (ix3 0 0 ρ) (by intro a; fin_cases a <;> first | rfl | exact (Nat.zero_add _).symm)).trans ((P_uu _ _ _ _ _ _ ρ).trans ?_)
  exact Finset.sum_congr rfl fun o _ => congrArg₂ HMul.hMul (outA c i A X TT RR hT hR 1 ρ o) (outA c i A X TT RR hT hR 1 ρ o)

end Cert.KernelIdeal.Hand
-- ==== Proof.ValStepA.lean ====
/- One run with the tables being formed, from what its inputs hold to what its outputs hold. -/
module

public import proofs.«01_k».proof.Proof.ValOuts
public import proofs.«01_k».proof.Proof.ValEndA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

set_option maxHeartbeats 2000000 in
/-- What a run leaves as it was. -/
theorem keepA (c : Dev nD) (i : grid0.Coords) (hc0 : first i) (A : Mem) (X : Cont Ideal A) :
    (runA c i hc0 A X).1.f2 = X.f2 ∧ (runA c i hc0 A X).1.f3 = X.f3 ∧ (runA c i hc0 A X).1.f4 = X.f4 ∧ (runA c i hc0 A X).1.f5 = X.f5 ∧ (runA c i hc0 A X).1.f6 = X.f6 ∧ (runA c i hc0 A X).1.f7 = X.f7 ∧ (runA c i hc0 A X).1.f8 = X.f8 ∧ (runA c i hc0 A X).1.f9 = X.f9 ∧ (runA c i hc0 A X).1.f10 = X.f10 ∧ (runA c i hc0 A X).1.f11 = X.f11 ∧ (runA c i hc0 A X).1.f12 = X.f12 ∧ (runA c i hc0 A X).1.f13 = X.f13 ∧ (runA c i hc0 A X).1.f14 = X.f14 ∧ (runA c i hc0 A X).1.f15 = X.f15 ∧ (runA c i hc0 A X).1.f16 = X.f16 ∧ (runA c i hc0 A X).1.f25 = A.a25.view.writes (Elt Ideal) A.a25.view.junk (runA.sl.H25_3 (F := Ideal) A X) ∧ (runA c i hc0 A X).1.f26 = A.a26.view.writes (Elt Ideal) A.a26.view.junk (runA.sl.H26_1 (F := Ideal) A X) := by
  unfold runA
  dsimp only
  exact ⟨rfl, rfl, rfl, rfl, rfl, rfl, rfl, rfl, rfl, rfl, rfl, rfl, rfl, rfl, rfl, rfl, rfl⟩

local notation "𝕄" => MT nD τ sig Unit (Elt Ideal) ℕ (UR sig nD τ) ℕ

set_option maxHeartbeats 20000000 in
/-- From the buffers before the run to what they hold after it. -/
theorem stepXA (c : Dev nD) (i : grid0.Coords) (hc0 : first i) (A : Mem) (X : Cont Ideal A)  (E : Set ℕ) (K : PUnit → sProp 𝕄) :
    iprop(((A.a2.view.loc (c : Thread nD τ) ↦[A.a2.view.set]{fullShare} X.f2) ∗ (A.a3.view.loc (c : Thread nD τ) ↦[A.a3.view.set]{fullShare} X.f3) ∗ (A.a4.view.loc (c : Thread nD τ) ↦[A.a4.view.set]{fullShare} X.f4) ∗ (A.a5.view.loc (c : Thread nD τ) ↦[A.a5.view.set]{fullShare} X.f5) ∗ (A.a6.view.loc (c : Thread nD τ) ↦[A.a6.view.set]{fullShare} X.f6) ∗ (A.a7.view.loc (c : Thread nD τ) ↦[A.a7.view.set]{fullShare} X.f7) ∗ (A.a8.view.loc (c : Thread nD τ) ↦[A.a8.view.set]{fullShare} X.f8) ∗ (A.a9.view.loc (c : Thread nD τ) ↦[A.a9.view.set]{fullShare} X.f9) ∗ (A.a10.view.loc (c : Thread nD τ) ↦[A.a10.view.set]{fullShare} X.f10) ∗ (A.a11.view.loc (c : Thread nD τ) ↦[A.a11.view.set]{fullShare} X.f11) ∗ (A.a12.view.loc (c : Thread nD τ) ↦[A.a12.view.set]{fullShare} X.f12) ∗ (A.a13.view.loc (c : Thread nD τ) ↦[A.a13.view.set]{fullShare} X.f13) ∗ (A.a14.view.loc (c : Thread nD τ) ↦[A.a14.view.set]{fullShare} X.f14) ∗ (A.a15.view.loc (c : Thread nD τ) ↦[A.a15.view.set]{fullShare} X.f15) ∗ (A.a16.view.loc (c : Thread nD τ) ↦[A.a16.view.set]{fullShare} X.f16) ∗ (A.a17.view.loc (c : Thread nD τ) ↦[A.a17.view.set]{fullShare} X.f17) ∗ (A.a18.view.loc (c : Thread nD τ) ↦[A.a18.view.set]{fullShare} X.f18) ∗ (A.a19.view.loc (c : Thread nD τ) ↦[A.a19.view.set]{fullShare} X.f19) ∗ (A.a20.view.loc (c : Thread nD τ) ↦[A.a20.view.set]{fullShare} X.f20) ∗ (A.a21.view.loc (c : Thread nD τ) ↦[A.a21.view.set]{fullShare} X.f21) ∗ (A.a22.view.loc (c : Thread nD τ) ↦[A.a22.view.set]{fullShare} X.f22) ∗ (A.a23.view.loc (c : Thread nD τ) ↦[A.a23.view.set]{fullShare} X.f23) ∗ (A.a24.view.loc (c : Thread nD τ) ↦[A.a24.view.set]{fullShare} X.f24) ∗ (A.a25.view.loc (c : Thread nD τ) ↦[A.a25.view.set]{fullShare} X.f25) ∗ (A.a26.view.loc (c : Thread nD τ) ↦[A.a26.view.set]{fullShare} X.f26) ∗ (A.a27.view.loc (c : Thread nD τ) ↦[A.a27.view.set]{fullShare} X.f27))
        ∗ (iprop(owns (c : Thread nD τ) A.a2 fullShare (View.read (Elt Ideal) A.a2.view X.f2) ∗ owns (c : Thread nD τ) A.a3 fullShare (View.read (Elt Ideal) A.a3.view X.f3) ∗ owns (c : Thread nD τ) A.a4 fullShare (View.read (Elt Ideal) A.a4.view X.f4) ∗ owns (c : Thread nD τ) A.a5 fullShare (View.read (Elt Ideal) A.a5.view X.f5) ∗ owns (c : Thread nD τ) A.a6 fullShare (View.read (Elt Ideal) A.a6.view X.f6) ∗ owns (c : Thread nD τ) A.a7 fullShare (View.read (Elt Ideal) A.a7.view X.f7) ∗ owns (c : Thread nD τ) A.a8 fullShare (View.read (Elt Ideal) A.a8.view X.f8) ∗ owns (c : Thread nD τ) A.a9 fullShare (View.read (Elt Ideal) A.a9.view X.f9) ∗ owns (c : Thread nD τ) A.a10 fullShare (View.read (Elt Ideal) A.a10.view X.f10) ∗ owns (c : Thread nD τ) A.a11 fullShare (View.read (Elt Ideal) A.a11.view X.f11) ∗ owns (c : Thread nD τ) A.a12 fullShare (View.read (Elt Ideal) A.a12.view X.f12) ∗ owns (c : Thread nD τ) A.a13 fullShare (View.read (Elt Ideal) A.a13.view X.f13) ∗ owns (c : Thread nD τ) A.a14 fullShare (View.read (Elt Ideal) A.a14.view X.f14) ∗ owns (c : Thread nD τ) A.a15 fullShare (View.read (Elt Ideal) A.a15.view X.f15) ∗ owns (c : Thread nD τ) A.a16 fullShare (View.read (Elt Ideal) A.a16.view X.f16) ∗ (∃ d17 d18 d19 d20 d21, ⌜Outs i (View.read (Elt Ideal) A.a2.view X.f2) (View.read (Elt Ideal) A.a4.view X.f4) (View.read (Elt Ideal) A.a5.view X.f5) (View.read (Elt Ideal) A.a8.view X.f8) (View.read (Elt Ideal) A.a9.view X.f9) (View.read (Elt Ideal) A.a10.view X.f10) (View.read (Elt Ideal) A.a11.view X.f11) (View.read (Elt Ideal) A.a14.view X.f14) (View.read (Elt Ideal) A.a15.view X.f15) (View.read (Elt Ideal) A.a16.view X.f16) (tabT (fun d => (View.read (Elt Ideal) A.a6.view X.f6) (ix2 0 d)) ((View.read (Elt Ideal) A.a3.view X.f3) (ix1 0)) (fun d => (View.read (Elt Ideal) A.a7.view X.f7) (ix2 0 d)) (fun d => (View.read (Elt Ideal) A.a12.view X.f12) (ix3 0 0 d))) (rhsT (fun d => (View.read (Elt Ideal) A.a12.view X.f12) (ix3 0 0 d)) (fun d => (View.read (Elt Ideal) A.a13.view X.f13) (ix3 0 0 d))) d17 d18 d19 d20 d21⌝ ∗ owns (c : Thread nD τ) A.a17 fullShare d17 ∗ owns (c : Thread nD τ) A.a18 fullShare d18 ∗ owns (c : Thread nD τ) A.a19 fullShare d19 ∗ owns (c : Thread nD τ) A.a20 fullShare d20 ∗ owns (c : Thread nD τ) A.a21 fullShare d21) ∗ (∃ d, owns (c : Thread nD τ) A.a22 fullShare d) ∗ (∃ d, owns (c : Thread nD τ) A.a23 fullShare d) ∗ (∃ d, owns (c : Thread nD τ) A.a24 fullShare d) ∗ (∃ d25, ⌜∀ (a : Fin 3) (s : Fin 8) (d : Fin 5120), d25 (ix3 a s d) = (tabT (fun d => (View.read (Elt Ideal) A.a6.view X.f6) (ix2 0 d)) ((View.read (Elt Ideal) A.a3.view X.f3) (ix1 0)) (fun d => (View.read (Elt Ideal) A.a7.view X.f7) (ix2 0 d)) (fun d => (View.read (Elt Ideal) A.a12.view X.f12) (ix3 0 0 d))) a d⌝ ∗ owns (c : Thread nD τ) A.a25 fullShare d25) ∗ (∃ d26, ⌜∀ (j : Fin 16) (d : Fin 5120), d26 (ix2 j d) = (rhsT (fun d => (View.read (Elt Ideal) A.a12.view X.f12) (ix3 0 0 d)) (fun d => (View.read (Elt Ideal) A.a13.view X.f13) (ix3 0 0 d))) j d⌝ ∗ owns (c : Thread nD τ) A.a26 fullShare d26) ∗ (∃ d, owns (c : Thread nD τ) A.a27 fullShare d)) -∗ K ⟨⟩))
      ⊢ wp frame (wpE (defs₀ (F := Ideal)) Variants.none c none) E (cc0_head i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) K := by
  have hT := tab_A A X A.a25.view.junk
  have hR := rhs_A A X A.a26.view.junk
  have hO : Outs i (View.read (Elt Ideal) A.a2.view X.f2) (View.read (Elt Ideal) A.a4.view X.f4) (View.read (Elt Ideal) A.a5.view X.f5) (View.read (Elt Ideal) A.a8.view X.f8) (View.read (Elt Ideal) A.a9.view X.f9) (View.read (Elt Ideal) A.a10.view X.f10) (View.read (Elt Ideal) A.a11.view X.f11) (View.read (Elt Ideal) A.a14.view X.f14) (View.read (Elt Ideal) A.a15.view X.f15) (View.read (Elt Ideal) A.a16.view X.f16) (tabT (fun d => (View.read (Elt Ideal) A.a6.view X.f6) (ix2 0 d)) ((View.read (Elt Ideal) A.a3.view X.f3) (ix1 0)) (fun d => (View.read (Elt Ideal) A.a7.view X.f7) (ix2 0 d)) (fun d => (View.read (Elt Ideal) A.a12.view X.f12) (ix3 0 0 d))) (rhsT (fun d => (View.read (Elt Ideal) A.a12.view X.f12) (ix3 0 0 d)) (fun d => (View.read (Elt Ideal) A.a13.view X.f13) (ix3 0 0 d))) (View.read (Elt Ideal) A.a17.view (runA c i hc0 A X).1.f17) (View.read (Elt Ideal) A.a18.view (runA c i hc0 A X).1.f18) (View.read (Elt Ideal) A.a19.view (runA c i hc0 A X).1.f19) (View.read (Elt Ideal) A.a20.view (runA c i hc0 A X).1.f20) (View.read (Elt Ideal) A.a21.view (runA c i hc0 A X).1.f21) :=
    ⟨o17A c i A X _ _ hT hR hc0, o18A c i A X _ _ hT hR hc0, o19A c i A X _ _ hT hR hc0, o20A c i A X _ _ hT hR hc0, o21A c i A X _ _ hT hR hc0⟩
  obtain ⟨k2, k3, k4, k5, k6, k7, k8, k9, k10, k11, k12, k13, k14, k15, k16, k25, k26⟩ := keepA c i hc0 A X
  rw [← k25] at hT
  rw [← k26] at hR
  generalize runA c i hc0 A X = o at *
  obtain ⟨o, ho⟩ := o
  dsimp only at hO hT hR k2 k3 k4 k5 k6 k7 k8 k9 k10 k11 k12 k13 k14 k15 k16 k25 k26
  unfold owns
  iintro ⟨⟨H2, H3, H4, H5, H6, H7, H8, H9, H10, H11, H12, H13, H14, H15, H16, H17, H18, H19, H20, H21, H22, H23, H24, H25, H26, H27⟩, Hk⟩
  iapply (ho E K)
  isplitl [H2 H3 H4 H5 H6 H7 H8 H9 H10 H11 H12 H13 H14 H15 H16 H17 H18 H19 H20 H21 H22 H23 H24 H25 H26 H27]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro ⟨H2, H3, H4, H5, H6, H7, H8, H9, H10, H11, H12, H13, H14, H15, H16, H17, H18, H19, H20, H21, H22, H23, H24, H25, H26, H27⟩
  iapply Hk
  isplitl [H2]
  · iexists o.f2
    isplitr
    · ipureintro; rw [k2]
    · iexact H2
  isplitl [H3]
  · iexists o.f3
    isplitr
    · ipureintro; rw [k3]
    · iexact H3
  isplitl [H4]
  · iexists o.f4
    isplitr
    · ipureintro; rw [k4]
    · iexact H4
  isplitl [H5]
  · iexists o.f5
    isplitr
    · ipureintro; rw [k5]
    · iexact H5
  isplitl [H6]
  · iexists o.f6
    isplitr
    · ipureintro; rw [k6]
    · iexact H6
  isplitl [H7]
  · iexists o.f7
    isplitr
    · ipureintro; rw [k7]
    · iexact H7
  isplitl [H8]
  · iexists o.f8
    isplitr
    · ipureintro; rw [k8]
    · iexact H8
  isplitl [H9]
  · iexists o.f9
    isplitr
    · ipureintro; rw [k9]
    · iexact H9
  isplitl [H10]
  · iexists o.f10
    isplitr
    · ipureintro; rw [k10]
    · iexact H10
  isplitl [H11]
  · iexists o.f11
    isplitr
    · ipureintro; rw [k11]
    · iexact H11
  isplitl [H12]
  · iexists o.f12
    isplitr
    · ipureintro; rw [k12]
    · iexact H12
  isplitl [H13]
  · iexists o.f13
    isplitr
    · ipureintro; rw [k13]
    · iexact H13
  isplitl [H14]
  · iexists o.f14
    isplitr
    · ipureintro; rw [k14]
    · iexact H14
  isplitl [H15]
  · iexists o.f15
    isplitr
    · ipureintro; rw [k15]
    · iexact H15
  isplitl [H16]
  · iexists o.f16
    isplitr
    · ipureintro; rw [k16]
    · iexact H16
  isplitl [H17 H18 H19 H20 H21]
  · iexists (View.read (Elt Ideal) A.a17.view o.f17), (View.read (Elt Ideal) A.a18.view o.f18), (View.read (Elt Ideal) A.a19.view o.f19), (View.read (Elt Ideal) A.a20.view o.f20), (View.read (Elt Ideal) A.a21.view o.f21)
    isplitr
    · ipureintro; exact hO
    isplitl [H17]
    · iexists o.f17
      isplitr
      · ipureintro; exact rfl
      · iexact H17
    isplitl [H18]
    · iexists o.f18
      isplitr
      · ipureintro; exact rfl
      · iexact H18
    isplitl [H19]
    · iexists o.f19
      isplitr
      · ipureintro; exact rfl
      · iexact H19
    isplitl [H20]
    · iexists o.f20
      isplitr
      · ipureintro; exact rfl
      · iexact H20
    · iexists o.f21
      isplitr
      · ipureintro; exact rfl
      · iexact H21
  isplitl [H22]
  · iexists (View.read (Elt Ideal) A.a22.view o.f22), o.f22
    isplitr
    · ipureintro; exact rfl
    · iexact H22
  isplitl [H23]
  · iexists (View.read (Elt Ideal) A.a23.view o.f23), o.f23
    isplitr
    · ipureintro; exact rfl
    · iexact H23
  isplitl [H24]
  · iexists (View.read (Elt Ideal) A.a24.view o.f24), o.f24
    isplitr
    · ipureintro; exact rfl
    · iexact H24
  isplitl [H25]
  · iexists (View.read (Elt Ideal) A.a25.view o.f25)
    isplitr
    · ipureintro; exact hT
    · iexists o.f25
      isplitr
      · ipureintro; exact rfl
      · iexact H25
  isplitl [H26]
  · iexists (View.read (Elt Ideal) A.a26.view o.f26)
    isplitr
    · ipureintro; exact hR
    · iexists o.f26
      isplitr
      · ipureintro; exact rfl
      · iexact H26
  · iexists (View.read (Elt Ideal) A.a27.view o.f27), o.f27
    isplitr
    · ipureintro; exact rfl
    · iexact H27

set_option maxHeartbeats 20000000 in
/-- From what the windows hold before the run to what they hold after it. -/
theorem stepA (c : Dev nD) (i : grid0.Coords) (hc0 : first i) (A : Mem) (x2 : S4.Idx → Elt Ideal .f32) (x3 : S1.Idx → Elt Ideal .f32) (x4 : S1x64x128.Idx → Elt Ideal .fp8e4m3) (x5 : S64x5120.Idx → Elt Ideal .fp8e4m3) (x6 : S1x5120.Idx → Elt Ideal .f32) (x7 : S1x5120.Idx → Elt Ideal .f32) (x8 : S1x2x128x5120.Idx → Elt Ideal .i8) (x9 : S1x2x40x128.Idx → Elt Ideal .f32) (x10 : S1x2x128x5120.Idx → Elt Ideal .i8) (x11 : S1x2x40x128.Idx → Elt Ideal .f32) (x12 : S1x1x5120.Idx → Elt Ideal .f32) (x13 : S1x1x5120.Idx → Elt Ideal .f32) (x14 : S64x5120.Idx → Elt Ideal .fp8e4m3) (x15 : S64x1.Idx → Elt Ideal .f32) (x16 : S64x1.Idx → Elt Ideal .f32)  (E : Set ℕ) (K : PUnit → sProp 𝕄) :
    iprop((owns (c : Thread nD τ) A.a2 fullShare x2 ∗ owns (c : Thread nD τ) A.a3 fullShare x3 ∗ owns (c : Thread nD τ) A.a4 fullShare x4 ∗ owns (c : Thread nD τ) A.a5 fullShare x5 ∗ owns (c : Thread nD τ) A.a6 fullShare x6 ∗ owns (c : Thread nD τ) A.a7 fullShare x7 ∗ owns (c : Thread nD τ) A.a8 fullShare x8 ∗ owns (c : Thread nD τ) A.a9 fullShare x9 ∗ owns (c : Thread nD τ) A.a10 fullShare x10 ∗ owns (c : Thread nD τ) A.a11 fullShare x11 ∗ owns (c : Thread nD τ) A.a12 fullShare x12 ∗ owns (c : Thread nD τ) A.a13 fullShare x13 ∗ owns (c : Thread nD τ) A.a14 fullShare x14 ∗ owns (c : Thread nD τ) A.a15 fullShare x15 ∗ owns (c : Thread nD τ) A.a16 fullShare x16 ∗ (∃ d, owns (c : Thread nD τ) A.a17 fullShare d) ∗ (∃ d, owns (c : Thread nD τ) A.a18 fullShare d) ∗ (∃ d, owns (c : Thread nD τ) A.a19 fullShare d) ∗ (∃ d, owns (c : Thread nD τ) A.a20 fullShare d) ∗ (∃ d, owns (c : Thread nD τ) A.a21 fullShare d) ∗ (∃ d, owns (c : Thread nD τ) A.a22 fullShare d) ∗ (∃ d, owns (c : Thread nD τ) A.a23 fullShare d) ∗ (∃ d, owns (c : Thread nD τ) A.a24 fullShare d) ∗ (∃ d, owns (c : Thread nD τ) A.a25 fullShare d) ∗ (∃ d, owns (c : Thread nD τ) A.a26 fullShare d) ∗ (∃ d, owns (c : Thread nD τ) A.a27 fullShare d))
        ∗ (iprop(owns (c : Thread nD τ) A.a2 fullShare x2 ∗ owns (c : Thread nD τ) A.a3 fullShare x3 ∗ owns (c : Thread nD τ) A.a4 fullShare x4 ∗ owns (c : Thread nD τ) A.a5 fullShare x5 ∗ owns (c : Thread nD τ) A.a6 fullShare x6 ∗ owns (c : Thread nD τ) A.a7 fullShare x7 ∗ owns (c : Thread nD τ) A.a8 fullShare x8 ∗ owns (c : Thread nD τ) A.a9 fullShare x9 ∗ owns (c : Thread nD τ) A.a10 fullShare x10 ∗ owns (c : Thread nD τ) A.a11 fullShare x11 ∗ owns (c : Thread nD τ) A.a12 fullShare x12 ∗ owns (c : Thread nD τ) A.a13 fullShare x13 ∗ owns (c : Thread nD τ) A.a14 fullShare x14 ∗ owns (c : Thread nD τ) A.a15 fullShare x15 ∗ owns (c : Thread nD τ) A.a16 fullShare x16 ∗ (∃ d17 d18 d19 d20 d21, ⌜Outs i x2 x4 x5 x8 x9 x10 x11 x14 x15 x16 (tabT (fun d => x6 (ix2 0 d)) (x3 (ix1 0)) (fun d => x7 (ix2 0 d)) (fun d => x12 (ix3 0 0 d))) (rhsT (fun d => x12 (ix3 0 0 d)) (fun d => x13 (ix3 0 0 d))) d17 d18 d19 d20 d21⌝ ∗ owns (c : Thread nD τ) A.a17 fullShare d17 ∗ owns (c : Thread nD τ) A.a18 fullShare d18 ∗ owns (c : Thread nD τ) A.a19 fullShare d19 ∗ owns (c : Thread nD τ) A.a20 fullShare d20 ∗ owns (c : Thread nD τ) A.a21 fullShare d21) ∗ (∃ d, owns (c : Thread nD τ) A.a22 fullShare d) ∗ (∃ d, owns (c : Thread nD τ) A.a23 fullShare d) ∗ (∃ d, owns (c : Thread nD τ) A.a24 fullShare d) ∗ (∃ d25, ⌜∀ (a : Fin 3) (s : Fin 8) (d : Fin 5120), d25 (ix3 a s d) = (tabT (fun d => x6 (ix2 0 d)) (x3 (ix1 0)) (fun d => x7 (ix2 0 d)) (fun d => x12 (ix3 0 0 d))) a d⌝ ∗ owns (c : Thread nD τ) A.a25 fullShare d25) ∗ (∃ d26, ⌜∀ (j : Fin 16) (d : Fin 5120), d26 (ix2 j d) = (rhsT (fun d => x12 (ix3 0 0 d)) (fun d => x13 (ix3 0 0 d))) j d⌝ ∗ owns (c : Thread nD τ) A.a26 fullShare d26) ∗ (∃ d, owns (c : Thread nD τ) A.a27 fullShare d)) -∗ K ⟨⟩))
      ⊢ wp frame (wpE (defs₀ (F := Ideal)) Variants.none c none) E (cc0_head i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) K := by
  have key := stepXA c i hc0 A
  unfold owns at key ⊢
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩, Hk⟩
  subst hf2
  subst hf3
  subst hf4
  subst hf5
  subst hf6
  subst hf7
  subst hf8
  subst hf9
  subst hf10
  subst hf11
  subst hf12
  subst hf13
  subst hf14
  subst hf15
  subst hf16
  iapply (key ⟨f2, f3, f4, f5, f6, f7, f8, f9, f10, f11, f12, f13, f14, f15, f16, f17, f18, f19, f20, f21, f22, f23, f24, f25, f26, f27⟩ E K)
  isplitl [H2 H3 H4 H5 H6 H7 H8 H9 H10 H11 H12 H13 H14 H15 H16 H17 H18 H19 H20 H21 H22 H23 H24 H25 H26 H27]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact Hk

end Cert.KernelIdeal.Hand
-- ==== Proof.ValRunB.lean ====
/- The body run with the contents it ends with, case B. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.ValMem

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 8000000 in
/-- The body run from contents `X`: the contents it ends with, the branch not taken. -/
def runB (c : Dev nD) (i : grid0.Coords) (hc0 : ¬first i) (A : Mem) (X : Cont F A) :
    { o : Cont F A // ∀ (E : Set ℕ) (K : PUnit → sProp 𝕄),
      iprop(Held c A X.f2 X.f3 X.f4 X.f5 X.f6 X.f7 X.f8 X.f9 X.f10 X.f11 X.f12 X.f13 X.f14 X.f15 X.f16 X.f17 X.f18 X.f19 X.f20 X.f21 X.f22 X.f23 X.f24 X.f25 X.f26 X.f27 ∗ (Held c A o.f2 o.f3 o.f4 o.f5 o.f6 o.f7 o.f8 o.f9 o.f10 o.f11 o.f12 o.f13 o.f14 o.f15 o.f16 o.f17 o.f18 o.f19 o.f20 o.f21 o.f22 o.f23 o.f24 o.f25 o.f26 o.f27 -∗ K ⟨⟩))
        ⊢ wp frame (wpE (defs₀ (F := F)) Variants.none c none) E (cc0_head i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) K } := by
  refine ⟨⟨X.f2, X.f3, X.f4, X.f5, X.f6, X.f7, X.f8, X.f9, X.f10, X.f11, X.f12, X.f13, X.f14, X.f15, X.f16, ?_, ?_, ?_, ?_, ?_, ?_, ?_, ?_, ?_, ?_, ?_⟩, fun E K => ?run⟩
  case run =>
    dsimp only
    simp only [cc0_head_eq_skeleton]; unfold cc0_head_skel
    simp only [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    iintro ⟨⟨H2, H3, H4, H5, H6, H7, H8, H9, H10, H11, H12, H13, H14, H15, H16, H17, H18, H19, H20, H21, H22, H23, H24, H25, H26, H27⟩, Hk⟩
    sl_exec (disch := first | sl_exact hc0)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

end Cert.KernelIdeal.Hand
-- ==== Proof.ValMidB.lean ====
/- The middle of a run without the tables being formed: what its buffers hold. -/
module

public import proofs.«01_k».proof.Proof.ValSpec
public import proofs.«01_k».proof.Proof.ValRunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The hidden rows of the run. -/
def hbB (c : Dev nD) (i : grid0.Coords) (A : Mem) (X : Cont Ideal A) (TT : Fin 3 → Fin 5120 → EReal) (b : Fin 2) (ρ : Fin 128) (d : Fin 5120) : EReal := HH A.a8 A.a10 A.a23 A.a24 X.f8 X.f10 (A.a23.view.writes (Elt Ideal) A.a23.view.junk (runB.sl.H23_1 (F := Ideal) A X)) (A.a24.view.writes (Elt Ideal) A.a24.view.junk (runB.sl.H24_2 (F := Ideal) i A X)) TT b ρ d
/-- The modulated rows of the run, and its codes. -/
def hmB (c : Dev nD) (i : grid0.Coords) (A : Mem) (X : Cont Ideal A) (TT : Fin 3 → Fin 5120 → EReal) (RR : Fin 16 → Fin 5120 → EReal) (b : Fin 2) (ρ : Fin 128) (d : Fin 5120) : EReal := rHM (hbB c i A X TT b ρ) (TT 2) RR d
def qqB (c : Dev nD) (i : grid0.Coords) (A : Mem) (X : Cont Ideal A) (TT : Fin 3 → Fin 5120 → EReal) (RR : Fin 16 → Fin 5120 → EReal) (b : Fin 2) (ρ : Fin 128) (d : Fin 5120) : EReal := rQ (hbB c i A X TT b ρ) (TT 2) RR d

variable (c : Dev nD) (i : grid0.Coords) (A : Mem) (X : Cont Ideal A) (TT : Fin 3 → Fin 5120 → EReal) (RR : Fin 16 → Fin 5120 → EReal)
  (hT : ∀ (a : Fin 3) (s : Fin 8) (d : Fin 5120), View.read (Elt Ideal) A.a25.view X.f25 (ix3 a s d) = TT a d)
  (hR : ∀ (j : Fin 16) (d : Fin 5120), View.read (Elt Ideal) A.a26.view X.f26 (ix2 j d) = RR j d)

include hT
theorem baseB : Inv A.a22.view (hmB c i A X TT RR) (hbB c i A X TT) 0 (pb_k0_t1 (F := Ideal) Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runB.sl.r_1 (F := Ideal) A X) (runB.sl.r_2 (F := Ideal) A X) (runB.sl.r_3 (F := Ideal) i A X) (runB.sl.cst_21 (F := Ideal) ) X.f8 X.f10 (A.a23.view.writes (Elt Ideal) A.a23.view.junk (runB.sl.H23_1 (F := Ideal) A X)) (A.a24.view.writes (Elt Ideal) A.a24.view.junk (runB.sl.H24_2 (F := Ideal) i A X)) X.f25 k0_t1_loop.trips).1 := by
  intro f b ρ d
  rw [if_neg (by omega)]
  exact loop_h Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runB.sl.r_1 (F := Ideal) A X) (runB.sl.r_2 (F := Ideal) A X) (runB.sl.r_3 (F := Ideal) i A X) (runB.sl.cst_21 (F := Ideal) ) X.f8 X.f10 (A.a23.view.writes (Elt Ideal) A.a23.view.junk (runB.sl.H23_1 (F := Ideal) A X)) (A.a24.view.writes (Elt Ideal) A.a24.view.junk (runB.sl.H24_2 (F := Ideal) i A X)) X.f25 TT hT A.a22.view f (ix3 b ρ d)

theorem sumB_0_0 (ρ x : Fin 128) : (runB.sl.v43 (F := Ideal) c i A X) (ix4 0 0 ρ x) = SS A.a8 A.a10 A.a23 A.a24 X.f8 X.f10 (A.a23.view.writes (Elt Ideal) A.a23.view.junk (runB.sl.H23_1 (F := Ideal) A X)) (A.a24.view.writes (Elt Ideal) A.a24.view.junk (runB.sl.H24_2 (F := Ideal) i A X)) TT 0 0 ρ x := by
  unfold runB.sl.v43
  refine (readAt_at A.a27.view _ _ (ix4 0 0 ρ x) (ix4 0 0 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runB.sl.r_1 (F := Ideal) A X) (runB.sl.r_2 (F := Ideal) A X) (runB.sl.r_3 (F := Ideal) i A X) (runB.sl.cst_21 (F := Ideal) ) X.f8 X.f10 (A.a23.view.writes (Elt Ideal) A.a23.view.junk (runB.sl.H23_1 (F := Ideal) A X)) (A.a24.view.writes (Elt Ideal) A.a24.view.junk (runB.sl.H24_2 (F := Ideal) i A X)) X.f25 TT hT A.a27.view _ (ix4 0 0 ρ x))
  fin_cases q
  · rfl
  · rfl
  · exact (Nat.zero_add _).symm
  · exact (Nat.zero_add _).symm

theorem sumB_0_1 (ρ x : Fin 128) : (runB.sl.v48 (F := Ideal) c i A X) (ix4 0 0 ρ x) = SS A.a8 A.a10 A.a23 A.a24 X.f8 X.f10 (A.a23.view.writes (Elt Ideal) A.a23.view.junk (runB.sl.H23_1 (F := Ideal) A X)) (A.a24.view.writes (Elt Ideal) A.a24.view.junk (runB.sl.H24_2 (F := Ideal) i A X)) TT 0 1 ρ x := by
  unfold runB.sl.v48
  refine (readAt_at A.a27.view _ _ (ix4 0 0 ρ x) (ix4 0 1 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runB.sl.r_1 (F := Ideal) A X) (runB.sl.r_2 (F := Ideal) A X) (runB.sl.r_3 (F := Ideal) i A X) (runB.sl.cst_21 (F := Ideal) ) X.f8 X.f10 (A.a23.view.writes (Elt Ideal) A.a23.view.junk (runB.sl.H23_1 (F := Ideal) A X)) (A.a24.view.writes (Elt Ideal) A.a24.view.junk (runB.sl.H24_2 (F := Ideal) i A X)) X.f25 TT hT A.a27.view _ (ix4 0 1 ρ x))
  fin_cases q
  · rfl
  · rfl
  · exact (Nat.zero_add _).symm
  · exact (Nat.zero_add _).symm

theorem sumB_1_0 (ρ x : Fin 128) : (runB.sl.v54 (F := Ideal) c i A X) (ix4 0 0 ρ x) = SS A.a8 A.a10 A.a23 A.a24 X.f8 X.f10 (A.a23.view.writes (Elt Ideal) A.a23.view.junk (runB.sl.H23_1 (F := Ideal) A X)) (A.a24.view.writes (Elt Ideal) A.a24.view.junk (runB.sl.H24_2 (F := Ideal) i A X)) TT 1 0 ρ x := by
  unfold runB.sl.v54
  refine (readAt_at A.a27.view _ _ (ix4 0 0 ρ x) (ix4 1 0 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runB.sl.r_1 (F := Ideal) A X) (runB.sl.r_2 (F := Ideal) A X) (runB.sl.r_3 (F := Ideal) i A X) (runB.sl.cst_21 (F := Ideal) ) X.f8 X.f10 (A.a23.view.writes (Elt Ideal) A.a23.view.junk (runB.sl.H23_1 (F := Ideal) A X)) (A.a24.view.writes (Elt Ideal) A.a24.view.junk (runB.sl.H24_2 (F := Ideal) i A X)) X.f25 TT hT A.a27.view _ (ix4 1 0 ρ x))
  fin_cases q
  · rfl
  · rfl
  · exact (Nat.zero_add _).symm
  · exact (Nat.zero_add _).symm

theorem sumB_1_1 (ρ x : Fin 128) : (runB.sl.v59 (F := Ideal) c i A X) (ix4 0 0 ρ x) = SS A.a8 A.a10 A.a23 A.a24 X.f8 X.f10 (A.a23.view.writes (Elt Ideal) A.a23.view.junk (runB.sl.H23_1 (F := Ideal) A X)) (A.a24.view.writes (Elt Ideal) A.a24.view.junk (runB.sl.H24_2 (F := Ideal) i A X)) TT 1 1 ρ x := by
  unfold runB.sl.v59
  refine (readAt_at A.a27.view _ _ (ix4 0 0 ρ x) (ix4 1 1 ρ x) fun q => ?_).trans (loop_s Variants.none c none i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 (runB.sl.r_1 (F := Ideal) A X) (runB.sl.r_2 (F := Ideal) A X) (runB.sl.r_3 (F := Ideal) i A X) (runB.sl.cst_21 (F := Ideal) ) X.f8 X.f10 (A.a23.view.writes (Elt Ideal) A.a23.view.junk (runB.sl.H23_1 (F := Ideal) A X)) (A.a24.view.writes (Elt Ideal) A.a24.view.junk (runB.sl.H24_2 (F := Ideal) i A X)) X.f25 TT hT A.a27.view _ (ix4 1 1 ρ x))
  fin_cases q
  · rfl
  · rfl
  · exact (Nat.zero_add _).symm
  · exact (Nat.zero_add _).symm

theorem s1B (b : Fin 2) (ρ : Fin 128) : (∑ x, (if b = 0 then (runB.sl.v43 (F := Ideal) c i A X) else (runB.sl.v48 (F := Ideal) c i A X)) (ix4 0 0 ρ x)) = rS1 (hbB c i A X TT b ρ) := by
  unfold rS1
  refine Finset.sum_congr rfl fun x _ => ?_
  obtain rfl | rfl : b = 0 ∨ b = 1 := by omega
  · rw [if_pos rfl, sumB_0_0 c i A X TT hT]; rfl
  · rw [if_neg (by decide), sumB_0_1 c i A X TT hT]; rfl

theorem s2B (b : Fin 2) (ρ : Fin 128) : (∑ x, (if b = 0 then (runB.sl.v54 (F := Ideal) c i A X) else (runB.sl.v59 (F := Ideal) c i A X)) (ix4 0 0 ρ x)) = rS2 (hbB c i A X TT b ρ) := by
  unfold rS2
  refine Finset.sum_congr rfl fun x _ => ?_
  obtain rfl | rfl : b = 0 ∨ b = 1 := by omega
  · rw [if_pos rfl, sumB_1_0 c i A X TT hT]; rfl
  · rw [if_neg (by decide), sumB_1_1 c i A X TT hT]; rfl

theorem lhB (b : Fin 2) (ρ : Fin 128) (j : Fin 16) : (runB.sl.r_7 (F := Ideal) c i A X) (ix2 (row b ρ) j) = outerL (0 - muF (rS1 (hbB c i A X TT b ρ))) (sdF (rS1 (hbB c i A X TT b ρ)) (rS2 (hbB c i A X TT b ρ))) j := by
  rw [← s1B c i A X TT hT, ← s2B c i A X TT hT]
  exact P_lh _ _ _ _ b ρ j

theorem rsB (b : Fin 2) (ρ : Fin 128) : (runB.sl.r_6 (F := Ideal) c i A X) (ix2 0 (row b ρ)) = rRs (hbB c i A X TT b ρ) := by
  unfold rRs
  rw [← s1B c i A X TT hT, ← s2B c i A X TT hT]
  exact P_rs _ _ _ _ b ρ

include hR
theorem invB_1 : Inv A.a22.view (hmB c i A X TT RR) (hbB c i A X TT) 1 (runB.sl.H22_1 (F := Ideal) c i A X) := by
  unfold runB.sl.H22_1
  exact inv_step _ _ _ 0 _ _ _ (baseB c i A X TT RR hT) fun b ρ l => (P_h0 _ _ _ _ b ρ l).trans (hmv_eq (rd_h 0 (baseB c i A X TT RR hT) b ρ l) (rd_tab 0 hT _ l) (lhB c i A X TT hT b ρ) (rd_lo 0 hR l))

theorem invB_2 : Inv A.a22.view (hmB c i A X TT RR) (hbB c i A X TT) 2 (runB.sl.H22_2 (F := Ideal) c i A X) := by
  unfold runB.sl.H22_2
  exact inv_step _ _ _ 1 _ _ _ (invB_1 c i A X TT RR hT hR) fun b ρ l => (P_h1 _ _ _ _ b ρ l).trans (hmv_eq (rd_h 1 (invB_1 c i A X TT RR hT hR) b ρ l) (rd_tab 1 hT _ l) (lhB c i A X TT hT b ρ) (rd_hi 0 1 rfl hR l))

theorem invB_3 : Inv A.a22.view (hmB c i A X TT RR) (hbB c i A X TT) 3 (runB.sl.H22_3 (F := Ideal) c i A X) := by
  unfold runB.sl.H22_3
  exact inv_step _ _ _ 2 _ _ _ (invB_2 c i A X TT RR hT hR) fun b ρ l => (P_h2 _ _ _ _ b ρ l).trans (hmv_eq (rd_h 2 (invB_2 c i A X TT RR hT hR) b ρ l) (rd_tab 2 hT _ l) (lhB c i A X TT hT b ρ) (rd_lo 2 hR l))

theorem invB_4 : Inv A.a22.view (hmB c i A X TT RR) (hbB c i A X TT) 4 (runB.sl.H22_4 (F := Ideal) c i A X) := by
  unfold runB.sl.H22_4
  exact inv_step _ _ _ 3 _ _ _ (invB_3 c i A X TT RR hT hR) fun b ρ l => (P_h3 _ _ _ _ b ρ l).trans (hmv_eq (rd_h 3 (invB_3 c i A X TT RR hT hR) b ρ l) (rd_tab 3 hT _ l) (lhB c i A X TT hT b ρ) (rd_hi 2 3 rfl hR l))

theorem invB_5 : Inv A.a22.view (hmB c i A X TT RR) (hbB c i A X TT) 5 (runB.sl.H22_5 (F := Ideal) c i A X) := by
  unfold runB.sl.H22_5
  exact inv_step _ _ _ 4 _ _ _ (invB_4 c i A X TT RR hT hR) fun b ρ l => (P_h4 _ _ _ _ b ρ l).trans (hmv_eq (rd_h 4 (invB_4 c i A X TT RR hT hR) b ρ l) (rd_tab 4 hT _ l) (lhB c i A X TT hT b ρ) (rd_lo 4 hR l))

theorem invB_6 : Inv A.a22.view (hmB c i A X TT RR) (hbB c i A X TT) 6 (runB.sl.H22_6 (F := Ideal) c i A X) := by
  unfold runB.sl.H22_6
  exact inv_step _ _ _ 5 _ _ _ (invB_5 c i A X TT RR hT hR) fun b ρ l => (P_h5 _ _ _ _ b ρ l).trans (hmv_eq (rd_h 5 (invB_5 c i A X TT RR hT hR) b ρ l) (rd_tab 5 hT _ l) (lhB c i A X TT hT b ρ) (rd_hi 4 5 rfl hR l))

theorem invB_7 : Inv A.a22.view (hmB c i A X TT RR) (hbB c i A X TT) 7 (runB.sl.H22_7 (F := Ideal) c i A X) := by
  unfold runB.sl.H22_7
  exact inv_step _ _ _ 6 _ _ _ (invB_6 c i A X TT RR hT hR) fun b ρ l => (P_h6 _ _ _ _ b ρ l).trans (hmv_eq (rd_h 6 (invB_6 c i A X TT RR hT hR) b ρ l) (rd_tab 6 hT _ l) (lhB c i A X TT hT b ρ) (rd_lo 6 hR l))

theorem invB_8 : Inv A.a22.view (hmB c i A X TT RR) (hbB c i A X TT) 8 (runB.sl.H22_8 (F := Ideal) c i A X) := by
  unfold runB.sl.H22_8
  exact inv_step _ _ _ 7 _ _ _ (invB_7 c i A X TT RR hT hR) fun b ρ l => (P_h7 _ _ _ _ b ρ l).trans (hmv_eq (rd_h 7 (invB_7 c i A X TT RR hT hR) b ρ l) (rd_tab 7 hT _ l) (lhB c i A X TT hT b ρ) (rd_hi 6 7 rfl hR l))

theorem invB_9 : Inv A.a22.view (hmB c i A X TT RR) (hbB c i A X TT) 9 (runB.sl.H22_9 (F := Ideal) c i A X) := by
  unfold runB.sl.H22_9
  exact inv_step _ _ _ 8 _ _ _ (invB_8 c i A X TT RR hT hR) fun b ρ l => (P_h8 _ _ _ _ b ρ l).trans (hmv_eq (rd_h 8 (invB_8 c i A X TT RR hT hR) b ρ l) (rd_tab 8 hT _ l) (lhB c i A X TT hT b ρ) (rd_lo 8 hR l))

theorem invB_10 : Inv A.a22.view (hmB c i A X TT RR) (hbB c i A X TT) 10 (runB.sl.H22_10 (F := Ideal) c i A X) := by
  unfold runB.sl.H22_10
  exact inv_step _ _ _ 9 _ _ _ (invB_9 c i A X TT RR hT hR) fun b ρ l => (P_h9 _ _ _ _ b ρ l).trans (hmv_eq (rd_h 9 (invB_9 c i A X TT RR hT hR) b ρ l) (rd_tab 9 hT _ l) (lhB c i A X TT hT b ρ) (rd_hi 8 9 rfl hR l))

theorem invB_11 : Inv A.a22.view (hmB c i A X TT RR) (hbB c i A X TT) 11 (runB.sl.H22_11 (F := Ideal) c i A X) := by
  unfold runB.sl.H22_11
  exact inv_step _ _ _ 10 _ _ _ (invB_10 c i A X TT RR hT hR) fun b ρ l => (P_h10 _ _ _ _ b ρ l).trans (hmv_eq (rd_h 10 (invB_10 c i A X TT RR hT hR) b ρ l) (rd_tab 10 hT _ l) (lhB c i A X TT hT b ρ) (rd_lo 10 hR l))

theorem invB_12 : Inv A.a22.view (hmB c i A X TT RR) (hbB c i A X TT) 12 (runB.sl.H22_12 (F := Ideal) c i A X) := by
  unfold runB.sl.H22_12
  exact inv_step _ _ _ 11 _ _ _ (invB_11 c i A X TT RR hT hR) fun b ρ l => (P_h11 _ _ _ _ b ρ l).trans (hmv_eq (rd_h 11 (invB_11 c i A X TT RR hT hR) b ρ l) (rd_tab 11 hT _ l) (lhB c i A X TT hT b ρ) (rd_hi 10 11 rfl hR l))

theorem invB_13 : Inv A.a22.view (hmB c i A X TT RR) (hbB c i A X TT) 13 (runB.sl.H22_13 (F := Ideal) c i A X) := by
  unfold runB.sl.H22_13
  exact inv_step _ _ _ 12 _ _ _ (invB_12 c i A X TT RR hT hR) fun b ρ l => (P_h12 _ _ _ _ b ρ l).trans (hmv_eq (rd_h 12 (invB_12 c i A X TT RR hT hR) b ρ l) (rd_tab 12 hT _ l) (lhB c i A X TT hT b ρ) (rd_lo 12 hR l))

theorem invB_14 : Inv A.a22.view (hmB c i A X TT RR) (hbB c i A X TT) 14 (runB.sl.H22_14 (F := Ideal) c i A X) := by
  unfold runB.sl.H22_14
  exact inv_step _ _ _ 13 _ _ _ (invB_13 c i A X TT RR hT hR) fun b ρ l => (P_h13 _ _ _ _ b ρ l).trans (hmv_eq (rd_h 13 (invB_13 c i A X TT RR hT hR) b ρ l) (rd_tab 13 hT _ l) (lhB c i A X TT hT b ρ) (rd_hi 12 13 rfl hR l))

theorem invB_15 : Inv A.a22.view (hmB c i A X TT RR) (hbB c i A X TT) 15 (runB.sl.H22_15 (F := Ideal) c i A X) := by
  unfold runB.sl.H22_15
  exact inv_step _ _ _ 14 _ _ _ (invB_14 c i A X TT RR hT hR) fun b ρ l => (P_h14 _ _ _ _ b ρ l).trans (hmv_eq (rd_h 14 (invB_14 c i A X TT RR hT hR) b ρ l) (rd_tab 14 hT _ l) (lhB c i A X TT hT b ρ) (rd_lo 14 hR l))

theorem invB_16 : Inv A.a22.view (hmB c i A X TT RR) (hbB c i A X TT) 16 (runB.sl.H22_16 (F := Ideal) c i A X) := by
  unfold runB.sl.H22_16
  exact inv_step _ _ _ 15 _ _ _ (invB_15 c i A X TT RR hT hR) fun b ρ l => (P_h15 _ _ _ _ b ρ l).trans (hmv_eq (rd_h 15 (invB_15 c i A X TT RR hT hR) b ρ l) (rd_tab 15 hT _ l) (lhB c i A X TT hT b ρ) (rd_hi 14 15 rfl hR l))

theorem invB_17 : Inv A.a22.view (hmB c i A X TT RR) (hbB c i A X TT) 17 (runB.sl.H22_17 (F := Ideal) c i A X) := by
  unfold runB.sl.H22_17
  exact inv_step _ _ _ 16 _ _ _ (invB_16 c i A X TT RR hT hR) fun b ρ l => (P_h16 _ _ _ _ b ρ l).trans (hmv_eq (rd_h 16 (invB_16 c i A X TT RR hT hR) b ρ l) (rd_tab 16 hT _ l) (lhB c i A X TT hT b ρ) (rd_lo 16 hR l))

theorem invB_18 : Inv A.a22.view (hmB c i A X TT RR) (hbB c i A X TT) 18 (runB.sl.H22_18 (F := Ideal) c i A X) := by
  unfold runB.sl.H22_18
  exact inv_step _ _ _ 17 _ _ _ (invB_17 c i A X TT RR hT hR) fun b ρ l => (P_h17 _ _ _ _ b ρ l).trans (hmv_eq (rd_h 17 (invB_17 c i A X TT RR hT hR) b ρ l) (rd_tab 17 hT _ l) (lhB c i A X TT hT b ρ) (rd_hi 16 17 rfl hR l))

theorem invB_19 : Inv A.a22.view (hmB c i A X TT RR) (hbB c i A X TT) 19 (runB.sl.H22_19 (F := Ideal) c i A X) := by
  unfold runB.sl.H22_19
  exact inv_step _ _ _ 18 _ _ _ (invB_18 c i A X TT RR hT hR) fun b ρ l => (P_h18 _ _ _ _ b ρ l).trans (hmv_eq (rd_h 18 (invB_18 c i A X TT RR hT hR) b ρ l) (rd_tab 18 hT _ l) (lhB c i A X TT hT b ρ) (rd_lo 18 hR l))

theorem invB_20 : Inv A.a22.view (hmB c i A X TT RR) (hbB c i A X TT) 20 (runB.sl.H22_20 (F := Ideal) c i A X) := by
  unfold runB.sl.H22_20
  exact inv_step _ _ _ 19 _ _ _ (invB_19 c i A X TT RR hT hR) fun b ρ l => (P_h19 _ _ _ _ b ρ l).trans (hmv_eq (rd_h 19 (invB_19 c i A X TT RR hT hR) b ρ l) (rd_tab 19 hT _ l) (lhB c i A X TT hT b ρ) (rd_hi 18 19 rfl hR l))

theorem invB_21 : Inv A.a22.view (hmB c i A X TT RR) (hbB c i A X TT) 21 (runB.sl.H22_21 (F := Ideal) c i A X) := by
  unfold runB.sl.H22_21
  exact inv_step _ _ _ 20 _ _ _ (invB_20 c i A X TT RR hT hR) fun b ρ l => (P_h20 _ _ _ _ b ρ l).trans (hmv_eq (rd_h 20 (invB_20 c i A X TT RR hT hR) b ρ l) (rd_tab 20 hT _ l) (lhB c i A X TT hT b ρ) (rd_lo 20 hR l))

theorem invB_22 : Inv A.a22.view (hmB c i A X TT RR) (hbB c i A X TT) 22 (runB.sl.H22_22 (F := Ideal) c i A X) := by
  unfold runB.sl.H22_22
  exact inv_step _ _ _ 21 _ _ _ (invB_21 c i A X TT RR hT hR) fun b ρ l => (P_h21 _ _ _ _ b ρ l).trans (hmv_eq (rd_h 21 (invB_21 c i A X TT RR hT hR) b ρ l) (rd_tab 21 hT _ l) (lhB c i A X TT hT b ρ) (rd_hi 20 21 rfl hR l))

theorem invB_23 : Inv A.a22.view (hmB c i A X TT RR) (hbB c i A X TT) 23 (runB.sl.H22_23 (F := Ideal) c i A X) := by
  unfold runB.sl.H22_23
  exact inv_step _ _ _ 22 _ _ _ (invB_22 c i A X TT RR hT hR) fun b ρ l => (P_h22 _ _ _ _ b ρ l).trans (hmv_eq (rd_h 22 (invB_22 c i A X TT RR hT hR) b ρ l) (rd_tab 22 hT _ l) (lhB c i A X TT hT b ρ) (rd_lo 22 hR l))

theorem invB_24 : Inv A.a22.view (hmB c i A X TT RR) (hbB c i A X TT) 24 (runB.sl.H22_24 (F := Ideal) c i A X) := by
  unfold runB.sl.H22_24
  exact inv_step _ _ _ 23 _ _ _ (invB_23 c i A X TT RR hT hR) fun b ρ l => (P_h23 _ _ _ _ b ρ l).trans (hmv_eq (rd_h 23 (invB_23 c i A X TT RR hT hR) b ρ l) (rd_tab 23 hT _ l) (lhB c i A X TT hT b ρ) (rd_hi 22 23 rfl hR l))

theorem invB_25 : Inv A.a22.view (hmB c i A X TT RR) (hbB c i A X TT) 25 (runB.sl.H22_25 (F := Ideal) c i A X) := by
  unfold runB.sl.H22_25
  exact inv_step _ _ _ 24 _ _ _ (invB_24 c i A X TT RR hT hR) fun b ρ l => (P_h24 _ _ _ _ b ρ l).trans (hmv_eq (rd_h 24 (invB_24 c i A X TT RR hT hR) b ρ l) (rd_tab 24 hT _ l) (lhB c i A X TT hT b ρ) (rd_lo 24 hR l))

theorem invB_26 : Inv A.a22.view (hmB c i A X TT RR) (hbB c i A X TT) 26 (runB.sl.H22_26 (F := Ideal) c i A X) := by
  unfold runB.sl.H22_26
  exact inv_step _ _ _ 25 _ _ _ (invB_25 c i A X TT RR hT hR) fun b ρ l => (P_h25 _ _ _ _ b ρ l).trans (hmv_eq (rd_h 25 (invB_25 c i A X TT RR hT hR) b ρ l) (rd_tab 25 hT _ l) (lhB c i A X TT hT b ρ) (rd_hi 24 25 rfl hR l))

theorem invB_27 : Inv A.a22.view (hmB c i A X TT RR) (hbB c i A X TT) 27 (runB.sl.H22_27 (F := Ideal) c i A X) := by
  unfold runB.sl.H22_27
  exact inv_step _ _ _ 26 _ _ _ (invB_26 c i A X TT RR hT hR) fun b ρ l => (P_h26 _ _ _ _ b ρ l).trans (hmv_eq (rd_h 26 (invB_26 c i A X TT RR hT hR) b ρ l) (rd_tab 26 hT _ l) (lhB c i A X TT hT b ρ) (rd_lo 26 hR l))

theorem invB_28 : Inv A.a22.view (hmB c i A X TT RR) (hbB c i A X TT) 28 (runB.sl.H22_28 (F := Ideal) c i A X) := by
  unfold runB.sl.H22_28
  exact inv_step _ _ _ 27 _ _ _ (invB_27 c i A X TT RR hT hR) fun b ρ l => (P_h27 _ _ _ _ b ρ l).trans (hmv_eq (rd_h 27 (invB_27 c i A X TT RR hT hR) b ρ l) (rd_tab 27 hT _ l) (lhB c i A X TT hT b ρ) (rd_hi 26 27 rfl hR l))

theorem invB_29 : Inv A.a22.view (hmB c i A X TT RR) (hbB c i A X TT) 29 (runB.sl.H22_29 (F := Ideal) c i A X) := by
  unfold runB.sl.H22_29
  exact inv_step _ _ _ 28 _ _ _ (invB_28 c i A X TT RR hT hR) fun b ρ l => (P_h28 _ _ _ _ b ρ l).trans (hmv_eq (rd_h 28 (invB_28 c i A X TT RR hT hR) b ρ l) (rd_tab 28 hT _ l) (lhB c i A X TT hT b ρ) (rd_lo 28 hR l))

theorem invB_30 : Inv A.a22.view (hmB c i A X TT RR) (hbB c i A X TT) 30 (runB.sl.H22_30 (F := Ideal) c i A X) := by
  unfold runB.sl.H22_30
  exact inv_step _ _ _ 29 _ _ _ (invB_29 c i A X TT RR hT hR) fun b ρ l => (P_h29 _ _ _ _ b ρ l).trans (hmv_eq (rd_h 29 (invB_29 c i A X TT RR hT hR) b ρ l) (rd_tab 29 hT _ l) (lhB c i A X TT hT b ρ) (rd_hi 28 29 rfl hR l))

theorem invB_31 : Inv A.a22.view (hmB c i A X TT RR) (hbB c i A X TT) 31 (runB.sl.H22_31 (F := Ideal) c i A X) := by
  unfold runB.sl.H22_31
  exact inv_step _ _ _ 30 _ _ _ (invB_30 c i A X TT RR hT hR) fun b ρ l => (P_h30 _ _ _ _ b ρ l).trans (hmv_eq (rd_h 30 (invB_30 c i A X TT RR hT hR) b ρ l) (rd_tab 30 hT _ l) (lhB c i A X TT hT b ρ) (rd_lo 30 hR l))

theorem invB_32 : Inv A.a22.view (hmB c i A X TT RR) (hbB c i A X TT) 32 (runB.sl.H22_32 (F := Ideal) c i A X) := by
  unfold runB.sl.H22_32
  exact inv_step _ _ _ 31 _ _ _ (invB_31 c i A X TT RR hT hR) fun b ρ l => (P_h31 _ _ _ _ b ρ l).trans (hmv_eq (rd_h 31 (invB_31 c i A X TT RR hT hR) b ρ l) (rd_tab 31 hT _ l) (lhB c i A X TT hT b ρ) (rd_hi 30 31 rfl hR l))

theorem invB_33 : Inv A.a22.view (hmB c i A X TT RR) (hbB c i A X TT) 33 (runB.sl.H22_33 (F := Ideal) c i A X) := by
  unfold runB.sl.H22_33
  exact inv_step _ _ _ 32 _ _ _ (invB_32 c i A X TT RR hT hR) fun b ρ l => (P_h32 _ _ _ _ b ρ l).trans (hmv_eq (rd_h 32 (invB_32 c i A X TT RR hT hR) b ρ l) (rd_tab 32 hT _ l) (lhB c i A X TT hT b ρ) (rd_lo 32 hR l))

theorem invB_34 : Inv A.a22.view (hmB c i A X TT RR) (hbB c i A X TT) 34 (runB.sl.H22_34 (F := Ideal) c i A X) := by
  unfold runB.sl.H22_34
  exact inv_step _ _ _ 33 _ _ _ (invB_33 c i A X TT RR hT hR) fun b ρ l => (P_h33 _ _ _ _ b ρ l).trans (hmv_eq (rd_h 33 (invB_33 c i A X TT RR hT hR) b ρ l) (rd_tab 33 hT _ l) (lhB c i A X TT hT b ρ) (rd_hi 32 33 rfl hR l))

theorem invB_35 : Inv A.a22.view (hmB c i A X TT RR) (hbB c i A X TT) 35 (runB.sl.H22_35 (F := Ideal) c i A X) := by
  unfold runB.sl.H22_35
  exact inv_step _ _ _ 34 _ _ _ (invB_34 c i A X TT RR hT hR) fun b ρ l => (P_h34 _ _ _ _ b ρ l).trans (hmv_eq (rd_h 34 (invB_34 c i A X TT RR hT hR) b ρ l) (rd_tab 34 hT _ l) (lhB c i A X TT hT b ρ) (rd_lo 34 hR l))

theorem invB_36 : Inv A.a22.view (hmB c i A X TT RR) (hbB c i A X TT) 36 (runB.sl.H22_36 (F := Ideal) c i A X) := by
  unfold runB.sl.H22_36
  exact inv_step _ _ _ 35 _ _ _ (invB_35 c i A X TT RR hT hR) fun b ρ l => (P_h35 _ _ _ _ b ρ l).trans (hmv_eq (rd_h 35 (invB_35 c i A X TT RR hT hR) b ρ l) (rd_tab 35 hT _ l) (lhB c i A X TT hT b ρ) (rd_hi 34 35 rfl hR l))

theorem invB_37 : Inv A.a22.view (hmB c i A X TT RR) (hbB c i A X TT) 37 (runB.sl.H22_37 (F := Ideal) c i A X) := by
  unfold runB.sl.H22_37
  exact inv_step _ _ _ 36 _ _ _ (invB_36 c i A X TT RR hT hR) fun b ρ l => (P_h36 _ _ _ _ b ρ l).trans (hmv_eq (rd_h 36 (invB_36 c i A X TT RR hT hR) b ρ l) (rd_tab 36 hT _ l) (lhB c i A X TT hT b ρ) (rd_lo 36 hR l))

theorem invB_38 : Inv A.a22.view (hmB c i A X TT RR) (hbB c i A X TT) 38 (runB.sl.H22_38 (F := Ideal) c i A X) := by
  unfold runB.sl.H22_38
  exact inv_step _ _ _ 37 _ _ _ (invB_37 c i A X TT RR hT hR) fun b ρ l => (P_h37 _ _ _ _ b ρ l).trans (hmv_eq (rd_h 37 (invB_37 c i A X TT RR hT hR) b ρ l) (rd_tab 37 hT _ l) (lhB c i A X TT hT b ρ) (rd_hi 36 37 rfl hR l))

theorem invB_39 : Inv A.a22.view (hmB c i A X TT RR) (hbB c i A X TT) 39 (runB.sl.H22_39 (F := Ideal) c i A X) := by
  unfold runB.sl.H22_39
  exact inv_step _ _ _ 38 _ _ _ (invB_38 c i A X TT RR hT hR) fun b ρ l => (P_h38 _ _ _ _ b ρ l).trans (hmv_eq (rd_h 38 (invB_38 c i A X TT RR hT hR) b ρ l) (rd_tab 38 hT _ l) (lhB c i A X TT hT b ρ) (rd_lo 38 hR l))

theorem invB_40 : Inv A.a22.view (hmB c i A X TT RR) (hbB c i A X TT) 40 (runB.sl.H22_40 (F := Ideal) c i A X) := by
  unfold runB.sl.H22_40
  exact inv_step _ _ _ 39 _ _ _ (invB_39 c i A X TT RR hT hR) fun b ρ l => (P_h39 _ _ _ _ b ρ l).trans (hmv_eq (rd_h 39 (invB_39 c i A X TT RR hT hR) b ρ l) (rd_tab 39 hT _ l) (lhB c i A X TT hT b ρ) (rd_hi 38 39 rfl hR l))

theorem amB_0 (b : Fin 2) (ρ l : Fin 128) : (runB.sl.r_8 (F := Ideal) c i A X) (ix2 (row b ρ) l) = amx (fun g => hmB c i A X TT RR b ρ (col g l)) 2 := by
  unfold runB.sl.r_8
  exact (P_am0 _ _ _ _ _ _ b ρ l).trans ((congrArg₂ max ((congrArg₂ max (rfl : (0 : EReal) = amx (fun g => hmB c i A X TT RR b ρ (col g l)) 0) (congrArg (FloatOps.absf (F := Ideal) (φ := .f32)) (hmv_eq (rd_h 0 (baseB c i A X TT RR hT) b ρ l) (rd_tab 0 hT _ l) (lhB c i A X TT hT b ρ) (rd_lo 0 hR l)))).trans (amx_succ (fun g => hmB c i A X TT RR b ρ (col g l)) 0 (Nat.le_of_ble_eq_true rfl))) (congrArg (FloatOps.absf (F := Ideal) (φ := .f32)) (hmv_eq (rd_h 1 (invB_1 c i A X TT RR hT hR) b ρ l) (rd_tab 1 hT _ l) (lhB c i A X TT hT b ρ) (rd_hi 0 1 rfl hR l)))).trans (amx_succ (fun g => hmB c i A X TT RR b ρ (col g l)) 1 (Nat.le_of_ble_eq_true rfl)))

theorem amB_1 (b : Fin 2) (ρ l : Fin 128) : (runB.sl.r_10 (F := Ideal) c i A X) (ix2 (row b ρ) l) = amx (fun g => hmB c i A X TT RR b ρ (col g l)) 4 := by
  unfold runB.sl.r_10
  exact (P_am1 _ _ _ _ _ _ _ b ρ l).trans ((congrArg₂ max ((congrArg₂ max (amB_0 c i A X TT RR hT hR b ρ l) (congrArg (FloatOps.absf (F := Ideal) (φ := .f32)) (hmv_eq (rd_h 2 (invB_2 c i A X TT RR hT hR) b ρ l) (rd_tab 2 hT _ l) (lhB c i A X TT hT b ρ) (rd_lo 2 hR l)))).trans (amx_succ (fun g => hmB c i A X TT RR b ρ (col g l)) 2 (Nat.le_of_ble_eq_true rfl))) (congrArg (FloatOps.absf (F := Ideal) (φ := .f32)) (hmv_eq (rd_h 3 (invB_3 c i A X TT RR hT hR) b ρ l) (rd_tab 3 hT _ l) (lhB c i A X TT hT b ρ) (rd_hi 2 3 rfl hR l)))).trans (amx_succ (fun g => hmB c i A X TT RR b ρ (col g l)) 3 (Nat.le_of_ble_eq_true rfl)))

theorem amB_2 (b : Fin 2) (ρ l : Fin 128) : (runB.sl.r_12 (F := Ideal) c i A X) (ix2 (row b ρ) l) = amx (fun g => hmB c i A X TT RR b ρ (col g l)) 6 := by
  unfold runB.sl.r_12
  exact (P_am2 _ _ _ _ _ _ _ b ρ l).trans ((congrArg₂ max ((congrArg₂ max (amB_1 c i A X TT RR hT hR b ρ l) (congrArg (FloatOps.absf (F := Ideal) (φ := .f32)) (hmv_eq (rd_h 4 (invB_4 c i A X TT RR hT hR) b ρ l) (rd_tab 4 hT _ l) (lhB c i A X TT hT b ρ) (rd_lo 4 hR l)))).trans (amx_succ (fun g => hmB c i A X TT RR b ρ (col g l)) 4 (Nat.le_of_ble_eq_true rfl))) (congrArg (FloatOps.absf (F := Ideal) (φ := .f32)) (hmv_eq (rd_h 5 (invB_5 c i A X TT RR hT hR) b ρ l) (rd_tab 5 hT _ l) (lhB c i A X TT hT b ρ) (rd_hi 4 5 rfl hR l)))).trans (amx_succ (fun g => hmB c i A X TT RR b ρ (col g l)) 5 (Nat.le_of_ble_eq_true rfl)))

theorem amB_3 (b : Fin 2) (ρ l : Fin 128) : (runB.sl.r_15 (F := Ideal) c i A X) (ix2 (row b ρ) l) = amx (fun g => hmB c i A X TT RR b ρ (col g l)) 8 := by
  unfold runB.sl.r_15
  exact (P_am3 _ _ _ _ _ _ _ b ρ l).trans ((congrArg₂ max ((congrArg₂ max (amB_2 c i A X TT RR hT hR b ρ l) (congrArg (FloatOps.absf (F := Ideal) (φ := .f32)) (hmv_eq (rd_h 6 (invB_6 c i A X TT RR hT hR) b ρ l) (rd_tab 6 hT _ l) (lhB c i A X TT hT b ρ) (rd_lo 6 hR l)))).trans (amx_succ (fun g => hmB c i A X TT RR b ρ (col g l)) 6 (Nat.le_of_ble_eq_true rfl))) (congrArg (FloatOps.absf (F := Ideal) (φ := .f32)) (hmv_eq (rd_h 7 (invB_7 c i A X TT RR hT hR) b ρ l) (rd_tab 7 hT _ l) (lhB c i A X TT hT b ρ) (rd_hi 6 7 rfl hR l)))).trans (amx_succ (fun g => hmB c i A X TT RR b ρ (col g l)) 7 (Nat.le_of_ble_eq_true rfl)))

theorem amB_4 (b : Fin 2) (ρ l : Fin 128) : (runB.sl.r_18 (F := Ideal) c i A X) (ix2 (row b ρ) l) = amx (fun g => hmB c i A X TT RR b ρ (col g l)) 10 := by
  unfold runB.sl.r_18
  exact (P_am4 _ _ _ _ _ _ _ b ρ l).trans ((congrArg₂ max ((congrArg₂ max (amB_3 c i A X TT RR hT hR b ρ l) (congrArg (FloatOps.absf (F := Ideal) (φ := .f32)) (hmv_eq (rd_h 8 (invB_8 c i A X TT RR hT hR) b ρ l) (rd_tab 8 hT _ l) (lhB c i A X TT hT b ρ) (rd_lo 8 hR l)))).trans (amx_succ (fun g => hmB c i A X TT RR b ρ (col g l)) 8 (Nat.le_of_ble_eq_true rfl))) (congrArg (FloatOps.absf (F := Ideal) (φ := .f32)) (hmv_eq (rd_h 9 (invB_9 c i A X TT RR hT hR) b ρ l) (rd_tab 9 hT _ l) (lhB c i A X TT hT b ρ) (rd_hi 8 9 rfl hR l)))).trans (amx_succ (fun g => hmB c i A X TT RR b ρ (col g l)) 9 (Nat.le_of_ble_eq_true rfl)))

theorem amB_5 (b : Fin 2) (ρ l : Fin 128) : (runB.sl.r_22 (F := Ideal) c i A X) (ix2 (row b ρ) l) = amx (fun g => hmB c i A X TT RR b ρ (col g l)) 12 := by
  unfold runB.sl.r_22
  exact (P_am5 _ _ _ _ _ _ _ b ρ l).trans ((congrArg₂ max ((congrArg₂ max (amB_4 c i A X TT RR hT hR b ρ l) (congrArg (FloatOps.absf (F := Ideal) (φ := .f32)) (hmv_eq (rd_h 10 (invB_10 c i A X TT RR hT hR) b ρ l) (rd_tab 10 hT _ l) (lhB c i A X TT hT b ρ) (rd_lo 10 hR l)))).trans (amx_succ (fun g => hmB c i A X TT RR b ρ (col g l)) 10 (Nat.le_of_ble_eq_true rfl))) (congrArg (FloatOps.absf (F := Ideal) (φ := .f32)) (hmv_eq (rd_h 11 (invB_11 c i A X TT RR hT hR) b ρ l) (rd_tab 11 hT _ l) (lhB c i A X TT hT b ρ) (rd_hi 10 11 rfl hR l)))).trans (amx_succ (fun g => hmB c i A X TT RR b ρ (col g l)) 11 (Nat.le_of_ble_eq_true rfl)))

theorem amB_6 (b : Fin 2) (ρ l : Fin 128) : (runB.sl.r_26 (F := Ideal) c i A X) (ix2 (row b ρ) l) = amx (fun g => hmB c i A X TT RR b ρ (col g l)) 14 := by
  unfold runB.sl.r_26
  exact (P_am6 _ _ _ _ _ _ _ b ρ l).trans ((congrArg₂ max ((congrArg₂ max (amB_5 c i A X TT RR hT hR b ρ l) (congrArg (FloatOps.absf (F := Ideal) (φ := .f32)) (hmv_eq (rd_h 12 (invB_12 c i A X TT RR hT hR) b ρ l) (rd_tab 12 hT _ l) (lhB c i A X TT hT b ρ) (rd_lo 12 hR l)))).trans (amx_succ (fun g => hmB c i A X TT RR b ρ (col g l)) 12 (Nat.le_of_ble_eq_true rfl))) (congrArg (FloatOps.absf (F := Ideal) (φ := .f32)) (hmv_eq (rd_h 13 (invB_13 c i A X TT RR hT hR) b ρ l) (rd_tab 13 hT _ l) (lhB c i A X TT hT b ρ) (rd_hi 12 13 rfl hR l)))).trans (amx_succ (fun g => hmB c i A X TT RR b ρ (col g l)) 13 (Nat.le_of_ble_eq_true rfl)))

theorem amB_7 (b : Fin 2) (ρ l : Fin 128) : (runB.sl.r_30 (F := Ideal) c i A X) (ix2 (row b ρ) l) = amx (fun g => hmB c i A X TT RR b ρ (col g l)) 16 := by
  unfold runB.sl.r_30
  exact (P_am7 _ _ _ _ _ _ _ b ρ l).trans ((congrArg₂ max ((congrArg₂ max (amB_6 c i A X TT RR hT hR b ρ l) (congrArg (FloatOps.absf (F := Ideal) (φ := .f32)) (hmv_eq (rd_h 14 (invB_14 c i A X TT RR hT hR) b ρ l) (rd_tab 14 hT _ l) (lhB c i A X TT hT b ρ) (rd_lo 14 hR l)))).trans (amx_succ (fun g => hmB c i A X TT RR b ρ (col g l)) 14 (Nat.le_of_ble_eq_true rfl))) (congrArg (FloatOps.absf (F := Ideal) (φ := .f32)) (hmv_eq (rd_h 15 (invB_15 c i A X TT RR hT hR) b ρ l) (rd_tab 15 hT _ l) (lhB c i A X TT hT b ρ) (rd_hi 14 15 rfl hR l)))).trans (amx_succ (fun g => hmB c i A X TT RR b ρ (col g l)) 15 (Nat.le_of_ble_eq_true rfl)))

theorem amB_8 (b : Fin 2) (ρ l : Fin 128) : (runB.sl.r_35 (F := Ideal) c i A X) (ix2 (row b ρ) l) = amx (fun g => hmB c i A X TT RR b ρ (col g l)) 18 := by
  unfold runB.sl.r_35
  exact (P_am8 _ _ _ _ _ _ _ b ρ l).trans ((congrArg₂ max ((congrArg₂ max (amB_7 c i A X TT RR hT hR b ρ l) (congrArg (FloatOps.absf (F := Ideal) (φ := .f32)) (hmv_eq (rd_h 16 (invB_16 c i A X TT RR hT hR) b ρ l) (rd_tab 16 hT _ l) (lhB c i A X TT hT b ρ) (rd_lo 16 hR l)))).trans (amx_succ (fun g => hmB c i A X TT RR b ρ (col g l)) 16 (Nat.le_of_ble_eq_true rfl))) (congrArg (FloatOps.absf (F := Ideal) (φ := .f32)) (hmv_eq (rd_h 17 (invB_17 c i A X TT RR hT hR) b ρ l) (rd_tab 17 hT _ l) (lhB c i A X TT hT b ρ) (rd_hi 16 17 rfl hR l)))).trans (amx_succ (fun g => hmB c i A X TT RR b ρ (col g l)) 17 (Nat.le_of_ble_eq_true rfl)))

theorem amB_9 (b : Fin 2) (ρ l : Fin 128) : (runB.sl.r_39 (F := Ideal) c i A X) (ix2 (row b ρ) l) = amx (fun g => hmB c i A X TT RR b ρ (col g l)) 21 := by
  unfold runB.sl.r_39
  exact (P_am9 _ _ _ _ _ _ _ _ _ _ b ρ l).trans ((congrArg₂ max ((congrArg₂ max ((congrArg₂ max (amB_8 c i A X TT RR hT hR b ρ l) (congrArg (FloatOps.absf (F := Ideal) (φ := .f32)) (hmv_eq (rd_h 18 (invB_18 c i A X TT RR hT hR) b ρ l) (rd_tab 18 hT _ l) (lhB c i A X TT hT b ρ) (rd_lo 18 hR l)))).trans (amx_succ (fun g => hmB c i A X TT RR b ρ (col g l)) 18 (Nat.le_of_ble_eq_true rfl))) (congrArg (FloatOps.absf (F := Ideal) (φ := .f32)) (hmv_eq (rd_h 19 (invB_19 c i A X TT RR hT hR) b ρ l) (rd_tab 19 hT _ l) (lhB c i A X TT hT b ρ) (rd_hi 18 19 rfl hR l)))).trans (amx_succ (fun g => hmB c i A X TT RR b ρ (col g l)) 19 (Nat.le_of_ble_eq_true rfl))) (congrArg (FloatOps.absf (F := Ideal) (φ := .f32)) (hmv_eq (rd_h 20 (invB_20 c i A X TT RR hT hR) b ρ l) (rd_tab 20 hT _ l) (lhB c i A X TT hT b ρ) (rd_lo 20 hR l)))).trans (amx_succ (fun g => hmB c i A X TT RR b ρ (col g l)) 20 (Nat.le_of_ble_eq_true rfl)))

theorem amB_10 (b : Fin 2) (ρ l : Fin 128) : (runB.sl.r_41 (F := Ideal) c i A X) (ix2 (row b ρ) l) = amx (fun g => hmB c i A X TT RR b ρ (col g l)) 23 := by
  unfold runB.sl.r_41
  exact (P_am10 _ _ _ _ _ _ _ _ b ρ l).trans ((congrArg₂ max ((congrArg₂ max (amB_9 c i A X TT RR hT hR b ρ l) (congrArg (FloatOps.absf (F := Ideal) (φ := .f32)) (hmv_eq (rd_h 21 (invB_21 c i A X TT RR hT hR) b ρ l) (rd_tab 21 hT _ l) (lhB c i A X TT hT b ρ) (rd_hi 20 21 rfl hR l)))).trans (amx_succ (fun g => hmB c i A X TT RR b ρ (col g l)) 21 (Nat.le_of_ble_eq_true rfl))) (congrArg (FloatOps.absf (F := Ideal) (φ := .f32)) (hmv_eq (rd_h 22 (invB_22 c i A X TT RR hT hR) b ρ l) (rd_tab 22 hT _ l) (lhB c i A X TT hT b ρ) (rd_lo 22 hR l)))).trans (amx_succ (fun g => hmB c i A X TT RR b ρ (col g l)) 22 (Nat.le_of_ble_eq_true rfl)))

theorem amB_11 (b : Fin 2) (ρ l : Fin 128) : (runB.sl.r_44 (F := Ideal) c i A X) (ix2 (row b ρ) l) = amx (fun g => hmB c i A X TT RR b ρ (col g l)) 25 := by
  unfold runB.sl.r_44
  exact (P_am11 _ _ _ _ _ _ _ _ b ρ l).trans ((congrArg₂ max ((congrArg₂ max (amB_10 c i A X TT RR hT hR b ρ l) (congrArg (FloatOps.absf (F := Ideal) (φ := .f32)) (hmv_eq (rd_h 23 (invB_23 c i A X TT RR hT hR) b ρ l) (rd_tab 23 hT _ l) (lhB c i A X TT hT b ρ) (rd_hi 22 23 rfl hR l)))).trans (amx_succ (fun g => hmB c i A X TT RR b ρ (col g l)) 23 (Nat.le_of_ble_eq_true rfl))) (congrArg (FloatOps.absf (F := Ideal) (φ := .f32)) (hmv_eq (rd_h 24 (invB_24 c i A X TT RR hT hR) b ρ l) (rd_tab 24 hT _ l) (lhB c i A X TT hT b ρ) (rd_lo 24 hR l)))).trans (amx_succ (fun g => hmB c i A X TT RR b ρ (col g l)) 24 (Nat.le_of_ble_eq_true rfl)))

theorem amB_12 (b : Fin 2) (ρ l : Fin 128) : (runB.sl.r_47 (F := Ideal) c i A X) (ix2 (row b ρ) l) = amx (fun g => hmB c i A X TT RR b ρ (col g l)) 27 := by
  unfold runB.sl.r_47
  exact (P_am12 _ _ _ _ _ _ _ _ b ρ l).trans ((congrArg₂ max ((congrArg₂ max (amB_11 c i A X TT RR hT hR b ρ l) (congrArg (FloatOps.absf (F := Ideal) (φ := .f32)) (hmv_eq (rd_h 25 (invB_25 c i A X TT RR hT hR) b ρ l) (rd_tab 25 hT _ l) (lhB c i A X TT hT b ρ) (rd_hi 24 25 rfl hR l)))).trans (amx_succ (fun g => hmB c i A X TT RR b ρ (col g l)) 25 (Nat.le_of_ble_eq_true rfl))) (congrArg (FloatOps.absf (F := Ideal) (φ := .f32)) (hmv_eq (rd_h 26 (invB_26 c i A X TT RR hT hR) b ρ l) (rd_tab 26 hT _ l) (lhB c i A X TT hT b ρ) (rd_lo 26 hR l)))).trans (amx_succ (fun g => hmB c i A X TT RR b ρ (col g l)) 26 (Nat.le_of_ble_eq_true rfl)))

theorem amB_13 (b : Fin 2) (ρ l : Fin 128) : (runB.sl.r_51 (F := Ideal) c i A X) (ix2 (row b ρ) l) = amx (fun g => hmB c i A X TT RR b ρ (col g l)) 29 := by
  unfold runB.sl.r_51
  exact (P_am13 _ _ _ _ _ _ _ _ b ρ l).trans ((congrArg₂ max ((congrArg₂ max (amB_12 c i A X TT RR hT hR b ρ l) (congrArg (FloatOps.absf (F := Ideal) (φ := .f32)) (hmv_eq (rd_h 27 (invB_27 c i A X TT RR hT hR) b ρ l) (rd_tab 27 hT _ l) (lhB c i A X TT hT b ρ) (rd_hi 26 27 rfl hR l)))).trans (amx_succ (fun g => hmB c i A X TT RR b ρ (col g l)) 27 (Nat.le_of_ble_eq_true rfl))) (congrArg (FloatOps.absf (F := Ideal) (φ := .f32)) (hmv_eq (rd_h 28 (invB_28 c i A X TT RR hT hR) b ρ l) (rd_tab 28 hT _ l) (lhB c i A X TT hT b ρ) (rd_lo 28 hR l)))).trans (amx_succ (fun g => hmB c i A X TT RR b ρ (col g l)) 28 (Nat.le_of_ble_eq_true rfl)))

theorem amB_14 (b : Fin 2) (ρ l : Fin 128) : (runB.sl.r_53 (F := Ideal) c i A X) (ix2 (row b ρ) l) = amx (fun g => hmB c i A X TT RR b ρ (col g l)) 31 := by
  unfold runB.sl.r_53
  exact (P_am14 _ _ _ _ _ _ _ _ b ρ l).trans ((congrArg₂ max ((congrArg₂ max (amB_13 c i A X TT RR hT hR b ρ l) (congrArg (FloatOps.absf (F := Ideal) (φ := .f32)) (hmv_eq (rd_h 29 (invB_29 c i A X TT RR hT hR) b ρ l) (rd_tab 29 hT _ l) (lhB c i A X TT hT b ρ) (rd_hi 28 29 rfl hR l)))).trans (amx_succ (fun g => hmB c i A X TT RR b ρ (col g l)) 29 (Nat.le_of_ble_eq_true rfl))) (congrArg (FloatOps.absf (F := Ideal) (φ := .f32)) (hmv_eq (rd_h 30 (invB_30 c i A X TT RR hT hR) b ρ l) (rd_tab 30 hT _ l) (lhB c i A X TT hT b ρ) (rd_lo 30 hR l)))).trans (amx_succ (fun g => hmB c i A X TT RR b ρ (col g l)) 30 (Nat.le_of_ble_eq_true rfl)))

theorem amB_15 (b : Fin 2) (ρ l : Fin 128) : (runB.sl.r_55 (F := Ideal) c i A X) (ix2 (row b ρ) l) = amx (fun g => hmB c i A X TT RR b ρ (col g l)) 33 := by
  unfold runB.sl.r_55
  exact (P_am15 _ _ _ _ _ _ _ _ b ρ l).trans ((congrArg₂ max ((congrArg₂ max (amB_14 c i A X TT RR hT hR b ρ l) (congrArg (FloatOps.absf (F := Ideal) (φ := .f32)) (hmv_eq (rd_h 31 (invB_31 c i A X TT RR hT hR) b ρ l) (rd_tab 31 hT _ l) (lhB c i A X TT hT b ρ) (rd_hi 30 31 rfl hR l)))).trans (amx_succ (fun g => hmB c i A X TT RR b ρ (col g l)) 31 (Nat.le_of_ble_eq_true rfl))) (congrArg (FloatOps.absf (F := Ideal) (φ := .f32)) (hmv_eq (rd_h 32 (invB_32 c i A X TT RR hT hR) b ρ l) (rd_tab 32 hT _ l) (lhB c i A X TT hT b ρ) (rd_lo 32 hR l)))).trans (amx_succ (fun g => hmB c i A X TT RR b ρ (col g l)) 32 (Nat.le_of_ble_eq_true rfl)))

theorem amB_16 (b : Fin 2) (ρ l : Fin 128) : (runB.sl.r_58 (F := Ideal) c i A X) (ix2 (row b ρ) l) = amx (fun g => hmB c i A X TT RR b ρ (col g l)) 35 := by
  unfold runB.sl.r_58
  exact (P_am16 _ _ _ _ _ _ _ _ b ρ l).trans ((congrArg₂ max ((congrArg₂ max (amB_15 c i A X TT RR hT hR b ρ l) (congrArg (FloatOps.absf (F := Ideal) (φ := .f32)) (hmv_eq (rd_h 33 (invB_33 c i A X TT RR hT hR) b ρ l) (rd_tab 33 hT _ l) (lhB c i A X TT hT b ρ) (rd_hi 32 33 rfl hR l)))).trans (amx_succ (fun g => hmB c i A X TT RR b ρ (col g l)) 33 (Nat.le_of_ble_eq_true rfl))) (congrArg (FloatOps.absf (F := Ideal) (φ := .f32)) (hmv_eq (rd_h 34 (invB_34 c i A X TT RR hT hR) b ρ l) (rd_tab 34 hT _ l) (lhB c i A X TT hT b ρ) (rd_lo 34 hR l)))).trans (amx_succ (fun g => hmB c i A X TT RR b ρ (col g l)) 34 (Nat.le_of_ble_eq_true rfl)))

theorem amB_17 (b : Fin 2) (ρ l : Fin 128) : (runB.sl.r_61 (F := Ideal) c i A X) (ix2 (row b ρ) l) = amx (fun g => hmB c i A X TT RR b ρ (col g l)) 37 := by
  unfold runB.sl.r_61
  exact (P_am17 _ _ _ _ _ _ _ _ b ρ l).trans ((congrArg₂ max ((congrArg₂ max (amB_16 c i A X TT RR hT hR b ρ l) (congrArg (FloatOps.absf (F := Ideal) (φ := .f32)) (hmv_eq (rd_h 35 (invB_35 c i A X TT RR hT hR) b ρ l) (rd_tab 35 hT _ l) (lhB c i A X TT hT b ρ) (rd_hi 34 35 rfl hR l)))).trans (amx_succ (fun g => hmB c i A X TT RR b ρ (col g l)) 35 (Nat.le_of_ble_eq_true rfl))) (congrArg (FloatOps.absf (F := Ideal) (φ := .f32)) (hmv_eq (rd_h 36 (invB_36 c i A X TT RR hT hR) b ρ l) (rd_tab 36 hT _ l) (lhB c i A X TT hT b ρ) (rd_lo 36 hR l)))).trans (amx_succ (fun g => hmB c i A X TT RR b ρ (col g l)) 36 (Nat.le_of_ble_eq_true rfl)))

theorem amB_18 (b : Fin 2) (ρ l : Fin 128) : (runB.sl.r_63 (F := Ideal) c i A X) (ix2 l (row b ρ)) = amx (fun g => hmB c i A X TT RR b ρ (col g l)) 40 := by
  unfold runB.sl.r_63
  exact (P_am18 _ _ _ _ _ _ _ _ _ _ b ρ l).trans ((congrArg₂ max ((congrArg₂ max ((congrArg₂ max (amB_17 c i A X TT RR hT hR b ρ l) (congrArg (FloatOps.absf (F := Ideal) (φ := .f32)) (hmv_eq (rd_h 37 (invB_37 c i A X TT RR hT hR) b ρ l) (rd_tab 37 hT _ l) (lhB c i A X TT hT b ρ) (rd_hi 36 37 rfl hR l)))).trans (amx_succ (fun g => hmB c i A X TT RR b ρ (col g l)) 37 (Nat.le_of_ble_eq_true rfl))) (congrArg (FloatOps.absf (F := Ideal) (φ := .f32)) (hmv_eq (rd_h 38 (invB_38 c i A X TT RR hT hR) b ρ l) (rd_tab 38 hT _ l) (lhB c i A X TT hT b ρ) (rd_lo 38 hR l)))).trans (amx_succ (fun g => hmB c i A X TT RR b ρ (col g l)) 38 (Nat.le_of_ble_eq_true rfl))) (congrArg (FloatOps.absf (F := Ideal) (φ := .f32)) (hmv_eq (rd_h 39 (invB_39 c i A X TT RR hT hR) b ρ l) (rd_tab 39 hT _ l) (lhB c i A X TT hT b ρ) (rd_hi 38 39 rfl hR l)))).trans (amx_succ (fun g => hmB c i A X TT RR b ρ (col g l)) 39 (Nat.le_of_ble_eq_true rfl)))

theorem mxB (b : Fin 2) (ρ : Fin 128) : mx (fun x => (runB.sl.r_63 (F := Ideal) c i A X) (ix2 x (row b ρ))) * (runB.sl.r_6 (F := Ideal) c i A X) (ix2 0 (row b ρ)) = rAM (hbB c i A X TT b ρ) (TT 2) RR * rRs (hbB c i A X TT b ρ) := by
  rw [rsB c i A X TT hT]
  exact congrArg (fun f => mx f * _) (funext fun x => amB_18 c i A X TT RR hT hR b ρ x)

theorem scB (b : Fin 2) (ρ : Fin 128) : (runB.sl.r_64 (F := Ideal) c i A X) (ix2 0 (row b ρ)) = rSc (hbB c i A X TT b ρ) (TT 2) RR := by
  unfold runB.sl.r_64 rSc
  exact (P_sc _ _ _).trans (congrArg sclF (mxB c i A X TT RR hT hR b ρ))

theorem ivB (b : Fin 2) (ρ l : Fin 128) : k0_pay576 (runB.sl.r_6 (F := Ideal) c i A X) (runB.sl.r_63 (F := Ideal) c i A X) (ix2 (row b ρ) l) = rIv (hbB c i A X TT b ρ) (TT 2) RR := by
  unfold rIv rSc
  exact (P_iv _ _ _ _).trans (congrArg₂ Ideal.div (rsB c i A X TT hT b ρ) (congrArg sclF (mxB c i A X TT RR hT hR b ρ)))

theorem invqB_5 : InvQ A.a17.view (qqB c i A X TT RR) 5 (runB.sl.H17_5 (F := Ideal) c i A X) := by
  unfold runB.sl.H17_5
  exact invq_step _ _ 4 _ _ _ (invq_step _ _ 3 _ _ _ (invq_step _ _ 2 _ _ _ (invq_step _ _ 1 _ _ _ (invq_step _ _ 0 _ _ _ (invq_nil _ _) (fun b ρ l => (P_q0 _ _ _ b ρ l).trans (congrArg clipq (congrArg₂ HMul.hMul (rd_m 0 (invB_40 c i A X TT RR hT hR) b ρ l) (ivB c i A X TT RR hT hR b ρ l))))) (fun b ρ l => (P_q1 _ _ b ρ l).trans (congrArg clipq (congrArg₂ HMul.hMul (rd_m 1 (invB_40 c i A X TT RR hT hR) b ρ l) (ivB c i A X TT RR hT hR b ρ l))))) (fun b ρ l => (P_q2 _ _ b ρ l).trans (congrArg clipq (congrArg₂ HMul.hMul (rd_m 2 (invB_40 c i A X TT RR hT hR) b ρ l) (ivB c i A X TT RR hT hR b ρ l))))) (fun b ρ l => (P_q3 _ _ b ρ l).trans (congrArg clipq (congrArg₂ HMul.hMul (rd_m 3 (invB_40 c i A X TT RR hT hR) b ρ l) (ivB c i A X TT RR hT hR b ρ l))))) (fun b ρ l => (P_q4 _ _ b ρ l).trans (congrArg clipq (congrArg₂ HMul.hMul (rd_m 4 (invB_40 c i A X TT RR hT hR) b ρ l) (ivB c i A X TT RR hT hR b ρ l))))

theorem invqB_10 : InvQ A.a17.view (qqB c i A X TT RR) 10 (runB.sl.H17_10 (F := Ideal) c i A X) := by
  unfold runB.sl.H17_10
  exact invq_step _ _ 9 _ _ _ (invq_step _ _ 8 _ _ _ (invq_step _ _ 7 _ _ _ (invq_step _ _ 6 _ _ _ (invq_step _ _ 5 _ _ _ ((invqB_5 c i A X TT RR hT hR)) (fun b ρ l => (P_q5 _ _ b ρ l).trans (congrArg clipq (congrArg₂ HMul.hMul (rd_m 5 (invB_40 c i A X TT RR hT hR) b ρ l) (ivB c i A X TT RR hT hR b ρ l))))) (fun b ρ l => (P_q6 _ _ b ρ l).trans (congrArg clipq (congrArg₂ HMul.hMul (rd_m 6 (invB_40 c i A X TT RR hT hR) b ρ l) (ivB c i A X TT RR hT hR b ρ l))))) (fun b ρ l => (P_q7 _ _ b ρ l).trans (congrArg clipq (congrArg₂ HMul.hMul (rd_m 7 (invB_40 c i A X TT RR hT hR) b ρ l) (ivB c i A X TT RR hT hR b ρ l))))) (fun b ρ l => (P_q8 _ _ b ρ l).trans (congrArg clipq (congrArg₂ HMul.hMul (rd_m 8 (invB_40 c i A X TT RR hT hR) b ρ l) (ivB c i A X TT RR hT hR b ρ l))))) (fun b ρ l => (P_q9 _ _ b ρ l).trans (congrArg clipq (congrArg₂ HMul.hMul (rd_m 9 (invB_40 c i A X TT RR hT hR) b ρ l) (ivB c i A X TT RR hT hR b ρ l))))

theorem invqB_15 : InvQ A.a17.view (qqB c i A X TT RR) 15 (runB.sl.H17_15 (F := Ideal) c i A X) := by
  unfold runB.sl.H17_15
  exact invq_step _ _ 14 _ _ _ (invq_step _ _ 13 _ _ _ (invq_step _ _ 12 _ _ _ (invq_step _ _ 11 _ _ _ (invq_step _ _ 10 _ _ _ ((invqB_10 c i A X TT RR hT hR)) (fun b ρ l => (P_q10 _ _ b ρ l).trans (congrArg clipq (congrArg₂ HMul.hMul (rd_m 10 (invB_40 c i A X TT RR hT hR) b ρ l) (ivB c i A X TT RR hT hR b ρ l))))) (fun b ρ l => (P_q11 _ _ b ρ l).trans (congrArg clipq (congrArg₂ HMul.hMul (rd_m 11 (invB_40 c i A X TT RR hT hR) b ρ l) (ivB c i A X TT RR hT hR b ρ l))))) (fun b ρ l => (P_q12 _ _ b ρ l).trans (congrArg clipq (congrArg₂ HMul.hMul (rd_m 12 (invB_40 c i A X TT RR hT hR) b ρ l) (ivB c i A X TT RR hT hR b ρ l))))) (fun b ρ l => (P_q13 _ _ b ρ l).trans (congrArg clipq (congrArg₂ HMul.hMul (rd_m 13 (invB_40 c i A X TT RR hT hR) b ρ l) (ivB c i A X TT RR hT hR b ρ l))))) (fun b ρ l => (P_q14 _ _ b ρ l).trans (congrArg clipq (congrArg₂ HMul.hMul (rd_m 14 (invB_40 c i A X TT RR hT hR) b ρ l) (ivB c i A X TT RR hT hR b ρ l))))

theorem invqB_20 : InvQ A.a17.view (qqB c i A X TT RR) 20 (runB.sl.H17_20 (F := Ideal) c i A X) := by
  unfold runB.sl.H17_20
  exact invq_step _ _ 19 _ _ _ (invq_step _ _ 18 _ _ _ (invq_step _ _ 17 _ _ _ (invq_step _ _ 16 _ _ _ (invq_step _ _ 15 _ _ _ ((invqB_15 c i A X TT RR hT hR)) (fun b ρ l => (P_q15 _ _ b ρ l).trans (congrArg clipq (congrArg₂ HMul.hMul (rd_m 15 (invB_40 c i A X TT RR hT hR) b ρ l) (ivB c i A X TT RR hT hR b ρ l))))) (fun b ρ l => (P_q16 _ _ b ρ l).trans (congrArg clipq (congrArg₂ HMul.hMul (rd_m 16 (invB_40 c i A X TT RR hT hR) b ρ l) (ivB c i A X TT RR hT hR b ρ l))))) (fun b ρ l => (P_q17 _ _ b ρ l).trans (congrArg clipq (congrArg₂ HMul.hMul (rd_m 17 (invB_40 c i A X TT RR hT hR) b ρ l) (ivB c i A X TT RR hT hR b ρ l))))) (fun b ρ l => (P_q18 _ _ b ρ l).trans (congrArg clipq (congrArg₂ HMul.hMul (rd_m 18 (invB_40 c i A X TT RR hT hR) b ρ l) (ivB c i A X TT RR hT hR b ρ l))))) (fun b ρ l => (P_q19 _ _ b ρ l).trans (congrArg clipq (congrArg₂ HMul.hMul (rd_m 19 (invB_40 c i A X TT RR hT hR) b ρ l) (ivB c i A X TT RR hT hR b ρ l))))

theorem invqB_25 : InvQ A.a17.view (qqB c i A X TT RR) 25 (runB.sl.H17_25 (F := Ideal) c i A X) := by
  unfold runB.sl.H17_25
  exact invq_step _ _ 24 _ _ _ (invq_step _ _ 23 _ _ _ (invq_step _ _ 22 _ _ _ (invq_step _ _ 21 _ _ _ (invq_step _ _ 20 _ _ _ ((invqB_20 c i A X TT RR hT hR)) (fun b ρ l => (P_q20 _ _ b ρ l).trans (congrArg clipq (congrArg₂ HMul.hMul (rd_m 20 (invB_40 c i A X TT RR hT hR) b ρ l) (ivB c i A X TT RR hT hR b ρ l))))) (fun b ρ l => (P_q21 _ _ b ρ l).trans (congrArg clipq (congrArg₂ HMul.hMul (rd_m 21 (invB_40 c i A X TT RR hT hR) b ρ l) (ivB c i A X TT RR hT hR b ρ l))))) (fun b ρ l => (P_q22 _ _ b ρ l).trans (congrArg clipq (congrArg₂ HMul.hMul (rd_m 22 (invB_40 c i A X TT RR hT hR) b ρ l) (ivB c i A X TT RR hT hR b ρ l))))) (fun b ρ l => (P_q23 _ _ b ρ l).trans (congrArg clipq (congrArg₂ HMul.hMul (rd_m 23 (invB_40 c i A X TT RR hT hR) b ρ l) (ivB c i A X TT RR hT hR b ρ l))))) (fun b ρ l => (P_q24 _ _ b ρ l).trans (congrArg clipq (congrArg₂ HMul.hMul (rd_m 24 (invB_40 c i A X TT RR hT hR) b ρ l) (ivB c i A X TT RR hT hR b ρ l))))

theorem invqB_30 : InvQ A.a17.view (qqB c i A X TT RR) 30 (runB.sl.H17_30 (F := Ideal) c i A X) := by
  unfold runB.sl.H17_30
  exact invq_step _ _ 29 _ _ _ (invq_step _ _ 28 _ _ _ (invq_step _ _ 27 _ _ _ (invq_step _ _ 26 _ _ _ (invq_step _ _ 25 _ _ _ ((invqB_25 c i A X TT RR hT hR)) (fun b ρ l => (P_q25 _ _ b ρ l).trans (congrArg clipq (congrArg₂ HMul.hMul (rd_m 25 (invB_40 c i A X TT RR hT hR) b ρ l) (ivB c i A X TT RR hT hR b ρ l))))) (fun b ρ l => (P_q26 _ _ b ρ l).trans (congrArg clipq (congrArg₂ HMul.hMul (rd_m 26 (invB_40 c i A X TT RR hT hR) b ρ l) (ivB c i A X TT RR hT hR b ρ l))))) (fun b ρ l => (P_q27 _ _ b ρ l).trans (congrArg clipq (congrArg₂ HMul.hMul (rd_m 27 (invB_40 c i A X TT RR hT hR) b ρ l) (ivB c i A X TT RR hT hR b ρ l))))) (fun b ρ l => (P_q28 _ _ b ρ l).trans (congrArg clipq (congrArg₂ HMul.hMul (rd_m 28 (invB_40 c i A X TT RR hT hR) b ρ l) (ivB c i A X TT RR hT hR b ρ l))))) (fun b ρ l => (P_q29 _ _ b ρ l).trans (congrArg clipq (congrArg₂ HMul.hMul (rd_m 29 (invB_40 c i A X TT RR hT hR) b ρ l) (ivB c i A X TT RR hT hR b ρ l))))

theorem invqB_35 : InvQ A.a17.view (qqB c i A X TT RR) 35 (runB.sl.H17_35 (F := Ideal) c i A X) := by
  unfold runB.sl.H17_35
  exact invq_step _ _ 34 _ _ _ (invq_step _ _ 33 _ _ _ (invq_step _ _ 32 _ _ _ (invq_step _ _ 31 _ _ _ (invq_step _ _ 30 _ _ _ ((invqB_30 c i A X TT RR hT hR)) (fun b ρ l => (P_q30 _ _ b ρ l).trans (congrArg clipq (congrArg₂ HMul.hMul (rd_m 30 (invB_40 c i A X TT RR hT hR) b ρ l) (ivB c i A X TT RR hT hR b ρ l))))) (fun b ρ l => (P_q31 _ _ b ρ l).trans (congrArg clipq (congrArg₂ HMul.hMul (rd_m 31 (invB_40 c i A X TT RR hT hR) b ρ l) (ivB c i A X TT RR hT hR b ρ l))))) (fun b ρ l => (P_q32 _ _ b ρ l).trans (congrArg clipq (congrArg₂ HMul.hMul (rd_m 32 (invB_40 c i A X TT RR hT hR) b ρ l) (ivB c i A X TT RR hT hR b ρ l))))) (fun b ρ l => (P_q33 _ _ b ρ l).trans (congrArg clipq (congrArg₂ HMul.hMul (rd_m 33 (invB_40 c i A X TT RR hT hR) b ρ l) (ivB c i A X TT RR hT hR b ρ l))))) (fun b ρ l => (P_q34 _ _ b ρ l).trans (congrArg clipq (congrArg₂ HMul.hMul (rd_m 34 (invB_40 c i A X TT RR hT hR) b ρ l) (ivB c i A X TT RR hT hR b ρ l))))

theorem invqB_40 : InvQ A.a17.view (qqB c i A X TT RR) 40 (runB.sl.H17_40 (F := Ideal) c i A X) := by
  unfold runB.sl.H17_40
  exact invq_step _ _ 39 _ _ _ (invq_step _ _ 38 _ _ _ (invq_step _ _ 37 _ _ _ (invq_step _ _ 36 _ _ _ (invq_step _ _ 35 _ _ _ ((invqB_35 c i A X TT RR hT hR)) (fun b ρ l => (P_q35 _ _ b ρ l).trans (congrArg clipq (congrArg₂ HMul.hMul (rd_m 35 (invB_40 c i A X TT RR hT hR) b ρ l) (ivB c i A X TT RR hT hR b ρ l))))) (fun b ρ l => (P_q36 _ _ b ρ l).trans (congrArg clipq (congrArg₂ HMul.hMul (rd_m 36 (invB_40 c i A X TT RR hT hR) b ρ l) (ivB c i A X TT RR hT hR b ρ l))))) (fun b ρ l => (P_q37 _ _ b ρ l).trans (congrArg clipq (congrArg₂ HMul.hMul (rd_m 37 (invB_40 c i A X TT RR hT hR) b ρ l) (ivB c i A X TT RR hT hR b ρ l))))) (fun b ρ l => (P_q38 _ _ b ρ l).trans (congrArg clipq (congrArg₂ HMul.hMul (rd_m 38 (invB_40 c i A X TT RR hT hR) b ρ l) (ivB c i A X TT RR hT hR b ρ l))))) (fun b ρ l => (P_q39 _ _ b ρ l).trans (congrArg clipq (congrArg₂ HMul.hMul (rd_m 39 (invB_40 c i A X TT RR hT hR) b ρ l) (ivB c i A X TT RR hT hR b ρ l))))

/-- One term of the head product of the run. -/
def ttB (c : Dev nD) (i : grid0.Coords) (A : Mem) (X : Cont Ideal A) (TT : Fin 3 → Fin 5120 → EReal) (RR : Fin 16 → Fin 5120 → EReal) (b : Fin 2) (ρ : Fin 128) (o : Fin 64) (j : Fin 8) : EReal := ∑ x, qqB c i A X TT RR b ρ (c640 j x) * View.read (Elt Ideal) A.a14.view X.f14 (ix2 o (c640 j x))

theorem accB_0 (b : Fin 2) (ρ : Fin 128) (o : Fin 64) : (runB.sl.r_67 (F := Ideal) c i A X) (ix2 (row b ρ) o) = part8 (ttB c i A X TT RR b ρ o) 1 := by
  unfold runB.sl.r_67
  exact (P_acc0 _ _ b ρ o).trans (Eq.trans (Finset.sum_congr rfl fun x _ => congrArg₂ HMul.hMul (rd_q 0 (invqB_5 c i A X TT RR hT hR) b ρ x) (rd_w 0 X.f14 o x)) (part8_one (ttB c i A X TT RR b ρ o)))

theorem accB_1 (b : Fin 2) (ρ : Fin 128) (o : Fin 64) : (runB.sl.r_70 (F := Ideal) c i A X) (ix2 (row b ρ) o) = part8 (ttB c i A X TT RR b ρ o) 2 := by
  unfold runB.sl.r_70
  exact (P_acc1 _ _ _ b ρ o).trans ((congrArg₂ HAdd.hAdd (accB_0 c i A X TT RR hT hR b ρ o) (Finset.sum_congr rfl fun x _ => congrArg₂ HMul.hMul (rd_q 1 (invqB_10 c i A X TT RR hT hR) b ρ x) (rd_w 1 X.f14 o x))).trans (part8_succ (ttB c i A X TT RR b ρ o) 1 (by decide)))

theorem accB_2 (b : Fin 2) (ρ : Fin 128) (o : Fin 64) : (runB.sl.r_73 (F := Ideal) c i A X) (ix2 (row b ρ) o) = part8 (ttB c i A X TT RR b ρ o) 3 := by
  unfold runB.sl.r_73
  exact (P_acc2 _ _ _ b ρ o).trans ((congrArg₂ HAdd.hAdd (accB_1 c i A X TT RR hT hR b ρ o) (Finset.sum_congr rfl fun x _ => congrArg₂ HMul.hMul (rd_q 2 (invqB_15 c i A X TT RR hT hR) b ρ x) (rd_w 2 X.f14 o x))).trans (part8_succ (ttB c i A X TT RR b ρ o) 2 (by decide)))

theorem accB_3 (b : Fin 2) (ρ : Fin 128) (o : Fin 64) : (runB.sl.r_76 (F := Ideal) c i A X) (ix2 (row b ρ) o) = part8 (ttB c i A X TT RR b ρ o) 4 := by
  unfold runB.sl.r_76
  exact (P_acc3 _ _ _ b ρ o).trans ((congrArg₂ HAdd.hAdd (accB_2 c i A X TT RR hT hR b ρ o) (Finset.sum_congr rfl fun x _ => congrArg₂ HMul.hMul (rd_q 3 (invqB_20 c i A X TT RR hT hR) b ρ x) (rd_w 3 X.f14 o x))).trans (part8_succ (ttB c i A X TT RR b ρ o) 3 (by decide)))

theorem accB_4 (b : Fin 2) (ρ : Fin 128) (o : Fin 64) : (runB.sl.r_78 (F := Ideal) c i A X) (ix2 (row b ρ) o) = part8 (ttB c i A X TT RR b ρ o) 5 := by
  unfold runB.sl.r_78
  exact (P_acc4 _ _ _ b ρ o).trans ((congrArg₂ HAdd.hAdd (accB_3 c i A X TT RR hT hR b ρ o) (Finset.sum_congr rfl fun x _ => congrArg₂ HMul.hMul (rd_q 4 (invqB_25 c i A X TT RR hT hR) b ρ x) (rd_w 4 X.f14 o x))).trans (part8_succ (ttB c i A X TT RR b ρ o) 4 (by decide)))

theorem accB_5 (b : Fin 2) (ρ : Fin 128) (o : Fin 64) : (runB.sl.r_80 (F := Ideal) c i A X) (ix2 (row b ρ) o) = part8 (ttB c i A X TT RR b ρ o) 6 := by
  unfold runB.sl.r_80
  exact (P_acc5 _ _ _ b ρ o).trans ((congrArg₂ HAdd.hAdd (accB_4 c i A X TT RR hT hR b ρ o) (Finset.sum_congr rfl fun x _ => congrArg₂ HMul.hMul (rd_q 5 (invqB_30 c i A X TT RR hT hR) b ρ x) (rd_w 5 X.f14 o x))).trans (part8_succ (ttB c i A X TT RR b ρ o) 5 (by decide)))

theorem accB_6 (b : Fin 2) (ρ : Fin 128) (o : Fin 64) : (runB.sl.r_84 (F := Ideal) c i A X) (ix2 (row b ρ) o) = part8 (ttB c i A X TT RR b ρ o) 7 := by
  unfold runB.sl.r_84
  exact (P_acc6 _ _ _ b ρ o).trans ((congrArg₂ HAdd.hAdd (accB_5 c i A X TT RR hT hR b ρ o) (Finset.sum_congr rfl fun x _ => congrArg₂ HMul.hMul (rd_q 6 (invqB_35 c i A X TT RR hT hR) b ρ x) (rd_w 6 X.f14 o x))).trans (part8_succ (ttB c i A X TT RR b ρ o) 6 (by decide)))

theorem outB (b : Fin 2) (ρ : Fin 128) (o : Fin 64) : outv (runB.sl.r_64 (F := Ideal) c i A X) (runB.sl.r_84 (F := Ideal) c i A X) (runB.sl.v1337 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16) b ρ o = rO (hbB c i A X TT b ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o := by
  have e1 : (runB.sl.r_84 (F := Ideal) c i A X) (ix2 (row b ρ) o) + (∑ x, (runB.sl.v1337 (F := Ideal) c i A X) (ix4 0 b ρ x) * (View.readAt (Elt Ideal) A.a14.view (Rect.unit (s := S64x5120) ![0, 4480] S64x640.size inb_S64x5120_S64x640_0_4480).toLoadRect X.f14) (ix2 o x)) = ∑ j, ttB c i A X TT RR b ρ o j :=
    (congrArg₂ HAdd.hAdd (accB_6 c i A X TT RR hT hR b ρ o) (Finset.sum_congr rfl fun x _ => congrArg₂ HMul.hMul (rd_q 7 (invqB_40 c i A X TT RR hT hR) b ρ x) (rd_w 7 X.f14 o x))).trans ((part8_succ (ttB c i A X TT RR b ρ o) 7 (by decide)).trans (part8_all _))
  have e3 : (View.readAt (Elt Ideal) A.a15.view (Rect.unit (s := S64x1) ![0, 0] S64x1.size inb_S64x1_S64x1_0_0).toLoadRect X.f15) (ix2 o 0) = View.read (Elt Ideal) A.a15.view X.f15 (ix2 o 0) := readAt_at _ _ _ (ix2 o 0) (ix2 o 0) fun q => by fin_cases q <;> exact (Nat.zero_add _).symm
  have e4 : (View.readAt (Elt Ideal) A.a16.view (Rect.unit (s := S64x1) ![0, 0] S64x1.size inb_S64x1_S64x1_0_0).toLoadRect X.f16) (ix2 o 0) = View.read (Elt Ideal) A.a16.view X.f16 (ix2 o 0) := readAt_at _ _ _ (ix2 o 0) (ix2 o 0) fun q => by fin_cases q <;> exact (Nat.zero_add _).symm
  unfold outv rO
  rw [e1, e3, e4, scB c i A X TT RR hT hR]
  rfl

end Cert.KernelIdeal.Hand
-- ==== Proof.ValEndB.lean ====
/- What a run without the tables being formed leaves in its outputs. -/
module

public import proofs.«01_k».proof.Proof.ValOut
public import proofs.«01_k».proof.Proof.ValMidB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (c : Dev nD) (i : grid0.Coords) (A : Mem) (X : Cont Ideal A) (TT : Fin 3 → Fin 5120 → EReal) (RR : Fin 16 → Fin 5120 → EReal)
  (hT : ∀ (a : Fin 3) (s : Fin 8) (d : Fin 5120), View.read (Elt Ideal) A.a25.view X.f25 (ix3 a s d) = TT a d)
  (hR : ∀ (j : Fin 16) (d : Fin 5120), View.read (Elt Ideal) A.a26.view X.f26 (ix2 j d) = RR j d)

theorem eB (ρ : Fin 128) (d : Fin 5120) : View.read (Elt Ideal) A.a23.view (A.a23.view.writes (Elt Ideal) A.a23.view.junk (runB.sl.H23_1 (F := Ideal) A X)) (ix2 ρ d) = ∑ p, View.read (Elt Ideal) A.a4.view X.f4 (ix3 0 p ρ) * View.read (Elt Ideal) A.a5.view X.f5 (ix2 p d) := by
  unfold runB.sl.H23_1 runB.sl.r_1
  refine (wr_hit A.a23.view _ _ _ _ (ix2 ρ d) (ix2 ρ d) (by intro a; fin_cases a <;> first | rfl | exact (Nat.zero_add _).symm)).trans ((P_e _ _ ρ d).trans ?_)
  refine Finset.sum_congr rfl fun p _ => congrArg₂ HMul.hMul ?_ ?_
  · exact rd_pt _ _ p ρ
  · exact rd_we _ _ p d

theorem stxB (b : Fin 2) (ρ : Fin 128) (g : Fin 40) : View.read (Elt Ideal) A.a24.view (A.a24.view.writes (Elt Ideal) A.a24.view.junk (runB.sl.H24_2 (F := Ideal) i A X)) (ix3 b ρ ⟨g.val, by omega⟩) = View.read (Elt Ideal) A.a9.view X.f9 (ix4 0 b g ρ) := by
  unfold runB.sl.H24_2
  obtain rfl | rfl : b = 0 ∨ b = 1 := by omega
  · rw [wr_miss A.a24.view _ _ _ _ (ix3 0 ρ ⟨g.val, by omega⟩) 0 (Or.inl (Nat.le_of_ble_eq_true rfl))]
    refine (wr_hit A.a24.view _ _ _ _ (ix3 0 ρ ⟨g.val, by omega⟩) (ix3 0 ρ ⟨g.val, by omega⟩) (by intro a; fin_cases a <;> first | rfl | exact (Nat.zero_add _).symm)).trans ((P_st0 _ _ _ ρ g).trans ?_)
    exact rd_b0 _ _ g ρ
  · unfold runB.sl.r_2 runB.sl.r_3
    refine (wr_hit A.a24.view _ _ _ _ (ix3 0 ρ ⟨g.val, by omega⟩) (ix3 1 ρ ⟨g.val, by omega⟩) (by intro a; fin_cases a <;> first | rfl | exact (Nat.zero_add _).symm)).trans ((P_st2 _ _ _ _ ρ g).trans ?_)
    exact rd_b1 _ _ g ρ

theorem styB (b : Fin 2) (ρ : Fin 128) (g : Fin 40) : View.read (Elt Ideal) A.a24.view (A.a24.view.writes (Elt Ideal) A.a24.view.junk (runB.sl.H24_2 (F := Ideal) i A X)) (ix3 b ρ ⟨40 + g.val, by omega⟩) = View.read (Elt Ideal) A.a11.view X.f11 (ix4 0 b g ρ) * (View.read (Elt Ideal) A.a2.view X.f2 (ix1 (i 0))) := by
  unfold runB.sl.H24_2
  obtain rfl | rfl : b = 0 ∨ b = 1 := by omega
  · rw [wr_miss A.a24.view _ _ _ _ (ix3 0 ρ ⟨40 + g.val, by omega⟩) 0 (Or.inl (Nat.le_of_ble_eq_true rfl))]
    refine (wr_hit A.a24.view _ _ _ _ (ix3 0 ρ ⟨40 + g.val, by omega⟩) (ix3 0 ρ ⟨40 + g.val, by omega⟩) (by intro a; fin_cases a <;> first | rfl | exact (Nat.zero_add _).symm)).trans ((P_st1 _ _ _ ρ g).trans ?_)
    refine congrArg₂ HMul.hMul (rd_b0 _ _ g ρ) ?_
    unfold runB.sl.r
    exact kk_val A.a2.view _ i _
  · unfold runB.sl.r_2 runB.sl.r_3
    refine (wr_hit A.a24.view _ _ _ _ (ix3 0 ρ ⟨40 + g.val, by omega⟩) (ix3 1 ρ ⟨40 + g.val, by omega⟩) (by intro a; fin_cases a <;> first | rfl | exact (Nat.zero_add _).symm)).trans ((P_st3 _ _ _ _ ρ g).trans ?_)
    refine congrArg₂ HMul.hMul (rd_b1 _ _ g ρ) ?_
    unfold runB.sl.r
    exact kk_val A.a2.view _ i _

theorem hb_eqB (b : Fin 2) (ρ : Fin 128) : hbB c i A X TT b ρ = hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ := by
  funext d
  unfold hbB HH hT eT hid
  rw [eB, stxB, styB]

theorem q7eB : (runB.sl.r_86 (F := Ideal) c i A X) = k0_pay637 (runB.sl.v1337 (F := Ideal) c i A X) := by
  unfold runB.sl.r_86
  rfl

theorem f17B (hc0 : ¬ first i) : (runB c i hc0 A X).1.f17 = A.a17.view.writes (Elt Ideal) X.f17 (runB.sl.H17_40 (F := Ideal) c i A X) := by
  unfold runB
  dsimp only

theorem f18B (hc0 : ¬ first i) : (runB c i hc0 A X).1.f18 = A.a18.view.writes (Elt Ideal) X.f18 [⟨Rect.unit (s := S1x2x1x128) ![0, 1, 0, 0] S1x1x1x128.size inb_S1x2x1x128_S1x1x1x128_0_1_0_0, k0_pay575 (runB.sl.r_6 (F := Ideal) c i A X) (runB.sl.r_63 (F := Ideal) c i A X)⟩, ⟨Rect.unit (s := S1x2x1x128) ![0, 0, 0, 0] S1x1x1x128.size inb_S1x2x1x128_S1x1x1x128_0_0_0_0, k0_pay574 (runB.sl.r_6 (F := Ideal) c i A X) (runB.sl.r_63 (F := Ideal) c i A X)⟩] := by
  unfold runB
  dsimp only

theorem f19B (hc0 : ¬ first i) : (runB c i hc0 A X).1.f19 = A.a19.view.writes (Elt Ideal) X.f19 [⟨Rect.unit (s := S1x2x64x128) ![0, 1, 0, 0] S1x1x64x128.size inb_S1x2x64x128_S1x1x64x128_0_1_0_0, k0_pay642 (runB.sl.r_64 (F := Ideal) c i A X) (runB.sl.r_84 (F := Ideal) c i A X) (runB.sl.r_86 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16)⟩, ⟨Rect.unit (s := S1x2x64x128) ![0, 0, 0, 0] S1x1x64x128.size inb_S1x2x64x128_S1x1x64x128_0_0_0_0, k0_pay640 (runB.sl.r_64 (F := Ideal) c i A X) (runB.sl.r_84 (F := Ideal) c i A X) (runB.sl.r_86 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16)⟩] := by
  unfold runB
  dsimp only

theorem f20B (hc0 : ¬ first i) : (runB c i hc0 A X).1.f20 = A.a20.view.writes (Elt Ideal) X.f20 [⟨Rect.unit (s := S1x1x128) ![0, 0, 0] S1x1x128.size inb_S1x1x128_S1x1x128_0_0_0, k0_pay1 (k0_pay643 (runB.sl.r_64 (F := Ideal) c i A X) (runB.sl.r_84 (F := Ideal) c i A X) (runB.sl.r_86 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16))⟩] := by
  unfold runB
  dsimp only
  unfold runB.sl.r_88
  rfl

theorem f21B (hc0 : ¬ first i) : (runB c i hc0 A X).1.f21 = A.a21.view.writes (Elt Ideal) X.f21 [⟨Rect.unit (s := S1x1x128) ![0, 0, 0] S1x1x128.size inb_S1x1x128_S1x1x128_0_0_0, k0_pay2 (k0_pay641 (runB.sl.r_64 (F := Ideal) c i A X) (runB.sl.r_84 (F := Ideal) c i A X) (runB.sl.r_86 (F := Ideal) c i A X) (View.readAt (Elt Ideal) A.a14.view (Rect.unit (s := S64x5120) ![0, 4480] S64x640.size inb_S64x5120_S64x640_0_4480).toLoadRect X.f14) (View.readAt (Elt Ideal) A.a15.view (Rect.unit (s := S64x1) ![0, 0] S64x1.size inb_S64x1_S64x1_0_0).toLoadRect X.f15) (View.readAt (Elt Ideal) A.a16.view (Rect.unit (s := S64x1) ![0, 0] S64x1.size inb_S64x1_S64x1_0_0).toLoadRect X.f16))⟩] := by
  unfold runB
  dsimp only
  unfold runB.sl.r_87
  rfl

include hT hR
theorem o17B (hc0 : ¬ first i) (b : Fin 2) (ρ : Fin 128) (d : Fin 5120) : View.read (Elt Ideal) A.a17.view (runB c i hc0 A X).1.f17 (ix4 0 b ρ d) = rQ (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ) (TT 2) RR d := by
  rw [f17B, ← hb_eqB c i A X TT]
  exact invqB_40 c i A X TT RR hT hR X.f17 b ρ d d.isLt

theorem o18B (hc0 : ¬ first i) (b : Fin 2) (ρ : Fin 128) : View.read (Elt Ideal) A.a18.view (runB c i hc0 A X).1.f18 (ix4 0 b 0 ρ) = rSc (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ) (TT 2) RR := by
  rw [f18B, ← hb_eqB c i A X TT]
  have hs := congrArg sclF (mxB c i A X TT RR hT hR b ρ)
  obtain rfl | rfl : b = 0 ∨ b = 1 := by omega
  · refine (wr_miss A.a18.view X.f18 _ _ _ (ix4 0 0 0 ρ) 1 (Or.inl (Nat.le_of_ble_eq_true rfl))).trans ?_
    exact (wr_hit A.a18.view X.f18 _ _ _ (ix4 0 0 0 ρ) (ix4 0 0 0 ρ) (by intro a; fin_cases a <;> first | rfl | exact (Nat.zero_add _).symm)).trans ((P_qs0 _ _ ρ).trans hs)
  · exact (wr_hit A.a18.view X.f18 _ _ _ (ix4 0 0 0 ρ) (ix4 0 1 0 ρ) (by intro a; fin_cases a <;> first | rfl | exact (Nat.zero_add _).symm)).trans ((P_qs1 _ _ ρ).trans hs)

theorem o19B (hc0 : ¬ first i) (b : Fin 2) (o : Fin 64) (ρ : Fin 128) : View.read (Elt Ideal) A.a19.view (runB c i hc0 A X).1.f19 (ix4 0 b o ρ) = rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT b ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o := by
  rw [f19B, q7eB, ← hb_eqB c i A X TT]
  have hs := outB c i A X TT RR hT hR b ρ o
  obtain rfl | rfl : b = 0 ∨ b = 1 := by omega
  · refine (wr_miss A.a19.view X.f19 _ _ _ (ix4 0 0 o ρ) 1 (Or.inl (Nat.le_of_ble_eq_true rfl))).trans ?_
    exact (wr_hit A.a19.view X.f19 _ _ _ (ix4 0 0 o ρ) (ix4 0 0 o ρ) (by intro a; fin_cases a <;> first | rfl | exact (Nat.zero_add _).symm)).trans ((P_o0 _ _ _ _ _ _ ρ o).trans hs)
  · exact (wr_hit A.a19.view X.f19 _ _ _ (ix4 0 0 o ρ) (ix4 0 1 o ρ) (by intro a; fin_cases a <;> first | rfl | exact (Nat.zero_add _).symm)).trans ((P_o1 _ _ _ _ _ _ ρ o).trans hs)

theorem o20B (hc0 : ¬ first i) (ρ : Fin 128) : View.read (Elt Ideal) A.a20.view (runB c i hc0 A X).1.f20 (ix3 0 0 ρ) = ∑ o, (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 0 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) * (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 1 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) := by
  rw [f20B, q7eB, ← hb_eqB c i A X TT 0, ← hb_eqB c i A X TT 1]
  refine (wr_hit A.a20.view X.f20 _ _ _ (ix3 0 0 ρ) (ix3 0 0 ρ) (by intro a; fin_cases a <;> first | rfl | exact (Nat.zero_add _).symm)).trans ((P_cu _ _ _ _ _ _ ρ).trans ?_)
  exact Finset.sum_congr rfl fun o _ => congrArg₂ HMul.hMul (outB c i A X TT RR hT hR 0 ρ o) (outB c i A X TT RR hT hR 1 ρ o)

theorem o21B (hc0 : ¬ first i) (ρ : Fin 128) : View.read (Elt Ideal) A.a21.view (runB c i hc0 A X).1.f21 (ix3 0 0 ρ) = ∑ o, (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 1 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) * (rO (hid (View.read (Elt Ideal) A.a8.view X.f8) (View.read (Elt Ideal) A.a10.view X.f10) (View.read (Elt Ideal) A.a9.view X.f9) (View.read (Elt Ideal) A.a11.view X.f11) (View.read (Elt Ideal) A.a2.view X.f2 (ix1 (i 0))) (View.read (Elt Ideal) A.a4.view X.f4) (View.read (Elt Ideal) A.a5.view X.f5) TT 1 ρ) (TT 2) RR (fun o d => View.read (Elt Ideal) A.a14.view X.f14 (ix2 o d)) (fun o => View.read (Elt Ideal) A.a15.view X.f15 (ix2 o 0)) (fun o => View.read (Elt Ideal) A.a16.view X.f16 (ix2 o 0)) o) := by
  rw [f21B, q7eB, ← hb_eqB c i A X TT]
  refine (wr_hit A.a21.view X.f21 _ _ _ (ix3 0 0 ρ) (ix3 0 0 ρ) (by intro a; fin_cases a <;> first | rfl | exact (Nat.zero_add _).symm)).trans ((P_uu _ _ _ _ _ _ ρ).trans ?_)
  exact Finset.sum_congr rfl fun o _ => congrArg₂ HMul.hMul (outB c i A X TT RR hT hR 1 ρ o) (outB c i A X TT RR hT hR 1 ρ o)

end Cert.KernelIdeal.Hand
-- ==== Proof.ValStepB.lean ====
/- One run without the tables being formed, from what its inputs hold to what its outputs hold. -/
module

public import proofs.«01_k».proof.Proof.ValOuts
public import proofs.«01_k».proof.Proof.ValEndB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

set_option maxHeartbeats 2000000 in
/-- What a run leaves as it was. -/
theorem keepB (c : Dev nD) (i : grid0.Coords) (hc0 : ¬ first i) (A : Mem) (X : Cont Ideal A) :
    (runB c i hc0 A X).1.f2 = X.f2 ∧ (runB c i hc0 A X).1.f3 = X.f3 ∧ (runB c i hc0 A X).1.f4 = X.f4 ∧ (runB c i hc0 A X).1.f5 = X.f5 ∧ (runB c i hc0 A X).1.f6 = X.f6 ∧ (runB c i hc0 A X).1.f7 = X.f7 ∧ (runB c i hc0 A X).1.f8 = X.f8 ∧ (runB c i hc0 A X).1.f9 = X.f9 ∧ (runB c i hc0 A X).1.f10 = X.f10 ∧ (runB c i hc0 A X).1.f11 = X.f11 ∧ (runB c i hc0 A X).1.f12 = X.f12 ∧ (runB c i hc0 A X).1.f13 = X.f13 ∧ (runB c i hc0 A X).1.f14 = X.f14 ∧ (runB c i hc0 A X).1.f15 = X.f15 ∧ (runB c i hc0 A X).1.f16 = X.f16 ∧ (runB c i hc0 A X).1.f25 = X.f25 ∧ (runB c i hc0 A X).1.f26 = X.f26 := by
  unfold runB
  dsimp only
  exact ⟨rfl, rfl, rfl, rfl, rfl, rfl, rfl, rfl, rfl, rfl, rfl, rfl, rfl, rfl, rfl, rfl, rfl⟩

local notation "𝕄" => MT nD τ sig Unit (Elt Ideal) ℕ (UR sig nD τ) ℕ

set_option maxHeartbeats 20000000 in
/-- From the buffers before the run to what they hold after it. -/
theorem stepXB (c : Dev nD) (i : grid0.Coords) (hc0 : ¬ first i) (A : Mem) (X : Cont Ideal A) (TT : Fin 3 → Fin 5120 → EReal) (RR : Fin 16 → Fin 5120 → EReal)
    (hT : ∀ (a : Fin 3) (s : Fin 8) (d : Fin 5120), View.read (Elt Ideal) A.a25.view X.f25 (ix3 a s d) = TT a d) (hR : ∀ (j : Fin 16) (d : Fin 5120), View.read (Elt Ideal) A.a26.view X.f26 (ix2 j d) = RR j d) (E : Set ℕ) (K : PUnit → sProp 𝕄) :
    iprop(((A.a2.view.loc (c : Thread nD τ) ↦[A.a2.view.set]{fullShare} X.f2) ∗ (A.a3.view.loc (c : Thread nD τ) ↦[A.a3.view.set]{fullShare} X.f3) ∗ (A.a4.view.loc (c : Thread nD τ) ↦[A.a4.view.set]{fullShare} X.f4) ∗ (A.a5.view.loc (c : Thread nD τ) ↦[A.a5.view.set]{fullShare} X.f5) ∗ (A.a6.view.loc (c : Thread nD τ) ↦[A.a6.view.set]{fullShare} X.f6) ∗ (A.a7.view.loc (c : Thread nD τ) ↦[A.a7.view.set]{fullShare} X.f7) ∗ (A.a8.view.loc (c : Thread nD τ) ↦[A.a8.view.set]{fullShare} X.f8) ∗ (A.a9.view.loc (c : Thread nD τ) ↦[A.a9.view.set]{fullShare} X.f9) ∗ (A.a10.view.loc (c : Thread nD τ) ↦[A.a10.view.set]{fullShare} X.f10) ∗ (A.a11.view.loc (c : Thread nD τ) ↦[A.a11.view.set]{fullShare} X.f11) ∗ (A.a12.view.loc (c : Thread nD τ) ↦[A.a12.view.set]{fullShare} X.f12) ∗ (A.a13.view.loc (c : Thread nD τ) ↦[A.a13.view.set]{fullShare} X.f13) ∗ (A.a14.view.loc (c : Thread nD τ) ↦[A.a14.view.set]{fullShare} X.f14) ∗ (A.a15.view.loc (c : Thread nD τ) ↦[A.a15.view.set]{fullShare} X.f15) ∗ (A.a16.view.loc (c : Thread nD τ) ↦[A.a16.view.set]{fullShare} X.f16) ∗ (A.a17.view.loc (c : Thread nD τ) ↦[A.a17.view.set]{fullShare} X.f17) ∗ (A.a18.view.loc (c : Thread nD τ) ↦[A.a18.view.set]{fullShare} X.f18) ∗ (A.a19.view.loc (c : Thread nD τ) ↦[A.a19.view.set]{fullShare} X.f19) ∗ (A.a20.view.loc (c : Thread nD τ) ↦[A.a20.view.set]{fullShare} X.f20) ∗ (A.a21.view.loc (c : Thread nD τ) ↦[A.a21.view.set]{fullShare} X.f21) ∗ (A.a22.view.loc (c : Thread nD τ) ↦[A.a22.view.set]{fullShare} X.f22) ∗ (A.a23.view.loc (c : Thread nD τ) ↦[A.a23.view.set]{fullShare} X.f23) ∗ (A.a24.view.loc (c : Thread nD τ) ↦[A.a24.view.set]{fullShare} X.f24) ∗ (A.a25.view.loc (c : Thread nD τ) ↦[A.a25.view.set]{fullShare} X.f25) ∗ (A.a26.view.loc (c : Thread nD τ) ↦[A.a26.view.set]{fullShare} X.f26) ∗ (A.a27.view.loc (c : Thread nD τ) ↦[A.a27.view.set]{fullShare} X.f27))
        ∗ (iprop(owns (c : Thread nD τ) A.a2 fullShare (View.read (Elt Ideal) A.a2.view X.f2) ∗ owns (c : Thread nD τ) A.a3 fullShare (View.read (Elt Ideal) A.a3.view X.f3) ∗ owns (c : Thread nD τ) A.a4 fullShare (View.read (Elt Ideal) A.a4.view X.f4) ∗ owns (c : Thread nD τ) A.a5 fullShare (View.read (Elt Ideal) A.a5.view X.f5) ∗ owns (c : Thread nD τ) A.a6 fullShare (View.read (Elt Ideal) A.a6.view X.f6) ∗ owns (c : Thread nD τ) A.a7 fullShare (View.read (Elt Ideal) A.a7.view X.f7) ∗ owns (c : Thread nD τ) A.a8 fullShare (View.read (Elt Ideal) A.a8.view X.f8) ∗ owns (c : Thread nD τ) A.a9 fullShare (View.read (Elt Ideal) A.a9.view X.f9) ∗ owns (c : Thread nD τ) A.a10 fullShare (View.read (Elt Ideal) A.a10.view X.f10) ∗ owns (c : Thread nD τ) A.a11 fullShare (View.read (Elt Ideal) A.a11.view X.f11) ∗ owns (c : Thread nD τ) A.a12 fullShare (View.read (Elt Ideal) A.a12.view X.f12) ∗ owns (c : Thread nD τ) A.a13 fullShare (View.read (Elt Ideal) A.a13.view X.f13) ∗ owns (c : Thread nD τ) A.a14 fullShare (View.read (Elt Ideal) A.a14.view X.f14) ∗ owns (c : Thread nD τ) A.a15 fullShare (View.read (Elt Ideal) A.a15.view X.f15) ∗ owns (c : Thread nD τ) A.a16 fullShare (View.read (Elt Ideal) A.a16.view X.f16) ∗ (∃ d17 d18 d19 d20 d21, ⌜Outs i (View.read (Elt Ideal) A.a2.view X.f2) (View.read (Elt Ideal) A.a4.view X.f4) (View.read (Elt Ideal) A.a5.view X.f5) (View.read (Elt Ideal) A.a8.view X.f8) (View.read (Elt Ideal) A.a9.view X.f9) (View.read (Elt Ideal) A.a10.view X.f10) (View.read (Elt Ideal) A.a11.view X.f11) (View.read (Elt Ideal) A.a14.view X.f14) (View.read (Elt Ideal) A.a15.view X.f15) (View.read (Elt Ideal) A.a16.view X.f16) TT RR d17 d18 d19 d20 d21⌝ ∗ owns (c : Thread nD τ) A.a17 fullShare d17 ∗ owns (c : Thread nD τ) A.a18 fullShare d18 ∗ owns (c : Thread nD τ) A.a19 fullShare d19 ∗ owns (c : Thread nD τ) A.a20 fullShare d20 ∗ owns (c : Thread nD τ) A.a21 fullShare d21) ∗ (∃ d, owns (c : Thread nD τ) A.a22 fullShare d) ∗ (∃ d, owns (c : Thread nD τ) A.a23 fullShare d) ∗ (∃ d, owns (c : Thread nD τ) A.a24 fullShare d) ∗ owns (c : Thread nD τ) A.a25 fullShare (View.read (Elt Ideal) A.a25.view X.f25) ∗ owns (c : Thread nD τ) A.a26 fullShare (View.read (Elt Ideal) A.a26.view X.f26) ∗ (∃ d, owns (c : Thread nD τ) A.a27 fullShare d)) -∗ K ⟨⟩))
      ⊢ wp frame (wpE (defs₀ (F := Ideal)) Variants.none c none) E (cc0_head i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) K := by
  have hO : Outs i (View.read (Elt Ideal) A.a2.view X.f2) (View.read (Elt Ideal) A.a4.view X.f4) (View.read (Elt Ideal) A.a5.view X.f5) (View.read (Elt Ideal) A.a8.view X.f8) (View.read (Elt Ideal) A.a9.view X.f9) (View.read (Elt Ideal) A.a10.view X.f10) (View.read (Elt Ideal) A.a11.view X.f11) (View.read (Elt Ideal) A.a14.view X.f14) (View.read (Elt Ideal) A.a15.view X.f15) (View.read (Elt Ideal) A.a16.view X.f16) TT RR (View.read (Elt Ideal) A.a17.view (runB c i hc0 A X).1.f17) (View.read (Elt Ideal) A.a18.view (runB c i hc0 A X).1.f18) (View.read (Elt Ideal) A.a19.view (runB c i hc0 A X).1.f19) (View.read (Elt Ideal) A.a20.view (runB c i hc0 A X).1.f20) (View.read (Elt Ideal) A.a21.view (runB c i hc0 A X).1.f21) :=
    ⟨o17B c i A X _ _ hT hR hc0, o18B c i A X _ _ hT hR hc0, o19B c i A X _ _ hT hR hc0, o20B c i A X _ _ hT hR hc0, o21B c i A X _ _ hT hR hc0⟩
  obtain ⟨k2, k3, k4, k5, k6, k7, k8, k9, k10, k11, k12, k13, k14, k15, k16, k25, k26⟩ := keepB c i hc0 A X
  generalize runB c i hc0 A X = o at *
  obtain ⟨o, ho⟩ := o
  dsimp only at hO hT hR k2 k3 k4 k5 k6 k7 k8 k9 k10 k11 k12 k13 k14 k15 k16 k25 k26
  unfold owns
  iintro ⟨⟨H2, H3, H4, H5, H6, H7, H8, H9, H10, H11, H12, H13, H14, H15, H16, H17, H18, H19, H20, H21, H22, H23, H24, H25, H26, H27⟩, Hk⟩
  iapply (ho E K)
  isplitl [H2 H3 H4 H5 H6 H7 H8 H9 H10 H11 H12 H13 H14 H15 H16 H17 H18 H19 H20 H21 H22 H23 H24 H25 H26 H27]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro ⟨H2, H3, H4, H5, H6, H7, H8, H9, H10, H11, H12, H13, H14, H15, H16, H17, H18, H19, H20, H21, H22, H23, H24, H25, H26, H27⟩
  iapply Hk
  isplitl [H2]
  · iexists o.f2
    isplitr
    · ipureintro; rw [k2]
    · iexact H2
  isplitl [H3]
  · iexists o.f3
    isplitr
    · ipureintro; rw [k3]
    · iexact H3
  isplitl [H4]
  · iexists o.f4
    isplitr
    · ipureintro; rw [k4]
    · iexact H4
  isplitl [H5]
  · iexists o.f5
    isplitr
    · ipureintro; rw [k5]
    · iexact H5
  isplitl [H6]
  · iexists o.f6
    isplitr
    · ipureintro; rw [k6]
    · iexact H6
  isplitl [H7]
  · iexists o.f7
    isplitr
    · ipureintro; rw [k7]
    · iexact H7
  isplitl [H8]
  · iexists o.f8
    isplitr
    · ipureintro; rw [k8]
    · iexact H8
  isplitl [H9]
  · iexists o.f9
    isplitr
    · ipureintro; rw [k9]
    · iexact H9
  isplitl [H10]
  · iexists o.f10
    isplitr
    · ipureintro; rw [k10]
    · iexact H10
  isplitl [H11]
  · iexists o.f11
    isplitr
    · ipureintro; rw [k11]
    · iexact H11
  isplitl [H12]
  · iexists o.f12
    isplitr
    · ipureintro; rw [k12]
    · iexact H12
  isplitl [H13]
  · iexists o.f13
    isplitr
    · ipureintro; rw [k13]
    · iexact H13
  isplitl [H14]
  · iexists o.f14
    isplitr
    · ipureintro; rw [k14]
    · iexact H14
  isplitl [H15]
  · iexists o.f15
    isplitr
    · ipureintro; rw [k15]
    · iexact H15
  isplitl [H16]
  · iexists o.f16
    isplitr
    · ipureintro; rw [k16]
    · iexact H16
  isplitl [H17 H18 H19 H20 H21]
  · iexists (View.read (Elt Ideal) A.a17.view o.f17), (View.read (Elt Ideal) A.a18.view o.f18), (View.read (Elt Ideal) A.a19.view o.f19), (View.read (Elt Ideal) A.a20.view o.f20), (View.read (Elt Ideal) A.a21.view o.f21)
    isplitr
    · ipureintro; exact hO
    isplitl [H17]
    · iexists o.f17
      isplitr
      · ipureintro; exact rfl
      · iexact H17
    isplitl [H18]
    · iexists o.f18
      isplitr
      · ipureintro; exact rfl
      · iexact H18
    isplitl [H19]
    · iexists o.f19
      isplitr
      · ipureintro; exact rfl
      · iexact H19
    isplitl [H20]
    · iexists o.f20
      isplitr
      · ipureintro; exact rfl
      · iexact H20
    · iexists o.f21
      isplitr
      · ipureintro; exact rfl
      · iexact H21
  isplitl [H22]
  · iexists (View.read (Elt Ideal) A.a22.view o.f22), o.f22
    isplitr
    · ipureintro; exact rfl
    · iexact H22
  isplitl [H23]
  · iexists (View.read (Elt Ideal) A.a23.view o.f23), o.f23
    isplitr
    · ipureintro; exact rfl
    · iexact H23
  isplitl [H24]
  · iexists (View.read (Elt Ideal) A.a24.view o.f24), o.f24
    isplitr
    · ipureintro; exact rfl
    · iexact H24
  isplitl [H25]
  · iexists o.f25
    isplitr
    · ipureintro; rw [k25]
    · iexact H25
  isplitl [H26]
  · iexists o.f26
    isplitr
    · ipureintro; rw [k26]
    · iexact H26
  · iexists (View.read (Elt Ideal) A.a27.view o.f27), o.f27
    isplitr
    · ipureintro; exact rfl
    · iexact H27

set_option maxHeartbeats 20000000 in
/-- From what the windows hold before the run to what they hold after it. -/
theorem stepB (c : Dev nD) (i : grid0.Coords) (hc0 : ¬ first i) (A : Mem) (x2 : S4.Idx → Elt Ideal .f32) (x3 : S1.Idx → Elt Ideal .f32) (x4 : S1x64x128.Idx → Elt Ideal .fp8e4m3) (x5 : S64x5120.Idx → Elt Ideal .fp8e4m3) (x6 : S1x5120.Idx → Elt Ideal .f32) (x7 : S1x5120.Idx → Elt Ideal .f32) (x8 : S1x2x128x5120.Idx → Elt Ideal .i8) (x9 : S1x2x40x128.Idx → Elt Ideal .f32) (x10 : S1x2x128x5120.Idx → Elt Ideal .i8) (x11 : S1x2x40x128.Idx → Elt Ideal .f32) (x12 : S1x1x5120.Idx → Elt Ideal .f32) (x13 : S1x1x5120.Idx → Elt Ideal .f32) (x14 : S64x5120.Idx → Elt Ideal .fp8e4m3) (x15 : S64x1.Idx → Elt Ideal .f32) (x16 : S64x1.Idx → Elt Ideal .f32) (TT : Fin 3 → Fin 5120 → EReal) (RR : Fin 16 → Fin 5120 → EReal)
    (d25 : S3x8x5120.Idx → Elt Ideal .f32) (d26 : S16x5120.Idx → Elt Ideal .bf16)
    (hT : ∀ (a : Fin 3) (s : Fin 8) (d : Fin 5120), d25 (ix3 a s d) = TT a d) (hR : ∀ (j : Fin 16) (d : Fin 5120), d26 (ix2 j d) = RR j d) (E : Set ℕ) (K : PUnit → sProp 𝕄) :
    iprop((owns (c : Thread nD τ) A.a2 fullShare x2 ∗ owns (c : Thread nD τ) A.a3 fullShare x3 ∗ owns (c : Thread nD τ) A.a4 fullShare x4 ∗ owns (c : Thread nD τ) A.a5 fullShare x5 ∗ owns (c : Thread nD τ) A.a6 fullShare x6 ∗ owns (c : Thread nD τ) A.a7 fullShare x7 ∗ owns (c : Thread nD τ) A.a8 fullShare x8 ∗ owns (c : Thread nD τ) A.a9 fullShare x9 ∗ owns (c : Thread nD τ) A.a10 fullShare x10 ∗ owns (c : Thread nD τ) A.a11 fullShare x11 ∗ owns (c : Thread nD τ) A.a12 fullShare x12 ∗ owns (c : Thread nD τ) A.a13 fullShare x13 ∗ owns (c : Thread nD τ) A.a14 fullShare x14 ∗ owns (c : Thread nD τ) A.a15 fullShare x15 ∗ owns (c : Thread nD τ) A.a16 fullShare x16 ∗ (∃ d, owns (c : Thread nD τ) A.a17 fullShare d) ∗ (∃ d, owns (c : Thread nD τ) A.a18 fullShare d) ∗ (∃ d, owns (c : Thread nD τ) A.a19 fullShare d) ∗ (∃ d, owns (c : Thread nD τ) A.a20 fullShare d) ∗ (∃ d, owns (c : Thread nD τ) A.a21 fullShare d) ∗ (∃ d, owns (c : Thread nD τ) A.a22 fullShare d) ∗ (∃ d, owns (c : Thread nD τ) A.a23 fullShare d) ∗ (∃ d, owns (c : Thread nD τ) A.a24 fullShare d) ∗ owns (c : Thread nD τ) A.a25 fullShare d25 ∗ owns (c : Thread nD τ) A.a26 fullShare d26 ∗ (∃ d, owns (c : Thread nD τ) A.a27 fullShare d))
        ∗ (iprop(owns (c : Thread nD τ) A.a2 fullShare x2 ∗ owns (c : Thread nD τ) A.a3 fullShare x3 ∗ owns (c : Thread nD τ) A.a4 fullShare x4 ∗ owns (c : Thread nD τ) A.a5 fullShare x5 ∗ owns (c : Thread nD τ) A.a6 fullShare x6 ∗ owns (c : Thread nD τ) A.a7 fullShare x7 ∗ owns (c : Thread nD τ) A.a8 fullShare x8 ∗ owns (c : Thread nD τ) A.a9 fullShare x9 ∗ owns (c : Thread nD τ) A.a10 fullShare x10 ∗ owns (c : Thread nD τ) A.a11 fullShare x11 ∗ owns (c : Thread nD τ) A.a12 fullShare x12 ∗ owns (c : Thread nD τ) A.a13 fullShare x13 ∗ owns (c : Thread nD τ) A.a14 fullShare x14 ∗ owns (c : Thread nD τ) A.a15 fullShare x15 ∗ owns (c : Thread nD τ) A.a16 fullShare x16 ∗ (∃ d17 d18 d19 d20 d21, ⌜Outs i x2 x4 x5 x8 x9 x10 x11 x14 x15 x16 TT RR d17 d18 d19 d20 d21⌝ ∗ owns (c : Thread nD τ) A.a17 fullShare d17 ∗ owns (c : Thread nD τ) A.a18 fullShare d18 ∗ owns (c : Thread nD τ) A.a19 fullShare d19 ∗ owns (c : Thread nD τ) A.a20 fullShare d20 ∗ owns (c : Thread nD τ) A.a21 fullShare d21) ∗ (∃ d, owns (c : Thread nD τ) A.a22 fullShare d) ∗ (∃ d, owns (c : Thread nD τ) A.a23 fullShare d) ∗ (∃ d, owns (c : Thread nD τ) A.a24 fullShare d) ∗ owns (c : Thread nD τ) A.a25 fullShare d25 ∗ owns (c : Thread nD τ) A.a26 fullShare d26 ∗ (∃ d, owns (c : Thread nD τ) A.a27 fullShare d)) -∗ K ⟨⟩))
      ⊢ wp frame (wpE (defs₀ (F := Ideal)) Variants.none c none) E (cc0_head i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27) K := by
  have key := stepXB c i hc0 A
  unfold owns at key ⊢
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%f25, %hf25, H25⟩, ⟨%f26, %hf26, H26⟩, ⟨%d27, %f27, -, H27⟩⟩, Hk⟩
  subst hf2
  subst hf3
  subst hf4
  subst hf5
  subst hf6
  subst hf7
  subst hf8
  subst hf9
  subst hf10
  subst hf11
  subst hf12
  subst hf13
  subst hf14
  subst hf15
  subst hf16
  subst hf25
  subst hf26
  iapply (key ⟨f2, f3, f4, f5, f6, f7, f8, f9, f10, f11, f12, f13, f14, f15, f16, f17, f18, f19, f20, f21, f22, f23, f24, f25, f26, f27⟩ TT RR hT hR E K)
  isplitl [H2 H3 H4 H5 H6 H7 H8 H9 H10 H11 H12 H13 H14 H15 H16 H17 H18 H19 H20 H21 H22 H23 H24 H25 H26 H27]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iexact Hk

end Cert.KernelIdeal.Hand
-- ==== Proof.ValSound.lean ====
/- One point of the launch. -/
module

public import proofs.«01_k».proof.Proof.ValDat
public import proofs.«01_k».proof.Proof.ValStepA
public import proofs.«01_k».proof.Proof.ValStepB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (c : Dev nD)

local notation "𝕄" => MT nD τ sig Unit (Elt Ideal) ℕ (UR sig nD τ) ℕ

/-- The operands at a point. -/
abbrev memAt (t : Fin cfg0.N) : Mem :=
  ⟨(win0_0.stage (cfg0.slots t 0)), (hstage0_0 ((cfg0.slots t 0).cast nbuf0_0)), (win0_1.stage (cfg0.slots t 1)), (hstage0_1 ((cfg0.slots t 1).cast nbuf0_1)), (win0_2.stage (cfg0.slots t 2)), (hstage0_2 ((cfg0.slots t 2).cast nbuf0_2)), (win0_3.stage (cfg0.slots t 3)), (hstage0_3 ((cfg0.slots t 3).cast nbuf0_3)), (win0_4.stage (cfg0.slots t 4)), (hstage0_4 ((cfg0.slots t 4).cast nbuf0_4)), (win0_5.stage (cfg0.slots t 5)), (hstage0_5 ((cfg0.slots t 5).cast nbuf0_5)), (win0_6.stage (cfg0.slots t 6)), (hstage0_6 ((cfg0.slots t 6).cast nbuf0_6)), (win0_7.stage (cfg0.slots t 7)), (hstage0_7 ((cfg0.slots t 7).cast nbuf0_7)), (win0_8.stage (cfg0.slots t 8)), (hstage0_8 ((cfg0.slots t 8).cast nbuf0_8)), (win0_9.stage (cfg0.slots t 9)), (hstage0_9 ((cfg0.slots t 9).cast nbuf0_9)), (win0_10.stage (cfg0.slots t 10)), (hstage0_10 ((cfg0.slots t 10).cast nbuf0_10)), (win0_11.stage (cfg0.slots t 11)), (hstage0_11 ((cfg0.slots t 11).cast nbuf0_11)), (win0_12.stage (cfg0.slots t 12)), (hstage0_12 ((cfg0.slots t 12).cast nbuf0_12)), (win0_13.stage (cfg0.slots t 13)), (hstage0_13 ((cfg0.slots t 13).cast nbuf0_13)), (win0_14.stage (cfg0.slots t 14)), (hstage0_14 ((cfg0.slots t 14).cast nbuf0_14)), (win0_15.stage (cfg0.slots t 15)), (hstage0_15 ((cfg0.slots t 15).cast nbuf0_15)), (win0_16.stage (cfg0.slots t 16)), (hstage0_16 ((cfg0.slots t 16).cast nbuf0_16)), (win0_17.stage (cfg0.slots t 17)), (hstage0_17 ((cfg0.slots t 17).cast nbuf0_17)), (win0_18.stage (cfg0.slots t 18)), (hstage0_18 ((cfg0.slots t 18).cast nbuf0_18)), (win0_19.stage (cfg0.slots t 19)), (hstage0_19 ((cfg0.slots t 19).cast nbuf0_19)), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _⟩

set_option maxHeartbeats 20000000 in
/-- From the windows and the scratch operands before a point to those after it. -/
theorem sound_val (t : Fin cfg0.N) (z2 : S1x64x128.Idx → Elt Ideal .fp8e4m3) (z6 : S1x2x128x5120.Idx → Elt Ideal .i8) (z7 : S1x2x40x128.Idx → Elt Ideal .f32) (z8 : S1x2x128x5120.Idx → Elt Ideal .i8) (z9 : S1x2x40x128.Idx → Elt Ideal .f32) (K : PUnit → sProp 𝕄) :
    iprop((ΦT m c t.val ∗ owns (c : Thread nD τ) (win0_0.stage (cfg0.slots t 0)) fullShare (x0 m c t) ∗ owns (c : Thread nD τ) (win0_1.stage (cfg0.slots t 1)) fullShare (x1 m c t) ∗ owns (c : Thread nD τ) (win0_2.stage (cfg0.slots t 2)) fullShare (x2 m c z2 t) ∗ owns (c : Thread nD τ) (win0_3.stage (cfg0.slots t 3)) fullShare (x3 m c t) ∗ owns (c : Thread nD τ) (win0_4.stage (cfg0.slots t 4)) fullShare (x4 m c t) ∗ owns (c : Thread nD τ) (win0_5.stage (cfg0.slots t 5)) fullShare (x5 m c t) ∗ owns (c : Thread nD τ) (win0_6.stage (cfg0.slots t 6)) fullShare (x6 m c z6 t) ∗ owns (c : Thread nD τ) (win0_7.stage (cfg0.slots t 7)) fullShare (x7 m c z7 t) ∗ owns (c : Thread nD τ) (win0_8.stage (cfg0.slots t 8)) fullShare (x8 m c z8 t) ∗ owns (c : Thread nD τ) (win0_9.stage (cfg0.slots t 9)) fullShare (x9 m c z9 t) ∗ owns (c : Thread nD τ) (win0_10.stage (cfg0.slots t 10)) fullShare (x10 m c t) ∗ owns (c : Thread nD τ) (win0_11.stage (cfg0.slots t 11)) fullShare (x11 m c t) ∗ owns (c : Thread nD τ) (win0_12.stage (cfg0.slots t 12)) fullShare (x12 m c t) ∗ owns (c : Thread nD τ) (win0_13.stage (cfg0.slots t 13)) fullShare (x13 m c t) ∗ owns (c : Thread nD τ) (win0_14.stage (cfg0.slots t 14)) fullShare (x14 m c t) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))
        ∗ (iprop(ΦT m c (t.val + 1) ∗ owns (c : Thread nD τ) (win0_0.stage (cfg0.slots t 0)) fullShare (x0 m c t) ∗ owns (c : Thread nD τ) (win0_1.stage (cfg0.slots t 1)) fullShare (x1 m c t) ∗ owns (c : Thread nD τ) (win0_2.stage (cfg0.slots t 2)) fullShare (x2 m c z2 t) ∗ owns (c : Thread nD τ) (win0_3.stage (cfg0.slots t 3)) fullShare (x3 m c t) ∗ owns (c : Thread nD τ) (win0_4.stage (cfg0.slots t 4)) fullShare (x4 m c t) ∗ owns (c : Thread nD τ) (win0_5.stage (cfg0.slots t 5)) fullShare (x5 m c t) ∗ owns (c : Thread nD τ) (win0_6.stage (cfg0.slots t 6)) fullShare (x6 m c z6 t) ∗ owns (c : Thread nD τ) (win0_7.stage (cfg0.slots t 7)) fullShare (x7 m c z7 t) ∗ owns (c : Thread nD τ) (win0_8.stage (cfg0.slots t 8)) fullShare (x8 m c z8 t) ∗ owns (c : Thread nD τ) (win0_9.stage (cfg0.slots t 9)) fullShare (x9 m c z9 t) ∗ owns (c : Thread nD τ) (win0_10.stage (cfg0.slots t 10)) fullShare (x10 m c t) ∗ owns (c : Thread nD τ) (win0_11.stage (cfg0.slots t 11)) fullShare (x11 m c t) ∗ owns (c : Thread nD τ) (win0_12.stage (cfg0.slots t 12)) fullShare (x12 m c t) ∗ owns (c : Thread nD τ) (win0_13.stage (cfg0.slots t 13)) fullShare (x13 m c t) ∗ owns (c : Thread nD τ) (win0_14.stage (cfg0.slots t 14)) fullShare (x14 m c t) ∗ (∃ d, ⌜win0_15.cut (grid0.coords t) d = (win0_15.blk t).view.read (Elt Ideal) (G15 m c)⌝ ∗ owns (c : Thread nD τ) (win0_15.stage (cfg0.slots t 15)) fullShare d) ∗ (∃ d, ⌜win0_16.cut (grid0.coords t) d = (win0_16.blk t).view.read (Elt Ideal) (G16 m c)⌝ ∗ owns (c : Thread nD τ) (win0_16.stage (cfg0.slots t 16)) fullShare d) ∗ (∃ d, ⌜win0_17.cut (grid0.coords t) d = (win0_17.blk t).view.read (Elt Ideal) (G17 m c)⌝ ∗ owns (c : Thread nD τ) (win0_17.stage (cfg0.slots t 17)) fullShare d) ∗ (∃ d, ⌜win0_18.cut (grid0.coords t) d = (win0_18.blk t).view.read (Elt Ideal) (G18 m c)⌝ ∗ owns (c : Thread nD τ) (win0_18.stage (cfg0.slots t 18)) fullShare d) ∗ (∃ d, ⌜win0_19.cut (grid0.coords t) d = (win0_19.blk t).view.read (Elt Ideal) (G19 m c)⌝ ∗ owns (c : Thread nD τ) (win0_19.stage (cfg0.slots t 19)) fullShare d)) -∗ K ⟨⟩))
      ⊢ wp Idealize.ShloMosaic.frame (wpE (defs₀ (F := Ideal)) Variants.none c none) Set.univ (bodyAt0 t) K := by
  unfold ΦT
  rcases first_or (grid0.coords t) with h | h
  · skip
    iintro ⟨⟨⟨S0, S1, S2, ⟨%d25, %hT, S3⟩, ⟨%d26, %hR, S4⟩, S5⟩, H0, H1, H2, H3, H4, H5, H6, H7, H8, H9, H10, H11, H12, H13, H14, H15, H16, H17, H18, H19⟩, Hk⟩
    iapply (stepA c (grid0.coords t) h (memAt t) (x0 m c t) (x1 m c t) (x2 m c z2 t) (x3 m c t) (x4 m c t) (x5 m c t) (x6 m c z6 t) (x7 m c z7 t) (x8 m c z8 t) (x9 m c z9 t) (x10 m c t) (x11 m c t) (x12 m c t) (x13 m c t) (x14 m c t) Set.univ K)
    isplitl [H0 H1 H2 H3 H4 H5 H6 H7 H8 H9 H10 H11 H12 H13 H14 H15 H16 H17 H18 H19 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [S0]; · iexact S0
      isplitl [S1]; · iexact S1
      isplitl [S2]; · iexact S2
      isplitl [S3]; · iexists d25; iexact S3
      isplitl [S4]; · iexists d26; iexact S4
      iexact S5
    iintro ⟨H0, H1, H2, H3, H4, H5, H6, H7, H8, H9, H10, H11, H12, H13, H14, ⟨%d17, %d18, %d19, %d20, %d21, %hO, H15, H16, H17, H18, H19⟩, S0, S1, S2, ⟨%e25, %gT, S3⟩, ⟨%e26, %gR, S4⟩, S5⟩
    iapply Hk
    rw [tab_eq m c t] at hO gT
    rw [rhs_eq m c t] at hO gR
    obtain ⟨g15, g16, g17, g18, g19⟩ := outs_cut m c t z2 z6 z7 z8 z9 d17 d18 d19 d20 d21 hO
    isplitl [S0 S1 S2 S3 S4 S5]
    · isplitl [S0]; · iexact S0
      isplitl [S1]; · iexact S1
      isplitl [S2]; · iexact S2
      isplitl [S3]
      · iexists e25; isplitr
        · ipureintro; exact fun hs a s x => (gT a s x).trans (by rw [fr_succ t hs])
        · iexact S3
      isplitl [S4]
      · iexists e26; isplitr
        · ipureintro; exact fun hs j x => (gR j x).trans (by rw [fr_succ t hs])
        · iexact S4
      iexact S5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists d17; isplitr
      · ipureintro; exact g15
      · iexact H15
    isplitl [H16]
    · iexists d18; isplitr
      · ipureintro; exact g16
      · iexact H16
    isplitl [H17]
    · iexists d19; isplitr
      · ipureintro; exact g17
      · iexact H17
    isplitl [H18]
    · iexists d20; isplitr
      · ipureintro; exact g18
      · iexact H18
    · iexists d21; isplitr
      · ipureintro; exact g19
      · iexact H19
  · have hn : t.val % 37 ≠ 0 := fun e => h ((first_iff t).mpr e)
    iintro ⟨⟨⟨S0, S1, S2, ⟨%d25, %hT, S3⟩, ⟨%d26, %hR, S4⟩, S5⟩, H0, H1, H2, H3, H4, H5, H6, H7, H8, H9, H10, H11, H12, H13, H14, H15, H16, H17, H18, H19⟩, Hk⟩
    iapply (stepB c (grid0.coords t) h (memAt t) (x0 m c t) (x1 m c t) (x2 m c z2 t) (x3 m c t) (x4 m c t) (x5 m c t) (x6 m c z6 t) (x7 m c z7 t) (x8 m c z8 t) (x9 m c z9 t) (x10 m c t) (x11 m c t) (x12 m c t) (x13 m c t) (x14 m c t) (gT m c (bt t)) (gR m c (bt t)) d25 d26 (fun a s d => (hT hn a s d).trans (by rw [fr_bt])) (fun j d => (hR hn j d).trans (by rw [fr_bt])) Set.univ K)
    isplitl [H0 H1 H2 H3 H4 H5 H6 H7 H8 H9 H10 H11 H12 H13 H14 H15 H16 H17 H18 H19 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [S0]; · iexact S0
      isplitl [S1]; · iexact S1
      isplitl [S2]; · iexact S2
      isplitl [S3]; · iexact S3
      isplitl [S4]; · iexact S4
      iexact S5
    iintro ⟨H0, H1, H2, H3, H4, H5, H6, H7, H8, H9, H10, H11, H12, H13, H14, ⟨%d17, %d18, %d19, %d20, %d21, %hO, H15, H16, H17, H18, H19⟩, S0, S1, S2, S3, S4, S5⟩
    iapply Hk
    obtain ⟨g15, g16, g17, g18, g19⟩ := outs_cut m c t z2 z6 z7 z8 z9 d17 d18 d19 d20 d21 hO
    isplitl [S0 S1 S2 S3 S4 S5]
    · isplitl [S0]; · iexact S0
      isplitl [S1]; · iexact S1
      isplitl [S2]; · iexact S2
      isplitl [S3]
      · iexists d25; isplitr
        · ipureintro; exact fun hs a s x => (hT hn a s x).trans (by rw [fr_bt, fr_succ t hs])
        · iexact S3
      isplitl [S4]
      · iexists d26; isplitr
        · ipureintro; exact fun hs j x => (hR hn j x).trans (by rw [fr_bt, fr_succ t hs])
        · iexact S4
      iexact S5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists d17; isplitr
      · ipureintro; exact g15
      · iexact H15
    isplitl [H16]
    · iexists d18; isplitr
      · ipureintro; exact g16
      · iexact H16
    isplitl [H17]
    · iexists d19; isplitr
      · ipureintro; exact g17
      · iexact H17
    isplitl [H18]
    · iexists d20; isplitr
      · ipureintro; exact g18
      · iexact H18
    · iexists d21; isplitr
      · ipureintro; exact g19
      · iexact H19

end Cert.KernelIdeal.Hand
-- ==== Proof.ValLaunch.lean ====
/- The launch: the arrays it leaves. -/
module

public import proofs.«01_k».proof.Proof.ValSound

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

local notation "𝕄" => MT nD τ sig Unit (Elt Ideal) ℕ (UR sig nD τ) ℕ

/-- What the launch keeps besides the scratch operands. -/
def restR (c : Dev nD) : sProp 𝕄 := iprop((∃ r, prngReg c r))

/-- The proof data: the arrays as found, each window's contents after each point, the tables between points. -/
def vdats (_ : Fin 1) (c : Dev nD) : Dat τ (Elt Ideal) Unit ℕ (UR sig nD τ) ℕ cfg0 c where
  A w := V m c (Pipeline.arrRef spec0 w)
  after w t := match w with
    | ⟨0, _⟩ => x0 m c t
    | ⟨1, _⟩ => x1 m c t
    | ⟨2, _⟩ => x2 m c (fun _ => (0 : EReal)) t
    | ⟨3, _⟩ => x3 m c t
    | ⟨4, _⟩ => x4 m c t
    | ⟨5, _⟩ => x5 m c t
    | ⟨6, _⟩ => x6 m c (fun _ => (0#8 : BitVec 8)) t
    | ⟨7, _⟩ => x7 m c (fun _ => (0 : EReal)) t
    | ⟨8, _⟩ => x8 m c (fun _ => (0#8 : BitVec 8)) t
    | ⟨9, _⟩ => x9 m c (fun _ => (0 : EReal)) t
    | ⟨10, _⟩ => x10 m c t
    | ⟨11, _⟩ => x11 m c t
    | ⟨12, _⟩ => x12 m c t
    | ⟨13, _⟩ => x13 m c t
    | ⟨14, _⟩ => x14 m c t
    | ⟨15, _⟩ => y15 m c t
    | ⟨16, _⟩ => y16 m c t
    | ⟨17, _⟩ => y17 m c t
    | ⟨18, _⟩ => y18 m c t
    | ⟨19, _⟩ => y19 m c t
    | ⟨_ + 20, h⟩ => absurd h (Nat.not_lt.2 (Nat.le_add_left _ _))
  Φ n := iprop(ΦT m c n.val ∗ restR c)
  q _ := fullShare
  owed _ := 0

theorem vA_eq (c : Dev nD) (w : Fin cfg0.W) : (vdats m 0 c).A w = V m c (Pipeline.arrRef spec0 w) := by
  dsimp only [vdats]

theorem bef0 (c : Dev nD) (t : Fin cfg0.N) (d) : (vdats m 0 c).before 0 t d = x0 m c t :=
  before0_0_of m (vdats m 0 c) (vA_eq m c 0) (fun _ => rfl) t d
theorem bef1 (c : Dev nD) (t : Fin cfg0.N) (d) : (vdats m 0 c).before 1 t d = x1 m c t :=
  before0_1_of m (vdats m 0 c) (vA_eq m c 1) (fun _ => rfl) t d
theorem bef2 (c : Dev nD) (t : Fin cfg0.N) (d) : (vdats m 0 c).before 2 t d = x2 m c d t := by
  unfold Dat.before; rw [if_pos (fetch0_2 t)]; rfl
theorem bef3 (c : Dev nD) (t : Fin cfg0.N) (d) : (vdats m 0 c).before 3 t d = x3 m c t :=
  before0_3_of m (vdats m 0 c) (vA_eq m c 3) (fun _ => rfl) t d
theorem bef4 (c : Dev nD) (t : Fin cfg0.N) (d) : (vdats m 0 c).before 4 t d = x4 m c t :=
  before0_4_of m (vdats m 0 c) (vA_eq m c 4) (fun _ => rfl) t d
theorem bef5 (c : Dev nD) (t : Fin cfg0.N) (d) : (vdats m 0 c).before 5 t d = x5 m c t :=
  before0_5_of m (vdats m 0 c) (vA_eq m c 5) (fun _ => rfl) t d
theorem bef6 (c : Dev nD) (t : Fin cfg0.N) (d) : (vdats m 0 c).before 6 t d = x6 m c d t := by
  unfold Dat.before; rw [if_pos (fetch0_6 t)]; rfl
theorem bef7 (c : Dev nD) (t : Fin cfg0.N) (d) : (vdats m 0 c).before 7 t d = x7 m c d t := by
  unfold Dat.before; rw [if_pos (fetch0_7 t)]; rfl
theorem bef8 (c : Dev nD) (t : Fin cfg0.N) (d) : (vdats m 0 c).before 8 t d = x8 m c d t := by
  unfold Dat.before; rw [if_pos (fetch0_8 t)]; rfl
theorem bef9 (c : Dev nD) (t : Fin cfg0.N) (d) : (vdats m 0 c).before 9 t d = x9 m c d t := by
  unfold Dat.before; rw [if_pos (fetch0_9 t)]; rfl
theorem bef10 (c : Dev nD) (t : Fin cfg0.N) (d) : (vdats m 0 c).before 10 t d = x10 m c t :=
  before0_10_of m (vdats m 0 c) (vA_eq m c 10) (fun _ => rfl) t d
theorem bef11 (c : Dev nD) (t : Fin cfg0.N) (d) : (vdats m 0 c).before 11 t d = x11 m c t :=
  before0_11_of m (vdats m 0 c) (vA_eq m c 11) (fun _ => rfl) t d
theorem bef12 (c : Dev nD) (t : Fin cfg0.N) (d) : (vdats m 0 c).before 12 t d = x12 m c t :=
  before0_12_of m (vdats m 0 c) (vA_eq m c 12) (fun _ => rfl) t d
theorem bef13 (c : Dev nD) (t : Fin cfg0.N) (d) : (vdats m 0 c).before 13 t d = x13 m c t :=
  before0_13_of m (vdats m 0 c) (vA_eq m c 13) (fun _ => rfl) t d
theorem bef14 (c : Dev nD) (t : Fin cfg0.N) (d) : (vdats m 0 c).before 14 t d = x14 m c t :=
  before0_14_of m (vdats m 0 c) (vA_eq m c 14) (fun _ => rfl) t d
theorem own2 (c : Dev nD) (t : Fin cfg0.N) (e : S1x64x128.Idx → Elt Ideal .fp8e4m3) : (owns (c : Thread nD τ) (win0_2.stage (cfg0.slots t 2)) fullShare (x2 m c e t) : sProp 𝕄)
    ⊢ owns (c : Thread nD τ) (win0_2.stage (cfg0.slots t 2)) fullShare (win0_2.fill (grid0.coords t) e (win0_2.cut (grid0.coords t) ((vdats m 0 c).after 2 t))) := by
  have h : win0_2.fill (grid0.coords t) e (win0_2.cut (grid0.coords t) ((vdats m 0 c).after 2 t)) = x2 m c e t :=
    congrArg (win0_2.fill (grid0.coords t) e) (win0_2.cut_fill (grid0.coords t) _ (iblk m c 2 t))
  rw [h]

theorem own6 (c : Dev nD) (t : Fin cfg0.N) (e : S1x2x128x5120.Idx → Elt Ideal .i8) : (owns (c : Thread nD τ) (win0_6.stage (cfg0.slots t 6)) fullShare (x6 m c e t) : sProp 𝕄)
    ⊢ owns (c : Thread nD τ) (win0_6.stage (cfg0.slots t 6)) fullShare (win0_6.fill (grid0.coords t) e (win0_6.cut (grid0.coords t) ((vdats m 0 c).after 6 t))) := by
  have h : win0_6.fill (grid0.coords t) e (win0_6.cut (grid0.coords t) ((vdats m 0 c).after 6 t)) = x6 m c e t :=
    congrArg (win0_6.fill (grid0.coords t) e) (win0_6.cut_fill (grid0.coords t) _ (iblk m c 6 t))
  rw [h]

theorem own7 (c : Dev nD) (t : Fin cfg0.N) (e : S1x2x40x128.Idx → Elt Ideal .f32) : (owns (c : Thread nD τ) (win0_7.stage (cfg0.slots t 7)) fullShare (x7 m c e t) : sProp 𝕄)
    ⊢ owns (c : Thread nD τ) (win0_7.stage (cfg0.slots t 7)) fullShare (win0_7.fill (grid0.coords t) e (win0_7.cut (grid0.coords t) ((vdats m 0 c).after 7 t))) := by
  have h : win0_7.fill (grid0.coords t) e (win0_7.cut (grid0.coords t) ((vdats m 0 c).after 7 t)) = x7 m c e t :=
    congrArg (win0_7.fill (grid0.coords t) e) (win0_7.cut_fill (grid0.coords t) _ (iblk m c 7 t))
  rw [h]

theorem own8 (c : Dev nD) (t : Fin cfg0.N) (e : S1x2x128x5120.Idx → Elt Ideal .i8) : (owns (c : Thread nD τ) (win0_8.stage (cfg0.slots t 8)) fullShare (x8 m c e t) : sProp 𝕄)
    ⊢ owns (c : Thread nD τ) (win0_8.stage (cfg0.slots t 8)) fullShare (win0_8.fill (grid0.coords t) e (win0_8.cut (grid0.coords t) ((vdats m 0 c).after 8 t))) := by
  have h : win0_8.fill (grid0.coords t) e (win0_8.cut (grid0.coords t) ((vdats m 0 c).after 8 t)) = x8 m c e t :=
    congrArg (win0_8.fill (grid0.coords t) e) (win0_8.cut_fill (grid0.coords t) _ (iblk m c 8 t))
  rw [h]

theorem own9 (c : Dev nD) (t : Fin cfg0.N) (e : S1x2x40x128.Idx → Elt Ideal .f32) : (owns (c : Thread nD τ) (win0_9.stage (cfg0.slots t 9)) fullShare (x9 m c e t) : sProp 𝕄)
    ⊢ owns (c : Thread nD τ) (win0_9.stage (cfg0.slots t 9)) fullShare (win0_9.fill (grid0.coords t) e (win0_9.cut (grid0.coords t) ((vdats m 0 c).after 9 t))) := by
  have h : win0_9.fill (grid0.coords t) e (win0_9.cut (grid0.coords t) ((vdats m 0 c).after 9 t)) = x9 m c e t :=
    congrArg (win0_9.fill (grid0.coords t) e) (win0_9.cut_fill (grid0.coords t) _ (iblk m c 9 t))
  rw [h]

theorem own15 (c : Dev nD) (t : Fin cfg0.N) (d : S1x2x128x5120.Idx → Elt Ideal .fp8e4m3) (g : win0_15.cut (grid0.coords t) d = (win0_15.blk t).view.read (Elt Ideal) (G15 m c)) : (owns (c : Thread nD τ) (win0_15.stage (cfg0.slots t 15)) fullShare d : sProp 𝕄)
    ⊢ owns (c : Thread nD τ) (win0_15.stage (cfg0.slots t 15)) fullShare (win0_15.fill (grid0.coords t) d (win0_15.cut (grid0.coords t) ((vdats m 0 c).after 15 t))) := by
  have h : win0_15.fill (grid0.coords t) d (win0_15.cut (grid0.coords t) ((vdats m 0 c).after 15 t)) = d := by
    show win0_15.fill (grid0.coords t) d (win0_15.cut (grid0.coords t) (win0_15.fill (grid0.coords t) _ ((win0_15.blk t).view.read (Elt Ideal) (G15 m c)))) = d
    rw [win0_15.cut_fill, ← g, win0_15.fill_cut]
  rw [h]

theorem own16 (c : Dev nD) (t : Fin cfg0.N) (d : S1x2x1x128.Idx → Elt Ideal .f32) (g : win0_16.cut (grid0.coords t) d = (win0_16.blk t).view.read (Elt Ideal) (G16 m c)) : (owns (c : Thread nD τ) (win0_16.stage (cfg0.slots t 16)) fullShare d : sProp 𝕄)
    ⊢ owns (c : Thread nD τ) (win0_16.stage (cfg0.slots t 16)) fullShare (win0_16.fill (grid0.coords t) d (win0_16.cut (grid0.coords t) ((vdats m 0 c).after 16 t))) := by
  have h : win0_16.fill (grid0.coords t) d (win0_16.cut (grid0.coords t) ((vdats m 0 c).after 16 t)) = d := by
    show win0_16.fill (grid0.coords t) d (win0_16.cut (grid0.coords t) (win0_16.fill (grid0.coords t) _ ((win0_16.blk t).view.read (Elt Ideal) (G16 m c)))) = d
    rw [win0_16.cut_fill, ← g, win0_16.fill_cut]
  rw [h]

theorem own17 (c : Dev nD) (t : Fin cfg0.N) (d : S1x2x64x128.Idx → Elt Ideal .f32) (g : win0_17.cut (grid0.coords t) d = (win0_17.blk t).view.read (Elt Ideal) (G17 m c)) : (owns (c : Thread nD τ) (win0_17.stage (cfg0.slots t 17)) fullShare d : sProp 𝕄)
    ⊢ owns (c : Thread nD τ) (win0_17.stage (cfg0.slots t 17)) fullShare (win0_17.fill (grid0.coords t) d (win0_17.cut (grid0.coords t) ((vdats m 0 c).after 17 t))) := by
  have h : win0_17.fill (grid0.coords t) d (win0_17.cut (grid0.coords t) ((vdats m 0 c).after 17 t)) = d := by
    show win0_17.fill (grid0.coords t) d (win0_17.cut (grid0.coords t) (win0_17.fill (grid0.coords t) _ ((win0_17.blk t).view.read (Elt Ideal) (G17 m c)))) = d
    rw [win0_17.cut_fill, ← g, win0_17.fill_cut]
  rw [h]

theorem own18 (c : Dev nD) (t : Fin cfg0.N) (d : S1x1x128.Idx → Elt Ideal .f32) (g : win0_18.cut (grid0.coords t) d = (win0_18.blk t).view.read (Elt Ideal) (G18 m c)) : (owns (c : Thread nD τ) (win0_18.stage (cfg0.slots t 18)) fullShare d : sProp 𝕄)
    ⊢ owns (c : Thread nD τ) (win0_18.stage (cfg0.slots t 18)) fullShare (win0_18.fill (grid0.coords t) d (win0_18.cut (grid0.coords t) ((vdats m 0 c).after 18 t))) := by
  have h : win0_18.fill (grid0.coords t) d (win0_18.cut (grid0.coords t) ((vdats m 0 c).after 18 t)) = d := by
    show win0_18.fill (grid0.coords t) d (win0_18.cut (grid0.coords t) (win0_18.fill (grid0.coords t) _ ((win0_18.blk t).view.read (Elt Ideal) (G18 m c)))) = d
    rw [win0_18.cut_fill, ← g, win0_18.fill_cut]
  rw [h]

theorem own19 (c : Dev nD) (t : Fin cfg0.N) (d : S1x1x128.Idx → Elt Ideal .f32) (g : win0_19.cut (grid0.coords t) d = (win0_19.blk t).view.read (Elt Ideal) (G19 m c)) : (owns (c : Thread nD τ) (win0_19.stage (cfg0.slots t 19)) fullShare d : sProp 𝕄)
    ⊢ owns (c : Thread nD τ) (win0_19.stage (cfg0.slots t 19)) fullShare (win0_19.fill (grid0.coords t) d (win0_19.cut (grid0.coords t) ((vdats m 0 c).after 19 t))) := by
  have h : win0_19.fill (grid0.coords t) d (win0_19.cut (grid0.coords t) ((vdats m 0 c).after 19 t)) = d := by
    show win0_19.fill (grid0.coords t) d (win0_19.cut (grid0.coords t) (win0_19.fill (grid0.coords t) _ ((win0_19.blk t).view.read (Elt Ideal) (G19 m c)))) = d
    rw [win0_19.cut_fill, ← g, win0_19.fill_cut]
  rw [h]

set_option maxHeartbeats 20000000 in
/-- Every point keeps to the proof data. -/
theorem vbody (c : Dev nD) : Pipeline.BodyObligationLoose (vdats m 0 c) (defs₀ (F := Ideal)) Variants.none () Set.univ := fun t => by
  rw [bigSep_W0, bigSep_W0, body_row]
  simp only
  rw [show (vdats m 0 c).owesAt () t.succ = (vdats m 0 c).owesAt () t.castSucc from rfl,
    show (vdats m 0 c).Φ t.castSucc = iprop(ΦT m c t.val ∗ restR c) from rfl, show (vdats m 0 c).Φ t.succ = iprop(ΦT m c (t.val + 1) ∗ restR c) from rfl]
  iintro ⟨⟨HT, HR⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩⟩
  rw [bef0 m c t e0, bef1 m c t e1, bef2 m c t e2, bef3 m c t e3, bef4 m c t e4, bef5 m c t e5, bef6 m c t e6, bef7 m c t e7, bef8 m c t e8, bef9 m c t e9, bef10 m c t e10, bef11 m c t e11, bef12 m c t e12, bef13 m c t e13, bef14 m c t e14]
  iapply (sound_val m c t e2 e6 e7 e8 e9 _)
  isplitl [HT H0 H1 H2 H3 H4 H5 H6 H7 H8 H9 H10 H11 H12 H13 H14 H15 H16 H17 H18 H19]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; iexact H15
    isplitl [H16]
    · iexists _; iexact H16
    isplitl [H17]
    · iexists _; iexact H17
    isplitl [H18]
    · iexists _; iexact H18
    · iexists _; iexact H19
  iintro ⟨HT, H0, H1, H2, H3, H4, H5, H6, H7, H8, H9, H10, H11, H12, H13, H14, ⟨%d15, %g15, H15⟩, ⟨%d16, %g16, H16⟩, ⟨%d17, %g17, H17⟩, ⟨%d18, %g18, H18⟩, ⟨%d19, %g19, H19⟩⟩
  isplitl [HT HR]
  · isplitl [HT]; · iexact HT
    iexact HR
  isplitl [Ho]; · iexact Ho
  isplitl [H0]; · iexact H0
  isplitl [H1]; · iexact H1
  isplitl [H2]
  · iexists e2
    iapply (own2 m c t e2)
    iexact H2
  isplitl [H3]; · iexact H3
  isplitl [H4]; · iexact H4
  isplitl [H5]; · iexact H5
  isplitl [H6]
  · iexists e6
    iapply (own6 m c t e6)
    iexact H6
  isplitl [H7]
  · iexists e7
    iapply (own7 m c t e7)
    iexact H7
  isplitl [H8]
  · iexists e8
    iapply (own8 m c t e8)
    iexact H8
  isplitl [H9]
  · iexists e9
    iapply (own9 m c t e9)
    iexact H9
  isplitl [H10]; · iexact H10
  isplitl [H11]; · iexact H11
  isplitl [H12]; · iexact H12
  isplitl [H13]; · iexact H13
  isplitl [H14]; · iexact H14
  isplitl [H15]
  · iexists d15
    iapply (own15 m c t d15 g15)
    iexact H15
  isplitl [H16]
  · iexists d16
    iapply (own16 m c t d16 g16)
    iexact H16
  isplitl [H17]
  · iexists d17
    iapply (own17 m c t d17 g17)
    iexact H17
  isplitl [H18]
  · iexists d18
    iapply (own18 m c t d18 g18)
    iexact H18
  · iexists d19
    iapply (own19 m c t d19 g19)
    iexact H19

theorem vin (c : Dev nD) : Pipeline.ΦA spec0 c ⊢ (vdats m 0 c).Φ 0 := by
  rw [show (vdats m 0 c).Φ 0 = iprop(ΦT m c 0 ∗ restR c) from rfl, rest_eq]
  unfold ΦT restR
  iintro ⟨⟨S0, S1, S2, ⟨%d3, S3⟩, ⟨%d4, S4⟩, S5⟩, HR⟩
  isplitl [S0 S1 S2 S3 S4 S5]
  · isplitl [S0]; · iexact S0
    isplitl [S1]; · iexact S1
    isplitl [S2]; · iexact S2
    isplitl [S3]
    · iexists d3; isplitr
      · ipureintro; exact fun h => absurd rfl h
      · iexact S3
    isplitl [S4]
    · iexists d4; isplitr
      · ipureintro; exact fun h => absurd rfl h
      · iexact S4
    iexact S5
  iexact HR

theorem vout (c : Dev nD) : (vdats m 0 c).Φ (Fin.last cfg0.N) ⊢ Pipeline.ΦA spec0 c := by
  rw [show (vdats m 0 c).Φ (Fin.last cfg0.N) = iprop(ΦT m c cfg0.N ∗ restR c) from rfl, rest_eq]
  unfold ΦT restR
  iintro ⟨⟨S0, S1, S2, ⟨%d3, %h3, S3⟩, ⟨%d4, %h4, S4⟩, S5⟩, HR⟩
  isplitl [S0 S1 S2 S3 S4 S5]
  · isplitl [S0]; · iexact S0
    isplitl [S1]; · iexact S1
    isplitl [S2]; · iexact S2
    isplitl [S3]; · iexists d3; iexact S3
    isplitl [S4]; · iexists d4; iexact S4
    iexact S5
  iexact HR

set_option backward.isDefEq.respectTransparency.types false in
/-- The launch, with the arrays it leaves. -/
theorem run_val : θ_run defs (onTc (τ := τ) (main (F := Ideal))) (s₀ m ρ) (fun r => Pipeline.FramePost cfgs (vdats m) (0 : Fin 1) (V m) r ∧ r.2.sem = fun _ => 0) :=
  Pipeline.θ_run_frame_track (Q' := _) cfgs (vdats m) (0 : Fin 1) launch0 defs₀ Variants.none m ρ main
    (hbody := fun c => vbody m c) (hshare := fun c => (vdats m 0 c).share_full fun _ => rfl)
    (howed := fun _ _ => rfl) (V := V m) (hmain := hmain m Variants.none) (hA := vA_eq m) (hin := vin m) (hout := vout m)

theorem final15 (c : Dev nD) : (vdats m 0 c).arrAt 15 (cfgs 0).N = G15 m c := by
  refine (vdats m 0 c).arrAt_eq_of_covers 15 _ (by decide +kernel) fun t hf y => ?_
  exact win0_15.fill_xinj (grid0.coords t) (fun _ => (0 : EReal)) ((win0_15.blk t).view.read (Elt Ideal) (G15 m c)) y
theorem final16 (c : Dev nD) : (vdats m 0 c).arrAt 16 (cfgs 0).N = G16 m c := by
  refine (vdats m 0 c).arrAt_eq_of_covers 16 _ (by decide +kernel) fun t hf y => ?_
  exact win0_16.fill_xinj (grid0.coords t) (fun _ => (0 : EReal)) ((win0_16.blk t).view.read (Elt Ideal) (G16 m c)) y
theorem final17 (c : Dev nD) : (vdats m 0 c).arrAt 17 (cfgs 0).N = G17 m c := by
  refine (vdats m 0 c).arrAt_eq_of_covers 17 _ (by decide +kernel) fun t hf y => ?_
  exact win0_17.fill_xinj (grid0.coords t) (fun _ => (0 : EReal)) ((win0_17.blk t).view.read (Elt Ideal) (G17 m c)) y
theorem final18 (c : Dev nD) : (vdats m 0 c).arrAt 18 (cfgs 0).N = G18 m c := by
  refine (vdats m 0 c).arrAt_eq_of_covers 18 _ (by decide +kernel) fun t hf y => ?_
  exact win0_18.fill_xinj (grid0.coords t) (fun _ => (0 : EReal)) ((win0_18.blk t).view.read (Elt Ideal) (G18 m c)) y
theorem final19 (c : Dev nD) : (vdats m 0 c).arrAt 19 (cfgs 0).N = G19 m c := by
  refine (vdats m 0 c).arrAt_eq_of_covers 19 _ (by decide +kernel) fun t hf y => ?_
  exact win0_19.fill_xinj (grid0.coords t) (fun _ => (0 : EReal)) ((win0_19.blk t).view.read (Elt Ideal) (G19 m c)) y

end Cert.KernelIdeal.Hand
-- ==== Proof.KerRun.lean ====
/- What the arrays of the kernel hold at the end of its run. -/
module

public import proofs.«01_k».proof.Proof.ValLaunch
public import proofs.«01_k».proof.Proof.KernelIdealFrame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The run of the kernel: its results, and its arguments unchanged. -/
theorem ker_run : θ_run defs (onTc (τ := τ) (main (F := Ideal))) ⟨m, fun _ => 0, ρ⟩ (fun r => ∀ c : Dev nD,
      r.2.mem ((c.tc : Thread nD τ).loc main_v18_0) = G15 m c ∧ r.2.mem ((c.tc : Thread nD τ).loc main_v18_1) = G16 m c ∧ r.2.mem ((c.tc : Thread nD τ).loc main_v18_2) = G17 m c
      ∧ r.2.mem ((c.tc : Thread nD τ).loc main_v18_3) = G18 m c ∧ r.2.mem ((c.tc : Thread nD τ).loc main_v18_4) = G19 m c
      ∧ r.2.mem ((c.tc : Thread nD τ).loc main_v9) = aPT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h.1.1 c).1 15).trans (final15 m c), ((h.1.1 c).1 16).trans (final16 m c), ((h.1.1 c).1 17).trans (final17 m c),
    ((h.1.1 c).1 18).trans (final18 m c), ((h.1.1 c).1 19).trans (final19 m c),
    ((h.1.1 c).1 2).trans (((vdats m 0 c).arrAt_in 2 rfl _).trans (vA_eq m c 2)), h.2.1 c⟩)
    (θ_run_and (run_val m ρ) (frame m ρ))

end Cert.KernelIdeal.Hand
-- ==== Proof.RefRow.lean ====
/- One row of the layer in plain words: the mean, the variance, the modulated values, their scale, their codes and the head. -/
module

public import Idealize.ShloMosaic.PureOps.Ideal
public import Idealize.ShloMosaic.Lib.Claim
public import Idealize.ShloMosaic.Lib.Tactic
public import Idealize.ShloMosaic.Lib.Pipeline

@[expose] public section

set_option maxRecDepth 16384

noncomputable section

namespace Cert.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The largest code, the smallest code, and a value cut to the range between them. -/
def qhi : EReal := Ideal.ofBits .f32 0x43E00000#32
def qlo : EReal := Ideal.ofBits .f32 0xC3E00000#32
def clipr (v : EReal) : EReal := min qhi (max qlo v)
/-- The scale of a row whose largest magnitude is `a`. -/
def sclr (a : EReal) : EReal := if 0 < a then Ideal.div a qhi else 1
/-- The largest magnitude of a row. -/
def amax (f : Fin 5120 → EReal) : EReal := Finset.fold max (Ideal.ofBits .f32 0xFF800000#32) (fun d => FloatOps.absf (F := Ideal) (φ := .f32) (f d)) Finset.univ

section
variable (H S B : Fin 5120 → EReal)

/-- The width of a row, and the number added to a variance. -/
def nW : EReal := Ideal.ofBits .f32 0x45A00000#32
def eps : EReal := Ideal.ofBits .f32 0x358637BD#32
/-- The mean of a row, its distances from the mean, and the mean of their squares. -/
def pMu : EReal := Ideal.div (∑ d, H d) nW
def pDf (d : Fin 5120) : EReal := H d - pMu H
def pVar : EReal := Ideal.div (∑ d, pDf H d * pDf H d) nW
/-- The modulated row: normalised, scaled and shifted. -/
def pHm (d : Fin 5120) : EReal := Ideal.div (pDf H d) (Ideal.sqrt (pVar H + eps)) * (Ideal.ofBits .f32 0x3F800000#32 + S d) + B d
/-- The largest magnitude of the modulated row. -/
def pAm : EReal := amax fun d => pHm H S B d
/-- The scale of the row. -/
def pSc : EReal := sclr (pAm H S B)
/-- The codes of the row. -/
def pQ (d : Fin 5120) : EReal := clipr (Ideal.div (pHm H S B d) (pSc H S B))
/-- A head output of the row. -/
def pO (wh : Fin 64 → Fin 5120 → EReal) (sh bh : Fin 64 → EReal) (o : Fin 64) : EReal := (∑ d, pQ H S B d * wh o d) * pSc H S B * sh o + bh o
end

end Cert.Row
-- ==== Proof.RefPayA.lean ====
/- The vector operations of the reference, read at one index. -/
module

public import proofs.«01_k».proof.Proof.RefRow
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.Row

theorem P1 (v0 : Vec Ideal S4x4680x64 .fp8e4m3) (v3 : Vec Ideal S64x5120 .fp8e4m3) (v6 : Vec Ideal S1x1 .f32) (v10 : Vec Ideal S1x5120 .f32) (v14 : Vec Ideal S1x5120 .f32) (v19 : Vec Ideal S4x2x4680x5120 .f32) (v23 : Vec Ideal S4x1x1x1 .f32) (v25 : Vec Ideal S4x2x4680x5120 .f32)
    (a : Fin 4) (b : Fin 2) (n : Fin 4680) (d : Fin 5120) : (k0_pay1 v0 v3 v6 v10 v14 v19 v23 v25 (ix4 a b n d) : EReal)
      = ((∑ p : Fin 64, (v0 (ix3 a n p) : EReal) * v3 (ix2 p d)) * v6 (ix2 0 0) * v10 (ix2 0 d) + v14 (ix2 0 d)) + v19 (ix4 a b n d) + v23 (ix4 a 0 0 0) * v25 (ix4 a b n d) := by
  pointwise [k0_pay1]

theorem P2 (v0 : Vec Ideal S4x4680x64 .fp8e4m3) (v3 : Vec Ideal S64x5120 .fp8e4m3) (v6 : Vec Ideal S1x1 .f32) (v10 : Vec Ideal S1x5120 .f32) (v14 : Vec Ideal S1x5120 .f32) (v19 : Vec Ideal S4x2x4680x5120 .f32) (v23 : Vec Ideal S4x1x1x1 .f32) (v25 : Vec Ideal S4x2x4680x5120 .f32)
    (a : Fin 4) (b : Fin 2) (n : Fin 4680) : (k0_pay2 v0 v3 v6 v10 v14 v19 v23 v25 (ix4 a b n 0) : EReal)
      = Ideal.div (∑ d : Fin 5120, (k0_pay1 v0 v3 v6 v10 v14 v19 v23 v25 (ix4 a b n d) : EReal)) nW := by
  pointwise [k0_pay2]
  rfl

variable (v29 : FVec Ideal S4x2x4680x5120 .f32) (v33 : FVec Ideal S4x2x4680x1 .f32) (v46 v52 : Vec Ideal S4x1x1x5120 .f32)

theorem P3 (a : Fin 4) (b : Fin 2) (n : Fin 4680) (d : Fin 5120) : (k0_pay3 v29 v33 v46 v52 (ix4 a b n d) : EReal)
    = Ideal.div ((v29 (ix4 a b n d) : EReal) - v33 (ix4 a b n 0)) (Ideal.sqrt (Ideal.div (∑ x : Fin 5120, ((v29 (ix4 a b n x) : EReal) - v33 (ix4 a b n 0)) * ((v29 (ix4 a b n x) : EReal) - v33 (ix4 a b n 0))) nW + eps))
      * (Ideal.ofBits .f32 0x3F800000#32 + v46 (ix4 a 0 0 d)) + v52 (ix4 a 0 0 d) := by
  pointwise [k0_pay3]
  rfl

end Cert.ReferenceIdeal.Hand
-- ==== Proof.RefPayB.lean ====
/- The scale, the codes and the head of the reference, read at one index. -/
module

public import proofs.«01_k».proof.Proof.RefPayA

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.Row

variable (v29 : FVec Ideal S4x2x4680x5120 .f32) (v33 : FVec Ideal S4x2x4680x1 .f32) (v46 v52 : Vec Ideal S4x1x1x5120 .f32)

theorem mx_i (x y : FVec Ideal S4x2x4680x5120 .f32) (j) : (maximumf x y j : EReal) = max (x j) (y j) := rfl
theorem mn_i (x y : FVec Ideal S4x2x4680x5120 .f32) (j) : (minimumf x y j : EReal) = min (x j) (y j) := rfl
theorem tr_i (x : FVec Ideal S4x2x4680x5120 .f32) (j) : (truncf .fp8e4m3 x bitsLt_fp8e4m3_f32 j : EReal) = x j := rfl
theorem hi_i : (FloatOps.ofBits .f32 0x43E00000#32 : Ideal .f32) = qhi := rfl
theorem lo_i : (FloatOps.ofBits .f32 0xC3E00000#32 : Ideal .f32) = qlo := rfl
theorem br_i {s : Shape} (x : Ideal .f32) (j : s.Idx) : (broadcast s x j : EReal) = x := rfl
theorem dv_i (x : FVec Ideal S4x2x4680x5120 .f32) (u : FVec Ideal S4x2x4680x1 .f32) (a : Fin 4) (b : Fin 2) (n : Fin 4680) (d : Fin 5120) :
    (divf x (broadcastTo S4x2x4680x5120 u broadcasts_S4x2x4680x1_S4x2x4680x5120) (ix4 a b n d) : EReal) = Ideal.div (x (ix4 a b n d)) (u (ix4 a b n 0)) := by pointwise
theorem sc_i (x : FVec Ideal S4x2x4680x1 .f32) (j) : (select (cmpf .ogt x (broadcast S4x2x4680x1 (FloatOps.ofBits .f32 0x00000000#32 : Ideal .f32))) (divf x (broadcast S4x2x4680x1 (FloatOps.ofBits .f32 0x43E00000#32 : Ideal .f32))) (broadcast S4x2x4680x1 (FloatOps.ofBits .f32 0x3F800000#32 : Ideal .f32)) j : EReal) = sclr (x j) := by
  pointwise
  rfl

theorem am_i (w : FVec Ideal S4x2x4680x5120 .f32) (a : Fin 4) (b : Fin 2) (n : Fin 4680) : (shapeCast S4x2x4680x1 (multiReduction .maximumf [3] S4x2x4680 (absf w) 0xFF800000#32 reduces_S4x2x4680x5120_S4x2x4680 (.inl rfl) rfl : FVec Ideal S4x2x4680 .f32) shapeCasts_S4x2x4680_S4x2x4680x1 (ix4 a b n 0) : EReal) = amax fun d => w (ix4 a b n d) := by
  unfold amax
  pointwise

theorem P4 (a : Fin 4) (b : Fin 2) (n : Fin 4680) : (k0_pay4 v29 v33 v46 v52 (ix4 a b n 0) : EReal)
    = sclr (amax fun d => k0_pay3 v29 v33 v46 v52 (ix4 a b n d)) := by
  unfold k0_pay4
  generalize k0_pay3 v29 v33 v46 v52 = w
  exact (sc_i _ (ix4 a b n 0)).trans (congrArg sclr (am_i w a b n))

theorem P5 (a : Fin 4) (b : Fin 2) (n : Fin 4680) (d : Fin 5120) : (k0_pay5 v29 v33 v46 v52 (ix4 a b n d) : EReal)
    = clipr (Ideal.div (k0_pay3 v29 v33 v46 v52 (ix4 a b n d)) (k0_pay4 v29 v33 v46 v52 (ix4 a b n 0))) := by
  unfold k0_pay5
  generalize k0_pay4 v29 v33 v46 v52 = u
  generalize k0_pay3 v29 v33 v46 v52 = w
  rw [tr_i, mn_i, mx_i, dv_i, br_i, br_i, hi_i, lo_i]
  rfl

/-- Row `(a, b, n)` of the flattened rows. -/
def flat (a : Fin 4) (b : Fin 2) (n : Fin 4680) : Fin 37440 := ⟨a.val * 9360 + b.val * 4680 + n.val, by omega⟩

theorem P6 (a : Fin 4) (b : Fin 2) (n : Fin 4680) (d : Fin 5120) : (k0_pay6 v29 v33 v46 v52 (ix2 (flat a b n) d) : EReal) = k0_pay5 v29 v33 v46 v52 (ix4 a b n d) := by
  unfold flat
  pointwise [k0_pay6]

variable (v64 : FVec Ideal S4x2x4680x1 .f32) (v72 : FVec Ideal S37440x5120 .fp8e4m3) (v73 : Vec Ideal S5120x64 .fp8e4m3) (v78 v83 : Vec Ideal S1x64 .f32)

theorem P7 (a : Fin 4) (b : Fin 2) (n : Fin 4680) (o : Fin 64) : (k0_pay7 v64 v72 v73 v78 v83 (ix4 a b n o) : EReal)
    = (∑ d : Fin 5120, (v72 (ix2 (flat a b n) d) : EReal) * v73 (ix2 d o)) * v64 (ix4 a b n 0) * v78 (ix2 0 o) + v83 (ix2 0 o) := by
  unfold flat
  pointwise [k0_pay7]

theorem P8 (a : Fin 4) (n : Fin 4680) : (k0_pay8 v64 v72 v73 v78 v83 (ix3 a n 0) : EReal)
    = ∑ o : Fin 64, (k0_pay7 v64 v72 v73 v78 v83 (ix4 a 0 n o) : EReal) * k0_pay7 v64 v72 v73 v78 v83 (ix4 a 1 n o) := by
  pointwise [k0_pay8]

theorem P9 (a : Fin 4) (n : Fin 4680) : (k0_pay9 v64 v72 v73 v78 v83 (ix3 a n 0) : EReal)
    = ∑ o : Fin 64, (k0_pay7 v64 v72 v73 v78 v83 (ix4 a 1 n o) : EReal) * k0_pay7 v64 v72 v73 v78 v83 (ix4 a 1 n o) := by
  pointwise [k0_pay9]

end Cert.ReferenceIdeal.Hand
-- ==== Proof.RefOut.lean ====
/- What the reference leaves in each of its outputs, row by row. -/
module

public import proofs.«01_k».proof.Proof.RefPayB

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.Row

section
variable (v29 : FVec Ideal S4x2x4680x5120 .f32) (v33 : FVec Ideal S4x2x4680x1 .f32) (v46 v52 : Vec Ideal S4x1x1x5120 .f32) (a : Fin 4) (b : Fin 2) (n : Fin 4680)
variable (H : Fin 5120 → EReal) (h1 : ∀ d, (v29 (ix4 a b n d) : EReal) = H d) (h2 : (v33 (ix4 a b n 0) : EReal) = pMu H)
include h1 h2

theorem Q3 (d : Fin 5120) : (k0_pay3 v29 v33 v46 v52 (ix4 a b n d) : EReal) = pHm H (fun d => v46 (ix4 a 0 0 d)) (fun d => v52 (ix4 a 0 0 d)) d := by
  rw [P3]
  simp only [h1, h2]
  rfl

theorem Q4 : (k0_pay4 v29 v33 v46 v52 (ix4 a b n 0) : EReal) = pSc H (fun d => v46 (ix4 a 0 0 d)) (fun d => v52 (ix4 a 0 0 d)) :=
  (P4 v29 v33 v46 v52 a b n).trans (congrArg (fun f => sclr (amax f)) (funext (Q3 v29 v33 v46 v52 a b n H h1 h2)))

theorem Q5 (d : Fin 5120) : (k0_pay5 v29 v33 v46 v52 (ix4 a b n d) : EReal) = pQ H (fun d => v46 (ix4 a 0 0 d)) (fun d => v52 (ix4 a 0 0 d)) d := by
  rw [P5, Q3 v29 v33 v46 v52 a b n H h1 h2 d, Q4 v29 v33 v46 v52 a b n H h1 h2]
  rfl

theorem Q7 (v73 : Vec Ideal S5120x64 .fp8e4m3) (v78 v83 : Vec Ideal S1x64 .f32) (o : Fin 64) :
    (k0_pay7 (k0_pay4 v29 v33 v46 v52) (k0_pay6 v29 v33 v46 v52) v73 v78 v83 (ix4 a b n o) : EReal)
      = pO H (fun d => v46 (ix4 a 0 0 d)) (fun d => v52 (ix4 a 0 0 d)) (fun o d => v73 (ix2 d o)) (fun o => v78 (ix2 0 o)) (fun o => v83 (ix2 0 o)) o := by
  rw [P7, Q4 v29 v33 v46 v52 a b n H h1 h2]
  simp only [P6, Q5 v29 v33 v46 v52 a b n H h1 h2]
  rfl
end

section
variable (x0 : Vec Ideal S4x4680x64 .fp8e4m3) (x1 : Vec Ideal S1x1 .f32) (x2 : Vec Ideal S64x5120 .fp8e4m3) (x3 : Vec Ideal S1x5120 .f32) (x4 : Vec Ideal S1x5120 .f32) (x5 : Vec Ideal S4x2x4680x5120 .f32) (x6 : Vec Ideal S4x2x4680x5120 .f32) (x7 : Vec Ideal S4x1x1x1 .f32) (x8 : Vec Ideal S4x1x1x5120 .f32) (x9 : Vec Ideal S4x1x1x5120 .f32) (x10 : Vec Ideal S5120x64 .fp8e4m3) (x11 : Vec Ideal S1x64 .f32) (x12 : Vec Ideal S1x64 .f32)
theorem e0 : View.ld x0 r0_0 = x0 := View.ld_unit_zero (by funext a; fin_cases a <;> rfl) _ x0
theorem e1 : View.ld x1 r0_2 = x1 := View.ld_unit_zero (by funext a; fin_cases a <;> rfl) _ x1
theorem e2 : View.ld x2 r0_1 = x2 := View.ld_unit_zero (by funext a; fin_cases a <;> rfl) _ x2
theorem e3 : View.ld x3 r0_3 = x3 := View.ld_unit_zero (by funext a; fin_cases a <;> rfl) _ x3
theorem e4 : View.ld x4 r0_3 = x4 := View.ld_unit_zero (by funext a; fin_cases a <;> rfl) _ x4
theorem e5 : View.ld x5 r0_4 = x5 := View.ld_unit_zero (by funext a; fin_cases a <;> rfl) _ x5
theorem e6 : View.ld x6 r0_4 = x6 := View.ld_unit_zero (by funext a; fin_cases a <;> rfl) _ x6
theorem e7 : View.ld x7 r0_5 = x7 := View.ld_unit_zero (by funext a; fin_cases a <;> rfl) _ x7
theorem e8 : View.ld x8 r0_6 = x8 := View.ld_unit_zero (by funext a; fin_cases a <;> rfl) _ x8
theorem e9 : View.ld x9 r0_6 = x9 := View.ld_unit_zero (by funext a; fin_cases a <;> rfl) _ x9
theorem e10 : View.ld x10 r0_7 = x10 := View.ld_unit_zero (by funext a; fin_cases a <;> rfl) _ x10
theorem e11 : View.ld x11 r0_8 = x11 := View.ld_unit_zero (by funext a; fin_cases a <;> rfl) _ x11
theorem e12 : View.ld x12 r0_8 = x12 := View.ld_unit_zero (by funext a; fin_cases a <;> rfl) _ x12

theorem A10 : k0_pay10 (F := Ideal) x0 x1 x2 x3 x4 x5 x6 x7 x8 x9 x10 x11 x12 = k0_pay1 x0 x2 x1 x3 x4 x5 x7 x6 := by
  unfold k0_pay10
  rw [e0, e1, e2, e3, e4, e5, e6, e7]
theorem A11 : k0_pay11 (F := Ideal) x0 x1 x2 x3 x4 x5 x6 x7 x8 x9 x10 x11 x12 = k0_pay2 x0 x2 x1 x3 x4 x5 x7 x6 := by
  unfold k0_pay11
  rw [e0, e1, e2, e3, e4, e5, e6, e7]
theorem A12 : k0_pay12 (F := Ideal) x0 x1 x2 x3 x4 x5 x6 x7 x8 x9 x10 x11 x12 = k0_pay4 (k0_pay10 x0 x1 x2 x3 x4 x5 x6 x7 x8 x9 x10 x11 x12) (k0_pay11 x0 x1 x2 x3 x4 x5 x6 x7 x8 x9 x10 x11 x12) x9 x8 := by
  unfold k0_pay12
  rw [e8, e9]
theorem A13 : k0_pay13 (F := Ideal) x0 x1 x2 x3 x4 x5 x6 x7 x8 x9 x10 x11 x12 = k0_pay6 (k0_pay10 x0 x1 x2 x3 x4 x5 x6 x7 x8 x9 x10 x11 x12) (k0_pay11 x0 x1 x2 x3 x4 x5 x6 x7 x8 x9 x10 x11 x12) x9 x8 := by
  unfold k0_pay13
  rw [e8, e9]

/-- A row before normalisation, from the operands. -/
def hidR (x0 : Vec Ideal S4x4680x64 .fp8e4m3) (x1 : Vec Ideal S1x1 .f32) (x2 : Vec Ideal S64x5120 .fp8e4m3) (x3 : Vec Ideal S1x5120 .f32) (x4 : Vec Ideal S1x5120 .f32) (x5 : Vec Ideal S4x2x4680x5120 .f32) (x6 : Vec Ideal S4x2x4680x5120 .f32) (x7 : Vec Ideal S4x1x1x1 .f32)
    (a : Fin 4) (b : Fin 2) (n : Fin 4680) (d : Fin 5120) : EReal :=
  ((∑ p : Fin 64, (x0 (ix3 a n p) : EReal) * x2 (ix2 p d)) * x1 (ix2 0 0) * x3 (ix2 0 d) + x4 (ix2 0 d)) + x5 (ix4 a b n d) + x7 (ix4 a 0 0 0) * x6 (ix4 a b n d)

variable (a : Fin 4) (b : Fin 2) (n : Fin 4680)
theorem B1 (d : Fin 5120) : (k0_pay10 (F := Ideal) x0 x1 x2 x3 x4 x5 x6 x7 x8 x9 x10 x11 x12 (ix4 a b n d) : EReal) = hidR x0 x1 x2 x3 x4 x5 x6 x7 a b n d := by
  rw [A10, P1]
  rfl
theorem B2 : (k0_pay11 (F := Ideal) x0 x1 x2 x3 x4 x5 x6 x7 x8 x9 x10 x11 x12 (ix4 a b n 0) : EReal) = pMu (hidR x0 x1 x2 x3 x4 x5 x6 x7 a b n) := by
  rw [A11, P2, ← A10 x0 x1 x2 x3 x4 x5 x6 x7 x8 x9 x10 x11 x12]
  simp only [B1 x0 x1 x2 x3 x4 x5 x6 x7 x8 x9 x10 x11 x12 a b n]
  rfl

theorem O13 (d : Fin 5120) : (out0_13 x0 x1 x2 x3 x4 x5 x6 x7 x8 x9 x10 x11 x12 (ix4 a b n d) : EReal) = pQ (hidR x0 x1 x2 x3 x4 x5 x6 x7 a b n) (fun d => x9 (ix4 a 0 0 d)) (fun d => x8 (ix4 a 0 0 d)) d := by
  have h : out0_13 x0 x1 x2 x3 x4 x5 x6 x7 x8 x9 x10 x11 x12 (ix4 a b n d) = k0_pay5 (k0_pay10 x0 x1 x2 x3 x4 x5 x6 x7 x8 x9 x10 x11 x12) (k0_pay11 x0 x1 x2 x3 x4 x5 x6 x7 x8 x9 x10 x11 x12) (View.ld x9 r0_6) (View.ld x8 r0_6) (ix4 a b n d) := by frame_out
  rw [h, e8, e9]
  exact Q5 _ _ x9 x8 a b n _ (B1 x0 x1 x2 x3 x4 x5 x6 x7 x8 x9 x10 x11 x12 a b n) (B2 x0 x1 x2 x3 x4 x5 x6 x7 x8 x9 x10 x11 x12 a b n) d
theorem O14 : (out0_14 x0 x1 x2 x3 x4 x5 x6 x7 x8 x9 x10 x11 x12 (ix4 a b n 0) : EReal) = pSc (hidR x0 x1 x2 x3 x4 x5 x6 x7 a b n) (fun d => x9 (ix4 a 0 0 d)) (fun d => x8 (ix4 a 0 0 d)) := by
  have h : out0_14 x0 x1 x2 x3 x4 x5 x6 x7 x8 x9 x10 x11 x12 (ix4 a b n 0) = k0_pay12 x0 x1 x2 x3 x4 x5 x6 x7 x8 x9 x10 x11 x12 (ix4 a b n 0) := by frame_out
  rw [h, A12]
  exact Q4 _ _ x9 x8 a b n _ (B1 x0 x1 x2 x3 x4 x5 x6 x7 x8 x9 x10 x11 x12 a b n) (B2 x0 x1 x2 x3 x4 x5 x6 x7 x8 x9 x10 x11 x12 a b n)
/-- A head output of a row, from the operands. -/
def outR (b : Fin 2) (o : Fin 64) : EReal := pO (hidR x0 x1 x2 x3 x4 x5 x6 x7 a b n) (fun d => x9 (ix4 a 0 0 d)) (fun d => x8 (ix4 a 0 0 d)) (fun o d => x10 (ix2 d o)) (fun o => x11 (ix2 0 o)) (fun o => x12 (ix2 0 o)) o
theorem B7 (o : Fin 64) : (k0_pay7 (k0_pay12 (F := Ideal) x0 x1 x2 x3 x4 x5 x6 x7 x8 x9 x10 x11 x12) (k0_pay13 x0 x1 x2 x3 x4 x5 x6 x7 x8 x9 x10 x11 x12) x10 x11 x12 (ix4 a b n o) : EReal) = outR x0 x1 x2 x3 x4 x5 x6 x7 x8 x9 x10 x11 x12 a n b o := by
  rw [A12, A13]
  exact Q7 _ _ x9 x8 a b n _ (B1 x0 x1 x2 x3 x4 x5 x6 x7 x8 x9 x10 x11 x12 a b n) (B2 x0 x1 x2 x3 x4 x5 x6 x7 x8 x9 x10 x11 x12 a b n) x10 x11 x12 o
theorem O15 (o : Fin 64) : (out0_15 x0 x1 x2 x3 x4 x5 x6 x7 x8 x9 x10 x11 x12 (ix4 a b n o) : EReal) = outR x0 x1 x2 x3 x4 x5 x6 x7 x8 x9 x10 x11 x12 a n b o := by
  have h : out0_15 x0 x1 x2 x3 x4 x5 x6 x7 x8 x9 x10 x11 x12 (ix4 a b n o) = k0_pay7 (k0_pay12 x0 x1 x2 x3 x4 x5 x6 x7 x8 x9 x10 x11 x12) (k0_pay13 x0 x1 x2 x3 x4 x5 x6 x7 x8 x9 x10 x11 x12) (View.ld x10 r0_7) (View.ld x11 r0_8) (View.ld x12 r0_8) (ix4 a b n o) := by frame_out
  rw [h, e10, e11, e12, B7 x0 x1 x2 x3 x4 x5 x6 x7 x8 x9 x10 x11 x12 a b n o]
theorem O16 : (out0_16 x0 x1 x2 x3 x4 x5 x6 x7 x8 x9 x10 x11 x12 (ix3 a n 0) : EReal) = ∑ o : Fin 64, outR x0 x1 x2 x3 x4 x5 x6 x7 x8 x9 x10 x11 x12 a n 0 o * outR x0 x1 x2 x3 x4 x5 x6 x7 x8 x9 x10 x11 x12 a n 1 o := by
  have h : out0_16 x0 x1 x2 x3 x4 x5 x6 x7 x8 x9 x10 x11 x12 (ix3 a n 0) = k0_pay8 (k0_pay12 x0 x1 x2 x3 x4 x5 x6 x7 x8 x9 x10 x11 x12) (k0_pay13 x0 x1 x2 x3 x4 x5 x6 x7 x8 x9 x10 x11 x12) (View.ld x10 r0_7) (View.ld x11 r0_8) (View.ld x12 r0_8) (ix3 a n 0) := by frame_out
  rw [h, e10, e11, e12, P8]
  simp only [B7]
theorem O17 : (out0_17 x0 x1 x2 x3 x4 x5 x6 x7 x8 x9 x10 x11 x12 (ix3 a n 0) : EReal) = ∑ o : Fin 64, outR x0 x1 x2 x3 x4 x5 x6 x7 x8 x9 x10 x11 x12 a n 1 o * outR x0 x1 x2 x3 x4 x5 x6 x7 x8 x9 x10 x11 x12 a n 1 o := by
  have h : out0_17 x0 x1 x2 x3 x4 x5 x6 x7 x8 x9 x10 x11 x12 (ix3 a n 0) = k0_pay9 (k0_pay12 x0 x1 x2 x3 x4 x5 x6 x7 x8 x9 x10 x11 x12) (k0_pay13 x0 x1 x2 x3 x4 x5 x6 x7 x8 x9 x10 x11 x12) (View.ld x10 r0_7) (View.ld x11 r0_8) (View.ld x12 r0_8) (ix3 a n 0) := by frame_out
  rw [h, e10, e11, e12, P9]
  simp only [B7]
end

end Cert.ReferenceIdeal.Hand
-- ==== Proof.RefArr.lean ====
/- The arrays the reference leaves. -/
module

public import proofs.«01_k».proof.Proof.RefOut

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.Row

variable (m : (ℓ : Loc nD τ sig) → Buf (Elt Ideal) ℓ) (c : Dev nD)

theorem ib0 : iblk m c 0 t0_0 = V m c main_v6 := by
  have hi : ∀ a, win0_0.index t0_0 a = 0 := by decide +kernel
  funext y
  unfold iblk
  refine (View.read_apply _ _).trans ?_
  refine congrArg (V m c _) (funext fun a => Fin.ext ?_)
  fin_cases a <;> blk_simp [hi] <;> first | rfl | omega
theorem ib1 : iblk m c 1 t0_0 = V m c main_v7 := by
  have hi : ∀ a, win0_1.index t0_0 a = 0 := by decide +kernel
  funext y
  unfold iblk
  refine (View.read_apply _ _).trans ?_
  refine congrArg (V m c _) (funext fun a => Fin.ext ?_)
  fin_cases a <;> blk_simp [hi] <;> first | rfl | omega
theorem ib2 : iblk m c 2 t0_0 = V m c main_v8 := by
  have hi : ∀ a, win0_2.index t0_0 a = 0 := by decide +kernel
  funext y
  unfold iblk
  refine (View.read_apply _ _).trans ?_
  refine congrArg (V m c _) (funext fun a => Fin.ext ?_)
  fin_cases a <;> blk_simp [hi] <;> first | rfl | omega
theorem ib3 : iblk m c 3 t0_0 = V m c main_v9 := by
  have hi : ∀ a, win0_3.index t0_0 a = 0 := by decide +kernel
  funext y
  unfold iblk
  refine (View.read_apply _ _).trans ?_
  refine congrArg (V m c _) (funext fun a => Fin.ext ?_)
  fin_cases a <;> blk_simp [hi] <;> first | rfl | omega
theorem ib4 : iblk m c 4 t0_0 = V m c main_v10 := by
  have hi : ∀ a, win0_4.index t0_0 a = 0 := by decide +kernel
  funext y
  unfold iblk
  refine (View.read_apply _ _).trans ?_
  refine congrArg (V m c _) (funext fun a => Fin.ext ?_)
  fin_cases a <;> blk_simp [hi] <;> first | rfl | omega
theorem ib5 : iblk m c 5 t0_0 = V m c main_v17 := by
  have hi : ∀ a, win0_5.index t0_0 a = 0 := by decide +kernel
  funext y
  unfold iblk
  refine (View.read_apply _ _).trans ?_
  refine congrArg (V m c _) (funext fun a => Fin.ext ?_)
  fin_cases a <;> blk_simp [hi] <;> first | rfl | omega
theorem ib6 : iblk m c 6 t0_0 = V m c main_v24 := by
  have hi : ∀ a, win0_6.index t0_0 a = 0 := by decide +kernel
  funext y
  unfold iblk
  refine (View.read_apply _ _).trans ?_
  refine congrArg (V m c _) (funext fun a => Fin.ext ?_)
  fin_cases a <;> blk_simp [hi] <;> first | rfl | omega
theorem ib7 : iblk m c 7 t0_0 = V m c main_v25 := by
  have hi : ∀ a, win0_7.index t0_0 a = 0 := by decide +kernel
  funext y
  unfold iblk
  refine (View.read_apply _ _).trans ?_
  refine congrArg (V m c _) (funext fun a => Fin.ext ?_)
  fin_cases a <;> blk_simp [hi] <;> first | rfl | omega
theorem ib8 : iblk m c 8 t0_0 = V m c main_v26 := by
  have hi : ∀ a, win0_8.index t0_0 a = 0 := by decide +kernel
  funext y
  unfold iblk
  refine (View.read_apply _ _).trans ?_
  refine congrArg (V m c _) (funext fun a => Fin.ext ?_)
  fin_cases a <;> blk_simp [hi] <;> first | rfl | omega
theorem ib9 : iblk m c 9 t0_0 = V m c main_v27 := by
  have hi : ∀ a, win0_9.index t0_0 a = 0 := by decide +kernel
  funext y
  unfold iblk
  refine (View.read_apply _ _).trans ?_
  refine congrArg (V m c _) (funext fun a => Fin.ext ?_)
  fin_cases a <;> blk_simp [hi] <;> first | rfl | omega
theorem ib10 : iblk m c 10 t0_0 = V m c main_arg12 := by
  have hi : ∀ a, win0_10.index t0_0 a = 0 := by decide +kernel
  funext y
  unfold iblk
  refine (View.read_apply _ _).trans ?_
  refine congrArg (V m c _) (funext fun a => Fin.ext ?_)
  fin_cases a <;> blk_simp [hi] <;> first | rfl | omega
theorem ib11 : iblk m c 11 t0_0 = V m c main_v28 := by
  have hi : ∀ a, win0_11.index t0_0 a = 0 := by decide +kernel
  funext y
  unfold iblk
  refine (View.read_apply _ _).trans ?_
  refine congrArg (V m c _) (funext fun a => Fin.ext ?_)
  fin_cases a <;> blk_simp [hi] <;> first | rfl | omega
theorem ib12 : iblk m c 12 t0_0 = V m c main_v29 := by
  have hi : ∀ a, win0_12.index t0_0 a = 0 := by decide +kernel
  funext y
  unfold iblk
  refine (View.read_apply _ _).trans ?_
  refine congrArg (V m c _) (funext fun a => Fin.ext ?_)
  fin_cases a <;> blk_simp [hi] <;> first | rfl | omega

/-- A row before normalisation, its multipliers, its shifts and its head outputs. -/
def rH : Fin 4 → Fin 2 → Fin 4680 → Fin 5120 → EReal := hidR (V m c main_v6) (V m c main_v7) (V m c main_v8) (V m c main_v9) (V m c main_v10) (V m c main_v17) (V m c main_v24) (V m c main_v25)
def rS (a : Fin 4) (d : Fin 5120) : EReal := (V m c main_v27 : S4x1x1x5120.Idx → EReal) (ix4 a 0 0 d)
def rB (a : Fin 4) (d : Fin 5120) : EReal := (V m c main_v26 : S4x1x1x5120.Idx → EReal) (ix4 a 0 0 d)
def rOut (a : Fin 4) (n : Fin 4680) (b : Fin 2) (o : Fin 64) : EReal := outR (V m c main_v6) (V m c main_v7) (V m c main_v8) (V m c main_v9) (V m c main_v10) (V m c main_v17) (V m c main_v24) (V m c main_v25) (V m c main_v26) (V m c main_v27) (V m c main_arg12) (V m c main_v28) (V m c main_v29) a n b o

/-- What output 13 holds at the end. -/
def F13 : S4x2x4680x5120.Idx → Elt Ideal .fp8e4m3 := fun y => pQ (rH m c (y 0) (y 1) (y 2)) (rS m c (y 0)) (rB m c (y 0)) (y 3)
theorem fin13 : (dats m 0 c).arrAt 13 (cfgs 0).N = F13 m c := by
  refine (dats m 0 c).arrAt_eq_of_after_last 13 t0_0 (by decide +kernel) _ fun j => ?_
  have hz : ∀ y : S4x2x4680x5120.Idx, y = ix4 (y 0) (y 1) (y 2) (y 3) := fun y => by
    funext a
    fin_cases a <;> first | rfl | exact Subsingleton.elim (α := Fin 1) _ _
  have key : ∀ y : S4x2x4680x5120.Idx, (dats m 0 c).after 13 t0_0 y = F13 m c y := fun y => by
    rw [after0_13, ib0, ib1, ib2, ib3, ib4, ib5, ib6, ib7, ib8, ib9, ib10, ib11, ib12]
    refine (congrArg _ (hz y)).trans ?_
    exact O13 (V m c main_v6) (V m c main_v7) (V m c main_v8) (V m c main_v9) (V m c main_v10) (V m c main_v17) (V m c main_v24) (V m c main_v25) (V m c main_v26) (V m c main_v27) (V m c main_arg12) (V m c main_v28) (V m c main_v29) (y 0) (y 1) (y 2) (y 3)
  blk_simp
  refine (key _).trans (congrArg (F13 m c) (funext fun a => Fin.ext ?_))
  fin_cases a <;> blk_simp <;> rfl

/-- What output 14 holds at the end. -/
def F14 : S4x2x4680x1.Idx → Elt Ideal .f32 := fun y => pSc (rH m c (y 0) (y 1) (y 2)) (rS m c (y 0)) (rB m c (y 0))
theorem fin14 : (dats m 0 c).arrAt 14 (cfgs 0).N = F14 m c := by
  refine (dats m 0 c).arrAt_eq_of_after_last 14 t0_0 (by decide +kernel) _ fun j => ?_
  have hz : ∀ y : S4x2x4680x1.Idx, y = ix4 (y 0) (y 1) (y 2) 0 := fun y => by
    funext a
    fin_cases a <;> first | rfl | exact Subsingleton.elim (α := Fin 1) _ _
  have key : ∀ y : S4x2x4680x1.Idx, (dats m 0 c).after 14 t0_0 y = F14 m c y := fun y => by
    rw [after0_14, ib0, ib1, ib2, ib3, ib4, ib5, ib6, ib7, ib8, ib9, ib10, ib11, ib12]
    refine (congrArg _ (hz y)).trans ?_
    exact O14 (V m c main_v6) (V m c main_v7) (V m c main_v8) (V m c main_v9) (V m c main_v10) (V m c main_v17) (V m c main_v24) (V m c main_v25) (V m c main_v26) (V m c main_v27) (V m c main_arg12) (V m c main_v28) (V m c main_v29) (y 0) (y 1) (y 2)
  blk_simp
  refine (key _).trans (congrArg (F14 m c) (funext fun a => Fin.ext ?_))
  fin_cases a <;> blk_simp <;> rfl

/-- What output 15 holds at the end. -/
def F15 : S4x2x4680x64.Idx → Elt Ideal .f32 := fun y => rOut m c (y 0) (y 2) (y 1) (y 3)
theorem fin15 : (dats m 0 c).arrAt 15 (cfgs 0).N = F15 m c := by
  refine (dats m 0 c).arrAt_eq_of_after_last 15 t0_0 (by decide +kernel) _ fun j => ?_
  have hz : ∀ y : S4x2x4680x64.Idx, y = ix4 (y 0) (y 1) (y 2) (y 3) := fun y => by
    funext a
    fin_cases a <;> first | rfl | exact Subsingleton.elim (α := Fin 1) _ _
  have key : ∀ y : S4x2x4680x64.Idx, (dats m 0 c).after 15 t0_0 y = F15 m c y := fun y => by
    rw [after0_15, ib0, ib1, ib2, ib3, ib4, ib5, ib6, ib7, ib8, ib9, ib10, ib11, ib12]
    refine (congrArg _ (hz y)).trans ?_
    exact O15 (V m c main_v6) (V m c main_v7) (V m c main_v8) (V m c main_v9) (V m c main_v10) (V m c main_v17) (V m c main_v24) (V m c main_v25) (V m c main_v26) (V m c main_v27) (V m c main_arg12) (V m c main_v28) (V m c main_v29) (y 0) (y 1) (y 2) (y 3)
  blk_simp
  refine (key _).trans (congrArg (F15 m c) (funext fun a => Fin.ext ?_))
  fin_cases a <;> blk_simp <;> rfl

/-- What output 16 holds at the end. -/
def F16 : S4x4680x1.Idx → Elt Ideal .f32 := fun y => (∑ o : Fin 64, rOut m c (y 0) (y 1) 0 o * rOut m c (y 0) (y 1) 1 o : EReal)
theorem fin16 : (dats m 0 c).arrAt 16 (cfgs 0).N = F16 m c := by
  refine (dats m 0 c).arrAt_eq_of_after_last 16 t0_0 (by decide +kernel) _ fun j => ?_
  have hz : ∀ y : S4x4680x1.Idx, y = ix3 (y 0) (y 1) 0 := fun y => by
    funext a
    fin_cases a <;> first | rfl | exact Subsingleton.elim (α := Fin 1) _ _
  have key : ∀ y : S4x4680x1.Idx, (dats m 0 c).after 16 t0_0 y = F16 m c y := fun y => by
    rw [after0_16, ib0, ib1, ib2, ib3, ib4, ib5, ib6, ib7, ib8, ib9, ib10, ib11, ib12]
    refine (congrArg _ (hz y)).trans ?_
    exact O16 (V m c main_v6) (V m c main_v7) (V m c main_v8) (V m c main_v9) (V m c main_v10) (V m c main_v17) (V m c main_v24) (V m c main_v25) (V m c main_v26) (V m c main_v27) (V m c main_arg12) (V m c main_v28) (V m c main_v29) (y 0) (y 1)
  blk_simp
  refine (key _).trans (congrArg (F16 m c) (funext fun a => Fin.ext ?_))
  fin_cases a <;> blk_simp <;> rfl

/-- What output 17 holds at the end. -/
def F17 : S4x4680x1.Idx → Elt Ideal .f32 := fun y => (∑ o : Fin 64, rOut m c (y 0) (y 1) 1 o * rOut m c (y 0) (y 1) 1 o : EReal)
theorem fin17 : (dats m 0 c).arrAt 17 (cfgs 0).N = F17 m c := by
  refine (dats m 0 c).arrAt_eq_of_after_last 17 t0_0 (by decide +kernel) _ fun j => ?_
  have hz : ∀ y : S4x4680x1.Idx, y = ix3 (y 0) (y 1) 0 := fun y => by
    funext a
    fin_cases a <;> first | rfl | exact Subsingleton.elim (α := Fin 1) _ _
  have key : ∀ y : S4x4680x1.Idx, (dats m 0 c).after 17 t0_0 y = F17 m c y := fun y => by
    rw [after0_17, ib0, ib1, ib2, ib3, ib4, ib5, ib6, ib7, ib8, ib9, ib10, ib11, ib12]
    refine (congrArg _ (hz y)).trans ?_
    exact O17 (V m c main_v6) (V m c main_v7) (V m c main_v8) (V m c main_v9) (V m c main_v10) (V m c main_v17) (V m c main_v24) (V m c main_v25) (V m c main_v26) (V m c main_v27) (V m c main_arg12) (V m c main_v28) (V m c main_v29) (y 0) (y 1)
  blk_simp
  refine (key _).trans (congrArg (F17 m c) (funext fun a => Fin.ext ?_))
  fin_cases a <;> blk_simp <;> rfl

end Cert.ReferenceIdeal.Hand
-- ==== Proof.RefRun.lean ====
/- What the arrays of the reference hold at the end of its run. -/
module

public import proofs.«01_k».proof.Proof.RefArr

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable (m : (ℓ : Loc nD τ sig) → Buf (Elt Ideal) ℓ) (c : Dev nD)

/-- The results after the host operations that reorder them. -/
def E31 : S4x2x1x4680.Idx → Elt Ideal .f32 := fun y => F14 m c (ix4 (y 0) (y 1) (y 3) 0)
def E32 : S4x2x64x4680.Idx → Elt Ideal .f32 := fun y => F15 m c (ix4 (y 0) (y 1) (y 3) (y 2))
def E33 : S4x1x4680.Idx → Elt Ideal .f32 := fun y => F16 m c (ix3 (y 0) (y 2) 0)
def E34 : S4x1x4680.Idx → Elt Ideal .f32 := fun y => F17 m c (ix3 (y 0) (y 2) 0)

theorem arr_inj : Function.Injective (Pipeline.arrRef spec0) := fun a b h => by revert a b; decide +kernel

theorem k31 (U : Valuation τ sig (Elt Ideal)) (h : (U (Proc.devRef .tc main_v30_1) : S4x2x4680x1.Idx → Elt Ideal .f32) = F14 m c) :
    (StableHlo.after [hostOps1 (F := Ideal)].flatten U (Proc.devRef .tc main_v31) : S4x2x1x4680.Idx → Elt Ideal .f32) = E31 m c := by
  dsimp only [hostOps1, List.flatten_cons, List.flatten_nil, List.append_nil, List.cons_append, List.nil_append]
  entry_read
  rw [h]
  funext y
  obtain ⟨a, b, z, n, rfl⟩ : ∃ (a : Fin 4) (b : Fin 2) (z : Fin 1) (n : Fin 4680), y = ix4 a b z n := ⟨y 0, y 1, y 2, y 3, by funext q; fin_cases q <;> rfl⟩
  obtain rfl : z = 0 := Subsingleton.elim _ _
  unfold E31
  generalize F14 m c = f
  pointwise
theorem w31 : (Pipeline.afterTail₀ cfgs (dats m) 0 (V0 m) [hostOps1] c main_v31 : S4x2x1x4680.Idx → Elt Ideal .f32) = E31 m c :=
  k31 m c _ ((Pipeline.withArrays_arr spec0 arr_inj c _ _ 14).trans (fin14 m c))

theorem k32 (U : Valuation τ sig (Elt Ideal)) (h : (U (Proc.devRef .tc main_v30_2) : S4x2x4680x64.Idx → Elt Ideal .f32) = F15 m c) :
    (StableHlo.after [hostOps1 (F := Ideal)].flatten U (Proc.devRef .tc main_v32) : S4x2x64x4680.Idx → Elt Ideal .f32) = E32 m c := by
  dsimp only [hostOps1, List.flatten_cons, List.flatten_nil, List.append_nil, List.cons_append, List.nil_append]
  entry_read
  rw [h]
  funext y
  obtain ⟨a, b, z, n, rfl⟩ : ∃ (a : Fin 4) (b : Fin 2) (z : Fin 64) (n : Fin 4680), y = ix4 a b z n := ⟨y 0, y 1, y 2, y 3, by funext q; fin_cases q <;> rfl⟩
  unfold E32
  generalize F15 m c = f
  pointwise
theorem w32 : (Pipeline.afterTail₀ cfgs (dats m) 0 (V0 m) [hostOps1] c main_v32 : S4x2x64x4680.Idx → Elt Ideal .f32) = E32 m c :=
  k32 m c _ ((Pipeline.withArrays_arr spec0 arr_inj c _ _ 15).trans (fin15 m c))

theorem k33 (U : Valuation τ sig (Elt Ideal)) (h : (U (Proc.devRef .tc main_v30_3) : S4x4680x1.Idx → Elt Ideal .f32) = F16 m c) :
    (StableHlo.after [hostOps1 (F := Ideal)].flatten U (Proc.devRef .tc main_v33) : S4x1x4680.Idx → Elt Ideal .f32) = E33 m c := by
  dsimp only [hostOps1, List.flatten_cons, List.flatten_nil, List.append_nil, List.cons_append, List.nil_append]
  entry_read
  rw [h]
  funext y
  obtain ⟨a, z, n, rfl⟩ : ∃ (a : Fin 4) (z : Fin 1) (n : Fin 4680), y = ix3 a z n := ⟨y 0, y 1, y 2, by funext q; fin_cases q <;> rfl⟩
  obtain rfl : z = 0 := Subsingleton.elim _ _
  unfold E33
  generalize F16 m c = f
  pointwise
theorem w33 : (Pipeline.afterTail₀ cfgs (dats m) 0 (V0 m) [hostOps1] c main_v33 : S4x1x4680.Idx → Elt Ideal .f32) = E33 m c :=
  k33 m c _ ((Pipeline.withArrays_arr spec0 arr_inj c _ _ 16).trans (fin16 m c))

theorem k34 (U : Valuation τ sig (Elt Ideal)) (h : (U (Proc.devRef .tc main_v30_4) : S4x4680x1.Idx → Elt Ideal .f32) = F17 m c) :
    (StableHlo.after [hostOps1 (F := Ideal)].flatten U (Proc.devRef .tc main_v34) : S4x1x4680.Idx → Elt Ideal .f32) = E34 m c := by
  dsimp only [hostOps1, List.flatten_cons, List.flatten_nil, List.append_nil, List.cons_append, List.nil_append]
  entry_read
  rw [h]
  funext y
  obtain ⟨a, z, n, rfl⟩ : ∃ (a : Fin 4) (z : Fin 1) (n : Fin 4680), y = ix3 a z n := ⟨y 0, y 1, y 2, by funext q; fin_cases q <;> rfl⟩
  obtain rfl : z = 0 := Subsingleton.elim _ _
  unfold E34
  generalize F17 m c = f
  pointwise
theorem w34 : (Pipeline.afterTail₀ cfgs (dats m) 0 (V0 m) [hostOps1] c main_v34 : S4x1x4680.Idx → Elt Ideal .f32) = E34 m c :=
  k34 m c _ ((Pipeline.withArrays_arr spec0 arr_inj c _ _ 17).trans (fin17 m c))

/-- The patch codes, with the axes in the kernel's order. -/
def E35 : S4x64x4680.Idx → Elt Ideal .fp8e4m3 := fun y => (V m c main_v6 : S4x4680x64.Idx → Elt Ideal .fp8e4m3) (ix3 (y 0) (y 2) (y 1))
theorem k35 (U : Valuation τ sig (Elt Ideal)) (h : (U (Proc.devRef .tc main_v6) : S4x4680x64.Idx → Elt Ideal .fp8e4m3) = V m c main_v6) :
    (StableHlo.after [hostOps1 (F := Ideal)].flatten U (Proc.devRef .tc main_v35) : S4x64x4680.Idx → Elt Ideal .fp8e4m3) = E35 m c := by
  dsimp only [hostOps1, List.flatten_cons, List.flatten_nil, List.append_nil, List.cons_append, List.nil_append]
  entry_read
  rw [h]
  funext y
  obtain ⟨a, p, n, rfl⟩ : ∃ (a : Fin 4) (p : Fin 64) (n : Fin 4680), y = ix3 a p n := ⟨y 0, y 1, y 2, by funext q; fin_cases q <;> rfl⟩
  unfold E35
  generalize (V m c main_v6 : S4x4680x64.Idx → Elt Ideal .fp8e4m3) = f
  pointwise
theorem w35 : (Pipeline.afterTail₀ cfgs (dats m) 0 (V0 m) [hostOps1] c main_v35 : S4x64x4680.Idx → Elt Ideal .fp8e4m3) = E35 m c :=
  k35 m c _ ((Pipeline.withArrays_arr spec0 arr_inj c _ _ 0).trans (((dats m 0 c).arrAt_in 0 rfl _).trans (A_eq m c 0)))

variable (ρ : Dev nD → PrngReg)
/-- The run of the reference: its results, and its arguments unchanged. -/
theorem ref_run : θ_run defs (onTc (τ := τ) (main (F := Ideal))) ⟨m, fun _ => 0, ρ⟩ (fun r => ∀ c : Dev nD,
      r.2.mem ((c.tc : Thread nD τ).loc main_v30_0) = F13 m c ∧ r.2.mem ((c.tc : Thread nD τ).loc main_v31) = E31 m c ∧ r.2.mem ((c.tc : Thread nD τ).loc main_v32) = E32 m c
      ∧ r.2.mem ((c.tc : Thread nD τ).loc main_v33) = E33 m c ∧ r.2.mem ((c.tc : Thread nD τ).loc main_v34) = E34 m c
      ∧ r.2.mem ((c.tc : Thread nD τ).loc main_v35) = E35 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h.1 c).1 13).trans (fin13 m c),
    (((h.1 c).2 main_v31 (Pipeline.mem_restRefs_of main_v31 (by decide) (by decide))).trans (w31 m c)),
    (((h.1 c).2 main_v32 (Pipeline.mem_restRefs_of main_v32 (by decide) (by decide))).trans (w32 m c)),
    (((h.1 c).2 main_v33 (Pipeline.mem_restRefs_of main_v33 (by decide) (by decide))).trans (w33 m c)),
    (((h.1 c).2 main_v34 (Pipeline.mem_restRefs_of main_v34 (by decide) (by decide))).trans (w34 m c)),
    (((h.1 c).2 main_v35 (Pipeline.mem_restRefs_of main_v35 (by decide) (by decide))).trans (w35 m c)), h.2 c⟩)
    (θ_run_and (run_main m ρ) (unchanged m ρ))

end Cert.ReferenceIdeal.Hand
-- ==== Proof.RefReal.lean ====
/- The row of the reference over the real numbers. -/
module

public import proofs.«01_k».proof.Proof.RefRow
public import Idealize.ShloMosaic.Lib.IdealHost

@[expose] public section

set_option maxRecDepth 16384

noncomputable section

namespace Cert.Row

open Idealize.ShloMosaic

/-- A finite sum of real numbers is that sum among the extended reals. -/
theorem csum {ι : Type} [Fintype ι] (f : ι → ℝ) : (∑ i, ((f i : ℝ) : EReal)) = ((∑ i, f i : ℝ) : EReal) := by
  classical
  have h : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact h _

theorem cdiv (x y : ℝ) (h : y ≠ 0) : Ideal.div (x : EReal) (y : EReal) = ((x / y : ℝ) : EReal) := by
  rw [Ideal.div_coe h, ← EReal.coe_mul, mul_one_div]
theorem csqrt (x : ℝ) (h : 0 ≤ x) : Ideal.sqrt (x : EReal) = ((Real.sqrt x : ℝ) : EReal) := by
  rw [Ideal.sqrt_coe, if_neg (not_lt.2 h)]
theorem cmax (x y : ℝ) : max (x : EReal) (y : EReal) = ((max x y : ℝ) : EReal) := (EReal.coe_strictMono.monotone.map_max).symm
theorem cmin (x y : ℝ) : min (x : EReal) (y : EReal) = ((min x y : ℝ) : EReal) := (EReal.coe_strictMono.monotone.map_min).symm
theorem cabs (x : ℝ) : FloatOps.absf (F := Ideal) (φ := .f32) (x : EReal) = ((|x| : ℝ) : EReal) := by
  show max (x : EReal) (-(x : EReal)) = _
  rw [← EReal.coe_neg, cmax]; rfl

theorem nW_eq : nW = ((5120 : ℝ) : EReal) := by
  unfold nW; simp [Ideal.ofBits, Ideal.ieee, -EReal.coe_mul]; norm_num
theorem qhi_eq : qhi = ((448 : ℝ) : EReal) := by
  unfold qhi; simp [Ideal.ofBits, Ideal.ieee, -EReal.coe_mul]; norm_num
theorem qlo_eq : qlo = ((-448 : ℝ) : EReal) := by
  unfold qlo; simp [Ideal.ofBits, Ideal.ieee, -EReal.coe_mul, -EReal.coe_neg]; norm_num
theorem bot_eq : Ideal.ofBits .f32 0xFF800000#32 = (⊥ : EReal) := by
  simp [Ideal.ofBits, Ideal.ieee]
theorem eps_ex : ∃ e : ℝ, 0 < e ∧ eps = ((e : ℝ) : EReal) := by
  refine ⟨8796093 / 8796093022208, by norm_num, ?_⟩
  unfold eps; simp [Ideal.ofBits, Ideal.ieee, -EReal.coe_mul]; norm_num

/-- A cut value is a real number. -/
theorem clip_real (v : EReal) : ∃ r : ℝ, clipr v = (r : EReal) := by
  unfold clipr; rw [qhi_eq, qlo_eq]
  induction v using EReal.rec with
  | bot => exact ⟨min 448 (-448), by rw [max_bot_right, cmin]⟩
  | top => exact ⟨448, by rw [max_top_right, min_top_right]⟩
  | coe x => exact ⟨_, by rw [cmax, cmin]⟩

section
variable (h s β : Fin 5120 → ℝ) (e : ℝ)
/-- Mean, variance and standard deviation of a row, and the modulated row. -/
def zMu : ℝ := (∑ d, h d) / 5120
def zVar : ℝ := (∑ d, (h d - zMu h) * (h d - zMu h)) / 5120
def zSd : ℝ := Real.sqrt (zVar h + e)
def zG (d : Fin 5120) : ℝ := (h d - zMu h) / zSd h e * (1 + s d) + β d
/-- The scale of a row whose largest magnitude is `a`. -/
def zSc (a : ℝ) : ℝ := if 0 < a then a / 448 else 1

theorem zVar_nonneg : 0 ≤ zVar h := by
  unfold zVar; exact div_nonneg (Finset.sum_nonneg fun d _ => mul_self_nonneg _) (by norm_num)
theorem zSd_pos (he : 0 < e) : 0 < zSd h e := Real.sqrt_pos.2 (add_pos_of_nonneg_of_pos (zVar_nonneg h) he)
theorem zSc_pos (a : ℝ) : 0 < zSc a := by
  unfold zSc; split
  · positivity
  · exact one_pos
theorem zMu_add (b : ℝ) : zMu (fun d => h d + b) = zMu h + b := by
  unfold zMu; rw [Finset.sum_add_distrib, Finset.sum_const, Finset.card_univ, Fintype.card_fin, nsmul_eq_mul]; push_cast; ring
theorem zVar_add (b : ℝ) : zVar (fun d => h d + b) = zVar h := by
  unfold zVar; rw [zMu_add]; congr 1; exact Finset.sum_congr rfl fun d _ => by ring
theorem zG_add (b : ℝ) : zG (fun d => h d + b) s β e = zG h s β e := by
  funext d; unfold zG zSd; rw [zMu_add, zVar_add, show h d + b - (zMu h + b) = h d - zMu h by ring]
theorem zVar_sq : (∑ d, h d * h d) / 5120 - zMu h * zMu h = zVar h := by
  have h1 : (∑ d, (h d - zMu h) * (h d - zMu h)) = (∑ d, h d * h d) - 2 * zMu h * (∑ d, h d) + 5120 * (zMu h * zMu h) := by
    have : ∀ d, (h d - zMu h) * (h d - zMu h) = h d * h d - 2 * zMu h * h d + zMu h * zMu h := fun d => by ring
    rw [Finset.sum_congr rfl fun d _ => this d, Finset.sum_add_distrib, Finset.sum_sub_distrib, ← Finset.mul_sum, Finset.sum_const, Finset.card_univ, Fintype.card_fin, nsmul_eq_mul]
    push_cast; ring
  have h2 : (∑ d, h d) = 5120 * zMu h := by unfold zMu; ring
  unfold zVar; rw [h1, h2]; ring

theorem sclr_c (a : ℝ) : sclr (a : EReal) = ((zSc a : ℝ) : EReal) := by
  unfold sclr zSc
  rw [qhi_eq]
  by_cases h : 0 < a
  · rw [if_pos h, if_pos (EReal.coe_pos.2 h), cdiv _ _ (by norm_num)]
  · rw [if_neg h, if_neg (fun hh => h (EReal.coe_pos.1 hh)), EReal.coe_one]

theorem amax_c (f : Fin 5120 → ℝ) (d0 : Fin 5120) (hd : ∀ d, |f d| ≤ |f d0|) : amax (fun d => ((f d : ℝ) : EReal)) = ((|f d0| : ℝ) : EReal) := by
  unfold amax
  rw [bot_eq]
  refine le_antisymm ((Finset.fold_max_le _).2 ⟨bot_le, fun d _ => ?_⟩) (Finset.le_fold_max _ |>.2 (Or.inr ⟨d0, Finset.mem_univ _, ?_⟩))
  · rw [cabs]; exact EReal.coe_le_coe_iff.2 (hd d)
  · rw [cabs]

theorem pMu_c : pMu (fun d => ((h d : ℝ) : EReal)) = ((zMu h : ℝ) : EReal) := by
  unfold pMu zMu; rw [csum, nW_eq, cdiv _ _ (by norm_num)]
theorem pDf_c (d : Fin 5120) : pDf (fun d => ((h d : ℝ) : EReal)) d = ((h d - zMu h : ℝ) : EReal) := by
  unfold pDf; rw [pMu_c, EReal.coe_sub]
theorem pVar_c : pVar (fun d => ((h d : ℝ) : EReal)) = ((zVar h : ℝ) : EReal) := by
  unfold pVar zVar
  simp only [pDf_c, ← EReal.coe_mul]
  rw [csum, nW_eq, cdiv _ _ (by norm_num)]
theorem pHm_c (he : 0 < e) (hE : eps = ((e : ℝ) : EReal)) (d : Fin 5120) :
    pHm (fun d => ((h d : ℝ) : EReal)) (fun d => ((s d : ℝ) : EReal)) (fun d => ((β d : ℝ) : EReal)) d = ((zG h s β e d : ℝ) : EReal) := by
  unfold pHm zG
  rw [pDf_c, pVar_c, hE, ← EReal.coe_add, csqrt _ (add_nonneg (zVar_nonneg h) he.le), show Real.sqrt (zVar h + e) = zSd h e from rfl, cdiv _ _ (zSd_pos h e he).ne', Ideal.ofBits_one_f32, ← EReal.coe_one, ← EReal.coe_add, ← EReal.coe_mul, ← EReal.coe_add]
theorem pSc_c (he : 0 < e) (hE : eps = ((e : ℝ) : EReal)) (d0 : Fin 5120) (hd : ∀ d, |zG h s β e d| ≤ |zG h s β e d0|) :
    pSc (fun d => ((h d : ℝ) : EReal)) (fun d => ((s d : ℝ) : EReal)) (fun d => ((β d : ℝ) : EReal)) = ((zSc (|zG h s β e d0|) : ℝ) : EReal) := by
  unfold pSc pAm
  simp only [pHm_c h s β e he hE]
  rw [amax_c _ d0 hd, sclr_c]
theorem pQ_c (he : 0 < e) (hE : eps = ((e : ℝ) : EReal)) (d0 : Fin 5120) (hd : ∀ d, |zG h s β e d| ≤ |zG h s β e d0|) (d : Fin 5120) :
    pQ (fun d => ((h d : ℝ) : EReal)) (fun d => ((s d : ℝ) : EReal)) (fun d => ((β d : ℝ) : EReal)) d = clipr ((zG h s β e d / zSc (|zG h s β e d0|) : ℝ) : EReal) := by
  unfold pQ
  rw [pHm_c h s β e he hE, pSc_c h s β e he hE d0 hd, cdiv _ _ (zSc_pos _).ne']
end

end Cert.Row
-- ==== Proof.ValReal.lean ====
/- The row of the kernel over the real numbers, and its agreement with the row of the reference. -/
module

public import proofs.«01_k».proof.Proof.RefReal
public import proofs.«01_k».proof.Proof.ValSpec

@[expose] public section

set_option maxRecDepth 16384

noncomputable section

namespace Cert.KernelIdeal.Hand

open Idealize.ShloMosaic

open Cert.Row

theorem sum_col (F : Fin 5120 → EReal) : (∑ l : Fin 128, ∑ g : Fin 40, F (col g l)) = ∑ d, F d := by
  rw [← Fintype.sum_prod_type']
  refine Fintype.sum_bijective (fun x : Fin 128 × Fin 40 => col x.2 x.1) ⟨fun x y hxy => ?_, fun d => ⟨(lane d, grp d), col_eta d⟩⟩ _ _ fun _ => rfl
  have h1 := congrArg grp hxy
  have h2 := congrArg lane hxy
  simp only [grp_col, lane_col] at h1 h2
  exact Prod.ext h2 h1
theorem sum_c640 (F : Fin 5120 → EReal) : (∑ j : Fin 8, ∑ x : Fin 640, F (c640 j x)) = ∑ d, F d := by
  rw [← Fintype.sum_prod_type']
  refine Fintype.sum_bijective (fun x : Fin 8 × Fin 640 => c640 x.1 x.2) ⟨fun x y hxy => ?_, fun d => ⟨(⟨d.val / 640, by omega⟩, ⟨d.val % 640, by omega⟩), Fin.ext (show 640 * (d.val / 640) + d.val % 640 = d.val by omega)⟩⟩ _ _ fun _ => rfl
  have h : 640 * x.1.val + x.2.val = 640 * y.1.val + y.2.val := congrArg Fin.val hxy
  exact Prod.ext (Fin.ext (by omega)) (Fin.ext (by omega))

theorem invd_eq : invd = ((1 / 5120 : ℝ) : EReal) := IdealRules.named_const.ideal_named_scalar _ _ _ _ rfl
theorem muF_c (x : ℝ) : muF (x : EReal) = ((x / 5120 : ℝ) : EReal) := by
  unfold muF; rw [invd_eq, ← EReal.coe_mul, mul_one_div]

section
variable (h s β : Fin 5120 → ℝ) (e : ℝ)
local notation "HC" => (fun d => ((h d : ℝ) : EReal))
local notation "TC" => (fun d => ((1 + s d : ℝ) : EReal))
local notation "RC" => (fun (j : Fin 16) (d : Fin 5120) => outerR ((1 + s d : ℝ) : EReal) ((β d : ℝ) : EReal) j)

theorem rS1_c : rS1 HC = ((∑ d, h d : ℝ) : EReal) := by unfold rS1; rw [sum_col HC, csum]
theorem rS2_c : rS2 HC = ((∑ d, h d * h d : ℝ) : EReal) := by
  unfold rS2; rw [sum_col (fun d => ((h d : ℝ) : EReal) * ((h d : ℝ) : EReal)), ← csum]; exact Finset.sum_congr rfl fun d _ => (EReal.coe_mul _ _).symm
theorem mu_c : muF (rS1 HC) = ((zMu h : ℝ) : EReal) := by rw [rS1_c, muF_c]; rfl
theorem sd_c (he : 0 < e) (hE : eps = ((e : ℝ) : EReal)) : sdF (rS1 HC) (rS2 HC) = ((zSd h e : ℝ) : EReal) := by
  unfold sdF
  rw [mu_c, rS2_c, invd_eq, ← EReal.coe_mul, ← EReal.coe_mul, ← EReal.coe_sub, mul_one_div, zVar_sq, ← EReal.coe_zero, cmax, max_eq_left (zVar_nonneg h)]
  rw [show Ideal.ofBits .f32 0x358637BD#32 = eps from rfl, hE, ← EReal.coe_add, csqrt _ (add_nonneg (zVar_nonneg h) he.le)]
  rfl

/-- The sum of the products of the limbs is the outer product of rank one. -/
theorem outer_c (m s t b : ℝ) : (∑ j, outerL (m : EReal) (s : EReal) j * outerR (t : EReal) (b : EReal) j) = ((m * t + s * b : ℝ) : EReal) := by
  simp only [Fin.sum_univ_succ, Fin.sum_univ_zero, outerL, outerR, Matrix.cons_val_zero, Matrix.cons_val_succ, ← EReal.coe_sub, ← EReal.coe_zero, ← EReal.coe_mul, ← EReal.coe_add]
  congr 1
  ring

theorem rHM_c (he : 0 < e) (hE : eps = ((e : ℝ) : EReal)) (d : Fin 5120) : rHM HC TC RC d = ((zSd h e * zG h s β e d : ℝ) : EReal) := by
  unfold rHM
  rw [mu_c, sd_c h e he hE, ← EReal.coe_zero, ← EReal.coe_sub, outer_c, ← EReal.coe_mul, ← EReal.coe_add]
  have := (zSd_pos h e he).ne'
  congr 1
  unfold zG
  field_simp
  ring

theorem amx_ge (f : Fin 40 → EReal) (g : Fin 40) : ∀ n, g.val < n → FloatOps.absf (F := Ideal) (φ := .f32) (f g) ≤ amx f n
  | 0, h => absurd h (by omega)
  | n + 1, h => by
    rw [amx]
    by_cases hg : g.val = n
    · subst hg; rw [dif_pos g.isLt]; exact le_max_right _ _
    · exact (amx_ge f g n (by omega)).trans (le_max_left _ _)
theorem amx_le (f : Fin 40 → EReal) (v : EReal) (h0 : 0 ≤ v) (hv : ∀ g, FloatOps.absf (F := Ideal) (φ := .f32) (f g) ≤ v) : ∀ n, amx f n ≤ v
  | 0 => h0
  | n + 1 => by
    rw [amx]
    refine max_le (amx_le f v h0 hv n) ?_
    split
    · exact hv _
    · exact h0
theorem rAM_eq (f : Fin 5120 → EReal) (v : EReal) (h0 : 0 ≤ v) (hv : ∀ d, FloatOps.absf (F := Ideal) (φ := .f32) (f d) ≤ v) (d0 : Fin 5120)
    (hd : FloatOps.absf (F := Ideal) (φ := .f32) (f d0) = v) : mx (fun l => amx (fun g => f (col g l)) 40) = v := by
  unfold mx
  rw [bot_eq]
  refine le_antisymm ((Finset.fold_max_le _).2 ⟨bot_le, fun l _ => amx_le _ v h0 (fun g => hv _) 40⟩) (Finset.le_fold_max _ |>.2 (Or.inr ⟨lane d0, Finset.mem_univ _, ?_⟩))
  refine le_trans ?_ (amx_ge _ (grp d0) 40 (grp d0).isLt)
  rw [col_eta, hd]

theorem rAM_c (he : 0 < e) (hE : eps = ((e : ℝ) : EReal)) (d0 : Fin 5120) (hd : ∀ d, |zG h s β e d| ≤ |zG h s β e d0|) : rAM HC TC RC = ((zSd h e * |zG h s β e d0| : ℝ) : EReal) := by
  have hp := zSd_pos h e he
  unfold rAM
  refine rAM_eq _ _ (EReal.coe_nonneg.2 (mul_nonneg hp.le (abs_nonneg _))) (fun d => ?_) d0 ?_
  · rw [rHM_c h s β e he hE, cabs, abs_mul, abs_of_pos hp]
    exact EReal.coe_le_coe_iff.2 (mul_le_mul_of_nonneg_left (hd d) hp.le)
  · rw [rHM_c h s β e he hE, cabs, abs_mul, abs_of_pos hp]

theorem rRs_c (he : 0 < e) (hE : eps = ((e : ℝ) : EReal)) : rRs HC = ((1 / zSd h e : ℝ) : EReal) := by
  unfold rRs; rw [sd_c h e he hE, ← EReal.coe_one, cdiv _ _ (zSd_pos h e he).ne']

theorem rSc_c (he : 0 < e) (hE : eps = ((e : ℝ) : EReal)) (d0 : Fin 5120) (hd : ∀ d, |zG h s β e d| ≤ |zG h s β e d0|) : rSc HC TC RC = ((zSc (|zG h s β e d0|) : ℝ) : EReal) := by
  unfold rSc
  rw [rAM_c h s β e he hE d0 hd, rRs_c h e he hE, ← EReal.coe_mul, show zSd h e * |zG h s β e d0| * (1 / zSd h e) = |zG h s β e d0| by have := (zSd_pos h e he).ne'; field_simp]
  exact sclr_c _

theorem rQ_c (he : 0 < e) (hE : eps = ((e : ℝ) : EReal)) (d0 : Fin 5120) (hd : ∀ d, |zG h s β e d| ≤ |zG h s β e d0|) (d : Fin 5120) :
    rQ HC TC RC d = clipr ((zG h s β e d / zSc (|zG h s β e d0|) : ℝ) : EReal) := by
  unfold rQ rIv
  have h1 := (zSd_pos h e he).ne'
  have h2 := (zSc_pos (|zG h s β e d0|)).ne'
  rw [rHM_c h s β e he hE, rSc_c h s β e he hE d0 hd, rRs_c h e he hE, cdiv _ _ h2, ← EReal.coe_mul,
    show zSd h e * zG h s β e d * (1 / zSd h e / zSc (|zG h s β e d0|)) = zG h s β e d / zSc (|zG h s β e d0|) by field_simp]
  rfl
end

/-- The kernel's row and the reference's row agree when they differ by a constant and every entry is a real number. -/
theorem row_eq (h s β : Fin 5120 → ℝ) (b : ℝ) (Hk Hr S B T : Fin 5120 → EReal) (R : Fin 16 → Fin 5120 → EReal)
    (hk : Hk = fun d => ((h d : ℝ) : EReal)) (hr : Hr = fun d => ((h d + b : ℝ) : EReal)) (hS : S = fun d => ((s d : ℝ) : EReal)) (hB : B = fun d => ((β d : ℝ) : EReal))
    (hT : T = fun d => 1 + S d) (hR : R = fun j d => outerR (1 + S d) (B d) j) :
    rSc Hk T R = pSc Hr S B ∧ ∀ d, rQ Hk T R d = pQ Hr S B d := by
  obtain ⟨e, he, hE⟩ := eps_ex
  subst hk hr hT hR hS hB
  obtain ⟨d0, -, hd⟩ := Finset.exists_max_image Finset.univ (fun d => |zG h s β e d|) ⟨0, Finset.mem_univ _⟩
  have hd := fun d => hd d (Finset.mem_univ d)
  have hd' : ∀ d, |zG (fun d => h d + b) s β e d| ≤ |zG (fun d => h d + b) s β e d0| := by rw [zG_add]; exact hd
  have ht : ∀ d, (1 : EReal) + ((s d : ℝ) : EReal) = ((1 + s d : ℝ) : EReal) := fun d => by rw [EReal.coe_add, EReal.coe_one]
  simp only [ht]
  refine ⟨?_, fun d => ?_⟩
  · rw [rSc_c h s β e he hE d0 hd, pSc_c (fun d => h d + b) s β e he hE d0 hd', zG_add]
  · rw [rQ_c h s β e he hE d0 hd d, pQ_c (fun d => h d + b) s β e he hE d0 hd' d, zG_add]

/-- The head outputs of rows that agree. -/
theorem out_eq (Hk Hr S B T : Fin 5120 → EReal) (R : Fin 16 → Fin 5120 → EReal) (wh : Fin 64 → Fin 5120 → EReal) (sh bh : Fin 64 → EReal) (o : Fin 64)
    (h : rSc Hk T R = pSc Hr S B ∧ ∀ d, rQ Hk T R d = pQ Hr S B d) : rO Hk T R wh sh bh o = pO Hr S B wh sh bh o := by
  unfold rO pO
  rw [sum_c640 (fun d => rQ Hk T R d * wh o d), h.1]
  simp only [h.2]

end Cert.KernelIdeal.Hand
-- ==== Proof.RowArgs.lean ====
/- The arguments of the layer as plain functions, and a row before normalisation. -/
module

public import proofs.«01_k».proof.Proof.RefRow

@[expose] public section

set_option maxRecDepth 16384

noncomputable section

namespace Cert.Row

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The arguments, entry by entry. -/
structure Args where
  x : Fin 4 → Fin 16 → Fin 3 → Fin 60 → Fin 104 → EReal
  sp : EReal
  we : Fin 64 → Fin 5120 → EReal
  se : Fin 5120 → EReal
  be : Fin 5120 → EReal
  c0 : Fin 4 → Fin 2 → Fin 4680 → Fin 5120 → BitVec 8
  s0 : Fin 4 → Fin 2 → Fin 4680 → Fin 40 → EReal
  c1 : Fin 4 → Fin 2 → Fin 4680 → Fin 5120 → BitVec 8
  s1 : Fin 4 → Fin 2 → Fin 4680 → Fin 40 → EReal
  k : Fin 4 → EReal
  hb : Fin 4 → Fin 5120 → EReal
  hs : Fin 4 → Fin 5120 → EReal
  wh : Fin 5120 → Fin 64 → EReal
  sh : Fin 64 → EReal
  bh : Fin 64 → EReal

/-- The group of 128 columns of a column. -/
def gr (d : Fin 5120) : Fin 40 := ⟨d.val / 128, by omega⟩

/-- The code of entry `p` of patch `n`. -/
def Args.code (A : Args) (a : Fin 4) (n : Fin 4680) (p : Fin 64) : EReal :=
  clipr (Ideal.div (A.x a ⟨p.val / 4, by omega⟩ ⟨n.val / 1560, by omega⟩ ⟨n.val / 52 % 30 * 2 + p.val / 2 % 2, by omega⟩ ⟨n.val % 52 * 2 + p.val % 2, by omega⟩) A.sp)

/-- A stored residual, decoded. -/
def Args.d0 (A : Args) (a : Fin 4) (b : Fin 2) (n : Fin 4680) (d : Fin 5120) : EReal := (((A.c0 a b n d).toInt : ℝ) : EReal) * A.s0 a b n (gr d)
def Args.d1 (A : Args) (a : Fin 4) (b : Fin 2) (n : Fin 4680) (d : Fin 5120) : EReal := (((A.c1 a b n d).toInt : ℝ) : EReal) * A.s1 a b n (gr d)
/-- The product of the patch codes and the embedding weights. -/
def Args.acc (A : Args) (a : Fin 4) (n : Fin 4680) (d : Fin 5120) : EReal := ∑ p : Fin 64, A.code a n p * A.we p d
/-- A row before normalisation. -/
def Args.row (A : Args) (a : Fin 4) (b : Fin 2) (n : Fin 4680) (d : Fin 5120) : EReal :=
  (A.acc a n d * A.sp * A.se d + A.be d) + A.d0 a b n d + A.k a * A.d1 a b n d

end Cert.Row
-- ==== Proof.KerHost.lean ====
/- The operands of the kernel, read off the arguments. -/
module

public import proofs.«01_k».proof.Proof.RowArgs
public import proofs.«01_k».proof.Proof.ValGeo

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.Row
variable (m : (ℓ : Loc nD τ sig) → Buf (Elt Ideal) ℓ) (c : Dev nD)

/-- The arguments of the kernel, entry by entry. -/
def kA : Args where
  x a i j k l := (m ((c.tc : Thread nD τ).loc main_arg0) : S4x16x3x60x104.Idx → EReal) (ix5 a i j k l)
  sp := (m ((c.tc : Thread nD τ).loc main_arg1) : S_.Idx → EReal) ix0
  we p d := (m ((c.tc : Thread nD τ).loc main_arg2) : S64x5120.Idx → EReal) (ix2 p d)
  se d := (m ((c.tc : Thread nD τ).loc main_arg3) : S5120.Idx → EReal) (ix1 d)
  be d := (m ((c.tc : Thread nD τ).loc main_arg4) : S5120.Idx → EReal) (ix1 d)
  c0 a b n d := (m ((c.tc : Thread nD τ).loc main_arg5) : S4x2x4680x5120.Idx → BitVec 8) (ix4 a b n d)
  s0 a b n g := (m ((c.tc : Thread nD τ).loc main_arg6) : S4x2x4680x40.Idx → EReal) (ix4 a b n g)
  c1 a b n d := (m ((c.tc : Thread nD τ).loc main_arg7) : S4x2x4680x5120.Idx → BitVec 8) (ix4 a b n d)
  s1 a b n g := (m ((c.tc : Thread nD τ).loc main_arg8) : S4x2x4680x40.Idx → EReal) (ix4 a b n g)
  k a := (m ((c.tc : Thread nD τ).loc main_arg9) : S4.Idx → EReal) (ix1 a)
  hb a d := (m ((c.tc : Thread nD τ).loc main_arg10) : S4x5120.Idx → EReal) (ix2 a d)
  hs a d := (m ((c.tc : Thread nD τ).loc main_arg11) : S4x5120.Idx → EReal) (ix2 a d)
  wh d o := (m ((c.tc : Thread nD τ).loc main_arg12) : S5120x64.Idx → EReal) (ix2 d o)
  sh o := (m ((c.tc : Thread nD τ).loc main_arg13) : S64.Idx → EReal) (ix1 o)
  bh o := (m ((c.tc : Thread nD τ).loc main_arg14) : S64.Idx → EReal) (ix1 o)

theorem kSP : (aSP m c (ix1 0) : EReal) = (kA m c).sp := by
  unfold aSP kA
  dsimp only [V, hostOps0, hostOps0_1, hostOps0_2, List.flatten_cons, List.flatten_nil, List.append_nil, List.cons_append, List.nil_append]
  entry_read
  pointwise
theorem kSE (d : Fin 5120) : (aSE m c (ix2 0 d) : EReal) = (kA m c).se d := by
  unfold aSE kA
  dsimp only [V, hostOps0, hostOps0_1, hostOps0_2, List.flatten_cons, List.flatten_nil, List.append_nil, List.cons_append, List.nil_append]
  entry_read
  pointwise
theorem kBE (d : Fin 5120) : (aBE m c (ix2 0 d) : EReal) = (kA m c).be d := by
  unfold aBE kA
  dsimp only [V, hostOps0, hostOps0_1, hostOps0_2, List.flatten_cons, List.flatten_nil, List.append_nil, List.cons_append, List.nil_append]
  entry_read
  pointwise
theorem kWE (p : Fin 64) (d : Fin 5120) : (aWE m c (ix2 p d) : EReal) = (kA m c).we p d := by
  unfold aWE kA
  dsimp only [V, hostOps0, hostOps0_1, hostOps0_2, List.flatten_cons, List.flatten_nil, List.append_nil, List.cons_append, List.nil_append]
  entry_read
  pointwise
theorem kS0 (a : Fin 4) (b : Fin 2) (n : Fin 4680) (g : Fin 40) : (aS0 m c (ix4 a b g n) : EReal) = (kA m c).s0 a b n g := by
  unfold aS0 kA
  dsimp only [V, hostOps0, hostOps0_1, hostOps0_2, List.flatten_cons, List.flatten_nil, List.append_nil, List.cons_append, List.nil_append]
  entry_read
  pointwise
theorem kS1 (a : Fin 4) (b : Fin 2) (n : Fin 4680) (g : Fin 40) : (aS1 m c (ix4 a b g n) : EReal) = (kA m c).s1 a b n g := by
  unfold aS1 kA
  dsimp only [V, hostOps0, hostOps0_1, hostOps0_2, List.flatten_cons, List.flatten_nil, List.append_nil, List.cons_append, List.nil_append]
  entry_read
  pointwise
theorem kHS (a : Fin 4) (d : Fin 5120) : (aHS m c (ix3 a 0 d) : EReal) = (kA m c).hs a d := by
  unfold aHS kA
  dsimp only [V, hostOps0, hostOps0_1, hostOps0_2, List.flatten_cons, List.flatten_nil, List.append_nil, List.cons_append, List.nil_append]
  entry_read
  pointwise
theorem kHB (a : Fin 4) (d : Fin 5120) : (aHB m c (ix3 a 0 d) : EReal) = (kA m c).hb a d := by
  unfold aHB kA
  dsimp only [V, hostOps0, hostOps0_1, hostOps0_2, List.flatten_cons, List.flatten_nil, List.append_nil, List.cons_append, List.nil_append]
  entry_read
  pointwise
theorem kWH (d : Fin 5120) (o : Fin 64) : (aWH m c (ix2 o d) : EReal) = (kA m c).wh d o := by
  unfold aWH kA
  dsimp only [V, hostOps0, hostOps0_1, hostOps0_2, List.flatten_cons, List.flatten_nil, List.append_nil, List.cons_append, List.nil_append]
  entry_read
  pointwise
theorem kSH (o : Fin 64) : (aSH m c (ix2 o 0) : EReal) = (kA m c).sh o := by
  unfold aSH kA
  dsimp only [V, hostOps0, hostOps0_1, hostOps0_2, List.flatten_cons, List.flatten_nil, List.append_nil, List.cons_append, List.nil_append]
  entry_read
  pointwise
theorem kBH (o : Fin 64) : (aBH m c (ix2 o 0) : EReal) = (kA m c).bh o := by
  unfold aBH kA
  dsimp only [V, hostOps0, hostOps0_1, hostOps0_2, List.flatten_cons, List.flatten_nil, List.append_nil, List.cons_append, List.nil_append]
  entry_read
  pointwise
theorem kPT (a : Fin 4) (n : Fin 4680) (p : Fin 64) : (aPT m c (ix3 a p n) : EReal) = (kA m c).code a n p := by
  unfold aPT Args.code kA
  dsimp only [V, hostOps0, hostOps0_1, hostOps0_2, List.flatten_cons, List.flatten_nil, List.append_nil, List.cons_append, List.nil_append]
  entry_read
  simp only [StableHlo.TRef.ofBuf_toBuf, StableHlo.TRef.toBuf, StableHlo.TRef.ofBuf, cast_eq]
  pointwise
  unfold clipr qhi qlo
  rfl

end Cert.KernelIdeal.Hand
-- ==== Proof.RefHost.lean ====
/- The operands of the reference, read off the arguments. -/
module

public import proofs.«01_k».proof.Proof.RowArgs
public import proofs.«01_k».proof.Proof.RefArr

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

open Cert.Row
variable (m : (ℓ : Loc nD τ sig) → Buf (Elt Ideal) ℓ) (c : Dev nD)

theorem sx_i (b : BitVec 8) : (FloatOps.sitofp FTy.f32 (BitVec.signExtend 32 b) : Ideal .f32) = (((b.toInt : ℤ) : ℝ) : EReal) := by
  show (((BitVec.signExtend 32 b).toInt : ℝ) : EReal) = _
  rw [BitVec.toInt_signExtend_of_le (by decide)]

/-- The arguments of the reference, entry by entry. -/
def rA : Args where
  x a i j k l := (m ((c.tc : Thread nD τ).loc main_arg0) : S4x16x3x60x104.Idx → EReal) (ix5 a i j k l)
  sp := (m ((c.tc : Thread nD τ).loc main_arg1) : S_.Idx → EReal) ix0
  we p d := (m ((c.tc : Thread nD τ).loc main_arg2) : S64x5120.Idx → EReal) (ix2 p d)
  se d := (m ((c.tc : Thread nD τ).loc main_arg3) : S5120.Idx → EReal) (ix1 d)
  be d := (m ((c.tc : Thread nD τ).loc main_arg4) : S5120.Idx → EReal) (ix1 d)
  c0 a b n d := (m ((c.tc : Thread nD τ).loc main_arg5) : S4x2x4680x5120.Idx → BitVec 8) (ix4 a b n d)
  s0 a b n g := (m ((c.tc : Thread nD τ).loc main_arg6) : S4x2x4680x40.Idx → EReal) (ix4 a b n g)
  c1 a b n d := (m ((c.tc : Thread nD τ).loc main_arg7) : S4x2x4680x5120.Idx → BitVec 8) (ix4 a b n d)
  s1 a b n g := (m ((c.tc : Thread nD τ).loc main_arg8) : S4x2x4680x40.Idx → EReal) (ix4 a b n g)
  k a := (m ((c.tc : Thread nD τ).loc main_arg9) : S4.Idx → EReal) (ix1 a)
  hb a d := (m ((c.tc : Thread nD τ).loc main_arg10) : S4x5120.Idx → EReal) (ix2 a d)
  hs a d := (m ((c.tc : Thread nD τ).loc main_arg11) : S4x5120.Idx → EReal) (ix2 a d)
  wh d o := (m ((c.tc : Thread nD τ).loc main_arg12) : S5120x64.Idx → EReal) (ix2 d o)
  sh o := (m ((c.tc : Thread nD τ).loc main_arg13) : S64.Idx → EReal) (ix1 o)
  bh o := (m ((c.tc : Thread nD τ).loc main_arg14) : S64.Idx → EReal) (ix1 o)

theorem rSP : ((V m c main_v7 : S1x1.Idx → EReal) (ix2 0 0) : EReal) = (rA m c).sp := by
  unfold rA
  dsimp only [V, V0, hostOps0, hostOps0_1, hostOps0_2, List.flatten_cons, List.flatten_nil, List.append_nil, List.cons_append, List.nil_append]
  entry_read
  pointwise
theorem rWE (p : Fin 64) (d : Fin 5120) : ((V m c main_v8 : S64x5120.Idx → EReal) (ix2 p d) : EReal) = (rA m c).we p d := by
  unfold rA
  dsimp only [V, V0, hostOps0, hostOps0_1, hostOps0_2, List.flatten_cons, List.flatten_nil, List.append_nil, List.cons_append, List.nil_append]
  entry_read
  pointwise
theorem rSE (d : Fin 5120) : ((V m c main_v9 : S1x5120.Idx → EReal) (ix2 0 d) : EReal) = (rA m c).se d := by
  unfold rA
  dsimp only [V, V0, hostOps0, hostOps0_1, hostOps0_2, List.flatten_cons, List.flatten_nil, List.append_nil, List.cons_append, List.nil_append]
  entry_read
  pointwise
theorem rBE (d : Fin 5120) : ((V m c main_v10 : S1x5120.Idx → EReal) (ix2 0 d) : EReal) = (rA m c).be d := by
  unfold rA
  dsimp only [V, V0, hostOps0, hostOps0_1, hostOps0_2, List.flatten_cons, List.flatten_nil, List.append_nil, List.cons_append, List.nil_append]
  entry_read
  pointwise
theorem rKK (a : Fin 4) : ((V m c main_v25 : S4x1x1x1.Idx → EReal) (ix4 a 0 0 0) : EReal) = (rA m c).k a := by
  unfold rA
  dsimp only [V, V0, hostOps0, hostOps0_1, hostOps0_2, List.flatten_cons, List.flatten_nil, List.append_nil, List.cons_append, List.nil_append]
  entry_read
  pointwise
theorem rHB (a : Fin 4) (d : Fin 5120) : ((V m c main_v26 : S4x1x1x5120.Idx → EReal) (ix4 a 0 0 d) : EReal) = (rA m c).hb a d := by
  unfold rA
  dsimp only [V, V0, hostOps0, hostOps0_1, hostOps0_2, List.flatten_cons, List.flatten_nil, List.append_nil, List.cons_append, List.nil_append]
  entry_read
  pointwise
theorem rHS (a : Fin 4) (d : Fin 5120) : ((V m c main_v27 : S4x1x1x5120.Idx → EReal) (ix4 a 0 0 d) : EReal) = (rA m c).hs a d := by
  unfold rA
  dsimp only [V, V0, hostOps0, hostOps0_1, hostOps0_2, List.flatten_cons, List.flatten_nil, List.append_nil, List.cons_append, List.nil_append]
  entry_read
  pointwise
theorem rWH (d : Fin 5120) (o : Fin 64) : ((V m c main_arg12 : S5120x64.Idx → EReal) (ix2 d o) : EReal) = (rA m c).wh d o := by
  unfold rA
  dsimp only [V, V0, hostOps0, hostOps0_1, hostOps0_2, List.flatten_cons, List.flatten_nil, List.append_nil, List.cons_append, List.nil_append]
  entry_read
  pointwise
theorem rSH (o : Fin 64) : ((V m c main_v28 : S1x64.Idx → EReal) (ix2 0 o) : EReal) = (rA m c).sh o := by
  unfold rA
  dsimp only [V, V0, hostOps0, hostOps0_1, hostOps0_2, List.flatten_cons, List.flatten_nil, List.append_nil, List.cons_append, List.nil_append]
  entry_read
  pointwise
theorem rBH (o : Fin 64) : ((V m c main_v29 : S1x64.Idx → EReal) (ix2 0 o) : EReal) = (rA m c).bh o := by
  unfold rA
  dsimp only [V, V0, hostOps0, hostOps0_1, hostOps0_2, List.flatten_cons, List.flatten_nil, List.append_nil, List.cons_append, List.nil_append]
  entry_read
  pointwise
theorem rD0 (a : Fin 4) (b : Fin 2) (n : Fin 4680) (d : Fin 5120) : ((V m c main_v17 : S4x2x4680x5120.Idx → EReal) (ix4 a b n d) : EReal) = (rA m c).d0 a b n d := by
  unfold Args.d0 rA gr
  dsimp only [V, V0, hostOps0, hostOps0_1, hostOps0_2, List.flatten_cons, List.flatten_nil, List.append_nil, List.cons_append, List.nil_append]
  entry_read
  pointwise
  rw [sx_i]
  have e : (⟨d.val / 128 * 128 + d.val % 128, by omega⟩ : Fin 5120) = d := Fin.ext (show d.val / 128 * 128 + d.val % 128 = d.val by omega)
  rw [e]
theorem rD1 (a : Fin 4) (b : Fin 2) (n : Fin 4680) (d : Fin 5120) : ((V m c main_v24 : S4x2x4680x5120.Idx → EReal) (ix4 a b n d) : EReal) = (rA m c).d1 a b n d := by
  unfold Args.d1 rA gr
  dsimp only [V, V0, hostOps0, hostOps0_1, hostOps0_2, List.flatten_cons, List.flatten_nil, List.append_nil, List.cons_append, List.nil_append]
  entry_read
  pointwise
  rw [sx_i]
  have e : (⟨d.val / 128 * 128 + d.val % 128, by omega⟩ : Fin 5120) = d := Fin.ext (show d.val / 128 * 128 + d.val % 128 = d.val by omega)
  rw [e]
theorem rPT (a : Fin 4) (n : Fin 4680) (p : Fin 64) : ((V m c main_v6 : S4x4680x64.Idx → EReal) (ix3 a n p) : EReal) = (rA m c).code a n p := by
  unfold Args.code rA
  dsimp only [V, V0, hostOps0, hostOps0_1, hostOps0_2, List.flatten_cons, List.flatten_nil, List.append_nil, List.cons_append, List.nil_append]
  entry_read
  simp only [StableHlo.TRef.ofBuf_toBuf, StableHlo.TRef.toBuf, StableHlo.TRef.ofBuf, cast_eq]
  pointwise
  unfold clipr qhi qlo
  rfl

end Cert.ReferenceIdeal.Hand
-- ==== Proof.Agree.lean ====
/- The results of the kernel and of the reference agree when the named arguments hold real numbers. -/
module

public import proofs.«01_k».proof.Proof.ValReal
public import proofs.«01_k».proof.Proof.KerHost
public import proofs.«01_k».proof.Proof.RefHost
public import proofs.«01_k».proof.Proof.RefRun

@[expose] public section

set_option maxRecDepth 16384

noncomputable section

namespace Cert.Agree

open Idealize.ShloMosaic Idealize.ShloMosaic.TcCoe Cert.Row
open Cert.KernelIdeal.Hand (kA gHid gT gR gO aC0 aC1 aS0 aS1 aK aPT aWE aSE aSP aBE aHS aHB aWH aSH aBH G15 G16 G17 G18 G19 kSP kSE kBE kWE kS0 kS1 kHS kHB kWH kSH kBH kPT invd invd_eq row_eq out_eq outerR tabT rhsT grp)
open Cert.ReferenceIdeal.Hand (rA rH rS rB rOut F13 F14 F15 F16 F17 E31 E32 E33 E34 E35 hidR outR rSP rWE rSE rBE rKK rHB rHS rWH rSH rBH rD0 rD1 rPT)

/-- The arguments whose entries are real numbers. -/
structure ArgsReal (A : Args) : Prop where
  sp : ∃ r : ℝ, A.sp = (r : EReal)
  we : ∀ p d, ∃ r : ℝ, A.we p d = (r : EReal)
  se : ∀ d, ∃ r : ℝ, A.se d = (r : EReal)
  be : ∀ d, ∃ r : ℝ, A.be d = (r : EReal)
  s0 : ∀ a b n g, ∃ r : ℝ, A.s0 a b n g = (r : EReal)
  s1 : ∀ a b n g, ∃ r : ℝ, A.s1 a b n g = (r : EReal)
  k : ∀ a, ∃ r : ℝ, A.k a = (r : EReal)
  hb : ∀ a d, ∃ r : ℝ, A.hb a d = (r : EReal)
  hs : ∀ a d, ∃ r : ℝ, A.hs a d = (r : EReal)

/-- The kernel's row before normalisation: the reference's, less the mean of the embedding's bias. -/
def krow (A : Args) (a : Fin 4) (b : Fin 2) (n : Fin 4680) (d : Fin 5120) : EReal :=
  (((A.c0 a b n d).toInt : ℝ) : EReal) * A.s0 a b n (gr d) + (((A.c1 a b n d).toInt : ℝ) : EReal) * (A.s1 a b n (gr d) * A.k a)
    + (A.acc a n d * (A.se d * A.sp) + (A.be d - (∑ x, A.be x) * invd))

theorem rows (A : Args) (hA : ArgsReal A) (a : Fin 4) (b : Fin 2) (n : Fin 4680) :
    ∃ (h : Fin 5120 → ℝ) (c : ℝ), (krow A a b n = fun d => ((h d : ℝ) : EReal)) ∧ (A.row a b n = fun d => ((h d + c : ℝ) : EReal)) := by
  obtain ⟨sp, hsp⟩ := hA.sp
  choose we hwe using hA.we
  choose se hse using hA.se
  choose be hbe using hA.be
  choose s0 hs0 using hA.s0
  choose s1 hs1 using hA.s1
  choose k hk using hA.k
  choose cd hcd using fun p : Fin 64 => clip_real (Ideal.div (A.x a ⟨p.val / 4, by omega⟩ ⟨n.val / 1560, by omega⟩ ⟨n.val / 52 % 30 * 2 + p.val / 2 % 2, by omega⟩ ⟨n.val % 52 * 2 + p.val % 2, by omega⟩) A.sp)
  have hc : ∀ p : Fin 64, A.code a n p = ((cd p : ℝ) : EReal) := hcd
  have hacc : ∀ d, A.acc a n d = ((∑ p, cd p * we p d : ℝ) : EReal) := fun d => by
    unfold Args.acc
    rw [← csum]
    exact Finset.sum_congr rfl fun p _ => by rw [hc, hwe, EReal.coe_mul]
  refine ⟨fun d => ((A.c0 a b n d).toInt : ℝ) * s0 a b n (gr d) + ((A.c1 a b n d).toInt : ℝ) * (s1 a b n (gr d) * k a)
    + ((∑ p, cd p * we p d) * (se d * sp) + (be d - (∑ x, be x) * (1 / 5120))), (∑ x, be x) * (1 / 5120), ?_, ?_⟩
  · funext d
    unfold krow
    simp only [hacc, hsp, hse, hbe, hs0, hs1, hk, invd_eq, csum, ← EReal.coe_mul, ← EReal.coe_add, ← EReal.coe_sub]
  · funext d
    unfold Args.row Args.d0 Args.d1
    simp only [hacc, hsp, hse, hbe, hs0, hs1, hk, ← EReal.coe_mul, ← EReal.coe_add]
    congr 1
    ring

theorem pO_congr (H S B : Fin 5120 → EReal) {wh wh' : Fin 64 → Fin 5120 → EReal} {sh sh' bh bh' : Fin 64 → EReal} (h1 : ∀ o d, wh o d = wh' o d)
    (h2 : ∀ o, sh o = sh' o) (h3 : ∀ o, bh o = bh' o) (o : Fin 64) : pO H S B wh sh bh o = pO H S B wh' sh' bh' o := by
  obtain rfl : wh = wh' := funext₂ h1
  obtain rfl : sh = sh' := funext h2
  obtain rfl : bh = bh' := funext h3
  rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem kC0 (a : Fin 4) (b : Fin 2) (n : Fin 4680) (d : Fin 5120) : aC0 m c (ix4 a b n d) = (kA m c).c0 a b n d :=
  congrFun (Cert.KernelIdeal.Gen.V_main_arg5 m c) (ix4 a b n d)
theorem kC1 (a : Fin 4) (b : Fin 2) (n : Fin 4680) (d : Fin 5120) : aC1 m c (ix4 a b n d) = (kA m c).c1 a b n d :=
  congrFun (Cert.KernelIdeal.Gen.V_main_arg7 m c) (ix4 a b n d)
theorem kK (a : Fin 4) : (aK m c (ix1 a) : EReal) = (kA m c).k a :=
  congrFun (Cert.KernelIdeal.Gen.V_main_arg9 m c) (ix1 a)

theorem gHid_eq (a : Fin 4) (b : Fin 2) (n : Fin 4680) : gHid m c a b n = krow (kA m c) a b n := by
  funext d
  unfold gHid krow Args.acc
  simp only [kC0, kC1, kK, kPT, kWE, kSE, kSP, kBE, kS0, kS1]
  rfl
theorem gT_eq (a : Fin 4) : gT m c a 2 = fun d => 1 + (kA m c).hs a d := by
  funext d
  unfold gT
  simp only [kHS]
  rfl
theorem gR_eq (a : Fin 4) : gR m c a = fun j d => outerR (1 + (kA m c).hs a d) ((kA m c).hb a d) j := by
  funext j d
  unfold gR
  simp only [kHS, kHB]
  rfl
theorem rH_eq (a : Fin 4) (b : Fin 2) (n : Fin 4680) : rH m' c a b n = (rA m' c).row a b n := by
  funext d
  unfold rH hidR Args.row Args.acc
  exact congrArg₂ (· + ·) (congrArg₂ (· + ·) (congrArg₂ (· + ·) (congrArg₂ (· * ·) (congrArg₂ (· * ·)
    (Finset.sum_congr rfl fun p _ => congrArg₂ (· * ·) (rPT m' c a n p) (rWE m' c p d)) (rSP m' c)) (rSE m' c d)) (rBE m' c d)) (rD0 m' c a b n d))
    (congrArg₂ (· * ·) (rKK m' c a) (rD1 m' c a b n d))
theorem rS_eq (a : Fin 4) : rS m' c a = fun d => (rA m' c).hs a d := by
  funext d; unfold rS; rw [rHS]
theorem rB_eq (a : Fin 4) : rB m' c a = fun d => (rA m' c).hb a d := by
  funext d; unfold rB; rw [rHB]

theorem agree5 (hE : kA m c = rA m' c) : (aPT m c : Cert.KernelIdeal.S4x64x4680.Idx → EReal) = E35 m' c := by
  funext y
  obtain ⟨a, p, n, rfl⟩ : ∃ (a : Fin 4) (p : Fin 64) (n : Fin 4680), y = ix3 a p n := ⟨y 0, y 1, y 2, by funext q; fin_cases q <;> rfl⟩
  exact (kPT m c a n p).trans ((congrArg (fun A : Args => A.code a n p) hE).trans (rPT m' c a n p).symm)

variable (hE : kA m c = rA m' c) (hF : ArgsReal (kA m c))
include hE hF

theorem key (a : Fin 4) (b : Fin 2) (n : Fin 4680) :
    Cert.KernelIdeal.Hand.rSc (gHid m c a b n) (gT m c a 2) (gR m c a) = pSc (rH m' c a b n) (rS m' c a) (rB m' c a)
      ∧ ∀ d, Cert.KernelIdeal.Hand.rQ (gHid m c a b n) (gT m c a 2) (gR m c a) d = pQ (rH m' c a b n) (rS m' c a) (rB m' c a) d := by
  obtain ⟨h, e, h1, h2⟩ := rows (kA m c) hF a b n
  choose s hs using hF.hs a
  choose β hβ using hF.hb a
  rw [gHid_eq, gT_eq, gR_eq, rH_eq, rS_eq, rB_eq, ← hE]
  exact row_eq h s β e _ _ _ _ _ _ h1 h2 (funext hs) (funext hβ) rfl rfl

theorem out_key (a : Fin 4) (b : Fin 2) (o : Fin 64) (n : Fin 4680) : gO m c a b o n = rOut m' c a n b o := by
  have h := key m m' c hE hF a b n
  unfold gO
  rw [out_eq _ _ _ _ _ _ _ _ _ o h]
  unfold rOut outR
  simp only [kWH, kSH, kBH, hE]
  exact pO_congr _ _ _ (fun o d => (rWH m' c d o).symm) (fun o => (rSH m' c o).symm) (fun o => (rBH m' c o).symm) o

theorem agree0 : (G15 m c : Cert.KernelIdeal.S4x2x4680x5120.Idx → EReal) = F13 m' c := by
  funext y; exact (key m m' c hE hF (y 0) (y 1) (y 2)).2 (y 3)
theorem agree1 : (G16 m c : Cert.KernelIdeal.S4x2x1x4680.Idx → EReal) = E31 m' c := by
  funext y; exact (key m m' c hE hF (y 0) (y 1) (y 3)).1
theorem agree2 : (G17 m c : Cert.KernelIdeal.S4x2x64x4680.Idx → EReal) = E32 m' c := by
  funext y; exact out_key m m' c hE hF (y 0) (y 1) (y 2) (y 3)
theorem agree3 : (G18 m c : Cert.KernelIdeal.S4x1x4680.Idx → EReal) = E33 m' c := by
  funext y
  unfold G18 E33 F16
  exact Finset.sum_congr rfl fun o _ => congrArg₂ (· * ·) (out_key m m' c hE hF (y 0) 0 o (y 2)) (out_key m m' c hE hF (y 0) 1 o (y 2))
theorem agree4 : (G19 m c : Cert.KernelIdeal.S4x1x4680.Idx → EReal) = E34 m' c := by
  funext y
  unfold G19 E34 F17
  exact Finset.sum_congr rfl fun o _ => congrArg₂ (· * ·) (out_key m m' c hE hF (y 0) 1 o (y 2)) (out_key m m' c hE hF (y 0) 1 o (y 2))
end

end Cert.Agree
-- ==== Proof.PreReal.lean ====
/- What the precondition says: the named arguments hold real numbers. -/
module

public import proofs.«01_k».proof.Defs
public import proofs.«01_k».proof.Proof.Gen.Pre_finite
public import proofs.«01_k».proof.Proof.RefReal
public import Idealize.ShloMosaic.Lib.ReduceAll
public import Idealize.ShloMosaic.Lib.Pointwise

@[expose] public section

set_option maxRecDepth 16384

noncomputable section

namespace Cert.PreReal

open Idealize.ShloMosaic Cert.Pre_finite

/-- An extended real that is a real number. -/
def Re (x : EReal) : Prop := ∃ r : ℝ, x = (r : EReal)

theorem top_eq : Ideal.ofBits .f32 0x7F800000#32 = (⊤ : EReal) := by simp [Ideal.ofBits, Ideal.ieee]
theorem re_of (x : EReal) (h : Ideal.cmp .olt (max x (-x)) (Ideal.ofBits .f32 0x7F800000#32) = 1#1) : Re x := by
  rw [top_eq] at h
  induction x using EReal.rec with
  | bot => exact absurd h (by simp [Ideal.cmp])
  | top => exact absurd h (by simp [Ideal.cmp])
  | coe x => exact ⟨x, rfl⟩

theorem and_one : ∀ a b : BitVec 1, a &&& b = 1#1 → a = 1#1 ∧ b = 1#1 := by decide
theorem and1 {u v : IVec S_ 1} {i : S_.Idx} (h : andi u v i = 1#1) : u i = 1#1 ∧ v i = 1#1 := and_one _ _ h
instance : Subsingleton S_.Idx := ⟨fun a b => funext fun q => q.elim0⟩

theorem all_of {s : Shape} (x : FVec Ideal s .f32) {axes} (hb : S_.BroadcastsInDim s (![] : Fin 0 → Fin s.rank)) (init : IVec S_ 1) (hr : s.ReducesTo axes S_) (hu : 0 < S_.numel) (j : S_.Idx)
    (e : Host.reduce IntOp.andi (cmpf .olt (Host.absf x) (broadcastInDim s ![] hb (constant (F := Ideal) S_ .f32 0x7F800000#32))) init hr hu j = 1#1) (i : s.Idx) : Re (x i) :=
  re_of _ (Host.reduce_andi_all _ _ hr hu j e i)

theorem fn_re (x0 : FVec Ideal S4x16x3x60x104 .f32) (x1 : FVec Ideal S_ .f32) (x2 : FVec Ideal S64x5120 .f32) (x3 x4 : FVec Ideal S5120 .f32) (x5 : IVec S4x2x4680x5120 8) (x6 : FVec Ideal S4x2x4680x40 .f32) (x7 : IVec S4x2x4680x5120 8)
    (x8 : FVec Ideal S4x2x4680x40 .f32) (x9 : FVec Ideal S4 .f32) (x10 x11 : FVec Ideal S4x5120 .f32) (x12 : FVec Ideal S5120x64 .fp8e4m3) (x13 x14 : FVec Ideal S64 .f32)
    (h : Cert.Pre_finite.fn (F := Ideal) x0 x1 x2 x3 x4 x5 x6 x7 x8 x9 x10 x11 x12 x13 x14 = fun _ => 1#1) :
    Re (x1 ix0) ∧ (∀ i, Re (x2 i)) ∧ (∀ i, Re (x3 i)) ∧ (∀ i, Re (x4 i)) ∧ (∀ i, Re (x6 i)) ∧ (∀ i, Re (x8 i)) ∧ (∀ i, Re (x9 i)) ∧ (∀ i, Re (x10 i)) ∧ (∀ i, Re (x11 i)) := by
  have h0 := congrFun h ix0
  unfold fn fn_part1 fn_part2 at h0
  dsimp only at h0
  obtain ⟨h0, e11⟩ := and1 h0
  obtain ⟨h0, e10⟩ := and1 h0
  obtain ⟨h0, e9⟩ := and1 h0
  obtain ⟨h0, e8⟩ := and1 h0
  obtain ⟨h0, e6⟩ := and1 h0
  obtain ⟨h0, e4⟩ := and1 h0
  obtain ⟨h0, e3⟩ := and1 h0
  obtain ⟨e1, e2⟩ := and1 h0
  exact ⟨re_of _ e1, all_of _ _ _ _ _ _ e2, all_of _ _ _ _ _ _ e3, all_of _ _ _ _ _ _ e4, all_of _ _ _ _ _ _ e6, all_of _ _ _ _ _ _ e8, all_of _ _ _ _ _ _ e9,
    all_of _ _ _ _ _ _ e10, all_of _ _ _ _ _ _ e11⟩

end Cert.PreReal
-- ==== Proof.lean ====
module

public import proofs.«01_k».proof.Defs
public import proofs.«01_k».proof.Proof.Gen.Kernel
public import proofs.«01_k».proof.Proof.Gen.Kernel.Frame
public import proofs.«01_k».proof.Proof.Gen.Kernel.Skeleton
public import proofs.«01_k».proof.Proof.Gen.Kernel.Loops
public import proofs.«01_k».proof.Proof.Gen.KernelIdeal
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal
public import proofs.«01_k».proof.Proof.Gen.ReferenceIdeal.Frame
public import proofs.«01_k».proof.Proof.Gen.Pre_finite
public import proofs.«01_k».proof.Proof.KernelFrame
public import proofs.«01_k».proof.Proof.KernelIdealFrame
public import proofs.«01_k».proof.Proof.KerRun
public import proofs.«01_k».proof.Proof.RefRun
public import proofs.«01_k».proof.Proof.Agree
public import proofs.«01_k».proof.Proof.PreReal
public import Idealize.ShloMosaic.Adequacy
public import Idealize.ShloMosaic.Init

@[expose] public section

noncomputable section

namespace Cert.Proof

open Idealize.ShloMosaic Idealize.SL.Sem

/-- The arguments of the two programs agree entry by entry. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Hand.kA m c = Cert.ReferenceIdeal.Hand.rA m' c := by
  obtain ⟨e0, e1, e2, e3, e4, e5, e6, e7, e8, e9, e10, e11, e12, e13, e14⟩ := h
  unfold Cert.KernelIdeal.Hand.kA Cert.ReferenceIdeal.Hand.rA
  congr 1
  · funext a i j k l; exact (congrFun e0 (ix5 a i j k l)).symm
  · exact (congrFun e1 (ix0)).symm
  · funext p d; exact (congrFun e2 (ix2 p d)).symm
  · funext d; exact (congrFun e3 (ix1 d)).symm
  · funext d; exact (congrFun e4 (ix1 d)).symm
  · funext a b n d; exact (congrFun e5 (ix4 a b n d)).symm
  · funext a b n d; exact (congrFun e6 (ix4 a b n d)).symm
  · funext a b n d; exact (congrFun e7 (ix4 a b n d)).symm
  · funext a b n d; exact (congrFun e8 (ix4 a b n d)).symm
  · funext a; exact (congrFun e9 (ix1 a)).symm
  · funext a d; exact (congrFun e10 (ix2 a d)).symm
  · funext a d; exact (congrFun e11 (ix2 a d)).symm
  · funext d o; exact (congrFun e12 (ix2 d o)).symm
  · funext o; exact (congrFun e13 (ix1 o)).symm
  · funext o; exact (congrFun e14 (ix1 o)).symm

/-- The precondition, entry by entry. -/
theorem args_real (m : (ℓ : Loc Cert.KernelIdeal.nD Cert.KernelIdeal.τ Cert.KernelIdeal.sig) → Buf (Elt Ideal) ℓ) (h : Cert.Pre_KernelIdeal_finite m)
    (c : Dev Cert.KernelIdeal.nD) : Cert.Agree.ArgsReal (Cert.KernelIdeal.Hand.kA m c) := by
  obtain ⟨h1, h2, h3, h4, h6, h8, h9, h10, h11⟩ := Cert.PreReal.fn_re _ _ _ _ _ _ _ _ _ _ _ _ _ _ _ (h c)
  exact ⟨h1, fun p d => h2 (ix2 p d), fun d => h3 (ix1 d), fun d => h4 (ix1 d), fun a b n g => h6 (ix4 a b n g), fun a b n g => h8 (ix4 a b n g),
    fun a => h9 (ix1 a), fun a d => h10 (ix2 a d), fun a d => h11 (ix2 a d)⟩

theorem algebraic : Cert.algebraic_KernelIdeal_ReferenceIdeal_pre_finite := by
  intro m g m' g' hp ha
  have hE := fun c => args_eq m m' c (ha c)
  have hF := args_real m hp
  refine ⟨fun c => Cert.KernelIdeal.Hand.G15 m c, fun c => Cert.KernelIdeal.Hand.G16 m c, fun c => Cert.KernelIdeal.Hand.G17 m c,
    fun c => Cert.KernelIdeal.Hand.G18 m c, fun c => Cert.KernelIdeal.Hand.G19 m c, fun c => Cert.KernelIdeal.Hand.aPT m c,
    Cert.KernelIdeal.Hand.ker_run m g, ?_⟩
  refine (θ_run _ _ _).mono (fun r h c => ?_) (Cert.ReferenceIdeal.Hand.ref_run m' g')
  obtain ⟨h0, h1, h2, h3, h4, h5, hr⟩ := h c
  exact ⟨h0.trans (Cert.Agree.agree0 m m' c (hE c) (hF c)).symm, h1.trans (Cert.Agree.agree1 m m' c (hE c) (hF c)).symm,
    h2.trans (Cert.Agree.agree2 m m' c (hE c) (hF c)).symm, h3.trans (Cert.Agree.agree3 m m' c (hE c) (hF c)).symm,
    h4.trans (Cert.Agree.agree4 m m' c (hE c) (hF c)).symm,
    h5.trans (Cert.Agree.agree5 m m' c (hE c)).symm, hr⟩

/-- The claim. -/
theorem claim : Cert.Claim :=
  ⟨Cert.Kernel.Gen.facts, Cert.KernelIdeal.Gen.facts, Cert.ReferenceIdeal.Gen.facts, Cert.Pre_finite.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    IdealRules.named_const.statement Cert.KernelIdeal.κ "inv_d" .f32 0x394CCCCD#32 ((1/5120 : ℝ) : EReal) rfl,
    algebraic⟩

end Cert.Proof

end
